-- ==== Defs.lean ====
def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_MoeIdeal [hPre_blocks_in_order : Cert.Pre_blocks_in_order.Facts] (m : (ℓ : Loc Cert.MoeIdeal.nD Cert.MoeIdeal.τ Cert.MoeIdeal.sig) → Buf (Elt Ideal) ℓ) : Prop :=
  ∀ c : Dev Cert.MoeIdeal.nD,
    (Cert.Pre_blocks_in_order.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_blocks_in_order [hPre_blocks_in_order : Cert.Pre_blocks_in_order.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_blocks_in_order.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))) = (fun _ => 1#1)

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvRefIdeal (m : (ℓ : Loc Cert.MemkvRefIdeal.nD Cert.MemkvRefIdeal.τ Cert.MemkvRefIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnRefIdeal (m : (ℓ : Loc Cert.XattnRefIdeal.nD Cert.XattnRefIdeal.τ Cert.XattnRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojIdeal_scan_finite [hPre_scan_finite : Cert.Pre_scan_finite.Facts] (m : (ℓ : Loc Cert.OutprojIdeal.nD Cert.OutprojIdeal.τ Cert.OutprojIdeal.sig) → Buf (Elt Ideal) ℓ) : Prop :=
  ∀ c : Dev Cert.OutprojIdeal.nD,
    (Cert.Pre_scan_finite.fn (F := Ideal) (m ((c.tc : Thread Cert.OutprojIdeal.nD Cert.OutprojIdeal.τ).loc Cert.OutprojIdeal.main_arg0)) (m ((c.tc : Thread Cert.OutprojIdeal.nD Cert.OutprojIdeal.τ).loc Cert.OutprojIdeal.main_arg1)) (m ((c.tc : Thread Cert.OutprojIdeal.nD Cert.OutprojIdeal.τ).loc Cert.OutprojIdeal.main_arg2)) (m ((c.tc : Thread Cert.OutprojIdeal.nD Cert.OutprojIdeal.τ).loc Cert.OutprojIdeal.main_arg3)) (m ((c.tc : Thread Cert.OutprojIdeal.nD Cert.OutprojIdeal.τ).loc Cert.OutprojIdeal.main_arg4)) (m ((c.tc : Thread Cert.OutprojIdeal.nD Cert.OutprojIdeal.τ).loc Cert.OutprojIdeal.main_arg5)) (m ((c.tc : Thread Cert.OutprojIdeal.nD Cert.OutprojIdeal.τ).loc Cert.OutprojIdeal.main_arg6)) (m ((c.tc : Thread Cert.OutprojIdeal.nD Cert.OutprojIdeal.τ).loc Cert.OutprojIdeal.main_arg7)) (m ((c.tc : Thread Cert.OutprojIdeal.nD Cert.OutprojIdeal.τ).loc Cert.OutprojIdeal.main_arg8))) = (fun _ => 1#1)

def Pre_OutprojRefIdeal (m : (ℓ : Loc Cert.OutprojRefIdeal.nD Cert.OutprojRefIdeal.τ Cert.OutprojRefIdeal.sig) → Buf (Elt Ideal) ℓ) : Prop :=
  True

def Pre_OutprojRefIdeal_scan_finite [hPre_scan_finite : Cert.Pre_scan_finite.Facts] (m : (ℓ : Loc Cert.OutprojRefIdeal.nD Cert.OutprojRefIdeal.τ Cert.OutprojRefIdeal.sig) → Buf (Elt Ideal) ℓ) : Prop :=
  ∀ c : Dev Cert.OutprojRefIdeal.nD,
    (Cert.Pre_scan_finite.fn (F := Ideal) (m ((c.tc : Thread Cert.OutprojRefIdeal.nD Cert.OutprojRefIdeal.τ).loc Cert.OutprojRefIdeal.main_arg0)) (m ((c.tc : Thread Cert.OutprojRefIdeal.nD Cert.OutprojRefIdeal.τ).loc Cert.OutprojRefIdeal.main_arg1)) (m ((c.tc : Thread Cert.OutprojRefIdeal.nD Cert.OutprojRefIdeal.τ).loc Cert.OutprojRefIdeal.main_arg2)) (m ((c.tc : Thread Cert.OutprojRefIdeal.nD Cert.OutprojRefIdeal.τ).loc Cert.OutprojRefIdeal.main_arg3)) (m ((c.tc : Thread Cert.OutprojRefIdeal.nD Cert.OutprojRefIdeal.τ).loc Cert.OutprojRefIdeal.main_arg4)) (m ((c.tc : Thread Cert.OutprojRefIdeal.nD Cert.OutprojRefIdeal.τ).loc Cert.OutprojRefIdeal.main_arg5)) (m ((c.tc : Thread Cert.OutprojRefIdeal.nD Cert.OutprojRefIdeal.τ).loc Cert.OutprojRefIdeal.main_arg6)) (m ((c.tc : Thread Cert.OutprojRefIdeal.nD Cert.OutprojRefIdeal.τ).loc Cert.OutprojRefIdeal.main_arg7)) (m ((c.tc : Thread Cert.OutprojRefIdeal.nD Cert.OutprojRefIdeal.τ).loc Cert.OutprojRefIdeal.main_arg8))) = (fun _ => 1#1)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_MoeIdeal [hMoeIdeal : Cert.MoeIdeal.Facts] [hPre_blocks_in_order : Cert.Pre_blocks_in_order.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_MoeRefIdeal_pre_blocks_in_order [hMoeRefIdeal : Cert.MoeRefIdeal.Facts] [hPre_blocks_in_order : Cert.Pre_blocks_in_order.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_blocks_in_order m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2)
      ∧ r.2.mem ((c.tc : Thread Cert.Memkv.nD Cert.Memkv.τ).loc Cert.Memkv.main_arg3) = m ((c.tc : Thread Cert.Memkv.nD Cert.Memkv.τ).loc Cert.Memkv.main_arg3))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
      ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3))
      ∧ r.2.sem = fun _ => 0)

def quiescent_MemkvRefIdeal [hMemkvRefIdeal : Cert.MemkvRefIdeal.Facts] : Prop :=
  ∀ (m : (ℓ : Loc Cert.MemkvRefIdeal.nD Cert.MemkvRefIdeal.τ Cert.MemkvRefIdeal.sig) → Buf (Elt Ideal) ℓ) (g : Dev Cert.MemkvRefIdeal.nD → PrngReg), Pre_MemkvRefIdeal m →
    θ_run (Cert.MemkvRefIdeal.defs (F := Ideal)) (onTc (τ := Cert.MemkvRefIdeal.τ) (Cert.MemkvRefIdeal.main (F := Ideal))) ⟨m, fun _ => 0, g⟩ (fun r => (∀ c : Dev Cert.MemkvRefIdeal.nD,
      r.2.mem ((c.tc : Thread Cert.MemkvRefIdeal.nD Cert.MemkvRefIdeal.τ).loc Cert.MemkvRefIdeal.main_arg0) = m ((c.tc : Thread Cert.MemkvRefIdeal.nD Cert.MemkvRefIdeal.τ).loc Cert.MemkvRefIdeal.main_arg0)
      ∧ r.2.mem ((c.tc : Thread Cert.MemkvRefIdeal.nD Cert.MemkvRefIdeal.τ).loc Cert.MemkvRefIdeal.main_arg1) = m ((c.tc : Thread Cert.MemkvRefIdeal.nD Cert.MemkvRefIdeal.τ).loc Cert.MemkvRefIdeal.main_arg1)
      ∧ r.2.mem ((c.tc : Thread Cert.MemkvRefIdeal.nD Cert.MemkvRefIdeal.τ).loc Cert.MemkvRefIdeal.main_arg2) = m ((c.tc : Thread Cert.MemkvRefIdeal.nD Cert.MemkvRefIdeal.τ).loc Cert.MemkvRefIdeal.main_arg2)
      ∧ r.2.mem ((c.tc : Thread Cert.MemkvRefIdeal.nD Cert.MemkvRefIdeal.τ).loc Cert.MemkvRefIdeal.main_arg3) = m ((c.tc : Thread Cert.MemkvRefIdeal.nD Cert.MemkvRefIdeal.τ).loc Cert.MemkvRefIdeal.main_arg3))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4)
      ∧ r.2.mem ((c.tc : Thread Cert.Xattn.nD Cert.Xattn.τ).loc Cert.Xattn.main_arg5) = m ((c.tc : Thread Cert.Xattn.nD Cert.Xattn.τ).loc Cert.Xattn.main_arg5)
      ∧ r.2.mem ((c.tc : Thread Cert.Xattn.nD Cert.Xattn.τ).loc Cert.Xattn.main_arg6) = m ((c.tc : Thread Cert.Xattn.nD Cert.Xattn.τ).loc Cert.Xattn.main_arg6)
      ∧ r.2.mem ((c.tc : Thread Cert.Xattn.nD Cert.Xattn.τ).loc Cert.Xattn.main_arg7) = m ((c.tc : Thread Cert.Xattn.nD Cert.Xattn.τ).loc Cert.Xattn.main_arg7)
      ∧ r.2.mem ((c.tc : Thread Cert.Xattn.nD Cert.Xattn.τ).loc Cert.Xattn.main_arg8) = m ((c.tc : Thread Cert.Xattn.nD Cert.Xattn.τ).loc Cert.Xattn.main_arg8))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
      ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6)
      ∧ r.2.mem ((c.tc : Thread Cert.XattnIdeal.nD Cert.XattnIdeal.τ).loc Cert.XattnIdeal.main_arg7) = m ((c.tc : Thread Cert.XattnIdeal.nD Cert.XattnIdeal.τ).loc Cert.XattnIdeal.main_arg7)
      ∧ r.2.mem ((c.tc : Thread Cert.XattnIdeal.nD Cert.XattnIdeal.τ).loc Cert.XattnIdeal.main_arg8) = m ((c.tc : Thread Cert.XattnIdeal.nD Cert.XattnIdeal.τ).loc Cert.XattnIdeal.main_arg8))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4)
      ∧ r.2.mem ((c.tc : Thread Cert.XattnRefIdeal.nD Cert.XattnRefIdeal.τ).loc Cert.XattnRefIdeal.main_arg5) = m ((c.tc : Thread Cert.XattnRefIdeal.nD Cert.XattnRefIdeal.τ).loc Cert.XattnRefIdeal.main_arg5)
      ∧ r.2.mem ((c.tc : Thread Cert.XattnRefIdeal.nD Cert.XattnRefIdeal.τ).loc Cert.XattnRefIdeal.main_arg6) = m ((c.tc : Thread Cert.XattnRefIdeal.nD Cert.XattnRefIdeal.τ).loc Cert.XattnRefIdeal.main_arg6)
      ∧ r.2.mem ((c.tc : Thread Cert.XattnRefIdeal.nD Cert.XattnRefIdeal.τ).loc Cert.XattnRefIdeal.main_arg7) = m ((c.tc : Thread Cert.XattnRefIdeal.nD Cert.XattnRefIdeal.τ).loc Cert.XattnRefIdeal.main_arg7)
      ∧ r.2.mem ((c.tc : Thread Cert.XattnRefIdeal.nD Cert.XattnRefIdeal.τ).loc Cert.XattnRefIdeal.main_arg8) = m ((c.tc : Thread Cert.XattnRefIdeal.nD Cert.XattnRefIdeal.τ).loc Cert.XattnRefIdeal.main_arg8))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6)
      ∧ r.2.mem ((c.tc : Thread Cert.Outproj.nD Cert.Outproj.τ).loc Cert.Outproj.main_arg7) = m ((c.tc : Thread Cert.Outproj.nD Cert.Outproj.τ).loc Cert.Outproj.main_arg7)
      ∧ r.2.mem ((c.tc : Thread Cert.Outproj.nD Cert.Outproj.τ).loc Cert.Outproj.main_arg8) = m ((c.tc : Thread Cert.Outproj.nD Cert.Outproj.τ).loc Cert.Outproj.main_arg8))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
      ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8))
      ∧ r.2.sem = fun _ => 0)

def quiescent_OutprojIdeal_pre_scan_finite [hOutprojIdeal : Cert.OutprojIdeal.Facts] [hPre_scan_finite : Cert.Pre_scan_finite.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal_scan_finite m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
      ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6)
      ∧ r.2.mem ((c.tc : Thread Cert.OutprojRefIdeal.nD Cert.OutprojRefIdeal.τ).loc Cert.OutprojRefIdeal.main_arg7) = m ((c.tc : Thread Cert.OutprojRefIdeal.nD Cert.OutprojRefIdeal.τ).loc Cert.OutprojRefIdeal.main_arg7)
      ∧ r.2.mem ((c.tc : Thread Cert.OutprojRefIdeal.nD Cert.OutprojRefIdeal.τ).loc Cert.OutprojRefIdeal.main_arg8) = m ((c.tc : Thread Cert.OutprojRefIdeal.nD Cert.OutprojRefIdeal.τ).loc Cert.OutprojRefIdeal.main_arg8))
      ∧ r.2.sem = fun _ => 0)

def quiescent_OutprojRefIdeal_pre_scan_finite [hOutprojRefIdeal : Cert.OutprojRefIdeal.Facts] [hPre_scan_finite : Cert.Pre_scan_finite.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal_scan_finite m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6)
      ∧ r.2.mem ((c.tc : Thread Cert.OutprojRefIdeal.nD Cert.OutprojRefIdeal.τ).loc Cert.OutprojRefIdeal.main_arg7) = m ((c.tc : Thread Cert.OutprojRefIdeal.nD Cert.OutprojRefIdeal.τ).loc Cert.OutprojRefIdeal.main_arg7)
      ∧ r.2.mem ((c.tc : Thread Cert.OutprojRefIdeal.nD Cert.OutprojRefIdeal.τ).loc Cert.OutprojRefIdeal.main_arg8) = m ((c.tc : Thread Cert.OutprojRefIdeal.nD Cert.OutprojRefIdeal.τ).loc Cert.OutprojRefIdeal.main_arg8))
      ∧ r.2.sem = fun _ => 0)

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v3_0)) (v1 : (c : Dev Cert.InprojIdeal.nD) → Buf (Elt Ideal) ((c.tc : Thread Cert.InprojIdeal.nD Cert.InprojIdeal.τ).loc Cert.InprojIdeal.main_v3_1)) (v2 : (c : Dev Cert.InprojIdeal.nD) → Buf (Elt Ideal) ((c.tc : Thread Cert.InprojIdeal.nD Cert.InprojIdeal.τ).loc Cert.InprojIdeal.main_v3_2)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v3_0) = v0 c
          ∧ r.2.mem ((c.tc : Thread Cert.InprojIdeal.nD Cert.InprojIdeal.τ).loc Cert.InprojIdeal.main_v3_1) = v1 c
          ∧ r.2.mem ((c.tc : Thread Cert.InprojIdeal.nD Cert.InprojIdeal.τ).loc Cert.InprojIdeal.main_v3_2) = v2 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v17) = v0 c
          ∧ r.2.mem ((c.tc : Thread Cert.InprojRefIdeal.nD Cert.InprojRefIdeal.τ).loc Cert.InprojRefIdeal.main_v18) = v1 c
          ∧ r.2.mem ((c.tc : Thread Cert.InprojRefIdeal.nD Cert.InprojRefIdeal.τ).loc Cert.InprojRefIdeal.main_v19) = v2 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def algebraic_MoeIdeal_MoeRefIdeal [hMoeIdeal : Cert.MoeIdeal.Facts] [hMoeRefIdeal : Cert.MoeRefIdeal.Facts] [hPre_blocks_in_order : Cert.Pre_blocks_in_order.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v2)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v2) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v50) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5))

def preserves_Memkv_MemkvIdeal : Prop :=
  True

def algebraic_MemkvIdeal_MemkvRefIdeal [hMemkvIdeal : Cert.MemkvIdeal.Facts] [hMemkvRefIdeal : Cert.MemkvRefIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvRefIdeal.nD Cert.MemkvRefIdeal.τ Cert.MemkvRefIdeal.sig) → Buf (Elt Ideal) ℓ) (g' : Dev Cert.MemkvRefIdeal.nD → PrngReg), Pre_MemkvIdeal m →
    (∀ c : Dev Cert.MemkvIdeal.nD,
      m' ((c.tc : Thread Cert.MemkvRefIdeal.nD Cert.MemkvRefIdeal.τ).loc Cert.MemkvRefIdeal.main_arg0) = m ((c.tc : Thread Cert.MemkvIdeal.nD Cert.MemkvIdeal.τ).loc Cert.MemkvIdeal.main_arg0)
      ∧ m' ((c.tc : Thread Cert.MemkvRefIdeal.nD Cert.MemkvRefIdeal.τ).loc Cert.MemkvRefIdeal.main_arg1) = m ((c.tc : Thread Cert.MemkvIdeal.nD Cert.MemkvIdeal.τ).loc Cert.MemkvIdeal.main_arg1)
      ∧ m' ((c.tc : Thread Cert.MemkvRefIdeal.nD Cert.MemkvRefIdeal.τ).loc Cert.MemkvRefIdeal.main_arg2) = m ((c.tc : Thread Cert.MemkvIdeal.nD Cert.MemkvIdeal.τ).loc Cert.MemkvIdeal.main_arg2)
      ∧ m' ((c.tc : Thread Cert.MemkvRefIdeal.nD Cert.MemkvRefIdeal.τ).loc Cert.MemkvRefIdeal.main_arg3) = m ((c.tc : Thread Cert.MemkvIdeal.nD Cert.MemkvIdeal.τ).loc Cert.MemkvIdeal.main_arg3)) →
    ∃ (v0 : (c : Dev Cert.MemkvIdeal.nD) → Buf (Elt Ideal) ((c.tc : Thread Cert.MemkvIdeal.nD Cert.MemkvIdeal.τ).loc Cert.MemkvIdeal.main_v5_0)) (v1 : (c : Dev Cert.MemkvIdeal.nD) → Buf (Elt Ideal) ((c.tc : Thread Cert.MemkvIdeal.nD Cert.MemkvIdeal.τ).loc Cert.MemkvIdeal.main_v5_1)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v5_0) = v0 c
          ∧ r.2.mem ((c.tc : Thread Cert.MemkvIdeal.nD Cert.MemkvIdeal.τ).loc Cert.MemkvIdeal.main_v5_1) = v1 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
          ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3))
      ∧ θ_run (Cert.MemkvRefIdeal.defs (F := Ideal)) (onTc (τ := Cert.MemkvRefIdeal.τ) (Cert.MemkvRefIdeal.main (F := Ideal))) ⟨m', fun _ => 0, g'⟩ (fun r => ∀ c : Dev Cert.MemkvRefIdeal.nD,
          r.2.mem ((c.tc : Thread Cert.MemkvRefIdeal.nD Cert.MemkvRefIdeal.τ).loc Cert.MemkvRefIdeal.main_v20) = v0 c
          ∧ r.2.mem ((c.tc : Thread Cert.MemkvRefIdeal.nD Cert.MemkvRefIdeal.τ).loc Cert.MemkvRefIdeal.main_v21) = v1 c
          ∧ r.2.mem ((c.tc : Thread Cert.MemkvRefIdeal.nD Cert.MemkvRefIdeal.τ).loc Cert.MemkvRefIdeal.main_arg0) = m' ((c.tc : Thread Cert.MemkvRefIdeal.nD Cert.MemkvRefIdeal.τ).loc Cert.MemkvRefIdeal.main_arg0)
          ∧ r.2.mem ((c.tc : Thread Cert.MemkvRefIdeal.nD Cert.MemkvRefIdeal.τ).loc Cert.MemkvRefIdeal.main_arg1) = m' ((c.tc : Thread Cert.MemkvRefIdeal.nD Cert.MemkvRefIdeal.τ).loc Cert.MemkvRefIdeal.main_arg1)
          ∧ r.2.mem ((c.tc : Thread Cert.MemkvRefIdeal.nD Cert.MemkvRefIdeal.τ).loc Cert.MemkvRefIdeal.main_arg2) = m' ((c.tc : Thread Cert.MemkvRefIdeal.nD Cert.MemkvRefIdeal.τ).loc Cert.MemkvRefIdeal.main_arg2)
          ∧ r.2.mem ((c.tc : Thread Cert.MemkvRefIdeal.nD Cert.MemkvRefIdeal.τ).loc Cert.MemkvRefIdeal.main_arg3) = m' ((c.tc : Thread Cert.MemkvRefIdeal.nD Cert.MemkvRefIdeal.τ).loc Cert.MemkvRefIdeal.main_arg3))

def preserves_Xattn_XattnIdeal : Prop :=
  True

def algebraic_XattnIdeal_XattnRefIdeal [hXattnIdeal : Cert.XattnIdeal.Facts] [hXattnRefIdeal : Cert.XattnRefIdeal.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)
      ∧ m' ((c.tc : Thread Cert.XattnRefIdeal.nD Cert.XattnRefIdeal.τ).loc Cert.XattnRefIdeal.main_arg3) = m ((c.tc : Thread Cert.XattnIdeal.nD Cert.XattnIdeal.τ).loc Cert.XattnIdeal.main_arg3)
      ∧ m' ((c.tc : Thread Cert.XattnRefIdeal.nD Cert.XattnRefIdeal.τ).loc Cert.XattnRefIdeal.main_arg4) = m ((c.tc : Thread Cert.XattnIdeal.nD Cert.XattnIdeal.τ).loc Cert.XattnIdeal.main_arg4)
      ∧ m' ((c.tc : Thread Cert.XattnRefIdeal.nD Cert.XattnRefIdeal.τ).loc Cert.XattnRefIdeal.main_arg5) = m ((c.tc : Thread Cert.XattnIdeal.nD Cert.XattnIdeal.τ).loc Cert.XattnIdeal.main_arg5)
      ∧ m' ((c.tc : Thread Cert.XattnRefIdeal.nD Cert.XattnRefIdeal.τ).loc Cert.XattnRefIdeal.main_arg6) = m ((c.tc : Thread Cert.XattnIdeal.nD Cert.XattnIdeal.τ).loc Cert.XattnIdeal.main_arg6)
      ∧ m' ((c.tc : Thread Cert.XattnRefIdeal.nD Cert.XattnRefIdeal.τ).loc Cert.XattnRefIdeal.main_arg7) = m ((c.tc : Thread Cert.XattnIdeal.nD Cert.XattnIdeal.τ).loc Cert.XattnIdeal.main_arg7)
      ∧ m' ((c.tc : Thread Cert.XattnRefIdeal.nD Cert.XattnRefIdeal.τ).loc Cert.XattnRefIdeal.main_arg8) = m ((c.tc : Thread Cert.XattnIdeal.nD Cert.XattnIdeal.τ).loc Cert.XattnIdeal.main_arg8)) →
    ∃ (v0 : (c : Dev Cert.XattnIdeal.nD) → Buf (Elt Ideal) ((c.tc : Thread Cert.XattnIdeal.nD Cert.XattnIdeal.τ).loc Cert.XattnIdeal.main_v11_0)) (v1 : (c : Dev Cert.XattnIdeal.nD) → Buf (Elt Ideal) ((c.tc : Thread Cert.XattnIdeal.nD Cert.XattnIdeal.τ).loc Cert.XattnIdeal.main_v11_1)) (v2 : (c : Dev Cert.XattnIdeal.nD) → Buf (Elt Ideal) ((c.tc : Thread Cert.XattnIdeal.nD Cert.XattnIdeal.τ).loc Cert.XattnIdeal.main_v11_2)) (v3 : (c : Dev Cert.XattnIdeal.nD) → Buf (Elt Ideal) ((c.tc : Thread Cert.XattnIdeal.nD Cert.XattnIdeal.τ).loc Cert.XattnIdeal.main_v11_3)) (v4 : (c : Dev Cert.XattnIdeal.nD) → Buf (Elt Ideal) ((c.tc : Thread Cert.XattnIdeal.nD Cert.XattnIdeal.τ).loc Cert.XattnIdeal.main_v11_4)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v11_0) = v0 c
          ∧ r.2.mem ((c.tc : Thread Cert.XattnIdeal.nD Cert.XattnIdeal.τ).loc Cert.XattnIdeal.main_v11_1) = v1 c
          ∧ r.2.mem ((c.tc : Thread Cert.XattnIdeal.nD Cert.XattnIdeal.τ).loc Cert.XattnIdeal.main_v11_2) = v2 c
          ∧ r.2.mem ((c.tc : Thread Cert.XattnIdeal.nD Cert.XattnIdeal.τ).loc Cert.XattnIdeal.main_v11_3) = v3 c
          ∧ r.2.mem ((c.tc : Thread Cert.XattnIdeal.nD Cert.XattnIdeal.τ).loc Cert.XattnIdeal.main_v11_4) = v4 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
          ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
          ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6)
          ∧ r.2.mem ((c.tc : Thread Cert.XattnIdeal.nD Cert.XattnIdeal.τ).loc Cert.XattnIdeal.main_arg7) = m ((c.tc : Thread Cert.XattnIdeal.nD Cert.XattnIdeal.τ).loc Cert.XattnIdeal.main_arg7)
          ∧ r.2.mem ((c.tc : Thread Cert.XattnIdeal.nD Cert.XattnIdeal.τ).loc Cert.XattnIdeal.main_arg8) = m ((c.tc : Thread Cert.XattnIdeal.nD Cert.XattnIdeal.τ).loc Cert.XattnIdeal.main_arg8))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v36) = v0 c
          ∧ r.2.mem ((c.tc : Thread Cert.XattnRefIdeal.nD Cert.XattnRefIdeal.τ).loc Cert.XattnRefIdeal.main_v52) = v1 c
          ∧ r.2.mem ((c.tc : Thread Cert.XattnRefIdeal.nD Cert.XattnRefIdeal.τ).loc Cert.XattnRefIdeal.main_v174) = v2 c
          ∧ r.2.mem ((c.tc : Thread Cert.XattnRefIdeal.nD Cert.XattnRefIdeal.τ).loc Cert.XattnRefIdeal.main_v178) = v3 c
          ∧ r.2.mem ((c.tc : Thread Cert.XattnRefIdeal.nD Cert.XattnRefIdeal.τ).loc Cert.XattnRefIdeal.main_v179) = v4 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2)
          ∧ r.2.mem ((c.tc : Thread Cert.XattnRefIdeal.nD Cert.XattnRefIdeal.τ).loc Cert.XattnRefIdeal.main_arg3) = m' ((c.tc : Thread Cert.XattnRefIdeal.nD Cert.XattnRefIdeal.τ).loc Cert.XattnRefIdeal.main_arg3)
          ∧ r.2.mem ((c.tc : Thread Cert.XattnRefIdeal.nD Cert.XattnRefIdeal.τ).loc Cert.XattnRefIdeal.main_arg4) = m' ((c.tc : Thread Cert.XattnRefIdeal.nD Cert.XattnRefIdeal.τ).loc Cert.XattnRefIdeal.main_arg4)
          ∧ r.2.mem ((c.tc : Thread Cert.XattnRefIdeal.nD Cert.XattnRefIdeal.τ).loc Cert.XattnRefIdeal.main_arg5) = m' ((c.tc : Thread Cert.XattnRefIdeal.nD Cert.XattnRefIdeal.τ).loc Cert.XattnRefIdeal.main_arg5)
          ∧ r.2.mem ((c.tc : Thread Cert.XattnRefIdeal.nD Cert.XattnRefIdeal.τ).loc Cert.XattnRefIdeal.main_arg6) = m' ((c.tc : Thread Cert.XattnRefIdeal.nD Cert.XattnRefIdeal.τ).loc Cert.XattnRefIdeal.main_arg6)
          ∧ r.2.mem ((c.tc : Thread Cert.XattnRefIdeal.nD Cert.XattnRefIdeal.τ).loc Cert.XattnRefIdeal.main_arg7) = m' ((c.tc : Thread Cert.XattnRefIdeal.nD Cert.XattnRefIdeal.τ).loc Cert.XattnRefIdeal.main_arg7)
          ∧ r.2.mem ((c.tc : Thread Cert.XattnRefIdeal.nD Cert.XattnRefIdeal.τ).loc Cert.XattnRefIdeal.main_arg8) = m' ((c.tc : Thread Cert.XattnRefIdeal.nD Cert.XattnRefIdeal.τ).loc Cert.XattnRefIdeal.main_arg8))

def preserves_Outproj_OutprojIdeal : Prop :=
  True

def algebraic_OutprojIdeal_OutprojRefIdeal_pre_scan_finite [hOutprojIdeal : Cert.OutprojIdeal.Facts] [hOutprojRefIdeal : Cert.OutprojRefIdeal.Facts] [hPre_scan_finite : Cert.Pre_scan_finite.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal_scan_finite m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)
      ∧ m' ((c.tc : Thread Cert.OutprojRefIdeal.nD Cert.OutprojRefIdeal.τ).loc Cert.OutprojRefIdeal.main_arg6) = m ((c.tc : Thread Cert.OutprojIdeal.nD Cert.OutprojIdeal.τ).loc Cert.OutprojIdeal.main_arg6)
      ∧ m' ((c.tc : Thread Cert.OutprojRefIdeal.nD Cert.OutprojRefIdeal.τ).loc Cert.OutprojRefIdeal.main_arg7) = m ((c.tc : Thread Cert.OutprojIdeal.nD Cert.OutprojIdeal.τ).loc Cert.OutprojIdeal.main_arg7)
      ∧ m' ((c.tc : Thread Cert.OutprojRefIdeal.nD Cert.OutprojRefIdeal.τ).loc Cert.OutprojRefIdeal.main_arg8) = m ((c.tc : Thread Cert.OutprojIdeal.nD Cert.OutprojIdeal.τ).loc Cert.OutprojIdeal.main_arg8)) →
    ∃ (v0 : (c : Dev Cert.OutprojIdeal.nD) → Buf (Elt Ideal) ((c.tc : Thread Cert.OutprojIdeal.nD Cert.OutprojIdeal.τ).loc Cert.OutprojIdeal.main_v16)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v16) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
          ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
          ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v39) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5)
          ∧ r.2.mem ((c.tc : Thread Cert.OutprojRefIdeal.nD Cert.OutprojRefIdeal.τ).loc Cert.OutprojRefIdeal.main_arg6) = m' ((c.tc : Thread Cert.OutprojRefIdeal.nD Cert.OutprojRefIdeal.τ).loc Cert.OutprojRefIdeal.main_arg6)
          ∧ r.2.mem ((c.tc : Thread Cert.OutprojRefIdeal.nD Cert.OutprojRefIdeal.τ).loc Cert.OutprojRefIdeal.main_arg7) = m' ((c.tc : Thread Cert.OutprojRefIdeal.nD Cert.OutprojRefIdeal.τ).loc Cert.OutprojRefIdeal.main_arg7)
          ∧ r.2.mem ((c.tc : Thread Cert.OutprojRefIdeal.nD Cert.OutprojRefIdeal.τ).loc Cert.OutprojRefIdeal.main_arg8) = m' ((c.tc : Thread Cert.OutprojRefIdeal.nD Cert.OutprojRefIdeal.τ).loc Cert.OutprojRefIdeal.main_arg8))

def Claim : Prop :=
  ∃ (hInproj : Cert.Inproj.Facts) (hInprojIdeal : Cert.InprojIdeal.Facts) (hInprojRefIdeal : Cert.InprojRefIdeal.Facts) (hMoeIdeal : Cert.MoeIdeal.Facts) (hMoeRefIdeal : Cert.MoeRefIdeal.Facts) (hMemkv : Cert.Memkv.Facts) (hMemkvIdeal : Cert.MemkvIdeal.Facts) (hMemkvRefIdeal : Cert.MemkvRefIdeal.Facts) (hXattn : Cert.Xattn.Facts) (hXattnIdeal : Cert.XattnIdeal.Facts) (hXattnRefIdeal : Cert.XattnRefIdeal.Facts) (hOutproj : Cert.Outproj.Facts) (hOutprojIdeal : Cert.OutprojIdeal.Facts) (hOutprojRefIdeal : Cert.OutprojRefIdeal.Facts) (hPre_blocks_in_order : Cert.Pre_blocks_in_order.Facts) (hPre_scan_finite : Cert.Pre_scan_finite.Facts),
    quiescent_Inproj (hInproj := hInproj)
    ∧ quiescent_InprojIdeal (hInprojIdeal := hInprojIdeal)
    ∧ quiescent_InprojRefIdeal (hInprojRefIdeal := hInprojRefIdeal)
    ∧ quiescent_MoeIdeal (hMoeIdeal := hMoeIdeal) (hPre_blocks_in_order := hPre_blocks_in_order)
    ∧ quiescent_MoeRefIdeal (hMoeRefIdeal := hMoeRefIdeal)
    ∧ quiescent_MoeRefIdeal_pre_blocks_in_order (hMoeRefIdeal := hMoeRefIdeal) (hPre_blocks_in_order := hPre_blocks_in_order)
    ∧ quiescent_Memkv (hMemkv := hMemkv)
    ∧ quiescent_MemkvIdeal (hMemkvIdeal := hMemkvIdeal)
    ∧ quiescent_MemkvRefIdeal (hMemkvRefIdeal := hMemkvRefIdeal)
    ∧ quiescent_Xattn (hXattn := hXattn)
    ∧ quiescent_XattnIdeal (hXattnIdeal := hXattnIdeal)
    ∧ quiescent_XattnRefIdeal (hXattnRefIdeal := hXattnRefIdeal)
    ∧ quiescent_Outproj (hOutproj := hOutproj)
    ∧ quiescent_OutprojIdeal (hOutprojIdeal := hOutprojIdeal)
    ∧ quiescent_OutprojIdeal_pre_scan_finite (hOutprojIdeal := hOutprojIdeal) (hPre_scan_finite := hPre_scan_finite)
    ∧ quiescent_OutprojRefIdeal (hOutprojRefIdeal := hOutprojRefIdeal)
    ∧ quiescent_OutprojRefIdeal_pre_scan_finite (hOutprojRefIdeal := hOutprojRefIdeal) (hPre_scan_finite := hPre_scan_finite)
    ∧ preserves_Inproj_InprojIdeal
    ∧ algebraic_InprojIdeal_InprojRefIdeal (hInprojIdeal := hInprojIdeal) (hInprojRefIdeal := hInprojRefIdeal)
    ∧ algebraic_MoeIdeal_MoeRefIdeal (hMoeIdeal := hMoeIdeal) (hMoeRefIdeal := hMoeRefIdeal) (hPre_blocks_in_order := hPre_blocks_in_order)
    ∧ preserves_Memkv_MemkvIdeal
    ∧ algebraic_MemkvIdeal_MemkvRefIdeal (hMemkvIdeal := hMemkvIdeal) (hMemkvRefIdeal := hMemkvRefIdeal)
    ∧ preserves_Xattn_XattnIdeal
    ∧ algebraic_XattnIdeal_XattnRefIdeal (hXattnIdeal := hXattnIdeal) (hXattnRefIdeal := hXattnRefIdeal)
    ∧ preserves_Outproj_OutprojIdeal
    ∧ algebraic_OutprojIdeal_OutprojRefIdeal_pre_scan_finite (hOutprojIdeal := hOutprojIdeal) (hOutprojRefIdeal := hOutprojRefIdeal) (hPre_scan_finite := hPre_scan_finite)
-- ==== Pre_blocks_in_order.lean ====
abbrev S32 : Shape := ⟨1, ![32]⟩
abbrev S651264x128 : Shape := ⟨2, ![651264, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S1 : Shape := ⟨1, ![1]⟩
abbrev S31 : Shape := ⟨1, ![31]⟩

class Facts : Prop where
  bcast_S_S1 : S_.BroadcastsInDim S1 (![] : Fin 0 → Fin S1.rank)
  slices_S32_S31_0 : S32.Slices ![0] S31
  concatenates_S1_S31_S32_d0 : Shape.Concatenates [S1, S31] S32 0
  bcast_S_S32 : S_.BroadcastsInDim S32 (![] : Fin 0 → Fin S32.rank)

variable [Facts]

def fn {F : FTy → Type} [FloatOps F] (main_arg0 : IVec S32 32) (main_arg1 : FVec F S651264x128 .bf16) (main_arg2 : FVec F S32x1024x2048 .f32) (main_arg3 : FVec F S32x2048 .f32) (main_arg4 : FVec F S32x1024x1024 .f32) (main_arg5 : FVec F S32x1024 .f32) : IVec S32 1 :=
  let main_c : IVec S_ 32 := constantI S_ 32 0#32
  let main_v0 : IVec S1 32 := broadcastInDim S1 ![] bcast_S_S1 main_c
  let main_v1 : IVec S31 32 := (extractStridedSlice S31 ![0] · slices_S32_S31_0) main_arg0
  let main_v2 : IVec S32 32 := (fun a b => concatenate S32 0 [⟨S1, a⟩, ⟨S31, b⟩] concatenates_S1_S31_S32_d0) main_v0 main_v1
  let main_c_0 : IVec S_ 32 := constantI S_ 32 512#32
  let main_v3 : IVec S32 32 := broadcastInDim S32 ![] bcast_S_S32 main_c_0
  let main_v4 : IVec S32 32 := Host.remsi main_arg0 main_v3
  let main_c_1 : IVec S_ 32 := constantI S_ 32 0#32
  let main_v5 : IVec S32 32 := broadcastInDim S32 ![] bcast_S_S32 main_c_1
  let main_v6 : IVec S32 1 := cmpi .eq main_v4 main_v5
  let main_v7 : IVec S32 1 := cmpi .sle main_v2 main_arg0
  let main_v8 : IVec S32 1 := andi main_v6 main_v7
  let main_c_2 : IVec S_ 32 := constantI S_ 32 81408#32
  let main_v9 : IVec S32 32 := broadcastInDim S32 ![] bcast_S_S32 main_c_2
  let main_v10 : IVec S32 1 := cmpi .sle main_arg0 main_v9
  let main_v11 : IVec S32 1 := andi main_v8 main_v10
  main_v11
-- ==== Pre_scan_finite.lean ====
abbrev S4x4096x1024 : Shape := ⟨3, ![4, 4096, 1024]⟩
abbrev S16384x512 : Shape := ⟨2, ![16384, 512]⟩
abbrev S1x512 : Shape := ⟨2, ![1, 512]⟩
abbrev S1x1024x1024 : Shape := ⟨3, ![1, 1024, 1024]⟩
abbrev S_ : Shape := ⟨0, ![]⟩

class Facts : Prop where
  bcast_S_S16384x512 : S_.BroadcastsInDim S16384x512 (![] : Fin 0 → Fin S16384x512.rank)

variable [Facts]

def fn {F : FTy → Type} [FloatOps F] (main_arg0 : FVec F S4x4096x1024 .f32) (main_arg1 : FVec F S16384x512 .bf16) (main_arg2 : FVec F S16384x512 .f32) (main_arg3 : FVec F S16384x512 .f32) (main_arg4 : FVec F S16384x512 .f32) (main_arg5 : FVec F S16384x512 .f32) (main_arg6 : FVec F S1x512 .f32) (main_arg7 : FVec F S1x512 .f32) (main_arg8 : FVec F S1x1024x1024 .f32) : IVec S16384x512 1 :=
  let main_v0 : FVec F S16384x512 .f32 := Host.absf main_arg2
  let main_cst : FVec F S_ .f32 := constant S_ .f32 0x7F7FFFFF#32
  let main_v1 : FVec F S16384x512 .f32 := broadcastInDim S16384x512 ![] bcast_S_S16384x512 main_cst
  let main_v2 : IVec S16384x512 1 := cmpf .ole main_v0 main_v1
  main_v2
-- ==== Inproj.lean ====
abbrev S4x4096x1024 : Shape := ⟨3, ![4, 4096, 1024]⟩
abbrev S1x1024 : Shape := ⟨2, ![1, 1024]⟩
abbrev S1x1024x2816 : Shape := ⟨3, ![1, 1024, 2816]⟩
abbrev S16384x1024 : Shape := ⟨2, ![16384, 1024]⟩
abbrev S1024x2816 : Shape := ⟨2, ![1024, 2816]⟩
abbrev S16384x512 : Shape := ⟨2, ![16384, 512]⟩
abbrev S16384x1792 : Shape := ⟨2, ![16384, 1792]⟩
abbrev S1024x1024 : Shape := ⟨2, ![1024, 1024]⟩
abbrev S1024x512 : Shape := ⟨2, ![1024, 512]⟩
abbrev S1024x1792 : Shape := ⟨2, ![1024, 1792]⟩
abbrev S1024 : Shape := ⟨1, ![1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x2816, .f32⟩
  | .hbm, ⟨3, _⟩ => ⟨S16384x1024, .f32⟩
  | .hbm, ⟨4, _⟩ => ⟨S1024x2816, .f32⟩
  | .hbm, ⟨5, _⟩ => ⟨S1024x2816, .bf16⟩
  | .hbm, ⟨6, _⟩ => ⟨S16384x512, .f32⟩
  | .hbm, ⟨7, _⟩ => ⟨S16384x512, .f32⟩
  | .hbm, ⟨8, _⟩ => ⟨S16384x1792, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x1792, .f32⟩
  | .local _ .vmem, ⟨9, _⟩ => ⟨S1024x1792, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InprojRefIdeal.lean ====
abbrev S4x4096x1024 : Shape := ⟨3, ![4, 4096, 1024]⟩
abbrev S1x1024 : Shape := ⟨2, ![1, 1024]⟩
abbrev S1x1024x2816 : Shape := ⟨3, ![1, 1024, 2816]⟩
abbrev S_ : Shape := ⟨0, ![]⟩
abbrev S4x4096 : Shape := ⟨2, ![4, 4096]⟩
abbrev S4x4096x1 : Shape := ⟨3, ![4, 4096, 1]⟩
abbrev S1024 : Shape := ⟨1, ![1024]⟩
abbrev S1x1x1024 : Shape := ⟨3, ![1, 1, 1024]⟩
abbrev S1024x2816 : Shape := ⟨2, ![1024, 2816]⟩
abbrev S4x4096x2816 : Shape := ⟨3, ![4, 4096, 2816]⟩
abbrev S16384x2816 : Shape := ⟨2, ![16384, 2816]⟩
abbrev S16384x512 : Shape := ⟨2, ![16384, 512]⟩
abbrev S16384x1792 : Shape := ⟨2, ![16384, 1792]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x2816, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S1024x2816, .f32⟩
  | .hbm, ⟨21, _⟩ => ⟨S4x4096x2816, .f32⟩
  | .hbm, ⟨22, _⟩ => ⟨S16384x2816, .f32⟩
  | .hbm, ⟨23, _⟩ => ⟨S16384x512, .f32⟩
  | .hbm, ⟨24, _⟩ => ⟨S16384x512, .f32⟩
  | .hbm, ⟨25, _⟩ => ⟨S16384x1792, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== MoeIdeal.lean ====
abbrev S32 : Shape := ⟨1, ![32]⟩
abbrev S651264x128 : Shape := ⟨2, ![651264, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S2x4096x128 : Shape := ⟨3, ![2, 4096, 128]⟩
abbrev S1024x2048 : Shape := ⟨2, ![1024, 2048]⟩
abbrev S1024x1024 : Shape := ⟨2, ![1024, 1024]⟩
abbrev S2 : Shape := ⟨1, ![2]⟩
abbrev S1 : Shape := ⟨1, ![1]⟩
abbrev S_ : Shape := ⟨0, ![]⟩
abbrev S1x4096x128 : Shape := ⟨3, ![1, 4096, 128]⟩
abbrev S4096x128 : Shape := ⟨2, ![4096, 128]⟩
abbrev S2048x128 : Shape := ⟨2, ![2048, 128]⟩
abbrev S512x128 : Shape := ⟨2, ![512, 128]⟩
abbrev S2x2048x2x128 : Shape := ⟨4, ![2, 2048, 2, 128]⟩
abbrev S1x512x2x128 : Shape := ⟨4, ![1, 512, 2, 128]⟩
abbrev S1x512x1x128 : Shape := ⟨4, ![1, 512, 1, 128]⟩
abbrev S1024x128 : Shape := ⟨2, ![1024, 128]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩
abbrev S512x512 : Shape := ⟨2, ![512, 512]⟩

abbrev nBuf : Space → Nat
  | .hbm => 8
  | .vmem => 12
  | .smem => 1
  | _ => 0

abbrev bufTy : (tb : Table) → Fin (tcTables nBuf tb) → BufTy
  | .hbm, ⟨0, _⟩ => ⟨S651264x128, .bf16⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1x2048, .f32⟩
  | .hbm, ⟨6, _⟩ => ⟨S32x1x1024, .f32⟩
  | .hbm, ⟨7, _⟩ => ⟨S651264x128, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S2x4096x128, .bf16⟩
  | .local _ .vmem, ⟨9, _⟩ => ⟨S2x4096x128, .bf16⟩
  | .local _ .vmem, ⟨10, _⟩ => ⟨S1024x2048, .bf16⟩
  | .local _ .vmem, ⟨11, _⟩ => ⟨S1024x1024, .bf16⟩
  | .local _ .smem, ⟨0, _⟩ => ⟨S32, .i32⟩
  | _, _ => ⟨S651264x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32_5 : BitVec 32 := 1#32
  let v20 : BitVec 32 := Scalar.subi arg0 c1_i32_5
  let c0_i32_6 : BitVec 32 := 0#32
  let v21 : BitVec 32 := Scalar.maxsi v20 c0_i32_6
  let v22 : Index := Scalar.indexCast v21
  ![v22.toNat]
def k0_mult1 : BitVec 32 :=
  let c0_i32_33 : BitVec 32 := 0#32
  c0_i32_33
@[reducible] def k0_t1_loop (i : grid0.Coords) (v1 : BitVec 32) (v23 : BitVec 32) : Scf.Loop 32 :=
  let c0_i32_28 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let v42 : BitVec 32 := Scalar.subi v18 v41
  let v69 : BitVec 32 := Scalar.subi v42 c0_i32_28
  let c1_i32_29 : BitVec 32 := 1#32
  let v71 : BitVec 32 := Scalar.divsi v69 c1_i32_29
  let v72 : BitVec 32 := Scalar.muli v71 c1_i32_29
  let v73 : BitVec 32 := Scalar.addi c0_i32_28 v72
  let c1_i32_30 : BitVec 32 := 1#32
  ⟨c0_i32_28, v73, c1_i32_30⟩

def k0_mult2 (i : grid0.Coords) (v1 : BitVec 32) (v23 : BitVec 32) (k0_t1 : Fin (k0_t1_loop i v1 v23).trips) : BitVec 32 :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c1_i32_30 : BitVec 32 := 1#32
  let arg14 : BitVec 32 := Scf.iv c0_i32_28 c1_i32_30 k0_t1
  let v77 : BitVec 32 := Scalar.addi v41 arg14
  let c1_i32_123 : BitVec 32 := 1#32
  let v270 : BitVec 32 := Scalar.addi v77 c1_i32_123
  let c4096_i32_124 : BitVec 32 := 4096#32
  let v271 : BitVec 32 := Scalar.muli v270 c4096_i32_124
  v271
def k0_cond3 (i : grid0.Coords) (v1 : BitVec 32) (v23 : BitVec 32) (v43 : BitVec 32) (k0_t1 : Fin (k0_t1_loop i v1 v23).trips) : BitVec 1 :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c1_i32_30 : BitVec 32 := 1#32
  let arg14 : BitVec 32 := Scf.iv c0_i32_28 c1_i32_30 k0_t1
  let v77 : BitVec 32 := Scalar.addi v41 arg14
  let c1_i32_38 : BitVec 32 := 1#32
  let v88 : BitVec 32 := Scalar.addi v77 c1_i32_38
  let c0_i32_16 : BitVec 32 := 0#32
  let v45 : BitVec 1 := Scalar.cmpi .sgt v43 c0_i32_16
  let v46 : BitVec 32 := Scalar.extui v45
  let c0_i32_17 : BitVec 32 := 0#32
  let v47 : BitVec 1 := Scalar.cmpi .slt v43 c0_i32_17
  let v48 : BitVec 32 := Scalar.extui v47
  let v49 : BitVec 32 := Scalar.subi v46 v48
  let c512_i32_15 : BitVec 32 := 512#32
  let c0_i32_18 : BitVec 32 := 0#32
  let v50 : BitVec 1 := Scalar.cmpi .sgt c512_i32_15 c0_i32_18
  let v51 : BitVec 32 := Scalar.extui v50
  let c0_i32_19 : BitVec 32 := 0#32
  let v52 : BitVec 1 := Scalar.cmpi .slt c512_i32_15 c0_i32_19
  let v53 : BitVec 32 := Scalar.extui v52
  let v54 : BitVec 32 := Scalar.subi v51 v53
  let v55 : BitVec 1 := Scalar.cmpi .ne v49 v54
  let v56 : BitVec 32 := Scalar.remsi v43 c512_i32_15
  let c0_i32_20 : BitVec 32 := 0#32
  let v57 : BitVec 1 := Scalar.cmpi .ne v56 c0_i32_20
  let v58 : BitVec 1 := Scalar.andi v55 v57
  let v44 : BitVec 32 := Scalar.divsi v43 c512_i32_15
  let c1_i32_21 : BitVec 32 := 1#32
  let v59 : BitVec 32 := Scalar.subi v44 c1_i32_21
  let v60 : BitVec 32 := Scalar.select v58 v59 v44
  let v89 : BitVec 1 := Scalar.cmpi .slt v88 v60
  let v90 : BitVec 32 := Scalar.extui v89
  let c0_i32_39 : BitVec 32 := 0#32
  let v91 : BitVec 1 := Scalar.cmpi .ne v90 c0_i32_39
  v91

def k0_off3 (i : grid0.Coords) (v1 : BitVec 32) (v23 : BitVec 32) (k0_t1 : Fin (k0_t1_loop i v1 v23).trips) : Fin 1 → Nat :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c1_i32_30 : BitVec 32 := 1#32
  let arg14 : BitVec 32 := Scf.iv c0_i32_28 c1_i32_30 k0_t1
  let v77 : BitVec 32 := Scalar.addi v41 arg14
  let c1_i32_123 : BitVec 32 := 1#32
  let v270 : BitVec 32 := Scalar.addi v77 c1_i32_123
  let c2_i32_131 : BitVec 32 := 2#32
  let c0_i32_132 : BitVec 32 := 0#32
  let v283 : BitVec 1 := Scalar.cmpi .eq c2_i32_131 c0_i32_132
  let c1_i32_133 : BitVec 32 := 1#32
  let v284 : BitVec 32 := Scalar.select v283 c1_i32_133 c2_i32_131
  let v285 : BitVec 32 := Scalar.remsi v270 v284
  let c0_i32_135 : BitVec 32 := 0#32
  let v287 : BitVec 1 := Scalar.cmpi .slt v285 c0_i32_135
  let c0_i32_136 : BitVec 32 := 0#32
  let v288 : BitVec 1 := Scalar.cmpi .slt v284 c0_i32_136
  let v289 : BitVec 1 := Scalar.xori v287 v288
  let c0_i32_134 : BitVec 32 := 0#32
  let v286 : BitVec 1 := Scalar.cmpi .ne v285 c0_i32_134
  let v290 : BitVec 1 := Scalar.andi v289 v286
  let v291 : BitVec 32 := Scalar.addi v285 v284
  let v292 : BitVec 32 := Scalar.select v290 v291 v285
  ![v292.toNat]
def k0_off4 (i : grid0.Coords) (v1 : BitVec 32) (v23 : BitVec 32) (k0_t1 : Fin (k0_t1_loop i v1 v23).trips) : Fin 3 → Nat :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c1_i32_30 : BitVec 32 := 1#32
  let arg14 : BitVec 32 := Scf.iv c0_i32_28 c1_i32_30 k0_t1
  let v77 : BitVec 32 := Scalar.addi v41 arg14
  let c1_i32_123 : BitVec 32 := 1#32
  let v270 : BitVec 32 := Scalar.addi v77 c1_i32_123
  let c2_i32_125 : BitVec 32 := 2#32
  let c0_i32_126 : BitVec 32 := 0#32
  let v273 : BitVec 1 := Scalar.cmpi .eq c2_i32_125 c0_i32_126
  let c1_i32_127 : BitVec 32 := 1#32
  let v274 : BitVec 32 := Scalar.select v273 c1_i32_127 c2_i32_125
  let v275 : BitVec 32 := Scalar.remsi v270 v274
  let c0_i32_129 : BitVec 32 := 0#32
  let v277 : BitVec 1 := Scalar.cmpi .slt v275 c0_i32_129
  let c0_i32_130 : BitVec 32 := 0#32
  let v278 : BitVec 1 := Scalar.cmpi .slt v274 c0_i32_130
  let v279 : BitVec 1 := Scalar.xori v277 v278
  let c0_i32_128 : BitVec 32 := 0#32
  let v276 : BitVec 1 := Scalar.cmpi .ne v275 c0_i32_128
  let v280 : BitVec 1 := Scalar.andi v279 v276
  let v281 : BitVec 32 := Scalar.addi v275 v274
  let v282 : BitVec 32 := Scalar.select v280 v281 v275
  let c0_i32_137 : BitVec 32 := 0#32
  let c0_i32_138 : BitVec 32 := 0#32
  ![v282.toNat, 0, 0]
def k0_off5 (i : grid0.Coords) (v1 : BitVec 32) (v23 : BitVec 32) (k0_t1 : Fin (k0_t1_loop i v1 v23).trips) : Fin 2 → Nat :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c1_i32_30 : BitVec 32 := 1#32
  let arg14 : BitVec 32 := Scf.iv c0_i32_28 c1_i32_30 k0_t1
  let v77 : BitVec 32 := Scalar.addi v41 arg14
  let c1_i32_123 : BitVec 32 := 1#32
  let v270 : BitVec 32 := Scalar.addi v77 c1_i32_123
  let c4096_i32_124 : BitVec 32 := 4096#32
  let v271 : BitVec 32 := Scalar.muli v270 c4096_i32_124
  let v272 : BitVec 32 := v271
  let c0_i32_139 : BitVec 32 := 0#32
  ![v272.toNat, 0]
def k0_mult3 (i : grid0.Coords) (v1 : BitVec 32) (v23 : BitVec 32) (k0_t1 : Fin (k0_t1_loop i v1 v23).trips) : BitVec 32 :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c1_i32_30 : BitVec 32 := 1#32
  let arg14 : BitVec 32 := Scf.iv c0_i32_28 c1_i32_30 k0_t1
  let v77 : BitVec 32 := Scalar.addi v41 arg14
  let c4096_i32 : BitVec 32 := 4096#32
  let v92 : BitVec 32 := Scalar.muli v77 c4096_i32
  v92
def k0_off6 (i : grid0.Coords) (v1 : BitVec 32) (v23 : BitVec 32) (k0_t1 : Fin (k0_t1_loop i v1 v23).trips) : Fin 1 → Nat :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c1_i32_30 : BitVec 32 := 1#32
  let arg14 : BitVec 32 := Scf.iv c0_i32_28 c1_i32_30 k0_t1
  let v77 : BitVec 32 := Scalar.addi v41 arg14
  let c2_i32_46 : BitVec 32 := 2#32
  let c0_i32_47 : BitVec 32 := 0#32
  let v104 : BitVec 1 := Scalar.cmpi .eq c2_i32_46 c0_i32_47
  let c1_i32_48 : BitVec 32 := 1#32
  let v105 : BitVec 32 := Scalar.select v104 c1_i32_48 c2_i32_46
  let v106 : BitVec 32 := Scalar.remsi v77 v105
  let c0_i32_50 : BitVec 32 := 0#32
  let v108 : BitVec 1 := Scalar.cmpi .slt v106 c0_i32_50
  let c0_i32_51 : BitVec 32 := 0#32
  let v109 : BitVec 1 := Scalar.cmpi .slt v105 c0_i32_51
  let v110 : BitVec 1 := Scalar.xori v108 v109
  let c0_i32_49 : BitVec 32 := 0#32
  let v107 : BitVec 1 := Scalar.cmpi .ne v106 c0_i32_49
  let v111 : BitVec 1 := Scalar.andi v110 v107
  let v112 : BitVec 32 := Scalar.addi v106 v105
  let v113 : BitVec 32 := Scalar.select v111 v112 v106
  ![v113.toNat]
def k0_off7 (i : grid0.Coords) (v1 : BitVec 32) (v23 : BitVec 32) (k0_t1 : Fin (k0_t1_loop i v1 v23).trips) : Fin 3 → Nat :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c1_i32_30 : BitVec 32 := 1#32
  let arg14 : BitVec 32 := Scf.iv c0_i32_28 c1_i32_30 k0_t1
  let v77 : BitVec 32 := Scalar.addi v41 arg14
  let c2_i32_40 : BitVec 32 := 2#32
  let c0_i32_41 : BitVec 32 := 0#32
  let v94 : BitVec 1 := Scalar.cmpi .eq c2_i32_40 c0_i32_41
  let c1_i32_42 : BitVec 32 := 1#32
  let v95 : BitVec 32 := Scalar.select v94 c1_i32_42 c2_i32_40
  let v96 : BitVec 32 := Scalar.remsi v77 v95
  let c0_i32_44 : BitVec 32 := 0#32
  let v98 : BitVec 1 := Scalar.cmpi .slt v96 c0_i32_44
  let c0_i32_45 : BitVec 32 := 0#32
  let v99 : BitVec 1 := Scalar.cmpi .slt v95 c0_i32_45
  let v100 : BitVec 1 := Scalar.xori v98 v99
  let c0_i32_43 : BitVec 32 := 0#32
  let v97 : BitVec 1 := Scalar.cmpi .ne v96 c0_i32_43
  let v101 : BitVec 1 := Scalar.andi v100 v97
  let v102 : BitVec 32 := Scalar.addi v96 v95
  let v103 : BitVec 32 := Scalar.select v101 v102 v96
  let c0_i32_52 : BitVec 32 := 0#32
  let c0_i32_53 : BitVec 32 := 0#32
  ![v103.toNat, 0, 0]
def k0_off8 (i : grid0.Coords) (v1 : BitVec 32) (v23 : BitVec 32) (k0_t1 : Fin (k0_t1_loop i v1 v23).trips) : Fin 2 → Nat :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c1_i32_30 : BitVec 32 := 1#32
  let arg14 : BitVec 32 := Scf.iv c0_i32_28 c1_i32_30 k0_t1
  let v77 : BitVec 32 := Scalar.addi v41 arg14
  let c4096_i32 : BitVec 32 := 4096#32
  let v92 : BitVec 32 := Scalar.muli v77 c4096_i32
  let v93 : BitVec 32 := v92
  let c0_i32_54 : BitVec 32 := 0#32
  ![v93.toNat, 0]
def k0_mult4 (i : grid0.Coords) (v1 : BitVec 32) (v23 : BitVec 32) (k0_t1 : Fin (k0_t1_loop i v1 v23).trips) : BitVec 32 :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c1_i32_30 : BitVec 32 := 1#32
  let arg14 : BitVec 32 := Scf.iv c0_i32_28 c1_i32_30 k0_t1
  let v77 : BitVec 32 := Scalar.addi v41 arg14
  let c2_i32_123 : BitVec 32 := 2#32
  let v270 : BitVec 32 := Scalar.subi v77 c2_i32_123
  let c4096_i32_130 : BitVec 32 := 4096#32
  let v281 : BitVec 32 := Scalar.muli v270 c4096_i32_130
  v281
def k0_cond4 (i : grid0.Coords) (v1 : BitVec 32) (v23 : BitVec 32) (k0_t1 : Fin (k0_t1_loop i v1 v23).trips) : BitVec 1 :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c1_i32_30 : BitVec 32 := 1#32
  let arg14 : BitVec 32 := Scf.iv c0_i32_28 c1_i32_30 k0_t1
  let v77 : BitVec 32 := Scalar.addi v41 arg14
  let c2_i32_55 : BitVec 32 := 2#32
  let v119 : BitVec 1 := Scalar.cmpi .sge v77 c2_i32_55
  let v120 : BitVec 32 := Scalar.extui v119
  let c0_i32_56 : BitVec 32 := 0#32
  let v121 : BitVec 1 := Scalar.cmpi .ne v120 c0_i32_56
  v121

def k0_off9 (i : grid0.Coords) (v1 : BitVec 32) (v23 : BitVec 32) (k0_t1 : Fin (k0_t1_loop i v1 v23).trips) : Fin 1 → Nat :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c1_i32_30 : BitVec 32 := 1#32
  let arg14 : BitVec 32 := Scf.iv c0_i32_28 c1_i32_30 k0_t1
  let v77 : BitVec 32 := Scalar.addi v41 arg14
  let c2_i32_123 : BitVec 32 := 2#32
  let v270 : BitVec 32 := Scalar.subi v77 c2_i32_123
  let c2_i32_131 : BitVec 32 := 2#32
  let c0_i32_132 : BitVec 32 := 0#32
  let v283 : BitVec 1 := Scalar.cmpi .eq c2_i32_131 c0_i32_132
  let c1_i32_133 : BitVec 32 := 1#32
  let v284 : BitVec 32 := Scalar.select v283 c1_i32_133 c2_i32_131
  let v285 : BitVec 32 := Scalar.remsi v270 v284
  let c0_i32_135 : BitVec 32 := 0#32
  let v287 : BitVec 1 := Scalar.cmpi .slt v285 c0_i32_135
  let c0_i32_136 : BitVec 32 := 0#32
  let v288 : BitVec 1 := Scalar.cmpi .slt v284 c0_i32_136
  let v289 : BitVec 1 := Scalar.xori v287 v288
  let c0_i32_134 : BitVec 32 := 0#32
  let v286 : BitVec 1 := Scalar.cmpi .ne v285 c0_i32_134
  let v290 : BitVec 1 := Scalar.andi v289 v286
  let v291 : BitVec 32 := Scalar.addi v285 v284
  let v292 : BitVec 32 := Scalar.select v290 v291 v285
  ![v292.toNat]
def k0_off10 (i : grid0.Coords) (v1 : BitVec 32) (v23 : BitVec 32) (k0_t1 : Fin (k0_t1_loop i v1 v23).trips) : Fin 2 → Nat :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c1_i32_30 : BitVec 32 := 1#32
  let arg14 : BitVec 32 := Scf.iv c0_i32_28 c1_i32_30 k0_t1
  let v77 : BitVec 32 := Scalar.addi v41 arg14
  let c2_i32_123 : BitVec 32 := 2#32
  let v270 : BitVec 32 := Scalar.subi v77 c2_i32_123
  let c4096_i32_130 : BitVec 32 := 4096#32
  let v281 : BitVec 32 := Scalar.muli v270 c4096_i32_130
  let v282 : BitVec 32 := v281
  let c0_i32_137 : BitVec 32 := 0#32
  ![v282.toNat, 0]
def k0_off11 (i : grid0.Coords) (v1 : BitVec 32) (v23 : BitVec 32) (k0_t1 : Fin (k0_t1_loop i v1 v23).trips) : Fin 3 → Nat :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c1_i32_30 : BitVec 32 := 1#32
  let arg14 : BitVec 32 := Scf.iv c0_i32_28 c1_i32_30 k0_t1
  let v77 : BitVec 32 := Scalar.addi v41 arg14
  let c2_i32_123 : BitVec 32 := 2#32
  let v270 : BitVec 32 := Scalar.subi v77 c2_i32_123
  let c2_i32_124 : BitVec 32 := 2#32
  let c0_i32_125 : BitVec 32 := 0#32
  let v271 : BitVec 1 := Scalar.cmpi .eq c2_i32_124 c0_i32_125
  let c1_i32_126 : BitVec 32 := 1#32
  let v272 : BitVec 32 := Scalar.select v271 c1_i32_126 c2_i32_124
  let v273 : BitVec 32 := Scalar.remsi v270 v272
  let c0_i32_128 : BitVec 32 := 0#32
  let v275 : BitVec 1 := Scalar.cmpi .slt v273 c0_i32_128
  let c0_i32_129 : BitVec 32 := 0#32
  let v276 : BitVec 1 := Scalar.cmpi .slt v272 c0_i32_129
  let v277 : BitVec 1 := Scalar.xori v275 v276
  let c0_i32_127 : BitVec 32 := 0#32
  let v274 : BitVec 1 := Scalar.cmpi .ne v273 c0_i32_127
  let v278 : BitVec 1 := Scalar.andi v277 v274
  let v279 : BitVec 32 := Scalar.addi v273 v272
  let v280 : BitVec 32 := Scalar.select v278 v279 v273
  let c0_i32_138 : BitVec 32 := 0#32
  let c0_i32_139 : BitVec 32 := 0#32
  ![v280.toNat, 0, 0]
def k0_off12 (i : grid0.Coords) (v1 : BitVec 32) (v23 : BitVec 32) (k0_t1 : Fin (k0_t1_loop i v1 v23).trips) : Fin 4 → Nat :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c1_i32_30 : BitVec 32 := 1#32
  let arg14 : BitVec 32 := Scf.iv c0_i32_28 c1_i32_30 k0_t1
  let v77 : BitVec 32 := Scalar.addi v41 arg14
  let c2_i32 : BitVec 32 := 2#32
  let c0_i32_33 : BitVec 32 := 0#32
  let v78 : BitVec 1 := Scalar.cmpi .eq c2_i32 c0_i32_33
  let c1_i32_34 : BitVec 32 := 1#32
  let v79 : BitVec 32 := Scalar.select v78 c1_i32_34 c2_i32
  let v80 : BitVec 32 := Scalar.remsi v77 v79
  let c0_i32_36 : BitVec 32 := 0#32
  let v82 : BitVec 1 := Scalar.cmpi .slt v80 c0_i32_36
  let c0_i32_37 : BitVec 32 := 0#32
  let v83 : BitVec 1 := Scalar.cmpi .slt v79 c0_i32_37
  let v84 : BitVec 1 := Scalar.xori v82 v83
  let c0_i32_35 : BitVec 32 := 0#32
  let v81 : BitVec 1 := Scalar.cmpi .ne v80 c0_i32_35
  let v85 : BitVec 1 := Scalar.andi v84 v81
  let v86 : BitVec 32 := Scalar.addi v80 v79
  let v87 : BitVec 32 := Scalar.select v85 v86 v80
  let c0_i32_57 : BitVec 32 := 0#32
  let c0_i32_58 : BitVec 32 := 0#32
  ![v87.toNat, 0, 0, 0]
def k0_off13 (i : grid0.Coords) (v1 : BitVec 32) (v23 : BitVec 32) (k0_t1 : Fin (k0_t1_loop i v1 v23).trips) : Fin 4 → Nat :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c1_i32_30 : BitVec 32 := 1#32
  let arg14 : BitVec 32 := Scf.iv c0_i32_28 c1_i32_30 k0_t1
  let v77 : BitVec 32 := Scalar.addi v41 arg14
  let c2_i32 : BitVec 32 := 2#32
  let c0_i32_33 : BitVec 32 := 0#32
  let v78 : BitVec 1 := Scalar.cmpi .eq c2_i32 c0_i32_33
  let c1_i32_34 : BitVec 32 := 1#32
  let v79 : BitVec 32 := Scalar.select v78 c1_i32_34 c2_i32
  let v80 : BitVec 32 := Scalar.remsi v77 v79
  let c0_i32_36 : BitVec 32 := 0#32
  let v82 : BitVec 1 := Scalar.cmpi .slt v80 c0_i32_36
  let c0_i32_37 : BitVec 32 := 0#32
  let v83 : BitVec 1 := Scalar.cmpi .slt v79 c0_i32_37
  let v84 : BitVec 1 := Scalar.xori v82 v83
  let c0_i32_35 : BitVec 32 := 0#32
  let v81 : BitVec 1 := Scalar.cmpi .ne v80 c0_i32_35
  let v85 : BitVec 1 := Scalar.andi v84 v81
  let v86 : BitVec 32 := Scalar.addi v80 v79
  let v87 : BitVec 32 := Scalar.select v85 v86 v80
  let c0_i32_61 : BitVec 32 := 0#32
  ![v87.toNat, 1, 0, 0]
def k0_off14 (i : grid0.Coords) (v1 : BitVec 32) (v23 : BitVec 32) (k0_t1 : Fin (k0_t1_loop i v1 v23).trips) : Fin 4 → Nat :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c1_i32_30 : BitVec 32 := 1#32
  let arg14 : BitVec 32 := Scf.iv c0_i32_28 c1_i32_30 k0_t1
  let v77 : BitVec 32 := Scalar.addi v41 arg14
  let c2_i32 : BitVec 32 := 2#32
  let c0_i32_33 : BitVec 32 := 0#32
  let v78 : BitVec 1 := Scalar.cmpi .eq c2_i32 c0_i32_33
  let c1_i32_34 : BitVec 32 := 1#32
  let v79 : BitVec 32 := Scalar.select v78 c1_i32_34 c2_i32
  let v80 : BitVec 32 := Scalar.remsi v77 v79
  let c0_i32_36 : BitVec 32 := 0#32
  let v82 : BitVec 1 := Scalar.cmpi .slt v80 c0_i32_36
  let c0_i32_37 : BitVec 32 := 0#32
  let v83 : BitVec 1 := Scalar.cmpi .slt v79 c0_i32_37
  let v84 : BitVec 1 := Scalar.xori v82 v83
  let c0_i32_35 : BitVec 32 := 0#32
  let v81 : BitVec 1 := Scalar.cmpi .ne v80 c0_i32_35
  let v85 : BitVec 1 := Scalar.andi v84 v81
  let v86 : BitVec 32 := Scalar.addi v80 v79
  let v87 : BitVec 32 := Scalar.select v85 v86 v80
  let c0_i32_64 : BitVec 32 := 0#32
  ![v87.toNat, 2, 0, 0]
def k0_off15 (i : grid0.Coords) (v1 : BitVec 32) (v23 : BitVec 32) (k0_t1 : Fin (k0_t1_loop i v1 v23).trips) : Fin 4 → Nat :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c1_i32_30 : BitVec 32 := 1#32
  let arg14 : BitVec 32 := Scf.iv c0_i32_28 c1_i32_30 k0_t1
  let v77 : BitVec 32 := Scalar.addi v41 arg14
  let c2_i32 : BitVec 32 := 2#32
  let c0_i32_33 : BitVec 32 := 0#32
  let v78 : BitVec 1 := Scalar.cmpi .eq c2_i32 c0_i32_33
  let c1_i32_34 : BitVec 32 := 1#32
  let v79 : BitVec 32 := Scalar.select v78 c1_i32_34 c2_i32
  let v80 : BitVec 32 := Scalar.remsi v77 v79
  let c0_i32_36 : BitVec 32 := 0#32
  let v82 : BitVec 1 := Scalar.cmpi .slt v80 c0_i32_36
  let c0_i32_37 : BitVec 32 := 0#32
  let v83 : BitVec 1 := Scalar.cmpi .slt v79 c0_i32_37
  let v84 : BitVec 1 := Scalar.xori v82 v83
  let c0_i32_35 : BitVec 32 := 0#32
  let v81 : BitVec 1 := Scalar.cmpi .ne v80 c0_i32_35
  let v85 : BitVec 1 := Scalar.andi v84 v81
  let v86 : BitVec 32 := Scalar.addi v80 v79
  let v87 : BitVec 32 := Scalar.select v85 v86 v80
  let c0_i32_67 : BitVec 32 := 0#32
  ![v87.toNat, 3, 0, 0]
def k0_mult5 (i : grid0.Coords) (v1 : BitVec 32) (v23 : BitVec 32) (k0_t1 : Fin (k0_t1_loop i v1 v23).trips) : BitVec 32 :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c1_i32_30 : BitVec 32 := 1#32
  let arg14 : BitVec 32 := Scf.iv c0_i32_28 c1_i32_30 k0_t1
  let v77 : BitVec 32 := Scalar.addi v41 arg14
  let c4096_i32_113 : BitVec 32 := 4096#32
  let v253 : BitVec 32 := Scalar.muli v77 c4096_i32_113
  v253
@[reducible] def k0_t2_loop (i : grid0.Coords) (v1 : BitVec 32) (v23 : BitVec 32) : Scf.Loop 32 :=
  let c0_i32_28 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let v42 : BitVec 32 := Scalar.subi v18 v41
  let v69 : BitVec 32 := Scalar.subi v42 c0_i32_28
  let c1_i32_29 : BitVec 32 := 1#32
  let v71 : BitVec 32 := Scalar.divsi v69 c1_i32_29
  let v72 : BitVec 32 := Scalar.muli v71 c1_i32_29
  let v73 : BitVec 32 := Scalar.addi c0_i32_28 v72
  let v70 : BitVec 32 := Scalar.addi c0_i32_28 v69
  let c1_i32_31 : BitVec 32 := 1#32
  ⟨v73, v70, c1_i32_31⟩
def k0_mult6 (i : grid0.Coords) (v1 : BitVec 32) (v23 : BitVec 32) (k0_t2 : Fin (k0_t2_loop i v1 v23).trips) : BitVec 32 :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let v42 : BitVec 32 := Scalar.subi v18 v41
  let v69 : BitVec 32 := Scalar.subi v42 c0_i32_28
  let c1_i32_29 : BitVec 32 := 1#32
  let v71 : BitVec 32 := Scalar.divsi v69 c1_i32_29
  let v72 : BitVec 32 := Scalar.muli v71 c1_i32_29
  let v73 : BitVec 32 := Scalar.addi c0_i32_28 v72
  let c1_i32_31 : BitVec 32 := 1#32
  let arg14 : BitVec 32 := Scf.iv v73 c1_i32_31 k0_t2
  let v77 : BitVec 32 := Scalar.addi v41 arg14
  let c1_i32_123 : BitVec 32 := 1#32
  let v270 : BitVec 32 := Scalar.addi v77 c1_i32_123
  let c4096_i32_124 : BitVec 32 := 4096#32
  let v271 : BitVec 32 := Scalar.muli v270 c4096_i32_124
  v271
def k0_cond5 (i : grid0.Coords) (v1 : BitVec 32) (v23 : BitVec 32) (v43 : BitVec 32) (k0_t2 : Fin (k0_t2_loop i v1 v23).trips) : BitVec 1 :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let v42 : BitVec 32 := Scalar.subi v18 v41
  let v69 : BitVec 32 := Scalar.subi v42 c0_i32_28
  let c1_i32_29 : BitVec 32 := 1#32
  let v71 : BitVec 32 := Scalar.divsi v69 c1_i32_29
  let v72 : BitVec 32 := Scalar.muli v71 c1_i32_29
  let v73 : BitVec 32 := Scalar.addi c0_i32_28 v72
  let c1_i32_31 : BitVec 32 := 1#32
  let arg14 : BitVec 32 := Scf.iv v73 c1_i32_31 k0_t2
  let v77 : BitVec 32 := Scalar.addi v41 arg14
  let c1_i32_38 : BitVec 32 := 1#32
  let v88 : BitVec 32 := Scalar.addi v77 c1_i32_38
  let c0_i32_16 : BitVec 32 := 0#32
  let v45 : BitVec 1 := Scalar.cmpi .sgt v43 c0_i32_16
  let v46 : BitVec 32 := Scalar.extui v45
  let c0_i32_17 : BitVec 32 := 0#32
  let v47 : BitVec 1 := Scalar.cmpi .slt v43 c0_i32_17
  let v48 : BitVec 32 := Scalar.extui v47
  let v49 : BitVec 32 := Scalar.subi v46 v48
  let c512_i32_15 : BitVec 32 := 512#32
  let c0_i32_18 : BitVec 32 := 0#32
  let v50 : BitVec 1 := Scalar.cmpi .sgt c512_i32_15 c0_i32_18
  let v51 : BitVec 32 := Scalar.extui v50
  let c0_i32_19 : BitVec 32 := 0#32
  let v52 : BitVec 1 := Scalar.cmpi .slt c512_i32_15 c0_i32_19
  let v53 : BitVec 32 := Scalar.extui v52
  let v54 : BitVec 32 := Scalar.subi v51 v53
  let v55 : BitVec 1 := Scalar.cmpi .ne v49 v54
  let v56 : BitVec 32 := Scalar.remsi v43 c512_i32_15
  let c0_i32_20 : BitVec 32 := 0#32
  let v57 : BitVec 1 := Scalar.cmpi .ne v56 c0_i32_20
  let v58 : BitVec 1 := Scalar.andi v55 v57
  let v44 : BitVec 32 := Scalar.divsi v43 c512_i32_15
  let c1_i32_21 : BitVec 32 := 1#32
  let v59 : BitVec 32 := Scalar.subi v44 c1_i32_21
  let v60 : BitVec 32 := Scalar.select v58 v59 v44
  let v89 : BitVec 1 := Scalar.cmpi .slt v88 v60
  let v90 : BitVec 32 := Scalar.extui v89
  let c0_i32_39 : BitVec 32 := 0#32
  let v91 : BitVec 1 := Scalar.cmpi .ne v90 c0_i32_39
  v91

def k0_off16 (i : grid0.Coords) (v1 : BitVec 32) (v23 : BitVec 32) (k0_t2 : Fin (k0_t2_loop i v1 v23).trips) : Fin 1 → Nat :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let v42 : BitVec 32 := Scalar.subi v18 v41
  let v69 : BitVec 32 := Scalar.subi v42 c0_i32_28
  let c1_i32_29 : BitVec 32 := 1#32
  let v71 : BitVec 32 := Scalar.divsi v69 c1_i32_29
  let v72 : BitVec 32 := Scalar.muli v71 c1_i32_29
  let v73 : BitVec 32 := Scalar.addi c0_i32_28 v72
  let c1_i32_31 : BitVec 32 := 1#32
  let arg14 : BitVec 32 := Scf.iv v73 c1_i32_31 k0_t2
  let v77 : BitVec 32 := Scalar.addi v41 arg14
  let c1_i32_123 : BitVec 32 := 1#32
  let v270 : BitVec 32 := Scalar.addi v77 c1_i32_123
  let c2_i32_131 : BitVec 32 := 2#32
  let c0_i32_132 : BitVec 32 := 0#32
  let v283 : BitVec 1 := Scalar.cmpi .eq c2_i32_131 c0_i32_132
  let c1_i32_133 : BitVec 32 := 1#32
  let v284 : BitVec 32 := Scalar.select v283 c1_i32_133 c2_i32_131
  let v285 : BitVec 32 := Scalar.remsi v270 v284
  let c0_i32_135 : BitVec 32 := 0#32
  let v287 : BitVec 1 := Scalar.cmpi .slt v285 c0_i32_135
  let c0_i32_136 : BitVec 32 := 0#32
  let v288 : BitVec 1 := Scalar.cmpi .slt v284 c0_i32_136
  let v289 : BitVec 1 := Scalar.xori v287 v288
  let c0_i32_134 : BitVec 32 := 0#32
  let v286 : BitVec 1 := Scalar.cmpi .ne v285 c0_i32_134
  let v290 : BitVec 1 := Scalar.andi v289 v286
  let v291 : BitVec 32 := Scalar.addi v285 v284
  let v292 : BitVec 32 := Scalar.select v290 v291 v285
  ![v292.toNat]
def k0_off17 (i : grid0.Coords) (v1 : BitVec 32) (v23 : BitVec 32) (k0_t2 : Fin (k0_t2_loop i v1 v23).trips) : Fin 3 → Nat :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let v42 : BitVec 32 := Scalar.subi v18 v41
  let v69 : BitVec 32 := Scalar.subi v42 c0_i32_28
  let c1_i32_29 : BitVec 32 := 1#32
  let v71 : BitVec 32 := Scalar.divsi v69 c1_i32_29
  let v72 : BitVec 32 := Scalar.muli v71 c1_i32_29
  let v73 : BitVec 32 := Scalar.addi c0_i32_28 v72
  let c1_i32_31 : BitVec 32 := 1#32
  let arg14 : BitVec 32 := Scf.iv v73 c1_i32_31 k0_t2
  let v77 : BitVec 32 := Scalar.addi v41 arg14
  let c1_i32_123 : BitVec 32 := 1#32
  let v270 : BitVec 32 := Scalar.addi v77 c1_i32_123
  let c2_i32_125 : BitVec 32 := 2#32
  let c0_i32_126 : BitVec 32 := 0#32
  let v273 : BitVec 1 := Scalar.cmpi .eq c2_i32_125 c0_i32_126
  let c1_i32_127 : BitVec 32 := 1#32
  let v274 : BitVec 32 := Scalar.select v273 c1_i32_127 c2_i32_125
  let v275 : BitVec 32 := Scalar.remsi v270 v274
  let c0_i32_129 : BitVec 32 := 0#32
  let v277 : BitVec 1 := Scalar.cmpi .slt v275 c0_i32_129
  let c0_i32_130 : BitVec 32 := 0#32
  let v278 : BitVec 1 := Scalar.cmpi .slt v274 c0_i32_130
  let v279 : BitVec 1 := Scalar.xori v277 v278
  let c0_i32_128 : BitVec 32 := 0#32
  let v276 : BitVec 1 := Scalar.cmpi .ne v275 c0_i32_128
  let v280 : BitVec 1 := Scalar.andi v279 v276
  let v281 : BitVec 32 := Scalar.addi v275 v274
  let v282 : BitVec 32 := Scalar.select v280 v281 v275
  let c0_i32_137 : BitVec 32 := 0#32
  let c0_i32_138 : BitVec 32 := 0#32
  ![v282.toNat, 0, 0]
def k0_off18 (i : grid0.Coords) (v1 : BitVec 32) (v23 : BitVec 32) (k0_t2 : Fin (k0_t2_loop i v1 v23).trips) : Fin 2 → Nat :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let v42 : BitVec 32 := Scalar.subi v18 v41
  let v69 : BitVec 32 := Scalar.subi v42 c0_i32_28
  let c1_i32_29 : BitVec 32 := 1#32
  let v71 : BitVec 32 := Scalar.divsi v69 c1_i32_29
  let v72 : BitVec 32 := Scalar.muli v71 c1_i32_29
  let v73 : BitVec 32 := Scalar.addi c0_i32_28 v72
  let c1_i32_31 : BitVec 32 := 1#32
  let arg14 : BitVec 32 := Scf.iv v73 c1_i32_31 k0_t2
  let v77 : BitVec 32 := Scalar.addi v41 arg14
  let c1_i32_123 : BitVec 32 := 1#32
  let v270 : BitVec 32 := Scalar.addi v77 c1_i32_123
  let c4096_i32_124 : BitVec 32 := 4096#32
  let v271 : BitVec 32 := Scalar.muli v270 c4096_i32_124
  let v272 : BitVec 32 := v271
  let c0_i32_139 : BitVec 32 := 0#32
  ![v272.toNat, 0]
def k0_mult7 (i : grid0.Coords) (v1 : BitVec 32) (v23 : BitVec 32) (k0_t2 : Fin (k0_t2_loop i v1 v23).trips) : BitVec 32 :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let v42 : BitVec 32 := Scalar.subi v18 v41
  let v69 : BitVec 32 := Scalar.subi v42 c0_i32_28
  let c1_i32_29 : BitVec 32 := 1#32
  let v71 : BitVec 32 := Scalar.divsi v69 c1_i32_29
  let v72 : BitVec 32 := Scalar.muli v71 c1_i32_29
  let v73 : BitVec 32 := Scalar.addi c0_i32_28 v72
  let c1_i32_31 : BitVec 32 := 1#32
  let arg14 : BitVec 32 := Scf.iv v73 c1_i32_31 k0_t2
  let v77 : BitVec 32 := Scalar.addi v41 arg14
  let c4096_i32 : BitVec 32 := 4096#32
  let v92 : BitVec 32 := Scalar.muli v77 c4096_i32
  v92
def k0_off19 (i : grid0.Coords) (v1 : BitVec 32) (v23 : BitVec 32) (k0_t2 : Fin (k0_t2_loop i v1 v23).trips) : Fin 1 → Nat :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let v42 : BitVec 32 := Scalar.subi v18 v41
  let v69 : BitVec 32 := Scalar.subi v42 c0_i32_28
  let c1_i32_29 : BitVec 32 := 1#32
  let v71 : BitVec 32 := Scalar.divsi v69 c1_i32_29
  let v72 : BitVec 32 := Scalar.muli v71 c1_i32_29
  let v73 : BitVec 32 := Scalar.addi c0_i32_28 v72
  let c1_i32_31 : BitVec 32 := 1#32
  let arg14 : BitVec 32 := Scf.iv v73 c1_i32_31 k0_t2
  let v77 : BitVec 32 := Scalar.addi v41 arg14
  let c2_i32_46 : BitVec 32 := 2#32
  let c0_i32_47 : BitVec 32 := 0#32
  let v104 : BitVec 1 := Scalar.cmpi .eq c2_i32_46 c0_i32_47
  let c1_i32_48 : BitVec 32 := 1#32
  let v105 : BitVec 32 := Scalar.select v104 c1_i32_48 c2_i32_46
  let v106 : BitVec 32 := Scalar.remsi v77 v105
  let c0_i32_50 : BitVec 32 := 0#32
  let v108 : BitVec 1 := Scalar.cmpi .slt v106 c0_i32_50
  let c0_i32_51 : BitVec 32 := 0#32
  let v109 : BitVec 1 := Scalar.cmpi .slt v105 c0_i32_51
  let v110 : BitVec 1 := Scalar.xori v108 v109
  let c0_i32_49 : BitVec 32 := 0#32
  let v107 : BitVec 1 := Scalar.cmpi .ne v106 c0_i32_49
  let v111 : BitVec 1 := Scalar.andi v110 v107
  let v112 : BitVec 32 := Scalar.addi v106 v105
  let v113 : BitVec 32 := Scalar.select v111 v112 v106
  ![v113.toNat]
def k0_off20 (i : grid0.Coords) (v1 : BitVec 32) (v23 : BitVec 32) (k0_t2 : Fin (k0_t2_loop i v1 v23).trips) : Fin 3 → Nat :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let v42 : BitVec 32 := Scalar.subi v18 v41
  let v69 : BitVec 32 := Scalar.subi v42 c0_i32_28
  let c1_i32_29 : BitVec 32 := 1#32
  let v71 : BitVec 32 := Scalar.divsi v69 c1_i32_29
  let v72 : BitVec 32 := Scalar.muli v71 c1_i32_29
  let v73 : BitVec 32 := Scalar.addi c0_i32_28 v72
  let c1_i32_31 : BitVec 32 := 1#32
  let arg14 : BitVec 32 := Scf.iv v73 c1_i32_31 k0_t2
  let v77 : BitVec 32 := Scalar.addi v41 arg14
  let c2_i32_40 : BitVec 32 := 2#32
  let c0_i32_41 : BitVec 32 := 0#32
  let v94 : BitVec 1 := Scalar.cmpi .eq c2_i32_40 c0_i32_41
  let c1_i32_42 : BitVec 32 := 1#32
  let v95 : BitVec 32 := Scalar.select v94 c1_i32_42 c2_i32_40
  let v96 : BitVec 32 := Scalar.remsi v77 v95
  let c0_i32_44 : BitVec 32 := 0#32
  let v98 : BitVec 1 := Scalar.cmpi .slt v96 c0_i32_44
  let c0_i32_45 : BitVec 32 := 0#32
  let v99 : BitVec 1 := Scalar.cmpi .slt v95 c0_i32_45
  let v100 : BitVec 1 := Scalar.xori v98 v99
  let c0_i32_43 : BitVec 32 := 0#32
  let v97 : BitVec 1 := Scalar.cmpi .ne v96 c0_i32_43
  let v101 : BitVec 1 := Scalar.andi v100 v97
  let v102 : BitVec 32 := Scalar.addi v96 v95
  let v103 : BitVec 32 := Scalar.select v101 v102 v96
  let c0_i32_52 : BitVec 32 := 0#32
  let c0_i32_53 : BitVec 32 := 0#32
  ![v103.toNat, 0, 0]
def k0_off21 (i : grid0.Coords) (v1 : BitVec 32) (v23 : BitVec 32) (k0_t2 : Fin (k0_t2_loop i v1 v23).trips) : Fin 2 → Nat :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let v42 : BitVec 32 := Scalar.subi v18 v41
  let v69 : BitVec 32 := Scalar.subi v42 c0_i32_28
  let c1_i32_29 : BitVec 32 := 1#32
  let v71 : BitVec 32 := Scalar.divsi v69 c1_i32_29
  let v72 : BitVec 32 := Scalar.muli v71 c1_i32_29
  let v73 : BitVec 32 := Scalar.addi c0_i32_28 v72
  let c1_i32_31 : BitVec 32 := 1#32
  let arg14 : BitVec 32 := Scf.iv v73 c1_i32_31 k0_t2
  let v77 : BitVec 32 := Scalar.addi v41 arg14
  let c4096_i32 : BitVec 32 := 4096#32
  let v92 : BitVec 32 := Scalar.muli v77 c4096_i32
  let v93 : BitVec 32 := v92
  let c0_i32_54 : BitVec 32 := 0#32
  ![v93.toNat, 0]
def k0_mult8 (i : grid0.Coords) (v1 : BitVec 32) (v23 : BitVec 32) (k0_t2 : Fin (k0_t2_loop i v1 v23).trips) : BitVec 32 :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let v42 : BitVec 32 := Scalar.subi v18 v41
  let v69 : BitVec 32 := Scalar.subi v42 c0_i32_28
  let c1_i32_29 : BitVec 32 := 1#32
  let v71 : BitVec 32 := Scalar.divsi v69 c1_i32_29
  let v72 : BitVec 32 := Scalar.muli v71 c1_i32_29
  let v73 : BitVec 32 := Scalar.addi c0_i32_28 v72
  let c1_i32_31 : BitVec 32 := 1#32
  let arg14 : BitVec 32 := Scf.iv v73 c1_i32_31 k0_t2
  let v77 : BitVec 32 := Scalar.addi v41 arg14
  let c2_i32_123 : BitVec 32 := 2#32
  let v270 : BitVec 32 := Scalar.subi v77 c2_i32_123
  let c4096_i32_130 : BitVec 32 := 4096#32
  let v281 : BitVec 32 := Scalar.muli v270 c4096_i32_130
  v281
def k0_cond6 (i : grid0.Coords) (v1 : BitVec 32) (v23 : BitVec 32) (k0_t2 : Fin (k0_t2_loop i v1 v23).trips) : BitVec 1 :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let v42 : BitVec 32 := Scalar.subi v18 v41
  let v69 : BitVec 32 := Scalar.subi v42 c0_i32_28
  let c1_i32_29 : BitVec 32 := 1#32
  let v71 : BitVec 32 := Scalar.divsi v69 c1_i32_29
  let v72 : BitVec 32 := Scalar.muli v71 c1_i32_29
  let v73 : BitVec 32 := Scalar.addi c0_i32_28 v72
  let c1_i32_31 : BitVec 32 := 1#32
  let arg14 : BitVec 32 := Scf.iv v73 c1_i32_31 k0_t2
  let v77 : BitVec 32 := Scalar.addi v41 arg14
  let c2_i32_55 : BitVec 32 := 2#32
  let v119 : BitVec 1 := Scalar.cmpi .sge v77 c2_i32_55
  let v120 : BitVec 32 := Scalar.extui v119
  let c0_i32_56 : BitVec 32 := 0#32
  let v121 : BitVec 1 := Scalar.cmpi .ne v120 c0_i32_56
  v121

def k0_off22 (i : grid0.Coords) (v1 : BitVec 32) (v23 : BitVec 32) (k0_t2 : Fin (k0_t2_loop i v1 v23).trips) : Fin 1 → Nat :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let v42 : BitVec 32 := Scalar.subi v18 v41
  let v69 : BitVec 32 := Scalar.subi v42 c0_i32_28
  let c1_i32_29 : BitVec 32 := 1#32
  let v71 : BitVec 32 := Scalar.divsi v69 c1_i32_29
  let v72 : BitVec 32 := Scalar.muli v71 c1_i32_29
  let v73 : BitVec 32 := Scalar.addi c0_i32_28 v72
  let c1_i32_31 : BitVec 32 := 1#32
  let arg14 : BitVec 32 := Scf.iv v73 c1_i32_31 k0_t2
  let v77 : BitVec 32 := Scalar.addi v41 arg14
  let c2_i32_123 : BitVec 32 := 2#32
  let v270 : BitVec 32 := Scalar.subi v77 c2_i32_123
  let c2_i32_131 : BitVec 32 := 2#32
  let c0_i32_132 : BitVec 32 := 0#32
  let v283 : BitVec 1 := Scalar.cmpi .eq c2_i32_131 c0_i32_132
  let c1_i32_133 : BitVec 32 := 1#32
  let v284 : BitVec 32 := Scalar.select v283 c1_i32_133 c2_i32_131
  let v285 : BitVec 32 := Scalar.remsi v270 v284
  let c0_i32_135 : BitVec 32 := 0#32
  let v287 : BitVec 1 := Scalar.cmpi .slt v285 c0_i32_135
  let c0_i32_136 : BitVec 32 := 0#32
  let v288 : BitVec 1 := Scalar.cmpi .slt v284 c0_i32_136
  let v289 : BitVec 1 := Scalar.xori v287 v288
  let c0_i32_134 : BitVec 32 := 0#32
  let v286 : BitVec 1 := Scalar.cmpi .ne v285 c0_i32_134
  let v290 : BitVec 1 := Scalar.andi v289 v286
  let v291 : BitVec 32 := Scalar.addi v285 v284
  let v292 : BitVec 32 := Scalar.select v290 v291 v285
  ![v292.toNat]
def k0_off23 (i : grid0.Coords) (v1 : BitVec 32) (v23 : BitVec 32) (k0_t2 : Fin (k0_t2_loop i v1 v23).trips) : Fin 2 → Nat :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let v42 : BitVec 32 := Scalar.subi v18 v41
  let v69 : BitVec 32 := Scalar.subi v42 c0_i32_28
  let c1_i32_29 : BitVec 32 := 1#32
  let v71 : BitVec 32 := Scalar.divsi v69 c1_i32_29
  let v72 : BitVec 32 := Scalar.muli v71 c1_i32_29
  let v73 : BitVec 32 := Scalar.addi c0_i32_28 v72
  let c1_i32_31 : BitVec 32 := 1#32
  let arg14 : BitVec 32 := Scf.iv v73 c1_i32_31 k0_t2
  let v77 : BitVec 32 := Scalar.addi v41 arg14
  let c2_i32_123 : BitVec 32 := 2#32
  let v270 : BitVec 32 := Scalar.subi v77 c2_i32_123
  let c4096_i32_130 : BitVec 32 := 4096#32
  let v281 : BitVec 32 := Scalar.muli v270 c4096_i32_130
  let v282 : BitVec 32 := v281
  let c0_i32_137 : BitVec 32 := 0#32
  ![v282.toNat, 0]
def k0_off24 (i : grid0.Coords) (v1 : BitVec 32) (v23 : BitVec 32) (k0_t2 : Fin (k0_t2_loop i v1 v23).trips) : Fin 3 → Nat :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let v42 : BitVec 32 := Scalar.subi v18 v41
  let v69 : BitVec 32 := Scalar.subi v42 c0_i32_28
  let c1_i32_29 : BitVec 32 := 1#32
  let v71 : BitVec 32 := Scalar.divsi v69 c1_i32_29
  let v72 : BitVec 32 := Scalar.muli v71 c1_i32_29
  let v73 : BitVec 32 := Scalar.addi c0_i32_28 v72
  let c1_i32_31 : BitVec 32 := 1#32
  let arg14 : BitVec 32 := Scf.iv v73 c1_i32_31 k0_t2
  let v77 : BitVec 32 := Scalar.addi v41 arg14
  let c2_i32_123 : BitVec 32 := 2#32
  let v270 : BitVec 32 := Scalar.subi v77 c2_i32_123
  let c2_i32_124 : BitVec 32 := 2#32
  let c0_i32_125 : BitVec 32 := 0#32
  let v271 : BitVec 1 := Scalar.cmpi .eq c2_i32_124 c0_i32_125
  let c1_i32_126 : BitVec 32 := 1#32
  let v272 : BitVec 32 := Scalar.select v271 c1_i32_126 c2_i32_124
  let v273 : BitVec 32 := Scalar.remsi v270 v272
  let c0_i32_128 : BitVec 32 := 0#32
  let v275 : BitVec 1 := Scalar.cmpi .slt v273 c0_i32_128
  let c0_i32_129 : BitVec 32 := 0#32
  let v276 : BitVec 1 := Scalar.cmpi .slt v272 c0_i32_129
  let v277 : BitVec 1 := Scalar.xori v275 v276
  let c0_i32_127 : BitVec 32 := 0#32
  let v274 : BitVec 1 := Scalar.cmpi .ne v273 c0_i32_127
  let v278 : BitVec 1 := Scalar.andi v277 v274
  let v279 : BitVec 32 := Scalar.addi v273 v272
  let v280 : BitVec 32 := Scalar.select v278 v279 v273
  let c0_i32_138 : BitVec 32 := 0#32
  let c0_i32_139 : BitVec 32 := 0#32
  ![v280.toNat, 0, 0]
def k0_off25 (i : grid0.Coords) (v1 : BitVec 32) (v23 : BitVec 32) (k0_t2 : Fin (k0_t2_loop i v1 v23).trips) : Fin 4 → Nat :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let v42 : BitVec 32 := Scalar.subi v18 v41
  let v69 : BitVec 32 := Scalar.subi v42 c0_i32_28
  let c1_i32_29 : BitVec 32 := 1#32
  let v71 : BitVec 32 := Scalar.divsi v69 c1_i32_29
  let v72 : BitVec 32 := Scalar.muli v71 c1_i32_29
  let v73 : BitVec 32 := Scalar.addi c0_i32_28 v72
  let c1_i32_31 : BitVec 32 := 1#32
  let arg14 : BitVec 32 := Scf.iv v73 c1_i32_31 k0_t2
  let v77 : BitVec 32 := Scalar.addi v41 arg14
  let c2_i32 : BitVec 32 := 2#32
  let c0_i32_33 : BitVec 32 := 0#32
  let v78 : BitVec 1 := Scalar.cmpi .eq c2_i32 c0_i32_33
  let c1_i32_34 : BitVec 32 := 1#32
  let v79 : BitVec 32 := Scalar.select v78 c1_i32_34 c2_i32
  let v80 : BitVec 32 := Scalar.remsi v77 v79
  let c0_i32_36 : BitVec 32 := 0#32
  let v82 : BitVec 1 := Scalar.cmpi .slt v80 c0_i32_36
  let c0_i32_37 : BitVec 32 := 0#32
  let v83 : BitVec 1 := Scalar.cmpi .slt v79 c0_i32_37
  let v84 : BitVec 1 := Scalar.xori v82 v83
  let c0_i32_35 : BitVec 32 := 0#32
  let v81 : BitVec 1 := Scalar.cmpi .ne v80 c0_i32_35
  let v85 : BitVec 1 := Scalar.andi v84 v81
  let v86 : BitVec 32 := Scalar.addi v80 v79
  let v87 : BitVec 32 := Scalar.select v85 v86 v80
  let c0_i32_57 : BitVec 32 := 0#32
  let c0_i32_58 : BitVec 32 := 0#32
  ![v87.toNat, 0, 0, 0]
def k0_off26 (i : grid0.Coords) (v1 : BitVec 32) (v23 : BitVec 32) (k0_t2 : Fin (k0_t2_loop i v1 v23).trips) : Fin 4 → Nat :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let v42 : BitVec 32 := Scalar.subi v18 v41
  let v69 : BitVec 32 := Scalar.subi v42 c0_i32_28
  let c1_i32_29 : BitVec 32 := 1#32
  let v71 : BitVec 32 := Scalar.divsi v69 c1_i32_29
  let v72 : BitVec 32 := Scalar.muli v71 c1_i32_29
  let v73 : BitVec 32 := Scalar.addi c0_i32_28 v72
  let c1_i32_31 : BitVec 32 := 1#32
  let arg14 : BitVec 32 := Scf.iv v73 c1_i32_31 k0_t2
  let v77 : BitVec 32 := Scalar.addi v41 arg14
  let c2_i32 : BitVec 32 := 2#32
  let c0_i32_33 : BitVec 32 := 0#32
  let v78 : BitVec 1 := Scalar.cmpi .eq c2_i32 c0_i32_33
  let c1_i32_34 : BitVec 32 := 1#32
  let v79 : BitVec 32 := Scalar.select v78 c1_i32_34 c2_i32
  let v80 : BitVec 32 := Scalar.remsi v77 v79
  let c0_i32_36 : BitVec 32 := 0#32
  let v82 : BitVec 1 := Scalar.cmpi .slt v80 c0_i32_36
  let c0_i32_37 : BitVec 32 := 0#32
  let v83 : BitVec 1 := Scalar.cmpi .slt v79 c0_i32_37
  let v84 : BitVec 1 := Scalar.xori v82 v83
  let c0_i32_35 : BitVec 32 := 0#32
  let v81 : BitVec 1 := Scalar.cmpi .ne v80 c0_i32_35
  let v85 : BitVec 1 := Scalar.andi v84 v81
  let v86 : BitVec 32 := Scalar.addi v80 v79
  let v87 : BitVec 32 := Scalar.select v85 v86 v80
  let c0_i32_61 : BitVec 32 := 0#32
  ![v87.toNat, 1, 0, 0]
def k0_off27 (i : grid0.Coords) (v1 : BitVec 32) (v23 : BitVec 32) (k0_t2 : Fin (k0_t2_loop i v1 v23).trips) : Fin 4 → Nat :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let v42 : BitVec 32 := Scalar.subi v18 v41
  let v69 : BitVec 32 := Scalar.subi v42 c0_i32_28
  let c1_i32_29 : BitVec 32 := 1#32
  let v71 : BitVec 32 := Scalar.divsi v69 c1_i32_29
  let v72 : BitVec 32 := Scalar.muli v71 c1_i32_29
  let v73 : BitVec 32 := Scalar.addi c0_i32_28 v72
  let c1_i32_31 : BitVec 32 := 1#32
  let arg14 : BitVec 32 := Scf.iv v73 c1_i32_31 k0_t2
  let v77 : BitVec 32 := Scalar.addi v41 arg14
  let c2_i32 : BitVec 32 := 2#32
  let c0_i32_33 : BitVec 32 := 0#32
  let v78 : BitVec 1 := Scalar.cmpi .eq c2_i32 c0_i32_33
  let c1_i32_34 : BitVec 32 := 1#32
  let v79 : BitVec 32 := Scalar.select v78 c1_i32_34 c2_i32
  let v80 : BitVec 32 := Scalar.remsi v77 v79
  let c0_i32_36 : BitVec 32 := 0#32
  let v82 : BitVec 1 := Scalar.cmpi .slt v80 c0_i32_36
  let c0_i32_37 : BitVec 32 := 0#32
  let v83 : BitVec 1 := Scalar.cmpi .slt v79 c0_i32_37
  let v84 : BitVec 1 := Scalar.xori v82 v83
  let c0_i32_35 : BitVec 32 := 0#32
  let v81 : BitVec 1 := Scalar.cmpi .ne v80 c0_i32_35
  let v85 : BitVec 1 := Scalar.andi v84 v81
  let v86 : BitVec 32 := Scalar.addi v80 v79
  let v87 : BitVec 32 := Scalar.select v85 v86 v80
  let c0_i32_64 : BitVec 32 := 0#32
  ![v87.toNat, 2, 0, 0]
def k0_off28 (i : grid0.Coords) (v1 : BitVec 32) (v23 : BitVec 32) (k0_t2 : Fin (k0_t2_loop i v1 v23).trips) : Fin 4 → Nat :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let v42 : BitVec 32 := Scalar.subi v18 v41
  let v69 : BitVec 32 := Scalar.subi v42 c0_i32_28
  let c1_i32_29 : BitVec 32 := 1#32
  let v71 : BitVec 32 := Scalar.divsi v69 c1_i32_29
  let v72 : BitVec 32 := Scalar.muli v71 c1_i32_29
  let v73 : BitVec 32 := Scalar.addi c0_i32_28 v72
  let c1_i32_31 : BitVec 32 := 1#32
  let arg14 : BitVec 32 := Scf.iv v73 c1_i32_31 k0_t2
  let v77 : BitVec 32 := Scalar.addi v41 arg14
  let c2_i32 : BitVec 32 := 2#32
  let c0_i32_33 : BitVec 32 := 0#32
  let v78 : BitVec 1 := Scalar.cmpi .eq c2_i32 c0_i32_33
  let c1_i32_34 : BitVec 32 := 1#32
  let v79 : BitVec 32 := Scalar.select v78 c1_i32_34 c2_i32
  let v80 : BitVec 32 := Scalar.remsi v77 v79
  let c0_i32_36 : BitVec 32 := 0#32
  let v82 : BitVec 1 := Scalar.cmpi .slt v80 c0_i32_36
  let c0_i32_37 : BitVec 32 := 0#32
  let v83 : BitVec 1 := Scalar.cmpi .slt v79 c0_i32_37
  let v84 : BitVec 1 := Scalar.xori v82 v83
  let c0_i32_35 : BitVec 32 := 0#32
  let v81 : BitVec 1 := Scalar.cmpi .ne v80 c0_i32_35
  let v85 : BitVec 1 := Scalar.andi v84 v81
  let v86 : BitVec 32 := Scalar.addi v80 v79
  let v87 : BitVec 32 := Scalar.select v85 v86 v80
  let c0_i32_67 : BitVec 32 := 0#32
  ![v87.toNat, 3, 0, 0]
def k0_mult9 (i : grid0.Coords) (v1 : BitVec 32) (v23 : BitVec 32) (k0_t2 : Fin (k0_t2_loop i v1 v23).trips) : BitVec 32 :=
  let arg0 : BitVec 32 := BitVec.ofNat 32 (i 0).val
  let c0_i32_4 : BitVec 32 := 0#32
  let v19 : BitVec 1 := Scalar.cmpi .eq arg0 c0_i32_4
  let c0_i32_14 : BitVec 32 := 0#32
  let c0_i32_8 : BitVec 32 := 0#32
  let v25 : BitVec 1 := Scalar.cmpi .sgt v23 c0_i32_8
  let v26 : BitVec 32 := Scalar.extui v25
  let c0_i32_9 : BitVec 32 := 0#32
  let v27 : BitVec 1 := Scalar.cmpi .slt v23 c0_i32_9
  let v28 : BitVec 32 := Scalar.extui v27
  let v29 : BitVec 32 := Scalar.subi v26 v28
  let c512_i32_7 : BitVec 32 := 512#32
  let c0_i32_10 : BitVec 32 := 0#32
  let v30 : BitVec 1 := Scalar.cmpi .sgt c512_i32_7 c0_i32_10
  let v31 : BitVec 32 := Scalar.extui v30
  let c0_i32_11 : BitVec 32 := 0#32
  let v32 : BitVec 1 := Scalar.cmpi .slt c512_i32_7 c0_i32_11
  let v33 : BitVec 32 := Scalar.extui v32
  let v34 : BitVec 32 := Scalar.subi v31 v33
  let v35 : BitVec 1 := Scalar.cmpi .ne v29 v34
  let v36 : BitVec 32 := Scalar.remsi v23 c512_i32_7
  let c0_i32_12 : BitVec 32 := 0#32
  let v37 : BitVec 1 := Scalar.cmpi .ne v36 c0_i32_12
  let v38 : BitVec 1 := Scalar.andi v35 v37
  let v24 : BitVec 32 := Scalar.divsi v23 c512_i32_7
  let c1_i32_13 : BitVec 32 := 1#32
  let v39 : BitVec 32 := Scalar.subi v24 c1_i32_13
  let v40 : BitVec 32 := Scalar.select v38 v39 v24
  let v41 : BitVec 32 := Scalar.select v19 c0_i32_14 v40
  let c0_i32_28 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let v42 : BitVec 32 := Scalar.subi v18 v41
  let v69 : BitVec 32 := Scalar.subi v42 c0_i32_28
  let c1_i32_29 : BitVec 32 := 1#32
  let v71 : BitVec 32 := Scalar.divsi v69 c1_i32_29
  let v72 : BitVec 32 := Scalar.muli v71 c1_i32_29
  let v73 : BitVec 32 := Scalar.addi c0_i32_28 v72
  let c1_i32_31 : BitVec 32 := 1#32
  let arg14 : BitVec 32 := Scf.iv v73 c1_i32_31 k0_t2
  let v77 : BitVec 32 := Scalar.addi v41 arg14
  let c4096_i32_113 : BitVec 32 := 4096#32
  let v253 : BitVec 32 := Scalar.muli v77 c4096_i32_113
  v253

def k0_chk1_0 (i : grid0.Coords) (v1 : BitVec 32) (v23 : BitVec 32) : Prop :=
  ((k0_t1_loop i v1 v23).OK) ∧
  (∀ k0_t1 : Fin (k0_t1_loop i v1 v23).trips, 4096 ∣ (k0_mult3 i v1 v23 k0_t1).toNat) ∧
  (∀ k0_t1 : Fin (k0_t1_loop i v1 v23).trips, ∀ a, (k0_off6 i v1 v23 k0_t1) a + S1.size a ≤ S2.size a) ∧
  (∀ k0_t1 : Fin (k0_t1_loop i v1 v23).trips, ∀ a, (k0_off7 i v1 v23 k0_t1) a + S1x4096x128.size a ≤ S2x4096x128.size a) ∧
  (∀ k0_t1 : Fin (k0_t1_loop i v1 v23).trips, ∀ a, (k0_off8 i v1 v23 k0_t1) a + S4096x128.size a ≤ S651264x128.size a) ∧
  (∀ k0_t1 : Fin (k0_t1_loop i v1 v23).trips, ∀ (hinb : ∀ a, (k0_off8 i v1 v23 k0_t1) a + S4096x128.size a ≤ S651264x128.size a), (Rect.unit (s := S651264x128) (k0_off8 i v1 v23 k0_t1) S4096x128.size hinb).WholeWords (EltTy.packing .bf16)) ∧
  (∀ k0_t1 : Fin (k0_t1_loop i v1 v23).trips, ∀ (hinb : ∀ a, (k0_off7 i v1 v23 k0_t1) a + S1x4096x128.size a ≤ S2x4096x128.size a), (Rect.unit (s := S2x4096x128) (k0_off7 i v1 v23 k0_t1) S1x4096x128.size hinb).WholeWords (EltTy.packing .bf16)) ∧
  (∀ k0_t1 : Fin (k0_t1_loop i v1 v23).trips, ∀ (k0_h4 : k0_cond4 i v1 v23 k0_t1 = 1#1), 4096 ∣ (k0_mult4 i v1 v23 k0_t1).toNat) ∧
  (∀ k0_t1 : Fin (k0_t1_loop i v1 v23).trips, ∀ (k0_h4 : k0_cond4 i v1 v23 k0_t1 = 1#1), ∀ a, (k0_off9 i v1 v23 k0_t1) a + S1.size a ≤ S2.size a) ∧
  (∀ k0_t1 : Fin (k0_t1_loop i v1 v23).trips, ∀ (k0_h4 : k0_cond4 i v1 v23 k0_t1 = 1#1), ∀ a, (k0_off10 i v1 v23 k0_t1) a + S4096x128.size a ≤ S651264x128.size a) ∧
  (∀ k0_t1 : Fin (k0_t1_loop i v1 v23).trips, ∀ (k0_h4 : k0_cond4 i v1 v23 k0_t1 = 1#1), ∀ a, (k0_off11 i v1 v23 k0_t1) a + S1x4096x128.size a ≤ S2x4096x128.size a) ∧
  (∀ k0_t1 : Fin (k0_t1_loop i v1 v23).trips, ∀ (k0_h4 : k0_cond4 i v1 v23 k0_t1 = 1#1), ∀ (hinb : ∀ a, (k0_off11 i v1 v23 k0_t1) a + S1x4096x128.size a ≤ S2x4096x128.size a), (Rect.unit (s := S2x4096x128) (k0_off11 i v1 v23 k0_t1) S1x4096x128.size hinb).WholeWords (EltTy.packing .bf16)) ∧
  (∀ k0_t1 : Fin (k0_t1_loop i v1 v23).trips, ∀ (k0_h4 : k0_cond4 i v1 v23 k0_t1 = 1#1), ∀ (hinb : ∀ a, (k0_off10 i v1 v23 k0_t1) a + S4096x128.size a ≤ S651264x128.size a), (Rect.unit (s := S651264x128) (k0_off10 i v1 v23 k0_t1) S4096x128.size hinb).WholeWords (EltTy.packing .bf16)) ∧
  (∀ k0_t1 : Fin (k0_t1_loop i v1 v23).trips, ∀ a, S1x512x2x128.size a = 0 ∨ (k0_off12 i v1 v23 k0_t1) a + (![1, 4, 1, 1] : Fin 4 → Nat) a * (S1x512x2x128.size a - 1) < S2x2048x2x128.size a) ∧
  (∀ k0_t1 : Fin (k0_t1_loop i v1 v23).trips, ∀ a, S1x512x2x128.size a = 0 ∨ (k0_off13 i v1 v23 k0_t1) a + (![1, 4, 1, 1] : Fin 4 → Nat) a * (S1x512x2x128.size a - 1) < S2x2048x2x128.size a) ∧
  (∀ k0_t1 : Fin (k0_t1_loop i v1 v23).trips, ∀ a, S1x512x2x128.size a = 0 ∨ (k0_off14 i v1 v23 k0_t1) a + (![1, 4, 1, 1] : Fin 4 → Nat) a * (S1x512x2x128.size a - 1) < S2x2048x2x128.size a) ∧
  (∀ k0_t1 : Fin (k0_t1_loop i v1 v23).trips, ∀ a, S1x512x2x128.size a = 0 ∨ (k0_off15 i v1 v23 k0_t1) a + (![1, 4, 1, 1] : Fin 4 → Nat) a * (S1x512x2x128.size a - 1) < S2x2048x2x128.size a) ∧
  (∀ k0_t1 : Fin (k0_t1_loop i v1 v23).trips, S2x2048x2x128.PackedRowsAt (EltTy.packing .bf16) (k0_off12 i v1 v23 k0_t1) S1x512x2x128.size ![1, 4, 1, 1]) ∧
  (∀ k0_t1 : Fin (k0_t1_loop i v1 v23).trips, S2x2048x2x128.PackedRowsAt (EltTy.packing .bf16) (k0_off13 i v1 v23 k0_t1) S1x512x2x128.size ![1, 4, 1, 1]) ∧
  (∀ k0_t1 : Fin (k0_t1_loop i v1 v23).trips, S2x2048x2x128.PackedRowsAt (EltTy.packing .bf16) (k0_off14 i v1 v23 k0_t1) S1x512x2x128.size ![1, 4, 1, 1]) ∧
  (∀ k0_t1 : Fin (k0_t1_loop i v1 v23).trips, S2x2048x2x128.PackedRowsAt (EltTy.packing .bf16) (k0_off15 i v1 v23 k0_t1) S1x512x2x128.size ![1, 4, 1, 1]) ∧
  (∀ k0_t1 : Fin (k0_t1_loop i v1 v23).trips, 4096 ∣ (k0_mult5 i v1 v23 k0_t1).toNat) ∧
  ((k0_t2_loop i v1 v23).OK) ∧
  (∀ k0_t2 : Fin (k0_t2_loop i v1 v23).trips, 4096 ∣ (k0_mult7 i v1 v23 k0_t2).toNat) ∧
  (∀ k0_t2 : Fin (k0_t2_loop i v1 v23).trips, ∀ a, (k0_off19 i v1 v23 k0_t2) a + S1.size a ≤ S2.size a) ∧
  (∀ k0_t2 : Fin (k0_t2_loop i v1 v23).trips, ∀ a, (k0_off20 i v1 v23 k0_t2) a + S1x4096x128.size a ≤ S2x4096x128.size a) ∧
  (∀ k0_t2 : Fin (k0_t2_loop i v1 v23).trips, ∀ a, (k0_off21 i v1 v23 k0_t2) a + S4096x128.size a ≤ S651264x128.size a) ∧
  (∀ k0_t2 : Fin (k0_t2_loop i v1 v23).trips, ∀ (hinb : ∀ a, (k0_off21 i v1 v23 k0_t2) a + S4096x128.size a ≤ S651264x128.size a), (Rect.unit (s := S651264x128) (k0_off21 i v1 v23 k0_t2) S4096x128.size hinb).WholeWords (EltTy.packing .bf16)) ∧
  (∀ k0_t2 : Fin (k0_t2_loop i v1 v23).trips, ∀ (hinb : ∀ a, (k0_off20 i v1 v23 k0_t2) a + S1x4096x128.size a ≤ S2x4096x128.size a), (Rect.unit (s := S2x4096x128) (k0_off20 i v1 v23 k0_t2) S1x4096x128.size hinb).WholeWords (EltTy.packing .bf16)) ∧
  (∀ k0_t2 : Fin (k0_t2_loop i v1 v23).trips, ∀ (k0_h6 : k0_cond6 i v1 v23 k0_t2 = 1#1), 4096 ∣ (k0_mult8 i v1 v23 k0_t2).toNat) ∧
  (∀ k0_t2 : Fin (k0_t2_loop i v1 v23).trips, ∀ (k0_h6 : k0_cond6 i v1 v23 k0_t2 = 1#1), ∀ a, (k0_off22 i v1 v23 k0_t2) a + S1.size a ≤ S2.size a) ∧
  (∀ k0_t2 : Fin (k0_t2_loop i v1 v23).trips, ∀ (k0_h6 : k0_cond6 i v1 v23 k0_t2 = 1#1), ∀ a, (k0_off23 i v1 v23 k0_t2) a + S4096x128.size a ≤ S651264x128.size a)
def k0_chk1_1 (i : grid0.Coords) (v1 : BitVec 32) (v23 : BitVec 32) : Prop :=
  (∀ k0_t2 : Fin (k0_t2_loop i v1 v23).trips, ∀ (k0_h6 : k0_cond6 i v1 v23 k0_t2 = 1#1), ∀ a, (k0_off24 i v1 v23 k0_t2) a + S1x4096x128.size a ≤ S2x4096x128.size a) ∧
  (∀ k0_t2 : Fin (k0_t2_loop i v1 v23).trips, ∀ (k0_h6 : k0_cond6 i v1 v23 k0_t2 = 1#1), ∀ (hinb : ∀ a, (k0_off24 i v1 v23 k0_t2) a + S1x4096x128.size a ≤ S2x4096x128.size a), (Rect.unit (s := S2x4096x128) (k0_off24 i v1 v23 k0_t2) S1x4096x128.size hinb).WholeWords (EltTy.packing .bf16)) ∧
  (∀ k0_t2 : Fin (k0_t2_loop i v1 v23).trips, ∀ (k0_h6 : k0_cond6 i v1 v23 k0_t2 = 1#1), ∀ (hinb : ∀ a, (k0_off23 i v1 v23 k0_t2) a + S4096x128.size a ≤ S651264x128.size a), (Rect.unit (s := S651264x128) (k0_off23 i v1 v23 k0_t2) S4096x128.size hinb).WholeWords (EltTy.packing .bf16)) ∧
  (∀ k0_t2 : Fin (k0_t2_loop i v1 v23).trips, ∀ a, S1x512x2x128.size a = 0 ∨ (k0_off25 i v1 v23 k0_t2) a + (![1, 4, 1, 1] : Fin 4 → Nat) a * (S1x512x2x128.size a - 1) < S2x2048x2x128.size a) ∧
  (∀ k0_t2 : Fin (k0_t2_loop i v1 v23).trips, ∀ a, S1x512x2x128.size a = 0 ∨ (k0_off26 i v1 v23 k0_t2) a + (![1, 4, 1, 1] : Fin 4 → Nat) a * (S1x512x2x128.size a - 1) < S2x2048x2x128.size a) ∧
  (∀ k0_t2 : Fin (k0_t2_loop i v1 v23).trips, ∀ a, S1x512x2x128.size a = 0 ∨ (k0_off27 i v1 v23 k0_t2) a + (![1, 4, 1, 1] : Fin 4 → Nat) a * (S1x512x2x128.size a - 1) < S2x2048x2x128.size a) ∧
  (∀ k0_t2 : Fin (k0_t2_loop i v1 v23).trips, ∀ a, S1x512x2x128.size a = 0 ∨ (k0_off28 i v1 v23 k0_t2) a + (![1, 4, 1, 1] : Fin 4 → Nat) a * (S1x512x2x128.size a - 1) < S2x2048x2x128.size a) ∧
  (∀ k0_t2 : Fin (k0_t2_loop i v1 v23).trips, S2x2048x2x128.PackedRowsAt (EltTy.packing .bf16) (k0_off25 i v1 v23 k0_t2) S1x512x2x128.size ![1, 4, 1, 1]) ∧
  (∀ k0_t2 : Fin (k0_t2_loop i v1 v23).trips, S2x2048x2x128.PackedRowsAt (EltTy.packing .bf16) (k0_off26 i v1 v23 k0_t2) S1x512x2x128.size ![1, 4, 1, 1]) ∧
  (∀ k0_t2 : Fin (k0_t2_loop i v1 v23).trips, S2x2048x2x128.PackedRowsAt (EltTy.packing .bf16) (k0_off27 i v1 v23 k0_t2) S1x512x2x128.size ![1, 4, 1, 1]) ∧
  (∀ k0_t2 : Fin (k0_t2_loop i v1 v23).trips, S2x2048x2x128.PackedRowsAt (EltTy.packing .bf16) (k0_off28 i v1 v23 k0_t2) S1x512x2x128.size ![1, 4, 1, 1]) ∧
  (∀ k0_t2 : Fin (k0_t2_loop i v1 v23).trips, 4096 ∣ (k0_mult9 i v1 v23 k0_t2).toNat)
def k0_chk1 (i : grid0.Coords) (v1 : BitVec 32) (v23 : BitVec 32) : Prop :=
  k0_chk1_0 i v1 v23 ∧
  k0_chk1_1 i v1 v23
theorem k0_t1_ok : ∀ (i : grid0.Coords) (v1 : BitVec 32) (v23 : BitVec 32) (k0_hw1 : k0_chk1 i v1 v23), (k0_t1_loop i v1 v23).OK := fun i v1 v23 k0_hw1 => k0_hw1.1.1
theorem k0_mult3_dvd : ∀ (i : grid0.Coords) (v1 : BitVec 32) (v23 : BitVec 32) (k0_hw1 : k0_chk1 i v1 v23) (k0_t1 : Fin (k0_t1_loop i v1 v23).trips), 4096 ∣ (k0_mult3 i v1 v23 k0_t1).toNat := fun i v1 v23 k0_hw1 k0_t1 => k0_hw1.1.2.1 k0_t1
theorem k0_off6_inb : ∀ (i : grid0.Coords) (v1 : BitVec 32) (v23 : BitVec 32) (k0_hw1 : k0_chk1 i v1 v23) (k0_t1 : Fin (k0_t1_loop i v1 v23).trips), ∀ a, (k0_off6 i v1 v23 k0_t1) a + S1.size a ≤ S2.size a := fun i v1 v23 k0_hw1 k0_t1 => k0_hw1.1.2.2.1 k0_t1
theorem k0_off7_inb : ∀ (i : grid0.Coords) (v1 : BitVec 32) (v23 : BitVec 32) (k0_hw1 : k0_chk1 i v1 v23) (k0_t1 : Fin (k0_t1_loop i v1 v23).trips), ∀ a, (k0_off7 i v1 v23 k0_t1) a + S1x4096x128.size a ≤ S2x4096x128.size a := fun i v1 v23 k0_hw1 k0_t1 => k0_hw1.1.2.2.2.1 k0_t1
theorem k0_off8_inb : ∀ (i : grid0.Coords) (v1 : BitVec 32) (v23 : BitVec 32) (k0_hw1 : k0_chk1 i v1 v23) (k0_t1 : Fin (k0_t1_loop i v1 v23).trips), ∀ a, (k0_off8 i v1 v23 k0_t1) a + S4096x128.size a ≤ S651264x128.size a := fun i v1 v23 k0_hw1 k0_t1 => k0_hw1.1.2.2.2.2.1 k0_t1
theorem k0_off8_wordsbf16 : ∀ (i : grid0.Coords) (v1 : BitVec 32) (v23 : BitVec 32) (k0_hw1 : k0_chk1 i v1 v23) (k0_t1 : Fin (k0_t1_loop i v1 v23).trips), (Rect.unit (s := S651264x128) (k0_off8 i v1 v23 k0_t1) S4096x128.size (k0_off8_inb i v1 v23 k0_hw1 k0_t1)).WholeWords (EltTy.packing .bf16) := fun i v1 v23 k0_hw1 k0_t1 => k0_hw1.1.2.2.2.2.2.1 k0_t1 (k0_off8_inb i v1 v23 k0_hw1 k0_t1)
theorem k0_off7_wordsbf16 : ∀ (i : grid0.Coords) (v1 : BitVec 32) (v23 : BitVec 32) (k0_hw1 : k0_chk1 i v1 v23) (k0_t1 : Fin (k0_t1_loop i v1 v23).trips), (Rect.unit (s := S2x4096x128) (k0_off7 i v1 v23 k0_t1) S1x4096x128.size (k0_off7_inb i v1 v23 k0_hw1 k0_t1)).WholeWords (EltTy.packing .bf16) := fun i v1 v23 k0_hw1 k0_t1 => k0_hw1.1.2.2.2.2.2.2.1 k0_t1 (k0_off7_inb i v1 v23 k0_hw1 k0_t1)
theorem k0_mult4_dvd : ∀ (i : grid0.Coords) (v1 : BitVec 32) (v23 : BitVec 32) (k0_hw1 : k0_chk1 i v1 v23) (k0_t1 : Fin (k0_t1_loop i v1 v23).trips), ∀ (k0_h4 : k0_cond4 i v1 v23 k0_t1 = 1#1), 4096 ∣ (k0_mult4 i v1 v23 k0_t1).toNat := fun i v1 v23 k0_hw1 k0_t1 k0_h4 => k0_hw1.1.2.2.2.2.2.2.2.1 k0_t1 k0_h4
theorem k0_off9_inb : ∀ (i : grid0.Coords) (v1 : BitVec 32) (v23 : BitVec 32) (k0_hw1 : k0_chk1 i v1 v23) (k0_t1 : Fin (k0_t1_loop i v1 v23).trips), ∀ (k0_h4 : k0_cond4 i v1 v23 k0_t1 = 1#1), ∀ a, (k0_off9 i v1 v23 k0_t1) a + S1.size a ≤ S2.size a := fun i v1 v23 k0_hw1 k0_t1 k0_h4 => k0_hw1.1.2.2.2.2.2.2.2.2.1 k0_t1 k0_h4
theorem k0_off10_inb : ∀ (i : grid0.Coords) (v1 : BitVec 32) (v23 : BitVec 32) (k0_hw1 : k0_chk1 i v1 v23) (k0_t1 : Fin (k0_t1_loop i v1 v23).trips), ∀ (k0_h4 : k0_cond4 i v1 v23 k0_t1 = 1#1), ∀ a, (k0_off10 i v1 v23 k0_t1) a + S4096x128.size a ≤ S651264x128.size a := fun i v1 v23 k0_hw1 k0_t1 k0_h4 => k0_hw1.1.2.2.2.2.2.2.2.2.2.1 k0_t1 k0_h4
theorem k0_off11_inb : ∀ (i : grid0.Coords) (v1 : BitVec 32) (v23 : BitVec 32) (k0_hw1 : k0_chk1 i v1 v23) (k0_t1 : Fin (k0_t1_loop i v1 v23).trips), ∀ (k0_h4 : k0_cond4 i v1 v23 k0_t1 = 1#1), ∀ a, (k0_off11 i v1 v23 k0_t1) a + S1x4096x128.size a ≤ S2x4096x128.size a := fun i v1 v23 k0_hw1 k0_t1 k0_h4 => k0_hw1.1.2.2.2.2.2.2.2.2.2.2.1 k0_t1 k0_h4
theorem k0_off11_wordsbf16 : ∀ (i : grid0.Coords) (v1 : BitVec 32) (v23 : BitVec 32) (k0_hw1 : k0_chk1 i v1 v23) (k0_t1 : Fin (k0_t1_loop i v1 v23).trips), ∀ (k0_h4 : k0_cond4 i v1 v23 k0_t1 = 1#1), (Rect.unit (s := S2x4096x128) (k0_off11 i v1 v23 k0_t1) S1x4096x128.size (k0_off11_inb i v1 v23 k0_hw1 k0_t1 k0_h4)).WholeWords (EltTy.packing .bf16) := fun i v1 v23 k0_hw1 k0_t1 k0_h4 => k0_hw1.1.2.2.2.2.2.2.2.2.2.2.2.1 k0_t1 k0_h4 (k0_off11_inb i v1 v23 k0_hw1 k0_t1 k0_h4)
theorem k0_off10_wordsbf16 : ∀ (i : grid0.Coords) (v1 : BitVec 32) (v23 : BitVec 32) (k0_hw1 : k0_chk1 i v1 v23) (k0_t1 : Fin (k0_t1_loop i v1 v23).trips), ∀ (k0_h4 : k0_cond4 i v1 v23 k0_t1 = 1#1), (Rect.unit (s := S651264x128) (k0_off10 i v1 v23 k0_t1) S4096x128.size (k0_off10_inb i v1 v23 k0_hw1 k0_t1 k0_h4)).WholeWords (EltTy.packing .bf16) := fun i v1 v23 k0_hw1 k0_t1 k0_h4 => k0_hw1.1.2.2.2.2.2.2.2.2.2.2.2.2.1 k0_t1 k0_h4 (k0_off10_inb i v1 v23 k0_hw1 k0_t1 k0_h4)
theorem k0_off12_inb : ∀ (i : grid0.Coords) (v1 : BitVec 32) (v23 : BitVec 32) (k0_hw1 : k0_chk1 i v1 v23) (k0_t1 : Fin (k0_t1_loop i v1 v23).trips), ∀ a, S1x512x2x128.size a = 0 ∨ (k0_off12 i v1 v23 k0_t1) a + (![1, 4, 1, 1] : Fin 4 → Nat) a * (S1x512x2x128.size a - 1) < S2x2048x2x128.size a := fun i v1 v23 k0_hw1 k0_t1 => k0_hw1.1.2.2.2.2.2.2.2.2.2.2.2.2.2.1 k0_t1
theorem k0_off13_inb : ∀ (i : grid0.Coords) (v1 : BitVec 32) (v23 : BitVec 32) (k0_hw1 : k0_chk1 i v1 v23) (k0_t1 : Fin (k0_t1_loop i v1 v23).trips), ∀ a, S1x512x2x128.size a = 0 ∨ (k0_off13 i v1 v23 k0_t1) a + (![1, 4, 1, 1] : Fin 4 → Nat) a * (S1x512x2x128.size a - 1) < S2x2048x2x128.size a := fun i v1 v23 k0_hw1 k0_t1 => k0_hw1.1.2.2.2.2.2.2.2.2.2.2.2.2.2.2.1 k0_t1
theorem k0_off14_inb : ∀ (i : grid0.Coords) (v1 : BitVec 32) (v23 : BitVec 32) (k0_hw1 : k0_chk1 i v1 v23) (k0_t1 : Fin (k0_t1_loop i v1 v23).trips), ∀ a, S1x512x2x128.size a = 0 ∨ (k0_off14 i v1 v23 k0_t1) a + (![1, 4, 1, 1] : Fin 4 → Nat) a * (S1x512x2x128.size a - 1) < S2x2048x2x128.size a := fun i v1 v23 k0_hw1 k0_t1 => k0_hw1.1.2.2.2.2.2.2.2.2.2.2.2.2.2.2.2.1 k0_t1
theorem k0_off15_inb : ∀ (i : grid0.Coords) (v1 : BitVec 32) (v23 : BitVec 32) (k0_hw1 : k0_chk1 i v1 v23) (k0_t1 : Fin (k0_t1_loop i v1 v23).trips), ∀ a, S1x512x2x128.size a = 0 ∨ (k0_off15 i v1 v23 k0_t1) a + (![1, 4, 1, 1] : Fin 4 → Nat) a * (S1x512x2x128.size a - 1) < S2x2048x2x128.size a := fun i v1 v23 k0_hw1 k0_t1 => k0_hw1.1.2.2.2.2.2.2.2.2.2.2.2.2.2.2.2.2.1 k0_t1
theorem k0_off12_packedatbf16 : ∀ (i : grid0.Coords) (v1 : BitVec 32) (v23 : BitVec 32) (k0_hw1 : k0_chk1 i v1 v23) (k0_t1 : Fin (k0_t1_loop i v1 v23).trips), S2x2048x2x128.PackedRowsAt (EltTy.packing .bf16) (k0_off12 i v1 v23 k0_t1) S1x512x2x128.size ![1, 4, 1, 1] := fun i v1 v23 k0_hw1 k0_t1 => k0_hw1.1.2.2.2.2.2.2.2.2.2.2.2.2.2.2.2.2.2.1 k0_t1
theorem k0_off13_packedatbf16 : ∀ (i : grid0.Coords) (v1 : BitVec 32) (v23 : BitVec 32) (k0_hw1 : k0_chk1 i v1 v23) (k0_t1 : Fin (k0_t1_loop i v1 v23).trips), S2x2048x2x128.PackedRowsAt (EltTy.packing .bf16) (k0_off13 i v1 v23 k0_t1) S1x512x2x128.size ![1, 4, 1, 1] := fun i v1 v23 k0_hw1 k0_t1 => k0_hw1.1.2.2.2.2.2.2.2.2.2.2.2.2.2.2.2.2.2.2.1 k0_t1
theorem k0_off14_packedatbf16 : ∀ (i : grid0.Coords) (v1 : BitVec 32) (v23 : BitVec 32) (k0_hw1 : k0_chk1 i v1 v23) (k0_t1 : Fin (k0_t1_loop i v1 v23).trips), S2x2048x2x128.PackedRowsAt (EltTy.packing .bf16) (k0_off14 i v1 v23 k0_t1) S1x512x2x128.size ![1, 4, 1, 1] := fun i v1 v23 k0_hw1 k0_t1 => k0_hw1.1.2.2.2.2.2.2.2.2.2.2.2.2.2.2.2.2.2.2.2.1 k0_t1
theorem k0_off15_packedatbf16 : ∀ (i : grid0.Coords) (v1 : BitVec 32) (v23 : BitVec 32) (k0_hw1 : k0_chk1 i v1 v23) (k0_t1 : Fin (k0_t1_loop i v1 v23).trips), S2x2048x2x128.PackedRowsAt (EltTy.packing .bf16) (k0_off15 i v1 v23 k0_t1) S1x512x2x128.size ![1, 4, 1, 1] := fun i v1 v23 k0_hw1 k0_t1 => k0_hw1.1.2.2.2.2.2.2.2.2.2.2.2.2.2.2.2.2.2.2.2.2.1 k0_t1
theorem k0_mult5_dvd : ∀ (i : grid0.Coords) (v1 : BitVec 32) (v23 : BitVec 32) (k0_hw1 : k0_chk1 i v1 v23) (k0_t1 : Fin (k0_t1_loop i v1 v23).trips), 4096 ∣ (k0_mult5 i v1 v23 k0_t1).toNat := fun i v1 v23 k0_hw1 k0_t1 => k0_hw1.1.2.2.2.2.2.2.2.2.2.2.2.2.2.2.2.2.2.2.2.2.2.1 k0_t1
theorem k0_t2_ok : ∀ (i : grid0.Coords) (v1 : BitVec 32) (v23 : BitVec 32) (k0_hw1 : k0_chk1 i v1 v23), (k0_t2_loop i v1 v23).OK := fun i v1 v23 k0_hw1 => k0_hw1.1.2.2.2.2.2.2.2.2.2.2.2.2.2.2.2.2.2.2.2.2.2.2.1
theorem k0_mult7_dvd : ∀ (i : grid0.Coords) (v1 : BitVec 32) (v23 : BitVec 32) (k0_hw1 : k0_chk1 i v1 v23) (k0_t2 : Fin (k0_t2_loop i v1 v23).trips), 4096 ∣ (k0_mult7 i v1 v23 k0_t2).toNat := fun i v1 v23 k0_hw1 k0_t2 => k0_hw1.1.2.2.2.2.2.2.2.2.2.2.2.2.2.2.2.2.2.2.2.2.2.2.2.1 k0_t2
theorem k0_off19_inb : ∀ (i : grid0.Coords) (v1 : BitVec 32) (v23 : BitVec 32) (k0_hw1 : k0_chk1 i v1 v23) (k0_t2 : Fin (k0_t2_loop i v1 v23).trips), ∀ a, (k0_off19 i v1 v23 k0_t2) a + S1.size a ≤ S2.size a := fun i v1 v23 k0_hw1 k0_t2 => k0_hw1.1.2.2.2.2.2.2.2.2.2.2.2.2.2.2.2.2.2.2.2.2.2.2.2.2.1 k0_t2
theorem k0_off20_inb : ∀ (i : grid0.Coords) (v1 : BitVec 32) (v23 : BitVec 32) (k0_hw1 : k0_chk1 i v1 v23) (k0_t2 : Fin (k0_t2_loop i v1 v23).trips), ∀ a, (k0_off20 i v1 v23 k0_t2) a + S1x4096x128.size a ≤ S2x4096x128.size a := fun i v1 v23 k0_hw1 k0_t2 => k0_hw1.1.2.2.2.2.2.2.2.2.2.2.2.2.2.2.2.2.2.2.2.2.2.2.2.2.2.1 k0_t2
theorem k0_off21_inb : ∀ (i : grid0.Coords) (v1 : BitVec 32) (v23 : BitVec 32) (k0_hw1 : k0_chk1 i v1 v23) (k0_t2 : Fin (k0_t2_loop i v1 v23).trips), ∀ a, (k0_off21 i v1 v23 k0_t2) a + S4096x128.size a ≤ S651264x128.size a := fun i v1 v23 k0_hw1 k0_t2 => k0_hw1.1.2.2.2.2.2.2.2.2.2.2.2.2.2.2.2.2.2.2.2.2.2.2.2.2.2.2.1 k0_t2
theorem k0_off21_wordsbf16 : ∀ (i : grid0.Coords) (v1 : BitVec 32) (v23 : BitVec 32) (k0_hw1 : k0_chk1 i v1 v23) (k0_t2 : Fin (k0_t2_loop i v1 v23).trips), (Rect.unit (s := S651264x128) (k0_off21 i v1 v23 k0_t2) S4096x128.size (k0_off21_inb i v1 v23 k0_hw1 k0_t2)).WholeWords (EltTy.packing .bf16) := fun i v1 v23 k0_hw1 k0_t2 => k0_hw1.1.2.2.2.2.2.2.2.2.2.2.2.2.2.2.2.2.2.2.2.2.2.2.2.2.2.2.2.1 k0_t2 (k0_off21_inb i v1 v23 k0_hw1 k0_t2)
theorem k0_off20_wordsbf16 : ∀ (i : grid0.Coords) (v1 : BitVec 32) (v23 : BitVec 32) (k0_hw1 : k0_chk1 i v1 v23) (k0_t2 : Fin (k0_t2_loop i v1 v23).trips), (Rect.unit (s := S2x4096x128) (k0_off20 i v1 v23 k0_t2) S1x4096x128.size (k0_off20_inb i v1 v23 k0_hw1 k0_t2)).WholeWords (EltTy.packing .bf16) := fun i v1 v23 k0_hw1 k0_t2 => k0_hw1.1.2.2.2.2.2.2.2.2.2.2.2.2.2.2.2.2.2.2.2.2.2.2.2.2.2.2.2.2.1 k0_t2 (k0_off20_inb i v1 v23 k0_hw1 k0_t2)
theorem k0_mult8_dvd : ∀ (i : grid0.Coords) (v1 : BitVec 32) (v23 : BitVec 32) (k0_hw1 : k0_chk1 i v1 v23) (k0_t2 : Fin (k0_t2_loop i v1 v23).trips), ∀ (k0_h6 : k0_cond6 i v1 v23 k0_t2 = 1#1), 4096 ∣ (k0_mult8 i v1 v23 k0_t2).toNat := fun i v1 v23 k0_hw1 k0_t2 k0_h6 => k0_hw1.1.2.2.2.2.2.2.2.2.2.2.2.2.2.2.2.2.2.2.2.2.2.2.2.2.2.2.2.2.2.1 k0_t2 k0_h6
theorem k0_off22_inb : ∀ (i : grid0.Coords) (v1 : BitVec 32) (v23 : BitVec 32) (k0_hw1 : k0_chk1 i v1 v23) (k0_t2 : Fin (k0_t2_loop i v1 v23).trips), ∀ (k0_h6 : k0_cond6 i v1 v23 k0_t2 = 1#1), ∀ a, (k0_off22 i v1 v23 k0_t2) a + S1.size a ≤ S2.size a := fun i v1 v23 k0_hw1 k0_t2 k0_h6 => k0_hw1.1.2.2.2.2.2.2.2.2.2.2.2.2.2.2.2.2.2.2.2.2.2.2.2.2.2.2.2.2.2.2.1 k0_t2 k0_h6
theorem k0_off23_inb : ∀ (i : grid0.Coords) (v1 : BitVec 32) (v23 : BitVec 32) (k0_hw1 : k0_chk1 i v1 v23) (k0_t2 : Fin (k0_t2_loop i v1 v23).trips), ∀ (k0_h6 : k0_cond6 i v1 v23 k0_t2 = 1#1), ∀ a, (k0_off23 i v1 v23 k0_t2) a + S4096x128.size a ≤ S651264x128.size a := fun i v1 v23 k0_hw1 k0_t2 k0_h6 => k0_hw1.1.2.2.2.2.2.2.2.2.2.2.2.2.2.2.2.2.2.2.2.2.2.2.2.2.2.2.2.2.2.2.2 k0_t2 k0_h6
theorem k0_off24_inb : ∀ (i : grid0.Coords) (v1 : BitVec 32) (v23 : BitVec 32) (k0_hw1 : k0_chk1 i v1 v23) (k0_t2 : Fin (k0_t2_loop i v1 v23).trips), ∀ (k0_h6 : k0_cond6 i v1 v23 k0_t2 = 1#1), ∀ a, (k0_off24 i v1 v23 k0_t2) a + S1x4096x128.size a ≤ S2x4096x128.size a := fun i v1 v23 k0_hw1 k0_t2 k0_h6 => k0_hw1.2.1 k0_t2 k0_h6
theorem k0_off24_wordsbf16 : ∀ (i : grid0.Coords) (v1 : BitVec 32) (v23 : BitVec 32) (k0_hw1 : k0_chk1 i v1 v23) (k0_t2 : Fin (k0_t2_loop i v1 v23).trips), ∀ (k0_h6 : k0_cond6 i v1 v23 k0_t2 = 1#1), (Rect.unit (s := S2x4096x128) (k0_off24 i v1 v23 k0_t2) S1x4096x128.size (k0_off24_inb i v1 v23 k0_hw1 k0_t2 k0_h6)).WholeWords (EltTy.packing .bf16) := fun i v1 v23 k0_hw1 k0_t2 k0_h6 => k0_hw1.2.2.1 k0_t2 k0_h6 (k0_off24_inb i v1 v23 k0_hw1 k0_t2 k0_h6)
theorem k0_off23_wordsbf16 : ∀ (i : grid0.Coords) (v1 : BitVec 32) (v23 : BitVec 32) (k0_hw1 : k0_chk1 i v1 v23) (k0_t2 : Fin (k0_t2_loop i v1 v23).trips), ∀ (k0_h6 : k0_cond6 i v1 v23 k0_t2 = 1#1), (Rect.unit (s := S651264x128) (k0_off23 i v1 v23 k0_t2) S4096x128.size (k0_off23_inb i v1 v23 k0_hw1 k0_t2 k0_h6)).WholeWords (EltTy.packing .bf16) := fun i v1 v23 k0_hw1 k0_t2 k0_h6 => k0_hw1.2.2.2.1 k0_t2 k0_h6 (k0_off23_inb i v1 v23 k0_hw1 k0_t2 k0_h6)
theorem k0_off25_inb : ∀ (i : grid0.Coords) (v1 : BitVec 32) (v23 : BitVec 32) (k0_hw1 : k0_chk1 i v1 v23) (k0_t2 : Fin (k0_t2_loop i v1 v23).trips), ∀ a, S1x512x2x128.size a = 0 ∨ (k0_off25 i v1 v23 k0_t2) a + (![1, 4, 1, 1] : Fin 4 → Nat) a * (S1x512x2x128.size a - 1) < S2x2048x2x128.size a := fun i v1 v23 k0_hw1 k0_t2 => k0_hw1.2.2.2.2.1 k0_t2
theorem k0_off26_inb : ∀ (i : grid0.Coords) (v1 : BitVec 32) (v23 : BitVec 32) (k0_hw1 : k0_chk1 i v1 v23) (k0_t2 : Fin (k0_t2_loop i v1 v23).trips), ∀ a, S1x512x2x128.size a = 0 ∨ (k0_off26 i v1 v23 k0_t2) a + (![1, 4, 1, 1] : Fin 4 → Nat) a * (S1x512x2x128.size a - 1) < S2x2048x2x128.size a := fun i v1 v23 k0_hw1 k0_t2 => k0_hw1.2.2.2.2.2.1 k0_t2
theorem k0_off27_inb : ∀ (i : grid0.Coords) (v1 : BitVec 32) (v23 : BitVec 32) (k0_hw1 : k0_chk1 i v1 v23) (k0_t2 : Fin (k0_t2_loop i v1 v23).trips), ∀ a, S1x512x2x128.size a = 0 ∨ (k0_off27 i v1 v23 k0_t2) a + (![1, 4, 1, 1] : Fin 4 → Nat) a * (S1x512x2x128.size a - 1) < S2x2048x2x128.size a := fun i v1 v23 k0_hw1 k0_t2 => k0_hw1.2.2.2.2.2.2.1 k0_t2
theorem k0_off28_inb : ∀ (i : grid0.Coords) (v1 : BitVec 32) (v23 : BitVec 32) (k0_hw1 : k0_chk1 i v1 v23) (k0_t2 : Fin (k0_t2_loop i v1 v23).trips), ∀ a, S1x512x2x128.size a = 0 ∨ (k0_off28 i v1 v23 k0_t2) a + (![1, 4, 1, 1] : Fin 4 → Nat) a * (S1x512x2x128.size a - 1) < S2x2048x2x128.size a := fun i v1 v23 k0_hw1 k0_t2 => k0_hw1.2.2.2.2.2.2.2.1 k0_t2
theorem k0_off25_packedatbf16 : ∀ (i : grid0.Coords) (v1 : BitVec 32) (v23 : BitVec 32) (k0_hw1 : k0_chk1 i v1 v23) (k0_t2 : Fin (k0_t2_loop i v1 v23).trips), S2x2048x2x128.PackedRowsAt (EltTy.packing .bf16) (k0_off25 i v1 v23 k0_t2) S1x512x2x128.size ![1, 4, 1, 1] := fun i v1 v23 k0_hw1 k0_t2 => k0_hw1.2.2.2.2.2.2.2.2.1 k0_t2
theorem k0_off26_packedatbf16 : ∀ (i : grid0.Coords) (v1 : BitVec 32) (v23 : BitVec 32) (k0_hw1 : k0_chk1 i v1 v23) (k0_t2 : Fin (k0_t2_loop i v1 v23).trips), S2x2048x2x128.PackedRowsAt (EltTy.packing .bf16) (k0_off26 i v1 v23 k0_t2) S1x512x2x128.size ![1, 4, 1, 1] := fun i v1 v23 k0_hw1 k0_t2 => k0_hw1.2.2.2.2.2.2.2.2.2.1 k0_t2
theorem k0_off27_packedatbf16 : ∀ (i : grid0.Coords) (v1 : BitVec 32) (v23 : BitVec 32) (k0_hw1 : k0_chk1 i v1 v23) (k0_t2 : Fin (k0_t2_loop i v1 v23).trips), S2x2048x2x128.PackedRowsAt (EltTy.packing .bf16) (k0_off27 i v1 v23 k0_t2) S1x512x2x128.size ![1, 4, 1, 1] := fun i v1 v23 k0_hw1 k0_t2 => k0_hw1.2.2.2.2.2.2.2.2.2.2.1 k0_t2
theorem k0_off28_packedatbf16 : ∀ (i : grid0.Coords) (v1 : BitVec 32) (v23 : BitVec 32) (k0_hw1 : k0_chk1 i v1 v23) (k0_t2 : Fin (k0_t2_loop i v1 v23).trips), S2x2048x2x128.PackedRowsAt (EltTy.packing .bf16) (k0_off28 i v1 v23 k0_t2) S1x512x2x128.size ![1, 4, 1, 1] := fun i v1 v23 k0_hw1 k0_t2 => k0_hw1.2.2.2.2.2.2.2.2.2.2.2.1 k0_t2
theorem k0_mult9_dvd : ∀ (i : grid0.Coords) (v1 : BitVec 32) (v23 : BitVec 32) (k0_hw1 : k0_chk1 i v1 v23) (k0_t2 : Fin (k0_t2_loop i v1 v23).trips), 4096 ∣ (k0_mult9 i v1 v23 k0_t2).toNat := fun i v1 v23 k0_hw1 k0_t2 => k0_hw1.2.2.2.2.2.2.2.2.2.2.2.2 k0_t2

def k0_cond7 (i : grid0.Coords) : BitVec 1 :=
  let arg0 : BitVec 32 := BitVec.ofNat 32 (i 0).val
  let c31_i32 : BitVec 32 := 31#32
  let v74 : BitVec 1 := Scalar.cmpi .eq arg0 c31_i32
  let v75 : BitVec 32 := Scalar.extui v74
  let c0_i32_32 : BitVec 32 := 0#32
  let v76 : BitVec 1 := Scalar.cmpi .ne v75 c0_i32_32
  v76

def k0_mult10 (v43 : BitVec 32) : BitVec 32 :=
  let c0_i32_16 : BitVec 32 := 0#32
  let v45 : BitVec 1 := Scalar.cmpi .sgt v43 c0_i32_16
  let v46 : BitVec 32 := Scalar.extui v45
  let c0_i32_17 : BitVec 32 := 0#32
  let v47 : BitVec 1 := Scalar.cmpi .slt v43 c0_i32_17
  let v48 : BitVec 32 := Scalar.extui v47
  let v49 : BitVec 32 := Scalar.subi v46 v48
  let c512_i32_15 : BitVec 32 := 512#32
  let c0_i32_18 : BitVec 32 := 0#32
  let v50 : BitVec 1 := Scalar.cmpi .sgt c512_i32_15 c0_i32_18
  let v51 : BitVec 32 := Scalar.extui v50
  let c0_i32_19 : BitVec 32 := 0#32
  let v52 : BitVec 1 := Scalar.cmpi .slt c512_i32_15 c0_i32_19
  let v53 : BitVec 32 := Scalar.extui v52
  let v54 : BitVec 32 := Scalar.subi v51 v53
  let v55 : BitVec 1 := Scalar.cmpi .ne v49 v54
  let v56 : BitVec 32 := Scalar.remsi v43 c512_i32_15
  let c0_i32_20 : BitVec 32 := 0#32
  let v57 : BitVec 1 := Scalar.cmpi .ne v56 c0_i32_20
  let v58 : BitVec 1 := Scalar.andi v55 v57
  let v44 : BitVec 32 := Scalar.divsi v43 c512_i32_15
  let c1_i32_21 : BitVec 32 := 1#32
  let v59 : BitVec 32 := Scalar.subi v44 c1_i32_21
  let v60 : BitVec 32 := Scalar.select v58 v59 v44
  let c2_i32_47 : BitVec 32 := 2#32
  let v97 : BitVec 32 := Scalar.subi v60 c2_i32_47
  let c4096_i32 : BitVec 32 := 4096#32
  let v108 : BitVec 32 := Scalar.muli v97 c4096_i32
  v108
def k0_cond8 (v43 : BitVec 32) : BitVec 1 :=
  let c0_i32_16 : BitVec 32 := 0#32
  let v45 : BitVec 1 := Scalar.cmpi .sgt v43 c0_i32_16
  let v46 : BitVec 32 := Scalar.extui v45
  let c0_i32_17 : BitVec 32 := 0#32
  let v47 : BitVec 1 := Scalar.cmpi .slt v43 c0_i32_17
  let v48 : BitVec 32 := Scalar.extui v47
  let v49 : BitVec 32 := Scalar.subi v46 v48
  let c512_i32_15 : BitVec 32 := 512#32
  let c0_i32_18 : BitVec 32 := 0#32
  let v50 : BitVec 1 := Scalar.cmpi .sgt c512_i32_15 c0_i32_18
  let v51 : BitVec 32 := Scalar.extui v50
  let c0_i32_19 : BitVec 32 := 0#32
  let v52 : BitVec 1 := Scalar.cmpi .slt c512_i32_15 c0_i32_19
  let v53 : BitVec 32 := Scalar.extui v52
  let v54 : BitVec 32 := Scalar.subi v51 v53
  let v55 : BitVec 1 := Scalar.cmpi .ne v49 v54
  let v56 : BitVec 32 := Scalar.remsi v43 c512_i32_15
  let c0_i32_20 : BitVec 32 := 0#32
  let v57 : BitVec 1 := Scalar.cmpi .ne v56 c0_i32_20
  let v58 : BitVec 1 := Scalar.andi v55 v57
  let v44 : BitVec 32 := Scalar.divsi v43 c512_i32_15
  let c1_i32_21 : BitVec 32 := 1#32
  let v59 : BitVec 32 := Scalar.subi v44 c1_i32_21
  let v60 : BitVec 32 := Scalar.select v58 v59 v44
  let c2_i32 : BitVec 32 := 2#32
  let v77 : BitVec 1 := Scalar.cmpi .sge v60 c2_i32
  let v78 : BitVec 32 := Scalar.extui v77
  let c0_i32_33 : BitVec 32 := 0#32
  let v79 : BitVec 1 := Scalar.cmpi .ne v78 c0_i32_33
  v79

def k0_off29 (v43 : BitVec 32) : Fin 1 → Nat :=
  let c0_i32_16 : BitVec 32 := 0#32
  let v45 : BitVec 1 := Scalar.cmpi .sgt v43 c0_i32_16
  let v46 : BitVec 32 := Scalar.extui v45
  let c0_i32_17 : BitVec 32 := 0#32
  let v47 : BitVec 1 := Scalar.cmpi .slt v43 c0_i32_17
  let v48 : BitVec 32 := Scalar.extui v47
  let v49 : BitVec 32 := Scalar.subi v46 v48
  let c512_i32_15 : BitVec 32 := 512#32
  let c0_i32_18 : BitVec 32 := 0#32
  let v50 : BitVec 1 := Scalar.cmpi .sgt c512_i32_15 c0_i32_18
  let v51 : BitVec 32 := Scalar.extui v50
  let c0_i32_19 : BitVec 32 := 0#32
  let v52 : BitVec 1 := Scalar.cmpi .slt c512_i32_15 c0_i32_19
  let v53 : BitVec 32 := Scalar.extui v52
  let v54 : BitVec 32 := Scalar.subi v51 v53
  let v55 : BitVec 1 := Scalar.cmpi .ne v49 v54
  let v56 : BitVec 32 := Scalar.remsi v43 c512_i32_15
  let c0_i32_20 : BitVec 32 := 0#32
  let v57 : BitVec 1 := Scalar.cmpi .ne v56 c0_i32_20
  let v58 : BitVec 1 := Scalar.andi v55 v57
  let v44 : BitVec 32 := Scalar.divsi v43 c512_i32_15
  let c1_i32_21 : BitVec 32 := 1#32
  let v59 : BitVec 32 := Scalar.subi v44 c1_i32_21
  let v60 : BitVec 32 := Scalar.select v58 v59 v44
  let c2_i32_47 : BitVec 32 := 2#32
  let v97 : BitVec 32 := Scalar.subi v60 c2_i32_47
  let c2_i32_54 : BitVec 32 := 2#32
  let c0_i32_55 : BitVec 32 := 0#32
  let v110 : BitVec 1 := Scalar.cmpi .eq c2_i32_54 c0_i32_55
  let c1_i32_56 : BitVec 32 := 1#32
  let v111 : BitVec 32 := Scalar.select v110 c1_i32_56 c2_i32_54
  let v112 : BitVec 32 := Scalar.remsi v97 v111
  let c0_i32_58 : BitVec 32 := 0#32
  let v114 : BitVec 1 := Scalar.cmpi .slt v112 c0_i32_58
  let c0_i32_59 : BitVec 32 := 0#32
  let v115 : BitVec 1 := Scalar.cmpi .slt v111 c0_i32_59
  let v116 : BitVec 1 := Scalar.xori v114 v115
  let c0_i32_57 : BitVec 32 := 0#32
  let v113 : BitVec 1 := Scalar.cmpi .ne v112 c0_i32_57
  let v117 : BitVec 1 := Scalar.andi v116 v113
  let v118 : BitVec 32 := Scalar.addi v112 v111
  let v119 : BitVec 32 := Scalar.select v117 v118 v112
  ![v119.toNat]
def k0_off30 (v43 : BitVec 32) : Fin 2 → Nat :=
  let c0_i32_16 : BitVec 32 := 0#32
  let v45 : BitVec 1 := Scalar.cmpi .sgt v43 c0_i32_16
  let v46 : BitVec 32 := Scalar.extui v45
  let c0_i32_17 : BitVec 32 := 0#32
  let v47 : BitVec 1 := Scalar.cmpi .slt v43 c0_i32_17
  let v48 : BitVec 32 := Scalar.extui v47
  let v49 : BitVec 32 := Scalar.subi v46 v48
  let c512_i32_15 : BitVec 32 := 512#32
  let c0_i32_18 : BitVec 32 := 0#32
  let v50 : BitVec 1 := Scalar.cmpi .sgt c512_i32_15 c0_i32_18
  let v51 : BitVec 32 := Scalar.extui v50
  let c0_i32_19 : BitVec 32 := 0#32
  let v52 : BitVec 1 := Scalar.cmpi .slt c512_i32_15 c0_i32_19
  let v53 : BitVec 32 := Scalar.extui v52
  let v54 : BitVec 32 := Scalar.subi v51 v53
  let v55 : BitVec 1 := Scalar.cmpi .ne v49 v54
  let v56 : BitVec 32 := Scalar.remsi v43 c512_i32_15
  let c0_i32_20 : BitVec 32 := 0#32
  let v57 : BitVec 1 := Scalar.cmpi .ne v56 c0_i32_20
  let v58 : BitVec 1 := Scalar.andi v55 v57
  let v44 : BitVec 32 := Scalar.divsi v43 c512_i32_15
  let c1_i32_21 : BitVec 32 := 1#32
  let v59 : BitVec 32 := Scalar.subi v44 c1_i32_21
  let v60 : BitVec 32 := Scalar.select v58 v59 v44
  let c2_i32_47 : BitVec 32 := 2#32
  let v97 : BitVec 32 := Scalar.subi v60 c2_i32_47
  let c4096_i32 : BitVec 32 := 4096#32
  let v108 : BitVec 32 := Scalar.muli v97 c4096_i32
  let v109 : BitVec 32 := v108
  let c0_i32_60 : BitVec 32 := 0#32
  ![v109.toNat, 0]
def k0_off31 (v43 : BitVec 32) : Fin 3 → Nat :=
  let c0_i32_16 : BitVec 32 := 0#32
  let v45 : BitVec 1 := Scalar.cmpi .sgt v43 c0_i32_16
  let v46 : BitVec 32 := Scalar.extui v45
  let c0_i32_17 : BitVec 32 := 0#32
  let v47 : BitVec 1 := Scalar.cmpi .slt v43 c0_i32_17
  let v48 : BitVec 32 := Scalar.extui v47
  let v49 : BitVec 32 := Scalar.subi v46 v48
  let c512_i32_15 : BitVec 32 := 512#32
  let c0_i32_18 : BitVec 32 := 0#32
  let v50 : BitVec 1 := Scalar.cmpi .sgt c512_i32_15 c0_i32_18
  let v51 : BitVec 32 := Scalar.extui v50
  let c0_i32_19 : BitVec 32 := 0#32
  let v52 : BitVec 1 := Scalar.cmpi .slt c512_i32_15 c0_i32_19
  let v53 : BitVec 32 := Scalar.extui v52
  let v54 : BitVec 32 := Scalar.subi v51 v53
  let v55 : BitVec 1 := Scalar.cmpi .ne v49 v54
  let v56 : BitVec 32 := Scalar.remsi v43 c512_i32_15
  let c0_i32_20 : BitVec 32 := 0#32
  let v57 : BitVec 1 := Scalar.cmpi .ne v56 c0_i32_20
  let v58 : BitVec 1 := Scalar.andi v55 v57
  let v44 : BitVec 32 := Scalar.divsi v43 c512_i32_15
  let c1_i32_21 : BitVec 32 := 1#32
  let v59 : BitVec 32 := Scalar.subi v44 c1_i32_21
  let v60 : BitVec 32 := Scalar.select v58 v59 v44
  let c2_i32_47 : BitVec 32 := 2#32
  let v97 : BitVec 32 := Scalar.subi v60 c2_i32_47
  let c2_i32_48 : BitVec 32 := 2#32
  let c0_i32_49 : BitVec 32 := 0#32
  let v98 : BitVec 1 := Scalar.cmpi .eq c2_i32_48 c0_i32_49
  let c1_i32_50 : BitVec 32 := 1#32
  let v99 : BitVec 32 := Scalar.select v98 c1_i32_50 c2_i32_48
  let v100 : BitVec 32 := Scalar.remsi v97 v99
  let c0_i32_52 : BitVec 32 := 0#32
  let v102 : BitVec 1 := Scalar.cmpi .slt v100 c0_i32_52
  let c0_i32_53 : BitVec 32 := 0#32
  let v103 : BitVec 1 := Scalar.cmpi .slt v99 c0_i32_53
  let v104 : BitVec 1 := Scalar.xori v102 v103
  let c0_i32_51 : BitVec 32 := 0#32
  let v101 : BitVec 1 := Scalar.cmpi .ne v100 c0_i32_51
  let v105 : BitVec 1 := Scalar.andi v104 v101
  let v106 : BitVec 32 := Scalar.addi v100 v99
  let v107 : BitVec 32 := Scalar.select v105 v106 v100
  let c0_i32_61 : BitVec 32 := 0#32
  let c0_i32_62 : BitVec 32 := 0#32
  ![v107.toNat, 0, 0]
def k0_mult11 (v43 : BitVec 32) : BitVec 32 :=
  let c0_i32_16 : BitVec 32 := 0#32
  let v45 : BitVec 1 := Scalar.cmpi .sgt v43 c0_i32_16
  let v46 : BitVec 32 := Scalar.extui v45
  let c0_i32_17 : BitVec 32 := 0#32
  let v47 : BitVec 1 := Scalar.cmpi .slt v43 c0_i32_17
  let v48 : BitVec 32 := Scalar.extui v47
  let v49 : BitVec 32 := Scalar.subi v46 v48
  let c512_i32_15 : BitVec 32 := 512#32
  let c0_i32_18 : BitVec 32 := 0#32
  let v50 : BitVec 1 := Scalar.cmpi .sgt c512_i32_15 c0_i32_18
  let v51 : BitVec 32 := Scalar.extui v50
  let c0_i32_19 : BitVec 32 := 0#32
  let v52 : BitVec 1 := Scalar.cmpi .slt c512_i32_15 c0_i32_19
  let v53 : BitVec 32 := Scalar.extui v52
  let v54 : BitVec 32 := Scalar.subi v51 v53
  let v55 : BitVec 1 := Scalar.cmpi .ne v49 v54
  let v56 : BitVec 32 := Scalar.remsi v43 c512_i32_15
  let c0_i32_20 : BitVec 32 := 0#32
  let v57 : BitVec 1 := Scalar.cmpi .ne v56 c0_i32_20
  let v58 : BitVec 1 := Scalar.andi v55 v57
  let v44 : BitVec 32 := Scalar.divsi v43 c512_i32_15
  let c1_i32_21 : BitVec 32 := 1#32
  let v59 : BitVec 32 := Scalar.subi v44 c1_i32_21
  let v60 : BitVec 32 := Scalar.select v58 v59 v44
  let c1_i32_47 : BitVec 32 := 1#32
  let v97 : BitVec 32 := Scalar.subi v60 c1_i32_47
  let c4096_i32 : BitVec 32 := 4096#32
  let v108 : BitVec 32 := Scalar.muli v97 c4096_i32
  v108
def k0_cond9 (v43 : BitVec 32) : BitVec 1 :=
  let c0_i32_16 : BitVec 32 := 0#32
  let v45 : BitVec 1 := Scalar.cmpi .sgt v43 c0_i32_16
  let v46 : BitVec 32 := Scalar.extui v45
  let c0_i32_17 : BitVec 32 := 0#32
  let v47 : BitVec 1 := Scalar.cmpi .slt v43 c0_i32_17
  let v48 : BitVec 32 := Scalar.extui v47
  let v49 : BitVec 32 := Scalar.subi v46 v48
  let c512_i32_15 : BitVec 32 := 512#32
  let c0_i32_18 : BitVec 32 := 0#32
  let v50 : BitVec 1 := Scalar.cmpi .sgt c512_i32_15 c0_i32_18
  let v51 : BitVec 32 := Scalar.extui v50
  let c0_i32_19 : BitVec 32 := 0#32
  let v52 : BitVec 1 := Scalar.cmpi .slt c512_i32_15 c0_i32_19
  let v53 : BitVec 32 := Scalar.extui v52
  let v54 : BitVec 32 := Scalar.subi v51 v53
  let v55 : BitVec 1 := Scalar.cmpi .ne v49 v54
  let v56 : BitVec 32 := Scalar.remsi v43 c512_i32_15
  let c0_i32_20 : BitVec 32 := 0#32
  let v57 : BitVec 1 := Scalar.cmpi .ne v56 c0_i32_20
  let v58 : BitVec 1 := Scalar.andi v55 v57
  let v44 : BitVec 32 := Scalar.divsi v43 c512_i32_15
  let c1_i32_21 : BitVec 32 := 1#32
  let v59 : BitVec 32 := Scalar.subi v44 c1_i32_21
  let v60 : BitVec 32 := Scalar.select v58 v59 v44
  let c1_i32_34 : BitVec 32 := 1#32
  let v80 : BitVec 1 := Scalar.cmpi .sge v60 c1_i32_34
  let v81 : BitVec 32 := Scalar.extui v80
  let c0_i32_35 : BitVec 32 := 0#32
  let v82 : BitVec 1 := Scalar.cmpi .ne v81 c0_i32_35
  v82

def k0_off32 (v43 : BitVec 32) : Fin 1 → Nat :=
  let c0_i32_16 : BitVec 32 := 0#32
  let v45 : BitVec 1 := Scalar.cmpi .sgt v43 c0_i32_16
  let v46 : BitVec 32 := Scalar.extui v45
  let c0_i32_17 : BitVec 32 := 0#32
  let v47 : BitVec 1 := Scalar.cmpi .slt v43 c0_i32_17
  let v48 : BitVec 32 := Scalar.extui v47
  let v49 : BitVec 32 := Scalar.subi v46 v48
  let c512_i32_15 : BitVec 32 := 512#32
  let c0_i32_18 : BitVec 32 := 0#32
  let v50 : BitVec 1 := Scalar.cmpi .sgt c512_i32_15 c0_i32_18
  let v51 : BitVec 32 := Scalar.extui v50
  let c0_i32_19 : BitVec 32 := 0#32
  let v52 : BitVec 1 := Scalar.cmpi .slt c512_i32_15 c0_i32_19
  let v53 : BitVec 32 := Scalar.extui v52
  let v54 : BitVec 32 := Scalar.subi v51 v53
  let v55 : BitVec 1 := Scalar.cmpi .ne v49 v54
  let v56 : BitVec 32 := Scalar.remsi v43 c512_i32_15
  let c0_i32_20 : BitVec 32 := 0#32
  let v57 : BitVec 1 := Scalar.cmpi .ne v56 c0_i32_20
  let v58 : BitVec 1 := Scalar.andi v55 v57
  let v44 : BitVec 32 := Scalar.divsi v43 c512_i32_15
  let c1_i32_21 : BitVec 32 := 1#32
  let v59 : BitVec 32 := Scalar.subi v44 c1_i32_21
  let v60 : BitVec 32 := Scalar.select v58 v59 v44
  let c1_i32_47 : BitVec 32 := 1#32
  let v97 : BitVec 32 := Scalar.subi v60 c1_i32_47
  let c2_i32_54 : BitVec 32 := 2#32
  let c0_i32_55 : BitVec 32 := 0#32
  let v110 : BitVec 1 := Scalar.cmpi .eq c2_i32_54 c0_i32_55
  let c1_i32_56 : BitVec 32 := 1#32
  let v111 : BitVec 32 := Scalar.select v110 c1_i32_56 c2_i32_54
  let v112 : BitVec 32 := Scalar.remsi v97 v111
  let c0_i32_58 : BitVec 32 := 0#32
  let v114 : BitVec 1 := Scalar.cmpi .slt v112 c0_i32_58
  let c0_i32_59 : BitVec 32 := 0#32
  let v115 : BitVec 1 := Scalar.cmpi .slt v111 c0_i32_59
  let v116 : BitVec 1 := Scalar.xori v114 v115
  let c0_i32_57 : BitVec 32 := 0#32
  let v113 : BitVec 1 := Scalar.cmpi .ne v112 c0_i32_57
  let v117 : BitVec 1 := Scalar.andi v116 v113
  let v118 : BitVec 32 := Scalar.addi v112 v111
  let v119 : BitVec 32 := Scalar.select v117 v118 v112
  ![v119.toNat]
def k0_off33 (v43 : BitVec 32) : Fin 2 → Nat :=
  let c0_i32_16 : BitVec 32 := 0#32
  let v45 : BitVec 1 := Scalar.cmpi .sgt v43 c0_i32_16
  let v46 : BitVec 32 := Scalar.extui v45
  let c0_i32_17 : BitVec 32 := 0#32
  let v47 : BitVec 1 := Scalar.cmpi .slt v43 c0_i32_17
  let v48 : BitVec 32 := Scalar.extui v47
  let v49 : BitVec 32 := Scalar.subi v46 v48
  let c512_i32_15 : BitVec 32 := 512#32
  let c0_i32_18 : BitVec 32 := 0#32
  let v50 : BitVec 1 := Scalar.cmpi .sgt c512_i32_15 c0_i32_18
  let v51 : BitVec 32 := Scalar.extui v50
  let c0_i32_19 : BitVec 32 := 0#32
  let v52 : BitVec 1 := Scalar.cmpi .slt c512_i32_15 c0_i32_19
  let v53 : BitVec 32 := Scalar.extui v52
  let v54 : BitVec 32 := Scalar.subi v51 v53
  let v55 : BitVec 1 := Scalar.cmpi .ne v49 v54
  let v56 : BitVec 32 := Scalar.remsi v43 c512_i32_15
  let c0_i32_20 : BitVec 32 := 0#32
  let v57 : BitVec 1 := Scalar.cmpi .ne v56 c0_i32_20
  let v58 : BitVec 1 := Scalar.andi v55 v57
  let v44 : BitVec 32 := Scalar.divsi v43 c512_i32_15
  let c1_i32_21 : BitVec 32 := 1#32
  let v59 : BitVec 32 := Scalar.subi v44 c1_i32_21
  let v60 : BitVec 32 := Scalar.select v58 v59 v44
  let c1_i32_47 : BitVec 32 := 1#32
  let v97 : BitVec 32 := Scalar.subi v60 c1_i32_47
  let c4096_i32 : BitVec 32 := 4096#32
  let v108 : BitVec 32 := Scalar.muli v97 c4096_i32
  let v109 : BitVec 32 := v108
  let c0_i32_60 : BitVec 32 := 0#32
  ![v109.toNat, 0]
def k0_off34 (v43 : BitVec 32) : Fin 3 → Nat :=
  let c0_i32_16 : BitVec 32 := 0#32
  let v45 : BitVec 1 := Scalar.cmpi .sgt v43 c0_i32_16
  let v46 : BitVec 32 := Scalar.extui v45
  let c0_i32_17 : BitVec 32 := 0#32
  let v47 : BitVec 1 := Scalar.cmpi .slt v43 c0_i32_17
  let v48 : BitVec 32 := Scalar.extui v47
  let v49 : BitVec 32 := Scalar.subi v46 v48
  let c512_i32_15 : BitVec 32 := 512#32
  let c0_i32_18 : BitVec 32 := 0#32
  let v50 : BitVec 1 := Scalar.cmpi .sgt c512_i32_15 c0_i32_18
  let v51 : BitVec 32 := Scalar.extui v50
  let c0_i32_19 : BitVec 32 := 0#32
  let v52 : BitVec 1 := Scalar.cmpi .slt c512_i32_15 c0_i32_19
  let v53 : BitVec 32 := Scalar.extui v52
  let v54 : BitVec 32 := Scalar.subi v51 v53
  let v55 : BitVec 1 := Scalar.cmpi .ne v49 v54
  let v56 : BitVec 32 := Scalar.remsi v43 c512_i32_15
  let c0_i32_20 : BitVec 32 := 0#32
  let v57 : BitVec 1 := Scalar.cmpi .ne v56 c0_i32_20
  let v58 : BitVec 1 := Scalar.andi v55 v57
  let v44 : BitVec 32 := Scalar.divsi v43 c512_i32_15
  let c1_i32_21 : BitVec 32 := 1#32
  let v59 : BitVec 32 := Scalar.subi v44 c1_i32_21
  let v60 : BitVec 32 := Scalar.select v58 v59 v44
  let c1_i32_47 : BitVec 32 := 1#32
  let v97 : BitVec 32 := Scalar.subi v60 c1_i32_47
  let c2_i32_48 : BitVec 32 := 2#32
  let c0_i32_49 : BitVec 32 := 0#32
  let v98 : BitVec 1 := Scalar.cmpi .eq c2_i32_48 c0_i32_49
  let c1_i32_50 : BitVec 32 := 1#32
  let v99 : BitVec 32 := Scalar.select v98 c1_i32_50 c2_i32_48
  let v100 : BitVec 32 := Scalar.remsi v97 v99
  let c0_i32_52 : BitVec 32 := 0#32
  let v102 : BitVec 1 := Scalar.cmpi .slt v100 c0_i32_52
  let c0_i32_53 : BitVec 32 := 0#32
  let v103 : BitVec 1 := Scalar.cmpi .slt v99 c0_i32_53
  let v104 : BitVec 1 := Scalar.xori v102 v103
  let c0_i32_51 : BitVec 32 := 0#32
  let v101 : BitVec 1 := Scalar.cmpi .ne v100 c0_i32_51
  let v105 : BitVec 1 := Scalar.andi v104 v101
  let v106 : BitVec 32 := Scalar.addi v100 v99
  let v107 : BitVec 32 := Scalar.select v105 v106 v100
  let c0_i32_61 : BitVec 32 := 0#32
  let c0_i32_62 : BitVec 32 := 0#32
  ![v107.toNat, 0, 0]

def k0_chk2 (i : grid0.Coords) (v1 : BitVec 32) (v23 : BitVec 32) (v43 : BitVec 32) : Prop :=
  (∀ k0_t1 : Fin (k0_t1_loop i v1 v23).trips, ∀ (k0_h3 : k0_cond3 i v1 v23 v43 k0_t1 = 1#1), 4096 ∣ (k0_mult2 i v1 v23 k0_t1).toNat) ∧
  (∀ k0_t1 : Fin (k0_t1_loop i v1 v23).trips, ∀ (k0_h3 : k0_cond3 i v1 v23 v43 k0_t1 = 1#1), ∀ a, (k0_off3 i v1 v23 k0_t1) a + S1.size a ≤ S2.size a) ∧
  (∀ k0_t1 : Fin (k0_t1_loop i v1 v23).trips, ∀ (k0_h3 : k0_cond3 i v1 v23 v43 k0_t1 = 1#1), ∀ a, (k0_off4 i v1 v23 k0_t1) a + S1x4096x128.size a ≤ S2x4096x128.size a) ∧
  (∀ k0_t1 : Fin (k0_t1_loop i v1 v23).trips, ∀ (k0_h3 : k0_cond3 i v1 v23 v43 k0_t1 = 1#1), ∀ a, (k0_off5 i v1 v23 k0_t1) a + S4096x128.size a ≤ S651264x128.size a) ∧
  (∀ k0_t1 : Fin (k0_t1_loop i v1 v23).trips, ∀ (k0_h3 : k0_cond3 i v1 v23 v43 k0_t1 = 1#1), ∀ (hinb : ∀ a, (k0_off5 i v1 v23 k0_t1) a + S4096x128.size a ≤ S651264x128.size a), (Rect.unit (s := S651264x128) (k0_off5 i v1 v23 k0_t1) S4096x128.size hinb).WholeWords (EltTy.packing .bf16)) ∧
  (∀ k0_t1 : Fin (k0_t1_loop i v1 v23).trips, ∀ (k0_h3 : k0_cond3 i v1 v23 v43 k0_t1 = 1#1), ∀ (hinb : ∀ a, (k0_off4 i v1 v23 k0_t1) a + S1x4096x128.size a ≤ S2x4096x128.size a), (Rect.unit (s := S2x4096x128) (k0_off4 i v1 v23 k0_t1) S1x4096x128.size hinb).WholeWords (EltTy.packing .bf16)) ∧
  (∀ k0_t2 : Fin (k0_t2_loop i v1 v23).trips, ∀ (k0_h5 : k0_cond5 i v1 v23 v43 k0_t2 = 1#1), 4096 ∣ (k0_mult6 i v1 v23 k0_t2).toNat) ∧
  (∀ k0_t2 : Fin (k0_t2_loop i v1 v23).trips, ∀ (k0_h5 : k0_cond5 i v1 v23 v43 k0_t2 = 1#1), ∀ a, (k0_off16 i v1 v23 k0_t2) a + S1.size a ≤ S2.size a) ∧
  (∀ k0_t2 : Fin (k0_t2_loop i v1 v23).trips, ∀ (k0_h5 : k0_cond5 i v1 v23 v43 k0_t2 = 1#1), ∀ a, (k0_off17 i v1 v23 k0_t2) a + S1x4096x128.size a ≤ S2x4096x128.size a) ∧
  (∀ k0_t2 : Fin (k0_t2_loop i v1 v23).trips, ∀ (k0_h5 : k0_cond5 i v1 v23 v43 k0_t2 = 1#1), ∀ a, (k0_off18 i v1 v23 k0_t2) a + S4096x128.size a ≤ S651264x128.size a) ∧
  (∀ k0_t2 : Fin (k0_t2_loop i v1 v23).trips, ∀ (k0_h5 : k0_cond5 i v1 v23 v43 k0_t2 = 1#1), ∀ (hinb : ∀ a, (k0_off18 i v1 v23 k0_t2) a + S4096x128.size a ≤ S651264x128.size a), (Rect.unit (s := S651264x128) (k0_off18 i v1 v23 k0_t2) S4096x128.size hinb).WholeWords (EltTy.packing .bf16)) ∧
  (∀ k0_t2 : Fin (k0_t2_loop i v1 v23).trips, ∀ (k0_h5 : k0_cond5 i v1 v23 v43 k0_t2 = 1#1), ∀ (hinb : ∀ a, (k0_off17 i v1 v23 k0_t2) a + S1x4096x128.size a ≤ S2x4096x128.size a), (Rect.unit (s := S2x4096x128) (k0_off17 i v1 v23 k0_t2) S1x4096x128.size hinb).WholeWords (EltTy.packing .bf16)) ∧
  (∀ (k0_h7 : k0_cond7 i = 1#1), ∀ (k0_h8 : k0_cond8 v43 = 1#1), 4096 ∣ (k0_mult10 v43).toNat) ∧
  (∀ (k0_h7 : k0_cond7 i = 1#1), ∀ (k0_h8 : k0_cond8 v43 = 1#1), ∀ a, (k0_off29 v43) a + S1.size a ≤ S2.size a) ∧
  (∀ (k0_h7 : k0_cond7 i = 1#1), ∀ (k0_h8 : k0_cond8 v43 = 1#1), ∀ a, (k0_off30 v43) a + S4096x128.size a ≤ S651264x128.size a) ∧
  (∀ (k0_h7 : k0_cond7 i = 1#1), ∀ (k0_h8 : k0_cond8 v43 = 1#1), ∀ a, (k0_off31 v43) a + S1x4096x128.size a ≤ S2x4096x128.size a) ∧
  (∀ (k0_h7 : k0_cond7 i = 1#1), ∀ (k0_h8 : k0_cond8 v43 = 1#1), ∀ (hinb : ∀ a, (k0_off31 v43) a + S1x4096x128.size a ≤ S2x4096x128.size a), (Rect.unit (s := S2x4096x128) (k0_off31 v43) S1x4096x128.size hinb).WholeWords (EltTy.packing .bf16)) ∧
  (∀ (k0_h7 : k0_cond7 i = 1#1), ∀ (k0_h8 : k0_cond8 v43 = 1#1), ∀ (hinb : ∀ a, (k0_off30 v43) a + S4096x128.size a ≤ S651264x128.size a), (Rect.unit (s := S651264x128) (k0_off30 v43) S4096x128.size hinb).WholeWords (EltTy.packing .bf16)) ∧
  (∀ (k0_h7 : k0_cond7 i = 1#1), ∀ (k0_h9 : k0_cond9 v43 = 1#1), 4096 ∣ (k0_mult11 v43).toNat) ∧
  (∀ (k0_h7 : k0_cond7 i = 1#1), ∀ (k0_h9 : k0_cond9 v43 = 1#1), ∀ a, (k0_off32 v43) a + S1.size a ≤ S2.size a) ∧
  (∀ (k0_h7 : k0_cond7 i = 1#1), ∀ (k0_h9 : k0_cond9 v43 = 1#1), ∀ a, (k0_off33 v43) a + S4096x128.size a ≤ S651264x128.size a) ∧
  (∀ (k0_h7 : k0_cond7 i = 1#1), ∀ (k0_h9 : k0_cond9 v43 = 1#1), ∀ a, (k0_off34 v43) a + S1x4096x128.size a ≤ S2x4096x128.size a) ∧
  (∀ (k0_h7 : k0_cond7 i = 1#1), ∀ (k0_h9 : k0_cond9 v43 = 1#1), ∀ (hinb : ∀ a, (k0_off34 v43) a + S1x4096x128.size a ≤ S2x4096x128.size a), (Rect.unit (s := S2x4096x128) (k0_off34 v43) S1x4096x128.size hinb).WholeWords (EltTy.packing .bf16)) ∧
  (∀ (k0_h7 : k0_cond7 i = 1#1), ∀ (k0_h9 : k0_cond9 v43 = 1#1), ∀ (hinb : ∀ a, (k0_off33 v43) a + S4096x128.size a ≤ S651264x128.size a), (Rect.unit (s := S651264x128) (k0_off33 v43) S4096x128.size hinb).WholeWords (EltTy.packing .bf16))
theorem k0_mult2_dvd : ∀ (i : grid0.Coords) (v1 : BitVec 32) (v23 : BitVec 32) (v43 : BitVec 32) (k0_hw2 : k0_chk2 i v1 v23 v43) (k0_t1 : Fin (k0_t1_loop i v1 v23).trips), ∀ (k0_h3 : k0_cond3 i v1 v23 v43 k0_t1 = 1#1), 4096 ∣ (k0_mult2 i v1 v23 k0_t1).toNat := fun i v1 v23 v43 k0_hw2 k0_t1 k0_h3 => k0_hw2.1 k0_t1 k0_h3
theorem k0_off3_inb : ∀ (i : grid0.Coords) (v1 : BitVec 32) (v23 : BitVec 32) (v43 : BitVec 32) (k0_hw2 : k0_chk2 i v1 v23 v43) (k0_t1 : Fin (k0_t1_loop i v1 v23).trips), ∀ (k0_h3 : k0_cond3 i v1 v23 v43 k0_t1 = 1#1), ∀ a, (k0_off3 i v1 v23 k0_t1) a + S1.size a ≤ S2.size a := fun i v1 v23 v43 k0_hw2 k0_t1 k0_h3 => k0_hw2.2.1 k0_t1 k0_h3
theorem k0_off4_inb : ∀ (i : grid0.Coords) (v1 : BitVec 32) (v23 : BitVec 32) (v43 : BitVec 32) (k0_hw2 : k0_chk2 i v1 v23 v43) (k0_t1 : Fin (k0_t1_loop i v1 v23).trips), ∀ (k0_h3 : k0_cond3 i v1 v23 v43 k0_t1 = 1#1), ∀ a, (k0_off4 i v1 v23 k0_t1) a + S1x4096x128.size a ≤ S2x4096x128.size a := fun i v1 v23 v43 k0_hw2 k0_t1 k0_h3 => k0_hw2.2.2.1 k0_t1 k0_h3
theorem k0_off5_inb : ∀ (i : grid0.Coords) (v1 : BitVec 32) (v23 : BitVec 32) (v43 : BitVec 32) (k0_hw2 : k0_chk2 i v1 v23 v43) (k0_t1 : Fin (k0_t1_loop i v1 v23).trips), ∀ (k0_h3 : k0_cond3 i v1 v23 v43 k0_t1 = 1#1), ∀ a, (k0_off5 i v1 v23 k0_t1) a + S4096x128.size a ≤ S651264x128.size a := fun i v1 v23 v43 k0_hw2 k0_t1 k0_h3 => k0_hw2.2.2.2.1 k0_t1 k0_h3
theorem k0_off5_wordsbf16 : ∀ (i : grid0.Coords) (v1 : BitVec 32) (v23 : BitVec 32) (v43 : BitVec 32) (k0_hw2 : k0_chk2 i v1 v23 v43) (k0_t1 : Fin (k0_t1_loop i v1 v23).trips), ∀ (k0_h3 : k0_cond3 i v1 v23 v43 k0_t1 = 1#1), (Rect.unit (s := S651264x128) (k0_off5 i v1 v23 k0_t1) S4096x128.size (k0_off5_inb i v1 v23 v43 k0_hw2 k0_t1 k0_h3)).WholeWords (EltTy.packing .bf16) := fun i v1 v23 v43 k0_hw2 k0_t1 k0_h3 => k0_hw2.2.2.2.2.1 k0_t1 k0_h3 (k0_off5_inb i v1 v23 v43 k0_hw2 k0_t1 k0_h3)
theorem k0_off4_wordsbf16 : ∀ (i : grid0.Coords) (v1 : BitVec 32) (v23 : BitVec 32) (v43 : BitVec 32) (k0_hw2 : k0_chk2 i v1 v23 v43) (k0_t1 : Fin (k0_t1_loop i v1 v23).trips), ∀ (k0_h3 : k0_cond3 i v1 v23 v43 k0_t1 = 1#1), (Rect.unit (s := S2x4096x128) (k0_off4 i v1 v23 k0_t1) S1x4096x128.size (k0_off4_inb i v1 v23 v43 k0_hw2 k0_t1 k0_h3)).WholeWords (EltTy.packing .bf16) := fun i v1 v23 v43 k0_hw2 k0_t1 k0_h3 => k0_hw2.2.2.2.2.2.1 k0_t1 k0_h3 (k0_off4_inb i v1 v23 v43 k0_hw2 k0_t1 k0_h3)
theorem k0_mult6_dvd : ∀ (i : grid0.Coords) (v1 : BitVec 32) (v23 : BitVec 32) (v43 : BitVec 32) (k0_hw2 : k0_chk2 i v1 v23 v43) (k0_t2 : Fin (k0_t2_loop i v1 v23).trips), ∀ (k0_h5 : k0_cond5 i v1 v23 v43 k0_t2 = 1#1), 4096 ∣ (k0_mult6 i v1 v23 k0_t2).toNat := fun i v1 v23 v43 k0_hw2 k0_t2 k0_h5 => k0_hw2.2.2.2.2.2.2.1 k0_t2 k0_h5
theorem k0_off16_inb : ∀ (i : grid0.Coords) (v1 : BitVec 32) (v23 : BitVec 32) (v43 : BitVec 32) (k0_hw2 : k0_chk2 i v1 v23 v43) (k0_t2 : Fin (k0_t2_loop i v1 v23).trips), ∀ (k0_h5 : k0_cond5 i v1 v23 v43 k0_t2 = 1#1), ∀ a, (k0_off16 i v1 v23 k0_t2) a + S1.size a ≤ S2.size a := fun i v1 v23 v43 k0_hw2 k0_t2 k0_h5 => k0_hw2.2.2.2.2.2.2.2.1 k0_t2 k0_h5
theorem k0_off17_inb : ∀ (i : grid0.Coords) (v1 : BitVec 32) (v23 : BitVec 32) (v43 : BitVec 32) (k0_hw2 : k0_chk2 i v1 v23 v43) (k0_t2 : Fin (k0_t2_loop i v1 v23).trips), ∀ (k0_h5 : k0_cond5 i v1 v23 v43 k0_t2 = 1#1), ∀ a, (k0_off17 i v1 v23 k0_t2) a + S1x4096x128.size a ≤ S2x4096x128.size a := fun i v1 v23 v43 k0_hw2 k0_t2 k0_h5 => k0_hw2.2.2.2.2.2.2.2.2.1 k0_t2 k0_h5
theorem k0_off18_inb : ∀ (i : grid0.Coords) (v1 : BitVec 32) (v23 : BitVec 32) (v43 : BitVec 32) (k0_hw2 : k0_chk2 i v1 v23 v43) (k0_t2 : Fin (k0_t2_loop i v1 v23).trips), ∀ (k0_h5 : k0_cond5 i v1 v23 v43 k0_t2 = 1#1), ∀ a, (k0_off18 i v1 v23 k0_t2) a + S4096x128.size a ≤ S651264x128.size a := fun i v1 v23 v43 k0_hw2 k0_t2 k0_h5 => k0_hw2.2.2.2.2.2.2.2.2.2.1 k0_t2 k0_h5
theorem k0_off18_wordsbf16 : ∀ (i : grid0.Coords) (v1 : BitVec 32) (v23 : BitVec 32) (v43 : BitVec 32) (k0_hw2 : k0_chk2 i v1 v23 v43) (k0_t2 : Fin (k0_t2_loop i v1 v23).trips), ∀ (k0_h5 : k0_cond5 i v1 v23 v43 k0_t2 = 1#1), (Rect.unit (s := S651264x128) (k0_off18 i v1 v23 k0_t2) S4096x128.size (k0_off18_inb i v1 v23 v43 k0_hw2 k0_t2 k0_h5)).WholeWords (EltTy.packing .bf16) := fun i v1 v23 v43 k0_hw2 k0_t2 k0_h5 => k0_hw2.2.2.2.2.2.2.2.2.2.2.1 k0_t2 k0_h5 (k0_off18_inb i v1 v23 v43 k0_hw2 k0_t2 k0_h5)
theorem k0_off17_wordsbf16 : ∀ (i : grid0.Coords) (v1 : BitVec 32) (v23 : BitVec 32) (v43 : BitVec 32) (k0_hw2 : k0_chk2 i v1 v23 v43) (k0_t2 : Fin (k0_t2_loop i v1 v23).trips), ∀ (k0_h5 : k0_cond5 i v1 v23 v43 k0_t2 = 1#1), (Rect.unit (s := S2x4096x128) (k0_off17 i v1 v23 k0_t2) S1x4096x128.size (k0_off17_inb i v1 v23 v43 k0_hw2 k0_t2 k0_h5)).WholeWords (EltTy.packing .bf16) := fun i v1 v23 v43 k0_hw2 k0_t2 k0_h5 => k0_hw2.2.2.2.2.2.2.2.2.2.2.2.1 k0_t2 k0_h5 (k0_off17_inb i v1 v23 v43 k0_hw2 k0_t2 k0_h5)
theorem k0_mult10_dvd : ∀ (i : grid0.Coords) (v1 : BitVec 32) (v23 : BitVec 32) (v43 : BitVec 32) (k0_hw2 : k0_chk2 i v1 v23 v43), ∀ (k0_h7 : k0_cond7 i = 1#1), ∀ (k0_h8 : k0_cond8 v43 = 1#1), 4096 ∣ (k0_mult10 v43).toNat := fun i v1 v23 v43 k0_hw2 k0_h7 k0_h8 => k0_hw2.2.2.2.2.2.2.2.2.2.2.2.2.1 k0_h7 k0_h8
theorem k0_off29_inb : ∀ (i : grid0.Coords) (v1 : BitVec 32) (v23 : BitVec 32) (v43 : BitVec 32) (k0_hw2 : k0_chk2 i v1 v23 v43), ∀ (k0_h7 : k0_cond7 i = 1#1), ∀ (k0_h8 : k0_cond8 v43 = 1#1), ∀ a, (k0_off29 v43) a + S1.size a ≤ S2.size a := fun i v1 v23 v43 k0_hw2 k0_h7 k0_h8 => k0_hw2.2.2.2.2.2.2.2.2.2.2.2.2.2.1 k0_h7 k0_h8
theorem k0_off30_inb : ∀ (i : grid0.Coords) (v1 : BitVec 32) (v23 : BitVec 32) (v43 : BitVec 32) (k0_hw2 : k0_chk2 i v1 v23 v43), ∀ (k0_h7 : k0_cond7 i = 1#1), ∀ (k0_h8 : k0_cond8 v43 = 1#1), ∀ a, (k0_off30 v43) a + S4096x128.size a ≤ S651264x128.size a := fun i v1 v23 v43 k0_hw2 k0_h7 k0_h8 => k0_hw2.2.2.2.2.2.2.2.2.2.2.2.2.2.2.1 k0_h7 k0_h8
theorem k0_off31_inb : ∀ (i : grid0.Coords) (v1 : BitVec 32) (v23 : BitVec 32) (v43 : BitVec 32) (k0_hw2 : k0_chk2 i v1 v23 v43), ∀ (k0_h7 : k0_cond7 i = 1#1), ∀ (k0_h8 : k0_cond8 v43 = 1#1), ∀ a, (k0_off31 v43) a + S1x4096x128.size a ≤ S2x4096x128.size a := fun i v1 v23 v43 k0_hw2 k0_h7 k0_h8 => k0_hw2.2.2.2.2.2.2.2.2.2.2.2.2.2.2.2.1 k0_h7 k0_h8
theorem k0_off31_wordsbf16 : ∀ (i : grid0.Coords) (v1 : BitVec 32) (v23 : BitVec 32) (v43 : BitVec 32) (k0_hw2 : k0_chk2 i v1 v23 v43), ∀ (k0_h7 : k0_cond7 i = 1#1), ∀ (k0_h8 : k0_cond8 v43 = 1#1), (Rect.unit (s := S2x4096x128) (k0_off31 v43) S1x4096x128.size (k0_off31_inb i v1 v23 v43 k0_hw2 k0_h7 k0_h8)).WholeWords (EltTy.packing .bf16) := fun i v1 v23 v43 k0_hw2 k0_h7 k0_h8 => k0_hw2.2.2.2.2.2.2.2.2.2.2.2.2.2.2.2.2.1 k0_h7 k0_h8 (k0_off31_inb i v1 v23 v43 k0_hw2 k0_h7 k0_h8)
theorem k0_off30_wordsbf16 : ∀ (i : grid0.Coords) (v1 : BitVec 32) (v23 : BitVec 32) (v43 : BitVec 32) (k0_hw2 : k0_chk2 i v1 v23 v43), ∀ (k0_h7 : k0_cond7 i = 1#1), ∀ (k0_h8 : k0_cond8 v43 = 1#1), (Rect.unit (s := S651264x128) (k0_off30 v43) S4096x128.size (k0_off30_inb i v1 v23 v43 k0_hw2 k0_h7 k0_h8)).WholeWords (EltTy.packing .bf16) := fun i v1 v23 v43 k0_hw2 k0_h7 k0_h8 => k0_hw2.2.2.2.2.2.2.2.2.2.2.2.2.2.2.2.2.2.1 k0_h7 k0_h8 (k0_off30_inb i v1 v23 v43 k0_hw2 k0_h7 k0_h8)
theorem k0_mult11_dvd : ∀ (i : grid0.Coords) (v1 : BitVec 32) (v23 : BitVec 32) (v43 : BitVec 32) (k0_hw2 : k0_chk2 i v1 v23 v43), ∀ (k0_h7 : k0_cond7 i = 1#1), ∀ (k0_h9 : k0_cond9 v43 = 1#1), 4096 ∣ (k0_mult11 v43).toNat := fun i v1 v23 v43 k0_hw2 k0_h7 k0_h9 => k0_hw2.2.2.2.2.2.2.2.2.2.2.2.2.2.2.2.2.2.2.1 k0_h7 k0_h9
theorem k0_off32_inb : ∀ (i : grid0.Coords) (v1 : BitVec 32) (v23 : BitVec 32) (v43 : BitVec 32) (k0_hw2 : k0_chk2 i v1 v23 v43), ∀ (k0_h7 : k0_cond7 i = 1#1), ∀ (k0_h9 : k0_cond9 v43 = 1#1), ∀ a, (k0_off32 v43) a + S1.size a ≤ S2.size a := fun i v1 v23 v43 k0_hw2 k0_h7 k0_h9 => k0_hw2.2.2.2.2.2.2.2.2.2.2.2.2.2.2.2.2.2.2.2.1 k0_h7 k0_h9
theorem k0_off33_inb : ∀ (i : grid0.Coords) (v1 : BitVec 32) (v23 : BitVec 32) (v43 : BitVec 32) (k0_hw2 : k0_chk2 i v1 v23 v43), ∀ (k0_h7 : k0_cond7 i = 1#1), ∀ (k0_h9 : k0_cond9 v43 = 1#1), ∀ a, (k0_off33 v43) a + S4096x128.size a ≤ S651264x128.size a := fun i v1 v23 v43 k0_hw2 k0_h7 k0_h9 => k0_hw2.2.2.2.2.2.2.2.2.2.2.2.2.2.2.2.2.2.2.2.2.1 k0_h7 k0_h9
theorem k0_off34_inb : ∀ (i : grid0.Coords) (v1 : BitVec 32) (v23 : BitVec 32) (v43 : BitVec 32) (k0_hw2 : k0_chk2 i v1 v23 v43), ∀ (k0_h7 : k0_cond7 i = 1#1), ∀ (k0_h9 : k0_cond9 v43 = 1#1), ∀ a, (k0_off34 v43) a + S1x4096x128.size a ≤ S2x4096x128.size a := fun i v1 v23 v43 k0_hw2 k0_h7 k0_h9 => k0_hw2.2.2.2.2.2.2.2.2.2.2.2.2.2.2.2.2.2.2.2.2.2.1 k0_h7 k0_h9
theorem k0_off34_wordsbf16 : ∀ (i : grid0.Coords) (v1 : BitVec 32) (v23 : BitVec 32) (v43 : BitVec 32) (k0_hw2 : k0_chk2 i v1 v23 v43), ∀ (k0_h7 : k0_cond7 i = 1#1), ∀ (k0_h9 : k0_cond9 v43 = 1#1), (Rect.unit (s := S2x4096x128) (k0_off34 v43) S1x4096x128.size (k0_off34_inb i v1 v23 v43 k0_hw2 k0_h7 k0_h9)).WholeWords (EltTy.packing .bf16) := fun i v1 v23 v43 k0_hw2 k0_h7 k0_h9 => k0_hw2.2.2.2.2.2.2.2.2.2.2.2.2.2.2.2.2.2.2.2.2.2.2.1 k0_h7 k0_h9 (k0_off34_inb i v1 v23 v43 k0_hw2 k0_h7 k0_h9)
theorem k0_off33_wordsbf16 : ∀ (i : grid0.Coords) (v1 : BitVec 32) (v23 : BitVec 32) (v43 : BitVec 32) (k0_hw2 : k0_chk2 i v1 v23 v43), ∀ (k0_h7 : k0_cond7 i = 1#1), ∀ (k0_h9 : k0_cond9 v43 = 1#1), (Rect.unit (s := S651264x128) (k0_off33 v43) S4096x128.size (k0_off33_inb i v1 v23 v43 k0_hw2 k0_h7 k0_h9)).WholeWords (EltTy.packing .bf16) := fun i v1 v23 v43 k0_hw2 k0_h7 k0_h9 => k0_hw2.2.2.2.2.2.2.2.2.2.2.2.2.2.2.2.2.2.2.2.2.2.2.2 k0_h7 k0_h9 (k0_off33_inb i v1 v23 v43 k0_hw2 k0_h7 k0_h9)

@[reducible] def k0_t3_loop (v1 : BitVec 32) : Scf.Loop 32 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c159_i32 : BitVec 32 := 159#32
  let v87 : BitVec 32 := Scalar.subi c159_i32 v18
  let c1_i32_39 : BitVec 32 := 1#32
  let v89 : BitVec 32 := Scalar.divsi v87 c1_i32_39
  let v90 : BitVec 32 := Scalar.muli v89 c1_i32_39
  let v91 : BitVec 32 := Scalar.addi v18 v90
  let c1_i32_40 : BitVec 32 := 1#32
  ⟨v18, v91, c1_i32_40⟩

def k0_mult12 (v1 : BitVec 32) (k0_t3 : Fin (k0_t3_loop v1).trips) : BitVec 32 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_40 : BitVec 32 := 1#32
  let arg14 : BitVec 32 := Scf.iv v18 c1_i32_40 k0_t3
  let c4096_i32 : BitVec 32 := 4096#32
  let v97 : BitVec 32 := Scalar.muli arg14 c4096_i32
  v97
def k0_off35 (v1 : BitVec 32) (k0_t3 : Fin (k0_t3_loop v1).trips) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_40 : BitVec 32 := 1#32
  let arg14 : BitVec 32 := Scf.iv v18 c1_i32_40 k0_t3
  let c4096_i32 : BitVec 32 := 4096#32
  let v97 : BitVec 32 := Scalar.muli arg14 c4096_i32
  let v98 : BitVec 32 := v97
  let c0_i32_49 : BitVec 32 := 0#32
  ![v98.toNat, 0]
@[reducible] def k0_t4_loop (v1 : BitVec 32) : Scf.Loop 32 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c159_i32 : BitVec 32 := 159#32
  let v87 : BitVec 32 := Scalar.subi c159_i32 v18
  let c1_i32_39 : BitVec 32 := 1#32
  let v89 : BitVec 32 := Scalar.divsi v87 c1_i32_39
  let v90 : BitVec 32 := Scalar.muli v89 c1_i32_39
  let v91 : BitVec 32 := Scalar.addi v18 v90
  let v88 : BitVec 32 := Scalar.addi v18 v87
  let c1_i32_41 : BitVec 32 := 1#32
  ⟨v91, v88, c1_i32_41⟩
def k0_mult13 (v1 : BitVec 32) (k0_t4 : Fin (k0_t4_loop v1).trips) : BitVec 32 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c159_i32 : BitVec 32 := 159#32
  let v87 : BitVec 32 := Scalar.subi c159_i32 v18
  let c1_i32_39 : BitVec 32 := 1#32
  let v89 : BitVec 32 := Scalar.divsi v87 c1_i32_39
  let v90 : BitVec 32 := Scalar.muli v89 c1_i32_39
  let v91 : BitVec 32 := Scalar.addi v18 v90
  let c1_i32_41 : BitVec 32 := 1#32
  let arg14 : BitVec 32 := Scf.iv v91 c1_i32_41 k0_t4
  let c4096_i32 : BitVec 32 := 4096#32
  let v97 : BitVec 32 := Scalar.muli arg14 c4096_i32
  v97
def k0_off36 (v1 : BitVec 32) (k0_t4 : Fin (k0_t4_loop v1).trips) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c159_i32 : BitVec 32 := 159#32
  let v87 : BitVec 32 := Scalar.subi c159_i32 v18
  let c1_i32_39 : BitVec 32 := 1#32
  let v89 : BitVec 32 := Scalar.divsi v87 c1_i32_39
  let v90 : BitVec 32 := Scalar.muli v89 c1_i32_39
  let v91 : BitVec 32 := Scalar.addi v18 v90
  let c1_i32_41 : BitVec 32 := 1#32
  let arg14 : BitVec 32 := Scf.iv v91 c1_i32_41 k0_t4
  let c4096_i32 : BitVec 32 := 4096#32
  let v97 : BitVec 32 := Scalar.muli arg14 c4096_i32
  let v98 : BitVec 32 := v97
  let c0_i32_49 : BitVec 32 := 0#32
  ![v98.toNat, 0]
@[reducible] def k0_t5_loop (v1 : BitVec 32) : Scf.Loop 32 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c159_i32_43 : BitVec 32 := 159#32
  let v92 : BitVec 32 := Scalar.subi c159_i32_43 v18
  let c1_i32_44 : BitVec 32 := 1#32
  let v94 : BitVec 32 := Scalar.divsi v92 c1_i32_44
  let v95 : BitVec 32 := Scalar.muli v94 c1_i32_44
  let v96 : BitVec 32 := Scalar.addi v18 v95
  let c1_i32_45 : BitVec 32 := 1#32
  ⟨v18, v96, c1_i32_45⟩
def k0_mult14 (v1 : BitVec 32) (k0_t5 : Fin (k0_t5_loop v1).trips) : BitVec 32 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_45 : BitVec 32 := 1#32
  let arg14 : BitVec 32 := Scf.iv v18 c1_i32_45 k0_t5
  let c4096_i32 : BitVec 32 := 4096#32
  let v97 : BitVec 32 := Scalar.muli arg14 c4096_i32
  v97
def k0_off37 (v1 : BitVec 32) (k0_t5 : Fin (k0_t5_loop v1).trips) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c1_i32_45 : BitVec 32 := 1#32
  let arg14 : BitVec 32 := Scf.iv v18 c1_i32_45 k0_t5
  let c4096_i32 : BitVec 32 := 4096#32
  let v97 : BitVec 32 := Scalar.muli arg14 c4096_i32
  let v98 : BitVec 32 := v97
  let c0_i32_49 : BitVec 32 := 0#32
  ![v98.toNat, 0]
@[reducible] def k0_t6_loop (v1 : BitVec 32) : Scf.Loop 32 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c159_i32_43 : BitVec 32 := 159#32
  let v92 : BitVec 32 := Scalar.subi c159_i32_43 v18
  let c1_i32_44 : BitVec 32 := 1#32
  let v94 : BitVec 32 := Scalar.divsi v92 c1_i32_44
  let v95 : BitVec 32 := Scalar.muli v94 c1_i32_44
  let v96 : BitVec 32 := Scalar.addi v18 v95
  let v93 : BitVec 32 := Scalar.addi v18 v92
  let c1_i32_46 : BitVec 32 := 1#32
  ⟨v96, v93, c1_i32_46⟩
def k0_mult15 (v1 : BitVec 32) (k0_t6 : Fin (k0_t6_loop v1).trips) : BitVec 32 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c159_i32_43 : BitVec 32 := 159#32
  let v92 : BitVec 32 := Scalar.subi c159_i32_43 v18
  let c1_i32_44 : BitVec 32 := 1#32
  let v94 : BitVec 32 := Scalar.divsi v92 c1_i32_44
  let v95 : BitVec 32 := Scalar.muli v94 c1_i32_44
  let v96 : BitVec 32 := Scalar.addi v18 v95
  let c1_i32_46 : BitVec 32 := 1#32
  let arg14 : BitVec 32 := Scf.iv v96 c1_i32_46 k0_t6
  let c4096_i32 : BitVec 32 := 4096#32
  let v97 : BitVec 32 := Scalar.muli arg14 c4096_i32
  v97
def k0_off38 (v1 : BitVec 32) (k0_t6 : Fin (k0_t6_loop v1).trips) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c512_i32 : BitVec 32 := 512#32
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let v2 : BitVec 32 := Scalar.divsi v1 c512_i32
  let c1_i32 : BitVec 32 := 1#32
  let v17 : BitVec 32 := Scalar.subi v2 c1_i32
  let v18 : BitVec 32 := Scalar.select v16 v17 v2
  let c159_i32_43 : BitVec 32 := 159#32
  let v92 : BitVec 32 := Scalar.subi c159_i32_43 v18
  let c1_i32_44 : BitVec 32 := 1#32
  let v94 : BitVec 32 := Scalar.divsi v92 c1_i32_44
  let v95 : BitVec 32 := Scalar.muli v94 c1_i32_44
  let v96 : BitVec 32 := Scalar.addi v18 v95
  let c1_i32_46 : BitVec 32 := 1#32
  let arg14 : BitVec 32 := Scf.iv v96 c1_i32_46 k0_t6
  let c4096_i32 : BitVec 32 := 4096#32
  let v97 : BitVec 32 := Scalar.muli arg14 c4096_i32
  let v98 : BitVec 32 := v97
  let c0_i32_49 : BitVec 32 := 0#32
  ![v98.toNat, 0]

def k0_chk3 (i : grid0.Coords) (v1 : BitVec 32) : Prop :=
  (∀ (k0_h7 : k0_cond7 i = 1#1), (k0_t3_loop v1).OK) ∧
  (∀ k0_t3 : Fin (k0_t3_loop v1).trips, ∀ (k0_h7 : k0_cond7 i = 1#1), 4096 ∣ (k0_mult12 v1 k0_t3).toNat) ∧
  (∀ k0_t3 : Fin (k0_t3_loop v1).trips, ∀ (k0_h7 : k0_cond7 i = 1#1), ∀ a, (k0_off35 v1 k0_t3) a + S4096x128.size a ≤ S651264x128.size a) ∧
  (∀ k0_t3 : Fin (k0_t3_loop v1).trips, ∀ (k0_h7 : k0_cond7 i = 1#1), ∀ (hinb : ∀ a, (k0_off35 v1 k0_t3) a + S4096x128.size a ≤ S651264x128.size a), (Rect.unit (s := S651264x128) (k0_off35 v1 k0_t3) S4096x128.size hinb).WholeWords (EltTy.packing .bf16)) ∧
  (∀ (k0_h7 : k0_cond7 i = 1#1), (k0_t4_loop v1).OK) ∧
  (∀ k0_t4 : Fin (k0_t4_loop v1).trips, ∀ (k0_h7 : k0_cond7 i = 1#1), 4096 ∣ (k0_mult13 v1 k0_t4).toNat) ∧
  (∀ k0_t4 : Fin (k0_t4_loop v1).trips, ∀ (k0_h7 : k0_cond7 i = 1#1), ∀ a, (k0_off36 v1 k0_t4) a + S4096x128.size a ≤ S651264x128.size a) ∧
  (∀ k0_t4 : Fin (k0_t4_loop v1).trips, ∀ (k0_h7 : k0_cond7 i = 1#1), ∀ (hinb : ∀ a, (k0_off36 v1 k0_t4) a + S4096x128.size a ≤ S651264x128.size a), (Rect.unit (s := S651264x128) (k0_off36 v1 k0_t4) S4096x128.size hinb).WholeWords (EltTy.packing .bf16)) ∧
  (∀ (k0_h7 : k0_cond7 i = 1#1), (k0_t5_loop v1).OK) ∧
  (∀ k0_t5 : Fin (k0_t5_loop v1).trips, ∀ (k0_h7 : k0_cond7 i = 1#1), 4096 ∣ (k0_mult14 v1 k0_t5).toNat) ∧
  (∀ k0_t5 : Fin (k0_t5_loop v1).trips, ∀ (k0_h7 : k0_cond7 i = 1#1), ∀ a, (k0_off37 v1 k0_t5) a + S4096x128.size a ≤ S651264x128.size a) ∧
  (∀ k0_t5 : Fin (k0_t5_loop v1).trips, ∀ (k0_h7 : k0_cond7 i = 1#1), ∀ (hinb : ∀ a, (k0_off37 v1 k0_t5) a + S4096x128.size a ≤ S651264x128.size a), (Rect.unit (s := S651264x128) (k0_off37 v1 k0_t5) S4096x128.size hinb).WholeWords (EltTy.packing .bf16)) ∧
  (∀ (k0_h7 : k0_cond7 i = 1#1), (k0_t6_loop v1).OK) ∧
  (∀ k0_t6 : Fin (k0_t6_loop v1).trips, ∀ (k0_h7 : k0_cond7 i = 1#1), 4096 ∣ (k0_mult15 v1 k0_t6).toNat) ∧
  (∀ k0_t6 : Fin (k0_t6_loop v1).trips, ∀ (k0_h7 : k0_cond7 i = 1#1), ∀ a, (k0_off38 v1 k0_t6) a + S4096x128.size a ≤ S651264x128.size a) ∧
  (∀ k0_t6 : Fin (k0_t6_loop v1).trips, ∀ (k0_h7 : k0_cond7 i = 1#1), ∀ (hinb : ∀ a, (k0_off38 v1 k0_t6) a + S4096x128.size a ≤ S651264x128.size a), (Rect.unit (s := S651264x128) (k0_off38 v1 k0_t6) S4096x128.size hinb).WholeWords (EltTy.packing .bf16))
theorem k0_t3_ok : ∀ (i : grid0.Coords) (v1 : BitVec 32) (k0_hw3 : k0_chk3 i v1), ∀ (k0_h7 : k0_cond7 i = 1#1), (k0_t3_loop v1).OK := fun i v1 k0_hw3 k0_h7 => k0_hw3.1 k0_h7
theorem k0_mult12_dvd : ∀ (i : grid0.Coords) (v1 : BitVec 32) (k0_hw3 : k0_chk3 i v1) (k0_t3 : Fin (k0_t3_loop v1).trips), ∀ (k0_h7 : k0_cond7 i = 1#1), 4096 ∣ (k0_mult12 v1 k0_t3).toNat := fun i v1 k0_hw3 k0_t3 k0_h7 => k0_hw3.2.1 k0_t3 k0_h7
theorem k0_off35_inb : ∀ (i : grid0.Coords) (v1 : BitVec 32) (k0_hw3 : k0_chk3 i v1) (k0_t3 : Fin (k0_t3_loop v1).trips), ∀ (k0_h7 : k0_cond7 i = 1#1), ∀ a, (k0_off35 v1 k0_t3) a + S4096x128.size a ≤ S651264x128.size a := fun i v1 k0_hw3 k0_t3 k0_h7 => k0_hw3.2.2.1 k0_t3 k0_h7
theorem k0_off35_wordsbf16 : ∀ (i : grid0.Coords) (v1 : BitVec 32) (k0_hw3 : k0_chk3 i v1) (k0_t3 : Fin (k0_t3_loop v1).trips), ∀ (k0_h7 : k0_cond7 i = 1#1), (Rect.unit (s := S651264x128) (k0_off35 v1 k0_t3) S4096x128.size (k0_off35_inb i v1 k0_hw3 k0_t3 k0_h7)).WholeWords (EltTy.packing .bf16) := fun i v1 k0_hw3 k0_t3 k0_h7 => k0_hw3.2.2.2.1 k0_t3 k0_h7 (k0_off35_inb i v1 k0_hw3 k0_t3 k0_h7)
theorem k0_t4_ok : ∀ (i : grid0.Coords) (v1 : BitVec 32) (k0_hw3 : k0_chk3 i v1), ∀ (k0_h7 : k0_cond7 i = 1#1), (k0_t4_loop v1).OK := fun i v1 k0_hw3 k0_h7 => k0_hw3.2.2.2.2.1 k0_h7
theorem k0_mult13_dvd : ∀ (i : grid0.Coords) (v1 : BitVec 32) (k0_hw3 : k0_chk3 i v1) (k0_t4 : Fin (k0_t4_loop v1).trips), ∀ (k0_h7 : k0_cond7 i = 1#1), 4096 ∣ (k0_mult13 v1 k0_t4).toNat := fun i v1 k0_hw3 k0_t4 k0_h7 => k0_hw3.2.2.2.2.2.1 k0_t4 k0_h7
theorem k0_off36_inb : ∀ (i : grid0.Coords) (v1 : BitVec 32) (k0_hw3 : k0_chk3 i v1) (k0_t4 : Fin (k0_t4_loop v1).trips), ∀ (k0_h7 : k0_cond7 i = 1#1), ∀ a, (k0_off36 v1 k0_t4) a + S4096x128.size a ≤ S651264x128.size a := fun i v1 k0_hw3 k0_t4 k0_h7 => k0_hw3.2.2.2.2.2.2.1 k0_t4 k0_h7
theorem k0_off36_wordsbf16 : ∀ (i : grid0.Coords) (v1 : BitVec 32) (k0_hw3 : k0_chk3 i v1) (k0_t4 : Fin (k0_t4_loop v1).trips), ∀ (k0_h7 : k0_cond7 i = 1#1), (Rect.unit (s := S651264x128) (k0_off36 v1 k0_t4) S4096x128.size (k0_off36_inb i v1 k0_hw3 k0_t4 k0_h7)).WholeWords (EltTy.packing .bf16) := fun i v1 k0_hw3 k0_t4 k0_h7 => k0_hw3.2.2.2.2.2.2.2.1 k0_t4 k0_h7 (k0_off36_inb i v1 k0_hw3 k0_t4 k0_h7)
theorem k0_t5_ok : ∀ (i : grid0.Coords) (v1 : BitVec 32) (k0_hw3 : k0_chk3 i v1), ∀ (k0_h7 : k0_cond7 i = 1#1), (k0_t5_loop v1).OK := fun i v1 k0_hw3 k0_h7 => k0_hw3.2.2.2.2.2.2.2.2.1 k0_h7
theorem k0_mult14_dvd : ∀ (i : grid0.Coords) (v1 : BitVec 32) (k0_hw3 : k0_chk3 i v1) (k0_t5 : Fin (k0_t5_loop v1).trips), ∀ (k0_h7 : k0_cond7 i = 1#1), 4096 ∣ (k0_mult14 v1 k0_t5).toNat := fun i v1 k0_hw3 k0_t5 k0_h7 => k0_hw3.2.2.2.2.2.2.2.2.2.1 k0_t5 k0_h7
theorem k0_off37_inb : ∀ (i : grid0.Coords) (v1 : BitVec 32) (k0_hw3 : k0_chk3 i v1) (k0_t5 : Fin (k0_t5_loop v1).trips), ∀ (k0_h7 : k0_cond7 i = 1#1), ∀ a, (k0_off37 v1 k0_t5) a + S4096x128.size a ≤ S651264x128.size a := fun i v1 k0_hw3 k0_t5 k0_h7 => k0_hw3.2.2.2.2.2.2.2.2.2.2.1 k0_t5 k0_h7
theorem k0_off37_wordsbf16 : ∀ (i : grid0.Coords) (v1 : BitVec 32) (k0_hw3 : k0_chk3 i v1) (k0_t5 : Fin (k0_t5_loop v1).trips), ∀ (k0_h7 : k0_cond7 i = 1#1), (Rect.unit (s := S651264x128) (k0_off37 v1 k0_t5) S4096x128.size (k0_off37_inb i v1 k0_hw3 k0_t5 k0_h7)).WholeWords (EltTy.packing .bf16) := fun i v1 k0_hw3 k0_t5 k0_h7 => k0_hw3.2.2.2.2.2.2.2.2.2.2.2.1 k0_t5 k0_h7 (k0_off37_inb i v1 k0_hw3 k0_t5 k0_h7)
theorem k0_t6_ok : ∀ (i : grid0.Coords) (v1 : BitVec 32) (k0_hw3 : k0_chk3 i v1), ∀ (k0_h7 : k0_cond7 i = 1#1), (k0_t6_loop v1).OK := fun i v1 k0_hw3 k0_h7 => k0_hw3.2.2.2.2.2.2.2.2.2.2.2.2.1 k0_h7
theorem k0_mult15_dvd : ∀ (i : grid0.Coords) (v1 : BitVec 32) (k0_hw3 : k0_chk3 i v1) (k0_t6 : Fin (k0_t6_loop v1).trips), ∀ (k0_h7 : k0_cond7 i = 1#1), 4096 ∣ (k0_mult15 v1 k0_t6).toNat := fun i v1 k0_hw3 k0_t6 k0_h7 => k0_hw3.2.2.2.2.2.2.2.2.2.2.2.2.2.1 k0_t6 k0_h7
theorem k0_off38_inb : ∀ (i : grid0.Coords) (v1 : BitVec 32) (k0_hw3 : k0_chk3 i v1) (k0_t6 : Fin (k0_t6_loop v1).trips), ∀ (k0_h7 : k0_cond7 i = 1#1), ∀ a, (k0_off38 v1 k0_t6) a + S4096x128.size a ≤ S651264x128.size a := fun i v1 k0_hw3 k0_t6 k0_h7 => k0_hw3.2.2.2.2.2.2.2.2.2.2.2.2.2.2.1 k0_t6 k0_h7
theorem k0_off38_wordsbf16 : ∀ (i : grid0.Coords) (v1 : BitVec 32) (k0_hw3 : k0_chk3 i v1) (k0_t6 : Fin (k0_t6_loop v1).trips), ∀ (k0_h7 : k0_cond7 i = 1#1), (Rect.unit (s := S651264x128) (k0_off38 v1 k0_t6) S4096x128.size (k0_off38_inb i v1 k0_hw3 k0_t6 k0_h7)).WholeWords (EltTy.packing .bf16) := fun i v1 k0_hw3 k0_t6 k0_h7 => k0_hw3.2.2.2.2.2.2.2.2.2.2.2.2.2.2.2 k0_t6 k0_h7 (k0_off38_inb i v1 k0_hw3 k0_t6 k0_h7)

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MoeRefIdeal.lean ====
abbrev S32 : Shape := ⟨1, ![32]⟩
abbrev S651264x128 : Shape := ⟨2, ![651264, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S81408x4x2x128 : Shape := ⟨4, ![81408, 4, 2, 128]⟩
abbrev S81408x2x4x128 : Shape := ⟨4, ![81408, 2, 4, 128]⟩
abbrev S81408x1024 : Shape := ⟨2, ![81408, 1024]⟩
abbrev S81408 : Shape := ⟨1, ![81408]⟩
abbrev S81408x1 : Shape := ⟨2, ![81408, 1]⟩
abbrev S_ : Shape := ⟨0, ![]⟩
abbrev S1 : Shape := ⟨1, ![1]⟩
abbrev S31 : Shape := ⟨1, ![31]⟩
abbrev S1x32 : Shape := ⟨2, ![1, 32]⟩
abbrev S81408x32 : Shape := ⟨2, ![81408, 32]⟩
abbrev S81408x32x2048 : Shape := ⟨3, ![81408, 32, 2048]⟩
abbrev S1x32x2048 : Shape := ⟨3, ![1, 32, 2048]⟩
abbrev S81408x32x1024 : Shape := ⟨3, ![81408, 32, 1024]⟩
abbrev S32x81408x1024 : Shape := ⟨3, ![32, 81408, 1024]⟩
abbrev S32x1x1024 : Shape := ⟨3, ![32, 1, 1024]⟩
abbrev S32x81408 : Shape := ⟨2, ![32, 81408]⟩
abbrev S32x81408x1 : Shape := ⟨3, ![32, 81408, 1]⟩

abbrev nBuf : Space → Nat
  | .hbm => 75
  | .vmem => 0
  | .smem => 0
  | _ => 0

abbrev bufTy : (tb : Table) → Fin (tcTables nBuf tb) → BufTy
  | .hbm, ⟨0, _⟩ => ⟨S32, .i32⟩
  | .hbm, ⟨1, _⟩ => ⟨S651264x128, .bf16⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S81408x4x2x128, .bf16⟩
  | .hbm, ⟨7, _⟩ => ⟨S81408x2x4x128, .bf16⟩
  | .hbm, ⟨8, _⟩ => ⟨S81408x1024, .bf16⟩
  | .hbm, ⟨9, _⟩ => ⟨S81408x1024, .f32⟩
  | .hbm, ⟨10, _⟩ => ⟨S81408, .i32⟩
  | .hbm, ⟨11, _⟩ => ⟨S81408x1, .i32⟩
  | .hbm, ⟨12, _⟩ => ⟨S_, .i32⟩
  | .hbm, ⟨13, _⟩ => ⟨S1, .i32⟩
  | .hbm, ⟨14, _⟩ => ⟨S31, .i32⟩
  | .hbm, ⟨15, _⟩ => ⟨S32, .i32⟩
  | .hbm, ⟨16, _⟩ => ⟨S1x32, .i32⟩
  | .hbm, ⟨17, _⟩ => ⟨S81408x32, .i32⟩
  | .hbm, ⟨18, _⟩ => ⟨S81408x32, .i32⟩
  | .hbm, ⟨19, _⟩ => ⟨S81408x32, .i1⟩
  | .hbm, ⟨20, _⟩ => ⟨S1x32, .i32⟩
  | .hbm, ⟨21, _⟩ => ⟨S81408x32, .i32⟩
  | .hbm, ⟨22, _⟩ => ⟨S81408x32, .i32⟩
  | .hbm, ⟨23, _⟩ => ⟨S81408x32, .i1⟩
  | .hbm, ⟨24, _⟩ => ⟨S81408x32, .i1⟩
  | .hbm, ⟨25, _⟩ => ⟨S81408x32x2048, .f32⟩
  | .hbm, ⟨26, _⟩ => ⟨S1x32x2048, .f32⟩
  | .hbm, ⟨27, _⟩ => ⟨S81408x32x2048, .f32⟩
  | .hbm, ⟨28, _⟩ => ⟨S81408x32x2048, .f32⟩
  | .hbm, ⟨29, _⟩ => ⟨S81408x32x1024, .f32⟩
  | .hbm, ⟨30, _⟩ => ⟨S_, .f32⟩
  | .hbm, ⟨31, _⟩ => ⟨S81408x32x1024, .f32⟩
  | .hbm, ⟨32, _⟩ => ⟨S81408x32x1024, .f32⟩
  | .hbm, ⟨33, _⟩ => ⟨S81408x32x1024, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S81408x32x1024, .f32⟩
  | .hbm, ⟨38, _⟩ => ⟨S81408x32x1024, .f32⟩
  | .hbm, ⟨39, _⟩ => ⟨S_, .f32⟩
  | .hbm, ⟨40, _⟩ => ⟨S81408x32x1024, .f32⟩
  | .hbm, ⟨41, _⟩ => ⟨S81408x32x1024, .f32⟩
  | .hbm, ⟨42, _⟩ => ⟨S_, .f32⟩
  | .hbm, ⟨43, _⟩ => ⟨S81408x32x1024, .f32⟩
  | .hbm, ⟨44, _⟩ => ⟨S81408x32x1024, .f32⟩
  | .hbm, ⟨45, _⟩ => ⟨S_, .f32⟩
  | .hbm, ⟨46, _⟩ => ⟨S81408x32x1024, .f32⟩
  | .hbm, ⟨47, _⟩ => ⟨S81408x32x1024, .f32⟩
  | .hbm, ⟨48, _⟩ => ⟨S81408x32x1024, .f32⟩
  | .hbm, ⟨49, _⟩ => ⟨S81408x32x1024, .f32⟩
  | .hbm, ⟨50, _⟩ => ⟨S_, .f32⟩
  | .hbm, ⟨51, _⟩ => ⟨S81408x32x1024, .f32⟩
  | .hbm, ⟨52, _⟩ => ⟨S81408x32x1024, .f32⟩
  | .hbm, ⟨53, _⟩ => ⟨S_, .f32⟩
  | .hbm, ⟨54, _⟩ => ⟨S81408x32x1024, .f32⟩
  | .hbm, ⟨55, _⟩ => ⟨S81408x32x1024, .f32⟩
  | .hbm, ⟨56, _⟩ => ⟨S81408x32x1024, .f32⟩
  | .hbm, ⟨57, _⟩ => ⟨S81408x32x1024, .f32⟩
  | .hbm, ⟨58, _⟩ => ⟨S32x81408x1024, .f32⟩
  | .hbm, ⟨59, _⟩ => ⟨S32x1x1024, .f32⟩
  | .hbm, ⟨60, _⟩ => ⟨S32x81408x1024, .f32⟩
  | .hbm, ⟨61, _⟩ => ⟨S32x81408x1024, .f32⟩
  | .hbm, ⟨62, _⟩ => ⟨S32x81408, .i1⟩
  | .hbm, ⟨63, _⟩ => ⟨S32x81408x1, .i1⟩
  | .hbm, ⟨64, _⟩ => ⟨S_, .f32⟩
  | .hbm, ⟨65, _⟩ => ⟨S_, .f32⟩
  | .hbm, ⟨66, _⟩ => ⟨S32x81408x1024, .i1⟩
  | .hbm, ⟨67, _⟩ => ⟨S32x81408x1024, .f32⟩
  | .hbm, ⟨68, _⟩ => ⟨S32x81408x1024, .f32⟩
  | .hbm, ⟨69, _⟩ => ⟨S_, .f32⟩
  | .hbm, ⟨70, _⟩ => ⟨S81408x1024, .f32⟩
  | .hbm, ⟨71, _⟩ => ⟨S81408x1024, .bf16⟩
  | .hbm, ⟨72, _⟩ => ⟨S81408x2x4x128, .bf16⟩
  | .hbm, ⟨73, _⟩ => ⟨S81408x4x2x128, .bf16⟩
  | .hbm, ⟨74, _⟩ => ⟨S651264x128, .bf16⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_0 : Ref sig .tc := ⟨.hbm, 34, rfl⟩
abbrev main_cst_1 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v45 : Ref sig .tc := ⟨.hbm, 68, rfl⟩
abbrev main_cst_7 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩

abbrev nD : Nat := 1
abbrev τ : Topo := Topo.v7x

variable {F : FTy → Type} [FloatOps F]
-- ==== Memkv.lean ====
abbrev S4x256x1024 : Shape := ⟨3, ![4, 256, 1024]⟩
abbrev S1x1024 : Shape := ⟨2, ![1, 1024]⟩
abbrev S1x1024x1024 : Shape := ⟨3, ![1, 1024, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 9
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | .hbm, ⟨7, _⟩ => ⟨S1024x1024, .f32⟩
  | .hbm, ⟨8, _⟩ => ⟨S1024x1024, .bf16⟩
  | .hbm, ⟨9, _⟩ => ⟨S1024x1024, .bf16⟩
  | .hbm, ⟨10, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemkvRefIdeal.lean ====
abbrev S4x256x1024 : Shape := ⟨3, ![4, 256, 1024]⟩
abbrev S1x1024 : Shape := ⟨2, ![1, 1024]⟩
abbrev S1x1024x1024 : Shape := ⟨3, ![1, 1024, 1024]⟩
abbrev S_ : Shape := ⟨0, ![]⟩
abbrev S4x256 : Shape := ⟨2, ![4, 256]⟩
abbrev S4x256x1 : Shape := ⟨3, ![4, 256, 1]⟩
abbrev S1024 : Shape := ⟨1, ![1024]⟩
abbrev S1x1x1024 : Shape := ⟨3, ![1, 1, 1024]⟩
abbrev S1024x1024 : Shape := ⟨2, ![1024, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S4x256x1024, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x1024, .f32⟩
  | .hbm, ⟨16, _⟩ => ⟨S4x256x1024, .f32⟩
  | .hbm, ⟨17, _⟩ => ⟨S1024, .f32⟩
  | .hbm, ⟨18, _⟩ => ⟨S1x1x1024, .f32⟩
  | .hbm, ⟨19, _⟩ => ⟨S4x256x1024, .f32⟩
  | .hbm, ⟨20, _⟩ => ⟨S4x256x1024, .f32⟩
  | .hbm, ⟨21, _⟩ => ⟨S1024x1024, .f32⟩
  | .hbm, ⟨22, _⟩ => ⟨S4x256x1024, .f32⟩
  | .hbm, ⟨23, _⟩ => ⟨S1024x1024, .f32⟩
  | .hbm, ⟨24, _⟩ => ⟨S1024x1024, .f32⟩
  | .hbm, ⟨25, _⟩ => ⟨S4x256x1024, .f32⟩
  | .hbm, ⟨26, _⟩ => ⟨S1024x1024, .f32⟩
  | .hbm, ⟨27, _⟩ => ⟨S1024x1024, .bf16⟩
  | .hbm, ⟨28, _⟩ => ⟨S1024x1024, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Xattn.lean ====
abbrev S16384x1024 : Shape := ⟨2, ![16384, 1024]⟩
abbrev S1024x1024 : Shape := ⟨2, ![1024, 1024]⟩
abbrev S1x1024 : Shape := ⟨2, ![1, 1024]⟩
abbrev S1x1024x1024 : Shape := ⟨3, ![1, 1024, 1024]⟩
abbrev S1x1024x32 : Shape := ⟨3, ![1, 1024, 32]⟩
abbrev S1x32 : Shape := ⟨2, ![1, 32]⟩
abbrev S1024x32 : Shape := ⟨2, ![1024, 32]⟩
abbrev S32x1024 : Shape := ⟨2, ![32, 1024]⟩
abbrev S32 : Shape := ⟨1, ![32]⟩
abbrev S32x1 : Shape := ⟨2, ![32, 1]⟩
abbrev S_ : Shape := ⟨0, ![]⟩
abbrev S131072x128 : Shape := ⟨2, ![131072, 128]⟩
abbrev S8x16384 : Shape := ⟨2, ![8, 16384]⟩
abbrev S32x128 : Shape := ⟨2, ![32, 128]⟩
abbrev S256x1024 : Shape := ⟨2, ![256, 1024]⟩
abbrev S8192x128 : Shape := ⟨2, ![8192, 128]⟩
abbrev S8x1024 : Shape := ⟨2, ![8, 1024]⟩
abbrev S1024 : Shape := ⟨1, ![1024]⟩
abbrev S1024x1 : Shape := ⟨2, ![1024, 1]⟩
abbrev S1024x256 : Shape := ⟨2, ![1024, 256]⟩
abbrev S256x256 : Shape := ⟨2, ![256, 256]⟩
abbrev S1024x512 : Shape := ⟨2, ![1024, 512]⟩
abbrev S1024x128 : Shape := ⟨2, ![1024, 128]⟩
abbrev S1024x1x128 : Shape := ⟨3, ![1024, 1, 128]⟩
abbrev S1024x8x128 : Shape := ⟨3, ![1024, 8, 128]⟩

abbrev nBuf : Space → Nat
  | .hbm => 34
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S1024x1024, .bf16⟩
  | .hbm, ⟨3, _⟩ => ⟨S1x1024, .f32⟩
  | .hbm, ⟨4, _⟩ => ⟨S1x1024x1024, .f32⟩
  | .hbm, ⟨5, _⟩ => ⟨S1x1024x1024, .f32⟩
  | .hbm, ⟨6, _⟩ => ⟨S1x1024, .f32⟩
  | .hbm, ⟨7, _⟩ => ⟨S1x1024x32, .f32⟩
  | .hbm, ⟨8, _⟩ => ⟨S1x32, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x32, .f32⟩
  | .hbm, ⟨14, _⟩ => ⟨S32x1024, .f32⟩
  | .hbm, ⟨15, _⟩ => ⟨S32x1024, .bf16⟩
  | .hbm, ⟨16, _⟩ => ⟨S32, .f32⟩
  | .hbm, ⟨17, _⟩ => ⟨S32x1, .f32⟩
  | .hbm, ⟨18, _⟩ => ⟨S_, .bf16⟩
  | .hbm, ⟨19, _⟩ => ⟨S1024x1024, .bf16⟩
  | .hbm, ⟨20, _⟩ => ⟨S1024x1024, .i32⟩
  | .hbm, ⟨21, _⟩ => ⟨S_, .i32⟩
  | .hbm, ⟨22, _⟩ => ⟨S1024x1024, .i32⟩
  | .hbm, ⟨23, _⟩ => ⟨S1024x1024, .i32⟩
  | .hbm, ⟨24, _⟩ => ⟨S1024x1024, .i32⟩
  | .hbm, ⟨25, _⟩ => ⟨S1024x1024, .i1⟩
  | .hbm, ⟨26, _⟩ => ⟨S_, .bf16⟩
  | .hbm, ⟨27, _⟩ => ⟨S1024x1024, .bf16⟩
  | .hbm, ⟨28, _⟩ => ⟨S1024x1024, .bf16⟩
  | .hbm, ⟨29, _⟩ => ⟨S16384x1024, .f32⟩
  | .hbm, ⟨30, _⟩ => ⟨S131072x128, .bf16⟩
  | .hbm, ⟨31, _⟩ => ⟨S8x16384, .i32⟩
  | .hbm, ⟨32, _⟩ => ⟨S8x16384, .f32⟩
  | .hbm, ⟨33, _⟩ => ⟨S32x128, .f32⟩
  | .local _ .vmem, ⟨0, _⟩ => ⟨S1024x1024, .f32⟩
  | .local _ .vmem, ⟨1, _⟩ => ⟨S1024x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S32x1024, .bf16⟩
  | .local _ .vmem, ⟨11, _⟩ => ⟨S32x1, .f32⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | .local _ .vmem, ⟨15, _⟩ => ⟨S8192x128, .bf16⟩
  | .local _ .vmem, ⟨16, _⟩ => ⟨S8192x128, .bf16⟩
  | .local _ .vmem, ⟨17, _⟩ => ⟨S8x1024, .i32⟩
  | .local _ .vmem, ⟨18, _⟩ => ⟨S8x1024, .i32⟩
  | .local _ .vmem, ⟨19, _⟩ => ⟨S8x1024, .f32⟩
  | .local _ .vmem, ⟨20, _⟩ => ⟨S8x1024, .f32⟩
  | .local _ .vmem, ⟨21, _⟩ => ⟨S32x128, .f32⟩
  | .local _ .vmem, ⟨22, _⟩ => ⟨S32x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_cst : Ref sig .tc := ⟨.hbm, 26, rfl⟩
abbrev main_call0_v5 : Ref sig .tc := ⟨.hbm, 27, rfl⟩
abbrev main_v10 : Ref sig .tc := ⟨.hbm, 28, rfl⟩
abbrev main_v11_0 : Ref sig .tc := ⟨.hbm, 29, rfl⟩
abbrev main_v11_1 : Ref sig .tc := ⟨.hbm, 30, rfl⟩
abbrev main_v11_2 : Ref sig .tc := ⟨.hbm, 31, rfl⟩
abbrev main_v11_3 : Ref sig .tc := ⟨.hbm, 32, rfl⟩
abbrev main_v11_4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_2 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8192x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1024 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S32x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== XattnRefIdeal.lean ====
abbrev S16384x1024 : Shape := ⟨2, ![16384, 1024]⟩
abbrev S1024x1024 : Shape := ⟨2, ![1024, 1024]⟩
abbrev S1x1024 : Shape := ⟨2, ![1, 1024]⟩
abbrev S1x1024x1024 : Shape := ⟨3, ![1, 1024, 1024]⟩
abbrev S1x1024x32 : Shape := ⟨3, ![1, 1024, 32]⟩
abbrev S1x32 : Shape := ⟨2, ![1, 32]⟩
abbrev S_ : Shape := ⟨0, ![]⟩
abbrev S16384 : Shape := ⟨1, ![16384]⟩
abbrev S16384x1 : Shape := ⟨2, ![16384, 1]⟩
abbrev S4x4096x4x256 : Shape := ⟨4, ![4, 4096, 4, 256]⟩
abbrev S4x256x4x256 : Shape := ⟨4, ![4, 256, 4, 256]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x256x4096 : Shape := ⟨4, ![4, 4, 256, 4096]⟩
abbrev S16384x2x4x128 : Shape := ⟨4, ![16384, 2, 4, 128]⟩
abbrev S16384x4x2x128 : Shape := ⟨4, ![16384, 4, 2, 128]⟩
abbrev S131072x128 : Shape := ⟨2, ![131072, 128]⟩
abbrev S1024x32 : Shape := ⟨2, ![1024, 32]⟩
abbrev S16384x32 : Shape := ⟨2, ![16384, 32]⟩
abbrev S16384x16384 : Shape := ⟨2, ![16384, 16384]⟩
abbrev S32 : Shape := ⟨1, ![32]⟩
abbrev S32x1 : Shape := ⟨2, ![32, 1]⟩
abbrev S16384x8 : Shape := ⟨2, ![16384, 8]⟩
abbrev S8x16384 : Shape := ⟨2, ![8, 16384]⟩
abbrev S16384x4 : Shape := ⟨2, ![16384, 4]⟩
abbrev S32x128 : Shape := ⟨2, ![32, 128]⟩

abbrev nBuf : Space → Nat
  | .hbm => 264
  | .vmem => 0
  | .smem => 0
  | _ => 0

abbrev hbmTy0_0 (i : Nat) : BufTy := match i % 128 with
  | 0 => ⟨S16384x1024, .f32⟩
  | 1 => ⟨S1024x1024, .bf16⟩
  | 2 => ⟨S1024x1024, .bf16⟩
  | 3 => ⟨S1x1024, .f32⟩
  | 4 => ⟨S1x1024x1024, .f32⟩
  | 5 => ⟨S1x1024x1024, .f32⟩
  | 6 => ⟨S1x1024, .f32⟩
  | 7 => ⟨S1x1024x32, .f32⟩
  | 8 => ⟨S1x32, .f32⟩
  | 9 => ⟨S16384x1024, .f32⟩
  | 10 => ⟨S_, .f32⟩
  | 11 => ⟨S16384, .f32⟩
  | 12 => ⟨S16384x1, .f32⟩
  | 13 => ⟨S_, .f32⟩
  | 14 => ⟨S16384x1, .f32⟩
  | 15 => ⟨S16384x1, .f32⟩
  | 16 => ⟨S_, .f32⟩
  | 17 => ⟨S16384x1, .f32⟩
  | 18 => ⟨S16384x1, .f32⟩
  | 19 => ⟨S16384x1, .f32⟩
  | 20 => ⟨S16384x1024, .f32⟩
  | 21 => ⟨S16384x1024, .f32⟩
  | 22 => ⟨S16384x1024, .f32⟩
  | 23 => ⟨S16384x1024, .f32⟩
  | 24 => ⟨S1024x1024, .f32⟩
  | 25 => ⟨S16384x1024, .f32⟩
  | 26 => ⟨S4x4096x4x256, .f32⟩
  | 27 => ⟨S1024x1024, .f32⟩
  | 28 => ⟨S4x256x4x256, .f32⟩
  | 29 => ⟨S1024x1024, .f32⟩
  | 30 => ⟨S4x256x4x256, .f32⟩
  | 31 => ⟨S4x4x4096x256, .f32⟩
  | 32 => ⟨S_, .f32⟩
  | 33 => ⟨S4x4x4096x256, .f32⟩
  | 34 => ⟨S4x4x4096x256, .f32⟩
  | 35 => ⟨S_, .f32⟩
  | 36 => ⟨S4x4x4096, .f32⟩
  | 37 => ⟨S4x4x4096x1, .f32⟩
  | 38 => ⟨S4x4x4096x256, .f32⟩
  | 39 => ⟨S4x4x4096x256, .f32⟩
  | 40 => ⟨S4x4x4096x256, .f32⟩
  | 41 => ⟨S_, .f32⟩
  | 42 => ⟨S4x4x4096, .f32⟩
  | 43 => ⟨S4x4x4096x1, .f32⟩
  | 44 => ⟨S4x4x4096x256, .f32⟩
  | 45 => ⟨S4x4x4096x256, .f32⟩
  | 46 => ⟨S4x4x256x4096, .f32⟩
  | 47 => ⟨S4x4096x4x256, .f32⟩
  | 48 => ⟨S16384x1024, .f32⟩
  | 49 => ⟨S1024x1024, .f32⟩
  | 50 => ⟨S16384x1024, .f32⟩
  | 51 => ⟨S16384x1024, .f32⟩
  | 52 => ⟨S16384x1024, .f32⟩
  | 53 => ⟨S_, .f32⟩
  | 54 => ⟨S16384, .f32⟩
  | 55 => ⟨S16384x1, .f32⟩
  | 56 => ⟨S_, .f32⟩
  | 57 => ⟨S16384x1, .f32⟩
  | 58 => ⟨S16384x1, .f32⟩
  | 59 => ⟨S_, .f32⟩
  | 60 => ⟨S16384x1, .f32⟩
  | 61 => ⟨S16384x1, .f32⟩
  | 62 => ⟨S16384x1, .f32⟩
  | 63 => ⟨S16384x1024, .f32⟩
  | 64 => ⟨S16384x1024, .f32⟩
  | 65 => ⟨S16384x1024, .f32⟩
  | 66 => ⟨S16384x1024, .f32⟩
  | 67 => ⟨S16384x2x4x128, .f32⟩
  | 68 => ⟨S16384x4x2x128, .f32⟩
  | 69 => ⟨S131072x128, .f32⟩
  | 70 => ⟨S131072x128, .bf16⟩
  | 71 => ⟨S1024x32, .f32⟩
  | 72 => ⟨S16384x32, .f32⟩
  | 73 => ⟨S16384x32, .f32⟩
  | 74 => ⟨S16384x32, .f32⟩
  | 75 => ⟨S16384x32, .i32⟩
  | 76 => ⟨S_, .f32⟩
  | 77 => ⟨S16384, .f32⟩
  | 78 => ⟨S16384x1, .f32⟩
  | 79 => ⟨S16384x32, .f32⟩
  | 80 => ⟨S16384x32, .i1⟩
  | 81 => ⟨S_, .i32⟩
  | 82 => ⟨S_, .i32⟩
  | 83 => ⟨S16384x32, .i32⟩
  | 84 => ⟨S16384x32, .i32⟩
  | 85 => ⟨S_, .i32⟩
  | 86 => ⟨S16384, .i32⟩
  | 87 => ⟨S16384x1, .i32⟩
  | 88 => ⟨S16384x32, .i32⟩
  | 89 => ⟨S16384x32, .i1⟩
  | 90 => ⟨S_, .f32⟩
  | 91 => ⟨S_, .f32⟩
  | 92 => ⟨S16384x32, .f32⟩
  | 93 => ⟨S16384x32, .f32⟩
  | 94 => ⟨S_, .f32⟩
  | 95 => ⟨S16384, .f32⟩
  | 96 => ⟨S16384x1, .f32⟩
  | 97 => ⟨S16384x32, .f32⟩
  | 98 => ⟨S16384x32, .i1⟩
  | 99 => ⟨S_, .i32⟩
  | 100 => ⟨S_, .i32⟩
  | 101 => ⟨S16384x32, .i32⟩
  | 102 => ⟨S16384x32, .i32⟩
  | 103 => ⟨S_, .i32⟩
  | 104 => ⟨S16384, .i32⟩
  | 105 => ⟨S16384x1, .i32⟩
  | 106 => ⟨S16384x32, .i32⟩
  | 107 => ⟨S16384x32, .i1⟩
  | 108 => ⟨S_, .f32⟩
  | 109 => ⟨S_, .f32⟩
  | 110 => ⟨S16384x32, .f32⟩
  | 111 => ⟨S16384x32, .f32⟩
  | 112 => ⟨S_, .f32⟩
  | 113 => ⟨S16384, .f32⟩
  | 114 => ⟨S16384x1, .f32⟩
  | 115 => ⟨S16384x32, .f32⟩
  | 116 => ⟨S16384x32, .i1⟩
  | 117 => ⟨S_, .i32⟩
  | 118 => ⟨S_, .i32⟩
  | 119 => ⟨S16384x32, .i32⟩
  | 120 => ⟨S16384x32, .i32⟩
  | 121 => ⟨S_, .i32⟩
  | 122 => ⟨S16384, .i32⟩
  | 123 => ⟨S16384x1, .i32⟩
  | 124 => ⟨S16384x32, .i32⟩
  | 125 => ⟨S16384x32, .i1⟩
  | 126 => ⟨S_, .f32⟩
  | 127 => ⟨S_, .f32⟩
  | _ => ⟨S16384x1024, .f32⟩

abbrev hbmTy0_1 (i : Nat) : BufTy := match i % 128 with
  | 0 => ⟨S16384x32, .f32⟩
  | 1 => ⟨S16384x32, .f32⟩
  | 2 => ⟨S_, .f32⟩
  | 3 => ⟨S16384, .f32⟩
  | 4 => ⟨S16384x1, .f32⟩
  | 5 => ⟨S16384x32, .f32⟩
  | 6 => ⟨S16384x32, .i1⟩
  | 7 => ⟨S_, .i32⟩
  | 8 => ⟨S_, .i32⟩
  | 9 => ⟨S16384x32, .i32⟩
  | 10 => ⟨S16384x32, .i32⟩
  | 11 => ⟨S_, .i32⟩
  | 12 => ⟨S16384, .i32⟩
  | 13 => ⟨S16384x1, .i32⟩
  | 14 => ⟨S16384x32, .i32⟩
  | 15 => ⟨S16384x32, .i1⟩
  | 16 => ⟨S_, .f32⟩
  | 17 => ⟨S_, .f32⟩
  | 18 => ⟨S16384x32, .f32⟩
  | 19 => ⟨S16384x32, .f32⟩
  | 20 => ⟨S16384x1, .f32⟩
  | 21 => ⟨S16384x1, .f32⟩
  | 22 => ⟨S16384x1, .f32⟩
  | 23 => ⟨S16384x1, .f32⟩
  | 24 => ⟨S16384x1, .f32⟩
  | 25 => ⟨S16384x1, .f32⟩
  | 26 => ⟨S16384x1, .f32⟩
  | 27 => ⟨S16384x1, .f32⟩
  | 28 => ⟨S16384x1, .f32⟩
  | 29 => ⟨S16384x1, .f32⟩
  | 30 => ⟨S16384x1, .f32⟩
  | 31 => ⟨S16384x1, .f32⟩
  | 32 => ⟨S16384x1, .f32⟩
  | 33 => ⟨S16384x1, .f32⟩
  | 34 => ⟨S16384x1, .f32⟩
  | 35 => ⟨S16384x1, .f32⟩
  | 36 => ⟨S16384x1, .f32⟩
  | 37 => ⟨S16384x1, .f32⟩
  | 38 => ⟨S16384x1, .f32⟩
  | 39 => ⟨S16384x1, .f32⟩
  | 40 => ⟨S16384x1, .f32⟩
  | 41 => ⟨S16384x1, .f32⟩
  | 42 => ⟨S16384x1, .f32⟩
  | 43 => ⟨S16384x1, .f32⟩
  | 44 => ⟨S16384x32, .i32⟩
  | 45 => ⟨S16384x32, .i1⟩
  | 46 => ⟨S_, .f32⟩
  | 47 => ⟨S_, .f32⟩
  | 48 => ⟨S16384x32, .f32⟩
  | 49 => ⟨S16384x32, .f32⟩
  | 50 => ⟨S16384x32, .f32⟩
  | 51 => ⟨S16384x32, .i32⟩
  | 52 => ⟨S16384x32, .i1⟩
  | 53 => ⟨S_, .f32⟩
  | 54 => ⟨S_, .f32⟩
  | 55 => ⟨S16384x32, .f32⟩
  | 56 => ⟨S16384x32, .f32⟩
  | 57 => ⟨S16384x32, .f32⟩
  | 58 => ⟨S16384x32, .i32⟩
  | 59 => ⟨S16384x32, .i1⟩
  | 60 => ⟨S_, .f32⟩
  | 61 => ⟨S_, .f32⟩
  | 62 => ⟨S16384x32, .f32⟩
  | 63 => ⟨S16384x32, .f32⟩
  | 64 => ⟨S16384x32, .f32⟩
  | 65 => ⟨S16384x32, .i32⟩
  | 66 => ⟨S16384x32, .i1⟩
  | 67 => ⟨S_, .f32⟩
  | 68 => ⟨S_, .f32⟩
  | 69 => ⟨S16384x32, .f32⟩
  | 70 => ⟨S16384x32, .f32⟩
  | 71 => ⟨S16384x32, .f32⟩
  | 72 => ⟨S16384x32, .f32⟩
  | 73 => ⟨S16384x32, .f32⟩
  | 74 => ⟨S16384x32, .f32⟩
  | 75 => ⟨S16384x16384, .i32⟩
  | 76 => ⟨S16384x16384, .i32⟩
  | 77 => ⟨S16384x16384, .i1⟩
  | 78 => ⟨S_, .f32⟩
  | 79 => ⟨S_, .f32⟩
  | 80 => ⟨S16384x16384, .f32⟩
  | 81 => ⟨S16384x16384, .f32⟩
  | 82 => ⟨S16384x16384, .f32⟩
  | 83 => ⟨S16384x32, .f32⟩
  | 84 => ⟨S16384x32, .i32⟩
  | 85 => ⟨S16384x32, .i1⟩
  | 86 => ⟨S_, .f32⟩
  | 87 => ⟨S16384x32, .f32⟩
  | 88 => ⟨S16384x32, .f32⟩
  | 89 => ⟨S16384x32, .f32⟩
  | 90 => ⟨S_, .f32⟩
  | 91 => ⟨S16384, .f32⟩
  | 92 => ⟨S16384x1, .f32⟩
  | 93 => ⟨S16384x1, .i32⟩
  | 94 => ⟨S16384x32, .i32⟩
  | 95 => ⟨S16384x32, .i1⟩
  | 96 => ⟨S_, .f32⟩
  | 97 => ⟨S16384x32, .f32⟩
  | 98 => ⟨S16384x32, .f32⟩
  | 99 => ⟨S16384x32, .f32⟩
  | 100 => ⟨S_, .f32⟩
  | 101 => ⟨S16384, .f32⟩
  | 102 => ⟨S16384x1, .f32⟩
  | 103 => ⟨S16384x1, .i32⟩
  | 104 => ⟨S16384x32, .i32⟩
  | 105 => ⟨S16384x32, .i1⟩
  | 106 => ⟨S_, .f32⟩
  | 107 => ⟨S16384x32, .f32⟩
  | 108 => ⟨S16384x32, .f32⟩
  | 109 => ⟨S16384x32, .f32⟩
  | 110 => ⟨S_, .f32⟩
  | 111 => ⟨S16384, .f32⟩
  | 112 => ⟨S16384x1, .f32⟩
  | 113 => ⟨S16384x1, .i32⟩
  | 114 => ⟨S16384x32, .i32⟩
  | 115 => ⟨S16384x32, .i1⟩
  | 116 => ⟨S_, .f32⟩
  | 117 => ⟨S16384x32, .f32⟩
  | 118 => ⟨S16384x32, .f32⟩
  | 119 => ⟨S16384x32, .f32⟩
  | 120 => ⟨S_, .f32⟩
  | 121 => ⟨S16384, .f32⟩
  | 122 => ⟨S16384x1, .f32⟩
  | 123 => ⟨S16384x1, .i32⟩
  | 124 => ⟨S16384x32, .f32⟩
  | 125 => ⟨S_, .f32⟩
  | 126 => ⟨S32, .f32⟩
  | 127 => ⟨S32x1, .f32⟩
  | _ => ⟨S16384x1024, .f32⟩

abbrev hbmTy0_2 (i : Nat) : BufTy := match i % 128 with
  | 0 => ⟨S16384x8, .i32⟩
  | 1 => ⟨S8x16384, .i32⟩
  | 2 => ⟨S16384x4, .f32⟩
  | 3 => ⟨S_, .f32⟩
  | 4 => ⟨S16384x4, .f32⟩
  | 5 => ⟨S16384x8, .f32⟩
  | 6 => ⟨S8x16384, .f32⟩
  | 7 => ⟨S32x128, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_c : Ref sig .tc := ⟨.hbm, 81, rfl⟩
abbrev main_call0_v0 : Ref sig .tc := ⟨.hbm, 82, rfl⟩
abbrev main_call0_v1 : Ref sig .tc := ⟨.hbm, 83, rfl⟩
abbrev main_v62 : Ref sig .tc := ⟨.hbm, 84, rfl⟩
abbrev main_c_9 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_10 : Ref sig .tc := ⟨.hbm, 90, rfl⟩
abbrev main_call1_v0 : Ref sig .tc := ⟨.hbm, 91, rfl⟩
abbrev main_call1_v1 : Ref sig .tc := ⟨.hbm, 92, rfl⟩
abbrev main_v67 : Ref sig .tc := ⟨.hbm, 93, rfl⟩
abbrev main_cst_11 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_12 : Ref sig .tc := ⟨.hbm, 99, rfl⟩
abbrev main_call2_v0 : Ref sig .tc := ⟨.hbm, 100, rfl⟩
abbrev main_call2_v1 : Ref sig .tc := ⟨.hbm, 101, rfl⟩
abbrev main_v72 : Ref sig .tc := ⟨.hbm, 102, rfl⟩
abbrev main_c_13 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_14 : Ref sig .tc := ⟨.hbm, 108, rfl⟩
abbrev main_call3_v0 : Ref sig .tc := ⟨.hbm, 109, rfl⟩
abbrev main_call3_v1 : Ref sig .tc := ⟨.hbm, 110, rfl⟩
abbrev main_v77 : Ref sig .tc := ⟨.hbm, 111, rfl⟩
abbrev main_cst_15 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_c_16 : Ref sig .tc := ⟨.hbm, 117, rfl⟩
abbrev main_call4_v0 : Ref sig .tc := ⟨.hbm, 118, rfl⟩
abbrev main_call4_v1 : Ref sig .tc := ⟨.hbm, 119, rfl⟩
abbrev main_v82 : Ref sig .tc := ⟨.hbm, 120, rfl⟩
abbrev main_c_17 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_18 : Ref sig .tc := ⟨.hbm, 126, rfl⟩
abbrev main_call5_v0 : Ref sig .tc := ⟨.hbm, 127, rfl⟩
abbrev main_call5_v1 : Ref sig .tc := ⟨.hbm, 128, rfl⟩
abbrev main_v87 : Ref sig .tc := ⟨.hbm, 129, rfl⟩
abbrev main_cst_19 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_c_20 : Ref sig .tc := ⟨.hbm, 135, rfl⟩
abbrev main_call6_v0 : Ref sig .tc := ⟨.hbm, 136, rfl⟩
abbrev main_call6_v1 : Ref sig .tc := ⟨.hbm, 137, rfl⟩
abbrev main_v92 : Ref sig .tc := ⟨.hbm, 138, rfl⟩
abbrev main_c_21 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_cst_22 : Ref sig .tc := ⟨.hbm, 144, rfl⟩
abbrev main_call7_v0 : Ref sig .tc := ⟨.hbm, 145, rfl⟩
abbrev main_call7_v1 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_cst_23 : Ref sig .tc := ⟨.hbm, 174, rfl⟩
abbrev main_cst_24 : Ref sig .tc := ⟨.hbm, 175, rfl⟩
abbrev main_call8_v0 : Ref sig .tc := ⟨.hbm, 176, rfl⟩
abbrev main_call8_v1 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_cst_25 : Ref sig .tc := ⟨.hbm, 181, rfl⟩
abbrev main_cst_26 : Ref sig .tc := ⟨.hbm, 182, rfl⟩
abbrev main_call9_v0 : Ref sig .tc := ⟨.hbm, 183, rfl⟩
abbrev main_call9_v1 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_cst_27 : Ref sig .tc := ⟨.hbm, 188, rfl⟩
abbrev main_cst_28 : Ref sig .tc := ⟨.hbm, 189, rfl⟩
abbrev main_call10_v0 : Ref sig .tc := ⟨.hbm, 190, rfl⟩
abbrev main_call10_v1 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_cst_29 : Ref sig .tc := ⟨.hbm, 195, rfl⟩
abbrev main_cst_30 : Ref sig .tc := ⟨.hbm, 196, rfl⟩
abbrev main_call11_v0 : Ref sig .tc := ⟨.hbm, 197, rfl⟩
abbrev main_call11_v1 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_cst_31 : Ref sig .tc := ⟨.hbm, 206, rfl⟩
abbrev main_cst_32 : Ref sig .tc := ⟨.hbm, 207, rfl⟩
abbrev main_call12_v0 : Ref sig .tc := ⟨.hbm, 208, rfl⟩
abbrev main_call12_v1 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_cst_33 : Ref sig .tc := ⟨.hbm, 214, rfl⟩
abbrev main_call13_v0 : Ref sig .tc := ⟨.hbm, 215, rfl⟩
abbrev main_v144 : Ref sig .tc := ⟨.hbm, 216, rfl⟩
abbrev main_v145 : Ref sig .tc := ⟨.hbm, 217, rfl⟩
abbrev main_cst_34 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_cst_35 : Ref sig .tc := ⟨.hbm, 224, rfl⟩
abbrev main_call14_v0 : Ref sig .tc := ⟨.hbm, 225, rfl⟩
abbrev main_v151 : Ref sig .tc := ⟨.hbm, 226, rfl⟩
abbrev main_v152 : Ref sig .tc := ⟨.hbm, 227, rfl⟩
abbrev main_cst_36 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_cst_37 : Ref sig .tc := ⟨.hbm, 234, rfl⟩
abbrev main_call15_v0 : Ref sig .tc := ⟨.hbm, 235, rfl⟩
abbrev main_v158 : Ref sig .tc := ⟨.hbm, 236, rfl⟩
abbrev main_v159 : Ref sig .tc := ⟨.hbm, 237, rfl⟩
abbrev main_cst_38 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_cst_39 : Ref sig .tc := ⟨.hbm, 244, rfl⟩
abbrev main_call16_v0 : Ref sig .tc := ⟨.hbm, 245, rfl⟩
abbrev main_v165 : Ref sig .tc := ⟨.hbm, 246, rfl⟩
abbrev main_v166 : Ref sig .tc := ⟨.hbm, 247, rfl⟩
abbrev main_cst_40 : Ref sig .tc := ⟨.hbm, 248, rfl⟩
abbrev main_v167 : Ref sig .tc := ⟨.hbm, 249, rfl⟩
abbrev main_v168 : Ref sig .tc := ⟨.hbm, 250, rfl⟩
abbrev main_v169 : Ref sig .tc := ⟨.hbm, 251, rfl⟩
abbrev main_v170 : Ref sig .tc := ⟨.hbm, 252, rfl⟩
abbrev main_cst_41 : Ref sig .tc := ⟨.hbm, 253, rfl⟩
abbrev main_v171 : Ref sig .tc := ⟨.hbm, 254, rfl⟩
abbrev main_v172 : Ref sig .tc := ⟨.hbm, 255, rfl⟩
abbrev main_v173 : Ref sig .tc := ⟨.hbm, 256, rfl⟩
abbrev main_v174 : Ref sig .tc := ⟨.hbm, 257, rfl⟩
abbrev main_v175 : Ref sig .tc := ⟨.hbm, 258, rfl⟩
abbrev main_cst_42 : Ref sig .tc := ⟨.hbm, 259, rfl⟩
abbrev main_v176 : Ref sig .tc := ⟨.hbm, 260, rfl⟩
abbrev main_v177 : Ref sig .tc := ⟨.hbm, 261, rfl⟩
abbrev main_v178 : Ref sig .tc := ⟨.hbm, 262, rfl⟩
abbrev main_v179 : Ref sig .tc := ⟨.hbm, 263, rfl⟩

abbrev nD : Nat := 1
abbrev τ : Topo := Topo.v7x

variable {F : FTy → Type} [FloatOps F]
-- ==== Outproj.lean ====
abbrev S4x4096x1024 : Shape := ⟨3, ![4, 4096, 1024]⟩
abbrev S16384x512 : Shape := ⟨2, ![16384, 512]⟩
abbrev S1x512 : Shape := ⟨2, ![1, 512]⟩
abbrev S1x1024x1024 : Shape := ⟨3, ![1, 1024, 1024]⟩
abbrev S_ : Shape := ⟨0, ![]⟩
abbrev S8x64x64 : Shape := ⟨3, ![8, 64, 64]⟩
abbrev S8x8 : Shape := ⟨2, ![8, 8]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S16384x1024 : Shape := ⟨2, ![16384, 1024]⟩
abbrev S1024x1024 : Shape := ⟨2, ![1024, 1024]⟩
abbrev S1024x512 : Shape := ⟨2, ![1024, 512]⟩

abbrev nBuf : Space → Nat
  | .hbm => 28
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S16384x512, .bf16⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S1x512, .f32⟩
  | .hbm, ⟨7, _⟩ => ⟨S1x512, .f32⟩
  | .hbm, ⟨8, _⟩ => ⟨S1x1024x1024, .f32⟩
  | .hbm, ⟨9, _⟩ => ⟨S_, .bf16⟩
  | .hbm, ⟨10, _⟩ => ⟨S8x64x64, .bf16⟩
  | .hbm, ⟨11, _⟩ => ⟨S8x8, .i32⟩
  | .hbm, ⟨12, _⟩ => ⟨S8x8, .i32⟩
  | .hbm, ⟨13, _⟩ => ⟨S_, .i32⟩
  | .hbm, ⟨14, _⟩ => ⟨S8x8, .i32⟩
  | .hbm, ⟨15, _⟩ => ⟨S8x8, .i32⟩
  | .hbm, ⟨16, _⟩ => ⟨S8x8, .i1⟩
  | .hbm, ⟨17, _⟩ => ⟨S8x8, .bf16⟩
  | .hbm, ⟨18, _⟩ => ⟨S8x64x1x64, .bf16⟩
  | .hbm, ⟨19, _⟩ => ⟨S8x1x8x1, .bf16⟩
  | .hbm, ⟨20, _⟩ => ⟨S8x64x8x64, .bf16⟩
  | .hbm, ⟨21, _⟩ => ⟨S8x64x8x64, .bf16⟩
  | .hbm, ⟨22, _⟩ => ⟨S8x64x8x64, .bf16⟩
  | .hbm, ⟨23, _⟩ => ⟨S512x512, .bf16⟩
  | .hbm, ⟨24, _⟩ => ⟨S16384x1024, .f32⟩
  | .hbm, ⟨25, _⟩ => ⟨S1024x1024, .f32⟩
  | .hbm, ⟨26, _⟩ => ⟨S1024x1024, .bf16⟩
  | .hbm, ⟨27, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1x512, .f32⟩
  | .local _ .vmem, ⟨13, _⟩ => ⟨S1x512, .f32⟩
  | .local _ .vmem, ⟨14, _⟩ => ⟨S512x512, .bf16⟩
  | .local _ .vmem, ⟨15, _⟩ => ⟨S1024x1024, .bf16⟩
  | .local _ .vmem, ⟨16, _⟩ => ⟨S1024x1024, .f32⟩
  | .local _ .vmem, ⟨17, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutprojRefIdeal.lean ====
abbrev S4x4096x1024 : Shape := ⟨3, ![4, 4096, 1024]⟩
abbrev S16384x512 : Shape := ⟨2, ![16384, 512]⟩
abbrev S1x512 : Shape := ⟨2, ![1, 512]⟩
abbrev S1x1024x1024 : Shape := ⟨3, ![1, 1024, 1024]⟩
abbrev S16384x8x64 : Shape := ⟨3, ![16384, 8, 64]⟩
abbrev S_ : Shape := ⟨0, ![]⟩
abbrev S16384x8 : Shape := ⟨2, ![16384, 8]⟩
abbrev S16384x8x1 : Shape := ⟨3, ![16384, 8, 1]⟩
abbrev S512 : Shape := ⟨1, ![512]⟩
abbrev S8x64 : Shape := ⟨2, ![8, 64]⟩
abbrev S1x8x64 : Shape := ⟨3, ![1, 8, 64]⟩
abbrev S16384x1024 : Shape := ⟨2, ![16384, 1024]⟩
abbrev S1024x1024 : Shape := ⟨2, ![1024, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16384x512, .bf16⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S1x512, .f32⟩
  | .hbm, ⟨7, _⟩ => ⟨S1x512, .f32⟩
  | .hbm, ⟨8, _⟩ => ⟨S1x1024x1024, .f32⟩
  | .hbm, ⟨9, _⟩ => ⟨S16384x8x64, .f32⟩
  | .hbm, ⟨10, _⟩ => ⟨S_, .f32⟩
  | .hbm, ⟨11, _⟩ => ⟨S16384x8, .f32⟩
  | .hbm, ⟨12, _⟩ => ⟨S16384x8x1, .f32⟩
  | .hbm, ⟨13, _⟩ => ⟨S_, .f32⟩
  | .hbm, ⟨14, _⟩ => ⟨S16384x8x1, .f32⟩
  | .hbm, ⟨15, _⟩ => ⟨S16384x8x1, .f32⟩
  | .hbm, ⟨16, _⟩ => ⟨S16384x8x64, .f32⟩
  | .hbm, ⟨17, _⟩ => ⟨S16384x8x64, .f32⟩
  | .hbm, ⟨18, _⟩ => ⟨S16384x8x64, .f32⟩
  | .hbm, ⟨19, _⟩ => ⟨S_, .f32⟩
  | .hbm, ⟨20, _⟩ => ⟨S16384x8, .f32⟩
  | .hbm, ⟨21, _⟩ => ⟨S16384x8x1, .f32⟩
  | .hbm, ⟨22, _⟩ => ⟨S_, .f32⟩
  | .hbm, ⟨23, _⟩ => ⟨S16384x8x1, .f32⟩
  | .hbm, ⟨24, _⟩ => ⟨S16384x8x1, .f32⟩
  | .hbm, ⟨25, _⟩ => ⟨S16384x8x64, .f32⟩
  | .hbm, ⟨26, _⟩ => ⟨S16384x8x64, .f32⟩
  | .hbm, ⟨27, _⟩ => ⟨S_, .f32⟩
  | .hbm, ⟨28, _⟩ => ⟨S16384x8x1, .f32⟩
  | .hbm, ⟨29, _⟩ => ⟨S16384x8x1, .f32⟩
  | .hbm, ⟨30, _⟩ => ⟨S16384x8x1, .f32⟩
  | .hbm, ⟨31, _⟩ => ⟨S16384x8x64, .f32⟩
  | .hbm, ⟨32, _⟩ => ⟨S16384x8x64, .f32⟩
  | .hbm, ⟨33, _⟩ => ⟨S512, .f32⟩
  | .hbm, ⟨34, _⟩ => ⟨S8x64, .f32⟩
  | .hbm, ⟨35, _⟩ => ⟨S1x8x64, .f32⟩
  | .hbm, ⟨36, _⟩ => ⟨S16384x8x64, .f32⟩
  | .hbm, ⟨37, _⟩ => ⟨S16384x8x64, .f32⟩
  | .hbm, ⟨38, _⟩ => ⟨S512, .f32⟩
  | .hbm, ⟨39, _⟩ => ⟨S8x64, .f32⟩
  | .hbm, ⟨40, _⟩ => ⟨S1x8x64, .f32⟩
  | .hbm, ⟨41, _⟩ => ⟨S16384x8x64, .f32⟩
  | .hbm, ⟨42, _⟩ => ⟨S16384x8x64, .f32⟩
  | .hbm, ⟨43, _⟩ => ⟨S16384x512, .f32⟩
  | .hbm, ⟨44, _⟩ => ⟨S16384x8x64, .f32⟩
  | .hbm, ⟨45, _⟩ => ⟨S16384x8x64, .f32⟩
  | .hbm, ⟨46, _⟩ => ⟨S16384x512, .f32⟩
  | .hbm, ⟨47, _⟩ => ⟨S16384x512, .f32⟩
  | .hbm, ⟨48, _⟩ => ⟨S16384x1024, .f32⟩
  | .hbm, ⟨49, _⟩ => ⟨S16384x512, .f32⟩
  | .hbm, ⟨50, _⟩ => ⟨S16384x1024, .f32⟩
  | .hbm, ⟨51, _⟩ => ⟨S1024x1024, .f32⟩
  | .hbm, ⟨52, _⟩ => ⟨S16384x1024, .f32⟩
  | .hbm, ⟨53, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Proof.InprojValue.lean ====
/-
  The input projection: what the pipelined kernel leaves in its three result arrays, as the reference's own term of the
  argument arrays. Every grid point normalises its 1024 rows, multiplies them with the whole weight and writes three
  ranges of columns; the reference normalises the rows of the batch of sequences, multiplies and cuts the same ranges.
-/
module

public import proofs.«01_k».proof.Proof.Gen.InprojIdeal.Frame
public import proofs.«01_k».proof.Proof.Gen.InprojIdeal.Value
public import proofs.«01_k».proof.Proof.Gen.InprojRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InprojRefIdeal.Term

open Cert.InprojRefIdeal Cert.InprojRefIdeal.Gen

/-- The reference's product of the normalised rows with the weight, all 2816 columns, over the argument arrays. -/
def U (X : FVec Ideal S4x4096x1024 .f32) (G : FVec Ideal S1x1024 .f32) (W : FVec Ideal S1x1024x2816 .f32) :
    FVec Ideal S16384x2816 .f32 :=
  shapeCast _ (Host.dotGeneral dot_S4x4096x1024_S1024x2816_S4x4096x2816_2_0_01_1_n_n none (mulf (mulf X (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf X X) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ G shapeCasts_S1x1024_S1024)))) (shapeCast _ W shapeCasts_S1x1024x2816_S1024x2816)) shapeCasts_S4x4096x2816_S16384x2816

end Cert.InprojRefIdeal.Term

namespace Cert.InprojIdeal.RefValue

open Cert.InprojIdeal Cert.InprojIdeal.Gen Cert.InprojRefIdeal.Term

variable (m : (ℓ : Loc nD τ sig) → Buf (Elt Ideal) ℓ)

/-- The windows' block indices, every grid point at once. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, _)

/-- The product of device `c`'s arguments. -/
abbrev u (c : Dev nD) : FVec Ideal Cert.InprojRefIdeal.S16384x2816 .f32 :=
  U (m ((c : Thread nD τ).loc main_arg0)) (m ((c : Thread nD τ).loc main_arg1)) (m ((c : Thread nD τ).loc main_arg2))

/-- A block of the staged rows is 1024 consecutive rows of the batch of sequences. -/
theorem blk0 (c : Dev nD) (t : Fin cfg0.N) (r : Fin 1024) (k : Fin 1024) (ha : (t.val * 1024 + r.val) / 4096 < 4)
    (hb : (t.val * 1024 + r.val) % 4096 < 4096) :
    (iblk m c 0 t : FVec Ideal S1024x1024 .f32) (ix2 r k) = (m ((c : Thread nD τ).loc main_arg0) : FVec Ideal S4x4096x1024 .f32)
      (ix3 ⟨(t.val * 1024 + r.val) / 4096, ha⟩ ⟨(t.val * 1024 + r.val) % 4096, hb⟩ k) := by
  blk_simp [iblk, idx t]
  entry_read
  pointwise
  blk_ext [idx t]

theorem blk1 (c : Dev nD) (t : Fin cfg0.N) : iblk m c 1 t = m ((c : Thread nD τ).loc main_arg1) := by
  blk_ext! [iblk, V, idx t]

theorem blk2 (c : Dev nD) (t : Fin cfg0.N) (k : Fin 1024) (j : Fin 2816) :
    (iblk m c 2 t : FVec Ideal S1024x2816 .bf16) (ix2 k j) = (m ((c : Thread nD τ).loc main_arg2) : FVec Ideal S1x1024x2816 .f32) (ix3 0 k j) := by
  blk_simp [iblk, idx t]
  entry_read
  pointwise
  blk_ext [idx t]

/-- The body's product at a row of its block is the reference's product at that row of the whole array. -/
theorem pay_at (n : Nat) (P0 : FVec Ideal S1024x1024 .f32) (P1 : FVec Ideal S1x1024 .f32) (P2 : FVec Ideal S1024x2816 .bf16)
    (X : FVec Ideal S4x4096x1024 .f32) (G : FVec Ideal S1x1024 .f32) (W : FVec Ideal S1x1024x2816 .f32)
    (h0 : ∀ (r k : Fin 1024) (ha : (n * 1024 + r.val) / 4096 < 4) (hb : (n * 1024 + r.val) % 4096 < 4096),
      P0 (ix2 r k) = X (ix3 ⟨(n * 1024 + r.val) / 4096, ha⟩ ⟨(n * 1024 + r.val) % 4096, hb⟩ k))
    (h1 : P1 = G) (h2 : ∀ (k : Fin 1024) (j : Fin 2816), P2 (ix2 k j) = W (ix3 0 k j))
    (r : Fin 1024) (j : Fin 2816) (hr : n * 1024 + r.val < 16384) :
    k0_pay1 P0 P1 P2 (ix2 r j) = U X G W (ix2 ⟨n * 1024 + r.val, hr⟩ j) := by
  have ha : (n * 1024 + r.val) / 4096 < 4 := by omega
  have hb : (n * 1024 + r.val) % 4096 < 4096 := by omega
  subst h1
  have h0' := fun k => h0 r k ha hb
  pointwise [k0_pay1, U]
  simp only [h0', h2]

/-- The reference's result number 0: its columns of the product. -/
abbrev r3 (c : Dev nD) : FVec Ideal Cert.InprojRefIdeal.S16384x512 .f32 :=
  extractStridedSlice Cert.InprojRefIdeal.S16384x512 ![0, 0] (u m c) Cert.InprojRefIdeal.Gen.slices_S16384x2816_S16384x512_0_0

/-- What grid point `t` stores in window 3 is the reference's result at the place the block has in the array. -/
theorem point3 (c : Dev nD) (t : Fin cfg0.N) (y : S1024x512.Idx) : k0_pay2 (iblk m c 0 t) (iblk m c 1 t) (iblk m c 2 t) y
    = r3 m c (((cfg0.win 3).blk t).view.emb y) := by
  have ht : t.val < 16 := lt_of_lt_of_eq t.isLt N_0
  idx_vars y
  have hr : t.val * 1024 + y0.val < 16384 := by omega
  have hj : y1.val < 2816 := by omega
  pointwise [k0_pay2, r3]
  refine (pay_at t.val _ _ _ _ _ _ (blk0 m c t) (blk1 m c t) (blk2 m c t) y0 ⟨y1.val, hj⟩ hr).trans ?_
  blk_ext [idx t]

/-- So window 3's array ends at the reference's result. -/
theorem final3 (c : Dev nD) : (dats m 0 c).arrAt 3 (cfgs 0).N = r3 m c := by
  refine (dats m 0 c).arrAt_eq_of_covers 3 _ (by decide +kernel) fun t _ y => ?_
  blk_simp
  rw [after0_3]; frame_out
  exact point3 m c t y

/-- The reference's result number 1: its columns of the product. -/
abbrev r4 (c : Dev nD) : FVec Ideal Cert.InprojRefIdeal.S16384x512 .f32 :=
  extractStridedSlice Cert.InprojRefIdeal.S16384x512 ![0, 512] (u m c) Cert.InprojRefIdeal.Gen.slices_S16384x2816_S16384x512_0_512

/-- What grid point `t` stores in window 4 is the reference's result at the place the block has in the array. -/
theorem point4 (c : Dev nD) (t : Fin cfg0.N) (y : S1024x512.Idx) : k0_pay3 (iblk m c 0 t) (iblk m c 1 t) (iblk m c 2 t) y
    = r4 m c (((cfg0.win 4).blk t).view.emb y) := by
  have ht : t.val < 16 := lt_of_lt_of_eq t.isLt N_0
  idx_vars y
  have hr : t.val * 1024 + y0.val < 16384 := by omega
  have hj : 512 + y1.val < 2816 := by omega
  pointwise [k0_pay3, r4]
  refine (pay_at t.val _ _ _ _ _ _ (blk0 m c t) (blk1 m c t) (blk2 m c t) y0 ⟨512 + y1.val, hj⟩ hr).trans ?_
  blk_ext [idx t]

/-- So window 4's array ends at the reference's result. -/
theorem final4 (c : Dev nD) : (dats m 0 c).arrAt 4 (cfgs 0).N = r4 m c := by
  refine (dats m 0 c).arrAt_eq_of_covers 4 _ (by decide +kernel) fun t _ y => ?_
  blk_simp
  rw [after0_4]; frame_out
  exact point4 m c t y

/-- The reference's result number 2: its columns of the product. -/
abbrev r5 (c : Dev nD) : FVec Ideal Cert.InprojRefIdeal.S16384x1792 .f32 :=
  extractStridedSlice Cert.InprojRefIdeal.S16384x1792 ![0, 1024] (u m c) Cert.InprojRefIdeal.Gen.slices_S16384x2816_S16384x1792_0_1024

/-- What grid point `t` stores in window 5 is the reference's result at the place the block has in the array. -/
theorem point5 (c : Dev nD) (t : Fin cfg0.N) (y : S1024x1792.Idx) : k0_pay4 (iblk m c 0 t) (iblk m c 1 t) (iblk m c 2 t) y
    = r5 m c (((cfg0.win 5).blk t).view.emb y) := by
  have ht : t.val < 16 := lt_of_lt_of_eq t.isLt N_0
  idx_vars y
  have hr : t.val * 1024 + y0.val < 16384 := by omega
  have hj : 1024 + y1.val < 2816 := by omega
  pointwise [k0_pay4, r5]
  refine (pay_at t.val _ _ _ _ _ _ (blk0 m c t) (blk1 m c t) (blk2 m c t) y0 ⟨1024 + y1.val, hj⟩ hr).trans ?_
  blk_ext [idx t]

/-- So window 5's array ends at the reference's result. -/
theorem final5 (c : Dev nD) : (dats m 0 c).arrAt 5 (cfgs 0).N = r5 m c := by
  refine (dats m 0 c).arrAt_eq_of_covers 5 _ (by decide +kernel) fun t _ y => ?_
  blk_simp
  rw [after0_5]; frame_out
  exact point5 m c t y

end Cert.InprojIdeal.RefValue

end
-- ==== Proof.MoeWords.lean ====
/-
  The words the experts' kernel computes from the prefetched table of run ends, in closed form.

  A run end is a multiple of 512, so its floor division by 512 is a block number at most 159; every offset the kernel
  computes is a block number, its parity, or its multiple by 4096.
-/
module

public import proofs.«01_k».proof.Proof.Gen.MoeIdeal.Skeleton
public import proofs.«01_k».proof.Proof.Gen.MoeIdeal.Loops
public import Idealize.ShloMosaic.Lib.LoopRemainder
public import Idealize.ShloMosaic.Lib.Affine

@[expose] public section

set_option maxRecDepth 16384

namespace MoeP

open Cert.MoeIdeal Cert.MoeIdeal.Gen
open Idealize.ShloMosaic

/-! ## Three word functions of the kernel -/

/-- The kernel's floor division by 512. -/
def fdiv (x : BitVec 32) : BitVec 32 :=
  Scalar.select (Scalar.andi
      (Scalar.cmpi .ne (Scalar.subi (Scalar.extui (Scalar.cmpi .sgt x 0#32) : BitVec 32) (Scalar.extui (Scalar.cmpi .slt x 0#32)))
        (Scalar.subi (Scalar.extui (Scalar.cmpi .sgt 512#32 0#32)) (Scalar.extui (Scalar.cmpi .slt 512#32 0#32))))
      (Scalar.cmpi .ne (Scalar.remsi x 512#32) 0#32))
    (Scalar.subi (Scalar.divsi x 512#32) 1#32) (Scalar.divsi x 512#32)

/-- The kernel's remainder by 2. -/
def par (x : BitVec 32) : BitVec 32 :=
  let d : BitVec 32 := Scalar.select (Scalar.cmpi .eq 2#32 0#32) 1#32 2#32
  let r : BitVec 32 := Scalar.remsi x d
  Scalar.select (Scalar.andi (Scalar.xori (Scalar.cmpi .slt r 0#32) (Scalar.cmpi .slt d 0#32)) (Scalar.cmpi .ne r 0#32)) (Scalar.addi r d) r

/-- The first block of a step: the end of the step before it, 0 at the first. -/
def startW (i : grid0.Coords) (v23 : BitVec 32) : BitVec 32 :=
  Scalar.select (Scalar.cmpi .eq (BitVec.ofNat 32 (i 0).val) 0#32) 0#32 (fdiv v23)

theorem fdiv_fin : ∀ e : Fin 160, fdiv (BitVec.ofNat 32 (512 * e.val)) = BitVec.ofNat 32 e.val := by decide +kernel
theorem par_fin : ∀ e : Fin 161, (par (BitVec.ofNat 32 e.val)).toNat = e.val % 2 := by decide +kernel

theorem fdiv_ofNat (e : ℕ) (h : e ≤ 159) : (fdiv (BitVec.ofNat 32 (512 * e))).toNat = e := by
  rw [fdiv_fin ⟨e, by omega⟩, BitVec.toNat_ofNat]; exact Nat.mod_eq_of_lt (by omega)
theorem par_toNat (x : BitVec 32) (h : x.toNat ≤ 160) : (par x).toNat = x.toNat % 2 := by
  have := par_fin ⟨x.toNat, by omega⟩
  rwa [BitVec.ofNat_toNat, BitVec.setWidth_eq] at this

/-- Block numbers. -/
def stN (i : grid0.Coords) (v23 : BitVec 32) : ℕ := (startW i v23).toNat
def enN (v1 : BitVec 32) : ℕ := (fdiv v1).toNat

/-- What a step needs of the words it reads. -/
structure Ok (i : grid0.Coords) (v1 v23 : BitVec 32) : Prop where
  le : stN i v23 ≤ enN v1
  ub : enN v1 ≤ 159
structure OkT (v1 v43 : BitVec 32) : Prop where
  le : enN v1 ≤ enN v43
  ub : enN v43 ≤ 159

theorem toInt_of_small (x : BitVec 32) (h : x.toNat < 2 ^ 31) : x.toInt = (x.toNat : ℤ) := by
  rw [BitVec.toInt_eq_toNat_cond, if_pos (by omega)]
theorem addi_toNat (x y : BitVec 32) (h : x.toNat + y.toNat < 2 ^ 32) : (Scalar.addi x y).toNat = x.toNat + y.toNat := by
  show (x + y).toNat = _
  rw [BitVec.toNat_add, Nat.mod_eq_of_lt h]
theorem subi_toNat (x y : BitVec 32) (h : y.toNat ≤ x.toNat) : (Scalar.subi x y).toNat = x.toNat - y.toNat := by
  show (x - y).toNat = _
  rw [BitVec.toNat_sub_of_le (BitVec.le_def.mpr h)]
theorem muli_toNat (x y : BitVec 32) (h : x.toNat * y.toNat < 2 ^ 32) : (Scalar.muli x y).toNat = x.toNat * y.toNat := by
  show (x * y).toNat = _
  rw [BitVec.toNat_mul, Nat.mod_eq_of_lt h]
theorem iv_toNat' (x : BitVec 32) (k : ℕ) (h : x.toNat + k < 2 ^ 32) : (Scf.iv x 1#32 k).toNat = x.toNat + k := by
  show (x + BitVec.ofNat 32 k * 1#32).toNat = _
  rw [BitVec.mul_one, BitVec.toNat_add, BitVec.toNat_ofNat, Nat.mod_eq_of_lt (show k < 2 ^ 32 by omega), Nat.mod_eq_of_lt h]

theorem iv_toNat (k : ℕ) (h : k < 2 ^ 32) : (Scf.iv 0#32 1#32 k).toNat = k := by
  rw [iv_toNat' _ _ (by simpa using h)]; simp

theorem trips_small (lb ub : BitVec 32) (hl : lb.toNat < 2 ^ 31) (hu : ub.toNat < 2 ^ 31) : Scf.trips lb ub 1#32 = ub.toNat - lb.toNat := by
  have h1 : (1#32 : BitVec 32).toInt = 1 := by decide
  unfold Scf.trips
  rw [h1, toInt_of_small _ hl, toInt_of_small _ hu]
  omega
theorem ok_small (lb ub : BitVec 32) (hl : lb.toNat < 2 ^ 30) (hu : ub.toNat < 2 ^ 30) : Scf.OK lb ub 1#32 := by
  refine Affine.ok (Affine.word lb) (Affine.word ub) (Affine.ofNat 1 ⟨rfl, by decide⟩) ⟨by decide, ?_⟩
  rw [toInt_of_small _ (by omega), toInt_of_small _ (by omega)]
  omega

/-! ## The main loop -/

section Main
variable {i : grid0.Coords} {v1 v23 v43 : BitVec 32} (h : Ok i v1 v23) (hT : OkT v1 v43)

theorem t1_ub : (k0_t1_loop i v1 v23) = ⟨0#32, Scalar.addi 0#32 (Scalar.muli (Scalar.divsi (Scalar.subi (Scalar.subi (fdiv v1) (startW i v23)) 0#32) 1#32) 1#32), 1#32⟩ := rfl

include h in
theorem ub_toNat : (Scalar.addi 0#32 (Scalar.muli (Scalar.divsi (Scalar.subi (Scalar.subi (fdiv v1) (startW i v23)) 0#32) 1#32) 1#32)).toNat = enN v1 - stN i v23 := by
  have h1 := h.le; have h2 := h.ub
  have h3 : (Scalar.subi (fdiv v1) (startW i v23)).toNat = enN v1 - stN i v23 := subi_toNat _ _ h1
  rw [Scalar.muli_divsi_one, addi_toNat, subi_toNat _ _ (Nat.zero_le _), h3]
  · show 0 + (enN v1 - stN i v23 - 0) = _; omega
  · rw [subi_toNat _ _ (Nat.zero_le _), h3]; show 0 + (enN v1 - stN i v23 - 0) < _; omega

include h in
theorem t1_trips : (k0_t1_loop i v1 v23).trips = enN v1 - stN i v23 := by
  have h2 := h.ub
  have e := ub_toNat h
  show Scf.trips _ _ _ = _
  refine (trips_small 0#32 _ (by decide) ?_).trans ?_
  · exact lt_of_eq_of_lt e (by omega)
  · exact (congrArg (· - 0) e)
include h in
theorem t1_ok : (k0_t1_loop i v1 v23).OK := by
  have h2 := h.ub
  exact ok_small 0#32 _ (by decide) (lt_of_eq_of_lt (ub_toNat h) (by omega))

/-- The block of trip `k`. -/
abbrev blkN (i : grid0.Coords) (v23 : BitVec 32) (k : ℕ) : ℕ := stN i v23 + k

include h in
theorem blk_lt (k : Fin (k0_t1_loop i v1 v23).trips) : blkN i v23 k < enN v1 := by
  have := lt_of_lt_of_eq k.isLt (t1_trips h)
  have := h.le
  show stN i v23 + k.val < _; omega
include h in
theorem blk_le (k : Fin (k0_t1_loop i v1 v23).trips) : blkN i v23 k < 159 := lt_of_lt_of_le (blk_lt h k) h.ub

/-- The word of the block of trip `k`. -/
def blkW (i : grid0.Coords) (v23 : BitVec 32) (k : ℕ) : BitVec 32 := Scalar.addi (startW i v23) (Scf.iv 0#32 1#32 k)

include h in
theorem blkW_toNat (k : Fin (k0_t1_loop i v1 v23).trips) : (blkW i v23 k).toNat = blkN i v23 k := by
  have := blk_le h k
  unfold blkN stN at this
  unfold blkW
  rw [addi_toNat, iv_toNat _ (by omega)]
  · rfl
  · rw [iv_toNat _ (by omega)]; omega
include h in
theorem blkW1_toNat (k : Fin (k0_t1_loop i v1 v23).trips) : (Scalar.addi (blkW i v23 k) 1#32).toNat = blkN i v23 k + 1 := by
  have := blk_le h k
  rw [addi_toNat, blkW_toNat h k]
  · rfl
  · rw [blkW_toNat h k]; show _ + 1 < _; omega
include h in
theorem blkW2_toNat (k : Fin (k0_t1_loop i v1 v23).trips) (h2 : 2 ≤ blkN i v23 k) : (Scalar.subi (blkW i v23 k) 2#32).toNat = blkN i v23 k - 2 := by
  rw [subi_toNat, blkW_toNat h k]
  · rfl
  · rw [blkW_toNat h k]; exact h2

theorem one_iff (p : Bool) : BitVec.ofBool p = 1#1 ↔ p = true := by cases p <;> decide
theorem ite_ne (x : BitVec 1) : Scalar.cmpi .ne (Scalar.extui x : BitVec 32) 0#32 = x := by revert x; decide

theorem slt_iff (x y : BitVec 32) (hx : x.toNat < 2 ^ 31) (hy : y.toNat < 2 ^ 31) : Scalar.cmpi .slt x y = 1#1 ↔ x.toNat < y.toNat := by
  show BitVec.ofBool (x.slt y) = 1#1 ↔ _
  rw [one_iff, BitVec.slt_iff_toInt_lt, toInt_of_small _ hx, toInt_of_small _ hy]; omega
theorem sge_iff (x y : BitVec 32) (hx : x.toNat < 2 ^ 31) (hy : y.toNat < 2 ^ 31) : Scalar.cmpi .sge x y = 1#1 ↔ y.toNat ≤ x.toNat := by
  show BitVec.ofBool (y.sle x) = 1#1 ↔ _
  rw [one_iff, BitVec.sle_iff_toInt_le, toInt_of_small _ hx, toInt_of_small _ hy]; omega
theorem sgt_iff (x y : BitVec 32) (hx : x.toNat < 2 ^ 31) (hy : y.toNat < 2 ^ 31) : Scalar.cmpi .sgt x y = 1#1 ↔ y.toNat < x.toNat := by
  show BitVec.ofBool (y.slt x) = 1#1 ↔ _
  rw [one_iff, BitVec.slt_iff_toInt_lt, toInt_of_small _ hx, toInt_of_small _ hy]; omega

include h hT in
theorem cond3_iff (k : Fin (k0_t1_loop i v1 v23).trips) : k0_cond3 i v1 v23 v43 k = 1#1 ↔ blkN i v23 k + 1 < enN v43 := by
  have := blk_le h k; have := hT.ub
  show Scalar.cmpi .ne (Scalar.extui (Scalar.cmpi .slt (Scalar.addi (blkW i v23 k) 1#32) (fdiv v43)) : BitVec 32) 0#32 = 1#1 ↔ _
  rw [ite_ne, slt_iff, blkW1_toNat h k]
  · rfl
  · rw [blkW1_toNat h k]; omega
  · show enN v43 < _; omega
include h in
theorem cond4_iff (k : Fin (k0_t1_loop i v1 v23).trips) : k0_cond4 i v1 v23 k = 1#1 ↔ 2 ≤ blkN i v23 k := by
  have := blk_le h k
  show Scalar.cmpi .ne (Scalar.extui (Scalar.cmpi .sge (blkW i v23 k) 2#32) : BitVec 32) 0#32 = 1#1 ↔ _
  rw [ite_ne, sge_iff, blkW_toNat h k]
  · rfl
  · rw [blkW_toNat h k]; omega
  · decide

include h in
theorem par_blk (k : Fin (k0_t1_loop i v1 v23).trips) : (par (blkW i v23 k)).toNat = blkN i v23 k % 2 := by
  have := blk_le h k
  rw [par_toNat _ (by rw [blkW_toNat h k]; omega), blkW_toNat h k]
include h in
theorem par_blk1 (k : Fin (k0_t1_loop i v1 v23).trips) : (par (Scalar.addi (blkW i v23 k) 1#32)).toNat = (blkN i v23 k + 1) % 2 := by
  have := blk_le h k
  rw [par_toNat _ (by rw [blkW1_toNat h k]; omega), blkW1_toNat h k]
include h in
theorem par_blk2 (k : Fin (k0_t1_loop i v1 v23).trips) (h2 : 2 ≤ blkN i v23 k) : (par (Scalar.subi (blkW i v23 k) 2#32)).toNat = blkN i v23 k % 2 := by
  have := blk_le h k
  rw [par_toNat _ (by rw [blkW2_toNat h k h2]; omega), blkW2_toNat h k h2]; omega

theorem mul4096 (x : BitVec 32) (n : ℕ) (hx : x.toNat = n) (hn : n ≤ 160) : (Scalar.muli x 4096#32).toNat = n * 4096 := by
  rw [muli_toNat, hx]
  · rfl
  · rw [hx]; show n * 4096 < _; omega

include h in
theorem off3_eq (k : Fin (k0_t1_loop i v1 v23).trips) : k0_off3 i v1 v23 k = ![(blkN i v23 k + 1) % 2] := by
  rw [← par_blk1 h k]; rfl
include h in
theorem off4_eq (k : Fin (k0_t1_loop i v1 v23).trips) : k0_off4 i v1 v23 k = ![(blkN i v23 k + 1) % 2, 0, 0] := by
  rw [← par_blk1 h k]; rfl
include h in
theorem off5_eq (k : Fin (k0_t1_loop i v1 v23).trips) : k0_off5 i v1 v23 k = ![(blkN i v23 k + 1) * 4096, 0] := by
  have := blk_le h k
  rw [← mul4096 _ _ (blkW1_toNat h k) (by omega)]; rfl
include h in
theorem off6_eq (k : Fin (k0_t1_loop i v1 v23).trips) : k0_off6 i v1 v23 k = ![blkN i v23 k % 2] := by
  rw [← par_blk h k]; rfl
include h in
theorem off7_eq (k : Fin (k0_t1_loop i v1 v23).trips) : k0_off7 i v1 v23 k = ![blkN i v23 k % 2, 0, 0] := by
  rw [← par_blk h k]; rfl
include h in
theorem off8_eq (k : Fin (k0_t1_loop i v1 v23).trips) : k0_off8 i v1 v23 k = ![blkN i v23 k * 4096, 0] := by
  have := blk_le h k
  rw [← mul4096 _ _ (blkW_toNat h k) (by omega)]; rfl
include h in
theorem off9_eq (k : Fin (k0_t1_loop i v1 v23).trips) (h2 : 2 ≤ blkN i v23 k) : k0_off9 i v1 v23 k = ![blkN i v23 k % 2] := by
  rw [← par_blk2 h k h2]; rfl
include h in
theorem off10_eq (k : Fin (k0_t1_loop i v1 v23).trips) (h2 : 2 ≤ blkN i v23 k) : k0_off10 i v1 v23 k = ![(blkN i v23 k - 2) * 4096, 0] := by
  have := blk_le h k
  rw [← mul4096 _ _ (blkW2_toNat h k h2) (by omega)]; rfl
include h in
theorem off11_eq (k : Fin (k0_t1_loop i v1 v23).trips) (h2 : 2 ≤ blkN i v23 k) : k0_off11 i v1 v23 k = ![blkN i v23 k % 2, 0, 0] := by
  rw [← par_blk2 h k h2]; rfl
include h in
theorem off12_eq (k : Fin (k0_t1_loop i v1 v23).trips) : k0_off12 i v1 v23 k = ![blkN i v23 k % 2, 0, 0, 0] := by
  rw [← par_blk h k]; rfl
include h in
theorem off13_eq (k : Fin (k0_t1_loop i v1 v23).trips) : k0_off13 i v1 v23 k = ![blkN i v23 k % 2, 1, 0, 0] := by
  rw [← par_blk h k]; rfl
include h in
theorem off14_eq (k : Fin (k0_t1_loop i v1 v23).trips) : k0_off14 i v1 v23 k = ![blkN i v23 k % 2, 2, 0, 0] := by
  rw [← par_blk h k]; rfl
include h in
theorem off15_eq (k : Fin (k0_t1_loop i v1 v23).trips) : k0_off15 i v1 v23 k = ![blkN i v23 k % 2, 3, 0, 0] := by
  rw [← par_blk h k]; rfl

/-! ### The check of the step's two words -/

theorem inb2 (n : ℕ) : ∀ a, (![n % 2] : Fin 1 → ℕ) a + S1.size a ≤ S2.size a := by
  have := Nat.mod_lt n (show 0 < 2 by decide)
  intro a; fin_cases a; show n % 2 + 1 ≤ 2; omega
theorem inbSlot (n : ℕ) : ∀ a, (![n % 2, 0, 0] : Fin 3 → ℕ) a + S1x4096x128.size a ≤ S2x4096x128.size a := by
  have := Nat.mod_lt n (show 0 < 2 by decide)
  intro a; fin_cases a
  · show n % 2 + 1 ≤ 2; omega
  · show 0 + 4096 ≤ 4096; omega
  · show 0 + 128 ≤ 128; omega
theorem inbBlk (n : ℕ) (h : n < 159) : ∀ a, (![n * 4096, 0] : Fin 2 → ℕ) a + S4096x128.size a ≤ S651264x128.size a := by
  intro a; fin_cases a
  · show n * 4096 + 4096 ≤ 651264; omega
  · show 0 + 128 ≤ 128; omega
theorem wwSlot (n : ℕ) (hinb) : (Rect.unit (s := S2x4096x128) ![n % 2, 0, 0] S1x4096x128.size hinb).WholeWords (EltTy.packing .bf16) :=
  Or.inr ⟨by decide, rfl, rfl, rfl⟩
theorem wwBlk (n : ℕ) (hinb) : (Rect.unit (s := S651264x128) ![n * 4096, 0] S4096x128.size hinb).WholeWords (EltTy.packing .bf16) :=
  Or.inl (Or.inr ⟨by decide, rfl, Or.inl ⟨⟨n * 2048, by show n * 4096 = 2 * (n * 2048); omega⟩, ⟨2048, rfl⟩⟩⟩)
theorem inbQ (n j : ℕ) (hj : j < 4) : ∀ a, S1x512x2x128.size a = 0 ∨ (![n % 2, j, 0, 0] : Fin 4 → ℕ) a + (![1, 4, 1, 1] : Fin 4 → Nat) a * (S1x512x2x128.size a - 1) < S2x2048x2x128.size a := by
  have := Nat.mod_lt n (show 0 < 2 by decide)
  intro a; right; fin_cases a
  · show n % 2 + 1 * (1 - 1) < 2; omega
  · show j + 4 * (512 - 1) < 2048; omega
  · show 0 + 1 * (2 - 1) < 2; omega
  · show 0 + 1 * (128 - 1) < 128; omega
theorem prQ (n j : ℕ) : S2x2048x2x128.PackedRowsAt (EltTy.packing .bf16) ![n % 2, j, 0, 0] S1x512x2x128.size ![1, 4, 1, 1] :=
  Or.inr ⟨by decide, rfl, Or.inl ⟨⟨0, rfl⟩, ⟨1, rfl⟩⟩⟩

theorem no_t2 (i : grid0.Coords) (v1 v23 : BitVec 32) (k : Fin (k0_t2_loop i v1 v23).trips) : False :=
  Scf.rem_no_trip _ _ k
theorem t2_ok (i : grid0.Coords) (v1 v23 : BitVec 32) : (k0_t2_loop i v1 v23).OK := Scf.rem_ok _ _

include h in
theorem chk1_holds : k0_chk1 i v1 v23 := by
  refine ⟨⟨t1_ok h, fun k => ?_, fun k => ?_, fun k => ?_, fun k => ?_, fun k => ?_, fun k => ?_, fun k hc => ?_, fun k hc => ?_, fun k hc => ?_, fun k hc => ?_,
      fun k hc => ?_, fun k hc => ?_, fun k => ?_, fun k => ?_, fun k => ?_, fun k => ?_, fun k => ?_, fun k => ?_, fun k => ?_, fun k => ?_, fun k => ?_,
      t2_ok i v1 v23, ?_⟩, ?_⟩
  · refine ⟨blkN i v23 k, ?_⟩
    have := blk_le h k
    show (Scalar.muli (blkW i v23 k) 4096#32).toNat = _
    rw [mul4096 _ _ (blkW_toNat h k) (by omega)]; omega
  · rw [off6_eq h k]; exact inb2 _
  · rw [off7_eq h k]; exact inbSlot _
  · rw [off8_eq h k]; exact inbBlk _ (blk_le h k)
  · rw [off8_eq h k]; exact wwBlk _
  · rw [off7_eq h k]; exact wwSlot _
  · have h2 := (cond4_iff h k).mp hc
    refine ⟨blkN i v23 k - 2, ?_⟩
    have := blk_le h k
    show (Scalar.muli (Scalar.subi (blkW i v23 k) 2#32) 4096#32).toNat = _
    rw [mul4096 _ _ (blkW2_toNat h k h2) (by omega)]; omega
  · rw [off9_eq h k ((cond4_iff h k).mp hc)]; exact inb2 _
  · rw [off10_eq h k ((cond4_iff h k).mp hc)]; exact inbBlk _ (lt_of_le_of_lt (Nat.sub_le _ _) (blk_le h k))
  · rw [off11_eq h k ((cond4_iff h k).mp hc)]; exact inbSlot _
  · rw [off11_eq h k ((cond4_iff h k).mp hc)]; exact wwSlot _
  · rw [off10_eq h k ((cond4_iff h k).mp hc)]; exact wwBlk _
  · rw [off12_eq h k]; exact inbQ _ 0 (by decide)
  · rw [off13_eq h k]; exact inbQ _ 1 (by decide)
  · rw [off14_eq h k]; exact inbQ _ 2 (by decide)
  · rw [off15_eq h k]; exact inbQ _ 3 (by decide)
  · rw [off12_eq h k]; exact prQ _ 0
  · rw [off13_eq h k]; exact prQ _ 1
  · rw [off14_eq h k]; exact prQ _ 2
  · rw [off15_eq h k]; exact prQ _ 3
  · refine ⟨blkN i v23 k, ?_⟩
    have := blk_le h k
    show (Scalar.muli (blkW i v23 k) 4096#32).toNat = _
    rw [mul4096 _ _ (blkW_toNat h k) (by omega)]; omega
  · refine ⟨?_, ?_, ?_, ?_, ?_, ?_, ?_, ?_, ?_⟩ <;> exact fun k => (no_t2 i v1 v23 k).elim
  · refine ⟨?_, ?_, ?_, ?_, ?_, ?_, ?_, ?_, ?_, ?_, ?_, ?_⟩ <;> exact fun k => (no_t2 i v1 v23 k).elim

/-! ### The tail: the last two blocks drained, the rest filled -/

theorem cond7_iff (i : grid0.Coords) : k0_cond7 i = 1#1 ↔ (i 0).val = 31 := by
  have : ∀ n : Fin 32, (Scalar.cmpi .ne (Scalar.extui (Scalar.cmpi .eq (BitVec.ofNat 32 n.val) 31#32) : BitVec 32) 0#32 = 1#1) ↔ n.val = 31 := by decide
  exact this (i 0)

variable (hu : enN v43 ≤ 159)

include hu in
theorem cond8_iff : k0_cond8 v43 = 1#1 ↔ 2 ≤ enN v43 := by
  show Scalar.cmpi .ne (Scalar.extui (Scalar.cmpi .sge (fdiv v43) 2#32) : BitVec 32) 0#32 = 1#1 ↔ _
  rw [ite_ne, sge_iff]
  · rfl
  · show enN v43 < _; omega
  · decide
include hu in
theorem cond9_iff : k0_cond9 v43 = 1#1 ↔ 1 ≤ enN v43 := by
  show Scalar.cmpi .ne (Scalar.extui (Scalar.cmpi .sge (fdiv v43) 1#32) : BitVec 32) 0#32 = 1#1 ↔ _
  rw [ite_ne, sge_iff]
  · rfl
  · show enN v43 < _; omega
  · decide
theorem sub2 (h2 : 2 ≤ enN v43) : (Scalar.subi (fdiv v43) 2#32).toNat = enN v43 - 2 := subi_toNat _ _ h2
theorem sub1 (h1 : 1 ≤ enN v43) : (Scalar.subi (fdiv v43) 1#32).toNat = enN v43 - 1 := subi_toNat _ _ h1
include hu in
theorem psub2 (h2 : 2 ≤ enN v43) : (par (Scalar.subi (fdiv v43) 2#32)).toNat = (enN v43 - 2) % 2 := by
  rw [par_toNat _ (by rw [sub2 h2]; omega), sub2 h2]
include hu in
theorem psub1 (h1 : 1 ≤ enN v43) : (par (Scalar.subi (fdiv v43) 1#32)).toNat = (enN v43 - 1) % 2 := by
  rw [par_toNat _ (by rw [sub1 h1]; omega), sub1 h1]
include hu in
theorem off29_eq (h2 : 2 ≤ enN v43) : k0_off29 v43 = ![(enN v43 - 2) % 2] := by rw [← psub2 hu h2]; rfl
include hu in
theorem off30_eq (h2 : 2 ≤ enN v43) : k0_off30 v43 = ![(enN v43 - 2) * 4096, 0] := by rw [← mul4096 _ _ (sub2 h2) (by omega)]; rfl
include hu in
theorem off31_eq (h2 : 2 ≤ enN v43) : k0_off31 v43 = ![(enN v43 - 2) % 2, 0, 0] := by rw [← psub2 hu h2]; rfl
include hu in
theorem off32_eq (h1 : 1 ≤ enN v43) : k0_off32 v43 = ![(enN v43 - 1) % 2] := by rw [← psub1 hu h1]; rfl
include hu in
theorem off33_eq (h1 : 1 ≤ enN v43) : k0_off33 v43 = ![(enN v43 - 1) * 4096, 0] := by rw [← mul4096 _ _ (sub1 h1) (by omega)]; rfl
include hu in
theorem off34_eq (h1 : 1 ≤ enN v43) : k0_off34 v43 = ![(enN v43 - 1) % 2, 0, 0] := by rw [← psub1 hu h1]; rfl

variable (he : enN v1 ≤ 159)

include he in
theorem fill_ub : (Scalar.addi (fdiv v1) (Scalar.muli (Scalar.divsi (Scalar.subi 159#32 (fdiv v1)) 1#32) 1#32)).toNat = 159 := by
  have e : (Scalar.subi 159#32 (fdiv v1)).toNat = 159 - enN v1 := subi_toNat _ _ he
  rw [Scalar.muli_divsi_one, addi_toNat, e]
  · show enN v1 + _ = _; omega
  · rw [e]; show enN v1 + _ < _; omega
include he in
theorem t3_trips : (k0_t3_loop v1).trips = 159 - enN v1 := by
  show Scf.trips _ _ _ = _
  refine (trips_small (fdiv v1) _ ?_ ?_).trans ?_
  · show enN v1 < _; omega
  · exact lt_of_eq_of_lt (fill_ub he) (by decide)
  · exact congrArg (· - enN v1) (fill_ub he)
include he in
theorem t5_trips : (k0_t5_loop v1).trips = 159 - enN v1 := t3_trips he
include he in
theorem t3_ok : (k0_t3_loop v1).OK := by
  refine ok_small (fdiv v1) _ ?_ (lt_of_eq_of_lt (fill_ub he) (by decide))
  show enN v1 < _; omega
include he in
theorem t5_ok : (k0_t5_loop v1).OK := t3_ok he
theorem no_t4 (k : Fin (k0_t4_loop v1).trips) : False := Scf.rem_no_trip _ _ k
theorem no_t6 (k : Fin (k0_t6_loop v1).trips) : False := Scf.rem_no_trip _ _ k
theorem t4_ok (v1 : BitVec 32) : (k0_t4_loop v1).OK := Scf.rem_ok _ _
theorem t6_ok (v1 : BitVec 32) : (k0_t6_loop v1).OK := Scf.rem_ok _ _

include he in
theorem fill_lt (k : Fin (k0_t3_loop v1).trips) : enN v1 + k.val < 159 := by
  have := lt_of_lt_of_eq k.isLt (t3_trips he); omega
include he in
theorem fillW (k : Fin (k0_t3_loop v1).trips) : (Scf.iv (fdiv v1) 1#32 k).toNat = enN v1 + k.val := by
  have := fill_lt he k
  exact iv_toNat' _ _ (by show enN v1 + _ < _; omega)
include he in
theorem off35_eq (k : Fin (k0_t3_loop v1).trips) : k0_off35 v1 k = ![(enN v1 + k.val) * 4096, 0] := by
  have := fill_lt he k
  rw [← mul4096 _ _ (fillW he k) (by omega)]; rfl
include he in
theorem off37_eq (k : Fin (k0_t5_loop v1).trips) : k0_off37 v1 k = ![(enN v1 + k.val) * 4096, 0] := off35_eq he k
include he in
theorem mult12 (k : Fin (k0_t3_loop v1).trips) : 4096 ∣ (k0_mult12 v1 k).toNat := by
  have := fill_lt he k
  refine ⟨enN v1 + k.val, ?_⟩
  show (Scalar.muli (Scf.iv (fdiv v1) 1#32 k) 4096#32).toNat = _
  rw [mul4096 _ _ (fillW he k) (by omega)]; omega

include he in
theorem chk3_holds (i : grid0.Coords) : k0_chk3 i v1 := by
  refine ⟨fun _ => t3_ok he, fun k _ => mult12 he k, fun k _ => ?_, fun k _ => ?_, fun _ => t4_ok v1, ?_, ?_, ?_,
    fun _ => t5_ok he, fun k _ => mult12 he k, fun k _ => ?_, fun k _ => ?_, fun _ => t6_ok v1, ?_, ?_, ?_⟩
  · rw [off35_eq he k]; exact inbBlk _ (fill_lt he k)
  · rw [off35_eq he k]; exact wwBlk _
  · exact fun k => (no_t4 k).elim
  · exact fun k => (no_t4 k).elim
  · exact fun k => (no_t4 k).elim
  · rw [off37_eq he k]; exact inbBlk _ (fill_lt he k)
  · rw [off37_eq he k]; exact wwBlk _
  · exact fun k => (no_t6 k).elim
  · exact fun k => (no_t6 k).elim
  · exact fun k => (no_t6 k).elim

include h hT in
theorem chk2_holds : k0_chk2 i v1 v23 v43 := by
  have hu := hT.ub
  refine ⟨fun k hc => ?_, fun k hc => ?_, fun k hc => ?_, fun k hc => ?_, fun k hc => ?_, fun k hc => ?_, ?_, ?_, ?_, ?_, ?_, ?_,
    fun _ hc => ?_, fun _ hc => ?_, fun _ hc => ?_, fun _ hc => ?_, fun _ hc => ?_, fun _ hc => ?_,
    fun _ hc => ?_, fun _ hc => ?_, fun _ hc => ?_, fun _ hc => ?_, fun _ hc => ?_, fun _ hc => ?_⟩
  · refine ⟨blkN i v23 k + 1, ?_⟩
    have := blk_le h k
    show (Scalar.muli (Scalar.addi (blkW i v23 k) 1#32) 4096#32).toNat = _
    rw [mul4096 _ _ (blkW1_toNat h k) (by omega)]; omega
  · rw [off3_eq h k]; exact inb2 _
  · rw [off4_eq h k]; exact inbSlot _
  · rw [off5_eq h k]; exact inbBlk _ (lt_of_lt_of_le ((cond3_iff h hT k).mp hc) hu)
  · rw [off5_eq h k]; exact wwBlk _
  · rw [off4_eq h k]; exact wwSlot _
  iterate 6 exact fun k => (no_t2 i v1 v23 k).elim
  · have h2 := (cond8_iff hu).mp hc
    refine ⟨enN v43 - 2, ?_⟩
    show (Scalar.muli (Scalar.subi (fdiv v43) 2#32) 4096#32).toNat = _
    rw [mul4096 _ _ (sub2 h2) (by omega)]; omega
  · rw [off29_eq hu ((cond8_iff hu).mp hc)]; exact inb2 _
  · rw [off30_eq hu ((cond8_iff hu).mp hc)]; exact inbBlk _ (by have := (cond8_iff hu).mp hc; omega)
  · rw [off31_eq hu ((cond8_iff hu).mp hc)]; exact inbSlot _
  · rw [off31_eq hu ((cond8_iff hu).mp hc)]; exact wwSlot _
  · rw [off30_eq hu ((cond8_iff hu).mp hc)]; exact wwBlk _
  · have h1 := (cond9_iff hu).mp hc
    refine ⟨enN v43 - 1, ?_⟩
    show (Scalar.muli (Scalar.subi (fdiv v43) 1#32) 4096#32).toNat = _
    rw [mul4096 _ _ (sub1 h1) (by omega)]; omega
  · rw [off32_eq hu ((cond9_iff hu).mp hc)]; exact inb2 _
  · rw [off33_eq hu ((cond9_iff hu).mp hc)]; exact inbBlk _ (by have := (cond9_iff hu).mp hc; omega)
  · rw [off34_eq hu ((cond9_iff hu).mp hc)]; exact inbSlot _
  · rw [off34_eq hu ((cond9_iff hu).mp hc)]; exact wwSlot _
  · rw [off33_eq hu ((cond9_iff hu).mp hc)]; exact wwBlk _

end Main

end MoeP
-- ==== Proof.MoePieces.lean ====
/-
  The pieces the experts' kernel moves: a block of the rows, a slot of the two buffers, its semaphore, and a slot in flight.
-/
module

public import proofs.«01_k».proof.Proof.MoeWords
public import proofs.«01_k».proof.Proof.Gen.MoeIdeal.Launch
public import Idealize.ShloMosaic.Lib.Pipeline.KitQuiescent
public import Idealize.ShloMosaic.Lib.Ring
public import Idealize.ShloMosaic.Lib.Affine
public import Idealize.ShloMosaic.Lib.Tactic

@[expose] public section

set_option maxRecDepth 16384

noncomputable section

namespace MoeP

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-! ## Canonical names -/

abbrev xsM : Memref sig .tc .hbm S651264x128 .bf16 := Memref.whole main_arg1
abbrev ysM : Memref sig .tc .hbm S651264x128 .bf16 := Memref.whole main_v2
abbrev xbM : Memref sig .tc .vmem S2x4096x128 .bf16 := Memref.whole cc0_scratch0
abbrev ybM : Memref sig .tc .vmem S2x4096x128 .bf16 := Memref.whole cc0_scratch1
abbrev wgM : Memref sig .tc .vmem S1024x2048 .bf16 := Memref.whole cc0_scratch2
abbrev wdM : Memref sig .tc .vmem S1024x1024 .bf16 := Memref.whole cc0_scratch3

abbrev blkOff (b : Fin 159) : Fin 2 → Nat := ![b.val * 4096, 0]
theorem blkOff_inb (b : Fin 159) : ∀ a, blkOff b a + S4096x128.size a ≤ S651264x128.size a := inbBlk b.val b.isLt
abbrev slotOff (s : Fin 2) : Fin 3 → Nat := ![s.val, 0, 0]
theorem slotOff_inb (s : Fin 2) : ∀ a, slotOff s a + S1x4096x128.size a ≤ S2x4096x128.size a := by
  have := s.isLt; intro a; fin_cases a
  · show s.val + 1 ≤ 2; omega
  · show 0 + 4096 ≤ 4096; omega
  · show 0 + 128 ≤ 128; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Block `b` of the rows in, of the rows out; slot `s` of the two buffers; its two semaphores. -/
def xBlk (b : Fin 159) : Memref sig .tc .hbm S4096x128 .bf16 :=
  xsM.slice (Rect.unit (s := S651264x128) (blkOff b) S4096x128.size (blkOff_inb b)) (fun _ => rfl)
def yBlk (b : Fin 159) : Memref sig .tc .hbm S4096x128 .bf16 :=
  ysM.slice (Rect.unit (s := S651264x128) (blkOff b) S4096x128.size (blkOff_inb b)) (fun _ => rfl)
def xSlot (s : Fin 2) : Memref sig .tc .vmem S4096x128 .bf16 :=
  (xbM.slice (Rect.unit (s := S2x4096x128) (slotOff s) S1x4096x128.size (slotOff_inb s)) (fun _ => rfl)).squeeze S4096x128 squeezes_S1x4096x128_S4096x128
def ySlot (s : Fin 2) : Memref sig .tc .vmem S4096x128 .bf16 :=
  (ybM.slice (Rect.unit (s := S2x4096x128) (slotOff s) S1x4096x128.size (slotOff_inb s)) (fun _ => rfl)).squeeze S4096x128 squeezes_S1x4096x128_S4096x128
def inSm (s : Fin 2) : DmaSems sig S_ := (cc0_scratch4.slice (Rect.unit (s := S2) (semOff s) S1.size (semOff_inb s))).squeeze S_ squeezes_S1_S_
def outSm (s : Fin 2) : DmaSems sig S_ := (cc0_scratch5.slice (Rect.unit (s := S2) (semOff s) S1.size (semOff_inb s))).squeeze S_ squeezes_S1_S_

instance (s : Fin 2) : ClosedOff (slotOff s) := ⟨slotOff s, rfl⟩
instance (b : Fin 159) : ClosedOff (blkOff b) := ⟨blkOff b, rfl⟩

theorem sl2 (n : ℕ) : (Ring.sl 2 n).val = n % 2 := rfl
theorem sl2_add2 (n : ℕ) : Ring.sl 2 (n + 2) = Ring.sl 2 n := Ring.sl_add 2 n
theorem sl2_sub2 (n : ℕ) (h : 2 ≤ n) : Ring.sl 2 (n - 2) = Ring.sl 2 n := by
  obtain ⟨k, rfl⟩ := Nat.exists_eq_add_of_le' h
  rw [Nat.add_sub_cancel]; exact (sl2_add2 k).symm

section Canon
theorem inSm_congr {off : Fin 1 → Nat} {s : Fin 2} (e : off = semOff s) (hh) :
    (cc0_scratch4.slice (Rect.unit (s := S2) off S1.size hh)).squeeze S_ squeezes_S1_S_ = inSm s :=
  congrArg (fun A : DmaSems sig S1 => A.squeeze S_ squeezes_S1_S_) (SemArray.slice_unit_congr _ e _ _)
theorem outSm_congr {off : Fin 1 → Nat} {s : Fin 2} (e : off = semOff s) (hh) :
    (cc0_scratch5.slice (Rect.unit (s := S2) off S1.size hh)).squeeze S_ squeezes_S1_S_ = outSm s :=
  congrArg (fun A : DmaSems sig S1 => A.squeeze S_ squeezes_S1_S_) (SemArray.slice_unit_congr _ e _ _)
theorem xSlot_congr {off : Fin 3 → Nat} {s : Fin 2} (e : off = slotOff s) (hh hs) :
    (xbM.slice (Rect.unit (s := S2x4096x128) off S1x4096x128.size hh) hs).squeeze S4096x128 squeezes_S1x4096x128_S4096x128 = xSlot s :=
  congrArg (fun M : Memref sig .tc .vmem S1x4096x128 .bf16 => M.squeeze S4096x128 squeezes_S1x4096x128_S4096x128) (Memref.slice_unit_congr _ e _ _ _ _)
theorem ySlot_congr {off : Fin 3 → Nat} {s : Fin 2} (e : off = slotOff s) (hh hs) :
    (ybM.slice (Rect.unit (s := S2x4096x128) off S1x4096x128.size hh) hs).squeeze S4096x128 squeezes_S1x4096x128_S4096x128 = ySlot s :=
  congrArg (fun M : Memref sig .tc .vmem S1x4096x128 .bf16 => M.squeeze S4096x128 squeezes_S1x4096x128_S4096x128) (Memref.slice_unit_congr _ e _ _ _ _)
theorem xBlk_congr {off : Fin 2 → Nat} {b : Fin 159} (e : off = blkOff b) (hh hs) :
    xsM.slice (Rect.unit (s := S651264x128) off S4096x128.size hh) hs = xBlk b := Memref.slice_unit_congr _ e _ _ _ (fun _ => rfl)
theorem yBlk_congr {off : Fin 2 → Nat} {b : Fin 159} (e : off = blkOff b) (hh hs) :
    ysM.slice (Rect.unit (s := S651264x128) off S4096x128.size hh) hs = yBlk b := Memref.slice_unit_congr _ e _ _ _ (fun _ => rfl)

theorem bOff (n : ℕ) (h : n < 159) : (![n * 4096, 0] : Fin 2 → ℕ) = blkOff (Ring.bk 159 n) := by
  unfold blkOff; rw [Ring.bk_val h]

/-- The literal slices: the first transfer in, the zero block's slot and semaphore. -/
@[sl_canon] theorem inL0 (hh) : (cc0_scratch4.slice (Rect.unit (s := S2) ![0] S1.size hh)).squeeze S_ squeezes_S1_S_ = inSm 0 := inSm_congr (by decide) _
@[sl_canon] theorem outL0 (hh) : (cc0_scratch5.slice (Rect.unit (s := S2) ![0] S1.size hh)).squeeze S_ squeezes_S1_S_ = outSm 0 := outSm_congr (by decide) _
@[sl_canon] theorem xL0 (hh hs) : (xbM.slice (Rect.unit (s := S2x4096x128) ![0, 0, 0] S1x4096x128.size hh) hs).squeeze S4096x128 squeezes_S1x4096x128_S4096x128 = xSlot 0 := xSlot_congr (by decide) _ _
@[sl_canon] theorem yL0 (hh hs) : (ybM.slice (Rect.unit (s := S2x4096x128) ![0, 0, 0] S1x4096x128.size hh) hs).squeeze S4096x128 squeezes_S1x4096x128_S4096x128 = ySlot 0 := ySlot_congr (by decide) _ _
@[sl_canon] theorem xB0 (hh hs) : xsM.slice (Rect.unit (s := S651264x128) ![0, 0] S4096x128.size hh) hs = xBlk 0 := xBlk_congr (by decide) _ _

variable {i : grid0.Coords} {v1 v23 v43 : BitVec 32}

/-- The main loop's trip `k`, at block `blkN i v23 k`. -/
@[sl_canon] theorem in3 (k : Fin (k0_t1_loop i v1 v23).trips) (h : Ok i v1 v23) (hh) :
    (cc0_scratch4.slice (Rect.unit (s := S2) (k0_off3 i v1 v23 k) S1.size hh)).squeeze S_ squeezes_S1_S_ = inSm (Ring.sl 2 (blkN i v23 k + 1)) := inSm_congr (off3_eq h k) _
@[sl_canon] theorem x4 (k : Fin (k0_t1_loop i v1 v23).trips) (h : Ok i v1 v23) (hh hs) :
    (xbM.slice (Rect.unit (s := S2x4096x128) (k0_off4 i v1 v23 k) S1x4096x128.size hh) hs).squeeze S4096x128 squeezes_S1x4096x128_S4096x128 = xSlot (Ring.sl 2 (blkN i v23 k + 1)) := xSlot_congr (off4_eq h k) _ _
@[sl_canon] theorem x5 (k : Fin (k0_t1_loop i v1 v23).trips) (h : Ok i v1 v23) (hb : blkN i v23 k + 1 < 159) (hh hs) :
    xsM.slice (Rect.unit (s := S651264x128) (k0_off5 i v1 v23 k) S4096x128.size hh) hs = xBlk (Ring.bk 159 (blkN i v23 k + 1)) :=
  xBlk_congr ((off5_eq h k).trans (bOff _ hb)) _ _
@[sl_canon] theorem in6 (k : Fin (k0_t1_loop i v1 v23).trips) (h : Ok i v1 v23) (hh) :
    (cc0_scratch4.slice (Rect.unit (s := S2) (k0_off6 i v1 v23 k) S1.size hh)).squeeze S_ squeezes_S1_S_ = inSm (Ring.sl 2 (blkN i v23 k)) := inSm_congr (off6_eq h k) _
@[sl_canon] theorem out6 (k : Fin (k0_t1_loop i v1 v23).trips) (h : Ok i v1 v23) (hh) :
    (cc0_scratch5.slice (Rect.unit (s := S2) (k0_off6 i v1 v23 k) S1.size hh)).squeeze S_ squeezes_S1_S_ = outSm (Ring.sl 2 (blkN i v23 k)) := outSm_congr (off6_eq h k) _
@[sl_canon] theorem x7 (k : Fin (k0_t1_loop i v1 v23).trips) (h : Ok i v1 v23) (hh hs) :
    (xbM.slice (Rect.unit (s := S2x4096x128) (k0_off7 i v1 v23 k) S1x4096x128.size hh) hs).squeeze S4096x128 squeezes_S1x4096x128_S4096x128 = xSlot (Ring.sl 2 (blkN i v23 k)) := xSlot_congr (off7_eq h k) _ _
@[sl_canon] theorem y7 (k : Fin (k0_t1_loop i v1 v23).trips) (h : Ok i v1 v23) (hh hs) :
    (ybM.slice (Rect.unit (s := S2x4096x128) (k0_off7 i v1 v23 k) S1x4096x128.size hh) hs).squeeze S4096x128 squeezes_S1x4096x128_S4096x128 = ySlot (Ring.sl 2 (blkN i v23 k)) := ySlot_congr (off7_eq h k) _ _
@[sl_canon] theorem x8 (k : Fin (k0_t1_loop i v1 v23).trips) (h : Ok i v1 v23) (hh hs) :
    xsM.slice (Rect.unit (s := S651264x128) (k0_off8 i v1 v23 k) S4096x128.size hh) hs = xBlk (Ring.bk 159 (blkN i v23 k)) :=
  xBlk_congr ((off8_eq h k).trans (bOff _ (blk_le h k))) _ _
@[sl_canon] theorem y8 (k : Fin (k0_t1_loop i v1 v23).trips) (h : Ok i v1 v23) (hh hs) :
    ysM.slice (Rect.unit (s := S651264x128) (k0_off8 i v1 v23 k) S4096x128.size hh) hs = yBlk (Ring.bk 159 (blkN i v23 k)) :=
  yBlk_congr ((off8_eq h k).trans (bOff _ (blk_le h k))) _ _
@[sl_canon] theorem out9 (k : Fin (k0_t1_loop i v1 v23).trips) (h : Ok i v1 v23) (h2 : 2 ≤ blkN i v23 k) (hh) :
    (cc0_scratch5.slice (Rect.unit (s := S2) (k0_off9 i v1 v23 k) S1.size hh)).squeeze S_ squeezes_S1_S_ = outSm (Ring.sl 2 (blkN i v23 k)) := outSm_congr (off9_eq h k h2) _
@[sl_canon] theorem y10 (k : Fin (k0_t1_loop i v1 v23).trips) (h : Ok i v1 v23) (h2 : 2 ≤ blkN i v23 k) (hh hs) :
    ysM.slice (Rect.unit (s := S651264x128) (k0_off10 i v1 v23 k) S4096x128.size hh) hs = yBlk (Ring.bk 159 (blkN i v23 k - 2)) :=
  yBlk_congr ((off10_eq h k h2).trans (bOff _ (lt_of_le_of_lt (Nat.sub_le _ _) (blk_le h k)))) _ _
@[sl_canon] theorem y11 (k : Fin (k0_t1_loop i v1 v23).trips) (h : Ok i v1 v23) (h2 : 2 ≤ blkN i v23 k) (hh hs) :
    (ybM.slice (Rect.unit (s := S2x4096x128) (k0_off11 i v1 v23 k) S1x4096x128.size hh) hs).squeeze S4096x128 squeezes_S1x4096x128_S4096x128 = ySlot (Ring.sl 2 (blkN i v23 k)) := ySlot_congr (off11_eq h k h2) _ _

/-- The tail's. -/
@[sl_canon] theorem out29 (hu : enN v43 ≤ 159) (h2 : 2 ≤ enN v43) (hh) :
    (cc0_scratch5.slice (Rect.unit (s := S2) (k0_off29 v43) S1.size hh)).squeeze S_ squeezes_S1_S_ = outSm (Ring.sl 2 (enN v43 - 2)) := outSm_congr (off29_eq hu h2) _
@[sl_canon] theorem y30 (hu : enN v43 ≤ 159) (h2 : 2 ≤ enN v43) (hh hs) :
    ysM.slice (Rect.unit (s := S651264x128) (k0_off30 v43) S4096x128.size hh) hs = yBlk (Ring.bk 159 (enN v43 - 2)) :=
  yBlk_congr ((off30_eq hu h2).trans (bOff _ (by omega))) _ _
@[sl_canon] theorem y31 (hu : enN v43 ≤ 159) (h2 : 2 ≤ enN v43) (hh hs) :
    (ybM.slice (Rect.unit (s := S2x4096x128) (k0_off31 v43) S1x4096x128.size hh) hs).squeeze S4096x128 squeezes_S1x4096x128_S4096x128 = ySlot (Ring.sl 2 (enN v43 - 2)) := ySlot_congr (off31_eq hu h2) _ _
@[sl_canon] theorem out32 (hu : enN v43 ≤ 159) (h1 : 1 ≤ enN v43) (hh) :
    (cc0_scratch5.slice (Rect.unit (s := S2) (k0_off32 v43) S1.size hh)).squeeze S_ squeezes_S1_S_ = outSm (Ring.sl 2 (enN v43 - 1)) := outSm_congr (off32_eq hu h1) _
@[sl_canon] theorem y33 (hu : enN v43 ≤ 159) (h1 : 1 ≤ enN v43) (hh hs) :
    ysM.slice (Rect.unit (s := S651264x128) (k0_off33 v43) S4096x128.size hh) hs = yBlk (Ring.bk 159 (enN v43 - 1)) :=
  yBlk_congr ((off33_eq hu h1).trans (bOff _ (by omega))) _ _
@[sl_canon] theorem y34 (hu : enN v43 ≤ 159) (h1 : 1 ≤ enN v43) (hh hs) :
    (ybM.slice (Rect.unit (s := S2x4096x128) (k0_off34 v43) S1x4096x128.size hh) hs).squeeze S4096x128 squeezes_S1x4096x128_S4096x128 = ySlot (Ring.sl 2 (enN v43 - 1)) := ySlot_congr (off34_eq hu h1) _ _
@[sl_canon] theorem y35 (he : enN v1 ≤ 159) (k : Fin (k0_t3_loop v1).trips) (hh hs) :
    ysM.slice (Rect.unit (s := S651264x128) (k0_off35 v1 k) S4096x128.size hh) hs = yBlk (Ring.bk 159 (enN v1 + k.val)) :=
  yBlk_congr ((off35_eq he k).trans (bOff _ (fill_lt he k))) _ _
@[sl_canon] theorem y37 (he : enN v1 ≤ 159) (k : Fin (k0_t5_loop v1).trips) (hh hs) :
    ysM.slice (Rect.unit (s := S651264x128) (k0_off37 v1 k) S4096x128.size hh) hs = yBlk (Ring.bk 159 (enN v1 + k.val)) :=
  yBlk_congr ((off37_eq he k).trans (bOff _ (fill_lt he k))) _ _
end Canon

/-! ## Contents -/

section Pieces
variable (c : Dev nD)

abbrev cellIn (s : Fin 2) : sProp 𝕄 := semVal ((c : Thread nD τ), SemLoc.dma (inSm s).sem) 0
abbrev cellOut (s : Fin 2) : sProp 𝕄 := semVal ((c : Thread nD τ), SemLoc.dma (outSm s).sem) 0
abbrev xSlotP (s : Fin 2) (f : Buf (Elt F) ((xSlot s).view.loc (c : Thread nD τ))) : sProp 𝕄 :=
  (xSlot s).view.loc (c : Thread nD τ) ↦[(xSlot s).view.set]{fullShare} f
abbrev ySlotP (s : Fin 2) (f : Buf (Elt F) ((ySlot s).view.loc (c : Thread nD τ))) : sProp 𝕄 :=
  (ySlot s).view.loc (c : Thread nD τ) ↦[(ySlot s).view.set]{fullShare} f
abbrev xHome (X : Buf (Elt F) (xsM.view.loc (c : Thread nD τ))) (b : Fin 159) : sProp 𝕄 :=
  (xBlk b).view.loc (c : Thread nD τ) ↦[(xBlk b).view.set]{fullShare} X
abbrev yHome (Y : Buf (Elt F) (ysM.view.loc (c : Thread nD τ))) (b : Fin 159) : sProp 𝕄 :=
  (yBlk b).view.loc (c : Thread nD τ) ↦[(yBlk b).view.set]{fullShare} Y

abbrev xLanded (X : Buf (Elt F) (xsM.view.loc (c : Thread nD τ))) (s : Fin 2) (b : Fin 159) (f : Buf (Elt F) ((xSlot s).view.loc (c : Thread nD τ))) :
    Buf (Elt F) ((xSlot s).view.loc (c : Thread nD τ)) :=
  (xSlot s).view.writes (Elt F) f [⟨Rect.whole S4096x128, ReadAs.same.apply ((xBlk b).view.read (Elt F) X)⟩]
abbrev yLanded (s : Fin 2) (b : Fin 159) (g : Buf (Elt F) ((ySlot s).view.loc (c : Thread nD τ))) (Y : Buf (Elt F) (ysM.view.loc (c : Thread nD τ))) :
    Buf (Elt F) (ysM.view.loc (c : Thread nD τ)) :=
  (yBlk b).view.writes (Elt F) Y [⟨Rect.whole S4096x128, ReadAs.same.apply ((ySlot s).view.read (Elt F) g)⟩]

end Pieces

end MoeP

end
-- ==== Proof.MoeSlots.lean ====
module

public import proofs.«01_k».proof.Proof.MoePieces
public import Idealize.ShloMosaic.Lib.Pointwise
public import Idealize.ShloMosaic.Lib.ValueLayout

set_option maxRecDepth 16384

noncomputable section

@[expose] public section

/-! # What the accesses of the pairs of rows read and leave in a slot -/

namespace MoeP

open Cert.MoeIdeal Cert.MoeIdeal.Gen
open Idealize.ShloMosaic

variable {F : FTy → Type} [FloatOps F]

/-- The row a pair of rows of chunk `j` stands at. -/
abbrev prow (j : Fin 4) (t : Fin 512) (h : Fin 2) : Fin 4096 := ⟨8 * t.val + 2 * j.val + h.val, by omega⟩

theorem box_reshape (s : Fin 2) (j : Fin 4) (off : Fin 4 → ℕ) (e : off = ![s.val, j.val, 0, 0])
    (inb : ∀ a, S1x512x2x128.size a = 0 ∨ off a + (![1, 4, 1, 1] : Fin 4 → ℕ) a * (S1x512x2x128.size a - 1) < S2x2048x2x128.size a)
    (hn : S2x2048x2x128.numel = S2x4096x128.numel) (hn' : S4096x128.numel = S1x4096x128.numel)
    (u : Fin 1) (t : Fin 512) (h : Fin 2) (l : Fin 128) :
    Shape.reshapeEquiv hn ((⟨off, S1x512x2x128.size, ![1, 4, 1, 1], inb⟩ : LoadRect S2x2048x2x128).idx (ix4 u t h l))
      = (Rect.unit (s := S2x4096x128) (slotOff s) S1x4096x128.size (slotOff_inb s)).emb (Shape.reshapeEquiv hn' (ix2 (prow j t h) l)) := by
  subst e
  have e1 : Shape.reshapeEquiv hn' (ix2 (prow j t h) l) = (ix3 (0 : Fin 1) (prow j t h) l : S1x4096x128.Idx) := by
    refine Shape.reshapeEquiv_eq_of_vals _ _ _ _ _ (rowMajor_val3 _ 524288 128 rfl rfl) (rowMajor_val2 _ 128 rfl) ?_
    show 0 * 524288 + (8 * t.val + 2 * j.val + h.val) * 128 + l.val = (8 * t.val + 2 * j.val + h.val) * 128 + l.val
    omega
  rw [e1]
  refine Shape.reshapeEquiv_eq_of_vals _ _ _ _ _ (rowMajor_val3 _ 524288 128 rfl rfl) (rowMajor_val4 _ 524288 256 128 rfl rfl rfl) ?_
  show (s.val + 1 * 0) * 524288 + (0 + 1 * (8 * t.val + 2 * j.val + h.val)) * 128 + (0 + 1 * l.val) = (s.val + 1 * u.val) * 524288 + (j.val + 4 * t.val) * 256 + (0 + 1 * h.val) * 128 + (0 + 1 * l.val)
  have := u.isLt
  omega

/-- What a strided load reads of a slot. -/
theorem xread (s : Fin 2) (j : Fin 4) (off : Fin 4 → ℕ) (e : off = ![s.val, j.val, 0, 0])
    (inb : ∀ a, S1x512x2x128.size a = 0 ∨ off a + (![1, 4, 1, 1] : Fin 4 → ℕ) a * (S1x512x2x128.size a - 1) < S2x2048x2x128.size a)
    (h1 h2 h3) (f : xbM.view.ty.Contents (Elt F)) (z : S1x512x2x128.Idx) :
    (xbM.reshape S2x2048x2x128 h1 h2 h3).view.readAt (Elt F) (⟨off, S1x512x2x128.size, ![1, 4, 1, 1], inb⟩ : LoadRect S2x2048x2x128) f z
      = (xSlot s).view.read (Elt F) f (ix2 (prow j (z 1) (z 2)) (z 3)) := by
  have e := box_reshape s j off e inb h1 (squeezes_S1x4096x128_S4096x128.numel_eq) (z 0) (z 1) (z 2) (z 3)
  rw [ix4_eta] at e
  exact congrArg (xbM.view.read (Elt F) f) e

/-- What a slot reads after a strided store. -/
theorem ywrite (s : Fin 2) (j : Fin 4) (off : Fin 4 → ℕ) (e : off = ![s.val, j.val, 0, 0])
    (inb : ∀ a, S1x512x2x128.size a = 0 ∨ off a + (![1, 4, 1, 1] : Fin 4 → ℕ) a * (S1x512x2x128.size a - 1) < S2x2048x2x128.size a)
    (h1 h2 h3) (sp) (g : ybM.view.ty.Contents (Elt F)) (w : S1x512x2x128.Idx → Elt F .bf16) (j' : Fin 4) (t : Fin 512) (h : Fin 2) (l : Fin 128) :
    (ySlot s).view.read (Elt F) (((ybM.reshape S2x2048x2x128 h1 h2 h3).access (⟨(⟨off, S1x512x2x128.size, ![1, 4, 1, 1], inb⟩ : LoadRect S2x2048x2x128), sp⟩ : Rect _)).write (Elt F) g w Finset.univ)
        (ix2 (prow j' t h) l)
      = if j' = j then w (ix4 0 t h l) else (ySlot s).view.read (Elt F) g (ix2 (prow j' t h) l) := by
  by_cases hj : j' = j
  · subst hj
    rw [if_pos rfl]
    have e := box_reshape s j' off e inb h1 (squeezes_S1x4096x128_S4096x128.numel_eq) 0 t h l
    have := View.read_write_of_mem (v := ((ybM.reshape S2x2048x2x128 h1 h2 h3).access (⟨(⟨off, S1x512x2x128.size, ![1, 4, 1, 1], inb⟩ : LoadRect S2x2048x2x128), sp⟩ : Rect _))) g w (Finset.mem_univ (ix4 0 t h l : S1x512x2x128.Idx))
    refine Eq.trans ?_ this
    exact congrArg (ybM.view.read (Elt F) _) e.symm
  · rw [if_neg hj]
    refine congrArg (_root_.cast _) (View.write_of_not_mem _ _ _ ?_)
    intro hm
    obtain ⟨z, -, hz⟩ := Finset.mem_map.1 hm
    have e := box_reshape s j off e inb h1 squeezes_S1x4096x128_S4096x128.numel_eq (z 0) (z 1) (z 2) (z 3)
    rw [ix4_eta] at e
    have e2 := (congrArg ybM.view.emb e).symm.trans hz
    have e3 : (ix2 (prow j (z 1) (z 2)) (z 3) : S4096x128.Idx) = ix2 (prow j' t h) l := (ySlot s).view.emb.injective e2
    have e4 : 8 * (z 1).val + 2 * j.val + (z 2).val = 8 * t.val + 2 * j'.val + h.val := congrArg Fin.val (congrFun e3 0)
    have hz2 : (z 2).val < 2 := (z 2).isLt
    exact hj (Fin.ext (by omega))

/-- The block's rows out: what the trip computes of a block of rows in (`x`), with the two products' weights and biases. -/
abbrev xq (x : S4096x128.Idx → Elt F .bf16) (j : Fin 4) : Vec F S1x512x2x128 .bf16 := fun z => x (ix2 (prow j (z 1) (z 2)) (z 3))
def moeHid (x : S4096x128.Idx → Elt F .bf16) (A10 : Vec F S1024x2048 .bf16) (B4 : Vec F S1x1x2048 .f32) : FVec F S512x1024 .bf16 :=
  k0_pay10 (k0_pay2 (xq x 0)) (k0_pay3 (xq x 1)) (k0_pay4 (xq x 2)) (k0_pay5 (xq x 2)) (k0_pay6 (xq x 3)) (k0_pay7 (xq x 3)) (k0_pay8 (xq x 0)) (k0_pay9 (xq x 1)) A10 B4
def moeBlk (x : S4096x128.Idx → Elt F .bf16) (A10 : Vec F S1024x2048 .bf16) (A11 : Vec F S1024x1024 .bf16) (B4 : Vec F S1x1x2048 .f32) (B6 : Vec F S1x1x1024 .f32)
    (j : Fin 4) (t : Fin 512) (h : Fin 2) (l : Fin 128) : Elt F .bf16 :=
  (truncf .bf16 (k0_pay11 (moeHid x A10 B4) A11 B6) : FVec F S512x1024 .bf16) (ix2 t ⟨h.val * 512 + j.val * 128 + l.val, by omega⟩)

theorem inter_at (lo hi : FVec F S512x128 .bf16) (t : Fin 512) (h : Fin 2) (l : Fin 128) :
    interleaveRows S1x512x2x128 (shapeCast S1x512x1x128 lo shapeCasts_S512x128_S1x512x1x128) (shapeCast S1x512x1x128 hi shapeCasts_S512x128_S1x512x1x128) bitcasts_S1x512x2x128_w16_S1x512x1x128_w32 (ix4 0 t h l)
      = if h.val = 0 then lo (ix2 t l) else hi (ix2 t l) := by
  fin_cases h <;> pointwise

theorem pay12_at (a : FVec F S512x1024 .bf16) (b : Vec F S1024x1024 .bf16) (d : Vec F S1x1x1024 .f32) (t : Fin 512) (h : Fin 2) (l : Fin 128) :
    k0_pay12 a b d (ix4 0 t h l) = (truncf .bf16 (k0_pay11 a b d) : FVec F S512x1024 .bf16) (ix2 t ⟨h.val * 512 + (0 : Fin 4).val * 128 + l.val, by omega⟩) := by
  generalize hv : k0_pay11 a b d = v
  unfold k0_pay12
  simp only [hv]
  rw [inter_at]
  fin_cases h <;> pointwise

theorem pay13_at (a : FVec F S512x1024 .bf16) (b : Vec F S1024x1024 .bf16) (d : Vec F S1x1x1024 .f32) (t : Fin 512) (h : Fin 2) (l : Fin 128) :
    k0_pay13 a b d (ix4 0 t h l) = (truncf .bf16 (k0_pay11 a b d) : FVec F S512x1024 .bf16) (ix2 t ⟨h.val * 512 + (1 : Fin 4).val * 128 + l.val, by have : (1 : Fin 4).val = 1 := rfl; omega⟩) := by
  generalize hv : k0_pay11 a b d = v
  unfold k0_pay13
  simp only [hv]
  rw [inter_at]
  fin_cases h
  · pointwise
  · pointwise
    congr 1
    exact congrArg (fun q => v (ix2 t q)) (Fin.ext (by simp only; omega))

theorem pay16_at (a : FVec F S512x1024 .bf16) (b : Vec F S1024x1024 .bf16) (d : Vec F S1x1x1024 .f32) (t : Fin 512) (h : Fin 2) (l : Fin 128) :
    k0_pay16 (k0_pay14 a b d) (k0_pay15 a b d) (ix4 0 t h l) = (truncf .bf16 (k0_pay11 a b d) : FVec F S512x1024 .bf16) (ix2 t ⟨h.val * 512 + (2 : Fin 4).val * 128 + l.val, by have : (2 : Fin 4).val = 2 := rfl; omega⟩) := by
  unfold k0_pay14 k0_pay15 k0_pay16
  generalize hv : k0_pay11 a b d = v
  rw [inter_at]
  fin_cases h
  · pointwise
  · pointwise
    congr 1
    exact congrArg (fun q => v (ix2 t q)) (Fin.ext (by simp only; omega))

theorem pay17_at (v : FVec F S512x1024 .f32) (t : Fin 512) (h : Fin 2) (l : Fin 128) :
    k0_pay17 v (ix4 0 t h l) = (truncf .bf16 v : FVec F S512x1024 .bf16) (ix2 t ⟨h.val * 512 + (3 : Fin 4).val * 128 + l.val, by have : (3 : Fin 4).val = 3 := rfl; omega⟩) := by
  unfold k0_pay17
  rw [inter_at]
  fin_cases h
  · pointwise
  · pointwise
    congr 1
    exact congrArg (fun q => v (ix2 t q)) (Fin.ext (by simp only; omega))

/-- A landed block's strided loads are its pairs of rows. -/
theorem landed_q (s : Fin 2) (j : Fin 4) (off : Fin 4 → ℕ) (e : off = ![s.val, j.val, 0, 0])
    (inb : ∀ a, S1x512x2x128.size a = 0 ∨ off a + (![1, 4, 1, 1] : Fin 4 → ℕ) a * (S1x512x2x128.size a - 1) < S2x2048x2x128.size a)
    (h1 h2 h3) (f : (xSlot s).view.ty.Contents (Elt F)) (x : S4096x128.Idx → Elt F .bf16) :
    (xbM.reshape S2x2048x2x128 h1 h2 h3).view.readAt (Elt F) (⟨off, S1x512x2x128.size, ![1, 4, 1, 1], inb⟩ : LoadRect S2x2048x2x128)
      ((xSlot s).view.writes (Elt F) f [⟨Rect.whole S4096x128, x⟩]) = xq x j :=
  funext fun z => (xread s j off e inb h1 h2 h3 _ z).trans (congrFun (View.read_writes_whole (xSlot s).view f x) _)

/-- What a slot of rows out reads after the four stores of a trip. -/
theorem slot_out (s : Fin 2) (o0 o1 o2 o3 : Fin 4 → ℕ) (e0 : o0 = ![s.val, (0 : Fin 4).val, 0, 0]) (e1 : o1 = ![s.val, (1 : Fin 4).val, 0, 0]) (e2 : o2 = ![s.val, (2 : Fin 4).val, 0, 0]) (e3 : o3 = ![s.val, (3 : Fin 4).val, 0, 0])
    (n0 n1 n2 n3) (h1 h2 h3 a1 a2 a3 b1 b2 b3 d1 d2 d3) (p0 p1 p2 p3) (g : ybM.view.ty.Contents (Elt F))
    (x : S4096x128.Idx → Elt F .bf16) (A10 : Vec F S1024x2048 .bf16) (A11 : Vec F S1024x1024 .bf16) (B4 : Vec F S1x1x2048 .f32) (B6 : Vec F S1x1x1024 .f32)
    (q0 q1 q2 q3 : Vec F S1x512x2x128 .bf16) (hq0 : q0 = xq x 0) (hq1 : q1 = xq x 1) (hq2 : q2 = xq x 2) (hq3 : q3 = xq x 3)
    (j : Fin 4) (t : Fin 512) (h : Fin 2) (l : Fin 128) :
    (ySlot s).view.read (Elt F)
      (((ybM.reshape S2x2048x2x128 d1 d2 d3).access (⟨(⟨o3, S1x512x2x128.size, ![1, 4, 1, 1], n3⟩ : LoadRect S2x2048x2x128), p3⟩ : Rect _)).write (Elt F)
      (((ybM.reshape S2x2048x2x128 b1 b2 b3).access (⟨(⟨o2, S1x512x2x128.size, ![1, 4, 1, 1], n2⟩ : LoadRect S2x2048x2x128), p2⟩ : Rect _)).write (Elt F)
      (((ybM.reshape S2x2048x2x128 a1 a2 a3).access (⟨(⟨o1, S1x512x2x128.size, ![1, 4, 1, 1], n1⟩ : LoadRect S2x2048x2x128), p1⟩ : Rect _)).write (Elt F)
      (((ybM.reshape S2x2048x2x128 h1 h2 h3).access (⟨(⟨o0, S1x512x2x128.size, ![1, 4, 1, 1], n0⟩ : LoadRect S2x2048x2x128), p0⟩ : Rect _)).write (Elt F) g
        (k0_pay12 (k0_pay10 (k0_pay2 q0) (k0_pay3 q1) (k0_pay4 q2) (k0_pay5 q2) (k0_pay6 q3) (k0_pay7 q3) (k0_pay8 q0) (k0_pay9 q1) A10 B4) A11 B6) Finset.univ)
        (k0_pay13 (k0_pay10 (k0_pay2 q0) (k0_pay3 q1) (k0_pay4 q2) (k0_pay5 q2) (k0_pay6 q3) (k0_pay7 q3) (k0_pay8 q0) (k0_pay9 q1) A10 B4) A11 B6) Finset.univ)
        (k0_pay16 (k0_pay14 (k0_pay10 (k0_pay2 q0) (k0_pay3 q1) (k0_pay4 q2) (k0_pay5 q2) (k0_pay6 q3) (k0_pay7 q3) (k0_pay8 q0) (k0_pay9 q1) A10 B4) A11 B6)
          (k0_pay15 (k0_pay10 (k0_pay2 q0) (k0_pay3 q1) (k0_pay4 q2) (k0_pay5 q2) (k0_pay6 q3) (k0_pay7 q3) (k0_pay8 q0) (k0_pay9 q1) A10 B4) A11 B6)) Finset.univ)
        (k0_pay17 (k0_pay11 (k0_pay10 (k0_pay2 q0) (k0_pay3 q1) (k0_pay4 q2) (k0_pay5 q2) (k0_pay6 q3) (k0_pay7 q3) (k0_pay8 q0) (k0_pay9 q1) A10 B4) A11 B6)) Finset.univ)
      (ix2 (prow j t h) l) = moeBlk x A10 A11 B4 B6 j t h l := by
  rw [ywrite s 3 o3 e3, ywrite s 2 o2 e2, ywrite s 1 o1 e1, ywrite s 0 o0 e0]
  subst hq0 hq1 hq2 hq3
  unfold moeBlk moeHid
  fin_cases j
  · exact pay12_at _ _ _ _ _ _
  · exact pay13_at _ _ _ _ _ _
  · exact pay16_at _ _ _ _ _ _
  · exact pay17_at _ _ _ _

theorem prow_surj (r : Fin 4096) : ∃ j t h, r = prow j t h :=
  ⟨⟨r.val / 2 % 4, by omega⟩, ⟨r.val / 8, by omega⟩, ⟨r.val % 2, by omega⟩, Fin.ext (by simp only; omega)⟩

end MoeP

end
-- ==== Proof.MoeTrip.lean ====
/-
  One trip of the experts' loop: the block waited, the next one issued, the block worked on and sent off.
-/
module

public import proofs.«01_k».proof.Proof.MoeSlots
public import Idealize.ShloMosaic.Lib.ViewIndex

@[expose] public section

set_option maxRecDepth 16384

noncomputable section

namespace MoeP

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Trip
variable (c : Dev nD) (i : grid0.Coords)
  (arg1 : Memref sig .tc .smem S32 .i32) (harg1 : arg1.IsWhole)
  (arg3 : Memref sig .tc .vmem S1x1024x2048 .f32) (harg3 : arg3.IsWhole)
  (arg4 : Memref sig .tc .vmem S1x1x2048 .f32) (harg4 : arg4.IsWhole)
  (arg5 : Memref sig .tc .vmem S1x1024x1024 .f32) (harg5 : arg5.IsWhole)
  (arg6 : Memref sig .tc .vmem S1x1x1024 .f32) (harg6 : arg6.IsWhole)
  (arg0 : BitVec 32) (v1 : Elt F .i32) (v18 : BitVec 32) (v19 : BitVec 1) (v23 : Elt F .i32) (hw1 : k0_chk1 i v1 v23)
  (v24 : BitVec 32) (v38 : BitVec 1) (v39 v41 : BitVec 32) (v43 : Elt F .i32) (hw2 : k0_chk2 i v1 v23 v43) (v60 : BitVec 32)
  (X : Buf (Elt F) (xsM.view.loc (c : Thread nD τ)))

/-- A whole buffer held at contents `f`. -/
abbrev hold {sp : Space} {s : Shape} {e : EltTy} (M : Memref sig .tc sp s e) (f : Buf (Elt F) (M.view.loc (c : Thread nD τ))) : sProp 𝕄 :=
  M.view.loc (c : Thread nD τ) ↦[M.view.set]{fullShare} f
/-- The same at the half of the share a visit has of the table. -/
abbrev holdT {sp : Space} {s : Shape} {e : EltTy} (M : Memref sig .tc sp s e) (f : Buf (Elt F) (M.view.loc (c : Thread nD τ))) : sProp 𝕄 :=
  M.view.loc (c : Thread nD τ) ↦{fullShare.right} f
abbrev NN : ℕ := 32768
abbrev xFlight (s : Fin 2) (b : Fin 159) (f : Buf (Elt F) ((xSlot s).view.loc (c : Thread nD τ))) : sProp 𝕄 :=
  Transfers.Flight countersEmb (c : Thread nD τ) (SemLoc.dma (inSm s).sem) () NN iprop(xSlotP c s (xLanded c X s b f) ∗ xHome c X b)
abbrev yFlight (s : Fin 2) (b : Fin 159) (g : Buf (Elt F) ((ySlot s).view.loc (c : Thread nD τ))) (Y : Buf (Elt F) (ysM.view.loc (c : Thread nD τ))) : sProp 𝕄 :=
  Transfers.Flight countersEmb (c : Thread nD τ) (SemLoc.dma (outSm s).sem) () NN iprop(yHome c (yLanded c s b g Y) b ∗ ySlotP c s g)

/-- The transfer out of block `b`, landing what the result holds there. -/
abbrev gFlight (G : Buf (Elt F) (ysM.view.loc (c : Thread nD τ))) (s : Fin 2) (b : Fin 159) (g : Buf (Elt F) ((ySlot s).view.loc (c : Thread nD τ))) : sProp 𝕄 :=
  Transfers.Flight countersEmb (c : Thread nD τ) (SemLoc.dma (outSm s).sem) () NN iprop(yHome c G b ∗ ySlotP c s g)

/-- A block written whole with what the result holds there is the result's block. -/
theorem yHome_of_pay (G Y : Buf (Elt F) (ysM.view.loc (c : Thread nD τ))) (b : Fin 159) (p : S4096x128.Idx → Elt F .bf16)
    (hp : ∀ j t h l, p (ix2 (prow j t h) l) = (yBlk b).view.read (Elt F) G (ix2 (prow j t h) l)) :
    yHome c ((yBlk b).view.writes (Elt F) Y [⟨Rect.whole S4096x128, p⟩]) b = yHome c G b := by
  refine pointsTo_congr fun x hx => ?_
  obtain ⟨y, -, rfl⟩ := Finset.mem_map.1 hx
  have e := congrFun (View.read_writes_whole (yBlk b).view Y p) y
  obtain ⟨j, t, h, hr⟩ := prow_surj (y 0)
  have e2 := hp j t h (y 1)
  rw [← hr, ix2_eta] at e2
  exact View.eq_of_read_eq (e.trans e2)

abbrev tripG (k : Fin (k0_t1_loop i v1 v23).trips) : Prog (TpuEff nD τ sig (Elt F) Λ₀ .tc) Unit :=
  k0_t1_body (F := F) i arg1 harg1 xsM (Memref.isWhole_whole _) arg3 harg3 arg4 harg4 arg5 harg5 arg6 harg6 ysM (Memref.isWhole_whole _)
    xbM (Memref.isWhole_whole _) ybM (Memref.isWhole_whole _) wgM (Memref.isWhole_whole _) wdM (Memref.isWhole_whole _) cc0_scratch4 cc0_scratch5
    arg0 v1 v18 v19 v23 hw1 v24 v38 v39 v41 v43 hw2 v60 k ()

/-- An access of the pairs of rows stays inside the slot it names. -/
theorem xBox_sub (s : Fin 2) (j : ℕ) (off : Fin 4 → ℕ) (e : off = ![s.val, j, 0, 0]) (inb : ∀ a, S1x512x2x128.size a = 0 ∨ off a + (![1, 4, 1, 1] : Fin 4 → ℕ) a * (S1x512x2x128.size a - 1) < S2x2048x2x128.size a) (h1 h2 h3) :
    (xbM.reshape S2x2048x2x128 h1 h2 h3).view.setOn (⟨off, S1x512x2x128.size, ![1, 4, 1, 1], inb⟩ : LoadRect S2x2048x2x128).set ⊆ (xSlot s).view.set := by
  have hb : (⟨off, S1x512x2x128.size, ![1, 4, 1, 1], inb⟩ : LoadRect S2x2048x2x128).off 0 = s.val := congrFun e 0
  have := View.setOn_reshape_subset_slab_of_eq xbM.view h1 (⟨off, S1x512x2x128.size, ![1, 4, 1, 1], inb⟩ : LoadRect S2x2048x2x128)
    (Rect.unit (s := S2x4096x128) (slotOff s) S1x4096x128.size (slotOff_inb s)) s.val s.val
    ⟨rfl, rfl⟩ (fun _ => rfl) (fun a => by fin_cases a <;> exact ⟨rfl, rfl⟩) hb
    (by simp [Fin.prod_univ_succ]) (by simp [Fin.prod_univ_succ])
  refine this.trans ?_
  exact (View.set_reshape _ _).ge
/-- An access of the pairs of rows stays inside the slot it names. -/
theorem yBox_sub (s : Fin 2) (j : ℕ) (off : Fin 4 → ℕ) (e : off = ![s.val, j, 0, 0]) (inb : ∀ a, S1x512x2x128.size a = 0 ∨ off a + (![1, 4, 1, 1] : Fin 4 → ℕ) a * (S1x512x2x128.size a - 1) < S2x2048x2x128.size a) (h1 h2 h3) :
    (ybM.reshape S2x2048x2x128 h1 h2 h3).view.setOn (⟨off, S1x512x2x128.size, ![1, 4, 1, 1], inb⟩ : LoadRect S2x2048x2x128).set ⊆ (ySlot s).view.set := by
  have hb : (⟨off, S1x512x2x128.size, ![1, 4, 1, 1], inb⟩ : LoadRect S2x2048x2x128).off 0 = s.val := congrFun e 0
  have := View.setOn_reshape_subset_slab_of_eq ybM.view h1 (⟨off, S1x512x2x128.size, ![1, 4, 1, 1], inb⟩ : LoadRect S2x2048x2x128)
    (Rect.unit (s := S2x4096x128) (slotOff s) S1x4096x128.size (slotOff_inb s)) s.val s.val
    ⟨rfl, rfl⟩ (fun _ => rfl) (fun a => by fin_cases a <;> exact ⟨rfl, rfl⟩) hb
    (by simp [Fin.prod_univ_succ]) (by simp [Fin.prod_univ_succ])
  refine this.trans ?_
  exact (View.set_reshape _ _).ge
theorem yRect_sub (s : Fin 2) (j : ℕ) (off : Fin 4 → ℕ) (e : off = ![s.val, j, 0, 0]) (inb : ∀ a, S1x512x2x128.size a = 0 ∨ off a + (![1, 4, 1, 1] : Fin 4 → ℕ) a * (S1x512x2x128.size a - 1) < S2x2048x2x128.size a) (h1 h2 h3) :
    ((ybM.reshape S2x2048x2x128 h1 h2 h3).access (⟨(⟨off, S1x512x2x128.size, ![1, 4, 1, 1], inb⟩ : LoadRect S2x2048x2x128), spos_1_4_1_1⟩ : Rect S2x2048x2x128)).setOn Finset.univ ⊆ (ySlot s).view.set :=
  (Memref.setOn_access_subset_setOn _ _ _).trans (yBox_sub s j off e inb h1 h2 h3)

theorem trip11 (k : Fin (k0_t1_loop i v1 v23).trips) (h : Ok i v1 v23) (hT : OkT v1 v43)
    (h2 : 2 ≤ blkN i v23 k) (hn : blkN i v23 k + 1 < enN v43)
    (G : Buf (Elt F) (ysM.view.loc (c : Thread nD τ))) (w10 : Vec F S1024x2048 .bf16) (w11 : Vec F S1024x1024 .bf16) (b4 : Vec F S1x1x2048 .f32) (b6 : Vec F S1x1x1024 .f32)
    (B4 : Buf (Elt F) (arg4.view.loc (c : Thread nD τ))) (B6 : Buf (Elt F) (arg6.view.loc (c : Thread nD τ)))
    (A10 : Buf (Elt F) (wgM.view.loc (c : Thread nD τ))) (A11 : Buf (Elt F) (wdM.view.loc (c : Thread nD τ)))
    (h10 : View.readAt (Elt F) wgM.view (Rect.unit ![0, 0] S1024x2048.size inb_S1024x2048_S1024x2048_0_0).toLoadRect A10 = w10)
    (h11 : View.readAt (Elt F) wdM.view (Rect.unit ![0, 0] S1024x1024.size inb_S1024x1024_S1024x1024_0_0).toLoadRect A11 = w11)
    (h4 : View.readAt (Elt F) arg4.view (Rect.unit ![0, 0, 0] S1x1x2048.size inb_S1x1x2048_S1x1x2048_0_0_0).toLoadRect B4 = b4)
    (h6 : View.readAt (Elt F) arg6.view (Rect.unit ![0, 0, 0] S1x1x1024.size inb_S1x1x1024_S1x1x1024_0_0_0).toLoadRect B6 = b6)
    (hG : ∀ j t h l, (yBlk (Ring.bk 159 (blkN i v23 k))).view.read (Elt F) G (ix2 (prow j t h) l) = moeBlk ((xBlk (Ring.bk 159 (blkN i v23 k))).view.read (Elt F) X) w10 w11 b4 b6 j t h l)
    (f f' g Y') (W) :
    iprop(owes (c : Thread nD τ) 0 W
      ∗ hold c arg4 B4 ∗ hold c arg6 B6
      ∗ hold c wgM A10 ∗ hold c wdM A11
      ∗ xFlight c X (Ring.sl 2 (blkN i v23 k)) (Ring.bk 159 (blkN i v23 k)) f
      ∗ cellIn c (Ring.sl 2 (blkN i v23 k + 1)) ∗ xSlotP c (Ring.sl 2 (blkN i v23 k + 1)) f' ∗ xHome c X (Ring.bk 159 (blkN i v23 k + 1))
      ∗ gFlight c G (Ring.sl 2 (blkN i v23 k)) (Ring.bk 159 (blkN i v23 k - 2)) g
      ∗ yHome c Y' (Ring.bk 159 (blkN i v23 k)))
    ⊢ wp frame (wpE (defs₀ (F := F)) 𝒱₀ (c : Thread nD τ) none) Set.univ
      (tripG i arg1 harg1 arg3 harg3 arg4 harg4 arg5 harg5 arg6 harg6 arg0 v1 v18 v19 v23 hw1 v24 v38 v39 v41 v43 hw2 v60 k)
      (fun _ => iprop((∃ W, owes (c : Thread nD τ) 0 W)
        ∗ hold c arg4 B4 ∗ hold c arg6 B6 ∗ hold c wgM A10 ∗ hold c wdM A11
        ∗ xFlight c X (Ring.sl 2 (blkN i v23 k + 1)) (Ring.bk 159 (blkN i v23 k + 1)) f'
        ∗ cellIn c (Ring.sl 2 (blkN i v23 k)) ∗ (∃ f, xSlotP c (Ring.sl 2 (blkN i v23 k)) f) ∗ xHome c X (Ring.bk 159 (blkN i v23 k))
        ∗ yHome c G (Ring.bk 159 (blkN i v23 k - 2))
        ∗ ∃ g, gFlight c G (Ring.sl 2 (blkN i v23 k)) (Ring.bk 159 (blkN i v23 k)) g)) := by
  have hb' : blkN i v23 k < 159 := blk_le h k
  have hb : blkN i v23 k + 1 < 159 := lt_of_lt_of_le hn hT.ub
  have hc3 := (cond3_iff h hT k).2 hn
  have hc4 := (cond4_iff h k).2 h2
  have i12 := xBox_sub (Ring.sl 2 (blkN i v23 k)) 0 _ (off12_eq h k) (k0_off12_inb i v1 v23 hw1 k) reshapes_S2x4096x128_S2x2048x2x128.1 reshapes_S2x4096x128_S2x2048x2x128.2 (Memref.isWhole_whole cc0_scratch0).contiguous
  have i13 := xBox_sub (Ring.sl 2 (blkN i v23 k)) 1 _ (off13_eq h k) (k0_off13_inb i v1 v23 hw1 k) reshapes_S2x4096x128_S2x2048x2x128.1 reshapes_S2x4096x128_S2x2048x2x128.2 (Memref.isWhole_whole cc0_scratch0).contiguous
  have i14 := xBox_sub (Ring.sl 2 (blkN i v23 k)) 2 _ (off14_eq h k) (k0_off14_inb i v1 v23 hw1 k) reshapes_S2x4096x128_S2x2048x2x128.1 reshapes_S2x4096x128_S2x2048x2x128.2 (Memref.isWhole_whole cc0_scratch0).contiguous
  have i15 := xBox_sub (Ring.sl 2 (blkN i v23 k)) 3 _ (off15_eq h k) (k0_off15_inb i v1 v23 hw1 k) reshapes_S2x4096x128_S2x2048x2x128.1 reshapes_S2x4096x128_S2x2048x2x128.2 (Memref.isWhole_whole cc0_scratch0).contiguous
  have j12 := yBox_sub (Ring.sl 2 (blkN i v23 k)) 0 _ (off12_eq h k) (k0_off12_inb i v1 v23 hw1 k) reshapes_S2x4096x128_S2x2048x2x128.1 reshapes_S2x4096x128_S2x2048x2x128.2 (Memref.isWhole_whole cc0_scratch1).contiguous
  have w12 := yRect_sub (Ring.sl 2 (blkN i v23 k)) 0 _ (off12_eq h k) (k0_off12_inb i v1 v23 hw1 k) reshapes_S2x4096x128_S2x2048x2x128.1 reshapes_S2x4096x128_S2x2048x2x128.2 (Memref.isWhole_whole cc0_scratch1).contiguous
  have j13 := yBox_sub (Ring.sl 2 (blkN i v23 k)) 1 _ (off13_eq h k) (k0_off13_inb i v1 v23 hw1 k) reshapes_S2x4096x128_S2x2048x2x128.1 reshapes_S2x4096x128_S2x2048x2x128.2 (Memref.isWhole_whole cc0_scratch1).contiguous
  have w13 := yRect_sub (Ring.sl 2 (blkN i v23 k)) 1 _ (off13_eq h k) (k0_off13_inb i v1 v23 hw1 k) reshapes_S2x4096x128_S2x2048x2x128.1 reshapes_S2x4096x128_S2x2048x2x128.2 (Memref.isWhole_whole cc0_scratch1).contiguous
  have j14 := yBox_sub (Ring.sl 2 (blkN i v23 k)) 2 _ (off14_eq h k) (k0_off14_inb i v1 v23 hw1 k) reshapes_S2x4096x128_S2x2048x2x128.1 reshapes_S2x4096x128_S2x2048x2x128.2 (Memref.isWhole_whole cc0_scratch1).contiguous
  have w14 := yRect_sub (Ring.sl 2 (blkN i v23 k)) 2 _ (off14_eq h k) (k0_off14_inb i v1 v23 hw1 k) reshapes_S2x4096x128_S2x2048x2x128.1 reshapes_S2x4096x128_S2x2048x2x128.2 (Memref.isWhole_whole cc0_scratch1).contiguous
  have j15 := yBox_sub (Ring.sl 2 (blkN i v23 k)) 3 _ (off15_eq h k) (k0_off15_inb i v1 v23 hw1 k) reshapes_S2x4096x128_S2x2048x2x128.1 reshapes_S2x4096x128_S2x2048x2x128.2 (Memref.isWhole_whole cc0_scratch1).contiguous
  have w15 := yRect_sub (Ring.sl 2 (blkN i v23 k)) 3 _ (off15_eq h k) (k0_off15_inb i v1 v23 hw1 k) reshapes_S2x4096x128_S2x2048x2x128.1 reshapes_S2x4096x128_S2x2048x2x128.2 (Memref.isWhole_whole cc0_scratch1).contiguous
  iintro ⟨HW, H4, H6, H10, H11, HX, Hc, HS, Hh, HY, Hyh⟩
  dsimp only [tripG]
  sl_unfold [k0_t1_body]
  sl_exec
  sl_step
  isplitl [HW]; · iexists _; iexact HW
  isplitl [H4]; · iexact H4
  isplitl [H6]; · iexact H6
  isplitl [H10]; · iexact H10
  isplitl [H11]; · iexact H11
  isplitl [Hc]; · iexact Hc
  isplitl [HX]; · iexact HX
  isplitl [HX_dst]; · iexists _; iexact HX_dst
  isplitl [HX_src]; · iexact HX_src
  isplitl [HY_dst]; · iexact HY_dst
  iexists _
  iapply (Transfers.Flight_mono countersEmb (c : Thread nD τ) (sep_mono_left (le_of_eq (yHome_of_pay c G Y' (Ring.bk 159 (blkN i v23 k)) _ ?hp))))
  rotate_left
  iexact HY
  case hp =>
    intro j t h' l
    refine Eq.trans ?_ (hG j t h' l).symm
    exact slot_out (Ring.sl 2 (blkN i v23 k)) _ _ _ _ (off12_eq h k) (off13_eq h k) (off14_eq h k) (off15_eq h k) (k0_off12_inb i v1 v23 hw1 k) (k0_off13_inb i v1 v23 hw1 k) (k0_off14_inb i v1 v23 hw1 k) (k0_off15_inb i v1 v23 hw1 k) reshapes_S2x4096x128_S2x2048x2x128.1 reshapes_S2x4096x128_S2x2048x2x128.2 (Memref.isWhole_whole cc0_scratch1).contiguous reshapes_S2x4096x128_S2x2048x2x128.1 reshapes_S2x4096x128_S2x2048x2x128.2 (Memref.isWhole_whole cc0_scratch1).contiguous reshapes_S2x4096x128_S2x2048x2x128.1 reshapes_S2x4096x128_S2x2048x2x128.2 (Memref.isWhole_whole cc0_scratch1).contiguous reshapes_S2x4096x128_S2x2048x2x128.1 reshapes_S2x4096x128_S2x2048x2x128.2 (Memref.isWhole_whole cc0_scratch1).contiguous spos_1_4_1_1 spos_1_4_1_1 spos_1_4_1_1 spos_1_4_1_1 _ _ _ _ _ _ _ _ _ _ (landed_q (Ring.sl 2 (blkN i v23 k)) 0 _ (off12_eq h k) (k0_off12_inb i v1 v23 hw1 k) reshapes_S2x4096x128_S2x2048x2x128.1 reshapes_S2x4096x128_S2x2048x2x128.2 (Memref.isWhole_whole cc0_scratch0).contiguous (xSlot (Ring.sl 2 (blkN i v23 k))).view.junk ((xBlk (Ring.bk 159 (blkN i v23 k))).view.read (Elt F) X)) (landed_q (Ring.sl 2 (blkN i v23 k)) 1 _ (off13_eq h k) (k0_off13_inb i v1 v23 hw1 k) reshapes_S2x4096x128_S2x2048x2x128.1 reshapes_S2x4096x128_S2x2048x2x128.2 (Memref.isWhole_whole cc0_scratch0).contiguous (xSlot (Ring.sl 2 (blkN i v23 k))).view.junk ((xBlk (Ring.bk 159 (blkN i v23 k))).view.read (Elt F) X)) (landed_q (Ring.sl 2 (blkN i v23 k)) 2 _ (off14_eq h k) (k0_off14_inb i v1 v23 hw1 k) reshapes_S2x4096x128_S2x2048x2x128.1 reshapes_S2x4096x128_S2x2048x2x128.2 (Memref.isWhole_whole cc0_scratch0).contiguous (xSlot (Ring.sl 2 (blkN i v23 k))).view.junk ((xBlk (Ring.bk 159 (blkN i v23 k))).view.read (Elt F) X)) (landed_q (Ring.sl 2 (blkN i v23 k)) 3 _ (off15_eq h k) (k0_off15_inb i v1 v23 hw1 k) reshapes_S2x4096x128_S2x2048x2x128.1 reshapes_S2x4096x128_S2x2048x2x128.2 (Memref.isWhole_whole cc0_scratch0).contiguous (xSlot (Ring.sl 2 (blkN i v23 k))).view.junk ((xBlk (Ring.bk 159 (blkN i v23 k))).view.read (Elt F) X)) j t h' l

theorem trip10 (k : Fin (k0_t1_loop i v1 v23).trips) (h : Ok i v1 v23) (hT : OkT v1 v43)
    (h2 : ¬ 2 ≤ blkN i v23 k) (hn : blkN i v23 k + 1 < enN v43)
    (G : Buf (Elt F) (ysM.view.loc (c : Thread nD τ))) (w10 : Vec F S1024x2048 .bf16) (w11 : Vec F S1024x1024 .bf16) (b4 : Vec F S1x1x2048 .f32) (b6 : Vec F S1x1x1024 .f32)
    (B4 : Buf (Elt F) (arg4.view.loc (c : Thread nD τ))) (B6 : Buf (Elt F) (arg6.view.loc (c : Thread nD τ)))
    (A10 : Buf (Elt F) (wgM.view.loc (c : Thread nD τ))) (A11 : Buf (Elt F) (wdM.view.loc (c : Thread nD τ)))
    (h10 : View.readAt (Elt F) wgM.view (Rect.unit ![0, 0] S1024x2048.size inb_S1024x2048_S1024x2048_0_0).toLoadRect A10 = w10)
    (h11 : View.readAt (Elt F) wdM.view (Rect.unit ![0, 0] S1024x1024.size inb_S1024x1024_S1024x1024_0_0).toLoadRect A11 = w11)
    (h4 : View.readAt (Elt F) arg4.view (Rect.unit ![0, 0, 0] S1x1x2048.size inb_S1x1x2048_S1x1x2048_0_0_0).toLoadRect B4 = b4)
    (h6 : View.readAt (Elt F) arg6.view (Rect.unit ![0, 0, 0] S1x1x1024.size inb_S1x1x1024_S1x1x1024_0_0_0).toLoadRect B6 = b6)
    (hG : ∀ j t h l, (yBlk (Ring.bk 159 (blkN i v23 k))).view.read (Elt F) G (ix2 (prow j t h) l) = moeBlk ((xBlk (Ring.bk 159 (blkN i v23 k))).view.read (Elt F) X) w10 w11 b4 b6 j t h l)
    (f f' g Y') (W) :
    iprop(owes (c : Thread nD τ) 0 W
      ∗ hold c arg4 B4 ∗ hold c arg6 B6
      ∗ hold c wgM A10 ∗ hold c wdM A11
      ∗ xFlight c X (Ring.sl 2 (blkN i v23 k)) (Ring.bk 159 (blkN i v23 k)) f
      ∗ cellIn c (Ring.sl 2 (blkN i v23 k + 1)) ∗ xSlotP c (Ring.sl 2 (blkN i v23 k + 1)) f' ∗ xHome c X (Ring.bk 159 (blkN i v23 k + 1))
      ∗ cellOut c (Ring.sl 2 (blkN i v23 k)) ∗ ySlotP c (Ring.sl 2 (blkN i v23 k)) g
      ∗ yHome c Y' (Ring.bk 159 (blkN i v23 k)))
    ⊢ wp frame (wpE (defs₀ (F := F)) 𝒱₀ (c : Thread nD τ) none) Set.univ
      (tripG i arg1 harg1 arg3 harg3 arg4 harg4 arg5 harg5 arg6 harg6 arg0 v1 v18 v19 v23 hw1 v24 v38 v39 v41 v43 hw2 v60 k)
      (fun _ => iprop((∃ W, owes (c : Thread nD τ) 0 W)
        ∗ hold c arg4 B4 ∗ hold c arg6 B6 ∗ hold c wgM A10 ∗ hold c wdM A11
        ∗ xFlight c X (Ring.sl 2 (blkN i v23 k + 1)) (Ring.bk 159 (blkN i v23 k + 1)) f'
        ∗ cellIn c (Ring.sl 2 (blkN i v23 k)) ∗ (∃ f, xSlotP c (Ring.sl 2 (blkN i v23 k)) f) ∗ xHome c X (Ring.bk 159 (blkN i v23 k))
        ∗ ∃ g, gFlight c G (Ring.sl 2 (blkN i v23 k)) (Ring.bk 159 (blkN i v23 k)) g)) := by
  have hb' : blkN i v23 k < 159 := blk_le h k
  have hb : blkN i v23 k + 1 < 159 := lt_of_lt_of_le hn hT.ub
  have hc3 := (cond3_iff h hT k).2 hn
  have hc4 := fun q => h2 ((cond4_iff h k).1 q)
  have i12 := xBox_sub (Ring.sl 2 (blkN i v23 k)) 0 _ (off12_eq h k) (k0_off12_inb i v1 v23 hw1 k) reshapes_S2x4096x128_S2x2048x2x128.1 reshapes_S2x4096x128_S2x2048x2x128.2 (Memref.isWhole_whole cc0_scratch0).contiguous
  have i13 := xBox_sub (Ring.sl 2 (blkN i v23 k)) 1 _ (off13_eq h k) (k0_off13_inb i v1 v23 hw1 k) reshapes_S2x4096x128_S2x2048x2x128.1 reshapes_S2x4096x128_S2x2048x2x128.2 (Memref.isWhole_whole cc0_scratch0).contiguous
  have i14 := xBox_sub (Ring.sl 2 (blkN i v23 k)) 2 _ (off14_eq h k) (k0_off14_inb i v1 v23 hw1 k) reshapes_S2x4096x128_S2x2048x2x128.1 reshapes_S2x4096x128_S2x2048x2x128.2 (Memref.isWhole_whole cc0_scratch0).contiguous
  have i15 := xBox_sub (Ring.sl 2 (blkN i v23 k)) 3 _ (off15_eq h k) (k0_off15_inb i v1 v23 hw1 k) reshapes_S2x4096x128_S2x2048x2x128.1 reshapes_S2x4096x128_S2x2048x2x128.2 (Memref.isWhole_whole cc0_scratch0).contiguous
  have j12 := yBox_sub (Ring.sl 2 (blkN i v23 k)) 0 _ (off12_eq h k) (k0_off12_inb i v1 v23 hw1 k) reshapes_S2x4096x128_S2x2048x2x128.1 reshapes_S2x4096x128_S2x2048x2x128.2 (Memref.isWhole_whole cc0_scratch1).contiguous
  have w12 := yRect_sub (Ring.sl 2 (blkN i v23 k)) 0 _ (off12_eq h k) (k0_off12_inb i v1 v23 hw1 k) reshapes_S2x4096x128_S2x2048x2x128.1 reshapes_S2x4096x128_S2x2048x2x128.2 (Memref.isWhole_whole cc0_scratch1).contiguous
  have j13 := yBox_sub (Ring.sl 2 (blkN i v23 k)) 1 _ (off13_eq h k) (k0_off13_inb i v1 v23 hw1 k) reshapes_S2x4096x128_S2x2048x2x128.1 reshapes_S2x4096x128_S2x2048x2x128.2 (Memref.isWhole_whole cc0_scratch1).contiguous
  have w13 := yRect_sub (Ring.sl 2 (blkN i v23 k)) 1 _ (off13_eq h k) (k0_off13_inb i v1 v23 hw1 k) reshapes_S2x4096x128_S2x2048x2x128.1 reshapes_S2x4096x128_S2x2048x2x128.2 (Memref.isWhole_whole cc0_scratch1).contiguous
  have j14 := yBox_sub (Ring.sl 2 (blkN i v23 k)) 2 _ (off14_eq h k) (k0_off14_inb i v1 v23 hw1 k) reshapes_S2x4096x128_S2x2048x2x128.1 reshapes_S2x4096x128_S2x2048x2x128.2 (Memref.isWhole_whole cc0_scratch1).contiguous
  have w14 := yRect_sub (Ring.sl 2 (blkN i v23 k)) 2 _ (off14_eq h k) (k0_off14_inb i v1 v23 hw1 k) reshapes_S2x4096x128_S2x2048x2x128.1 reshapes_S2x4096x128_S2x2048x2x128.2 (Memref.isWhole_whole cc0_scratch1).contiguous
  have j15 := yBox_sub (Ring.sl 2 (blkN i v23 k)) 3 _ (off15_eq h k) (k0_off15_inb i v1 v23 hw1 k) reshapes_S2x4096x128_S2x2048x2x128.1 reshapes_S2x4096x128_S2x2048x2x128.2 (Memref.isWhole_whole cc0_scratch1).contiguous
  have w15 := yRect_sub (Ring.sl 2 (blkN i v23 k)) 3 _ (off15_eq h k) (k0_off15_inb i v1 v23 hw1 k) reshapes_S2x4096x128_S2x2048x2x128.1 reshapes_S2x4096x128_S2x2048x2x128.2 (Memref.isWhole_whole cc0_scratch1).contiguous
  iintro ⟨HW, H4, H6, H10, H11, HX, Hc, HS, Hh, Hoc, HY, Hyh⟩
  dsimp only [tripG]
  sl_unfold [k0_t1_body]
  sl_exec
  sl_step
  isplitl [HW]; · iexists _; iexact HW
  isplitl [H4]; · iexact H4
  isplitl [H6]; · iexact H6
  isplitl [H10]; · iexact H10
  isplitl [H11]; · iexact H11
  isplitl [Hc]; · iexact Hc
  isplitl [HX]; · iexact HX
  isplitl [HX_dst]; · iexists _; iexact HX_dst
  isplitl [HX_src]; · iexact HX_src
  iexists _
  iapply (Transfers.Flight_mono countersEmb (c : Thread nD τ) (sep_mono_left (le_of_eq (yHome_of_pay c G Y' (Ring.bk 159 (blkN i v23 k)) _ ?hp))))
  rotate_left
  iexact Hoc
  case hp =>
    intro j t h' l
    refine Eq.trans ?_ (hG j t h' l).symm
    exact slot_out (Ring.sl 2 (blkN i v23 k)) _ _ _ _ (off12_eq h k) (off13_eq h k) (off14_eq h k) (off15_eq h k) (k0_off12_inb i v1 v23 hw1 k) (k0_off13_inb i v1 v23 hw1 k) (k0_off14_inb i v1 v23 hw1 k) (k0_off15_inb i v1 v23 hw1 k) reshapes_S2x4096x128_S2x2048x2x128.1 reshapes_S2x4096x128_S2x2048x2x128.2 (Memref.isWhole_whole cc0_scratch1).contiguous reshapes_S2x4096x128_S2x2048x2x128.1 reshapes_S2x4096x128_S2x2048x2x128.2 (Memref.isWhole_whole cc0_scratch1).contiguous reshapes_S2x4096x128_S2x2048x2x128.1 reshapes_S2x4096x128_S2x2048x2x128.2 (Memref.isWhole_whole cc0_scratch1).contiguous reshapes_S2x4096x128_S2x2048x2x128.1 reshapes_S2x4096x128_S2x2048x2x128.2 (Memref.isWhole_whole cc0_scratch1).contiguous spos_1_4_1_1 spos_1_4_1_1 spos_1_4_1_1 spos_1_4_1_1 _ _ _ _ _ _ _ _ _ _ (landed_q (Ring.sl 2 (blkN i v23 k)) 0 _ (off12_eq h k) (k0_off12_inb i v1 v23 hw1 k) reshapes_S2x4096x128_S2x2048x2x128.1 reshapes_S2x4096x128_S2x2048x2x128.2 (Memref.isWhole_whole cc0_scratch0).contiguous (xSlot (Ring.sl 2 (blkN i v23 k))).view.junk ((xBlk (Ring.bk 159 (blkN i v23 k))).view.read (Elt F) X)) (landed_q (Ring.sl 2 (blkN i v23 k)) 1 _ (off13_eq h k) (k0_off13_inb i v1 v23 hw1 k) reshapes_S2x4096x128_S2x2048x2x128.1 reshapes_S2x4096x128_S2x2048x2x128.2 (Memref.isWhole_whole cc0_scratch0).contiguous (xSlot (Ring.sl 2 (blkN i v23 k))).view.junk ((xBlk (Ring.bk 159 (blkN i v23 k))).view.read (Elt F) X)) (landed_q (Ring.sl 2 (blkN i v23 k)) 2 _ (off14_eq h k) (k0_off14_inb i v1 v23 hw1 k) reshapes_S2x4096x128_S2x2048x2x128.1 reshapes_S2x4096x128_S2x2048x2x128.2 (Memref.isWhole_whole cc0_scratch0).contiguous (xSlot (Ring.sl 2 (blkN i v23 k))).view.junk ((xBlk (Ring.bk 159 (blkN i v23 k))).view.read (Elt F) X)) (landed_q (Ring.sl 2 (blkN i v23 k)) 3 _ (off15_eq h k) (k0_off15_inb i v1 v23 hw1 k) reshapes_S2x4096x128_S2x2048x2x128.1 reshapes_S2x4096x128_S2x2048x2x128.2 (Memref.isWhole_whole cc0_scratch0).contiguous (xSlot (Ring.sl 2 (blkN i v23 k))).view.junk ((xBlk (Ring.bk 159 (blkN i v23 k))).view.read (Elt F) X)) j t h' l

theorem trip01 (k : Fin (k0_t1_loop i v1 v23).trips) (h : Ok i v1 v23) (hT : OkT v1 v43)
    (h2 : 2 ≤ blkN i v23 k) (hn : ¬ blkN i v23 k + 1 < enN v43)
    (G : Buf (Elt F) (ysM.view.loc (c : Thread nD τ))) (w10 : Vec F S1024x2048 .bf16) (w11 : Vec F S1024x1024 .bf16) (b4 : Vec F S1x1x2048 .f32) (b6 : Vec F S1x1x1024 .f32)
    (B4 : Buf (Elt F) (arg4.view.loc (c : Thread nD τ))) (B6 : Buf (Elt F) (arg6.view.loc (c : Thread nD τ)))
    (A10 : Buf (Elt F) (wgM.view.loc (c : Thread nD τ))) (A11 : Buf (Elt F) (wdM.view.loc (c : Thread nD τ)))
    (h10 : View.readAt (Elt F) wgM.view (Rect.unit ![0, 0] S1024x2048.size inb_S1024x2048_S1024x2048_0_0).toLoadRect A10 = w10)
    (h11 : View.readAt (Elt F) wdM.view (Rect.unit ![0, 0] S1024x1024.size inb_S1024x1024_S1024x1024_0_0).toLoadRect A11 = w11)
    (h4 : View.readAt (Elt F) arg4.view (Rect.unit ![0, 0, 0] S1x1x2048.size inb_S1x1x2048_S1x1x2048_0_0_0).toLoadRect B4 = b4)
    (h6 : View.readAt (Elt F) arg6.view (Rect.unit ![0, 0, 0] S1x1x1024.size inb_S1x1x1024_S1x1x1024_0_0_0).toLoadRect B6 = b6)
    (hG : ∀ j t h l, (yBlk (Ring.bk 159 (blkN i v23 k))).view.read (Elt F) G (ix2 (prow j t h) l) = moeBlk ((xBlk (Ring.bk 159 (blkN i v23 k))).view.read (Elt F) X) w10 w11 b4 b6 j t h l)
    (f g Y') (W) :
    iprop(owes (c : Thread nD τ) 0 W
      ∗ hold c arg4 B4 ∗ hold c arg6 B6
      ∗ hold c wgM A10 ∗ hold c wdM A11
      ∗ xFlight c X (Ring.sl 2 (blkN i v23 k)) (Ring.bk 159 (blkN i v23 k)) f
      ∗ gFlight c G (Ring.sl 2 (blkN i v23 k)) (Ring.bk 159 (blkN i v23 k - 2)) g
      ∗ yHome c Y' (Ring.bk 159 (blkN i v23 k)))
    ⊢ wp frame (wpE (defs₀ (F := F)) 𝒱₀ (c : Thread nD τ) none) Set.univ
      (tripG i arg1 harg1 arg3 harg3 arg4 harg4 arg5 harg5 arg6 harg6 arg0 v1 v18 v19 v23 hw1 v24 v38 v39 v41 v43 hw2 v60 k)
      (fun _ => iprop((∃ W, owes (c : Thread nD τ) 0 W)
        ∗ hold c arg4 B4 ∗ hold c arg6 B6 ∗ hold c wgM A10 ∗ hold c wdM A11
        ∗ cellIn c (Ring.sl 2 (blkN i v23 k)) ∗ (∃ f, xSlotP c (Ring.sl 2 (blkN i v23 k)) f) ∗ xHome c X (Ring.bk 159 (blkN i v23 k))
        ∗ yHome c G (Ring.bk 159 (blkN i v23 k - 2))
        ∗ ∃ g, gFlight c G (Ring.sl 2 (blkN i v23 k)) (Ring.bk 159 (blkN i v23 k)) g)) := by
  have hb' : blkN i v23 k < 159 := blk_le h k
  have hc3 := fun q => hn ((cond3_iff h hT k).1 q)
  have hc4 := (cond4_iff h k).2 h2
  have i12 := xBox_sub (Ring.sl 2 (blkN i v23 k)) 0 _ (off12_eq h k) (k0_off12_inb i v1 v23 hw1 k) reshapes_S2x4096x128_S2x2048x2x128.1 reshapes_S2x4096x128_S2x2048x2x128.2 (Memref.isWhole_whole cc0_scratch0).contiguous
  have i13 := xBox_sub (Ring.sl 2 (blkN i v23 k)) 1 _ (off13_eq h k) (k0_off13_inb i v1 v23 hw1 k) reshapes_S2x4096x128_S2x2048x2x128.1 reshapes_S2x4096x128_S2x2048x2x128.2 (Memref.isWhole_whole cc0_scratch0).contiguous
  have i14 := xBox_sub (Ring.sl 2 (blkN i v23 k)) 2 _ (off14_eq h k) (k0_off14_inb i v1 v23 hw1 k) reshapes_S2x4096x128_S2x2048x2x128.1 reshapes_S2x4096x128_S2x2048x2x128.2 (Memref.isWhole_whole cc0_scratch0).contiguous
  have i15 := xBox_sub (Ring.sl 2 (blkN i v23 k)) 3 _ (off15_eq h k) (k0_off15_inb i v1 v23 hw1 k) reshapes_S2x4096x128_S2x2048x2x128.1 reshapes_S2x4096x128_S2x2048x2x128.2 (Memref.isWhole_whole cc0_scratch0).contiguous
  have j12 := yBox_sub (Ring.sl 2 (blkN i v23 k)) 0 _ (off12_eq h k) (k0_off12_inb i v1 v23 hw1 k) reshapes_S2x4096x128_S2x2048x2x128.1 reshapes_S2x4096x128_S2x2048x2x128.2 (Memref.isWhole_whole cc0_scratch1).contiguous
  have w12 := yRect_sub (Ring.sl 2 (blkN i v23 k)) 0 _ (off12_eq h k) (k0_off12_inb i v1 v23 hw1 k) reshapes_S2x4096x128_S2x2048x2x128.1 reshapes_S2x4096x128_S2x2048x2x128.2 (Memref.isWhole_whole cc0_scratch1).contiguous
  have j13 := yBox_sub (Ring.sl 2 (blkN i v23 k)) 1 _ (off13_eq h k) (k0_off13_inb i v1 v23 hw1 k) reshapes_S2x4096x128_S2x2048x2x128.1 reshapes_S2x4096x128_S2x2048x2x128.2 (Memref.isWhole_whole cc0_scratch1).contiguous
  have w13 := yRect_sub (Ring.sl 2 (blkN i v23 k)) 1 _ (off13_eq h k) (k0_off13_inb i v1 v23 hw1 k) reshapes_S2x4096x128_S2x2048x2x128.1 reshapes_S2x4096x128_S2x2048x2x128.2 (Memref.isWhole_whole cc0_scratch1).contiguous
  have j14 := yBox_sub (Ring.sl 2 (blkN i v23 k)) 2 _ (off14_eq h k) (k0_off14_inb i v1 v23 hw1 k) reshapes_S2x4096x128_S2x2048x2x128.1 reshapes_S2x4096x128_S2x2048x2x128.2 (Memref.isWhole_whole cc0_scratch1).contiguous
  have w14 := yRect_sub (Ring.sl 2 (blkN i v23 k)) 2 _ (off14_eq h k) (k0_off14_inb i v1 v23 hw1 k) reshapes_S2x4096x128_S2x2048x2x128.1 reshapes_S2x4096x128_S2x2048x2x128.2 (Memref.isWhole_whole cc0_scratch1).contiguous
  have j15 := yBox_sub (Ring.sl 2 (blkN i v23 k)) 3 _ (off15_eq h k) (k0_off15_inb i v1 v23 hw1 k) reshapes_S2x4096x128_S2x2048x2x128.1 reshapes_S2x4096x128_S2x2048x2x128.2 (Memref.isWhole_whole cc0_scratch1).contiguous
  have w15 := yRect_sub (Ring.sl 2 (blkN i v23 k)) 3 _ (off15_eq h k) (k0_off15_inb i v1 v23 hw1 k) reshapes_S2x4096x128_S2x2048x2x128.1 reshapes_S2x4096x128_S2x2048x2x128.2 (Memref.isWhole_whole cc0_scratch1).contiguous
  iintro ⟨HW, H4, H6, H10, H11, HX, HY, Hyh⟩
  dsimp only [tripG]
  sl_unfold [k0_t1_body]
  sl_exec
  sl_step
  isplitl [HW]; · iexists _; iexact HW
  isplitl [H4]; · iexact H4
  isplitl [H6]; · iexact H6
  isplitl [H10]; · iexact H10
  isplitl [H11]; · iexact H11
  isplitl [HX]; · iexact HX
  isplitl [HX_dst]; · iexists _; iexact HX_dst
  isplitl [HX_src]; · iexact HX_src
  isplitl [HY_dst]; · iexact HY_dst
  iexists _
  iapply (Transfers.Flight_mono countersEmb (c : Thread nD τ) (sep_mono_left (le_of_eq (yHome_of_pay c G Y' (Ring.bk 159 (blkN i v23 k)) _ ?hp))))
  rotate_left
  iexact HY
  case hp =>
    intro j t h' l
    refine Eq.trans ?_ (hG j t h' l).symm
    exact slot_out (Ring.sl 2 (blkN i v23 k)) _ _ _ _ (off12_eq h k) (off13_eq h k) (off14_eq h k) (off15_eq h k) (k0_off12_inb i v1 v23 hw1 k) (k0_off13_inb i v1 v23 hw1 k) (k0_off14_inb i v1 v23 hw1 k) (k0_off15_inb i v1 v23 hw1 k) reshapes_S2x4096x128_S2x2048x2x128.1 reshapes_S2x4096x128_S2x2048x2x128.2 (Memref.isWhole_whole cc0_scratch1).contiguous reshapes_S2x4096x128_S2x2048x2x128.1 reshapes_S2x4096x128_S2x2048x2x128.2 (Memref.isWhole_whole cc0_scratch1).contiguous reshapes_S2x4096x128_S2x2048x2x128.1 reshapes_S2x4096x128_S2x2048x2x128.2 (Memref.isWhole_whole cc0_scratch1).contiguous reshapes_S2x4096x128_S2x2048x2x128.1 reshapes_S2x4096x128_S2x2048x2x128.2 (Memref.isWhole_whole cc0_scratch1).contiguous spos_1_4_1_1 spos_1_4_1_1 spos_1_4_1_1 spos_1_4_1_1 _ _ _ _ _ _ _ _ _ _ (landed_q (Ring.sl 2 (blkN i v23 k)) 0 _ (off12_eq h k) (k0_off12_inb i v1 v23 hw1 k) reshapes_S2x4096x128_S2x2048x2x128.1 reshapes_S2x4096x128_S2x2048x2x128.2 (Memref.isWhole_whole cc0_scratch0).contiguous (xSlot (Ring.sl 2 (blkN i v23 k))).view.junk ((xBlk (Ring.bk 159 (blkN i v23 k))).view.read (Elt F) X)) (landed_q (Ring.sl 2 (blkN i v23 k)) 1 _ (off13_eq h k) (k0_off13_inb i v1 v23 hw1 k) reshapes_S2x4096x128_S2x2048x2x128.1 reshapes_S2x4096x128_S2x2048x2x128.2 (Memref.isWhole_whole cc0_scratch0).contiguous (xSlot (Ring.sl 2 (blkN i v23 k))).view.junk ((xBlk (Ring.bk 159 (blkN i v23 k))).view.read (Elt F) X)) (landed_q (Ring.sl 2 (blkN i v23 k)) 2 _ (off14_eq h k) (k0_off14_inb i v1 v23 hw1 k) reshapes_S2x4096x128_S2x2048x2x128.1 reshapes_S2x4096x128_S2x2048x2x128.2 (Memref.isWhole_whole cc0_scratch0).contiguous (xSlot (Ring.sl 2 (blkN i v23 k))).view.junk ((xBlk (Ring.bk 159 (blkN i v23 k))).view.read (Elt F) X)) (landed_q (Ring.sl 2 (blkN i v23 k)) 3 _ (off15_eq h k) (k0_off15_inb i v1 v23 hw1 k) reshapes_S2x4096x128_S2x2048x2x128.1 reshapes_S2x4096x128_S2x2048x2x128.2 (Memref.isWhole_whole cc0_scratch0).contiguous (xSlot (Ring.sl 2 (blkN i v23 k))).view.junk ((xBlk (Ring.bk 159 (blkN i v23 k))).view.read (Elt F) X)) j t h' l

theorem trip00 (k : Fin (k0_t1_loop i v1 v23).trips) (h : Ok i v1 v23) (hT : OkT v1 v43)
    (h2 : ¬ 2 ≤ blkN i v23 k) (hn : ¬ blkN i v23 k + 1 < enN v43)
    (G : Buf (Elt F) (ysM.view.loc (c : Thread nD τ))) (w10 : Vec F S1024x2048 .bf16) (w11 : Vec F S1024x1024 .bf16) (b4 : Vec F S1x1x2048 .f32) (b6 : Vec F S1x1x1024 .f32)
    (B4 : Buf (Elt F) (arg4.view.loc (c : Thread nD τ))) (B6 : Buf (Elt F) (arg6.view.loc (c : Thread nD τ)))
    (A10 : Buf (Elt F) (wgM.view.loc (c : Thread nD τ))) (A11 : Buf (Elt F) (wdM.view.loc (c : Thread nD τ)))
    (h10 : View.readAt (Elt F) wgM.view (Rect.unit ![0, 0] S1024x2048.size inb_S1024x2048_S1024x2048_0_0).toLoadRect A10 = w10)
    (h11 : View.readAt (Elt F) wdM.view (Rect.unit ![0, 0] S1024x1024.size inb_S1024x1024_S1024x1024_0_0).toLoadRect A11 = w11)
    (h4 : View.readAt (Elt F) arg4.view (Rect.unit ![0, 0, 0] S1x1x2048.size inb_S1x1x2048_S1x1x2048_0_0_0).toLoadRect B4 = b4)
    (h6 : View.readAt (Elt F) arg6.view (Rect.unit ![0, 0, 0] S1x1x1024.size inb_S1x1x1024_S1x1x1024_0_0_0).toLoadRect B6 = b6)
    (hG : ∀ j t h l, (yBlk (Ring.bk 159 (blkN i v23 k))).view.read (Elt F) G (ix2 (prow j t h) l) = moeBlk ((xBlk (Ring.bk 159 (blkN i v23 k))).view.read (Elt F) X) w10 w11 b4 b6 j t h l)
    (f g Y') (W) :
    iprop(owes (c : Thread nD τ) 0 W
      ∗ hold c arg4 B4 ∗ hold c arg6 B6
      ∗ hold c wgM A10 ∗ hold c wdM A11
      ∗ xFlight c X (Ring.sl 2 (blkN i v23 k)) (Ring.bk 159 (blkN i v23 k)) f
      ∗ cellOut c (Ring.sl 2 (blkN i v23 k)) ∗ ySlotP c (Ring.sl 2 (blkN i v23 k)) g
      ∗ yHome c Y' (Ring.bk 159 (blkN i v23 k)))
    ⊢ wp frame (wpE (defs₀ (F := F)) 𝒱₀ (c : Thread nD τ) none) Set.univ
      (tripG i arg1 harg1 arg3 harg3 arg4 harg4 arg5 harg5 arg6 harg6 arg0 v1 v18 v19 v23 hw1 v24 v38 v39 v41 v43 hw2 v60 k)
      (fun _ => iprop((∃ W, owes (c : Thread nD τ) 0 W)
        ∗ hold c arg4 B4 ∗ hold c arg6 B6 ∗ hold c wgM A10 ∗ hold c wdM A11
        ∗ cellIn c (Ring.sl 2 (blkN i v23 k)) ∗ (∃ f, xSlotP c (Ring.sl 2 (blkN i v23 k)) f) ∗ xHome c X (Ring.bk 159 (blkN i v23 k))
        ∗ ∃ g, gFlight c G (Ring.sl 2 (blkN i v23 k)) (Ring.bk 159 (blkN i v23 k)) g)) := by
  have hb' : blkN i v23 k < 159 := blk_le h k
  have hc3 := fun q => hn ((cond3_iff h hT k).1 q)
  have hc4 := fun q => h2 ((cond4_iff h k).1 q)
  have i12 := xBox_sub (Ring.sl 2 (blkN i v23 k)) 0 _ (off12_eq h k) (k0_off12_inb i v1 v23 hw1 k) reshapes_S2x4096x128_S2x2048x2x128.1 reshapes_S2x4096x128_S2x2048x2x128.2 (Memref.isWhole_whole cc0_scratch0).contiguous
  have i13 := xBox_sub (Ring.sl 2 (blkN i v23 k)) 1 _ (off13_eq h k) (k0_off13_inb i v1 v23 hw1 k) reshapes_S2x4096x128_S2x2048x2x128.1 reshapes_S2x4096x128_S2x2048x2x128.2 (Memref.isWhole_whole cc0_scratch0).contiguous
  have i14 := xBox_sub (Ring.sl 2 (blkN i v23 k)) 2 _ (off14_eq h k) (k0_off14_inb i v1 v23 hw1 k) reshapes_S2x4096x128_S2x2048x2x128.1 reshapes_S2x4096x128_S2x2048x2x128.2 (Memref.isWhole_whole cc0_scratch0).contiguous
  have i15 := xBox_sub (Ring.sl 2 (blkN i v23 k)) 3 _ (off15_eq h k) (k0_off15_inb i v1 v23 hw1 k) reshapes_S2x4096x128_S2x2048x2x128.1 reshapes_S2x4096x128_S2x2048x2x128.2 (Memref.isWhole_whole cc0_scratch0).contiguous
  have j12 := yBox_sub (Ring.sl 2 (blkN i v23 k)) 0 _ (off12_eq h k) (k0_off12_inb i v1 v23 hw1 k) reshapes_S2x4096x128_S2x2048x2x128.1 reshapes_S2x4096x128_S2x2048x2x128.2 (Memref.isWhole_whole cc0_scratch1).contiguous
  have w12 := yRect_sub (Ring.sl 2 (blkN i v23 k)) 0 _ (off12_eq h k) (k0_off12_inb i v1 v23 hw1 k) reshapes_S2x4096x128_S2x2048x2x128.1 reshapes_S2x4096x128_S2x2048x2x128.2 (Memref.isWhole_whole cc0_scratch1).contiguous
  have j13 := yBox_sub (Ring.sl 2 (blkN i v23 k)) 1 _ (off13_eq h k) (k0_off13_inb i v1 v23 hw1 k) reshapes_S2x4096x128_S2x2048x2x128.1 reshapes_S2x4096x128_S2x2048x2x128.2 (Memref.isWhole_whole cc0_scratch1).contiguous
  have w13 := yRect_sub (Ring.sl 2 (blkN i v23 k)) 1 _ (off13_eq h k) (k0_off13_inb i v1 v23 hw1 k) reshapes_S2x4096x128_S2x2048x2x128.1 reshapes_S2x4096x128_S2x2048x2x128.2 (Memref.isWhole_whole cc0_scratch1).contiguous
  have j14 := yBox_sub (Ring.sl 2 (blkN i v23 k)) 2 _ (off14_eq h k) (k0_off14_inb i v1 v23 hw1 k) reshapes_S2x4096x128_S2x2048x2x128.1 reshapes_S2x4096x128_S2x2048x2x128.2 (Memref.isWhole_whole cc0_scratch1).contiguous
  have w14 := yRect_sub (Ring.sl 2 (blkN i v23 k)) 2 _ (off14_eq h k) (k0_off14_inb i v1 v23 hw1 k) reshapes_S2x4096x128_S2x2048x2x128.1 reshapes_S2x4096x128_S2x2048x2x128.2 (Memref.isWhole_whole cc0_scratch1).contiguous
  have j15 := yBox_sub (Ring.sl 2 (blkN i v23 k)) 3 _ (off15_eq h k) (k0_off15_inb i v1 v23 hw1 k) reshapes_S2x4096x128_S2x2048x2x128.1 reshapes_S2x4096x128_S2x2048x2x128.2 (Memref.isWhole_whole cc0_scratch1).contiguous
  have w15 := yRect_sub (Ring.sl 2 (blkN i v23 k)) 3 _ (off15_eq h k) (k0_off15_inb i v1 v23 hw1 k) reshapes_S2x4096x128_S2x2048x2x128.1 reshapes_S2x4096x128_S2x2048x2x128.2 (Memref.isWhole_whole cc0_scratch1).contiguous
  iintro ⟨HW, H4, H6, H10, H11, HX, Hoc, HY, Hyh⟩
  dsimp only [tripG]
  sl_unfold [k0_t1_body]
  sl_exec
  sl_step
  isplitl [HW]; · iexists _; iexact HW
  isplitl [H4]; · iexact H4
  isplitl [H6]; · iexact H6
  isplitl [H10]; · iexact H10
  isplitl [H11]; · iexact H11
  isplitl [HX]; · iexact HX
  isplitl [HX_dst]; · iexists _; iexact HX_dst
  isplitl [HX_src]; · iexact HX_src
  iexists _
  iapply (Transfers.Flight_mono countersEmb (c : Thread nD τ) (sep_mono_left (le_of_eq (yHome_of_pay c G Y' (Ring.bk 159 (blkN i v23 k)) _ ?hp))))
  rotate_left
  iexact Hoc
  case hp =>
    intro j t h' l
    refine Eq.trans ?_ (hG j t h' l).symm
    exact slot_out (Ring.sl 2 (blkN i v23 k)) _ _ _ _ (off12_eq h k) (off13_eq h k) (off14_eq h k) (off15_eq h k) (k0_off12_inb i v1 v23 hw1 k) (k0_off13_inb i v1 v23 hw1 k) (k0_off14_inb i v1 v23 hw1 k) (k0_off15_inb i v1 v23 hw1 k) reshapes_S2x4096x128_S2x2048x2x128.1 reshapes_S2x4096x128_S2x2048x2x128.2 (Memref.isWhole_whole cc0_scratch1).contiguous reshapes_S2x4096x128_S2x2048x2x128.1 reshapes_S2x4096x128_S2x2048x2x128.2 (Memref.isWhole_whole cc0_scratch1).contiguous reshapes_S2x4096x128_S2x2048x2x128.1 reshapes_S2x4096x128_S2x2048x2x128.2 (Memref.isWhole_whole cc0_scratch1).contiguous reshapes_S2x4096x128_S2x2048x2x128.1 reshapes_S2x4096x128_S2x2048x2x128.2 (Memref.isWhole_whole cc0_scratch1).contiguous spos_1_4_1_1 spos_1_4_1_1 spos_1_4_1_1 spos_1_4_1_1 _ _ _ _ _ _ _ _ _ _ (landed_q (Ring.sl 2 (blkN i v23 k)) 0 _ (off12_eq h k) (k0_off12_inb i v1 v23 hw1 k) reshapes_S2x4096x128_S2x2048x2x128.1 reshapes_S2x4096x128_S2x2048x2x128.2 (Memref.isWhole_whole cc0_scratch0).contiguous (xSlot (Ring.sl 2 (blkN i v23 k))).view.junk ((xBlk (Ring.bk 159 (blkN i v23 k))).view.read (Elt F) X)) (landed_q (Ring.sl 2 (blkN i v23 k)) 1 _ (off13_eq h k) (k0_off13_inb i v1 v23 hw1 k) reshapes_S2x4096x128_S2x2048x2x128.1 reshapes_S2x4096x128_S2x2048x2x128.2 (Memref.isWhole_whole cc0_scratch0).contiguous (xSlot (Ring.sl 2 (blkN i v23 k))).view.junk ((xBlk (Ring.bk 159 (blkN i v23 k))).view.read (Elt F) X)) (landed_q (Ring.sl 2 (blkN i v23 k)) 2 _ (off14_eq h k) (k0_off14_inb i v1 v23 hw1 k) reshapes_S2x4096x128_S2x2048x2x128.1 reshapes_S2x4096x128_S2x2048x2x128.2 (Memref.isWhole_whole cc0_scratch0).contiguous (xSlot (Ring.sl 2 (blkN i v23 k))).view.junk ((xBlk (Ring.bk 159 (blkN i v23 k))).view.read (Elt F) X)) (landed_q (Ring.sl 2 (blkN i v23 k)) 3 _ (off15_eq h k) (k0_off15_inb i v1 v23 hw1 k) reshapes_S2x4096x128_S2x2048x2x128.1 reshapes_S2x4096x128_S2x2048x2x128.2 (Memref.isWhole_whole cc0_scratch0).contiguous (xSlot (Ring.sl 2 (blkN i v23 k))).view.junk ((xBlk (Ring.bk 159 (blkN i v23 k))).view.read (Elt F) X)) j t h' l

end Trip

end MoeP

end
-- ==== Proof.MoeState.lean ====
/-
  What the experts' ring holds between two blocks, and one trip as a step of it.
-/
module

public import proofs.«01_k».proof.Proof.MoeTrip

@[expose] public section

set_option maxRecDepth 16384

noncomputable section

namespace MoeP

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section State
variable (c : Dev nD) (X : Buf (Elt F) (xsM.view.loc (c : Thread nD τ))) (G : Buf (Elt F) (ysM.view.loc (c : Thread nD τ)))

/-- The blocks of rows in from `lo` to `hi`. -/
def xRange (lo hi : ℕ) : sProp 𝕄 := bigSep (Ring.rangeSet 159 lo hi) (fun b => xHome c X b)
/-- The blocks of rows out from `lo` to `hi`, landed; and at anything. -/
def yRange (lo hi : ℕ) : sProp 𝕄 := bigSep (Ring.rangeSet 159 lo hi) (fun b => yHome c G b)
def yAny (lo hi : ℕ) : sProp 𝕄 := bigSep (Ring.rangeSet 159 lo hi) (fun b => iprop(∃ Y, yHome (F := F) c Y b))
/-- The slot block `n` comes into: its transfer under way if there is such a block of the `E`. -/
def inX (E n : ℕ) : sProp 𝕄 :=
  if n < E then iprop((∃ f, xFlight c X (Ring.sl 2 n) (Ring.bk 159 n) f) ∗ xRange c X (n + 1) 159)
  else iprop(cellIn c (Ring.sl 2 n) ∗ (∃ f, xSlotP (F := F) c (Ring.sl 2 n) f) ∗ xRange c X n 159)
def freeX (n : ℕ) : sProp 𝕄 := iprop(cellIn c (Ring.sl 2 (n + 1)) ∗ ∃ f, xSlotP (F := F) c (Ring.sl 2 (n + 1)) f)
/-- The slot block `n` goes out of: block `n - 2` still under way out of it. -/
def outY (n : ℕ) : sProp 𝕄 :=
  if 2 ≤ n then iprop(∃ g, gFlight c G (Ring.sl 2 n) (Ring.bk 159 (n - 2)) g)
  else iprop(cellOut c (Ring.sl 2 n) ∗ ∃ g, ySlotP (F := F) c (Ring.sl 2 n) g)
/-- Before block `n`. -/
def St (E n : ℕ) : sProp 𝕄 :=
  iprop((∃ W, owes (c : Thread nD τ) 0 W) ∗ xRange c X 0 n ∗ inX c X E n ∗ freeX (F := F) c n
    ∗ yRange c G 0 (n - 2) ∗ outY c G n ∗ outY c G (n + 1) ∗ yAny (F := F) c n 159)

theorem inX_lt {E n : ℕ} (h : n < E) : inX c X E n = iprop((∃ f, xFlight c X (Ring.sl 2 n) (Ring.bk 159 n) f) ∗ xRange c X (n + 1) 159) := if_pos h
theorem inX_ge {E n : ℕ} (h : ¬ n < E) : inX c X E n = iprop(cellIn c (Ring.sl 2 n) ∗ (∃ f, xSlotP (F := F) c (Ring.sl 2 n) f) ∗ xRange c X n 159) := if_neg h
theorem outY_ge {n : ℕ} (h : 2 ≤ n) : outY c G n = iprop(∃ g, gFlight c G (Ring.sl 2 n) (Ring.bk 159 (n - 2)) g) := if_pos h
theorem outY_lt {n : ℕ} (h : ¬ 2 ≤ n) : outY c G n = iprop(cellOut c (Ring.sl 2 n) ∗ ∃ g, ySlotP (F := F) c (Ring.sl 2 n) g) := if_neg h
theorem bk_eq {n : ℕ} (h : n < 159) : (⟨n, h⟩ : Fin 159) = Ring.bk 159 n := Fin.ext (Ring.bk_val h).symm
theorem xRange_head {lo : ℕ} (h : lo < 159) : xRange c X lo 159 = iprop(xHome c X (Ring.bk 159 lo) ∗ xRange c X (lo + 1) 159) := by
  unfold xRange; rw [Ring.bigSep_rangeSet_head h h, bk_eq h]
theorem xRange_last {n : ℕ} (h : n < 159) : xRange c X 0 (n + 1) = iprop(xHome c X (Ring.bk 159 n) ∗ xRange c X 0 n) := by
  unfold xRange; rw [Ring.bigSep_rangeSet_last (Nat.succ_pos n) h, ← bk_eq h]; rfl
theorem yRange_last {n : ℕ} (h : n < 159) : yRange c G 0 (n + 1) = iprop(yHome c G (Ring.bk 159 n) ∗ yRange c G 0 n) := by
  unfold yRange; rw [Ring.bigSep_rangeSet_last (Nat.succ_pos n) h, ← bk_eq h]; rfl
theorem yAny_head {lo : ℕ} (h : lo < 159) : yAny (F := F) c lo 159 = iprop((∃ Y, yHome (F := F) c Y (Ring.bk 159 lo)) ∗ yAny (F := F) c (lo + 1) 159) := by
  unfold yAny; rw [Ring.bigSep_rangeSet_head h h, bk_eq h]
theorem yRange_done {n : ℕ} (h2 : 2 ≤ n) (h : n < 159) : yRange c G 0 (n + 1 - 2) = iprop(yHome c G (Ring.bk 159 (n - 2)) ∗ yRange c G 0 (n - 2)) := by
  rw [show n + 1 - 2 = (n - 2) + 1 by omega]; exact yRange_last c G (by omega)
theorem outY_next (n : ℕ) : outY c G (n + 1 + 1) = iprop(∃ g, gFlight c G (Ring.sl 2 n) (Ring.bk 159 n) g) := by
  rw [outY_ge c G (by omega), sl2_add2]; rfl
theorem freeX_eq (n : ℕ) : freeX (F := F) c n = iprop(cellIn c (Ring.sl 2 (n + 1)) ∗ ∃ f, xSlotP (F := F) c (Ring.sl 2 (n + 1)) f) := rfl
theorem freeX_next (n : ℕ) : freeX (F := F) c (n + 1) = iprop(cellIn c (Ring.sl 2 n) ∗ ∃ f, xSlotP (F := F) c (Ring.sl 2 n) f) := by
  unfold freeX; rw [sl2_add2]

end State

section Step
variable (c : Dev nD) (i : grid0.Coords)
  (arg1 : Memref sig .tc .smem S32 .i32) (harg1 : arg1.IsWhole)
  (arg3 : Memref sig .tc .vmem S1x1024x2048 .f32) (harg3 : arg3.IsWhole)
  (arg4 : Memref sig .tc .vmem S1x1x2048 .f32) (harg4 : arg4.IsWhole)
  (arg5 : Memref sig .tc .vmem S1x1024x1024 .f32) (harg5 : arg5.IsWhole)
  (arg6 : Memref sig .tc .vmem S1x1x1024 .f32) (harg6 : arg6.IsWhole)
  (arg0 : BitVec 32) (v1 : Elt F .i32) (v18 : BitVec 32) (v19 : BitVec 1) (v23 : Elt F .i32) (hw1 : k0_chk1 i v1 v23)
  (v24 : BitVec 32) (v38 : BitVec 1) (v39 v41 : BitVec 32) (v43 : Elt F .i32) (hw2 : k0_chk2 i v1 v23 v43) (v60 : BitVec 32)
  (X : Buf (Elt F) (xsM.view.loc (c : Thread nD τ)))

/-- One trip is one step of the ring. -/
theorem trip_step (k : Fin (k0_t1_loop i v1 v23).trips) (h : Ok i v1 v23) (hT : OkT v1 v43)
    (G : Buf (Elt F) (ysM.view.loc (c : Thread nD τ))) (w10 : Vec F S1024x2048 .bf16) (w11 : Vec F S1024x1024 .bf16) (b4 : Vec F S1x1x2048 .f32) (b6 : Vec F S1x1x1024 .f32)
    (B4 : Buf (Elt F) (arg4.view.loc (c : Thread nD τ))) (B6 : Buf (Elt F) (arg6.view.loc (c : Thread nD τ)))
    (A10 : Buf (Elt F) (wgM.view.loc (c : Thread nD τ))) (A11 : Buf (Elt F) (wdM.view.loc (c : Thread nD τ)))
    (h10 : View.readAt (Elt F) wgM.view (Rect.unit ![0, 0] S1024x2048.size inb_S1024x2048_S1024x2048_0_0).toLoadRect A10 = w10)
    (h11 : View.readAt (Elt F) wdM.view (Rect.unit ![0, 0] S1024x1024.size inb_S1024x1024_S1024x1024_0_0).toLoadRect A11 = w11)
    (h4 : View.readAt (Elt F) arg4.view (Rect.unit ![0, 0, 0] S1x1x2048.size inb_S1x1x2048_S1x1x2048_0_0_0).toLoadRect B4 = b4)
    (h6 : View.readAt (Elt F) arg6.view (Rect.unit ![0, 0, 0] S1x1x1024.size inb_S1x1x1024_S1x1x1024_0_0_0).toLoadRect B6 = b6)
    (hG : ∀ j t h l, (yBlk (Ring.bk 159 (blkN i v23 k))).view.read (Elt F) G (ix2 (prow j t h) l) = moeBlk ((xBlk (Ring.bk 159 (blkN i v23 k))).view.read (Elt F) X) w10 w11 b4 b6 j t h l) :
    iprop(St c X G (enN v43) (blkN i v23 k) ∗ hold c arg4 B4 ∗ hold c arg6 B6 ∗ hold c wgM A10 ∗ hold c wdM A11)
    ⊢ wp frame (wpE (defs₀ (F := F)) 𝒱₀ (c : Thread nD τ) none) Set.univ
      (tripG i arg1 harg1 arg3 harg3 arg4 harg4 arg5 harg5 arg6 harg6 arg0 v1 v18 v19 v23 hw1 v24 v38 v39 v41 v43 hw2 v60 k)
      (fun _ => iprop(St c X G (enN v43) (blkN i v23 k + 1) ∗ hold c arg4 B4 ∗ hold c arg6 B6 ∗ hold c wgM A10 ∗ hold c wdM A11)) := by
  have hE : blkN i v23 k < enN v43 := lt_of_lt_of_le (blk_lt h k) hT.le
  have hb : blkN i v23 k < 159 := blk_le h k
  unfold St
  rw [inX_lt c X hE, yAny_head c hb, outY_next, xRange_last c X hb, freeX_next, freeX_eq c (blkN i v23 k)]
  by_cases hn : blkN i v23 k + 1 < enN v43
  · rw [inX_lt c X hn, xRange_head c X (lt_of_lt_of_le hn hT.ub)]
    by_cases h2 : 2 ≤ blkN i v23 k
    · rw [outY_ge c G h2, yRange_done c G h2 hb]
      iintro ⟨⟨⟨%W, HO⟩, HL, ⟨⟨%f, HX⟩, ⟨Hx1, HR⟩⟩, ⟨HFc, HF⟩, HD, ⟨%g, HY⟩, HY1, ⟨⟨%Y, HT⟩, HT1⟩⟩, H4, H6, H10, H11⟩
      icases HF with ⟨%f', HF⟩
      iapply (wp_wand_r Idealize.ShloMosaic.frame (wpE (defs₀ (F := F)) 𝒱₀ (c : Thread nD τ) none) Set.univ)
      isplitl [HO H4 H6 H10 H11 HX HFc HF Hx1 HY HT]
      · iapply (trip11 c i arg1 harg1 arg3 harg3 arg4 harg4 arg5 harg5 arg6 harg6 arg0 v1 v18 v19 v23 hw1 v24 v38 v39 v41 v43 hw2 v60 X k h hT h2 hn G w10 w11 b4 b6 B4 B6 A10 A11 h10 h11 h4 h6 hG f f' g Y W)
        isplitl [HO]; · iexact HO
        isplitl [H4]; · iexact H4
        isplitl [H6]; · iexact H6
        isplitl [H10]; · iexact H10
        isplitl [H11]; · iexact H11
        isplitl [HX]; · iexact HX
        isplitl [HFc]; · iexact HFc
        isplitl [HF]; · iexact HF
        isplitl [Hx1]; · iexact Hx1
        isplitl [HY]; · iexact HY
        iexact HT
      iintro %u ⟨HO, H4, H6, H10, H11, Hf, Hc, Hs, Hx, Hy, Hg⟩
      isplitr [H4 H6 H10 H11]
      · isplitl [HO]; · iexact HO
        isplitl [Hx HL]
        · isplitl [Hx]; · iexact Hx
          iexact HL
        isplitl [Hf HR]
        · isplitl [Hf]; · iexists _; iexact Hf
          iexact HR
        isplitl [Hc Hs]
        · isplitl [Hc]; · iexact Hc
          iexact Hs
        isplitl [Hy HD]
        · isplitl [Hy]; · iexact Hy
          iexact HD
        isplitl [HY1]; · iexact HY1
        isplitl [Hg]; · iexact Hg
        iexact HT1
      isplitl [H4]; · iexact H4
      isplitl [H6]; · iexact H6
      isplitl [H10]; · iexact H10
      iexact H11
    · rw [outY_lt c G h2, show blkN i v23 k + 1 - 2 = blkN i v23 k - 2 by omega]
      iintro ⟨⟨⟨%W, HO⟩, HL, ⟨⟨%f, HX⟩, ⟨Hx1, HR⟩⟩, ⟨HFc, HF⟩, HD, ⟨Hoc, %g, HY⟩, HY1, ⟨⟨%Y, HT⟩, HT1⟩⟩, H4, H6, H10, H11⟩
      icases HF with ⟨%f', HF⟩
      iapply (wp_wand_r Idealize.ShloMosaic.frame (wpE (defs₀ (F := F)) 𝒱₀ (c : Thread nD τ) none) Set.univ)
      isplitl [HO H4 H6 H10 H11 HX HFc HF Hx1 Hoc HY HT]
      · iapply (trip10 c i arg1 harg1 arg3 harg3 arg4 harg4 arg5 harg5 arg6 harg6 arg0 v1 v18 v19 v23 hw1 v24 v38 v39 v41 v43 hw2 v60 X k h hT h2 hn G w10 w11 b4 b6 B4 B6 A10 A11 h10 h11 h4 h6 hG f f' g Y W)
        isplitl [HO]; · iexact HO
        isplitl [H4]; · iexact H4
        isplitl [H6]; · iexact H6
        isplitl [H10]; · iexact H10
        isplitl [H11]; · iexact H11
        isplitl [HX]; · iexact HX
        isplitl [HFc]; · iexact HFc
        isplitl [HF]; · iexact HF
        isplitl [Hx1]; · iexact Hx1
        isplitl [Hoc]; · iexact Hoc
        isplitl [HY]; · iexact HY
        iexact HT
      iintro %u ⟨HO, H4, H6, H10, H11, Hf, Hc, Hs, Hx, Hg⟩
      isplitr [H4 H6 H10 H11]
      · isplitl [HO]; · iexact HO
        isplitl [Hx HL]
        · isplitl [Hx]; · iexact Hx
          iexact HL
        isplitl [Hf HR]
        · isplitl [Hf]; · iexists _; iexact Hf
          iexact HR
        isplitl [Hc Hs]
        · isplitl [Hc]; · iexact Hc
          iexact Hs
        isplitl [HD]; · iexact HD
        isplitl [HY1]; · iexact HY1
        isplitl [Hg]; · iexact Hg
        iexact HT1
      isplitl [H4]; · iexact H4
      isplitl [H6]; · iexact H6
      isplitl [H10]; · iexact H10
      iexact H11
  · rw [inX_ge c X hn]
    by_cases h2 : 2 ≤ blkN i v23 k
    · rw [outY_ge c G h2, yRange_done c G h2 hb]
      iintro ⟨⟨⟨%W, HO⟩, HL, ⟨⟨%f, HX⟩, HR⟩, ⟨HFc, HF⟩, HD, ⟨%g, HY⟩, HY1, ⟨⟨%Y, HT⟩, HT1⟩⟩, H4, H6, H10, H11⟩
      iapply (wp_wand_r Idealize.ShloMosaic.frame (wpE (defs₀ (F := F)) 𝒱₀ (c : Thread nD τ) none) Set.univ)
      isplitl [HO H4 H6 H10 H11 HX HY HT]
      · iapply (trip01 c i arg1 harg1 arg3 harg3 arg4 harg4 arg5 harg5 arg6 harg6 arg0 v1 v18 v19 v23 hw1 v24 v38 v39 v41 v43 hw2 v60 X k h hT h2 hn G w10 w11 b4 b6 B4 B6 A10 A11 h10 h11 h4 h6 hG f g Y W)
        isplitl [HO]; · iexact HO
        isplitl [H4]; · iexact H4
        isplitl [H6]; · iexact H6
        isplitl [H10]; · iexact H10
        isplitl [H11]; · iexact H11
        isplitl [HX]; · iexact HX
        isplitl [HY]; · iexact HY
        iexact HT
      iintro %u ⟨HO, H4, H6, H10, H11, Hc, Hs, Hx, Hy, Hg⟩
      isplitr [H4 H6 H10 H11]
      · isplitl [HO]; · iexact HO
        isplitl [Hx HL]
        · isplitl [Hx]; · iexact Hx
          iexact HL
        isplitl [HFc HF HR]
        · isplitl [HFc]; · iexact HFc
          isplitl [HF]; · iexact HF
          iexact HR
        isplitl [Hc Hs]
        · isplitl [Hc]; · iexact Hc
          iexact Hs
        isplitl [Hy HD]
        · isplitl [Hy]; · iexact Hy
          iexact HD
        isplitl [HY1]; · iexact HY1
        isplitl [Hg]; · iexact Hg
        iexact HT1
      isplitl [H4]; · iexact H4
      isplitl [H6]; · iexact H6
      isplitl [H10]; · iexact H10
      iexact H11
    · rw [outY_lt c G h2, show blkN i v23 k + 1 - 2 = blkN i v23 k - 2 by omega]
      iintro ⟨⟨⟨%W, HO⟩, HL, ⟨⟨%f, HX⟩, HR⟩, ⟨HFc, HF⟩, HD, ⟨Hoc, %g, HY⟩, HY1, ⟨⟨%Y, HT⟩, HT1⟩⟩, H4, H6, H10, H11⟩
      iapply (wp_wand_r Idealize.ShloMosaic.frame (wpE (defs₀ (F := F)) 𝒱₀ (c : Thread nD τ) none) Set.univ)
      isplitl [HO H4 H6 H10 H11 HX Hoc HY HT]
      · iapply (trip00 c i arg1 harg1 arg3 harg3 arg4 harg4 arg5 harg5 arg6 harg6 arg0 v1 v18 v19 v23 hw1 v24 v38 v39 v41 v43 hw2 v60 X k h hT h2 hn G w10 w11 b4 b6 B4 B6 A10 A11 h10 h11 h4 h6 hG f g Y W)
        isplitl [HO]; · iexact HO
        isplitl [H4]; · iexact H4
        isplitl [H6]; · iexact H6
        isplitl [H10]; · iexact H10
        isplitl [H11]; · iexact H11
        isplitl [HX]; · iexact HX
        isplitl [Hoc]; · iexact Hoc
        isplitl [HY]; · iexact HY
        iexact HT
      iintro %u ⟨HO, H4, H6, H10, H11, Hc, Hs, Hx, Hg⟩
      isplitr [H4 H6 H10 H11]
      · isplitl [HO]; · iexact HO
        isplitl [Hx HL]
        · isplitl [Hx]; · iexact Hx
          iexact HL
        isplitl [HFc HF HR]
        · isplitl [HFc]; · iexact HFc
          isplitl [HF]; · iexact HF
          iexact HR
        isplitl [Hc Hs]
        · isplitl [Hc]; · iexact Hc
          iexact Hs
        isplitl [HD]; · iexact HD
        isplitl [HY1]; · iexact HY1
        isplitl [Hg]; · iexact Hg
        iexact HT1
      isplitl [H4]; · iexact H4
      isplitl [H6]; · iexact H6
      isplitl [H10]; · iexact H10
      iexact H11

end Step

end MoeP

end
-- ==== Proof.MoeBody.lean ====
/-
  The kernel's body at one grid point.
-/
module

public import proofs.«01_k».proof.Proof.MoeState
public import Idealize.ShloMosaic.Lib.LoopRemainder

@[expose] public section

set_option maxRecDepth 16384

noncomputable section

namespace MoeP

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Body
variable (c : Dev nD) (i : grid0.Coords)
  (arg1 : Memref sig .tc .smem S32 .i32) (harg1 : arg1.IsWhole)
  (arg3 : Memref sig .tc .vmem S1x1024x2048 .f32) (harg3 : arg3.IsWhole)
  (arg4 : Memref sig .tc .vmem S1x1x2048 .f32) (harg4 : arg4.IsWhole)
  (arg5 : Memref sig .tc .vmem S1x1024x1024 .f32) (harg5 : arg5.IsWhole)
  (arg6 : Memref sig .tc .vmem S1x1x1024 .f32) (harg6 : arg6.IsWhole)
  (X : Buf (Elt F) (xsM.view.loc (c : Thread nD τ))) (G : Buf (Elt F) (ysM.view.loc (c : Thread nD τ)))

abbrev part11G := k0_part11 (F := F) i arg1 harg1 xsM (Memref.isWhole_whole _) arg3 harg3 arg4 harg4 arg5 harg5 arg6 harg6 ysM (Memref.isWhole_whole _)
    xbM (Memref.isWhole_whole _) ybM (Memref.isWhole_whole _) wgM (Memref.isWhole_whole _) wdM (Memref.isWhole_whole _) cc0_scratch4 cc0_scratch5

/-- The two halves of the kernel's floor division, as the part hands them on. -/
def fcond (x : BitVec 32) : BitVec 1 :=
  Scalar.andi
      (Scalar.cmpi .ne (Scalar.subi (Scalar.extui (Scalar.cmpi .sgt x 0#32) : BitVec 32) (Scalar.extui (Scalar.cmpi .slt x 0#32)))
        (Scalar.subi (Scalar.extui (Scalar.cmpi .sgt 512#32 0#32)) (Scalar.extui (Scalar.cmpi .slt 512#32 0#32))))
      (Scalar.cmpi .ne (Scalar.remsi x 512#32) 0#32)

theorem part11_run (T : Buf (Elt F) (arg1.view.loc (c : Thread nD τ))) (W) (v1 v23 : Elt F .i32)
    (hv1 : ∀ j, arg1.view.readAt (Elt F) (Rect.unit (s := S32) (k0_off1 i) S1.size (k0_off1_inb i)).toLoadRect T j = v1)
    (hv23 : ∀ j, arg1.view.readAt (Elt F) (Rect.unit (s := S32) (k0_off2 i) S1.size (k0_off2_inb i)).toLoadRect T j = v23)
    (hw3 : k0_chk3 i v1) (hw1 : k0_chk1 i v1 v23) (Q) :
    iprop(holdT c arg1 T ∗ owes (c : Thread nD τ) 0 W ∗ (holdT c arg1 T ∗ owes (c : Thread nD τ) 0 W -∗
      Q ⟨BitVec.ofNat 32 (i 0).val, v1, hw3, fdiv v1, Scalar.cmpi .eq (BitVec.ofNat 32 (i 0).val) 0#32, v23, hw1, Scalar.divsi v23 512#32, fcond v23, Scalar.subi (Scalar.divsi v23 512#32) 1#32⟩))
    ⊢ wp frame (wpE (defs₀ (F := F)) 𝒱₀ (c : Thread nD τ) none) Set.univ
      (part11G i arg1 harg1 arg3 harg3 arg4 harg4 arg5 harg5 arg6 harg6) Q := by
  iintro ⟨H1, HW, HQ⟩
  dsimp only [part11G]
  sl_unfold [k0_part11]
  sl_exec
  have e1 : part11_run.sl.r c i arg1 T = v1 := hv1 _
  irw [e1]
  sl_exec
  have e2 : part11_run.sl.r_1 c i arg1 T = v23 := hv23 _
  irw [e2]
  sl_exec
  have e3 : part11_run.sl.v18 v1 = fdiv v1 := rfl
  have e4 : part11_run.sl.v38 v23 = fcond v23 := rfl
  irw [e3]
  irw [e4]
  sl_step
  unfold part11_run.sl.v19 part11_run.sl.v24 part11_run.sl.v39 part11_run.sl.v24
  iapply HQ
  isplitl [H1]; · iexact H1
  iexact HW
end Body

end MoeP

end
-- ==== Proof.MoePart12.lean ====
/-
  The second part of the kernel's body: the transfer of the first block, the expert's weights, the
  loop over the expert's blocks.
-/
module

public import proofs.«01_k».proof.Proof.MoeBody
public import Idealize.ShloMosaic.Lib.LoopRemainder
public import Idealize.ShloMosaic.Lib.VecWindow

@[expose] public section

set_option maxRecDepth 16384

noncomputable section

namespace MoeP

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Body
variable (c : Dev nD) (i : grid0.Coords)
  (arg1 : Memref sig .tc .smem S32 .i32) (harg1 : arg1.IsWhole)
  (arg3 : Memref sig .tc .vmem S1x1024x2048 .f32) (harg3 : arg3.IsWhole)
  (arg4 : Memref sig .tc .vmem S1x1x2048 .f32) (harg4 : arg4.IsWhole)
  (arg5 : Memref sig .tc .vmem S1x1024x1024 .f32) (harg5 : arg5.IsWhole)
  (arg6 : Memref sig .tc .vmem S1x1x1024 .f32) (harg6 : arg6.IsWhole)
  (X : Buf (Elt F) (xsM.view.loc (c : Thread nD τ))) (G : Buf (Elt F) (ysM.view.loc (c : Thread nD τ)))

theorem and_iff (x y : BitVec 1) : Scalar.andi x y = 1#1 ↔ x = 1#1 ∧ y = 1#1 := by revert x y; decide

/-- `St` without what the device owes. -/
def StR (E n : ℕ) : sProp 𝕄 :=
  iprop(xRange c X 0 n ∗ inX c X E n ∗ freeX (F := F) c n
    ∗ yRange c G 0 (n - 2) ∗ outY c G n ∗ outY c G (n + 1) ∗ yAny (F := F) c n 159)

theorem St_eq (E n : ℕ) : St c X G E n = iprop((∃ W, owes (c : Thread nD τ) 0 W) ∗ StR c X G E n) := rfl

/-- What the transfer of the first block leaves alone. -/
def StK : sProp 𝕄 :=
  iprop(xRange c X 0 0 ∗ xRange c X 1 159 ∗ freeX (F := F) c 0
    ∗ yRange c G 0 (0 - 2) ∗ outY c G 0 ∗ outY c G (0 + 1) ∗ yAny (F := F) c 0 159)

theorem stR_open : StR c X G 0 0 ⊢ iprop(cellIn c 0 ∗ (∃ f, xSlotP (F := F) c 0 f) ∗ xHome c X (Ring.bk 159 0) ∗ StK c X G) := by
  unfold StR StK
  rw [inX_ge c X (show ¬ 0 < 0 by omega), xRange_head c X (show 0 < 159 by omega), show Ring.sl 2 0 = (0 : Fin 2) from rfl]
  iintro ⟨HL, ⟨Hc, Hs, Hx, HR⟩, H⟩
  isplitl [Hc]; · iexact Hc
  isplitl [Hs]; · iexact Hs
  isplitl [Hx]; · iexact Hx
  isplitl [HL]; · iexact HL
  isplitl [HR]; · iexact HR
  iexact H

theorem stR_close {E : ℕ} (hE : 0 < E) (f) : iprop(xFlight c X 0 (Ring.bk 159 0) f ∗ StK c X G) ⊢ StR c X G E 0 := by
  unfold StR StK
  rw [inX_lt c X hE, show Ring.sl 2 0 = (0 : Fin 2) from rfl]
  iintro ⟨Hc, HL, HR, H⟩
  isplitl [HL]; · iexact HL
  isplitl [Hc HR]
  · isplitl [Hc]
    · iexists f; iexact Hc
    iexact HR
  iexact H

abbrev part12G (arg0 : BitVec 32) (v1 : Elt F .i32) (v18 : BitVec 32) (v19 : BitVec 1) (v23 : Elt F .i32) (hw1 : k0_chk1 i v1 v23) (v24 : BitVec 32) (v38 : BitVec 1) (v39 : BitVec 32) :=
  k0_part12 (F := F) i arg1 harg1 xsM (Memref.isWhole_whole _) arg3 harg3 arg4 harg4 arg5 harg5 arg6 harg6 ysM (Memref.isWhole_whole _)
    xbM (Memref.isWhole_whole _) ybM (Memref.isWhole_whole _) wgM (Memref.isWhole_whole _) wdM (Memref.isWhole_whole _) cc0_scratch4 cc0_scratch5
    arg0 v1 v18 v19 v23 hw1 v24 v38 v39

set_option maxHeartbeats 4000000 in
theorem part12_yy (T : Buf (Elt F) (arg1.view.loc (c : Thread nD τ))) (v1 v23 v43 : Elt F .i32)
    (hv43 : ∀ j, arg1.view.readAt (Elt F) (Rect.unit (s := S32) ![31] S1.size inb_S32_S1_31).toLoadRect T j = v43)
    (h : Ok i v1 v23) (hT : OkT v1 v43)
    (hw1 : k0_chk1 i v1 v23) (hw2 : k0_chk2 i v1 v23 v43)
    (B3 : Buf (Elt F) (arg3.view.loc (c : Thread nD τ))) (B5 : Buf (Elt F) (arg5.view.loc (c : Thread nD τ)))
    (B4 : Buf (Elt F) (arg4.view.loc (c : Thread nD τ))) (B6 : Buf (Elt F) (arg6.view.loc (c : Thread nD τ)))
    (w10 : Vec F S1024x2048 .bf16) (w11 : Vec F S1024x1024 .bf16) (b4 : Vec F S1x1x2048 .f32) (b6 : Vec F S1x1x1024 .f32)
    (h3 : k0_pay34 (View.readAt (Elt F) arg3.view (Rect.unit ![0, 0, 0] S1x1024x2048.size inb_S1x1024x2048_S1x1024x2048_0_0_0).toLoadRect B3) = w10)
    (h5 : k0_pay35 (View.readAt (Elt F) arg5.view (Rect.unit ![0, 0, 0] S1x1024x1024.size inb_S1x1024x1024_S1x1024x1024_0_0_0).toLoadRect B5) = w11)
    (h4 : View.readAt (Elt F) arg4.view (Rect.unit ![0, 0, 0] S1x1x2048.size inb_S1x1x2048_S1x1x2048_0_0_0).toLoadRect B4 = b4)
    (h6 : View.readAt (Elt F) arg6.view (Rect.unit ![0, 0, 0] S1x1x1024.size inb_S1x1x1024_S1x1x1024_0_0_0).toLoadRect B6 = b6)
    (hG : ∀ n, stN i v23 ≤ n → n < enN v1 → ∀ j t h l, (yBlk (Ring.bk 159 n)).view.read (Elt F) G (ix2 (prow j t h) l) = moeBlk ((xBlk (Ring.bk 159 n)).view.read (Elt F) X) w10 w11 b4 b6 j t h l)
    (A10 : Buf (Elt F) (wgM.view.loc (c : Thread nD τ))) (A11 : Buf (Elt F) (wdM.view.loc (c : Thread nD τ)))
    (W)
    (Q : (Σ' (v43 : Elt F .i32) (k0_hw2 : k0_chk2 i v1 v23 v43) (v60 : BitVec 32), BitVec 1) → sProp 𝕄)
    (hi : Scalar.cmpi .ne (Scalar.extui (Scalar.andi (Scalar.cmpi .eq (BitVec.ofNat 32 (i 0).val) 0#32) (Scalar.cmpi .sgt (fdiv v43) 0#32)) : BitVec 32) 0#32 = 1#1)
    (hl : Scalar.cmpi .ne (Scalar.extui (Scalar.cmpi .sgt (Scalar.subi (fdiv v1) (startW i v23)) 0#32) : BitVec 32) 0#32 = 1#1)
    (hpos : True) (hs0 : stN i v23 = 0) (hE : 0 < enN v43) :
    iprop(holdT c arg1 T ∗ owes (c : Thread nD τ) 0 W ∗ StR c X G 0 0
      ∗ hold c arg3 B3 ∗ hold c arg4 B4 ∗ hold c arg5 B5 ∗ hold c arg6 B6 ∗ hold c wgM A10 ∗ hold c wdM A11
      ∗ (holdT c arg1 T ∗ St c X G (enN v43) (enN v1) ∗ hold c arg3 B3 ∗ hold c arg4 B4 ∗ hold c arg5 B5 ∗ hold c arg6 B6
        ∗ (∃ A, hold c wgM A) ∗ (∃ A, hold c wdM A) -∗ Q ⟨v43, hw2, fdiv v43, Scalar.cmpi .eq (BitVec.ofNat 32 (i 0).val) 31#32⟩))
    ⊢ wp frame (wpE (defs₀ (F := F)) 𝒱₀ (c : Thread nD τ) none) Set.univ
      (part12G i arg1 harg1 arg3 harg3 arg4 harg4 arg5 harg5 arg6 harg6 (BitVec.ofNat 32 (i 0).val) v1 (fdiv v1)
        (Scalar.cmpi .eq (BitVec.ofNat 32 (i 0).val) 0#32) v23 hw1 (Scalar.divsi v23 512#32) (fcond v23) (Scalar.subi (Scalar.divsi v23 512#32) 1#32)) Q := by
  iintro ⟨H1, HW, HS, H3, H4, H5, H6, H10, H11, HQ⟩
  ihave HS' := (stR_open c X G) $$ HS
  icases HS' with ⟨Hc, ⟨%f, Hs⟩, Hx, HS⟩
  dsimp only [part12G]
  sl_unfold [k0_part12]
  sl_exec
  have e1 : part12_yy.sl.r c arg1 T = v43 := hv43 _
  irw [e1]
  sl_exec
  sl_for (fun k _ => iprop(St c X G (enN v43) (stN i v23 + k) ∗ hold c arg4 B4 ∗ hold c arg6 B6 ∗ hold c wgM (wgM.view.writes (Elt F) wgM.view.junk (part12_yy.sl.H10_1 c arg3 B3)) ∗ hold c wdM (wdM.view.writes (Elt F) wdM.view.junk (part12_yy.sl.H11_1 c arg5 B5)))) $$ [HW Hc HS H4 H6 H10 H11]
  · intro k acc
    have h10 : View.readAt (Elt F) wgM.view (Rect.unit ![0, 0] S1024x2048.size inb_S1024x2048_S1024x2048_0_0).toLoadRect (wgM.view.writes (Elt F) wgM.view.junk (part12_yy.sl.H10_1 c arg3 B3)) = w10 := by
      rw [← h3]
      unfold part12_yy.sl.H10_1
      exact View.readAt_writes_full _ _ _ _ _ _
    have h11 : View.readAt (Elt F) wdM.view (Rect.unit ![0, 0] S1024x1024.size inb_S1024x1024_S1024x1024_0_0).toLoadRect (wdM.view.writes (Elt F) wdM.view.junk (part12_yy.sl.H11_1 c arg5 B5)) = w11 := by
      rw [← h5]
      unfold part12_yy.sl.H11_1
      exact View.readAt_writes_full _ _ _ _ _ _
    exact trip_step c i arg1 harg1 arg3 harg3 arg4 harg4 arg5 harg5 arg6 harg6 (BitVec.ofNat 32 (i 0).val) v1 (fdiv v1)
      (Scalar.cmpi .eq (BitVec.ofNat 32 (i 0).val) 0#32) v23 hw1 (Scalar.divsi v23 512#32) (fcond v23) (Scalar.subi (Scalar.divsi v23 512#32) 1#32)
      (startW i v23) v43 hw2 (fdiv v43) X k h hT G w10 w11 b4 b6 B4 B6 _ _ h10 h11 h4 h6 (hG _ (Nat.le_add_right _ _) (blk_lt h k))
  · isplitl [HW Hc HS]
    · rw [show stN i v23 + 0 = 0 by omega]; rw [St_eq]
      isplitl [HW]; · iexists W; iexact HW
      iapply (stR_close c X G hE f)
      isplitl [Hc]; · iexact Hc
      iexact HS
    isplitl [H4]; · iexact H4
    isplitl [H6]; · iexact H6
    isplitl [H10]; · iexact H10
    iexact H11
  · iintro %acc ⟨HI, H4, H6, H10, H11⟩
    have et : stN i v23 + Scf.trips (k0_t1_loop i v1 v23).lb (k0_t1_loop i v1 v23).ub (k0_t1_loop i v1 v23).st = enN v1 := by
      have := t1_trips h
      have := h.le
      change stN i v23 + (k0_t1_loop i v1 v23).trips = _
      omega
    rw [et]
    unfold part12_yy.sl.prog.cont_1
    sl_exec
    have e2 : part12_yy.sl.v60 v43 = fdiv v43 := rfl
    irw [e2]
    sl_step
    unfold part12_yy.sl.v74
    iapply HQ
    isplitl [H1]; · iexact H1
    isplitl [HI]; · iexact HI
    isplitl [H3]; · iexact H3
    isplitl [H4]; · iexact H4
    isplitl [H5]; · iexact H5
    isplitl [H6]; · iexact H6
    isplitl [H10]; · iexists _; iexact H10
    iexists _; iexact H11

set_option maxHeartbeats 4000000 in
theorem part12_yn (T : Buf (Elt F) (arg1.view.loc (c : Thread nD τ))) (v1 v23 v43 : Elt F .i32)
    (hv43 : ∀ j, arg1.view.readAt (Elt F) (Rect.unit (s := S32) ![31] S1.size inb_S32_S1_31).toLoadRect T j = v43)
    (h : Ok i v1 v23) (hT : OkT v1 v43)
    (hw1 : k0_chk1 i v1 v23) (hw2 : k0_chk2 i v1 v23 v43)
    (B3 : Buf (Elt F) (arg3.view.loc (c : Thread nD τ))) (B5 : Buf (Elt F) (arg5.view.loc (c : Thread nD τ)))
    (B4 : Buf (Elt F) (arg4.view.loc (c : Thread nD τ))) (B6 : Buf (Elt F) (arg6.view.loc (c : Thread nD τ)))
    (w10 : Vec F S1024x2048 .bf16) (w11 : Vec F S1024x1024 .bf16) (b4 : Vec F S1x1x2048 .f32) (b6 : Vec F S1x1x1024 .f32)
    (h3 : k0_pay34 (View.readAt (Elt F) arg3.view (Rect.unit ![0, 0, 0] S1x1024x2048.size inb_S1x1024x2048_S1x1024x2048_0_0_0).toLoadRect B3) = w10)
    (h5 : k0_pay35 (View.readAt (Elt F) arg5.view (Rect.unit ![0, 0, 0] S1x1024x1024.size inb_S1x1024x1024_S1x1024x1024_0_0_0).toLoadRect B5) = w11)
    (h4 : View.readAt (Elt F) arg4.view (Rect.unit ![0, 0, 0] S1x1x2048.size inb_S1x1x2048_S1x1x2048_0_0_0).toLoadRect B4 = b4)
    (h6 : View.readAt (Elt F) arg6.view (Rect.unit ![0, 0, 0] S1x1x1024.size inb_S1x1x1024_S1x1x1024_0_0_0).toLoadRect B6 = b6)
    (hG : ∀ n, stN i v23 ≤ n → n < enN v1 → ∀ j t h l, (yBlk (Ring.bk 159 n)).view.read (Elt F) G (ix2 (prow j t h) l) = moeBlk ((xBlk (Ring.bk 159 n)).view.read (Elt F) X) w10 w11 b4 b6 j t h l)
    (A10 : Buf (Elt F) (wgM.view.loc (c : Thread nD τ))) (A11 : Buf (Elt F) (wdM.view.loc (c : Thread nD τ)))
    (W)
    (Q : (Σ' (v43 : Elt F .i32) (k0_hw2 : k0_chk2 i v1 v23 v43) (v60 : BitVec 32), BitVec 1) → sProp 𝕄)
    (hi : Scalar.cmpi .ne (Scalar.extui (Scalar.andi (Scalar.cmpi .eq (BitVec.ofNat 32 (i 0).val) 0#32) (Scalar.cmpi .sgt (fdiv v43) 0#32)) : BitVec 32) 0#32 = 1#1)
    (hl : Scalar.cmpi .ne (Scalar.extui (Scalar.cmpi .sgt (Scalar.subi (fdiv v1) (startW i v23)) 0#32) : BitVec 32) 0#32 ≠ 1#1)
    (htr : (k0_t1_loop i v1 v23).trips = 0) (hpos : stN i v23 = enN v1) (hs0 : stN i v23 = 0) (hE : 0 < enN v43) :
    iprop(holdT c arg1 T ∗ owes (c : Thread nD τ) 0 W ∗ StR c X G 0 0
      ∗ hold c arg3 B3 ∗ hold c arg4 B4 ∗ hold c arg5 B5 ∗ hold c arg6 B6 ∗ hold c wgM A10 ∗ hold c wdM A11
      ∗ (holdT c arg1 T ∗ St c X G (enN v43) (enN v1) ∗ hold c arg3 B3 ∗ hold c arg4 B4 ∗ hold c arg5 B5 ∗ hold c arg6 B6
        ∗ (∃ A, hold c wgM A) ∗ (∃ A, hold c wdM A) -∗ Q ⟨v43, hw2, fdiv v43, Scalar.cmpi .eq (BitVec.ofNat 32 (i 0).val) 31#32⟩))
    ⊢ wp frame (wpE (defs₀ (F := F)) 𝒱₀ (c : Thread nD τ) none) Set.univ
      (part12G i arg1 harg1 arg3 harg3 arg4 harg4 arg5 harg5 arg6 harg6 (BitVec.ofNat 32 (i 0).val) v1 (fdiv v1)
        (Scalar.cmpi .eq (BitVec.ofNat 32 (i 0).val) 0#32) v23 hw1 (Scalar.divsi v23 512#32) (fcond v23) (Scalar.subi (Scalar.divsi v23 512#32) 1#32)) Q := by
  iintro ⟨H1, HW, HS, H3, H4, H5, H6, H10, H11, HQ⟩
  ihave HS' := (stR_open c X G) $$ HS
  icases HS' with ⟨Hc, ⟨%f, Hs⟩, Hx, HS⟩
  dsimp only [part12G]
  sl_unfold [k0_part12]
  sl_exec
  have e1 : part12_yn.sl.r c arg1 T = v43 := hv43 _
  irw [e1]
  sl_exec
  have e2 : part12_yn.sl.v60 v43 = fdiv v43 := rfl
  irw [e2]
  sl_step
  unfold part12_yn.sl.v74
  iapply HQ
  isplitl [H1]; · iexact H1
  isplitl [HW Hc HS]
  · rw [← hpos, St_eq]
    isplitl [HW]; · iexists W; iexact HW
    rw [hs0]
    iapply (stR_close c X G hE f)
    isplitl [Hc]; · iexact Hc
    iexact HS
  isplitl [H3]; · iexact H3
  isplitl [H4]; · iexact H4
  isplitl [H5]; · iexact H5
  isplitl [H6]; · iexact H6
  isplitl [H10]; · iexists _; iexact H10
  iexists _; iexact H11

set_option maxHeartbeats 4000000 in
theorem part12_ny (T : Buf (Elt F) (arg1.view.loc (c : Thread nD τ))) (v1 v23 v43 : Elt F .i32)
    (hv43 : ∀ j, arg1.view.readAt (Elt F) (Rect.unit (s := S32) ![31] S1.size inb_S32_S1_31).toLoadRect T j = v43)
    (h : Ok i v1 v23) (hT : OkT v1 v43)
    (hw1 : k0_chk1 i v1 v23) (hw2 : k0_chk2 i v1 v23 v43)
    (B3 : Buf (Elt F) (arg3.view.loc (c : Thread nD τ))) (B5 : Buf (Elt F) (arg5.view.loc (c : Thread nD τ)))
    (B4 : Buf (Elt F) (arg4.view.loc (c : Thread nD τ))) (B6 : Buf (Elt F) (arg6.view.loc (c : Thread nD τ)))
    (w10 : Vec F S1024x2048 .bf16) (w11 : Vec F S1024x1024 .bf16) (b4 : Vec F S1x1x2048 .f32) (b6 : Vec F S1x1x1024 .f32)
    (h3 : k0_pay34 (View.readAt (Elt F) arg3.view (Rect.unit ![0, 0, 0] S1x1024x2048.size inb_S1x1024x2048_S1x1024x2048_0_0_0).toLoadRect B3) = w10)
    (h5 : k0_pay35 (View.readAt (Elt F) arg5.view (Rect.unit ![0, 0, 0] S1x1024x1024.size inb_S1x1024x1024_S1x1024x1024_0_0_0).toLoadRect B5) = w11)
    (h4 : View.readAt (Elt F) arg4.view (Rect.unit ![0, 0, 0] S1x1x2048.size inb_S1x1x2048_S1x1x2048_0_0_0).toLoadRect B4 = b4)
    (h6 : View.readAt (Elt F) arg6.view (Rect.unit ![0, 0, 0] S1x1x1024.size inb_S1x1x1024_S1x1x1024_0_0_0).toLoadRect B6 = b6)
    (hG : ∀ n, stN i v23 ≤ n → n < enN v1 → ∀ j t h l, (yBlk (Ring.bk 159 n)).view.read (Elt F) G (ix2 (prow j t h) l) = moeBlk ((xBlk (Ring.bk 159 n)).view.read (Elt F) X) w10 w11 b4 b6 j t h l)
    (A10 : Buf (Elt F) (wgM.view.loc (c : Thread nD τ))) (A11 : Buf (Elt F) (wdM.view.loc (c : Thread nD τ)))
    (W)
    (Q : (Σ' (v43 : Elt F .i32) (k0_hw2 : k0_chk2 i v1 v23 v43) (v60 : BitVec 32), BitVec 1) → sProp 𝕄)
    (hi : Scalar.cmpi .ne (Scalar.extui (Scalar.andi (Scalar.cmpi .eq (BitVec.ofNat 32 (i 0).val) 0#32) (Scalar.cmpi .sgt (fdiv v43) 0#32)) : BitVec 32) 0#32 ≠ 1#1)
    (hl : Scalar.cmpi .ne (Scalar.extui (Scalar.cmpi .sgt (Scalar.subi (fdiv v1) (startW i v23)) 0#32) : BitVec 32) 0#32 = 1#1)
    (hpos : True)  :
    iprop(holdT c arg1 T ∗ owes (c : Thread nD τ) 0 W ∗ StR c X G (enN v43) (stN i v23)
      ∗ hold c arg3 B3 ∗ hold c arg4 B4 ∗ hold c arg5 B5 ∗ hold c arg6 B6 ∗ hold c wgM A10 ∗ hold c wdM A11
      ∗ (holdT c arg1 T ∗ St c X G (enN v43) (enN v1) ∗ hold c arg3 B3 ∗ hold c arg4 B4 ∗ hold c arg5 B5 ∗ hold c arg6 B6
        ∗ (∃ A, hold c wgM A) ∗ (∃ A, hold c wdM A) -∗ Q ⟨v43, hw2, fdiv v43, Scalar.cmpi .eq (BitVec.ofNat 32 (i 0).val) 31#32⟩))
    ⊢ wp frame (wpE (defs₀ (F := F)) 𝒱₀ (c : Thread nD τ) none) Set.univ
      (part12G i arg1 harg1 arg3 harg3 arg4 harg4 arg5 harg5 arg6 harg6 (BitVec.ofNat 32 (i 0).val) v1 (fdiv v1)
        (Scalar.cmpi .eq (BitVec.ofNat 32 (i 0).val) 0#32) v23 hw1 (Scalar.divsi v23 512#32) (fcond v23) (Scalar.subi (Scalar.divsi v23 512#32) 1#32)) Q := by
  iintro ⟨H1, HW, HS, H3, H4, H5, H6, H10, H11, HQ⟩
  dsimp only [part12G]
  sl_unfold [k0_part12]
  sl_exec
  have e1 : part12_ny.sl.r c arg1 T = v43 := hv43 _
  irw [e1]
  sl_exec
  sl_for (fun k _ => iprop(St c X G (enN v43) (stN i v23 + k) ∗ hold c arg4 B4 ∗ hold c arg6 B6 ∗ hold c wgM (wgM.view.writes (Elt F) wgM.view.junk (part12_ny.sl.H10_1 c arg3 B3)) ∗ hold c wdM (wdM.view.writes (Elt F) wdM.view.junk (part12_ny.sl.H11_1 c arg5 B5)))) $$ [HW HS H4 H6 H10 H11]
  · intro k acc
    have h10 : View.readAt (Elt F) wgM.view (Rect.unit ![0, 0] S1024x2048.size inb_S1024x2048_S1024x2048_0_0).toLoadRect (wgM.view.writes (Elt F) wgM.view.junk (part12_ny.sl.H10_1 c arg3 B3)) = w10 := by
      rw [← h3]
      unfold part12_ny.sl.H10_1
      exact View.readAt_writes_full _ _ _ _ _ _
    have h11 : View.readAt (Elt F) wdM.view (Rect.unit ![0, 0] S1024x1024.size inb_S1024x1024_S1024x1024_0_0).toLoadRect (wdM.view.writes (Elt F) wdM.view.junk (part12_ny.sl.H11_1 c arg5 B5)) = w11 := by
      rw [← h5]
      unfold part12_ny.sl.H11_1
      exact View.readAt_writes_full _ _ _ _ _ _
    exact trip_step c i arg1 harg1 arg3 harg3 arg4 harg4 arg5 harg5 arg6 harg6 (BitVec.ofNat 32 (i 0).val) v1 (fdiv v1)
      (Scalar.cmpi .eq (BitVec.ofNat 32 (i 0).val) 0#32) v23 hw1 (Scalar.divsi v23 512#32) (fcond v23) (Scalar.subi (Scalar.divsi v23 512#32) 1#32)
      (startW i v23) v43 hw2 (fdiv v43) X k h hT G w10 w11 b4 b6 B4 B6 _ _ h10 h11 h4 h6 (hG _ (Nat.le_add_right _ _) (blk_lt h k))
  · isplitl [HW HS]
    · rw [Nat.add_zero]; rw [St_eq]
      isplitl [HW]; · iexists W; iexact HW
      iexact HS
    isplitl [H4]; · iexact H4
    isplitl [H6]; · iexact H6
    isplitl [H10]; · iexact H10
    iexact H11
  · iintro %acc ⟨HI, H4, H6, H10, H11⟩
    have et : stN i v23 + Scf.trips (k0_t1_loop i v1 v23).lb (k0_t1_loop i v1 v23).ub (k0_t1_loop i v1 v23).st = enN v1 := by
      have := t1_trips h
      have := h.le
      change stN i v23 + (k0_t1_loop i v1 v23).trips = _
      omega
    rw [et]
    unfold part12_ny.sl.prog.cont_1
    sl_exec
    have e2 : part12_ny.sl.v60 v43 = fdiv v43 := rfl
    irw [e2]
    sl_step
    unfold part12_ny.sl.v74
    iapply HQ
    isplitl [H1]; · iexact H1
    isplitl [HI]; · iexact HI
    isplitl [H3]; · iexact H3
    isplitl [H4]; · iexact H4
    isplitl [H5]; · iexact H5
    isplitl [H6]; · iexact H6
    isplitl [H10]; · iexists _; iexact H10
    iexists _; iexact H11

set_option maxHeartbeats 4000000 in
theorem part12_nn (T : Buf (Elt F) (arg1.view.loc (c : Thread nD τ))) (v1 v23 v43 : Elt F .i32)
    (hv43 : ∀ j, arg1.view.readAt (Elt F) (Rect.unit (s := S32) ![31] S1.size inb_S32_S1_31).toLoadRect T j = v43)
    (h : Ok i v1 v23) (hT : OkT v1 v43)
    (hw1 : k0_chk1 i v1 v23) (hw2 : k0_chk2 i v1 v23 v43)
    (B3 : Buf (Elt F) (arg3.view.loc (c : Thread nD τ))) (B5 : Buf (Elt F) (arg5.view.loc (c : Thread nD τ)))
    (B4 : Buf (Elt F) (arg4.view.loc (c : Thread nD τ))) (B6 : Buf (Elt F) (arg6.view.loc (c : Thread nD τ)))
    (w10 : Vec F S1024x2048 .bf16) (w11 : Vec F S1024x1024 .bf16) (b4 : Vec F S1x1x2048 .f32) (b6 : Vec F S1x1x1024 .f32)
    (h3 : k0_pay34 (View.readAt (Elt F) arg3.view (Rect.unit ![0, 0, 0] S1x1024x2048.size inb_S1x1024x2048_S1x1024x2048_0_0_0).toLoadRect B3) = w10)
    (h5 : k0_pay35 (View.readAt (Elt F) arg5.view (Rect.unit ![0, 0, 0] S1x1024x1024.size inb_S1x1024x1024_S1x1024x1024_0_0_0).toLoadRect B5) = w11)
    (h4 : View.readAt (Elt F) arg4.view (Rect.unit ![0, 0, 0] S1x1x2048.size inb_S1x1x2048_S1x1x2048_0_0_0).toLoadRect B4 = b4)
    (h6 : View.readAt (Elt F) arg6.view (Rect.unit ![0, 0, 0] S1x1x1024.size inb_S1x1x1024_S1x1x1024_0_0_0).toLoadRect B6 = b6)
    (hG : ∀ n, stN i v23 ≤ n → n < enN v1 → ∀ j t h l, (yBlk (Ring.bk 159 n)).view.read (Elt F) G (ix2 (prow j t h) l) = moeBlk ((xBlk (Ring.bk 159 n)).view.read (Elt F) X) w10 w11 b4 b6 j t h l)
    (A10 : Buf (Elt F) (wgM.view.loc (c : Thread nD τ))) (A11 : Buf (Elt F) (wdM.view.loc (c : Thread nD τ)))
    (W)
    (Q : (Σ' (v43 : Elt F .i32) (k0_hw2 : k0_chk2 i v1 v23 v43) (v60 : BitVec 32), BitVec 1) → sProp 𝕄)
    (hi : Scalar.cmpi .ne (Scalar.extui (Scalar.andi (Scalar.cmpi .eq (BitVec.ofNat 32 (i 0).val) 0#32) (Scalar.cmpi .sgt (fdiv v43) 0#32)) : BitVec 32) 0#32 ≠ 1#1)
    (hl : Scalar.cmpi .ne (Scalar.extui (Scalar.cmpi .sgt (Scalar.subi (fdiv v1) (startW i v23)) 0#32) : BitVec 32) 0#32 ≠ 1#1)
    (htr : (k0_t1_loop i v1 v23).trips = 0) (hpos : stN i v23 = enN v1)  :
    iprop(holdT c arg1 T ∗ owes (c : Thread nD τ) 0 W ∗ StR c X G (enN v43) (stN i v23)
      ∗ hold c arg3 B3 ∗ hold c arg4 B4 ∗ hold c arg5 B5 ∗ hold c arg6 B6 ∗ hold c wgM A10 ∗ hold c wdM A11
      ∗ (holdT c arg1 T ∗ St c X G (enN v43) (enN v1) ∗ hold c arg3 B3 ∗ hold c arg4 B4 ∗ hold c arg5 B5 ∗ hold c arg6 B6
        ∗ (∃ A, hold c wgM A) ∗ (∃ A, hold c wdM A) -∗ Q ⟨v43, hw2, fdiv v43, Scalar.cmpi .eq (BitVec.ofNat 32 (i 0).val) 31#32⟩))
    ⊢ wp frame (wpE (defs₀ (F := F)) 𝒱₀ (c : Thread nD τ) none) Set.univ
      (part12G i arg1 harg1 arg3 harg3 arg4 harg4 arg5 harg5 arg6 harg6 (BitVec.ofNat 32 (i 0).val) v1 (fdiv v1)
        (Scalar.cmpi .eq (BitVec.ofNat 32 (i 0).val) 0#32) v23 hw1 (Scalar.divsi v23 512#32) (fcond v23) (Scalar.subi (Scalar.divsi v23 512#32) 1#32)) Q := by
  iintro ⟨H1, HW, HS, H3, H4, H5, H6, H10, H11, HQ⟩
  dsimp only [part12G]
  sl_unfold [k0_part12]
  sl_exec
  have e1 : part12_nn.sl.r c arg1 T = v43 := hv43 _
  irw [e1]
  sl_exec
  have e2 : part12_nn.sl.v60 v43 = fdiv v43 := rfl
  irw [e2]
  sl_step
  unfold part12_nn.sl.v74
  iapply HQ
  isplitl [H1]; · iexact H1
  isplitl [HW HS]
  · rw [← hpos, St_eq]
    isplitl [HW]; · iexists W; iexact HW
    iexact HS
  isplitl [H3]; · iexact H3
  isplitl [H4]; · iexact H4
  isplitl [H5]; · iexact H5
  isplitl [H6]; · iexact H6
  isplitl [H10]; · iexists _; iexact H10
  iexists _; iexact H11

section
theorem issue_iff (i : grid0.Coords) (v43 : BitVec 32) (hu : enN v43 ≤ 159) :
    Scalar.cmpi .ne (Scalar.extui (Scalar.andi (Scalar.cmpi .eq (BitVec.ofNat 32 (i 0).val) 0#32) (Scalar.cmpi .sgt (fdiv v43) 0#32)) : BitVec 32) 0#32 = 1#1
      ↔ (i 0).val = 0 ∧ 0 < enN v43 := by
  have h0 : ∀ n : Fin 32, Scalar.cmpi .eq (BitVec.ofNat 32 n.val) 0#32 = 1#1 ↔ n.val = 0 := by decide
  rw [ite_ne, and_iff, sgt_iff _ _ (show enN v43 < _ by omega) (by decide)]
  exact and_congr (h0 (i 0)) Iff.rfl

theorem load_iff {i : grid0.Coords} {v1 v23 : BitVec 32} (h : Ok i v1 v23) :
    Scalar.cmpi .ne (Scalar.extui (Scalar.cmpi .sgt (Scalar.subi (fdiv v1) (startW i v23)) 0#32) : BitVec 32) 0#32 = 1#1 ↔ stN i v23 < enN v1 := by
  have h1 := h.le
  have h2 := h.ub
  have e : (Scalar.subi (fdiv v1) (startW i v23)).toNat = enN v1 - stN i v23 := subi_toNat _ _ (show stN i v23 ≤ enN v1 by omega)
  rw [ite_ne, sgt_iff _ _ (by omega) (by decide), e]
  show 0 < _ ↔ _
  omega

theorem stN_zero {i : grid0.Coords} (h : (i 0).val = 0) (v23 : BitVec 32) : stN i v23 = 0 := by
  unfold stN startW
  rw [h]
  rfl
end

theorem part12_run (T : Buf (Elt F) (arg1.view.loc (c : Thread nD τ))) (v1 v23 v43 : Elt F .i32)
    (hv43 : ∀ j, arg1.view.readAt (Elt F) (Rect.unit (s := S32) ![31] S1.size inb_S32_S1_31).toLoadRect T j = v43)
    (h : Ok i v1 v23) (hT : OkT v1 v43)
    (hw1 : k0_chk1 i v1 v23) (hw2 : k0_chk2 i v1 v23 v43)
    (B3 : Buf (Elt F) (arg3.view.loc (c : Thread nD τ))) (B5 : Buf (Elt F) (arg5.view.loc (c : Thread nD τ)))
    (B4 : Buf (Elt F) (arg4.view.loc (c : Thread nD τ))) (B6 : Buf (Elt F) (arg6.view.loc (c : Thread nD τ)))
    (w10 : Vec F S1024x2048 .bf16) (w11 : Vec F S1024x1024 .bf16) (b4 : Vec F S1x1x2048 .f32) (b6 : Vec F S1x1x1024 .f32)
    (h3 : k0_pay34 (View.readAt (Elt F) arg3.view (Rect.unit ![0, 0, 0] S1x1024x2048.size inb_S1x1024x2048_S1x1024x2048_0_0_0).toLoadRect B3) = w10)
    (h5 : k0_pay35 (View.readAt (Elt F) arg5.view (Rect.unit ![0, 0, 0] S1x1024x1024.size inb_S1x1024x1024_S1x1024x1024_0_0_0).toLoadRect B5) = w11)
    (h4 : View.readAt (Elt F) arg4.view (Rect.unit ![0, 0, 0] S1x1x2048.size inb_S1x1x2048_S1x1x2048_0_0_0).toLoadRect B4 = b4)
    (h6 : View.readAt (Elt F) arg6.view (Rect.unit ![0, 0, 0] S1x1x1024.size inb_S1x1x1024_S1x1x1024_0_0_0).toLoadRect B6 = b6)
    (hG : ∀ n, stN i v23 ≤ n → n < enN v1 → ∀ j t h l, (yBlk (Ring.bk 159 n)).view.read (Elt F) G (ix2 (prow j t h) l) = moeBlk ((xBlk (Ring.bk 159 n)).view.read (Elt F) X) w10 w11 b4 b6 j t h l)
    (A10 : Buf (Elt F) (wgM.view.loc (c : Thread nD τ))) (A11 : Buf (Elt F) (wdM.view.loc (c : Thread nD τ)))
    (W)
    (Q : (Σ' (v43 : Elt F .i32) (k0_hw2 : k0_chk2 i v1 v23 v43) (v60 : BitVec 32), BitVec 1) → sProp 𝕄) :
    iprop(holdT c arg1 T ∗ owes (c : Thread nD τ) 0 W ∗ StR c X G (if (i 0).val = 0 then 0 else enN v43) (stN i v23)
      ∗ hold c arg3 B3 ∗ hold c arg4 B4 ∗ hold c arg5 B5 ∗ hold c arg6 B6 ∗ hold c wgM A10 ∗ hold c wdM A11
      ∗ (holdT c arg1 T ∗ St c X G (enN v43) (enN v1) ∗ hold c arg3 B3 ∗ hold c arg4 B4 ∗ hold c arg5 B5 ∗ hold c arg6 B6
        ∗ (∃ A, hold c wgM A) ∗ (∃ A, hold c wdM A) -∗ Q ⟨v43, hw2, fdiv v43, Scalar.cmpi .eq (BitVec.ofNat 32 (i 0).val) 31#32⟩))
    ⊢ wp frame (wpE (defs₀ (F := F)) 𝒱₀ (c : Thread nD τ) none) Set.univ
      (part12G i arg1 harg1 arg3 harg3 arg4 harg4 arg5 harg5 arg6 harg6 (BitVec.ofNat 32 (i 0).val) v1 (fdiv v1)
        (Scalar.cmpi .eq (BitVec.ofNat 32 (i 0).val) 0#32) v23 hw1 (Scalar.divsi v23 512#32) (fcond v23) (Scalar.subi (Scalar.divsi v23 512#32) 1#32)) Q := by
  by_cases hl : stN i v23 < enN v1
  · have hl' := (load_iff h).2 hl
    by_cases hi : (i 0).val = 0 ∧ 0 < enN v43
    · rw [if_pos hi.1, stN_zero hi.1]
      exact part12_yy c i arg1 harg1 arg3 harg3 arg4 harg4 arg5 harg5 arg6 harg6 X G T v1 v23 v43 hv43 h hT hw1 hw2 B3 B5 B4 B6 w10 w11 b4 b6 h3 h5 h4 h6 hG A10 A11 W Q ((issue_iff i v43 hT.ub).2 hi) hl' trivial (stN_zero hi.1 _) hi.2
    · have e : (if (i 0).val = 0 then 0 else enN v43) = enN v43 := by split <;> omega
      rw [e]
      exact part12_ny c i arg1 harg1 arg3 harg3 arg4 harg4 arg5 harg5 arg6 harg6 X G T v1 v23 v43 hv43 h hT hw1 hw2 B3 B5 B4 B6 w10 w11 b4 b6 h3 h5 h4 h6 hG A10 A11 W Q (fun q => hi ((issue_iff i v43 hT.ub).1 q)) hl' trivial
  · have hl' : ¬ _ := fun q => hl ((load_iff h).1 q)
    have hs : stN i v23 = enN v1 := by have := h.le; omega
    have htr : (k0_t1_loop i v1 v23).trips = 0 := by rw [t1_trips h]; omega
    by_cases hi : (i 0).val = 0 ∧ 0 < enN v43
    · rw [if_pos hi.1, stN_zero hi.1]
      exact part12_yn c i arg1 harg1 arg3 harg3 arg4 harg4 arg5 harg5 arg6 harg6 X G T v1 v23 v43 hv43 h hT hw1 hw2 B3 B5 B4 B6 w10 w11 b4 b6 h3 h5 h4 h6 hG A10 A11 W Q ((issue_iff i v43 hT.ub).2 hi) hl' htr hs (stN_zero hi.1 _) hi.2
    · have e : (if (i 0).val = 0 then 0 else enN v43) = enN v43 := by split <;> omega
      rw [e]
      exact part12_nn c i arg1 harg1 arg3 harg3 arg4 harg4 arg5 harg5 arg6 harg6 X G T v1 v23 v43 hv43 h hT hw1 hw2 B3 B5 B4 B6 w10 w11 b4 b6 h3 h5 h4 h6 hG A10 A11 W Q (fun q => hi ((issue_iff i v43 hT.ub).1 q)) hl' htr hs

end Body
end MoeP
end
-- ==== Proof.MoeTail.lean ====
/-
  The end of the last expert's visit: the last two transfers out awaited, the blocks of nobody's rows filled
  with zeros.
-/
module

public import proofs.«01_k».proof.Proof.MoePart12
public import Idealize.ShloMosaic.Lib.LoopRemainder
public import Idealize.ShloMosaic.Lib.VecWindow
public import Idealize.ShloMosaic.Lib.Batch

@[expose] public section

set_option maxRecDepth 16384

noncomputable section

namespace MoeP

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Body
variable (c : Dev nD) (i : grid0.Coords)
  (arg1 : Memref sig .tc .smem S32 .i32) (harg1 : arg1.IsWhole)
  (arg3 : Memref sig .tc .vmem S1x1024x2048 .f32) (harg3 : arg3.IsWhole)
  (arg4 : Memref sig .tc .vmem S1x1x2048 .f32) (harg4 : arg4.IsWhole)
  (arg5 : Memref sig .tc .vmem S1x1024x1024 .f32) (harg5 : arg5.IsWhole)
  (arg6 : Memref sig .tc .vmem S1x1x1024 .f32) (harg6 : arg6.IsWhole)
  (X : Buf (Elt F) (xsM.view.loc (c : Thread nD τ))) (G : Buf (Elt F) (ysM.view.loc (c : Thread nD τ)))

/-! ## The fill as one batch of transfers from the zeros in slot 0 -/

section Fill
variable (E : ℕ)

/-- What slot 0 sends. -/
abbrev zP (Zc : Buf (Elt F) ((ySlot 0).view.loc (c : Thread nD τ))) : S4096x128.Idx → Elt F .bf16 := ReadAs.same.apply ((ySlot 0).view.read (Elt F) Zc)
/-- Slot 0 under read token `t`, and what is left of it under `m` tokens. -/
abbrev zTok (Zc : Buf (Elt F) ((ySlot 0).view.loc (c : Thread nD τ))) (t : ℕ) : sProp 𝕄 :=
  (ySlot 0).view.loc (c : Thread nD τ) ↦[(ySlot 0).view.set]{Transfers.shareTokN fullShare t} Zc
abbrev zRest (Zc : Buf (Elt F) ((ySlot 0).view.loc (c : Thread nD τ))) (m : ℕ) : sProp 𝕄 :=
  (ySlot 0).view.loc (c : Thread nD τ) ↦[(ySlot 0).view.set]{Transfers.shareDrop fullShare m} Zc
/-- Block `b` of the result, what slot 0 sends landed over anything. -/
abbrev zBlk (Zc : Buf (Elt F) ((ySlot 0).view.loc (c : Thread nD τ))) (b : Fin 159) : sProp 𝕄 :=
  iprop(∃ Y, (yBlk b).view.loc (c : Thread nD τ) ↦[(yBlk b).view.set]{fullShare} (yBlk b).view.writes (Elt F) Y [⟨Rect.whole S4096x128, zP c Zc⟩])
/-- What transfer `t` delivers. -/
abbrev zDel (Zc : Buf (Elt F) ((ySlot 0).view.loc (c : Thread nD τ))) (t : ℕ) : sProp 𝕄 := iprop(zBlk c Zc (Ring.bk 159 (E + t)) ∗ zTok c Zc t)
abbrev zD (T : ℕ) (Zc : Buf (Elt F) ((ySlot 0).view.loc (c : Thread nD τ))) : Fin T → sProp 𝕄 := fun t => zDel c E Zc t.val
abbrev zBatch (T : ℕ) (Zc : Buf (Elt F) ((ySlot 0).view.loc (c : Thread nD τ))) (j u : ℕ) : sProp 𝕄 :=
  Transfers.Batch countersEmb (c : Thread nD τ) (SemLoc.dma (outSm 0).sem) () NN (zD c E T Zc) j u
abbrev zToks (T : ℕ) (Zc : Buf (Elt F) ((ySlot 0).view.loc (c : Thread nD τ))) (a : ℕ) : sProp 𝕄 := bigSep (Ring.rangeSet T a T) fun t => zTok c Zc t.val
end Fill

variable (v1 : Elt F .i32) (hw3 : k0_chk3 i v1) (hc7 : k0_cond7 i = 1#1)

abbrev issueG := k0_t3_body (F := F) i arg1 harg1 xsM (Memref.isWhole_whole _) arg3 harg3 arg4 harg4 arg5 harg5 arg6 harg6 ysM (Memref.isWhole_whole _)
    xbM (Memref.isWhole_whole _) ybM (Memref.isWhole_whole _) wgM (Memref.isWhole_whole _) wdM (Memref.isWhole_whole _) cc0_scratch4 cc0_scratch5 v1 hw3 hc7
abbrev drainG := k0_t5_body (F := F) i arg1 harg1 xsM (Memref.isWhole_whole _) arg3 harg3 arg4 harg4 arg5 harg5 arg6 harg6 ysM (Memref.isWhole_whole _)
    xbM (Memref.isWhole_whole _) ybM (Memref.isWhole_whole _) wgM (Memref.isWhole_whole _) wdM (Memref.isWhole_whole _) cc0_scratch4 cc0_scratch5 v1 hw3 hc7

/-- Before trip `k` of the issue. -/
def issueAt (T : ℕ) (Zc : Buf (Elt F) ((ySlot 0).view.loc (c : Thread nD τ))) (k : ℕ) : sProp 𝕄 :=
  iprop(zBatch c (enN v1) T Zc k 0 ∗ yAny (F := F) c (enN v1 + k) 159 ∗ zToks c T Zc k)

set_option maxHeartbeats 4000000 in
theorem issue_step (he : enN v1 ≤ 159) (Zc : Buf (Elt F) ((ySlot 0).view.loc (c : Thread nD τ))) (k : Fin (k0_t3_loop v1).trips) :
    issueAt c v1 (k0_t3_loop v1).trips Zc k ⊢ wp frame (wpE (defs₀ (F := F)) 𝒱₀ (c : Thread nD τ) none) Set.univ
      (issueG i arg1 harg1 arg3 harg3 arg4 harg4 arg5 harg5 arg6 harg6 v1 hw3 hc7 k ()) (fun _ => issueAt c v1 (k0_t3_loop v1).trips Zc (k.val + 1)) := by
  have hk := k.isLt
  have hb := fill_lt he k
  unfold issueAt zToks
  rw [yAny_head c hb, Ring.bigSep_rangeSet_head (Φ := fun t => zTok c Zc t.val) (lo := k.val) (by omega) (by omega)]
  iintro ⟨HB, ⟨⟨%Y, HY⟩, HYs⟩, HZ, HZs⟩
  dsimp only [issueG]
  sl_unfold [k0_t3_body]
  sl_exec
  sl_step
  isplitl [HB]; · iexact HB
  isplitl [HYs]; · iexact HYs
  iexact HZs

/-- Before trip `k` of the wait. -/
def drainInv (T : ℕ) (Zc : Buf (Elt F) ((ySlot 0).view.loc (c : Thread nD τ))) (k : ℕ) : sProp 𝕄 :=
  iprop((∃ W, owes (c : Thread nD τ) 0 W)
    ∗ (if k < T then zBatch c (enN v1) T Zc T (k * NN)
       else iprop(cellOut c 0 ∗ bigSep Finset.univ (zD c (enN v1) T Zc))))

set_option maxHeartbeats 4000000 in
theorem drain_step (he : enN v1 ≤ 159) (Zc : Buf (Elt F) ((ySlot 0).view.loc (c : Thread nD τ)))
    (T : ℕ) (hT : (k0_t5_loop v1).trips = T) (k : Fin (k0_t5_loop v1).trips) :
    drainInv c v1 T Zc k ⊢ wp frame (wpE (defs₀ (F := F)) 𝒱₀ (c : Thread nD τ) none) Set.univ
      (drainG i arg1 harg1 arg3 harg3 arg4 harg4 arg5 harg5 arg6 harg6 v1 hw3 hc7 k ()) (fun _ => drainInv c v1 T Zc (k.val + 1)) := by
  have hk : k.val < T := lt_of_lt_of_eq k.isLt hT
  unfold drainInv
  simp only [if_pos hk]
  rcases Nat.lt_or_ge (k.val + 1) T with h1 | h1
  · simp only [if_pos h1]
    iintro ⟨⟨%W, HO⟩, HB⟩
    dsimp only [drainG]
    sl_unfold [k0_t5_body]
    have hu : k.val * NN + NN < NN * T := by
      have : (k.val + 1 + 1) * NN ≤ T * NN := Nat.mul_le_mul_right _ h1
      simp only [NN] at *; omega
    sl_exec
    sl_step
    isplitl [HO]; · iexists _; iexact HO
    rw [show (k.val + 1) * NN = k.val * NN + NN by simp only [NN]; omega]
    iexact HB
  · simp only [if_neg (Nat.not_lt.mpr h1)]
    have hu : k.val * NN + NN = NN * T := by
      have : k.val + 1 = T := by omega
      rw [← this]; simp only [NN]; omega
    iintro ⟨⟨%W, HO⟩, HB⟩
    dsimp only [drainG]
    sl_unfold [k0_t5_body]
    sl_exec
    sl_step
    isplitl [HO]; · iexists _; iexact HO
    isplitl [HB]; · iexact HB
    iexact HB_all

end Body
end MoeP
end
-- ==== Proof.MoeRun.lean ====
/-
  The kernel's body at one grid point.
-/
module

public import proofs.«01_k».proof.Proof.MoeTail
public import Idealize.ShloMosaic.Lib.LoopRemainder
public import Idealize.ShloMosaic.Lib.VecWindow
public import Idealize.ShloMosaic.Lib.Batch

@[expose] public section

set_option maxRecDepth 16384

noncomputable section

namespace MoeP

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Body
variable (c : Dev nD) (i : grid0.Coords)
  (arg1 : Memref sig .tc .smem S32 .i32) (harg1 : arg1.IsWhole)
  (arg3 : Memref sig .tc .vmem S1x1024x2048 .f32) (harg3 : arg3.IsWhole)
  (arg4 : Memref sig .tc .vmem S1x1x2048 .f32) (harg4 : arg4.IsWhole)
  (arg5 : Memref sig .tc .vmem S1x1024x1024 .f32) (harg5 : arg5.IsWhole)
  (arg6 : Memref sig .tc .vmem S1x1x1024 .f32) (harg6 : arg6.IsWhole)
  (X : Buf (Elt F) (xsM.view.loc (c : Thread nD τ))) (G : Buf (Elt F) (ysM.view.loc (c : Thread nD τ)))

abbrev bodyG := cc0_moe (F := F) i arg1 harg1 xsM (Memref.isWhole_whole _) arg3 harg3 arg4 harg4 arg5 harg5 arg6 harg6 ysM (Memref.isWhole_whole _)
    xbM (Memref.isWhole_whole _) ybM (Memref.isWhole_whole _) wgM (Memref.isWhole_whole _) wdM (Memref.isWhole_whole _) cc0_scratch4 cc0_scratch5

/-- What a visit finds and leaves beside the state of the blocks. -/
def Held (T : Buf (Elt F) (arg1.view.loc (c : Thread nD τ)))
    (B3 : Buf (Elt F) (arg3.view.loc (c : Thread nD τ))) (B5 : Buf (Elt F) (arg5.view.loc (c : Thread nD τ)))
    (B4 : Buf (Elt F) (arg4.view.loc (c : Thread nD τ))) (B6 : Buf (Elt F) (arg6.view.loc (c : Thread nD τ))) : sProp 𝕄 :=
  iprop(holdT c arg1 T ∗ hold c arg3 B3 ∗ hold c arg4 B4 ∗ hold c arg5 B5 ∗ hold c arg6 B6
        ∗ (∃ A, hold c wgM A) ∗ (∃ A, hold c wdM A))

set_option maxHeartbeats 4000000 in
theorem body_mid (T : Buf (Elt F) (arg1.view.loc (c : Thread nD τ))) (v1 v23 v43 : Elt F .i32)
    (hv1 : ∀ j, arg1.view.readAt (Elt F) (Rect.unit (s := S32) (k0_off1 i) S1.size (k0_off1_inb i)).toLoadRect T j = v1)
    (hv23 : ∀ j, arg1.view.readAt (Elt F) (Rect.unit (s := S32) (k0_off2 i) S1.size (k0_off2_inb i)).toLoadRect T j = v23)
    (hv43 : ∀ j, arg1.view.readAt (Elt F) (Rect.unit (s := S32) ![31] S1.size inb_S32_S1_31).toLoadRect T j = v43)
    (h : Ok i v1 v23) (hT : OkT v1 v43)
    (B3 : Buf (Elt F) (arg3.view.loc (c : Thread nD τ))) (B5 : Buf (Elt F) (arg5.view.loc (c : Thread nD τ)))
    (B4 : Buf (Elt F) (arg4.view.loc (c : Thread nD τ))) (B6 : Buf (Elt F) (arg6.view.loc (c : Thread nD τ)))
    (w10 : Vec F S1024x2048 .bf16) (w11 : Vec F S1024x1024 .bf16) (b4 : Vec F S1x1x2048 .f32) (b6 : Vec F S1x1x1024 .f32)
    (h3 : k0_pay34 (View.readAt (Elt F) arg3.view (Rect.unit ![0, 0, 0] S1x1024x2048.size inb_S1x1024x2048_S1x1024x2048_0_0_0).toLoadRect B3) = w10)
    (h5 : k0_pay35 (View.readAt (Elt F) arg5.view (Rect.unit ![0, 0, 0] S1x1024x1024.size inb_S1x1024x1024_S1x1024x1024_0_0_0).toLoadRect B5) = w11)
    (h4 : View.readAt (Elt F) arg4.view (Rect.unit ![0, 0, 0] S1x1x2048.size inb_S1x1x2048_S1x1x2048_0_0_0).toLoadRect B4 = b4)
    (h6 : View.readAt (Elt F) arg6.view (Rect.unit ![0, 0, 0] S1x1x1024.size inb_S1x1x1024_S1x1x1024_0_0_0).toLoadRect B6 = b6)
    (hG : ∀ n, stN i v23 ≤ n → n < enN v1 → ∀ j t h l, (yBlk (Ring.bk 159 n)).view.read (Elt F) G (ix2 (prow j t h) l) = moeBlk ((xBlk (Ring.bk 159 n)).view.read (Elt F) X) w10 w11 b4 b6 j t h l)
    (A10 : Buf (Elt F) (wgM.view.loc (c : Thread nD τ))) (A11 : Buf (Elt F) (wdM.view.loc (c : Thread nD τ)))
    (W)

    (hi : (i 0).val ≠ 31) (Q : PUnit → sProp 𝕄) :
    iprop(holdT c arg1 T ∗ owes (c : Thread nD τ) 0 W ∗ StR c X G (if (i 0).val = 0 then 0 else enN v43) (stN i v23)
      ∗ hold c arg3 B3 ∗ hold c arg4 B4 ∗ hold c arg5 B5 ∗ hold c arg6 B6 ∗ hold c wgM A10 ∗ hold c wdM A11
      ∗ (St c X G (enN v43) (enN v1) ∗ Held c arg1 arg3 arg4 arg5 arg6 T B3 B5 B4 B6 -∗ Q ⟨⟩))
    ⊢ wp frame (wpE (defs₀ (F := F)) 𝒱₀ (c : Thread nD τ) none) Set.univ (bodyG i arg1 harg1 arg3 harg3 arg4 harg4 arg5 harg5 arg6 harg6) Q := by
  have hw3 : k0_chk3 i v1 := chk3_holds h.ub i
  have hw1 : k0_chk1 i v1 v23 := chk1_holds h
  have hw2 : k0_chk2 i v1 v23 v43 := chk2_holds h hT
  iintro ⟨H1, HW, HS, H3, H4, H5, H6, H10, H11, HQ⟩
  dsimp only [bodyG]
  sl_unfold [cc0_moe]
  unfold cc0_moe_skel
  irw [wp_bind]
  iapply (part11_run c i arg1 harg1 arg3 harg3 arg4 harg4 arg5 harg5 arg6 harg6 T W v1 v23 hv1 hv23 hw3 hw1)
  isplitl [H1]; · iexact H1
  isplitl [HW]; · iexact HW
  iintro ⟨H1, HW⟩
  irw [wp_bind]
  iapply (part12_run c i arg1 harg1 arg3 harg3 arg4 harg4 arg5 harg5 arg6 harg6 X G T v1 v23 v43 hv43 h hT hw1 hw2 B3 B5 B4 B6 w10 w11 b4 b6 h3 h5 h4 h6 hG A10 A11 W)
  isplitl [H1]; · iexact H1
  isplitl [HW]; · iexact HW
  isplitl [HS]; · iexact HS
  isplitl [H3]; · iexact H3
  isplitl [H4]; · iexact H4
  isplitl [H5]; · iexact H5
  isplitl [H6]; · iexact H6
  isplitl [H10]; · iexact H10
  isplitl [H11]; · iexact H11
  iintro ⟨H1, HS, H3, H4, H5, H6, H10, H11⟩
  have hc7 : ¬ k0_cond7 i = 1#1 := fun q => hi ((cond7_iff i).1 q)
  sl_exec
  sl_step
  iapply HQ
  isplitl [HS]; · iexact HS
  unfold Held
  isplitl [H1]; · iexact H1
  isplitl [H3]; · iexact H3
  isplitl [H4]; · iexact H4
  isplitl [H5]; · iexact H5
  isplitl [H6]; · iexact H6
  isplitl [H10]; · iexact H10
  iexact H11

end Body
end MoeP
end
-- ==== Proof.MoeLast.lean ====
/-
  The kernel's body at the last grid point: what the visits before leave under way is awaited, the blocks
  of nobody's rows are filled.
-/
module

public import proofs.«01_k».proof.Proof.MoeRun
public import Idealize.ShloMosaic.Lib.LoopRemainder
public import Idealize.ShloMosaic.Lib.VecWindow
public import Idealize.ShloMosaic.Lib.Batch

@[expose] public section

set_option maxRecDepth 16384

noncomputable section

namespace MoeP

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Body
variable (c : Dev nD) (i : grid0.Coords)
  (arg1 : Memref sig .tc .smem S32 .i32) (harg1 : arg1.IsWhole)
  (arg3 : Memref sig .tc .vmem S1x1024x2048 .f32) (harg3 : arg3.IsWhole)
  (arg4 : Memref sig .tc .vmem S1x1x2048 .f32) (harg4 : arg4.IsWhole)
  (arg5 : Memref sig .tc .vmem S1x1024x1024 .f32) (harg5 : arg5.IsWhole)
  (arg6 : Memref sig .tc .vmem S1x1x1024 .f32) (harg6 : arg6.IsWhole)
  (X : Buf (Elt F) (xsM.view.loc (c : Thread nD τ))) (G : Buf (Elt F) (ysM.view.loc (c : Thread nD τ)))

/-- Everything at rest: the rows in as they were, the rows out all landed. -/
def AtRest : sProp 𝕄 :=
  iprop((∃ W, owes (c : Thread nD τ) 0 W) ∗ xRange c X 0 159 ∗ (cellIn c 0 ∗ (∃ f, xSlotP (F := F) c 0 f) ∗ cellIn c 1 ∗ (∃ f, xSlotP (F := F) c 1 f))
    ∗ yRange c G 0 159 ∗ (cellOut c 0 ∗ (∃ f, ySlotP (F := F) c 0 f) ∗ cellOut c 1 ∗ (∃ f, ySlotP (F := F) c 1 f)))

/-- What the visits leave when no block is to come. -/
def XL (E : ℕ) : sProp 𝕄 := iprop(xRange c X 0 E ∗ inX c X E E ∗ freeX (F := F) c E)

theorem last_open2 {E : ℕ} (h2 : 2 ≤ E) (hE : E ≤ 159) : St c X G E E ⊢ iprop((∃ W, owes (c : Thread nD τ) 0 W) ∗ XL c X E
    ∗ yRange c G 0 (E - 2) ∗ (∃ g, gFlight c G (Ring.sl 2 (E - 2)) (Ring.bk 159 (E - 2)) g) ∗ (∃ g, gFlight c G (Ring.sl 2 (E - 1)) (Ring.bk 159 (E - 1)) g)
    ∗ yAny (F := F) c E 159) := by
  unfold St XL
  rw [outY_ge c G h2, outY_ge c G (show 2 ≤ E + 1 by omega), sl2_sub2 E h2, show E + 1 - 2 = E - 1 by omega,
    show Ring.sl 2 (E + 1) = Ring.sl 2 (E - 1) by rw [← sl2_sub2 (E + 1) (by omega), show E + 1 - 2 = E - 1 by omega]]
  iintro ⟨HW, Hx, Hi, Hf, Hy, Hg, Hg', Ha⟩
  isplitl [HW]; · iexact HW
  isplitl [Hx Hi Hf]
  · isplitl [Hx]; · iexact Hx
    isplitl [Hi]; · iexact Hi
    iexact Hf
  isplitl [Hy]; · iexact Hy
  isplitl [Hg]; · iexact Hg
  isplitl [Hg']; · iexact Hg'
  iexact Ha

theorem slot0_sub : (ybM.access (Rect.unit (s := S2x4096x128) ![0, 0, 0] S1x4096x128.size inb_S2x4096x128_S1x4096x128_0_0_0)).set ⊆ (ySlot 0).view.set := by
  unfold ySlot
  refine subset_of_eq ?_
  refine Eq.trans ?_ (View.set_reshape _ _).symm
  rfl

theorem two_slots (n : ℕ) : iprop((cellOut c (Ring.sl 2 n) ∗ (∃ f, ySlotP (F := F) c (Ring.sl 2 n) f)) ∗ (cellOut c (Ring.sl 2 (n + 1)) ∗ (∃ f, ySlotP (F := F) c (Ring.sl 2 (n + 1)) f)))
    ⊢ iprop(cellOut c 0 ∗ (∃ f, ySlotP (F := F) c 0 f) ∗ cellOut c 1 ∗ (∃ f, ySlotP (F := F) c 1 f)) := by
  rcases Nat.mod_two_eq_zero_or_one n with h | h
  · rw [show Ring.sl 2 n = 0 from Fin.ext h, show Ring.sl 2 (n + 1) = 1 from Fin.ext (by show (n + 1) % 2 = 1; omega)]
    iintro ⟨⟨H1, H2⟩, H3, H4⟩
    isplitl [H1]; · iexact H1
    isplitl [H2]; · iexact H2
    isplitl [H3]; · iexact H3
    iexact H4
  · rw [show Ring.sl 2 n = 1 from Fin.ext h, show Ring.sl 2 (n + 1) = 0 from Fin.ext (by show (n + 1) % 2 = 0; omega)]
    iintro ⟨⟨H1, H2⟩, H3, H4⟩
    isplitl [H3]; · iexact H3
    isplitl [H4]; · iexact H4
    isplitl [H1]; · iexact H1
    iexact H2

theorem two_slotsX (n : ℕ) : iprop((cellIn c (Ring.sl 2 n) ∗ (∃ f, xSlotP (F := F) c (Ring.sl 2 n) f)) ∗ (cellIn c (Ring.sl 2 (n + 1)) ∗ (∃ f, xSlotP (F := F) c (Ring.sl 2 (n + 1)) f)))
    ⊢ iprop(cellIn c 0 ∗ (∃ f, xSlotP (F := F) c 0 f) ∗ cellIn c 1 ∗ (∃ f, xSlotP (F := F) c 1 f)) := by
  rcases Nat.mod_two_eq_zero_or_one n with h | h
  · rw [show Ring.sl 2 n = 0 from Fin.ext h, show Ring.sl 2 (n + 1) = 1 from Fin.ext (by show (n + 1) % 2 = 1; omega)]
    iintro ⟨⟨H1, H2⟩, H3, H4⟩
    isplitl [H1]; · iexact H1
    isplitl [H2]; · iexact H2
    isplitl [H3]; · iexact H3
    iexact H4
  · rw [show Ring.sl 2 n = 1 from Fin.ext h, show Ring.sl 2 (n + 1) = 0 from Fin.ext (by show (n + 1) % 2 = 0; omega)]
    iintro ⟨⟨H1, H2⟩, H3, H4⟩
    isplitl [H3]; · iexact H3
    isplitl [H4]; · iexact H4
    isplitl [H1]; · iexact H1
    iexact H2

theorem XL_rest {E : ℕ} (hE : E ≤ 159) : XL c X E ⊢ iprop(xRange c X 0 159 ∗ (cellIn c 0 ∗ (∃ f, xSlotP (F := F) c 0 f) ∗ cellIn c 1 ∗ (∃ f, xSlotP (F := F) c 1 f))) := by
  unfold XL
  rw [inX_ge c X (lt_irrefl E), freeX_eq]
  iintro ⟨HL, ⟨Hc, Hs, HR⟩, HF⟩
  isplitl [HL HR]
  · unfold xRange
    rw [show Ring.rangeSet 159 0 159 = Ring.rangeSet 159 0 159 from rfl, Ring.bigSep_rangeSet_split (Nat.zero_le E) hE]
    isplitl [HL]; · iexact HL
    iexact HR
  · iapply (two_slotsX c E)
    isplitl [Hc Hs]
    · isplitl [Hc]; · iexact Hc
      iexact Hs
    iexact HF

theorem yRange_join {E : ℕ} (hE : E ≤ 159) : iprop(yRange c G 0 E ∗ yRange c G E 159) ⊢ yRange c G 0 159 := by
  unfold yRange
  rw [Ring.bigSep_rangeSet_split (NB := 159) (Nat.zero_le E) hE]

/-! ## The fill as a whole -/

section FillRun
variable (v1 : Elt F .i32) (hw3 : k0_chk3 i v1) (hc7 : k0_cond7 i = 1#1)
abbrev bodyT4 := k0_t4_body (F := F) i arg1 harg1 xsM (Memref.isWhole_whole _) arg3 harg3 arg4 harg4 arg5 harg5 arg6 harg6 ysM (Memref.isWhole_whole _)
    xbM (Memref.isWhole_whole _) ybM (Memref.isWhole_whole _) wgM (Memref.isWhole_whole _) wdM (Memref.isWhole_whole _) cc0_scratch4 cc0_scratch5 v1 hw3 hc7
abbrev bodyT6 := k0_t6_body (F := F) i arg1 harg1 xsM (Memref.isWhole_whole _) arg3 harg3 arg4 harg4 arg5 harg5 arg6 harg6 ysM (Memref.isWhole_whole _)
    xbM (Memref.isWhole_whole _) ybM (Memref.isWhole_whole _) wgM (Memref.isWhole_whole _) wdM (Memref.isWhole_whole _) cc0_scratch4 cc0_scratch5 v1 hw3 hc7

/-- The four loops of the fill: the issues (and their remainder), the waits (and theirs). -/
abbrev fillG : Prog (TpuEff nD τ sig (Elt F) Λ₀ .tc) PUnit := do
  Scf.Loop.for (k0_t3_loop v1) (k0_t3_ok i v1 hw3 hc7) ⟨⟩ (issueG (F := F) i arg1 harg1 arg3 harg3 arg4 harg4 arg5 harg5 arg6 harg6 v1 hw3 hc7)
  Scf.Loop.for (k0_t4_loop v1) (k0_t4_ok i v1 hw3 hc7) ⟨⟩ (bodyT4 (F := F) i arg1 harg1 arg3 harg3 arg4 harg4 arg5 harg5 arg6 harg6 v1 hw3 hc7)
  Scf.Loop.for (k0_t5_loop v1) (k0_t5_ok i v1 hw3 hc7) ⟨⟩ (drainG (F := F) i arg1 harg1 arg3 harg3 arg4 harg4 arg5 harg5 arg6 harg6 v1 hw3 hc7)
  Scf.Loop.for (k0_t6_loop v1) (k0_t6_ok i v1 hw3 hc7) ⟨⟩ (bodyT6 (F := F) i arg1 harg1 arg3 harg3 arg4 harg4 arg5 harg5 arg6 harg6 v1 hw3 hc7)
  pure ⟨⟩

theorem zBlk_home (Zc : Buf (Elt F) ((ySlot 0).view.loc (c : Thread nD τ))) (b : Fin 159)
    (hz : ∀ j t h l, zP c Zc (ix2 (prow j t h) l) = (yBlk b).view.read (Elt F) G (ix2 (prow j t h) l)) : zBlk c Zc b ⊢ yHome c G b := by
  unfold zBlk
  iintro ⟨%Y, H⟩
  irw [← yHome_of_pay c G Y b (zP c Zc) hz]
  iexact H

/-- The deliveries, all back: the blocks from `E` on hold zeros, the tokens are in hand. -/
theorem zDel_all {E T : ℕ} (hE : E + T = 159) (Zc : Buf (Elt F) ((ySlot 0).view.loc (c : Thread nD τ)))
    (hz : ∀ b : Fin 159, E ≤ b.val → ∀ j t h l, zP c Zc (ix2 (prow j t h) l) = (yBlk b).view.read (Elt F) G (ix2 (prow j t h) l)) :
    bigSep Finset.univ (zD c E T Zc) ⊢ iprop(yRange c G E 159 ∗ bigSep (Finset.range T) (fun t => zTok c Zc t)) := by
  have e1 : bigSep (Ring.rangeSet T 0 T) (zD c E T Zc) = bigSep (Finset.range (T - 0)) (zDel c E Zc) :=
    Ring.bigSep_rangeSet_eq_range (NB := T) (lo := 0) (hi := T) le_rfl (zDel c E Zc) (fun k hk => by show zDel c E Zc k = zDel c E Zc (0 + k); rw [Nat.zero_add])
  have e2 : bigSep (Ring.rangeSet 159 E 159) (fun b => yHome c G b) = bigSep (Finset.range (159 - E)) (fun t => yHome c G (Ring.bk 159 (E + t))) :=
    Ring.bigSep_rangeSet_eq_range (NB := 159) (lo := E) (hi := 159) le_rfl (fun t => yHome c G (Ring.bk 159 (E + t))) (fun k hk => by rw [bk_eq hk])
  rw [Nat.sub_zero, Ring.rangeSet_univ] at e1
  rw [show 159 - E = T by omega] at e2
  unfold yRange
  rw [e1, e2]
  refine (Entails.of_eq (BI.bigSep_sep _ _ _)).trans (sep_mono_left (BI.bigSep_mono fun t ht => ?_))
  have ht' := Finset.mem_range.1 ht
  exact zBlk_home c G Zc (Ring.bk 159 (E + t)) (hz _ (by rw [Ring.bk_val (by omega)]; omega))

set_option maxHeartbeats 4000000 in
theorem fill_run (he : enN v1 ≤ 159) (Zc : Buf (Elt F) ((ySlot 0).view.loc (c : Thread nD τ)))
    (hz : ∀ b : Fin 159, enN v1 ≤ b.val → ∀ j t h l, zP c Zc (ix2 (prow j t h) l) = (yBlk b).view.read (Elt F) G (ix2 (prow j t h) l))
    (W) (Q : PUnit → sProp 𝕄) :
    iprop(owes (c : Thread nD τ) 0 W ∗ cellOut c 0 ∗ ySlotP c 0 Zc ∗ yAny (F := F) c (enN v1) 159
      ∗ (((∃ W, owes (c : Thread nD τ) 0 W) ∗ cellOut c 0 ∗ (∃ f, ySlotP (F := F) c 0 f) ∗ yRange c G (enN v1) 159) -∗ Q ⟨⟩))
    ⊢ wp frame (wpE (defs₀ (F := F)) 𝒱₀ (c : Thread nD τ) none) Set.univ
      (fillG i arg1 harg1 arg3 harg3 arg4 harg4 arg5 harg5 arg6 harg6 v1 hw3 hc7) Q := by
  obtain ⟨T, hT⟩ : ∃ T, enN v1 + T = 159 := ⟨159 - enN v1, by omega⟩
  have hT3 : (k0_t3_loop v1).trips = T := (t3_trips (v1 := v1) he).trans (by omega)
  have hT5 : (k0_t5_loop v1).trips = T := (t5_trips (v1 := v1) he).trans (by omega)
  have hT3' : Scf.trips (k0_t3_loop v1).lb (k0_t3_loop v1).ub (k0_t3_loop v1).st = T := hT3
  iintro ⟨HW, Hc, HS, HA, HQ⟩
  dsimp only [fillG]
  rcases Nat.eq_zero_or_pos T with h0 | hpos
  · have htr3 : (k0_t3_loop v1).trips = 0 := hT3.trans h0
    have htr5 : (k0_t5_loop v1).trips = 0 := hT5.trans h0
    have e9 : enN v1 = 159 := by omega
    sl_exec
    sl_step
    iapply HQ
    isplitl [HW]; · iexists _; iexact HW
    isplitl [Hc]; · iexact Hc
    isplitl [HS]; · iexists _; iexact HS
    rw [e9]
    iapply (show yAny (F := F) c 159 159 ⊢ yRange c G 159 159 from by
      unfold yAny yRange
      rw [Ring.rangeSet_empty le_rfl]
      exact .rfl)
    iexact HA
  · ihave HZ' := (Transfers.pointsTo_toks_range fullShare (k0_t3_loop v1).trips).1 $$ HS
    icases HZ' with ⟨HZrest, HZt⟩
    ihave HZt' := (Entails.of_eq (Ring.bigSep_rangeSet_eq_range (NB := (k0_t3_loop v1).trips) (lo := 0) (hi := (k0_t3_loop v1).trips)
      (Φ := fun t => zTok c Zc t.val) le_rfl (fun t => zTok c Zc t) (fun k hk => by show zTok c Zc k = zTok c Zc (0 + k); rw [Nat.zero_add])).symm) $$ HZt
    imod (Transfers.batch_alloc' (Lvl := ℕ) countersEmb (c : Thread nD τ) () NN (zD c (enN v1) (k0_t3_loop v1).trips Zc) (sm := SemLoc.dma (outSm 0).sem) (E := Set.univ)) $$ Hc with HB
    sl_for (fun k _ => issueAt c v1 (k0_t3_loop v1).trips Zc k) $$ [HB HA HZt']
    · intro k acc; exact issue_step c i arg1 harg1 arg3 harg3 arg4 harg4 arg5 harg5 arg6 harg6 v1 hw3 hc7 he Zc k
    · unfold issueAt
      isplitl [HB]; · iexact HB
      isplitl [HA]; · iexact HA
      iexact HZt'
    iintro %acc HL
    unfold issueAt
    icases HL with ⟨HB, -, -⟩
    sl_exec
    rw [hT3', hT3]
    sl_for (fun k _ => drainInv c v1 T Zc k) $$ [HB HW]
    · intro k acc; exact drain_step c i arg1 harg1 arg3 harg3 arg4 harg4 arg5 harg5 arg6 harg6 v1 hw3 hc7 he Zc T hT5 k
    · unfold drainInv
      rw [if_pos hpos]
      isplitl [HW]; · iexists _; iexact HW
      rw [show 0 * NN = 0 from rfl]
      iexact HB
    iintro %acc HL
    have hT5' : Scf.trips (k0_t5_loop v1).lb (k0_t5_loop v1).ub (k0_t5_loop v1).st = T := hT5
    rw [hT5']
    ihave HL' := (show drainInv c v1 T Zc T ⊢ iprop((∃ W, owes (c : Thread nD τ) 0 W) ∗ cellOut c 0 ∗ bigSep Finset.univ (zD c (enN v1) T Zc)) from by
      unfold drainInv; rw [if_neg (Nat.lt_irrefl _)]) $$ HL
    icases HL' with ⟨⟨%W', HW⟩, Hc, Hall⟩
    sl_exec
    sl_step
    ihave Hd := (zDel_all c G hT Zc hz) $$ Hall
    icases Hd with ⟨HR, HZt⟩
    iapply HQ
    isplitl [HW]; · iexists _; iexact HW
    isplitl [Hc]; · iexact Hc
    isplitl [HZrest HZt]
    · iexists Zc
      iapply (Transfers.pointsTo_toks_range fullShare T).2
      isplitl [HZrest]; · iexact HZrest
      iexact HZt
    iexact HR
end FillRun

/-- Slot 0 after the store of the zeros. -/
def zSlot (f0 : Buf (Elt F) ((ySlot 0).view.loc (c : Thread nD τ))) : Buf (Elt F) ((ySlot 0).view.loc (c : Thread nD τ)) :=
  ybM.view.writes (Elt F) f0 [⟨Rect.unit (s := S2x4096x128) ![0, 0, 0] S1x4096x128.size inb_S2x4096x128_S1x4096x128_0_0_0, k0_pay1 (F := F)⟩]

theorem zP_zero (f0 : Buf (Elt F) ((ySlot 0).view.loc (c : Thread nD τ))) (y : S4096x128.Idx) : zP c (zSlot c f0) y = Scalar.ofBits .bf16 0x0000#16 := by
  show (ySlot 0).view.read (Elt F) (zSlot c f0) y = _
  unfold ySlot zSlot
  exact (View.read_writes_cons_emb (v := ybM.view) f0 (Rect.unit (s := S2x4096x128) ![0, 0, 0] S1x4096x128.size inb_S2x4096x128_S1x4096x128_0_0_0) (k0_pay1 (F := F)) [] (Shape.reshapeEquiv (s := S1x4096x128) (s' := S4096x128) (by decide) y)).trans rfl

section ZeroRun
variable (v1 : Elt F .i32) (hw3 : k0_chk3 i v1) (hc7 : k0_cond7 i = 1#1)

abbrev zeroG : Prog (TpuEff nD τ sig (Elt F) Λ₀ .tc) PUnit := do
  let v84 : Vec F S1x4096x128 .bf16 ← Prog.lift (.load ybM (Rect.unit (s := S2x4096x128) ![0, 0, 0] S1x4096x128.size inb_S2x4096x128_S1x4096x128_0_0_0).toLoadRect (View.loadsAt_vmem h_S1x4096x128))
  Prog.lift (.store ybM (Rect.unit (s := S2x4096x128) ![0, 0, 0] S1x4096x128.size inb_S2x4096x128_S1x4096x128_0_0_0) (k0_pay1 (F := F)) Finset.univ (View.stores_vmem h_S1x4096x128 ((Memref.isWhole_whole _).storeExact_slice rfl _ packedbf16_S2x4096x128_S1x4096x128_0_0_0) (fun _ => rfl)) (.inl rfl))
  fillG (F := F) i arg1 harg1 arg3 harg3 arg4 harg4 arg5 harg5 arg6 harg6 v1 hw3 hc7

set_option maxHeartbeats 4000000 in
theorem zero_run (he : enN v1 ≤ 159)
    (hz : ∀ b : Fin 159, enN v1 ≤ b.val → ∀ y, (yBlk b).view.read (Elt F) G y = Scalar.ofBits .bf16 0x0000#16)
    (W) (Q : PUnit → sProp 𝕄) :
    iprop(owes (c : Thread nD τ) 0 W ∗ XL c X (enN v1) ∗ yRange c G 0 (enN v1)
      ∗ (cellOut c 0 ∗ (∃ f, ySlotP (F := F) c 0 f) ∗ cellOut c 1 ∗ (∃ f, ySlotP (F := F) c 1 f))
      ∗ yAny (F := F) c (enN v1) 159 ∗ (AtRest c X G -∗ Q ⟨⟩))
    ⊢ wp frame (wpE (defs₀ (F := F)) 𝒱₀ (c : Thread nD τ) none) Set.univ
      (zeroG i arg1 harg1 arg3 harg3 arg4 harg4 arg5 harg5 arg6 harg6 v1 hw3 hc7) Q := by
  iintro ⟨HW, HX, HYR, ⟨HC0, ⟨%f0, HS0⟩, HC1, HS1⟩, HA, HQ⟩
  dsimp only [zeroG]
  have hsub := slot0_sub
  sl_exec
  iapply (fill_run c i arg1 harg1 arg3 harg3 arg4 harg4 arg5 harg5 arg6 harg6 G v1 hw3 hc7 he (zSlot c f0) (fun b hb j t h l => (zP_zero c f0 _).trans (hz b hb _).symm) W Q)
  isplitl [HW]; · iexact HW
  isplitl [HC0]; · iexact HC0
  isplitl [HS0]; · iexact HS0
  isplitl [HA]; · iexact HA
  iintro ⟨HW, HC0, HS0, HR⟩
  iapply HQ
  unfold AtRest
  isplitl [HW]; · iexact HW
  ihave HX' := (XL_rest c X he) $$ HX
  icases HX' with ⟨HX, HXs⟩
  isplitl [HX]; · iexact HX
  isplitl [HXs]; · iexact HXs
  isplitl [HYR HR]
  · iapply (yRange_join c G he)
    isplitl [HYR]; · iexact HYR
    iexact HR
  isplitl [HC0]; · iexact HC0
  isplitl [HS0]; · iexact HS0
  isplitl [HC1]; · iexact HC1
  iexact HS1
end ZeroRun

theorem last_open1 {E : ℕ} (hE : E = 1) : St c X G E E ⊢ iprop((∃ W, owes (c : Thread nD τ) 0 W) ∗ XL c X E
    ∗ yRange c G 0 0 ∗ (∃ g, gFlight c G (Ring.sl 2 (E - 1)) (Ring.bk 159 (E - 1)) g) ∗ (cellOut c (Ring.sl 2 1) ∗ ∃ g, ySlotP (F := F) c (Ring.sl 2 1) g)
    ∗ yAny (F := F) c E 159) := by
  subst hE
  unfold St XL
  rw [outY_lt c G (show ¬ 2 ≤ 1 by omega), outY_ge c G (show 2 ≤ 1 + 1 by omega), show Ring.sl 2 (1 + 1) = Ring.sl 2 0 from rfl]
  iintro ⟨HW, Hx, Hi, Hf, Hy, Hg, Hg', Ha⟩
  isplitl [HW]; · iexact HW
  isplitl [Hx Hi Hf]
  · isplitl [Hx]; · iexact Hx
    isplitl [Hi]; · iexact Hi
    iexact Hf
  isplitl [Hy]; · iexact Hy
  isplitl [Hg']; · iexact Hg'
  isplitl [Hg]; · iexact Hg
  iexact Ha

theorem last_open0 {E : ℕ} (hE : E = 0) : St c X G E E ⊢ iprop((∃ W, owes (c : Thread nD τ) 0 W) ∗ XL c X E
    ∗ yRange c G 0 E ∗ (cellOut c (Ring.sl 2 0) ∗ ∃ g, ySlotP (F := F) c (Ring.sl 2 0) g) ∗ (cellOut c (Ring.sl 2 1) ∗ ∃ g, ySlotP (F := F) c (Ring.sl 2 1) g)
    ∗ yAny (F := F) c E 159) := by
  subst hE
  unfold St XL
  rw [outY_lt c G (show ¬ 2 ≤ 0 by omega), outY_lt c G (show ¬ 2 ≤ 0 + 1 by omega)]
  iintro ⟨HW, Hx, Hi, Hf, Hy, Hg, Hg', Ha⟩
  isplitl [HW]; · iexact HW
  isplitl [Hx Hi Hf]
  · isplitl [Hx]; · iexact Hx
    isplitl [Hi]; · iexact Hi
    iexact Hf
  isplitl [Hy]; · iexact Hy
  isplitl [Hg]; · iexact Hg
  isplitl [Hg']; · iexact Hg'
  iexact Ha

set_option maxHeartbeats 4000000 in
theorem body_last2 (T : Buf (Elt F) (arg1.view.loc (c : Thread nD τ))) (v1 v23 v43 : Elt F .i32)
    (hv1 : ∀ j, arg1.view.readAt (Elt F) (Rect.unit (s := S32) (k0_off1 i) S1.size (k0_off1_inb i)).toLoadRect T j = v1)
    (hv23 : ∀ j, arg1.view.readAt (Elt F) (Rect.unit (s := S32) (k0_off2 i) S1.size (k0_off2_inb i)).toLoadRect T j = v23)
    (hv43 : ∀ j, arg1.view.readAt (Elt F) (Rect.unit (s := S32) ![31] S1.size inb_S32_S1_31).toLoadRect T j = v43)
    (h : Ok i v1 v23) (hT : OkT v1 v43)
    (B3 : Buf (Elt F) (arg3.view.loc (c : Thread nD τ))) (B5 : Buf (Elt F) (arg5.view.loc (c : Thread nD τ)))
    (B4 : Buf (Elt F) (arg4.view.loc (c : Thread nD τ))) (B6 : Buf (Elt F) (arg6.view.loc (c : Thread nD τ)))
    (w10 : Vec F S1024x2048 .bf16) (w11 : Vec F S1024x1024 .bf16) (b4 : Vec F S1x1x2048 .f32) (b6 : Vec F S1x1x1024 .f32)
    (h3 : k0_pay34 (View.readAt (Elt F) arg3.view (Rect.unit ![0, 0, 0] S1x1024x2048.size inb_S1x1024x2048_S1x1024x2048_0_0_0).toLoadRect B3) = w10)
    (h5 : k0_pay35 (View.readAt (Elt F) arg5.view (Rect.unit ![0, 0, 0] S1x1024x1024.size inb_S1x1024x1024_S1x1024x1024_0_0_0).toLoadRect B5) = w11)
    (h4 : View.readAt (Elt F) arg4.view (Rect.unit ![0, 0, 0] S1x1x2048.size inb_S1x1x2048_S1x1x2048_0_0_0).toLoadRect B4 = b4)
    (h6 : View.readAt (Elt F) arg6.view (Rect.unit ![0, 0, 0] S1x1x1024.size inb_S1x1x1024_S1x1x1024_0_0_0).toLoadRect B6 = b6)
    (hG : ∀ n, stN i v23 ≤ n → n < enN v1 → ∀ j t h l, (yBlk (Ring.bk 159 n)).view.read (Elt F) G (ix2 (prow j t h) l) = moeBlk ((xBlk (Ring.bk 159 n)).view.read (Elt F) X) w10 w11 b4 b6 j t h l)
    (A10 : Buf (Elt F) (wgM.view.loc (c : Thread nD τ))) (A11 : Buf (Elt F) (wdM.view.loc (c : Thread nD τ)))
    (W)

    (hi : (i 0).val = 31) (hv : v1 = v43) (hE : 2 ≤ enN v43)
    (hz : ∀ b : Fin 159, enN v43 ≤ b.val → ∀ y, (yBlk b).view.read (Elt F) G y = Scalar.ofBits .bf16 0x0000#16) (Q : PUnit → sProp 𝕄) :
    iprop(holdT c arg1 T ∗ owes (c : Thread nD τ) 0 W ∗ StR c X G (enN v43) (stN i v23)
      ∗ hold c arg3 B3 ∗ hold c arg4 B4 ∗ hold c arg5 B5 ∗ hold c arg6 B6 ∗ hold c wgM A10 ∗ hold c wdM A11
      ∗ (AtRest c X G ∗ Held c arg1 arg3 arg4 arg5 arg6 T B3 B5 B4 B6 -∗ Q ⟨⟩))
    ⊢ wp frame (wpE (defs₀ (F := F)) 𝒱₀ (c : Thread nD τ) none) Set.univ (bodyG i arg1 harg1 arg3 harg3 arg4 harg4 arg5 harg5 arg6 harg6) Q := by
  have hw3 : k0_chk3 i v1 := chk3_holds h.ub i
  have hw1 : k0_chk1 i v1 v23 := chk1_holds h
  have hw2 : k0_chk2 i v1 v23 v43 := chk2_holds h hT
  subst hv
  iintro ⟨H1, HW, HS, H3, H4, H5, H6, H10, H11, HQ⟩
  dsimp only [bodyG]
  sl_unfold [cc0_moe]
  unfold cc0_moe_skel
  irw [wp_bind]
  iapply (part11_run c i arg1 harg1 arg3 harg3 arg4 harg4 arg5 harg5 arg6 harg6 T W v1 v23 hv1 hv23 hw3 hw1)
  isplitl [H1]; · iexact H1
  isplitl [HW]; · iexact HW
  iintro ⟨H1, HW⟩
  irw [wp_bind]
  iapply (part12_run c i arg1 harg1 arg3 harg3 arg4 harg4 arg5 harg5 arg6 harg6 X G T v1 v23 v1 hv43 h hT hw1 hw2 B3 B5 B4 B6 w10 w11 b4 b6 h3 h5 h4 h6 hG A10 A11 W)
  isplitl [H1]; · iexact H1
  isplitl [HW]; · iexact HW
  isplitl [HS]; · rw [if_neg (show ¬ (i 0).val = 0 by omega)]; iexact HS
  isplitl [H3]; · iexact H3
  isplitl [H4]; · iexact H4
  isplitl [H5]; · iexact H5
  isplitl [H6]; · iexact H6
  isplitl [H10]; · iexact H10
  isplitl [H11]; · iexact H11
  iintro ⟨H1, HS, H3, H4, H5, H6, H10, H11⟩
  have hc7 : k0_cond7 i = 1#1 := (cond7_iff i).2 hi
  have hc8 : k0_cond8 v1 = 1#1 := (cond8_iff hT.ub).2 hE
  have hc9 : k0_cond9 v1 = 1#1 := (cond9_iff hT.ub).2 (by omega)
  have h1E : 1 ≤ enN v1 := by omega
  have hub := hT.ub
  ihave HS' := (last_open2 c X G hE hT.ub) $$ HS
  icases HS' with ⟨⟨%W', HW⟩, HX, HY, ⟨%g, Hf⟩, ⟨%g', Hf'⟩, HA⟩
  sl_exec
  ihave HS0 := (two_slots (F := F) c (enN v1 - 2)) $$ [Hf Hf_src Hf' Hf'_src]
  · isplitl [Hf Hf_src]
    · isplitl [Hf]; · iexact Hf
      iexists _; iexact Hf_src
    rw [show enN v1 - 2 + 1 = enN v1 - 1 by omega]
    isplitl [Hf']; · iexact Hf'
    iexists _; iexact Hf'_src
  ihave HYR := (show iprop(yHome c G (Ring.bk 159 (enN v1 - 1)) ∗ yHome c G (Ring.bk 159 (enN v1 - 2)) ∗ yRange c G 0 (enN v1 - 2)) ⊢ yRange c G 0 (enN v1) from by
    rw [← yRange_last c G (show enN v1 - 2 < 159 by omega), show enN v1 - 2 + 1 = enN v1 - 1 by omega, ← yRange_last c G (show enN v1 - 1 < 159 by omega), show enN v1 - 1 + 1 = enN v1 by omega]) $$ [Hf'_dst Hf_dst HY]
  · isplitl [Hf'_dst]; · iexact Hf'_dst
    isplitl [Hf_dst]; · iexact Hf_dst
    iexact HY
  iapply (zero_run c i arg1 harg1 arg3 harg3 arg4 harg4 arg5 harg5 arg6 harg6 X G v1 hw3 hc7 hT.ub hz _ Q)
  isplitl [HW]; · iexact HW
  isplitl [HX]; · iexact HX
  isplitl [HYR]; · iexact HYR
  isplitl [HS0]; · iexact HS0
  isplitl [HA]; · iexact HA
  iintro HR
  iapply HQ
  isplitl [HR]; · iexact HR
  unfold Held
  isplitl [H1]; · iexact H1
  isplitl [H3]; · iexact H3
  isplitl [H4]; · iexact H4
  isplitl [H5]; · iexact H5
  isplitl [H6]; · iexact H6
  isplitl [H10]; · iexact H10
  iexact H11

set_option maxHeartbeats 4000000 in
theorem body_last1 (T : Buf (Elt F) (arg1.view.loc (c : Thread nD τ))) (v1 v23 v43 : Elt F .i32)
    (hv1 : ∀ j, arg1.view.readAt (Elt F) (Rect.unit (s := S32) (k0_off1 i) S1.size (k0_off1_inb i)).toLoadRect T j = v1)
    (hv23 : ∀ j, arg1.view.readAt (Elt F) (Rect.unit (s := S32) (k0_off2 i) S1.size (k0_off2_inb i)).toLoadRect T j = v23)
    (hv43 : ∀ j, arg1.view.readAt (Elt F) (Rect.unit (s := S32) ![31] S1.size inb_S32_S1_31).toLoadRect T j = v43)
    (h : Ok i v1 v23) (hT : OkT v1 v43)
    (B3 : Buf (Elt F) (arg3.view.loc (c : Thread nD τ))) (B5 : Buf (Elt F) (arg5.view.loc (c : Thread nD τ)))
    (B4 : Buf (Elt F) (arg4.view.loc (c : Thread nD τ))) (B6 : Buf (Elt F) (arg6.view.loc (c : Thread nD τ)))
    (w10 : Vec F S1024x2048 .bf16) (w11 : Vec F S1024x1024 .bf16) (b4 : Vec F S1x1x2048 .f32) (b6 : Vec F S1x1x1024 .f32)
    (h3 : k0_pay34 (View.readAt (Elt F) arg3.view (Rect.unit ![0, 0, 0] S1x1024x2048.size inb_S1x1024x2048_S1x1024x2048_0_0_0).toLoadRect B3) = w10)
    (h5 : k0_pay35 (View.readAt (Elt F) arg5.view (Rect.unit ![0, 0, 0] S1x1024x1024.size inb_S1x1024x1024_S1x1024x1024_0_0_0).toLoadRect B5) = w11)
    (h4 : View.readAt (Elt F) arg4.view (Rect.unit ![0, 0, 0] S1x1x2048.size inb_S1x1x2048_S1x1x2048_0_0_0).toLoadRect B4 = b4)
    (h6 : View.readAt (Elt F) arg6.view (Rect.unit ![0, 0, 0] S1x1x1024.size inb_S1x1x1024_S1x1x1024_0_0_0).toLoadRect B6 = b6)
    (hG : ∀ n, stN i v23 ≤ n → n < enN v1 → ∀ j t h l, (yBlk (Ring.bk 159 n)).view.read (Elt F) G (ix2 (prow j t h) l) = moeBlk ((xBlk (Ring.bk 159 n)).view.read (Elt F) X) w10 w11 b4 b6 j t h l)
    (A10 : Buf (Elt F) (wgM.view.loc (c : Thread nD τ))) (A11 : Buf (Elt F) (wdM.view.loc (c : Thread nD τ)))
    (W)

    (hi : (i 0).val = 31) (hv : v1 = v43) (hE : enN v43 = 1)
    (hz : ∀ b : Fin 159, enN v43 ≤ b.val → ∀ y, (yBlk b).view.read (Elt F) G y = Scalar.ofBits .bf16 0x0000#16) (Q : PUnit → sProp 𝕄) :
    iprop(holdT c arg1 T ∗ owes (c : Thread nD τ) 0 W ∗ StR c X G (enN v43) (stN i v23)
      ∗ hold c arg3 B3 ∗ hold c arg4 B4 ∗ hold c arg5 B5 ∗ hold c arg6 B6 ∗ hold c wgM A10 ∗ hold c wdM A11
      ∗ (AtRest c X G ∗ Held c arg1 arg3 arg4 arg5 arg6 T B3 B5 B4 B6 -∗ Q ⟨⟩))
    ⊢ wp frame (wpE (defs₀ (F := F)) 𝒱₀ (c : Thread nD τ) none) Set.univ (bodyG i arg1 harg1 arg3 harg3 arg4 harg4 arg5 harg5 arg6 harg6) Q := by
  have hw3 : k0_chk3 i v1 := chk3_holds h.ub i
  have hw1 : k0_chk1 i v1 v23 := chk1_holds h
  have hw2 : k0_chk2 i v1 v23 v43 := chk2_holds h hT
  subst hv
  iintro ⟨H1, HW, HS, H3, H4, H5, H6, H10, H11, HQ⟩
  dsimp only [bodyG]
  sl_unfold [cc0_moe]
  unfold cc0_moe_skel
  irw [wp_bind]
  iapply (part11_run c i arg1 harg1 arg3 harg3 arg4 harg4 arg5 harg5 arg6 harg6 T W v1 v23 hv1 hv23 hw3 hw1)
  isplitl [H1]; · iexact H1
  isplitl [HW]; · iexact HW
  iintro ⟨H1, HW⟩
  irw [wp_bind]
  iapply (part12_run c i arg1 harg1 arg3 harg3 arg4 harg4 arg5 harg5 arg6 harg6 X G T v1 v23 v1 hv43 h hT hw1 hw2 B3 B5 B4 B6 w10 w11 b4 b6 h3 h5 h4 h6 hG A10 A11 W)
  isplitl [H1]; · iexact H1
  isplitl [HW]; · iexact HW
  isplitl [HS]; · rw [if_neg (show ¬ (i 0).val = 0 by omega)]; iexact HS
  isplitl [H3]; · iexact H3
  isplitl [H4]; · iexact H4
  isplitl [H5]; · iexact H5
  isplitl [H6]; · iexact H6
  isplitl [H10]; · iexact H10
  isplitl [H11]; · iexact H11
  iintro ⟨H1, HS, H3, H4, H5, H6, H10, H11⟩
  have hc7 : k0_cond7 i = 1#1 := (cond7_iff i).2 hi
  have hc8 : ¬ k0_cond8 v1 = 1#1 := fun e => absurd ((cond8_iff hT.ub).1 e) (by omega)
  have hc9 : k0_cond9 v1 = 1#1 := (cond9_iff hT.ub).2 (by omega)
  have h1E : enN v1 = 1 := hE
  have hub := hT.ub
  have h1E' : enN v1 - 1 = 0 := by omega
  ihave HS' := (last_open1 c X G h1E) $$ HS
  icases HS' with ⟨⟨%W', HW⟩, HX, HY, ⟨%g, Hf⟩, ⟨HC1, HS1⟩, HA⟩
  sl_exec
  ihave HS0 := (show iprop((cellOut c (Ring.sl 2 (enN v1 - 1)) ∗ (∃ f, ySlotP (F := F) c (Ring.sl 2 (enN v1 - 1)) f)) ∗ (cellOut c (Ring.sl 2 1) ∗ (∃ f, ySlotP (F := F) c (Ring.sl 2 1) f)))
    ⊢ iprop(cellOut c 0 ∗ (∃ f, ySlotP (F := F) c 0 f) ∗ cellOut c 1 ∗ (∃ f, ySlotP (F := F) c 1 f)) from by rw [h1E']; exact two_slots (F := F) c 0) $$ [Hf Hf_src HC1 HS1]
  · isplitl [Hf Hf_src]
    · isplitl [Hf]; · iexact Hf
      iexists _; iexact Hf_src
    isplitl [HC1]; · iexact HC1
    iexact HS1
  ihave HYR := (show iprop(yHome c G (Ring.bk 159 (enN v1 - 1)) ∗ yRange c G 0 0) ⊢ yRange c G 0 (enN v1) from by
    rw [h1E', ← yRange_last c G (show 0 < 159 by omega), h1E]) $$ [Hf_dst HY]
  · isplitl [Hf_dst]; · iexact Hf_dst
    iexact HY
  iapply (zero_run c i arg1 harg1 arg3 harg3 arg4 harg4 arg5 harg5 arg6 harg6 X G v1 hw3 hc7 hT.ub hz _ Q)
  isplitl [HW]; · iexact HW
  isplitl [HX]; · iexact HX
  isplitl [HYR]; · iexact HYR
  isplitl [HS0]; · iexact HS0
  isplitl [HA]; · iexact HA
  iintro HR
  iapply HQ
  isplitl [HR]; · iexact HR
  unfold Held
  isplitl [H1]; · iexact H1
  isplitl [H3]; · iexact H3
  isplitl [H4]; · iexact H4
  isplitl [H5]; · iexact H5
  isplitl [H6]; · iexact H6
  isplitl [H10]; · iexact H10
  iexact H11

set_option maxHeartbeats 4000000 in
theorem body_last0 (T : Buf (Elt F) (arg1.view.loc (c : Thread nD τ))) (v1 v23 v43 : Elt F .i32)
    (hv1 : ∀ j, arg1.view.readAt (Elt F) (Rect.unit (s := S32) (k0_off1 i) S1.size (k0_off1_inb i)).toLoadRect T j = v1)
    (hv23 : ∀ j, arg1.view.readAt (Elt F) (Rect.unit (s := S32) (k0_off2 i) S1.size (k0_off2_inb i)).toLoadRect T j = v23)
    (hv43 : ∀ j, arg1.view.readAt (Elt F) (Rect.unit (s := S32) ![31] S1.size inb_S32_S1_31).toLoadRect T j = v43)
    (h : Ok i v1 v23) (hT : OkT v1 v43)
    (B3 : Buf (Elt F) (arg3.view.loc (c : Thread nD τ))) (B5 : Buf (Elt F) (arg5.view.loc (c : Thread nD τ)))
    (B4 : Buf (Elt F) (arg4.view.loc (c : Thread nD τ))) (B6 : Buf (Elt F) (arg6.view.loc (c : Thread nD τ)))
    (w10 : Vec F S1024x2048 .bf16) (w11 : Vec F S1024x1024 .bf16) (b4 : Vec F S1x1x2048 .f32) (b6 : Vec F S1x1x1024 .f32)
    (h3 : k0_pay34 (View.readAt (Elt F) arg3.view (Rect.unit ![0, 0, 0] S1x1024x2048.size inb_S1x1024x2048_S1x1024x2048_0_0_0).toLoadRect B3) = w10)
    (h5 : k0_pay35 (View.readAt (Elt F) arg5.view (Rect.unit ![0, 0, 0] S1x1024x1024.size inb_S1x1024x1024_S1x1024x1024_0_0_0).toLoadRect B5) = w11)
    (h4 : View.readAt (Elt F) arg4.view (Rect.unit ![0, 0, 0] S1x1x2048.size inb_S1x1x2048_S1x1x2048_0_0_0).toLoadRect B4 = b4)
    (h6 : View.readAt (Elt F) arg6.view (Rect.unit ![0, 0, 0] S1x1x1024.size inb_S1x1x1024_S1x1x1024_0_0_0).toLoadRect B6 = b6)
    (hG : ∀ n, stN i v23 ≤ n → n < enN v1 → ∀ j t h l, (yBlk (Ring.bk 159 n)).view.read (Elt F) G (ix2 (prow j t h) l) = moeBlk ((xBlk (Ring.bk 159 n)).view.read (Elt F) X) w10 w11 b4 b6 j t h l)
    (A10 : Buf (Elt F) (wgM.view.loc (c : Thread nD τ))) (A11 : Buf (Elt F) (wdM.view.loc (c : Thread nD τ)))
    (W)

    (hi : (i 0).val = 31) (hv : v1 = v43) (hE : enN v43 = 0)
    (hz : ∀ b : Fin 159, enN v43 ≤ b.val → ∀ y, (yBlk b).view.read (Elt F) G y = Scalar.ofBits .bf16 0x0000#16) (Q : PUnit → sProp 𝕄) :
    iprop(holdT c arg1 T ∗ owes (c : Thread nD τ) 0 W ∗ StR c X G (enN v43) (stN i v23)
      ∗ hold c arg3 B3 ∗ hold c arg4 B4 ∗ hold c arg5 B5 ∗ hold c arg6 B6 ∗ hold c wgM A10 ∗ hold c wdM A11
      ∗ (AtRest c X G ∗ Held c arg1 arg3 arg4 arg5 arg6 T B3 B5 B4 B6 -∗ Q ⟨⟩))
    ⊢ wp frame (wpE (defs₀ (F := F)) 𝒱₀ (c : Thread nD τ) none) Set.univ (bodyG i arg1 harg1 arg3 harg3 arg4 harg4 arg5 harg5 arg6 harg6) Q := by
  have hw3 : k0_chk3 i v1 := chk3_holds h.ub i
  have hw1 : k0_chk1 i v1 v23 := chk1_holds h
  have hw2 : k0_chk2 i v1 v23 v43 := chk2_holds h hT
  subst hv
  iintro ⟨H1, HW, HS, H3, H4, H5, H6, H10, H11, HQ⟩
  dsimp only [bodyG]
  sl_unfold [cc0_moe]
  unfold cc0_moe_skel
  irw [wp_bind]
  iapply (part11_run c i arg1 harg1 arg3 harg3 arg4 harg4 arg5 harg5 arg6 harg6 T W v1 v23 hv1 hv23 hw3 hw1)
  isplitl [H1]; · iexact H1
  isplitl [HW]; · iexact HW
  iintro ⟨H1, HW⟩
  irw [wp_bind]
  iapply (part12_run c i arg1 harg1 arg3 harg3 arg4 harg4 arg5 harg5 arg6 harg6 X G T v1 v23 v1 hv43 h hT hw1 hw2 B3 B5 B4 B6 w10 w11 b4 b6 h3 h5 h4 h6 hG A10 A11 W)
  isplitl [H1]; · iexact H1
  isplitl [HW]; · iexact HW
  isplitl [HS]; · rw [if_neg (show ¬ (i 0).val = 0 by omega)]; iexact HS
  isplitl [H3]; · iexact H3
  isplitl [H4]; · iexact H4
  isplitl [H5]; · iexact H5
  isplitl [H6]; · iexact H6
  isplitl [H10]; · iexact H10
  isplitl [H11]; · iexact H11
  iintro ⟨H1, HS, H3, H4, H5, H6, H10, H11⟩
  have hc7 : k0_cond7 i = 1#1 := (cond7_iff i).2 hi
  have hc8 : ¬ k0_cond8 v1 = 1#1 := fun e => absurd ((cond8_iff hT.ub).1 e) (by omega)
  have hc9 : ¬ k0_cond9 v1 = 1#1 := fun e => absurd ((cond9_iff hT.ub).1 e) (by omega)
  have h1E : enN v1 = 0 := hE
  have hub := hT.ub
  ihave HS' := (last_open0 c X G h1E) $$ HS
  icases HS' with ⟨⟨%W', HW⟩, HX, HYR, ⟨HC0, HS0⟩, ⟨HC1, HS1⟩, HA⟩
  sl_exec
  ihave HS0 := (two_slots (F := F) c 0) $$ [HC0 HS0 HC1 HS1]
  · isplitl [HC0 HS0]
    · isplitl [HC0]; · iexact HC0
      iexact HS0
    isplitl [HC1]; · iexact HC1
    iexact HS1
  iapply (zero_run c i arg1 harg1 arg3 harg3 arg4 harg4 arg5 harg5 arg6 harg6 X G v1 hw3 hc7 hT.ub hz _ Q)
  isplitl [HW]; · iexact HW
  isplitl [HX]; · iexact HX
  isplitl [HYR]; · iexact HYR
  isplitl [HS0]; · iexact HS0
  isplitl [HA]; · iexact HA
  iintro HR
  iapply HQ
  isplitl [HR]; · iexact HR
  unfold Held
  isplitl [H1]; · iexact H1
  isplitl [H3]; · iexact H3
  isplitl [H4]; · iexact H4
  isplitl [H5]; · iexact H5
  isplitl [H6]; · iexact H6
  isplitl [H10]; · iexact H10
  iexact H11

end Body
end MoeP
end
-- ==== Proof.MoeVisit.lean ====
/-
  One visit of the experts' kernel, whichever grid point it is at: the blocks of the expert's rows become the result's, and after the last
  expert everything is at rest.
-/
module

public import proofs.«01_k».proof.Proof.MoeLast
public import Idealize.ShloMosaic.Lib.Pointwise

@[expose] public section

set_option maxRecDepth 16384

noncomputable section

namespace MoeP

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## The table's words as counts of blocks -/

/-- The first block of expert `e`, and the block after its last. -/
def stB (p : Fin 32 → BitVec 32) (e : Fin 32) : ℕ := if e.val = 0 then 0 else enN (p ⟨e.val - 1, by omega⟩)
def enB (p : Fin 32 → BitVec 32) (e : Fin 32) : ℕ := enN (p e)

/-- The experts' rows follow each other and fit. -/
structure InOrder (p : Fin 32 → BitVec 32) : Prop where
  le : ∀ e, stB p e ≤ enB p e
  ub : enB p 31 ≤ 159

theorem InOrder.mono {p : Fin 32 → BitVec 32} (h : InOrder p) : ∀ (n : ℕ) (hn : n < 32) (k : ℕ) (hk : k ≤ n), enB p ⟨k, by omega⟩ ≤ enB p ⟨n, hn⟩
  | 0, hn, k, hk => by obtain rfl : k = 0 := by omega
                       exact le_rfl
  | n + 1, hn, k, hk => by
    rcases Nat.lt_or_ge k (n + 1) with q | q
    · refine le_trans (h.mono n (by omega) k (by omega)) ?_
      have := h.le ⟨n + 1, hn⟩
      unfold stB at this
      rw [if_neg (by simp)] at this
      exact this
    · obtain rfl : k = n + 1 := by omega
      exact le_rfl
theorem InOrder.le31 {p : Fin 32 → BitVec 32} (h : InOrder p) (e : Fin 32) : enB p e ≤ enB p 31 := h.mono 31 (by omega) e.val (by omega)
theorem InOrder.le159 {p : Fin 32 → BitVec 32} (h : InOrder p) (e : Fin 32) : enB p e ≤ 159 := le_trans (h.le31 e) h.ub
theorem InOrder.st_of_lt {p : Fin 32 → BitVec 32} (h : InOrder p) {e e' : Fin 32} (q : e < e') : enB p e ≤ stB p e' := by
  have q' : e.val < e'.val := q
  unfold stB; rw [if_neg (by omega)]
  exact h.mono (e'.val - 1) (by omega) e.val (by omega)
/-- A block has one expert. -/
theorem InOrder.unique {p : Fin 32 → BitVec 32} (h : InOrder p) {e e' : Fin 32} {n : ℕ} (h1 : stB p e ≤ n) (h2 : n < enB p e) (h1' : stB p e' ≤ n) (h2' : n < enB p e') : e = e' := by
  rcases lt_trichotomy e e' with q | q | q
  · have := h.st_of_lt q; omega
  · exact q
  · have := h.st_of_lt q; omega
theorem InOrder.exists {p : Fin 32 → BitVec 32} (h : InOrder p) {n : ℕ} (hn : n < enB p 31) : ∃ e, stB p e ≤ n ∧ n < enB p e := by
  classical
  have hex : ∃ k : ℕ, ∃ hk : k < 32, n < enB p ⟨k, hk⟩ := ⟨31, by omega, hn⟩
  obtain ⟨hk, h2⟩ := Nat.find_spec hex
  refine ⟨⟨Nat.find hex, hk⟩, ?_, h2⟩
  unfold stB
  split
  · exact Nat.zero_le _
  · rename_i q
    have q' : Nat.find hex ≠ 0 := q
    by_contra hc
    exact Nat.find_min hex (show Nat.find hex - 1 < Nat.find hex by omega) ⟨by omega, Nat.lt_of_not_le hc⟩

theorem stN_eq {i : grid0.Coords} {p : Fin 32 → BitVec 32} {e : Fin 32} (he : (i 0).val = e.val) : stN i (p ⟨e.val - 1, by omega⟩) = stB p e := by
  have H : ∀ (k : Fin 32), Scalar.cmpi .eq (BitVec.ofNat 32 k.val) 0#32 = if k.val = 0 then 1#1 else 0#1 := by decide
  unfold stN startW stB enN
  rw [he, H e]
  by_cases q : e.val = 0
  · rw [if_pos q, if_pos q]; rfl
  · rw [if_neg q, if_neg q]; rfl

section Visit
variable (c : Dev nD) (X : Buf (Elt F) (xsM.view.loc (c : Thread nD τ))) (G : Buf (Elt F) (ysM.view.loc (c : Thread nD τ)))

/-- Everything at rest, but for what the core owes. -/
def Rest : sProp 𝕄 :=
  iprop(xRange c X 0 159 ∗ (cellIn c 0 ∗ (∃ f, xSlotP (F := F) c 0 f) ∗ cellIn c 1 ∗ (∃ f, xSlotP (F := F) c 1 f))
    ∗ yRange c G 0 159 ∗ (cellOut c 0 ∗ (∃ f, ySlotP (F := F) c 0 f) ∗ cellOut c 1 ∗ (∃ f, ySlotP (F := F) c 1 f)))
theorem atRest_eq : AtRest c X G = iprop((∃ W, owes (c : Thread nD τ) 0 W) ∗ Rest c X G) := rfl

/-- Before visit `n`, and after the last. -/
def stage (p : Fin 32 → BitVec 32) (n : ℕ) : sProp 𝕄 :=
  if n = 0 then StR c X G 0 0 else if h : n < 32 then StR c X G (enB p 31) (enB p ⟨n - 1, by omega⟩) else Rest c X G

theorem stage_zero (p : Fin 32 → BitVec 32) : stage c X G p 0 = StR c X G 0 0 := if_pos rfl
theorem stage_last (p : Fin 32 → BitVec 32) : stage c X G p 32 = Rest c X G := by
  unfold stage; rw [if_neg (by omega), dif_neg (by omega)]
theorem stage_mid (p : Fin 32 → BitVec 32) (e : Fin 32) (h : e.val + 1 < 32) : stage c X G p (e.val + 1) = StR c X G (enB p 31) (enB p e) := by
  unfold stage; rw [if_neg (by omega), dif_pos h]; rfl
theorem stage_in (p : Fin 32 → BitVec 32) (e : Fin 32) : stage c X G p e.val = StR c X G (if e.val = 0 then 0 else enB p 31) (stB p e) := by
  unfold stage stB
  by_cases q : e.val = 0
  · simp only [if_pos q]
  · simp only [if_neg q]; rw [dif_pos e.isLt]; rfl

variable (i : grid0.Coords)
  (arg1 : Memref sig .tc .smem S32 .i32) (harg1 : arg1.IsWhole)
  (arg3 : Memref sig .tc .vmem S1x1024x2048 .f32) (harg3 : arg3.IsWhole)
  (arg4 : Memref sig .tc .vmem S1x1x2048 .f32) (harg4 : arg4.IsWhole)
  (arg5 : Memref sig .tc .vmem S1x1024x1024 .f32) (harg5 : arg5.IsWhole)
  (arg6 : Memref sig .tc .vmem S1x1x1024 .f32) (harg6 : arg6.IsWhole)

/-- One visit. -/
theorem visit (T : Buf (Elt F) (arg1.view.loc (c : Thread nD τ))) (p : Fin 32 → BitVec 32) (hp : InOrder p) (e : Fin 32) (he : (i 0).val = e.val)
    (hv1 : ∀ j, arg1.view.readAt (Elt F) (Rect.unit (s := S32) (k0_off1 i) S1.size (k0_off1_inb i)).toLoadRect T j = p e)
    (hv23 : ∀ j, arg1.view.readAt (Elt F) (Rect.unit (s := S32) (k0_off2 i) S1.size (k0_off2_inb i)).toLoadRect T j = p ⟨e.val - 1, by omega⟩)
    (hv43 : ∀ j, arg1.view.readAt (Elt F) (Rect.unit (s := S32) ![31] S1.size inb_S32_S1_31).toLoadRect T j = p 31)
    (B3 : Buf (Elt F) (arg3.view.loc (c : Thread nD τ))) (B5 : Buf (Elt F) (arg5.view.loc (c : Thread nD τ)))
    (B4 : Buf (Elt F) (arg4.view.loc (c : Thread nD τ))) (B6 : Buf (Elt F) (arg6.view.loc (c : Thread nD τ)))
    (w10 : Vec F S1024x2048 .bf16) (w11 : Vec F S1024x1024 .bf16) (b4 : Vec F S1x1x2048 .f32) (b6 : Vec F S1x1x1024 .f32)
    (h3 : k0_pay34 (View.readAt (Elt F) arg3.view (Rect.unit ![0, 0, 0] S1x1024x2048.size inb_S1x1024x2048_S1x1024x2048_0_0_0).toLoadRect B3) = w10)
    (h5 : k0_pay35 (View.readAt (Elt F) arg5.view (Rect.unit ![0, 0, 0] S1x1024x1024.size inb_S1x1024x1024_S1x1024x1024_0_0_0).toLoadRect B5) = w11)
    (h4 : View.readAt (Elt F) arg4.view (Rect.unit ![0, 0, 0] S1x1x2048.size inb_S1x1x2048_S1x1x2048_0_0_0).toLoadRect B4 = b4)
    (h6 : View.readAt (Elt F) arg6.view (Rect.unit ![0, 0, 0] S1x1x1024.size inb_S1x1x1024_S1x1x1024_0_0_0).toLoadRect B6 = b6)
    (hG : ∀ n, stB p e ≤ n → n < enB p e → ∀ j t h l, (yBlk (Ring.bk 159 n)).view.read (Elt F) G (ix2 (prow j t h) l) = moeBlk ((xBlk (Ring.bk 159 n)).view.read (Elt F) X) w10 w11 b4 b6 j t h l)
    (hz : ∀ b : Fin 159, enB p 31 ≤ b.val → ∀ y, (yBlk b).view.read (Elt F) G y = Scalar.ofBits .bf16 0x0000#16)
    (A10 : Buf (Elt F) (wgM.view.loc (c : Thread nD τ))) (A11 : Buf (Elt F) (wdM.view.loc (c : Thread nD τ))) (W) (Q : PUnit → sProp 𝕄) :
    iprop(holdT c arg1 T ∗ owes (c : Thread nD τ) 0 W ∗ stage c X G p e.val
      ∗ hold c arg3 B3 ∗ hold c arg4 B4 ∗ hold c arg5 B5 ∗ hold c arg6 B6 ∗ hold c wgM A10 ∗ hold c wdM A11
      ∗ ((∃ W, owes (c : Thread nD τ) 0 W) ∗ stage c X G p (e.val + 1) ∗ Held c arg1 arg3 arg4 arg5 arg6 T B3 B5 B4 B6 -∗ Q ⟨⟩))
    ⊢ wp frame (wpE (defs₀ (F := F)) 𝒱₀ (c : Thread nD τ) none) Set.univ (bodyG i arg1 harg1 arg3 harg3 arg4 harg4 arg5 harg5 arg6 harg6) Q := by
  have hst : stN i (p ⟨e.val - 1, by omega⟩) = stB p e := stN_eq he
  have hok : Ok i (p e) (p ⟨e.val - 1, by omega⟩) := ⟨by rw [hst]; exact hp.le e, hp.le159 e⟩
  have hokT : OkT (p e) (p 31) := ⟨hp.le31 e, hp.ub⟩
  have hG' : ∀ n, stN i (p ⟨e.val - 1, by omega⟩) ≤ n → n < enN (p e) → ∀ j t h l, (yBlk (Ring.bk 159 n)).view.read (Elt F) G (ix2 (prow j t h) l) = moeBlk ((xBlk (Ring.bk 159 n)).view.read (Elt F) X) w10 w11 b4 b6 j t h l := by
    intro n a; rw [hst] at a; exact hG n a
  by_cases q : e.val = 31
  · have h31 : e = 31 := Fin.ext q
    have hi : (i 0).val = 31 := he.trans q
    have hin : stage c X G p e.val = StR c X G (enN (p 31)) (stN i (p ⟨e.val - 1, by omega⟩)) := by
      rw [stage_in, if_neg (by omega), hst]; rfl
    have hout : stage c X G p (e.val + 1) = Rest c X G := by rw [q]; exact stage_last c X G p
    rw [hin, hout]
    have hv : p e = p 31 := by rw [h31]
    have key : ∀ Q' : PUnit → sProp 𝕄, iprop(holdT c arg1 T ∗ owes (c : Thread nD τ) 0 W ∗ StR c X G (enN (p 31)) (stN i (p ⟨e.val - 1, by omega⟩))
        ∗ hold c arg3 B3 ∗ hold c arg4 B4 ∗ hold c arg5 B5 ∗ hold c arg6 B6 ∗ hold c wgM A10 ∗ hold c wdM A11
        ∗ (AtRest c X G ∗ Held c arg1 arg3 arg4 arg5 arg6 T B3 B5 B4 B6 -∗ Q' ⟨⟩))
      ⊢ wp frame (wpE (defs₀ (F := F)) 𝒱₀ (c : Thread nD τ) none) Set.univ (bodyG i arg1 harg1 arg3 harg3 arg4 harg4 arg5 harg5 arg6 harg6) Q' := by
      intro Q'
      rcases Nat.lt_or_ge (enN (p 31)) 2 with k | k
      · rcases Nat.lt_or_ge (enN (p 31)) 1 with k' | k'
        · exact body_last0 c i arg1 harg1 arg3 harg3 arg4 harg4 arg5 harg5 arg6 harg6 X G T (p e) (p ⟨e.val - 1, by omega⟩) (p 31) hv1 hv23 hv43 hok hokT B3 B5 B4 B6 w10 w11 b4 b6 h3 h5 h4 h6 hG' A10 A11 W hi hv (by omega) hz Q'
        · exact body_last1 c i arg1 harg1 arg3 harg3 arg4 harg4 arg5 harg5 arg6 harg6 X G T (p e) (p ⟨e.val - 1, by omega⟩) (p 31) hv1 hv23 hv43 hok hokT B3 B5 B4 B6 w10 w11 b4 b6 h3 h5 h4 h6 hG' A10 A11 W hi hv (by omega) hz Q'
      · exact body_last2 c i arg1 harg1 arg3 harg3 arg4 harg4 arg5 harg5 arg6 harg6 X G T (p e) (p ⟨e.val - 1, by omega⟩) (p 31) hv1 hv23 hv43 hok hokT B3 B5 B4 B6 w10 w11 b4 b6 h3 h5 h4 h6 hG' A10 A11 W hi hv k hz Q'
    refine BIBase.Entails.trans ?_ (key Q)
    rw [atRest_eq]
    iintro ⟨H1, HW, HS, H3, H4, H5, H6, H10, H11, HQ⟩
    isplitl [H1]; · iexact H1
    isplitl [HW]; · iexact HW
    isplitl [HS]; · iexact HS
    isplitl [H3]; · iexact H3
    isplitl [H4]; · iexact H4
    isplitl [H5]; · iexact H5
    isplitl [H6]; · iexact H6
    isplitl [H10]; · iexact H10
    isplitl [H11]; · iexact H11
    iintro ⟨⟨HW, HR⟩, HH⟩
    iapply HQ
    isplitl [HW]; · iexact HW
    isplitl [HR]; · iexact HR
    iexact HH
  · have hi : (i 0).val ≠ 31 := by rw [he]; exact q
    have hin : stage c X G p e.val = StR c X G (if (i 0).val = 0 then 0 else enN (p 31)) (stN i (p ⟨e.val - 1, by omega⟩)) := by
      rw [stage_in, hst, he]; rfl
    have hout : stage c X G p (e.val + 1) = StR c X G (enN (p 31)) (enN (p e)) := stage_mid c X G p e (by omega)
    rw [hin, hout]
    refine BIBase.Entails.trans ?_ (body_mid c i arg1 harg1 arg3 harg3 arg4 harg4 arg5 harg5 arg6 harg6 X G T (p e) (p ⟨e.val - 1, by omega⟩) (p 31) hv1 hv23 hv43 hok hokT B3 B5 B4 B6 w10 w11 b4 b6 h3 h5 h4 h6 hG' A10 A11 W hi Q)
    rw [St_eq]
    iintro ⟨H1, HW, HS, H3, H4, H5, H6, H10, H11, HQ⟩
    isplitl [H1]; · iexact H1
    isplitl [HW]; · iexact HW
    isplitl [HS]; · iexact HS
    isplitl [H3]; · iexact H3
    isplitl [H4]; · iexact H4
    isplitl [H5]; · iexact H5
    isplitl [H6]; · iexact H6
    isplitl [H10]; · iexact H10
    isplitl [H11]; · iexact H11
    iintro ⟨⟨HW, HR⟩, HH⟩
    iapply HQ
    isplitl [HW]; · iexact HW
    isplitl [HR]; · iexact HR
    iexact HH

end Visit
end MoeP
end
-- ==== Proof.MoeLaunch.lean ====
/-
  The experts' kernel launched: what the region finds, what the pipeline stages at each grid point, the result's contents, and the run.
-/
module

public import proofs.«01_k».proof.Proof.MoeVisit
public import Idealize.ShloMosaic.Lib.Pipeline.FrameValue
public import Idealize.ShloMosaic.Lib.Pipeline.FrameBody

@[expose] public section

set_option maxRecDepth 16384

noncomputable section

namespace MoeP

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## The rows cut in blocks, the buffers in slots -/

abbrev Blk (b : Fin 159) : Finset S651264x128.Idx := (Rect.unit (s := S651264x128) (blkOff b) S4096x128.size (blkOff_inb b)).set
abbrev Slt (s : Fin 2) : Finset S2x4096x128.Idx := (Rect.unit (s := S2x4096x128) (slotOff s) S1x4096x128.size (slotOff_inb s)).set

theorem xBlk_set (b : Fin 159) : (xBlk b).view.set = Blk b := View.set_slice_whole _ _
theorem yBlk_set (b : Fin 159) : (yBlk b).view.set = Blk b := View.set_slice_whole _ _
theorem xSlot_set (s : Fin 2) : (xSlot s).view.set = Slt s := (View.set_reshape _ _).trans (View.set_slice_whole _ _)
theorem ySlot_set (s : Fin 2) : (ySlot s).view.set = Slt s := (View.set_reshape _ _).trans (View.set_slice_whole _ _)

theorem mem_Blk (b : Fin 159) (y : S651264x128.Idx) : y ∈ Blk b ↔ b.val * 4096 ≤ (y 0).val ∧ (y 0).val < b.val * 4096 + 4096 := by
  rw [Rect.mem_set_unit]
  have h1 : (y 1).val < 128 := (y 1).isLt
  constructor
  · intro H; exact H 0
  · intro H i; fin_cases i
    · exact H
    · show 0 ≤ (y 1).val ∧ (y 1).val < 0 + 128; omega
theorem mem_Slt (s : Fin 2) (y : S2x4096x128.Idx) : y ∈ Slt s ↔ (y 0).val = s.val := by
  rw [Rect.mem_set_unit]
  have h1 : (y 1).val < 4096 := (y 1).isLt
  have h2 : (y 2).val < 128 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 4096; omega
    · show 0 ≤ (y 2).val ∧ (y 2).val < 0 + 128; omega
theorem Blk_disjoint : ∀ b b' : Fin 159, b ≠ b' → Disjoint (Blk b) (Blk b') := by
  intro b b' hne; rw [Finset.disjoint_left]; intro y hy hy'; rw [mem_Blk] at hy hy'; exact hne (Fin.ext (by omega))
theorem Blk_cover : (Finset.univ : Finset (Fin 159)).biUnion Blk = Finset.univ := by
  ext y; simp only [Finset.mem_biUnion, Finset.mem_univ, true_and, iff_true]
  have h0 : (y 0).val < 651264 := (y 0).isLt
  exact ⟨⟨(y 0).val / 4096, by omega⟩, by rw [mem_Blk]; dsimp only; omega⟩
theorem Slt_disjoint : ∀ s s' : Fin 2, s ≠ s' → Disjoint (Slt s) (Slt s') := by
  intro s s' hne; rw [Finset.disjoint_left]; intro y hy hy'; rw [mem_Slt] at hy hy'; exact hne (Fin.ext (hy.symm.trans hy'))
theorem Slt_cover : (Finset.univ : Finset (Fin 2)).biUnion Slt = Finset.univ := by
  ext y; simp only [Finset.mem_biUnion, Finset.mem_univ, true_and, iff_true]
  have h0 : (y 0).val < 2 := (y 0).isLt
  exact ⟨⟨(y 0).val, h0⟩, by rw [mem_Slt]⟩

theorem sep2 (Φ : Fin 2 → sProp 𝕄) : bigSep Finset.univ Φ = iprop(Φ 0 ∗ Φ 1) :=
  bigSep_univ_eq_bigSepL [(0 : Fin 2), (1 : Fin 2)] (by decide) (by decide) Φ
theorem sep4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

section Cut
variable (c : Dev nD)

/-- The rows in, whole, are their blocks; so the rows out. -/
theorem x_eq (X : Buf (Elt F) (xsM.view.loc (c : Thread nD τ))) :
    (((c : Thread nD τ).loc main_arg1) ↦{fullShare} X : sProp 𝕄) = xRange c X 0 159 := by
  unfold xRange
  rw [Ring.rangeSet_univ, Ring.pointsTo_blocks (ℓ := (c : Thread nD τ).loc main_arg1) Blk Blk_disjoint Blk_cover]
  exact bigSep_congr fun b _ => by rw [← xBlk_set]; rfl
theorem y_eq (G : Buf (Elt F) (ysM.view.loc (c : Thread nD τ))) :
    (((c : Thread nD τ).loc main_v2) ↦{fullShare} G : sProp 𝕄) = yRange c G 0 159 := by
  unfold yRange
  rw [Ring.rangeSet_univ, Ring.pointsTo_blocks (ℓ := (c : Thread nD τ).loc main_v2) Blk Blk_disjoint Blk_cover]
  exact bigSep_congr fun b _ => by rw [← yBlk_set]; rfl
theorem y_home_any (G : Buf (Elt F) (ysM.view.loc (c : Thread nD τ))) (b : Fin 159) : yHome c G b ⊢ (iprop(∃ Y, yHome c Y b) : sProp 𝕄) := by
  iintro H; iexists _; iexact H
theorem y_any (G : Buf (Elt F) (ysM.view.loc (c : Thread nD τ))) : yRange c G 0 159 ⊢ yAny (F := F) c 0 159 := by
  unfold yRange yAny
  exact bigSep_mono fun b _ => y_home_any c G b

theorem xSlotP_eq (s : Fin 2) (f) : xSlotP (F := F) c s f = (((c : Thread nD τ).loc cc0_scratch0) ↦[Slt s]{fullShare} f : sProp 𝕄) :=
  congrArg (fun S => (_ ↦[S]{fullShare} f : sProp 𝕄)) (xSlot_set s)
theorem ySlotP_eq (s : Fin 2) (f) : ySlotP (F := F) c s f = (((c : Thread nD τ).loc cc0_scratch1) ↦[Slt s]{fullShare} f : sProp 𝕄) :=
  congrArg (fun S => (_ ↦[S]{fullShare} f : sProp 𝕄)) (ySlot_set s)

theorem xbuf_split : iprop(∃ f : Buf (Elt F) ((c : Thread nD τ).loc cc0_scratch0), ((c : Thread nD τ).loc cc0_scratch0) ↦{fullShare} f)
      ⊢ (iprop((∃ f, xSlotP c 0 f) ∗ ∃ f, xSlotP c 1 f) : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc0_scratch0) Slt Slt_disjoint Slt_cover f).trans (sep2 _))) $$ H
  icases H2 with ⟨H0, H1⟩
  isplitl [H0]
  · iexists f; iapply (Entails.of_eq (xSlotP_eq c 0 f).symm); iexact H0
  · iexists f; iapply (Entails.of_eq (xSlotP_eq c 1 f).symm); iexact H1
theorem ybuf_split : iprop(∃ f : Buf (Elt F) ((c : Thread nD τ).loc cc0_scratch1), ((c : Thread nD τ).loc cc0_scratch1) ↦{fullShare} f)
      ⊢ (iprop((∃ f, ySlotP c 0 f) ∗ ∃ f, ySlotP c 1 f) : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc0_scratch1) Slt Slt_disjoint Slt_cover f).trans (sep2 _))) $$ H
  icases H2 with ⟨H0, H1⟩
  isplitl [H0]
  · iexists f; iapply (Entails.of_eq (ySlotP_eq c 0 f).symm); iexact H0
  · iexists f; iapply (Entails.of_eq (ySlotP_eq c 1 f).symm); iexact H1
theorem xbuf_join : iprop((∃ f, xSlotP c 0 f) ∗ ∃ f, xSlotP c 1 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩⟩
  iapply (Ring.pointsTo_blocks_join_exists (ℓ := (c : Thread nD τ).loc cc0_scratch0) Slt Slt_disjoint Slt_cover f0)
  irw [sep2]
  isplitl [H0]
  · iexists f0; iapply (Entails.of_eq (xSlotP_eq c 0 f0)); iexact H0
  · iexists f1; iapply (Entails.of_eq (xSlotP_eq c 1 f1)); iexact H1
theorem ybuf_join : iprop((∃ f, ySlotP c 0 f) ∗ ∃ f, ySlotP c 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) Slt Slt_disjoint Slt_cover f0)
  irw [sep2]
  isplitl [H0]
  · iexists f0; iapply (Entails.of_eq (ySlotP_eq c 0 f0)); iexact H0
  · iexists f1; iapply (Entails.of_eq (ySlotP_eq c 1 f1)); iexact H1

theorem wg_eq (f : Buf (Elt F) ((c : Thread nD τ).loc cc0_scratch2)) : hold (F := F) c wgM f = (((c : Thread nD τ).loc cc0_scratch2) ↦{fullShare} f : sProp 𝕄) :=
  congrArg (fun S => (((c : Thread nD τ).loc cc0_scratch2) ↦[S]{fullShare} f : sProp 𝕄)) (View.set_whole _)
theorem wd_eq (f : Buf (Elt F) ((c : Thread nD τ).loc cc0_scratch3)) : hold (F := F) c wdM f = (((c : Thread nD τ).loc cc0_scratch3) ↦{fullShare} f : sProp 𝕄) :=
  congrArg (fun S => (((c : Thread nD τ).loc cc0_scratch3) ↦[S]{fullShare} f : sProp 𝕄)) (View.set_whole _)

/-- The kernel's own semaphores. -/
abbrev osem : Fin 4 → SemLoc sig := ![.dma (inSm 0).sem, .dma (inSm 1).sem, .dma (outSm 0).sem, .dma (outSm 1).sem]
theorem ownSemFacts : Pipeline.OwnSemFacts spec0 osem := by decide
theorem ownSems0_eq : (Pipeline.ownSems0 (Ix := Unit) (Name := ℕ) (U := UU nD τ) (Lvl := ℕ) (Val := Elt F) (τ := τ) osem c : sProp 𝕄)
    = iprop(cellIn c 0 ∗ cellIn c 1 ∗ cellOut c 0 ∗ cellOut c 1) := by
  unfold Pipeline.ownSems0; rw [sep4]; rfl

/-- Before the first visit. -/
theorem start (X : Buf (Elt F) (xsM.view.loc (c : Thread nD τ))) (G Y : Buf (Elt F) (ysM.view.loc (c : Thread nD τ))) :
    iprop((cellIn c 0 ∗ cellIn c 1 ∗ cellOut c 0 ∗ cellOut c 1) ∗ ((∃ f, xSlotP c 0 f) ∗ ∃ f, xSlotP (F := F) c 1 f)
      ∗ ((∃ f, ySlotP c 0 f) ∗ ∃ f, ySlotP c 1 f) ∗ xRange c X 0 159 ∗ yRange c Y 0 159)
    ⊢ StR c X G 0 0 := by
  unfold StR
  rw [inX_ge c X (by omega), outY_lt c G (by omega), outY_lt c G (by omega), freeX_eq c 0]
  rw [show xRange c X 0 0 = (iprop(emp) : sProp 𝕄) from Ring.bigSep_rangeSet_empty le_rfl, show yRange c G 0 (0 - 2) = (iprop(emp) : sProp 𝕄) from Ring.bigSep_rangeSet_empty (by omega)]
  rw [show Ring.sl 2 0 = 0 from Fin.ext rfl, show Ring.sl 2 (0 + 1) = 1 from Fin.ext rfl]
  iintro ⟨⟨Hi0, Hi1, Ho0, Ho1⟩, ⟨Hx0, Hx1⟩, ⟨Hy0, Hy1⟩, HX, HY⟩
  isplitr; · iempintro
  isplitl [Hi0 Hx0 HX]
  · isplitl [Hi0]; · iexact Hi0
    isplitl [Hx0]; · iexact Hx0
    iexact HX
  isplitl [Hi1 Hx1]
  · isplitl [Hi1]; · iexact Hi1
    iexact Hx1
  isplitr; · iempintro
  isplitl [Ho0 Hy0]
  · isplitl [Ho0]; · iexact Ho0
    iexact Hy0
  isplitl [Ho1 Hy1]
  · isplitl [Ho1]; · iexact Ho1
    iexact Hy1
  iapply (y_any c Y); iexact HY

end Cut
end MoeP
end
-- ==== Proof.MoeStage.lean ====
/-
  What the experts' region finds and stages, the result's contents, and the body at each grid point.
-/
module

public import proofs.«01_k».proof.Proof.MoeLaunch

@[expose] public section

set_option maxRecDepth 16384

noncomputable section

namespace MoeP

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Region
variable (m : (ℓ : Loc nD τ sig) → Buf (Elt F) ℓ)

/-! ## What the region finds -/

/-- A buffer's contents where the region is entered. -/
abbrev V (c : Dev nD) (b : Ref sig .tc) : Buf (Elt F) ((c : Thread nD τ).loc b) := StableHlo.after hostOps0 (fun b => m (c, b)) b
theorem hostOps0_fresh : (hostOps0 : List (HloOp τ sig (Elt F))).Forall fun op => op.fresh = ∅ := by
  simp only [List.Forall]; repeat' constructor
set_option maxHeartbeats 800000 in
theorem hmain (𝒱 : Variants) : Pipeline.HMainP (Ix := Unit) (Name := ℕ) (U := Pipeline.UD sig nD τ) (Lvl := ℕ) pcfgs 0 defs₀ 𝒱 m (main (F := F)) (V m) :=
  Pipeline.hmainP_prefix pcfgs 0 defs₀ 𝒱 m main hostOps0 hostOps0_sub hostOps0_fresh main_chain

theorem V_kept (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    repeat' apply And.intro
    all_goals (apply StableHlo.devRef_ne_of_ne; assumption)))

/-- The table's contents. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev adm : (pcfg0 (F := F)).Adm := ⟨tbl m, trivial⟩
abbrev cfgM := cfg0 (adm m)

/-- The experts' upper bounds, in order. -/
def ends : Fin 32 → BitVec 32 := fun e => (m (((0 : Dev nD) : Thread nD τ).loc main_arg0) : Vec F S32 .i32) (ix1 e)
theorem tbl_eq (j : S32.Idx) : (tbl m 0 : Vec F S32 .i32) j = ends m (j 0) := by
  unfold tbl ends
  rw [show V m 0 (pre0.ref 0) = m (((0 : Dev nD) : Thread nD τ).loc main_arg0) from V_kept m 0 main_arg0 (by decide) (by decide)]
  exact congrArg _ (eq_ix1 j)

/-! ## One expert's weights and biases -/

section Expert
variable (c : Dev nD) (e : Fin 32)
def wUp : Vec F S1024x2048 .bf16 := k0_pay34 (F := F) fun y => (V m c main_arg2 : Vec F S32x1024x2048 .f32) (ix3 e (y 1) (y 2))
def wDn : Vec F S1024x1024 .bf16 := k0_pay35 (F := F) fun y => (V m c main_arg4 : Vec F S32x1024x1024 .f32) (ix3 e (y 1) (y 2))
def bUp : Vec F S1x1x2048 .f32 := fun y => (V m c main_v0 : Vec F S32x1x2048 .f32) (ix3 e (y 1) (y 2))
def bDn : Vec F S1x1x1024 .f32 := fun y => (V m c main_v1 : Vec F S32x1x1024 .f32) (ix3 e (y 1) (y 2))
end Expert

/-! ## The result's contents -/

abbrev xsA (c : Dev nD) : Buf (Elt F) (xsM.view.loc (c : Thread nD τ)) := V m c main_arg1

open Classical in
/-- Row `8t+2j+h` of block `b`, lane `l`, of the result: its expert's, or zero where the block has none. -/
def outAt (c : Dev nD) (b : Fin 159) (j : Fin 4) (t : Fin 512) (h : Fin 2) (l : Fin 128) : Elt F .bf16 :=
  if H : ∃ e, stB (ends m) e ≤ b.val ∧ b.val < enB (ends m) e then
    moeBlk ((xBlk b).view.read (Elt F) (xsA m c)) (wUp m c H.choose) (wDn m c H.choose) (bUp m c H.choose) (bDn m c H.choose) j t h l
  else Scalar.ofBits .bf16 0x0000#16

def outV (c : Dev nD) : Vec F S651264x128 .bf16 := fun y =>
  have h0 : (y 0).val < 651264 := (y 0).isLt
  outAt m c ⟨(y 0).val / 4096, by omega⟩ ⟨(y 0).val % 4096 % 8 / 2, by omega⟩ ⟨(y 0).val % 4096 / 8, by omega⟩ ⟨(y 0).val % 2, by omega⟩ (y 1)
abbrev outM (c : Dev nD) : Buf (Elt F) (ysM.view.loc (c : Thread nD τ)) := outV m c

theorem outAt_congr (c : Dev nD) {b b' : Fin 159} {j j' : Fin 4} {t t' : Fin 512} {h h' : Fin 2} {l l' : Fin 128}
    (hb : b.val = b'.val) (hj : j.val = j'.val) (ht : t.val = t'.val) (hh : h.val = h'.val) (hl : l.val = l'.val) : outAt m c b j t h l = outAt m c b' j' t' h' l' := by
  obtain rfl := Fin.ext hb; obtain rfl := Fin.ext hj; obtain rfl := Fin.ext ht; obtain rfl := Fin.ext hh; obtain rfl := Fin.ext hl; rfl

theorem outV_at (c : Dev nD) (b : Fin 159) (j : Fin 4) (t : Fin 512) (h : Fin 2) (l : Fin 128) (r : Fin 651264) (hr : r.val = b.val * 4096 + (prow j t h).val) :
    outV m c (ix2 r l) = outAt m c b j t h l := by
  have hp : (prow j t h).val = 8 * t.val + 2 * j.val + h.val := rfl
  have hj := j.isLt; have ht := t.isLt; have hh := h.isLt; have hb := b.isLt
  exact outAt_congr m c (by show r.val / 4096 = b.val; omega) (by show r.val % 4096 % 8 / 2 = j.val; omega) (by show r.val % 4096 / 8 = t.val; omega)
    (by show r.val % 2 = h.val; omega) rfl

theorem yBlk_read (c : Dev nD) (G : Buf (Elt F) (ysM.view.loc (c : Thread nD τ))) (b : Fin 159) (q : Fin 4096) (l : Fin 128) (hr : b.val * 4096 + q.val < 651264) :
    (yBlk b).view.read (Elt F) G (ix2 q l) = (G : Vec F S651264x128 .bf16) (ix2 ⟨b.val * 4096 + q.val, hr⟩ l) := by
  refine (View.read_apply _ _).trans (congrArg (G : Vec F S651264x128 .bf16) ?_)
  funext a; apply Fin.ext
  fin_cases a
  · show b.val * 4096 + 1 * q.val = b.val * 4096 + q.val; omega
  · show 0 + 1 * l.val = l.val; omega

theorem out_read (c : Dev nD) (b : Fin 159) (j : Fin 4) (t : Fin 512) (h : Fin 2) (l : Fin 128) :
    (yBlk b).view.read (Elt F) (outM m c) (ix2 (prow j t h) l) = outAt m c b j t h l := by
  have hb := b.isLt; have hq := (prow j t h).isLt
  exact (yBlk_read c (outM m c) b (prow j t h) l (by omega)).trans (outV_at m c b j t h l _ rfl)

theorem outAt_of (hp : InOrder (ends m)) (c : Dev nD) (b : Fin 159) (e : Fin 32) (h1 : stB (ends m) e ≤ b.val) (h2 : b.val < enB (ends m) e)
    (j : Fin 4) (t : Fin 512) (h : Fin 2) (l : Fin 128) :
    outAt m c b j t h l = moeBlk ((xBlk b).view.read (Elt F) (xsA m c)) (wUp m c e) (wDn m c e) (bUp m c e) (bDn m c e) j t h l := by
  have H : ∃ e, stB (ends m) e ≤ b.val ∧ b.val < enB (ends m) e := ⟨e, h1, h2⟩
  have hc : H.choose = e := hp.unique H.choose_spec.1 H.choose_spec.2 h1 h2
  unfold outAt; rw [dif_pos H, hc]
theorem outAt_zero (hp : InOrder (ends m)) (c : Dev nD) (b : Fin 159) (hb : enB (ends m) 31 ≤ b.val)
    (j : Fin 4) (t : Fin 512) (h : Fin 2) (l : Fin 128) : outAt m c b j t h l = Scalar.ofBits .bf16 0x0000#16 := by
  unfold outAt; rw [dif_neg]
  rintro ⟨e, -, h2⟩
  have := hp.le31 e; omega
theorem out_of (hp : InOrder (ends m)) (c : Dev nD) (e : Fin 32) (n : ℕ) (h1 : stB (ends m) e ≤ n) (h2 : n < enB (ends m) e)
    (j : Fin 4) (t : Fin 512) (h : Fin 2) (l : Fin 128) :
    (yBlk (Ring.bk 159 n)).view.read (Elt F) (outM m c) (ix2 (prow j t h) l)
      = moeBlk ((xBlk (Ring.bk 159 n)).view.read (Elt F) (xsA m c)) (wUp m c e) (wDn m c e) (bUp m c e) (bDn m c e) j t h l := by
  have hn : n < 159 := lt_of_lt_of_le h2 (hp.le159 e)
  have hb : (Ring.bk 159 n : Fin 159).val = n := Nat.mod_eq_of_lt hn
  exact (out_read m c _ j t h l).trans (outAt_of m hp c _ e (by rw [hb]; exact h1) (by rw [hb]; exact h2) j t h l)
theorem out_zero (hp : InOrder (ends m)) (c : Dev nD) (b : Fin 159) (hb : enB (ends m) 31 ≤ b.val) (y : S4096x128.Idx) :
    (yBlk b).view.read (Elt F) (outM m c) y = Scalar.ofBits .bf16 0x0000#16 := by
  obtain ⟨j, t, h, hq⟩ := prow_surj (y 0)
  have hy : y = ix2 (prow j t h) (y 1) := by rw [← hq]; exact eq_ix2 y
  rw [hy]
  exact (out_read m c b j t h (y 1)).trans (outAt_zero m hp c b hb j t h _)

/-! ## What is staged -/

def iblk (c : Dev nD) (w : Fin (cfgM m).W) (t : Fin (cfgM m).N) : ((((cfgM m).win w).xblock ((cfgM m).grid.coords t))).Idx → Elt F ((cfgM m).win w).elt :=
  (((cfgM m).win w).blk t).view.read (Elt F) (V m c (Pipeline.arrRef spec0 w))

theorem pt (t : Fin grid0.N) : t.val < 32 := t.isLt.trans_eq N_0
abbrev pe (t : Fin grid0.N) : Fin 32 := ⟨t.val, pt t⟩
theorem coord0 : ∀ t : Fin grid0.N, (grid0.coords t 0).val = t.val := by decide +kernel

theorem tr1 : ∀ t : Fin grid0.N, cc0_transform_1 (grid0.coords t) = ![t.val, 0, 0] := by decide +kernel
theorem tr2 : ∀ t : Fin grid0.N, cc0_transform_2 (grid0.coords t) = ![t.val, 0, 0] := by decide +kernel
theorem tr3 : ∀ t : Fin grid0.N, cc0_transform_3 (grid0.coords t) = ![t.val, 0, 0] := by decide +kernel
theorem tr4 : ∀ t : Fin grid0.N, cc0_transform_4 (grid0.coords t) = ![t.val, 0, 0] := by decide +kernel
theorem o1 : ∀ t : Fin grid0.N, k0_off1 (grid0.coords t) 0 = t.val := by decide +kernel
theorem o2 : ∀ t : Fin grid0.N, k0_off2 (grid0.coords t) 0 = t.val - 1 := by decide +kernel

theorem blk0 (c : Dev nD) (t : Fin (cfgM m).N) (y : S1x1024x2048.Idx) :
    (iblk m c 0 t : Vec F S1x1024x2048 .f32) y = (V m c main_arg2 : Vec F S32x1024x2048 .f32) (ix3 (pe t) (y 1) (y 2)) := by
  unfold iblk
  refine (View.read_apply _ _).trans (congrArg (V m c main_arg2 : Vec F S32x1024x2048 .f32) ?_)
  have h0 : (y 0).val < 1 := (y 0).isLt
  have e : cc0_transform_1 (grid0.coords t) = ![t.val, 0, 0] := tr1 t
  funext a; apply Fin.ext
  fin_cases a
  · show cc0_transform_1 (grid0.coords t) 0 * 1 + 1 * (y 0).val = t.val; rw [e]; show t.val * 1 + 1 * (y 0).val = t.val; omega
  · show cc0_transform_1 (grid0.coords t) 1 * 1024 + 1 * (y 1).val = (y 1).val; rw [e]; show 0 * 1024 + 1 * (y 1).val = (y 1).val; omega
  · show cc0_transform_1 (grid0.coords t) 2 * 2048 + 1 * (y 2).val = (y 2).val; rw [e]; show 0 * 2048 + 1 * (y 2).val = (y 2).val; omega
theorem blk1 (c : Dev nD) (t : Fin (cfgM m).N) (y : S1x1x2048.Idx) :
    (iblk m c 1 t : Vec F S1x1x2048 .f32) y = (V m c main_v0 : Vec F S32x1x2048 .f32) (ix3 (pe t) (y 1) (y 2)) := by
  unfold iblk
  refine (View.read_apply _ _).trans (congrArg (V m c main_v0 : Vec F S32x1x2048 .f32) ?_)
  have h0 : (y 0).val < 1 := (y 0).isLt
  have e : cc0_transform_2 (grid0.coords t) = ![t.val, 0, 0] := tr2 t
  funext a; apply Fin.ext
  fin_cases a
  · show cc0_transform_2 (grid0.coords t) 0 * 1 + 1 * (y 0).val = t.val; rw [e]; show t.val * 1 + 1 * (y 0).val = t.val; omega
  · show cc0_transform_2 (grid0.coords t) 1 * 1 + 1 * (y 1).val = (y 1).val; rw [e]; show 0 * 1 + 1 * (y 1).val = (y 1).val; omega
  · show cc0_transform_2 (grid0.coords t) 2 * 2048 + 1 * (y 2).val = (y 2).val; rw [e]; show 0 * 2048 + 1 * (y 2).val = (y 2).val; omega
theorem blk2 (c : Dev nD) (t : Fin (cfgM m).N) (y : S1x1024x1024.Idx) :
    (iblk m c 2 t : Vec F S1x1024x1024 .f32) y = (V m c main_arg4 : Vec F S32x1024x1024 .f32) (ix3 (pe t) (y 1) (y 2)) := by
  unfold iblk
  refine (View.read_apply _ _).trans (congrArg (V m c main_arg4 : Vec F S32x1024x1024 .f32) ?_)
  have h0 : (y 0).val < 1 := (y 0).isLt
  have e : cc0_transform_3 (grid0.coords t) = ![t.val, 0, 0] := tr3 t
  funext a; apply Fin.ext
  fin_cases a
  · show cc0_transform_3 (grid0.coords t) 0 * 1 + 1 * (y 0).val = t.val; rw [e]; show t.val * 1 + 1 * (y 0).val = t.val; omega
  · show cc0_transform_3 (grid0.coords t) 1 * 1024 + 1 * (y 1).val = (y 1).val; rw [e]; show 0 * 1024 + 1 * (y 1).val = (y 1).val; omega
  · show cc0_transform_3 (grid0.coords t) 2 * 1024 + 1 * (y 2).val = (y 2).val; rw [e]; show 0 * 1024 + 1 * (y 2).val = (y 2).val; omega
theorem blk3 (c : Dev nD) (t : Fin (cfgM m).N) (y : S1x1x1024.Idx) :
    (iblk m c 3 t : Vec F S1x1x1024 .f32) y = (V m c main_v1 : Vec F S32x1x1024 .f32) (ix3 (pe t) (y 1) (y 2)) := by
  unfold iblk
  refine (View.read_apply _ _).trans (congrArg (V m c main_v1 : Vec F S32x1x1024 .f32) ?_)
  have h0 : (y 0).val < 1 := (y 0).isLt
  have e : cc0_transform_4 (grid0.coords t) = ![t.val, 0, 0] := tr4 t
  funext a; apply Fin.ext
  fin_cases a
  · show cc0_transform_4 (grid0.coords t) 0 * 1 + 1 * (y 0).val = t.val; rw [e]; show t.val * 1 + 1 * (y 0).val = t.val; omega
  · show cc0_transform_4 (grid0.coords t) 1 * 1 + 1 * (y 1).val = (y 1).val; rw [e]; show 0 * 1 + 1 * (y 1).val = (y 1).val; omega
  · show cc0_transform_4 (grid0.coords t) 2 * 1024 + 1 * (y 2).val = (y 2).val; rw [e]; show 0 * 1024 + 1 * (y 2).val = (y 2).val; omega

/-- A whole read of a staging buffer at what its window staged. -/
theorem whole_read {sp : Space} {s : Shape} {e : EltTy} (M : Memref sig .tc sp s e) (off : Fin s.rank → ℕ) (h0 : ∀ a, off a = 0)
    (inb : ∀ a, off a + s.size a ≤ s.size a) (g : s.Idx → Elt F e) :
    View.readAt (Elt F) M.view (Rect.unit off s.size inb).toLoadRect (M.view.rep g) = g := by
  funext y
  rw [View.readAt_apply, View.read_rep]
  congr 1
  funext a; apply Fin.ext
  show off a + 1 * (y a).val = (y a).val
  rw [h0 a]; omega

abbrev tM : Memref sig .tc .smem S32 .i32 := Memref.whole main_arg0
theorem table_read (off : Fin 1 → ℕ) (inb : ∀ a, off a + S1.size a ≤ S32.size a) (e : Fin 32) (he : off 0 = e.val) (j : S1.Idx) :
    tM.view.readAt (Elt F) (Rect.unit (s := S32) off S1.size inb).toLoadRect (tbl m 0) j = ends m e := by
  refine (show _ = (tbl m 0 : Vec F S32 .i32) ((Rect.unit (s := S32) off S1.size inb).toLoadRect.idx j) from rfl).trans ((tbl_eq m _).trans (congrArg (ends m) (Fin.ext ?_)))
  have h0 : (j 0).val < 1 := (j 0).isLt
  show off 0 + 1 * (j 0).val = e.val
  omega

/-! ## The region's data -/

abbrev ms0 (t : Fin (cfgM m).N) : Memref sig .tc .vmem S1x1024x2048 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x1x2048 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x1024x1024 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1x1x1024 .f32 := spec0_3.stage ((cfgM m).slots t 3)
abbrev hs3 (t : Fin (cfgM m).N) : (ms3 m t).IsWhole := hstage0_3 (((cfgM m).slots t 3).cast nbuf0_3)

/-- What one point hands the next, `n` the visits done. -/
def Φ (c : Dev nD) (n : ℕ) : sProp 𝕄 :=
  iprop(stage c (xsA m c) (outM m c) (ends m) n ∗ (∃ A, hold c wgM A) ∗ (∃ A, hold c wdM A) ∗ (∃ r, prngReg c r) ∗ holdT c tM (tbl m 0))

def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ t := Φ m c t.val
  q _ := fullShare
  owed _ := 0

theorem A_eq (c : Dev nD) (w : Fin (cfgM m).W) : (dats m 0 c).A w = V m c (Pipeline.arrRef spec0 w) := by dsimp only [dats]
theorem after0 (c : Dev nD) (t : Fin (cfgM m).N) : (dats m 0 c).after 0 t = iblk m c 0 t := by dsimp only [dats]; rfl
theorem after1 (c : Dev nD) (t : Fin (cfgM m).N) : (dats m 0 c).after 1 t = iblk m c 1 t := by dsimp only [dats]; rfl
theorem after2 (c : Dev nD) (t : Fin (cfgM m).N) : (dats m 0 c).after 2 t = iblk m c 2 t := by dsimp only [dats]; rfl
theorem after3 (c : Dev nD) (t : Fin (cfgM m).N) : (dats m 0 c).after 3 t = iblk m c 3 t := by dsimp only [dats]; rfl
theorem before0 (c : Dev nD) (t : Fin (cfgM m).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfgM m).N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfgM m).N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfgM m).N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

theorem defs_tc : (defs₀ (F := F)) .tc (cfgM m).body
    = fun a => bodyG (F := F) (grid0.coords a.1) tM (Memref.isWhole_whole _) (spec0_0.stage (a.2 0)) (hstage0_0 ((a.2 0).cast nbuf0_0)) (spec0_1.stage (a.2 1)) (hstage0_1 ((a.2 1).cast nbuf0_1))
        (spec0_2.stage (a.2 2)) (hstage0_2 ((a.2 2).cast nbuf0_2)) (spec0_3.stage (a.2 3)) (hstage0_3 ((a.2 3).cast nbuf0_3)) := rfl
theorem prog_eq (t : Fin (cfgM m).N) : (defs₀ (F := F)) .tc (cfgM m).body ((cfgM m).bodyArgs t ((cfgM m).slots t))
    = bodyG (F := F) (grid0.coords t) tM (Memref.isWhole_whole _) (ms0 m t) (hs0 m t) (ms1 m t) (hs1 m t) (ms2 m t) (hs2 m t) (ms3 m t) (hs3 m t) :=
  (congrFun (defs_tc m) _).trans rfl

/-- One visit at what is staged. -/
theorem visit_at (hp : InOrder (ends m)) (c : Dev nD) (t : Fin (cfgM m).N) (A10 : Buf (Elt F) (wgM.view.loc (c : Thread nD τ))) (A11 : Buf (Elt F) (wdM.view.loc (c : Thread nD τ))) (W) (Q : PUnit → sProp 𝕄) :
    iprop(holdT c tM (tbl m 0) ∗ owes (c : Thread nD τ) 0 W ∗ stage c (xsA m c) (outM m c) (ends m) t.val
      ∗ hold c (ms0 m t) ((ms0 m t).view.rep (iblk m c 0 t)) ∗ hold c (ms1 m t) ((ms1 m t).view.rep (iblk m c 1 t))
      ∗ hold c (ms2 m t) ((ms2 m t).view.rep (iblk m c 2 t)) ∗ hold c (ms3 m t) ((ms3 m t).view.rep (iblk m c 3 t)) ∗ hold c wgM A10 ∗ hold c wdM A11
      ∗ ((∃ W, owes (c : Thread nD τ) 0 W) ∗ stage c (xsA m c) (outM m c) (ends m) (t.val + 1)
          ∗ Held c tM (ms0 m t) (ms1 m t) (ms2 m t) (ms3 m t) (tbl m 0) ((ms0 m t).view.rep (iblk m c 0 t)) ((ms2 m t).view.rep (iblk m c 2 t))
              ((ms1 m t).view.rep (iblk m c 1 t)) ((ms3 m t).view.rep (iblk m c 3 t)) -∗ Q ⟨⟩))
    ⊢ wp frame (wpE (defs₀ (F := F)) 𝒱₀ (c : Thread nD τ) none) Set.univ
        (bodyG (grid0.coords t) tM (Memref.isWhole_whole _) (ms0 m t) (hs0 m t) (ms1 m t) (hs1 m t) (ms2 m t) (hs2 m t) (ms3 m t) (hs3 m t)) Q :=
  visit c (xsA m c) (outM m c) (grid0.coords t) tM (Memref.isWhole_whole _) (ms0 m t) (hs0 m t) (ms1 m t) (hs1 m t) (ms2 m t) (hs2 m t) (ms3 m t) (hs3 m t)
    (tbl m 0) (ends m) hp (pe t) (coord0 t)
    (table_read m _ _ (pe t) (o1 t)) (table_read m _ _ _ (o2 t)) (table_read m _ _ 31 rfl)
    ((ms0 m t).view.rep (iblk m c 0 t)) ((ms2 m t).view.rep (iblk m c 2 t)) ((ms1 m t).view.rep (iblk m c 1 t)) ((ms3 m t).view.rep (iblk m c 3 t))
    (wUp m c (pe t)) (wDn m c (pe t)) (bUp m c (pe t)) (bDn m c (pe t))
    (congrArg k0_pay34 ((whole_read (ms0 m t) ![0, 0, 0] (by decide) _ _).trans (funext fun y => blk0 m c t y)))
    (congrArg k0_pay35 ((whole_read (ms2 m t) ![0, 0, 0] (by decide) _ _).trans (funext fun y => blk2 m c t y)))
    ((whole_read (ms1 m t) ![0, 0, 0] (by decide) _ _).trans (funext fun y => blk1 m c t y))
    ((whole_read (ms3 m t) ![0, 0, 0] (by decide) _ _).trans (funext fun y => blk3 m c t y))
    (fun n h1 h2 j t' h l => out_of m hp c (pe t) n h1 h2 j t' h l) (fun b hb y => out_zero m hp c b hb y) A10 A11 W Q

end Region
end MoeP
end
-- ==== Proof.MoeFrame.lean ====
/-
  The experts' kernel run whole: every grid point, from the launch to the result.
-/
module

public import proofs.«01_k».proof.Proof.MoeStage

@[expose] public section

set_option maxRecDepth 16384

noncomputable section

namespace MoeP

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Region
variable (m : (ℓ : Loc nD τ sig) → Buf (Elt F) ℓ) (ρ : Dev nD → PrngReg)

set_option maxHeartbeats 4000000 in
set_option backward.isDefEq.respectTransparency.types false in
theorem body_obligation (hp : InOrder (ends m)) (c : Dev nD) : BodyObligation (dats m 0 c) (defs₀ (F := F)) 𝒱₀ () Set.univ := fun t => by
  rw [bigSep_W0, bigSep_W0]
  dsimp only
  simp only [before0, before1, before2, before3, after0, after1, after2, after3]
  rw [show (dats m 0 c).Φ t.castSucc = Φ m c t.val from rfl, show (dats m 0 c).Φ t.succ = Φ m c (t.val + 1) from rfl]
  unfold Dat.owesAt Pipeline.owesWithin
  rw [show (dats m 0 c).owed t.castSucc = 0 from rfl, show (dats m 0 c).owed t.succ = 0 from rfl]
  unfold owns Φ
  iintro ⟨⟨HS, ⟨%A10, H10⟩, ⟨%A11, H11⟩, Hr, HT⟩, ⟨%W, -, HW⟩, ⟨%d0, %g0, %hg0, H0⟩, ⟨%d1, %g1, %hg1, H1⟩, ⟨%d2, %g2, %hg2, H2⟩, ⟨%d3, %g3, %hg3, H3⟩⟩
  ihave H0' := (pointsTo_rep_entails (c : Thread nD τ) (ms0 m t) g0 fullShare) $$ H0
  ihave H1' := (pointsTo_rep_entails (c : Thread nD τ) (ms1 m t) g1 fullShare) $$ H1
  ihave H2' := (pointsTo_rep_entails (c : Thread nD τ) (ms2 m t) g2 fullShare) $$ H2
  ihave H3' := (pointsTo_rep_entails (c : Thread nD τ) (ms3 m t) g3 fullShare) $$ H3
  rw [hg0, hg1, hg2, hg3]
  sl_rw [prog_eq m t]
  iapply (visit_at m hp c t A10 A11 W)
  isplitl [HT]; · iexact HT
  isplitl [HW]; · iexact HW
  isplitl [HS]; · iexact HS
  isplitl [H0']; · iexact H0'
  isplitl [H1']; · iexact H1'
  isplitl [H2']; · iexact H2'
  isplitl [H3']; · iexact H3'
  isplitl [H10]; · iexact H10
  isplitl [H11]; · iexact H11
  unfold Held
  iintro ⟨⟨%W', HW⟩, HS, HT, H0, H1, H2, H3, H10, H11⟩
  isplitl [HS H10 H11 Hr HT]
  · isplitl [HS]; · iexact HS
    isplitl [H10]; · iexact H10
    isplitl [H11]; · iexact H11
    isplitl [Hr]; · iexact Hr
    iexact HT
  isplitl [HW]
  · iexists W'; isplitr; · ipureintro; exact fun _ _ => Or.inl trivial
    iexact HW
  isplitl [H0]
  · iexists _; isplitr; · ipureintro; exact View.read_rep _ _
    iexact H0
  isplitl [H1]
  · iexists _; isplitr; · ipureintro; exact View.read_rep _ _
    iexact H1
  isplitl [H2]
  · iexists _; isplitr; · ipureintro; exact View.read_rep _ _
    iexact H2
  iexists _; isplitr; · ipureintro; exact View.read_rep _ _
  iexact H3

/-! ## The run -/

/-- The buffers the kernel moves itself: the rows in, kept, and the rows out, written. -/
abbrev HH : Finset (Ref sig .tc) := {main_arg1}
abbrev RR : Finset (Ref sig .tc) := {main_v2}
theorem HH_sub : HH ⊆ Pipeline.restRefsP sig pre0 spec0 := by decide
theorem RR_sub : RR ⊆ Pipeline.restRefsP sig pre0 spec0 \ HH := by decide
theorem rest0 : main_arg0 ∈ Pipeline.restRefs sig spec0 \ RR := by decide
theorem rest1 : main_arg1 ∈ Pipeline.restRefs sig spec0 \ RR := by decide
theorem rest3 : main_arg3 ∈ Pipeline.restRefs sig spec0 \ RR := by decide
theorem rest5 : main_arg5 ∈ Pipeline.restRefs sig spec0 \ RR := by decide
/-- Their contents at the end. -/
def GM (c : Dev nD) (b : Ref sig .tc) : Buf (Elt F) ((c : Thread nD τ).loc b) :=
  if h : b = main_v2 then h ▸ (outM m c : Buf (Elt F) ((c : Thread nD τ).loc main_v2)) else V m c b
theorem GM_out (c : Dev nD) : GM m c main_v2 = outM m c := by unfold GM; rw [dif_pos rfl]

theorem ΦT_eq (c : Dev nD) : (Pipeline.ΦT pre0 (tbl m) c : sProp 𝕄) = holdT c tM (tbl m 0) := by
  unfold Pipeline.ΦT Pipeline.prefHeld
  rw [show (Finset.univ : Finset (Fin 1)) = {(0 : Fin 1)} from by decide, bigSep_singleton]; rfl

theorem ΦD_eq (c : Dev nD) (G : (c : Dev nD) → (b : Ref sig .tc) → Buf (Elt F) ((c : Thread nD τ).loc b)) (hX : V m c main_arg1 = xsA m c) (Y : Buf (Elt F) (ysM.view.loc (c : Thread nD τ))) (hY : G c main_v2 = Y) :
    (Pipeline.ΦDRG osem spec0 HH RR (V m) G c : sProp 𝕄)
      = iprop(((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f)
          ∗ (∃ f : Buf (Elt F) ((c : Thread nD τ).loc cc0_scratch2), ((c : Thread nD τ).loc cc0_scratch2) ↦{fullShare} f)
          ∗ (∃ f : Buf (Elt F) ((c : Thread nD τ).loc cc0_scratch3), ((c : Thread nD τ).loc cc0_scratch3) ↦{fullShare} f))
        ∗ (∃ r, prngReg c r) ∗ (cellIn c 0 ∗ cellIn c 1 ∗ cellOut c 0 ∗ cellOut c 1) ∗ xRange c (xsA m c) 0 159 ∗ yRange c Y 0 159) := by
  rw [Pipeline.ΦDRG_eq, scopedRest0_eq, ownSems0_eq]
  unfold Pipeline.routed
  rw [bigSep_singleton, bigSep_singleton, hY]
  rw [← x_eq, ← y_eq]

theorem into (c : Dev nD) : (iprop(Pipeline.ΦDRG osem spec0 HH RR (V m) (V m) c
      ∗ Pipeline.ΦT pre0 (tbl m) c) : sProp 𝕄) ⊢ Φ m c 0 := by
  rw [ΦT_eq, ΦD_eq m c (V m) rfl (V m c main_v2) rfl]
  unfold Φ
  rw [stage_zero]
  iintro ⟨⟨⟨H0, H1, ⟨%f2, H2⟩, ⟨%f3, H3⟩⟩, Hr, HC, HX, HY⟩, HT⟩
  ihave H0' := (xbuf_split (F := F) c) $$ H0
  ihave H1' := (ybuf_split (F := F) c) $$ H1
  isplitl [HC H0' H1' HX HY]
  · iapply (start c (xsA m c) (outM m c) (V m c main_v2))
    isplitl [HC]; · iexact HC
    isplitl [H0']; · iexact H0'
    isplitl [H1']; · iexact H1'
    isplitl [HX]; · iexact HX
    iexact HY
  isplitl [H2]
  · iexists f2; iapply (Entails.of_eq (wg_eq c f2).symm); iexact H2
  isplitl [H3]
  · iexists f3; iapply (Entails.of_eq (wd_eq c f3).symm); iexact H3
  isplitl [Hr]; · iexact Hr
  iexact HT

theorem outof (c : Dev nD) : Φ m c 32 ⊢ (Pipeline.ΦDRG osem spec0 HH RR (V m) (GM m) c : sProp 𝕄) := by
  rw [ΦD_eq m c (GM m) rfl (outM m c) (GM_out m c)]
  unfold Φ
  rw [stage_last]
  unfold Rest
  iintro ⟨⟨HX, ⟨Hi0, Hx0, Hi1, Hx1⟩, HY, ⟨Ho0, Hy0, Ho1, Hy1⟩⟩, ⟨%f2, H2⟩, ⟨%f3, H3⟩, Hr, -⟩
  isplitl [Hx0 Hx1 Hy0 Hy1 H2 H3]
  · isplitl [Hx0 Hx1]
    · iapply (xbuf_join (F := F) c)
      isplitl [Hx0]; · iexact Hx0
      iexact Hx1
    isplitl [Hy0 Hy1]
    · iapply (ybuf_join (F := F) c)
      isplitl [Hy0]; · iexact Hy0
      iexact Hy1
    isplitl [H2]
    · iexists f2; iapply (Entails.of_eq (wg_eq c f2)); iexact H2
    iexists f3; iapply (Entails.of_eq (wd_eq c f3)); iexact H3
  isplitl [Hr]; · iexact Hr
  isplitl [Hi0 Hi1 Ho0 Ho1]
  · isplitl [Hi0]; · iexact Hi0
    isplitl [Hi1]; · iexact Hi1
    isplitl [Ho0]; · iexact Ho0
    iexact Ho1
  isplitl [HX]; · iexact HX
  iexact HY

set_option maxHeartbeats 4000000 in
theorem run_main (hp : InOrder (ends m)) : θ_run defs (onTc (τ := τ) (main (F := F))) (s₀ m ρ)
    (fun r => Pipeline.FramePostRG (Pipeline.pin pcfgs fun _ => adm m) (dats m) 0 RR (V m) (GM m) r ∧ r.2.sem = fun _ => 0) :=
  Pipeline.θ_run_frameP_dmaRG pcfgs (fun _ => adm m) (dats m) (0 : Fin 1) launch0 osem defs₀ 𝒱₀ ownSemFacts HH RR HH_sub RR_sub m ρ main
    (hbody := fun c => (body_obligation m hp c).loose) (hshare := fun c => (dats m 0 c).share_full fun _ => rfl)
    (howed := fun _ _ => rfl) (V := V m) (hmain := hmain m 𝒱₀) (hA := A_eq m) (hpf := V_pre m) (G := GM m) (hin := fun c => into m c)
    (hout := fun c => by
      rw [show (dats m 0 c).Φ (Fin.last (cfgM m).N) = Φ m c 32 from congrArg (Φ m c) N_0]
      exact outof m c)
    (Q' := fun r => Pipeline.FramePostRG (Pipeline.pin pcfgs fun _ => adm m) (dats m) 0 RR (V m) (GM m) r ∧ r.2.sem = fun _ => 0) (hQ' := fun _ h => h)

/-- The experts' kernel leaves its result's buffer at `outV`, its arguments as they were and every counter at zero. -/
theorem run (hp : InOrder (ends m)) : θ_run defs (onTc (τ := τ) (main (F := F))) (s₀ m ρ)
    (fun r => (∀ c : Dev nD, r.2.mem ((c : Thread nD τ).loc main_v2) = outM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0) := by
  refine (θ_run defs _ _).mono (fun r h => ⟨fun c => ?_, h.2⟩) (run_main m ρ hp)
  have hR := h.1.toR
  refine ⟨(h.1.written c (by decide)).trans (GM_out m c), ?_, ?_, ?_, ?_, ?_, ?_⟩
  · exact ((hR c).2 main_arg0 rest0).trans (V_kept m c main_arg0 (by decide) (by decide))
  · exact ((hR c).2 main_arg1 rest1).trans (V_kept m c main_arg1 (by decide) (by decide))
  · exact ((hR c).1 0).trans (((dats m 0 c).arrAt_in 0 rfl _).trans ((A_eq m c 0).trans (V_kept m c main_arg2 (by decide) (by decide))))
  · exact ((hR c).2 main_arg3 rest3).trans (V_kept m c main_arg3 (by decide) (by decide))
  · exact ((hR c).1 2).trans (((dats m 0 c).arrAt_in 2 rfl _).trans ((A_eq m c 2).trans (V_kept m c main_arg4 (by decide) (by decide))))
  · exact ((hR c).2 main_arg5 rest5).trans (V_kept m c main_arg5 (by decide) (by decide))

end Region
end MoeP
end
-- ==== Proof.MoeKer.lean ====
/-
  What the kernel computes of a block, element by element.
-/
module

public import proofs.«01_k».proof.Proof.MoeStage
public import Idealize.ShloMosaic.Lib.Pointwise

@[expose] public section

set_option maxRecDepth 16384

noncomputable section

namespace MoeP

open Cert.MoeIdeal Cert.MoeIdeal.Gen
open Idealize.ShloMosaic
open Idealize.ShloMosaic.TcCoe

/-- What a gate and an up make together. -/
def gated (g u : EReal) : EReal :=
  (min (Ideal.ofBits .f32 0x40E00000#32) (max (Ideal.ofBits .f32 0xC0E00000#32) u) + 1)
    * (min g (Ideal.ofBits .f32 0x40E00000#32) * Ideal.logistic (Ideal.ofBits .f32 0x3FD9DB23#32 * min g (Ideal.ofBits .f32 0x40E00000#32)))

/-- The hidden layer of a block, its tokens a row of 1024 each. -/
def hidOf (x : FVec Ideal S512x1024 .bf16) (A : FVec Ideal S1024x2048 .bf16) (B : FVec Ideal S1x1x2048 .f32) : FVec Ideal S512x2048 .f32 :=
  addf (matmul dot_S512x1024_S1024x2048_S512x2048_1_0_0_1_n_n none x A (constant S512x2048 .f32 0x00000000#32))
    (broadcastTo S512x2048 (shapeCast S1x2048 B shapeCasts_S1x1x2048_S1x2048) broadcasts_S1x2048_S512x2048)

/-- What goes down. -/
def actOf (u : FVec Ideal S512x2048 .f32) : FVec Ideal S512x1024 .bf16 :=
  truncf .bf16 (mulf (addf (minimumf (broadcast S512x1024 (Scalar.ofBits .f32 0x40E00000#32)) (maximumf (broadcast S512x1024 (Scalar.ofBits .f32 0xC0E00000#32)) (extractStridedSlice S512x1024 ![0, 1024] u slices_S512x2048_o0_1024_S512x1024))) (broadcast S512x1024 (Scalar.ofBits .f32 0x3F800000#32)))
    (mulf (minimumf (extractStridedSlice S512x1024 ![0, 0] u slices_S512x2048_o0_0_S512x1024) (broadcast S512x1024 (Scalar.ofBits .f32 0x40E00000#32)))
      (logistic (mulf (broadcast S512x1024 (Scalar.ofBits .f32 0x3FD9DB23#32)) (minimumf (extractStridedSlice S512x1024 ![0, 0] u slices_S512x2048_o0_0_S512x1024) (broadcast S512x1024 (Scalar.ofBits .f32 0x40E00000#32))))))) bitsLt_bf16_f32

/-- The tokens of a block, a row of 1024 each, out of their eight pieces. -/
def catOf (a0 a1 a2 a3 a4 a5 a6 a7 : FVec Ideal S512x128 .bf16) : FVec Ideal S512x1024 .bf16 :=
  concatenate S512x1024 1 [⟨S512x128, a0⟩, ⟨S512x128, a1⟩, ⟨S512x128, a2⟩, ⟨S512x128, a3⟩, ⟨S512x128, a4⟩, ⟨S512x128, a5⟩, ⟨S512x128, a6⟩, ⟨S512x128, a7⟩] concatenates_S512x128_S512x128_S512x128_S512x128_S512x128_S512x128_S512x128_S512x128_S512x1024_d1

theorem moeHid_eq (x : S4096x128.Idx → Elt Ideal .bf16) (A : Vec Ideal S1024x2048 .bf16) (B : Vec Ideal S1x1x2048 .f32) :
    moeHid x A B = actOf (hidOf (catOf (k0_pay8 (xq x 0)) (k0_pay9 (xq x 1)) (k0_pay4 (xq x 2)) (k0_pay6 (xq x 3)) (k0_pay2 (xq x 0)) (k0_pay3 (xq x 1)) (k0_pay5 (xq x 2)) (k0_pay7 (xq x 3))) A B) := rfl

theorem cat_at (x : S4096x128.Idx → Elt Ideal .bf16) (t : Fin 512) (h : Fin 2) (j : Fin 4) (l : Fin 128) :
    catOf (k0_pay8 (xq x 0)) (k0_pay9 (xq x 1)) (k0_pay4 (xq x 2)) (k0_pay6 (xq x 3)) (k0_pay2 (xq x 0)) (k0_pay3 (xq x 1)) (k0_pay5 (xq x 2)) (k0_pay7 (xq x 3))
      (ix2 t ⟨h.val * 512 + j.val * 128 + l.val, by omega⟩) = x (ix2 (prow j t h) l) := by
  fin_cases h <;> fin_cases j <;> pointwise [catOf, k0_pay8, k0_pay9, k0_pay4, k0_pay6, k0_pay2, k0_pay3, k0_pay5, k0_pay7, xq]
  all_goals
    repeat first | rw [dif_pos (by omega)] | rw [dif_neg (by omega)]
    refine congrArg (fun q => x (ix2 _ q)) (Fin.ext ?_)
    dsimp only
    omega

theorem hidOf_at (x : FVec Ideal S512x1024 .bf16) (A : FVec Ideal S1024x2048 .bf16) (B : FVec Ideal S1x1x2048 .f32) (t : Fin 512) (f : Fin 2048) :
    hidOf x A B (ix2 t f) = (∑ k : Fin 1024, x (ix2 t k) * A (ix2 k f)) + B (ix3 0 0 f) := by
  pointwise [hidOf]
theorem actOf_at (u : FVec Ideal S512x2048 .f32) (t : Fin 512) (f : Fin 1024) :
    actOf u (ix2 t f) = gated (u (ix2 t ⟨f.val, by omega⟩)) (u (ix2 t ⟨1024 + f.val, by omega⟩)) := by
  pointwise [actOf, gated]
theorem down_at (a : FVec Ideal S512x1024 .bf16) (A : FVec Ideal S1024x1024 .bf16) (B : FVec Ideal S1x1x1024 .f32) (t : Fin 512) (d : Fin 1024) :
    (truncf .bf16 (k0_pay11 a A B) bitsLt_bf16_f32 : FVec Ideal S512x1024 .bf16) (ix2 t d) = (∑ f : Fin 1024, a (ix2 t f) * A (ix2 f d)) + B (ix3 0 0 d) := by
  pointwise [k0_pay11]
theorem pay34_at (W : Vec Ideal S1x1024x2048 .f32) (k : Fin 1024) (f : Fin 2048) : (k0_pay34 W : FVec Ideal S1024x2048 .bf16) (ix2 k f) = (show EReal from W (ix3 0 k f)) := by
  pointwise [k0_pay34]
theorem pay35_at (W : Vec Ideal S1x1024x1024 .f32) (k : Fin 1024) (f : Fin 1024) : (k0_pay35 W : FVec Ideal S1024x1024 .bf16) (ix2 k f) = (show EReal from W (ix3 0 k f)) := by
  pointwise [k0_pay35]

/-! ## A row's feed-forward by an expert, as sums -/

section Row
variable (X : FVec Ideal S651264x128 .bf16) (W2 : FVec Ideal S32x1024x2048 .f32) (B3 : FVec Ideal S32x2048 .f32)
  (W4 : FVec Ideal S32x1024x1024 .f32) (B5 : FVec Ideal S32x1024 .f32)

/-- Token `R`'s element `k`: row `2j+h` of the token's eight holds the elements from `512h+128j`. -/
def tok (R : Fin 81408) (k : Fin 1024) : EReal := X (ix2 ⟨R.val * 8 + k.val / 128 % 4 * 2 + k.val / 512, by omega⟩ ⟨k.val % 128, by omega⟩)
/-- Token `R`'s gate or up by expert `e`. -/
def hid (e : Fin 32) (R : Fin 81408) (f : Fin 2048) : EReal := (∑ k : Fin 1024, tok X R k * W2 (ix3 e k f)) + B3 (ix2 e f)
/-- Token `R`'s output by expert `e`. -/
def rowOut (e : Fin 32) (R : Fin 81408) (d : Fin 1024) : EReal :=
  (∑ f : Fin 1024, gated (hid X W2 B3 e R ⟨f.val, by omega⟩) (hid X W2 B3 e R ⟨1024 + f.val, by omega⟩) * W4 (ix3 e f d)) + B5 (ix2 e d)
end Row

theorem cat_at' (x : S4096x128.Idx → Elt Ideal .bf16) (t : Fin 512) (k : Fin 1024) :
    catOf (k0_pay8 (xq x 0)) (k0_pay9 (xq x 1)) (k0_pay4 (xq x 2)) (k0_pay6 (xq x 3)) (k0_pay2 (xq x 0)) (k0_pay3 (xq x 1)) (k0_pay5 (xq x 2)) (k0_pay7 (xq x 3))
      (ix2 t k) = x (ix2 ⟨8 * t.val + k.val / 128 % 4 * 2 + k.val / 512, by omega⟩ ⟨k.val % 128, by omega⟩) := by
  have e := cat_at x t ⟨k.val / 512, by omega⟩ ⟨k.val / 128 % 4, by omega⟩ ⟨k.val % 128, by omega⟩
  have hk : (⟨k.val / 512 * 512 + k.val / 128 % 4 * 128 + k.val % 128, by omega⟩ : Fin 1024) = k := Fin.ext (by show k.val / 512 * 512 + k.val / 128 % 4 * 128 + k.val % 128 = k.val; omega)
  rw [hk] at e
  rw [e]
  refine congrArg (fun q => x (ix2 q _)) (Fin.ext ?_)
  show 8 * t.val + 2 * (k.val / 128 % 4) + k.val / 512 = _
  dsimp only
  omega

theorem blk_at (x : S4096x128.Idx → Elt Ideal .bf16) (A : Vec Ideal S1024x2048 .bf16) (A' : Vec Ideal S1024x1024 .bf16) (B : Vec Ideal S1x1x2048 .f32) (B' : Vec Ideal S1x1x1024 .f32)
    (X : FVec Ideal S651264x128 .bf16) (W2 : FVec Ideal S32x1024x2048 .f32) (B3 : FVec Ideal S32x2048 .f32) (W4 : FVec Ideal S32x1024x1024 .f32) (B5 : FVec Ideal S32x1024 .f32)
    (b : Fin 159) (e : Fin 32)
    (hx : ∀ (q : Fin 4096) (l : Fin 128), x (ix2 q l) = X (ix2 ⟨b.val * 4096 + q.val, by omega⟩ l))
    (hA : ∀ (k : Fin 1024) (f : Fin 2048), A (ix2 k f) = W2 (ix3 e k f)) (hB : ∀ f : Fin 2048, B (ix3 0 0 f) = B3 (ix2 e f))
    (hA' : ∀ (f : Fin 1024) (d : Fin 1024), A' (ix2 f d) = W4 (ix3 e f d)) (hB' : ∀ d : Fin 1024, B' (ix3 0 0 d) = B5 (ix2 e d))
    (j : Fin 4) (t : Fin 512) (h : Fin 2) (l : Fin 128) :
    moeBlk x A A' B B' j t h l = rowOut X W2 B3 W4 B5 e ⟨b.val * 512 + t.val, by omega⟩ ⟨h.val * 512 + j.val * 128 + l.val, by omega⟩ := by
  have hh : ∀ f : Fin 2048, hidOf (catOf (k0_pay8 (xq x 0)) (k0_pay9 (xq x 1)) (k0_pay4 (xq x 2)) (k0_pay6 (xq x 3)) (k0_pay2 (xq x 0)) (k0_pay3 (xq x 1)) (k0_pay5 (xq x 2)) (k0_pay7 (xq x 3))) A B (ix2 t f)
      = hid X W2 B3 e ⟨b.val * 512 + t.val, by omega⟩ f := by
    intro f
    refine (hidOf_at _ A B t f).trans ?_
    unfold hid
    refine congrArg₂ (· + ·) (Finset.sum_congr rfl fun k _ => ?_) (hB f)
    refine congrArg₂ (· * ·) ?_ (hA k f)
    refine (cat_at' x t k).trans ((hx _ _).trans ?_)
    unfold tok
    refine congrArg (fun q => X (ix2 q _)) (Fin.ext ?_)
    dsimp only
    omega
  refine (down_at _ A' B' t _).trans ?_
  unfold rowOut
  refine congrArg₂ (· + ·) (Finset.sum_congr rfl fun f _ => ?_) (hB' _)
  refine congrArg₂ (· * ·) ?_ (hA' f _)
  refine (congrFun (moeHid_eq x A B) _).trans ((actOf_at _ t f).trans ?_)
  rw [hh, hh]

/-! ## The result's contents, as sums -/

section Out
variable (m : (ℓ : Loc nD τ sig) → Buf (Elt Ideal) ℓ) (c : Dev nD)

abbrev aX : FVec Ideal S651264x128 .bf16 := m ((c.tc : Thread nD τ).loc main_arg1)
abbrev aW2 : FVec Ideal S32x1024x2048 .f32 := m ((c.tc : Thread nD τ).loc main_arg2)
abbrev aB3 : FVec Ideal S32x2048 .f32 := m ((c.tc : Thread nD τ).loc main_arg3)
abbrev aW4 : FVec Ideal S32x1024x1024 .f32 := m ((c.tc : Thread nD τ).loc main_arg4)
abbrev aB5 : FVec Ideal S32x1024 .f32 := m ((c.tc : Thread nD τ).loc main_arg5)

theorem V_v0 : V m c main_v0 = (shapeCast S32x1x2048 (aB3 m c) shapeCasts_S32x2048_S32x1x2048 : FVec Ideal S32x1x2048 .f32) := rfl
theorem V_v1 : V m c main_v1 = (shapeCast S32x1x1024 (aB5 m c) shapeCasts_S32x1024_S32x1x1024 : FVec Ideal S32x1x1024 .f32) := rfl

theorem wUp_at (e : Fin 32) (k : Fin 1024) (f : Fin 2048) : wUp m c e (ix2 k f) = aW2 m c (ix3 e k f) :=
  (pay34_at _ k f).trans (congrFun (V_kept m c main_arg2 (by decide) (by decide)) (ix3 e k f))
theorem wDn_at (e : Fin 32) (k : Fin 1024) (f : Fin 1024) : wDn m c e (ix2 k f) = aW4 m c (ix3 e k f) :=
  (pay35_at _ k f).trans (congrFun (V_kept m c main_arg4 (by decide) (by decide)) (ix3 e k f))
theorem bUp_at (e : Fin 32) (f : Fin 2048) : bUp m c e (ix3 0 0 f) = aB3 m c (ix2 e f) := by
  refine (congrFun (V_v0 m c) (ix3 e 0 f)).trans ?_
  pointwise
theorem bDn_at (e : Fin 32) (f : Fin 1024) : bDn m c e (ix3 0 0 f) = aB5 m c (ix2 e f) := by
  refine (congrFun (V_v1 m c) (ix3 e 0 f)).trans ?_
  pointwise
theorem x_at (b : Fin 159) (q : Fin 4096) (l : Fin 128) :
    (xBlk b).view.read (Elt Ideal) (xsA m c) (ix2 q l) = aX m c (ix2 ⟨b.val * 4096 + q.val, by omega⟩ l) := by
  refine (View.read_apply _ _).trans ?_
  refine (congrFun (V_kept m c main_arg1 (by decide) (by decide)) _).trans (congrArg (aX m c) ?_)
  funext a; apply Fin.ext
  fin_cases a
  · show b.val * 4096 + 1 * q.val = b.val * 4096 + q.val; omega
  · show 0 + 1 * l.val = l.val; omega

/-- A block's rows are its expert's outputs. -/
theorem out_some (hp : InOrder (ends m)) (b : Fin 159) (e : Fin 32) (h1 : stB (ends m) e ≤ b.val) (h2 : b.val < enB (ends m) e)
    (j : Fin 4) (t : Fin 512) (h : Fin 2) (l : Fin 128) :
    outAt m c b j t h l = rowOut (aX m c) (aW2 m c) (aB3 m c) (aW4 m c) (aB5 m c) e ⟨b.val * 512 + t.val, by omega⟩ ⟨h.val * 512 + j.val * 128 + l.val, by omega⟩ :=
  (outAt_of m hp c b e h1 h2 j t h l).trans
    (blk_at _ _ _ _ _ _ _ _ _ _ b e (x_at m c b) (wUp_at m c e) (bUp_at m c e) (wDn_at m c e) (bDn_at m c e) j t h l)
end Out

end MoeP
end
-- ==== Proof.MoeOrder.lean ====
/-
  What the precondition says of the experts' ends.
-/
module

public import proofs.«01_k».proof.Defs
public import proofs.«01_k».proof.Proof.MoeStage
public import proofs.«01_k».proof.Proof.Gen.Pre_blocks_in_order
public import Idealize.ShloMosaic.Lib.Affine
public import Idealize.ShloMosaic.Lib.Pointwise

@[expose] public section

set_option maxRecDepth 16384

noncomputable section

namespace MoeP

open Cert.MoeIdeal Cert.MoeIdeal.Gen
open Idealize.ShloMosaic
open Idealize.ShloMosaic.TcCoe

/-- An end is a whole number of blocks. -/
theorem whole_blocks (x : BitVec 32) (h0 : 0 ≤ x.toInt) (h1 : x.toInt ≤ 81408) (h : IntOp.remsi .host x 512#32 = 0#32) :
    x = BitVec.ofNat 32 (512 * enN x) ∧ enN x ≤ 159 := by
  have hx : x.toInt = (x.toNat : ℤ) := by
    rw [BitVec.toInt_eq_toNat_cond]; split
    · rfl
    · rename_i q; rw [BitVec.toInt_eq_toNat_cond, if_neg q] at h0; have := x.isLt; omega
  have hn : x.toNat ≤ 81408 := by omega
  have hd : 512 ∣ x.toNat := (IntOp.remsi_eq_zero_iff .host (by omega) 512 (by omega) (by omega)).mp h
  obtain ⟨k, hk⟩ := hd
  have hk' : k ≤ 159 := by omega
  have e : x = BitVec.ofNat 32 (512 * k) := by
    apply BitVec.eq_of_toNat_eq; rw [hk, BitVec.toNat_ofNat]; omega
  have hen : enN x = k := by rw [e]; exact fdiv_ofNat k hk'
  rw [hen]; exact ⟨e, hk'⟩

section Order
variable (p : Fin 32 → BitVec 32)

/-- The end before one. -/
def before (e : Fin 32) : BitVec 32 := if e.val = 0 then 0#32 else p ⟨e.val - 1, by omega⟩

/-- The ends: whole blocks, rising, inside the rows. -/
structure Rising : Prop where
  rem : ∀ e, IntOp.remsi .host (p e) 512#32 = 0#32
  up : ∀ e, (before p e).toInt ≤ (p e).toInt
  ub : ∀ e, (p e).toInt ≤ 81408

theorem Rising.nonneg {p : Fin 32 → BitVec 32} (h : Rising p) : ∀ (n : ℕ) (hn : n < 32), 0 ≤ (p ⟨n, hn⟩).toInt
  | 0, hn => by have := h.up ⟨0, hn⟩; unfold before at this; rw [if_pos rfl] at this; exact this
  | n + 1, hn => by
    have := h.up ⟨n + 1, hn⟩; unfold before at this; rw [if_neg (by simp)] at this
    exact (Rising.nonneg h n (by omega)).trans this
theorem Rising.blocks {p : Fin 32 → BitVec 32} (h : Rising p) (e : Fin 32) : p e = BitVec.ofNat 32 (512 * enB p e) ∧ enB p e ≤ 159 :=
  whole_blocks (p e) (h.nonneg e.val e.isLt) (h.ub e) (h.rem e)
theorem toInt_blocks (k : ℕ) (hk : k ≤ 159) : (BitVec.ofNat 32 (512 * k)).toInt = (512 * k : ℕ) := by
  rw [BitVec.toInt_eq_toNat_cond, BitVec.toNat_ofNat, Nat.mod_eq_of_lt (by omega), if_pos (by omega)]
theorem Rising.end_int {p : Fin 32 → BitVec 32} (h : Rising p) (e : Fin 32) : (p e).toInt = (512 * enB p e : ℕ) := by
  obtain ⟨a, b⟩ := h.blocks e
  conv_lhs => rw [a]
  exact toInt_blocks _ b
theorem Rising.before_int {p : Fin 32 → BitVec 32} (h : Rising p) (e : Fin 32) : (before p e).toInt = (512 * stB p e : ℕ) := by
  unfold before stB
  split
  · rfl
  · exact h.end_int _
theorem Rising.inOrder {p : Fin 32 → BitVec 32} (h : Rising p) : InOrder p where
  le e := by have := h.up e; rw [h.end_int, h.before_int] at this; omega
  ub := (h.blocks 31).2
end Order

/-- The three comparisons of a one of the precondition. -/
theorem decode (a b c d f : BitVec 32)
    (q : IntOp.andi (IntOp.andi (IntOp.cmpi .eq a b) (IntOp.cmpi .sle c d)) (IntOp.cmpi .sle d f) = 1#1) :
    a = b ∧ c.toInt ≤ d.toInt ∧ d.toInt ≤ f.toInt := by
  have ho : ∀ p : Bool, (BitVec.ofBool p = 1#1) ↔ p = true := fun p => by cases p <;> decide
  rw [IntOp.andi_eq_one, IntOp.andi_eq_one] at q
  obtain ⟨⟨q1, q2⟩, q3⟩ := q
  simp only [IntOp.cmpi, ho, BitVec.sle_eq_decide, decide_eq_true_eq, beq_iff_eq] at q1 q2 q3
  exact ⟨q1, q2, q3⟩

/-- What the precondition says of the ends. -/
theorem rising_of_pre (m : (ℓ : Loc nD τ sig) → Buf (Elt Ideal) ℓ) (h : Cert.Pre_MoeIdeal m) : Rising (ends m) := by
  have key : ∀ e : Fin 32, IntOp.remsi .host (ends m e) 512#32 = 0#32 ∧ (before (ends m) e).toInt ≤ (ends m e).toInt ∧ (ends m e).toInt ≤ 81408 := by
    intro e
    have q := congrFun (h 0) (ix1 e)
    unfold Cert.Pre_blocks_in_order.fn at q
    pointwise at q
    obtain ⟨q1, q2, q3⟩ := decode _ _ _ _ _ q
    refine ⟨q1, ?_, q3⟩
    unfold before
    by_cases hz : e.val = 0
    · rw [if_pos hz]; rw [dif_pos (by omega)] at q2; exact q2
    · rw [if_neg hz]; rw [dif_neg (by omega)] at q2; exact q2
  exact ⟨fun e => (key e).1, fun e => (key e).2.1, fun e => (key e).2.2⟩

end MoeP
end
-- ==== Proof.MoeValue.lean ====
/-
  The experts' feed-forward of one row, as a plain sum: what the reference's result is of it.
-/
module

public import proofs.«01_k».proof.Proof.MoeKer
public import proofs.«01_k».proof.Proof.MoeOrder
public import proofs.«01_k».proof.Proof.Gen.MoeRefIdeal.Run
public import Idealize.ShloMosaic.Lib.Pointwise

@[expose] public section

set_option maxRecDepth 16384

noncomputable section

namespace MoeP

open Cert.MoeRefIdeal Cert.MoeRefIdeal.Gen
open Idealize.ShloMosaic
open Idealize.ShloMosaic.TcCoe

/-- The tokens, a row of 1024 each. -/
def refRows (X : FVec Ideal S651264x128 .bf16) : FVec Ideal S81408x1024 .f32 :=
  extf .f32 (shapeCast S81408x1024 (transpose S81408x2x4x128 [0, 2, 1, 3] (shapeCast S81408x4x2x128 X shapeCasts_S651264x128_S81408x4x2x128) transposes_S81408x4x2x128_S81408x2x4x128_0_2_1_3) shapeCasts_S81408x2x4x128_S81408x1024) bitsLt_bf16_f32

/-- Every token's gates and ups, by every expert. -/
def refGu (x : FVec Ideal S81408x1024 .f32) (W : FVec Ideal S32x1024x2048 .f32) (B : FVec Ideal S32x2048 .f32) : FVec Ideal S81408x32x2048 .f32 :=
  addf (Host.dotGeneral dot_S81408x1024_S32x1024x2048_S81408x32x2048_1_1_0_02_n_n none x W) (broadcastInDim S81408x32x2048 ![0, 1, 2] bcast_S1x32x2048_S81408x32x2048_0_1_2 (broadcastInDim S1x32x2048 ![1, 2] bcast_S32x2048_S1x32x2048_1_2 B))

/-- What goes down. -/
def refAct (gu : FVec Ideal S81408x32x2048 .f32) : FVec Ideal S81408x32x1024 .f32 :=
  mulf (addf (minimumf (broadcastInDim S81408x32x1024 ![] bcast_S_S81408x32x1024 (id (constant S_ .f32 0x40E00000#32))) (maximumf (broadcastInDim S81408x32x1024 ![] bcast_S_S81408x32x1024 (id (constant S_ .f32 0xC0E00000#32))) (extractStridedSlice S81408x32x1024 ![0, 0, 1024] gu slices_S81408x32x2048_S81408x32x1024_0_0_1024))) (broadcastInDim S81408x32x1024 ![] bcast_S_S81408x32x1024 (constant S_ .f32 0x3F800000#32)))
    (mulf (minimumf (extractStridedSlice S81408x32x1024 ![0, 0, 0] gu slices_S81408x32x2048_S81408x32x1024_0_0_0) (broadcastInDim S81408x32x1024 ![] bcast_S_S81408x32x1024 (constant S_ .f32 0x40E00000#32)))
      (Host.divf (broadcastInDim S81408x32x1024 ![] bcast_S_S81408x32x1024 (constant S_ .f32 0x3F800000#32)) (addf (broadcastInDim S81408x32x1024 ![] bcast_S_S81408x32x1024 (constant S_ .f32 0x3F800000#32)) (Host.exp (Host.negf (mulf (broadcastInDim S81408x32x1024 ![] bcast_S_S81408x32x1024 (constant S_ .f32 0x3FD9DB23#32)) (minimumf (extractStridedSlice S81408x32x1024 ![0, 0, 0] gu slices_S81408x32x2048_S81408x32x1024_0_0_0) (broadcastInDim S81408x32x1024 ![] bcast_S_S81408x32x1024 (constant S_ .f32 0x40E00000#32)))))))))

/-- Every token's output by every expert. -/
def refYs (a : FVec Ideal S81408x32x1024 .f32) (W : FVec Ideal S32x1024x1024 .f32) (B : FVec Ideal S32x1024 .f32) : FVec Ideal S32x81408x1024 .f32 :=
  addf (Host.dotGeneral dot_S81408x32x1024_S32x1024x1024_S32x81408x1024_2_1_0_2_1_0 none a W) (broadcastInDim S32x81408x1024 ![0, 1, 2] bcast_S32x1x1024_S32x81408x1024_0_1_2 (broadcastInDim S32x1x1024 ![0, 2] bcast_S32x1024_S32x1x1024_0_2 B))

/-- Which expert a token goes to. -/
def refSel (p : IVec S32 32) : IVec S32x81408 1 :=
  transpose S32x81408 [1, 0] (andi (cmpi .sle (broadcastInDim S81408x32 ![0, 1] bcast_S1x32_S81408x32_0_1 (broadcastInDim S1x32 ![1] bcast_S32_S1x32_1 (concatenate S32 0 [⟨S1, (broadcastInDim S1 ![] bcast_S_S1 (constantI S_ 32 0#32))⟩, ⟨S31, (extractStridedSlice S31 ![0] p slices_S32_S31_0)⟩] concatenates_S1_S31_S32_d0))) (broadcastInDim S81408x32 ![0, 1] bcast_S81408x1_S81408x32_0_1 (broadcastInDim S81408x1 ![0] bcast_S81408_S81408x1_0 (iotaInDim S81408 32 0)))) (cmpi .slt (broadcastInDim S81408x32 ![0, 1] bcast_S81408x1_S81408x32_0_1 (broadcastInDim S81408x1 ![0] bcast_S81408_S81408x1_0 (iotaInDim S81408 32 0))) (broadcastInDim S81408x32 ![0, 1] bcast_S1x32_S81408x32_0_1 (broadcastInDim S1x32 ![1] bcast_S32_S1x32_1 p)))) transposes_S81408x32_S32x81408_1_0

/-- The chosen outputs, a row of 1024 each. -/
def refSum (s : IVec S32x81408 1) (y : FVec Ideal S32x81408x1024 .f32) : FVec Ideal S81408x1024 .f32 :=
  Host.reduceAdd (select (broadcastInDim S32x81408x1024 ![0, 1, 2] bcast_S32x81408x1_S32x81408x1024_0_1_2 (broadcastInDim S32x81408x1 ![0, 1] bcast_S32x81408_S32x81408x1_0_1 s)) y (broadcastInDim S32x81408x1024 ![] bcast_S_S32x81408x1024 (id (constant S_ .f32 0x00000000#32)))) (constant S_ .f32 0x00000000#32) reducesTo_S32x81408x1024_S81408x1024_d0 h_S_

/-- They in the layout of the tokens. -/
def refOut (s : FVec Ideal S81408x1024 .f32) : FVec Ideal S651264x128 .bf16 :=
  shapeCast S651264x128 (transpose S81408x4x2x128 [0, 2, 1, 3] (shapeCast S81408x2x4x128 (truncf .bf16 s bitsLt_bf16_f32) shapeCasts_S81408x1024_S81408x2x4x128) transposes_S81408x2x4x128_S81408x4x2x128_0_2_1_3) shapeCasts_S81408x4x2x128_S651264x128

theorem ref_eq (m : (ℓ : Loc nD τ sig) → Buf (Elt Ideal) ℓ) (c : Dev nD) :
    Cert.MoeRefIdeal.Value.res_main_v50 m c
      = refOut (refSum (refSel (m ((c.tc : Thread nD τ).loc main_arg0)))
          (refYs (refAct (refGu (refRows (m ((c.tc : Thread nD τ).loc main_arg1))) (m ((c.tc : Thread nD τ).loc main_arg2)) (m ((c.tc : Thread nD τ).loc main_arg3))))
            (m ((c.tc : Thread nD τ).loc main_arg4)) (m ((c.tc : Thread nD τ).loc main_arg5)))) := rfl

theorem refRows_at (X : FVec Ideal S651264x128 .bf16) (R : Fin 81408) (k : Fin 1024) : refRows X (ix2 R k) = tok X R k := by
  pointwise [refRows, tok]
theorem refGu_at (X : FVec Ideal S651264x128 .bf16) (W : FVec Ideal S32x1024x2048 .f32) (B : FVec Ideal S32x2048 .f32) (R : Fin 81408) (e : Fin 32) (f : Fin 2048) :
    refGu (refRows X) W B (ix3 R e f) = hid X W B e R f := by
  pointwise [refGu, hid, refRows_at]
theorem refAct_at (gu : FVec Ideal S81408x32x2048 .f32) (R : Fin 81408) (e : Fin 32) (f : Fin 1024) :
    refAct gu (ix3 R e f) = gated (gu (ix3 R e ⟨f.val, by omega⟩)) (gu (ix3 R e ⟨1024 + f.val, by omega⟩)) := by
  pointwise [refAct, gated, id]
  rfl
theorem refYs_at (a : FVec Ideal S81408x32x1024 .f32) (W : FVec Ideal S32x1024x1024 .f32) (B : FVec Ideal S32x1024 .f32) (R : Fin 81408) (e : Fin 32) (d : Fin 1024) :
    refYs a W B (ix3 e R d) = (∑ f : Fin 1024, a (ix3 R e f) * W (ix3 e f d)) + B (ix2 e d) := by
  pointwise [refYs]
theorem refSum_at (s : IVec S32x81408 1) (y : FVec Ideal S32x81408x1024 .f32) (R : Fin 81408) (d : Fin 1024) :
    refSum s y (ix2 R d) = ∑ e : Fin 32, if s (ix2 e R) = 1 then y (ix3 e R d) else 0 := by
  pointwise [refSum, id, Scalar.select_def]
theorem refOut_at (s : FVec Ideal S81408x1024 .f32) (r : Fin 651264) (l : Fin 128) :
    refOut s (ix2 r l) = s (ix2 ⟨r.val / 8, by omega⟩ ⟨r.val % 2 * 512 + r.val / 2 % 4 * 128 + l.val, by omega⟩) := by
  pointwise [refOut]

/-- A token goes to the expert its block does. -/
theorem refSel_at {p : Fin 32 → BitVec 32} (hp : Rising p) (R : Fin 81408) (e : Fin 32) :
    refSel (fun y => p (y 0)) (ix2 e R) = 1 ↔ stB p e ≤ R.val / 512 ∧ R.val / 512 < enB p e := by
  have hR : (BitVec.ofNat 32 R.val).toInt = (R.val : ℤ) := by
    rw [BitVec.toInt_eq_toNat_cond, BitVec.toNat_ofNat, Nat.mod_eq_of_lt (by omega), if_pos (by omega)]
  have ho : ∀ q : Bool, (BitVec.ofBool q = 1#1) ↔ q = true := fun q => by cases q <;> decide
  have e1 : refSel (fun y => p (y 0)) (ix2 e R) = IntOp.andi (IntOp.cmpi .sle (before p e) (BitVec.ofNat 32 R.val)) (IntOp.cmpi .slt (BitVec.ofNat 32 R.val) (p e)) := by
    pointwise [refSel]
    refine congrArg (fun q => IntOp.andi (IntOp.cmpi .sle q _) _) ?_
    unfold before
    by_cases hz : e.val = 0
    · rw [if_pos hz, dif_pos (by omega)]
    · rw [if_neg hz, dif_neg (by omega)]
  rw [e1]
  refine IntOp.andi_eq_one.trans ?_
  simp only [IntOp.cmpi, ho, BitVec.sle_eq_decide, BitVec.slt_eq_decide, decide_eq_true_eq]
  rw [hR, hp.before_int, hp.end_int]
  constructor
  · rintro ⟨a, b⟩; constructor <;> omega
  · rintro ⟨a, b⟩; constructor <;> omega

/-- The reference's result, element by element. -/
theorem ref_at {p : Fin 32 → BitVec 32} (hp : Rising p) (X : FVec Ideal S651264x128 .bf16) (W2 : FVec Ideal S32x1024x2048 .f32) (B3 : FVec Ideal S32x2048 .f32)
    (W4 : FVec Ideal S32x1024x1024 .f32) (B5 : FVec Ideal S32x1024 .f32) (b : Fin 159) (j : Fin 4) (t : Fin 512) (h : Fin 2) (l : Fin 128) (r : Fin 651264)
    (hr : r.val = b.val * 4096 + (prow j t h).val) :
    refOut (refSum (refSel fun y => p (y 0)) (refYs (refAct (refGu (refRows X) W2 B3)) W4 B5)) (ix2 r l)
      = ∑ e : Fin 32, if stB p e ≤ b.val ∧ b.val < enB p e then rowOut X W2 B3 W4 B5 e ⟨b.val * 512 + t.val, by omega⟩ ⟨h.val * 512 + j.val * 128 + l.val, by omega⟩ else 0 := by
  have hq : (prow j t h).val = 8 * t.val + 2 * j.val + h.val := rfl
  have hd : ix2 (⟨r.val / 8, by omega⟩ : Fin 81408) (⟨r.val % 2 * 512 + r.val / 2 % 4 * 128 + l.val, by omega⟩ : Fin 1024)
      = ix2 (⟨b.val * 512 + t.val, by omega⟩ : Fin 81408) (⟨h.val * 512 + j.val * 128 + l.val, by omega⟩ : Fin 1024) :=
    congrArg₂ ix2 (Fin.ext (by show r.val / 8 = b.val * 512 + t.val; omega))
      (Fin.ext (by show r.val % 2 * 512 + r.val / 2 % 4 * 128 + l.val = h.val * 512 + j.val * 128 + l.val; omega))
  refine (refOut_at _ r l).trans ((congrArg _ hd).trans ((refSum_at _ _ _ _).trans (Finset.sum_congr rfl fun e _ => ?_)))
  have hs := refSel_at hp ⟨b.val * 512 + t.val, by omega⟩ e
  have hb : (b.val * 512 + t.val) / 512 = b.val := by omega
  dsimp only at hs
  rw [hb] at hs
  have hy : refYs (refAct (refGu (refRows X) W2 B3)) W4 B5 (ix3 e (⟨b.val * 512 + t.val, by omega⟩ : Fin 81408) (⟨h.val * 512 + j.val * 128 + l.val, by omega⟩ : Fin 1024))
      = rowOut X W2 B3 W4 B5 e ⟨b.val * 512 + t.val, by omega⟩ ⟨h.val * 512 + j.val * 128 + l.val, by omega⟩ := by
    refine (refYs_at _ _ _ _ e _).trans ?_
    unfold rowOut
    refine congrArg (· + _) (Finset.sum_congr rfl fun f _ => congrArg (· * _) ?_)
    rw [refAct_at, refGu_at, refGu_at]
  rw [hy]
  by_cases hc : stB p e ≤ b.val ∧ b.val < enB p e
  · rw [if_pos hc, if_pos (hs.mpr hc)]
  · rw [if_neg hc, if_neg (fun q => hc (hs.mp q))]

/-- The reference's result of its arguments. -/
def refTerm (P : IVec S32 32) (X : FVec Ideal S651264x128 .bf16) (W2 : FVec Ideal S32x1024x2048 .f32) (B3 : FVec Ideal S32x2048 .f32)
    (W4 : FVec Ideal S32x1024x1024 .f32) (B5 : FVec Ideal S32x1024 .f32) : FVec Ideal S651264x128 .bf16 :=
  refOut (refSum (refSel P) (refYs (refAct (refGu (refRows X) W2 B3)) W4 B5))

theorem refTerm_congr {P P' : IVec S32 32} {X X' : FVec Ideal S651264x128 .bf16} {W2 W2' : FVec Ideal S32x1024x2048 .f32} {B3 B3' : FVec Ideal S32x2048 .f32}
    {W4 W4' : FVec Ideal S32x1024x1024 .f32} {B5 B5' : FVec Ideal S32x1024 .f32} (h0 : P = P') (h1 : X = X') (h2 : W2 = W2') (h3 : B3 = B3') (h4 : W4 = W4') (h5 : B5 = B5') :
    refTerm P X W2 B3 W4 B5 = refTerm P' X' W2' B3' W4' B5' := by
  subst h0 h1 h2 h3 h4 h5; rfl

theorem ofBits_zero : Ideal.ofBits .bf16 0x0000#16 = 0 := by pointwise

/-- The kernel's result, element by element, is the reference's of the same arguments. -/
theorem out_eq_term (m : (ℓ : Loc Cert.MoeIdeal.nD Cert.MoeIdeal.τ Cert.MoeIdeal.sig) → Buf (Elt Ideal) ℓ) (hr : Rising (ends m)) (c : Dev Cert.MoeIdeal.nD) :
    outV m c = refTerm (fun y => ends m (y 0)) (aX m c) (aW2 m c) (aB3 m c) (aW4 m c) (aB5 m c) := by
  have hp := hr.inOrder
  funext y
  idx_vars y
  obtain ⟨b, j, t, h, hq⟩ : ∃ (b : Fin 159) (j : Fin 4) (t : Fin 512) (h : Fin 2), y0.val = b.val * 4096 + (prow j t h).val :=
    ⟨⟨y0.val / 4096, by omega⟩, ⟨y0.val % 4096 % 8 / 2, by omega⟩, ⟨y0.val % 4096 / 8, by omega⟩, ⟨y0.val % 2, by omega⟩, by
      show y0.val = y0.val / 4096 * 4096 + (8 * (y0.val % 4096 / 8) + 2 * (y0.val % 4096 % 8 / 2) + y0.val % 2); omega⟩
  refine (outV_at m c b j t h y1 y0 hq).trans (Eq.trans ?_ (ref_at hr _ _ _ _ _ b j t h y1 y0 hq).symm)
  by_cases H : ∃ e, stB (ends m) e ≤ b.val ∧ b.val < enB (ends m) e
  · obtain ⟨e, h1, h2⟩ := H
    refine (out_some m c hp b e h1 h2 j t h y1).trans (Eq.symm ?_)
    refine (Finset.sum_eq_single e (fun e' _ hne => if_neg ?_) (fun q => absurd (Finset.mem_univ e) q)).trans (if_pos ⟨h1, h2⟩)
    rintro ⟨a1, a2⟩
    exact hne (hp.unique a1 a2 h1 h2)
  · have hz : outAt m c b j t h y1 = Scalar.ofBits (F := Ideal) .bf16 0x0000#16 := by unfold outAt; rw [dif_neg H]
    refine hz.trans (Eq.symm ?_)
    refine (Finset.sum_eq_zero fun e _ => if_neg fun q => H ⟨e, q⟩).trans ?_
    exact ofBits_zero.symm

/-- The kernel leaves what the reference computes. -/
theorem out_eq_ref (m : (ℓ : Loc Cert.MoeIdeal.nD Cert.MoeIdeal.τ Cert.MoeIdeal.sig) → Buf (Elt Ideal) ℓ) (hr : Rising (ends m)) (c : Dev Cert.MoeIdeal.nD)
    (m' : (ℓ : Loc nD τ sig) → Buf (Elt Ideal) ℓ) (c' : Dev nD)
    (h0 : m' ((c'.tc : Thread nD τ).loc main_arg0) = m (((0 : Dev Cert.MoeIdeal.nD).tc : Thread Cert.MoeIdeal.nD Cert.MoeIdeal.τ).loc Cert.MoeIdeal.main_arg0))
    (h1 : m' ((c'.tc : Thread nD τ).loc main_arg1) = m ((c.tc : Thread Cert.MoeIdeal.nD Cert.MoeIdeal.τ).loc Cert.MoeIdeal.main_arg1))
    (h2 : m' ((c'.tc : Thread nD τ).loc main_arg2) = m ((c.tc : Thread Cert.MoeIdeal.nD Cert.MoeIdeal.τ).loc Cert.MoeIdeal.main_arg2))
    (h3 : m' ((c'.tc : Thread nD τ).loc main_arg3) = m ((c.tc : Thread Cert.MoeIdeal.nD Cert.MoeIdeal.τ).loc Cert.MoeIdeal.main_arg3))
    (h4 : m' ((c'.tc : Thread nD τ).loc main_arg4) = m ((c.tc : Thread Cert.MoeIdeal.nD Cert.MoeIdeal.τ).loc Cert.MoeIdeal.main_arg4))
    (h5 : m' ((c'.tc : Thread nD τ).loc main_arg5) = m ((c.tc : Thread Cert.MoeIdeal.nD Cert.MoeIdeal.τ).loc Cert.MoeIdeal.main_arg5)) :
    Cert.MoeRefIdeal.Value.res_main_v50 m' c' = outV m c :=
  (ref_eq m' c').trans ((refTerm_congr (h0.trans (funext fun y => congrArg _ (eq_ix1 y))) h1 h2 h3 h4 h5).trans (out_eq_term m hr c).symm)

end MoeP
end
-- ==== Proof.MemkvValue.lean ====
/-
  The projection of the memory: what the pipelined kernel leaves in its two result arrays, as the reference's own terms of
  the argument arrays. Every grid point normalises its 512 rows and multiplies them with the two weights; the reference
  normalises the rows of the batch of memories and multiplies them with the same.
-/
module

public import proofs.«01_k».proof.Proof.Gen.MemkvIdeal.Frame
public import proofs.«01_k».proof.Proof.Gen.MemkvIdeal.Value
public import proofs.«01_k».proof.Proof.Gen.MemkvRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MemkvRefIdeal.Term

open Cert.MemkvRefIdeal Cert.MemkvRefIdeal.Gen

/-- The reference's product of the normalised rows with a weight, over the argument arrays. -/
def U (X : FVec Ideal S4x256x1024 .f32) (G : FVec Ideal S1x1024 .f32) (W : FVec Ideal S1x1024x1024 .f32) :
    FVec Ideal S1024x1024 .bf16 :=
  truncf .bf16 (shapeCast _ (Host.dotGeneral dot_S4x256x1024_S1024x1024_S4x256x1024_2_0_01_1_n_n none (mulf (mulf X (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf X X) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![2] bcast_S1024_S1x1x1024_2 (shapeCast _ G shapeCasts_S1x1024_S1024)))) (shapeCast _ W shapeCasts_S1x1024x1024_S1024x1024)) shapeCasts_S4x256x1024_S1024x1024) bitsLt_bf16_f32

end Cert.MemkvRefIdeal.Term

namespace Cert.MemkvIdeal.RefValue

open Cert.MemkvIdeal Cert.MemkvIdeal.Gen Cert.MemkvRefIdeal.Term

variable (m : (ℓ : Loc nD τ sig) → Buf (Elt Ideal) ℓ)

/-- The windows' block indices, every grid point at once. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, _)

/-- A block of the staged rows is 512 consecutive rows of the batch of memories. -/
theorem blk0 (c : Dev nD) (t : Fin cfg0.N) (r : Fin 512) (k : Fin 1024) (ha : (t.val * 512 + r.val) / 256 < 4)
    (hb : (t.val * 512 + r.val) % 256 < 256) :
    (iblk m c 0 t : FVec Ideal S512x1024 .f32) (ix2 r k) = (m ((c : Thread nD τ).loc main_arg0) : FVec Ideal S4x256x1024 .f32)
      (ix3 ⟨(t.val * 512 + r.val) / 256, ha⟩ ⟨(t.val * 512 + r.val) % 256, hb⟩ k) := by
  blk_simp [iblk, idx t]
  entry_read
  pointwise
  blk_ext [idx t]

theorem blk1 (c : Dev nD) (t : Fin cfg0.N) : iblk m c 1 t = m ((c : Thread nD τ).loc main_arg1) := by
  blk_ext! [iblk, V, idx t]

theorem blk2 (c : Dev nD) (t : Fin cfg0.N) (k : Fin 1024) (j : Fin 1024) :
    (iblk m c 2 t : FVec Ideal S1024x1024 .bf16) (ix2 k j) = (m ((c : Thread nD τ).loc main_arg2) : FVec Ideal S1x1024x1024 .f32) (ix3 0 k j) := by
  blk_simp [iblk, idx t]
  entry_read
  pointwise
  blk_ext [idx t]

theorem blk3 (c : Dev nD) (t : Fin cfg0.N) (k : Fin 1024) (j : Fin 1024) :
    (iblk m c 3 t : FVec Ideal S1024x1024 .bf16) (ix2 k j) = (m ((c : Thread nD τ).loc main_arg3) : FVec Ideal S1x1024x1024 .f32) (ix3 0 k j) := by
  blk_simp [iblk, idx t]
  entry_read
  pointwise
  blk_ext [idx t]

/-- The body's product at a row of its block is the reference's product at that row of the whole array. -/
theorem pay_at (n : Nat) (P0 : FVec Ideal S512x1024 .f32) (P1 : FVec Ideal S1x1024 .f32) (P2 : FVec Ideal S1024x1024 .bf16)
    (X : FVec Ideal S4x256x1024 .f32) (G : FVec Ideal S1x1024 .f32) (W : FVec Ideal S1x1024x1024 .f32)
    (h0 : ∀ (r : Fin 512) (k : Fin 1024) (ha : (n * 512 + r.val) / 256 < 4) (hb : (n * 512 + r.val) % 256 < 256),
      P0 (ix2 r k) = X (ix3 ⟨(n * 512 + r.val) / 256, ha⟩ ⟨(n * 512 + r.val) % 256, hb⟩ k))
    (h1 : P1 = G) (h2 : ∀ (k : Fin 1024) (j : Fin 1024), P2 (ix2 k j) = W (ix3 0 k j))
    (r : Fin 512) (j : Fin 1024) (hr : n * 512 + r.val < 1024) :
    k0_pay2 P0 P1 P2 (ix2 r j) = U X G W (ix2 ⟨n * 512 + r.val, hr⟩ j) := by
  have ha : (n * 512 + r.val) / 256 < 4 := by omega
  have hb : (n * 512 + r.val) % 256 < 256 := by omega
  subst h1
  have h0' := fun k => h0 r k ha hb
  pointwise [k0_pay2, k0_pay1, U]
  simp only [h0', h2]

/-- The reference's keys. -/
abbrev r4 (c : Dev nD) : FVec Ideal Cert.MemkvRefIdeal.S1024x1024 .bf16 :=
  U (m ((c : Thread nD τ).loc main_arg0)) (m ((c : Thread nD τ).loc main_arg1)) (m ((c : Thread nD τ).loc main_arg2))

/-- The reference's values. -/
abbrev r5 (c : Dev nD) : FVec Ideal Cert.MemkvRefIdeal.S1024x1024 .bf16 :=
  U (m ((c : Thread nD τ).loc main_arg0)) (m ((c : Thread nD τ).loc main_arg1)) (m ((c : Thread nD τ).loc main_arg3))

/-- What grid point `t` stores in window 4 is the reference's keys at the place the block has in the array. -/
theorem point4 (c : Dev nD) (t : Fin cfg0.N) (y : S512x1024.Idx) : k0_pay2 (iblk m c 0 t) (iblk m c 1 t) (iblk m c 2 t) y
    = r4 m c (((cfg0.win 4).blk t).view.emb y) := by
  have ht : t.val < 2 := lt_of_lt_of_eq t.isLt N_0
  idx_vars y
  have hr : t.val * 512 + y0.val < 1024 := by omega
  refine (pay_at t.val _ _ _ _ _ _ (blk0 m c t) (blk1 m c t) (blk2 m c t) y0 y1 hr).trans ?_
  blk_ext [idx t]

/-- So window 4's array ends at the reference's keys. -/
theorem final4 (c : Dev nD) : (dats m 0 c).arrAt 4 (cfgs 0).N = r4 m c := by
  refine (dats m 0 c).arrAt_eq_of_covers 4 _ (by decide +kernel) fun t _ y => ?_
  blk_simp
  rw [after0_4]; frame_out
  exact point4 m c t y

/-- What grid point `t` stores in window 5 is the reference's values at the place the block has in the array. -/
theorem point5 (c : Dev nD) (t : Fin cfg0.N) (y : S512x1024.Idx) : k0_pay3 (iblk m c 0 t) (iblk m c 1 t) (iblk m c 3 t) y
    = r5 m c (((cfg0.win 5).blk t).view.emb y) := by
  have ht : t.val < 2 := lt_of_lt_of_eq t.isLt N_0
  idx_vars y
  have hr : t.val * 512 + y0.val < 1024 := by omega
  refine (pay_at t.val _ _ _ _ _ _ (blk0 m c t) (blk1 m c t) (blk3 m c t) y0 y1 hr).trans ?_
  blk_ext [idx t]

/-- So window 5's array ends at the reference's values. -/
theorem final5 (c : Dev nD) : (dats m 0 c).arrAt 5 (cfgs 0).N = r5 m c := by
  refine (dats m 0 c).arrAt_eq_of_covers 5 _ (by decide +kernel) fun t _ y => ?_
  blk_simp
  rw [after0_5]; frame_out
  exact point5 m c t y

end Cert.MemkvIdeal.RefValue

end
-- ==== Proof.XattnIn.lean ====
/-
  The cross attention and the router: the blocks the pipelined kernel stages, read off the launch's arrays.
-/
module

public import proofs.«01_k».proof.Proof.Gen.XattnIdeal.Frame
public import proofs.«01_k».proof.Proof.Gen.XattnIdeal.Value
public import Idealize.ShloMosaic.Lib.Pipeline.ValueKit
public import Idealize.ShloMosaic.Lib.Pointwise
public import Idealize.ShloMosaic.Lib.WordCmp
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.XattnIdeal.RefValue

open Cert.XattnIdeal Cert.XattnIdeal.Gen

variable (m : (ℓ : Loc nD τ sig) → Buf (Elt Ideal) ℓ) (c : Dev nD)

/-- The windows' block indices, every grid point at once. -/
theorem idx : ∀ t : Fin cfg0.N, win0_0.index t = ![t.val, 0] ∧ win0_1.index t = ![t.val / 4, 0] ∧ win0_2.index t = ![t.val / 4, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] ∧ win0_12.index t = ![0, t.val] ∧ win0_13.index t = ![0, t.val] ∧ win0_14.index t = ![0, 0] :=
  (by decide +kernel : ∀ t : Fin grid0.N, _)

/-- The launch's arrays. -/
abbrev aX : FVec Ideal S16384x1024 .f32 := m ((c : Thread nD τ).loc main_arg0)
abbrev aK : FVec Ideal S1024x1024 .bf16 := m ((c : Thread nD τ).loc main_arg1)
abbrev aU : FVec Ideal S1024x1024 .bf16 := m ((c : Thread nD τ).loc main_arg2)
abbrev aG : FVec Ideal S1x1024 .f32 := m ((c : Thread nD τ).loc main_arg3)
abbrev aQ : FVec Ideal S1x1024x1024 .f32 := m ((c : Thread nD τ).loc main_arg4)
abbrev aO : FVec Ideal S1x1024x1024 .f32 := m ((c : Thread nD τ).loc main_arg5)
abbrev aF : FVec Ideal S1x1024 .f32 := m ((c : Thread nD τ).loc main_arg6)
abbrev aR : FVec Ideal S1x1024x32 .f32 := m ((c : Thread nD τ).loc main_arg7)
abbrev aB : FVec Ideal S1x32 .f32 := m ((c : Thread nD τ).loc main_arg8)

theorem blk0 (t : Fin cfg0.N) (r : Fin 1024) (k : Fin 1024) (h : t.val * 1024 + r.val < 16384) :
    (iblk m c 0 t : FVec Ideal S1024x1024 .f32) (ix2 r k) = aX m c (ix2 ⟨t.val * 1024 + r.val, h⟩ k) := by
  blk_point [iblk, V, idx t]

theorem blk1 (t : Fin cfg0.N) (k : Fin 256) (j : Fin 1024) (h : t.val / 4 * 256 + k.val < 1024) :
    (iblk m c 1 t : FVec Ideal S256x1024 .bf16) (ix2 k j) = aK m c (ix2 ⟨t.val / 4 * 256 + k.val, h⟩ j) := by
  blk_point [iblk, V, idx t]

theorem blk2 (t : Fin cfg0.N) (k : Fin 256) (j : Fin 1024) (h : t.val / 4 * 256 + k.val < 1024) :
    (iblk m c 2 t : FVec Ideal S256x1024 .bf16) (ix2 k j) = aU m c (ix2 ⟨t.val / 4 * 256 + k.val, h⟩ j) := by
  blk_point [iblk, V, idx t]

theorem blk3 (t : Fin cfg0.N) : iblk m c 3 t = aG m c := by
  blk_ext! [iblk, V, idx t]

/-- The arrays the kernel stages after the host's moves. -/
theorem V4 : V m c main_v1 = (truncf .bf16 (shapeCast S1024x1024 (aQ m c) shapeCasts_S1x1024x1024_S1024x1024) bitsLt_bf16_f32 : FVec Ideal S1024x1024 .bf16) := by
  simp only [V, hostOps0, hostOps0_1, List.flatten_cons, List.flatten_nil, List.append_nil, List.cons_append, List.nil_append]
  entry_read
  rfl

theorem V5 : V m c main_v3 = (truncf .bf16 (shapeCast S1024x1024 (aO m c) shapeCasts_S1x1024x1024_S1024x1024) bitsLt_bf16_f32 : FVec Ideal S1024x1024 .bf16) := by
  simp only [V, hostOps0, hostOps0_1, List.flatten_cons, List.flatten_nil, List.append_nil, List.cons_append, List.nil_append]
  entry_read
  rfl

theorem V7 : V m c main_v6 = (truncf .bf16 (transpose S32x1024 [1, 0] (shapeCast S1024x32 (aR m c) shapeCasts_S1x1024x32_S1024x32) transposes_S1024x32_S32x1024_1_0) bitsLt_bf16_f32 : FVec Ideal S32x1024 .bf16) := by
  simp only [V, hostOps0, hostOps0_1, List.flatten_cons, List.flatten_nil, List.append_nil, List.cons_append, List.nil_append]
  entry_read
  rfl

theorem V8 : V m c main_v8 = (shapeCast S32x1 (shapeCast S32 (aB m c) shapeCasts_S1x32_S32) shapeCasts_S32_S32x1 : FVec Ideal S32x1 .f32) := by
  simp only [V, hostOps0, hostOps0_1, List.flatten_cons, List.flatten_nil, List.append_nil, List.cons_append, List.nil_append]
  entry_read
  rfl

theorem V9 : V m c main_v10 = (select (cmpi .sge (addi (iotaInDim S1024x1024 32 0) (broadcastInDim S1024x1024 ![] bcast_S_S1024x1024 (constantI S_ 32 0#32))) (iotaInDim S1024x1024 32 1))
    (broadcastInDim S1024x1024 ![] bcast_S_S1024x1024 (constant (F := Ideal) S_ .bf16 0#16)) (broadcastInDim S1024x1024 ![] bcast_S_S1024x1024 (constant S_ .bf16 16256#16)) : FVec Ideal S1024x1024 .bf16) := by
  simp only [V, hostOps0, hostOps0_1, List.flatten_cons, List.flatten_nil, List.append_nil, List.cons_append, List.nil_append]
  entry_read
  rfl

theorem blk4 (t : Fin cfg0.N) (k : Fin 1024) (j : Fin 1024) :
    (iblk m c 4 t : FVec Ideal S1024x1024 .bf16) (ix2 k j) = aQ m c (ix3 0 k j) := by
  blk_simp [iblk, idx t]
  refine (congrFun (V4 m c) _).trans ?_
  pointwise
  blk_ext [idx t]

theorem blk5 (t : Fin cfg0.N) (k : Fin 1024) (j : Fin 1024) :
    (iblk m c 5 t : FVec Ideal S1024x1024 .bf16) (ix2 k j) = aO m c (ix3 0 k j) := by
  blk_simp [iblk, idx t]
  refine (congrFun (V5 m c) _).trans ?_
  pointwise
  blk_ext [idx t]

theorem blk6 (t : Fin cfg0.N) : iblk m c 6 t = aF m c := by
  blk_ext! [iblk, V, idx t]

theorem blk7 (t : Fin cfg0.N) (e : Fin 32) (k : Fin 1024) :
    (iblk m c 7 t : FVec Ideal S32x1024 .bf16) (ix2 e k) = aR m c (ix3 0 k e) := by
  blk_simp [iblk, idx t]
  refine (congrFun (V7 m c) _).trans ?_
  pointwise
  blk_ext [idx t]

theorem blk8 (t : Fin cfg0.N) (e : Fin 32) :
    (iblk m c 8 t : FVec Ideal S32x1 .f32) (ix2 e 0) = aB m c (ix2 0 e) := by
  blk_simp [iblk, idx t]
  refine (congrFun (V8 m c) _).trans ?_
  pointwise
  blk_ext [idx t]

theorem blk9 (t : Fin cfg0.N) (x : Fin 1024) (r : Fin 1024) :
    ((iblk m c 9 t : FVec Ideal S1024x1024 .bf16) (ix2 x r) : EReal) = (if x.val < r.val then 1 else 0 : EReal) := by
  change ((iblk m c 9 t : FVec Ideal S1024x1024 .bf16) (ix2 x r) : EReal) = _
  blk_simp [iblk, idx t]
  refine (congrFun (V9 m c) _).trans ?_
  pointwise
  have h0 : ((((View.whole main_v10).slice (win0_9.rect t)).emb (ix2 x r)) 0 : ℕ) = x.val := by
    blk_simp [idx t]
  have h1 : ((((View.whole main_v10).slice (win0_9.rect t)).emb (ix2 x r)) 1 : ℕ) = r.val := by
    blk_simp [idx t]
  rw [h0, h1]
  have h2 : IntOp.addi (BitVec.ofNat 32 x.val) 0#32 = BitVec.ofNat 32 x.val := BitVec.add_zero _
  rw [h2, WordCmp.cmpi_sge_ofNat (by omega) (by omega)]
  by_cases hx : x.val < r.val
  · rw [if_pos hx, decide_eq_false (by omega)]; rfl
  · rw [if_neg hx, decide_eq_true (by omega)]; rfl

end Cert.XattnIdeal.RefValue

end
-- ==== Proof.XattnRow.lean ====
/-
  Cross attention and the router of one row, as functions of the row.
-/
module

public import Idealize.ShloMosaic.Lib.Pipeline.ValueKit
public import Idealize.ShloMosaic.Lib.Pointwise
public import Idealize.ShloMosaic.Lib.Claim

@[expose] public section

noncomputable section

open Idealize.ShloMosaic Idealize.SL.Sem

namespace XattnRow

/-- The row over the root of its mean square, times a gain. -/
def norm (x g : Fin 1024 → EReal) (j : Fin 1024) : EReal :=
  x j * Ideal.rsqrt (Ideal.div (∑ k, x k * x k) (Ideal.ofBits FTy.f32 1149239296#32) + Ideal.ofBits FTy.f32 897988541#32) * g j

/-- The row's query. -/
def query (x g : Fin 1024 → EReal) (w : Fin 1024 → Fin 1024 → EReal) (j : Fin 1024) : EReal := ∑ k, norm x g k * w k j

/-- The query's scores with the memory's keys, in one head. -/
def score (q : Fin 1024 → EReal) (K : Fin 256 → Fin 1024 → EReal) (h : Fin 4) (k : Fin 256) : EReal :=
  (∑ x : Fin 256, q ⟨h.val * 256 + x.val, by omega⟩ * K k ⟨h.val * 256 + x.val, by omega⟩) * Ideal.ofBits FTy.f32 1031798784#32

/-- The scores' exponentials. -/
def weight (s : Fin 256 → EReal) (k : Fin 256) : EReal :=
  Ideal.exp (s k - Finset.fold max (Ideal.ofBits FTy.f32 4286578688#32) (fun x => s x) Finset.univ)

/-- The mean of `v` by those weights. -/
def mean (s v : Fin 256 → EReal) : EReal := ∑ x, v x * Ideal.div (weight s x) (∑ y, weight s y)

/-- The heads' means, side by side. -/
def heads (q : Fin 1024 → EReal) (K U : Fin 256 → Fin 1024 → EReal) (j : Fin 1024) : EReal :=
  mean (score q K ⟨j.val / 256, by omega⟩) (fun x => U x j)

/-- The row after the attention. -/
def attend (x g : Fin 1024 → EReal) (wq : Fin 1024 → Fin 1024 → EReal) (K U : Fin 256 → Fin 1024 → EReal)
    (wo : Fin 1024 → Fin 1024 → EReal) (j : Fin 1024) : EReal :=
  x j + ∑ k, heads (query x g wq) K U k * wo k j

/-- The logits of a row. -/
def logit (h : Fin 1024 → EReal) (wr : Fin 1024 → Fin 32 → EReal) (br : Fin 32 → EReal) (e : Fin 32) : EReal :=
  ∑ x, h x * wr x e + br e

/-- The largest logit. -/
def top (L : Fin 32 → EReal) : EReal := Finset.fold max (Ideal.ofBits FTy.f32 4286578688#32) (fun x => L x) Finset.univ

/-- The first expert that has it. -/
def first (L : Fin 32 → EReal) : BitVec 32 :=
  Finset.fold IntOp.minsi (2147483647#32) (fun x : Fin 32 => if L x = top L then BitVec.ofNat 32 x.val else 32#32) Finset.univ

/-- The logits without that expert's. -/
def rest (L : Fin 32 → EReal) (e : Fin 32) : EReal :=
  if BitVec.ofNat 32 e.val = first L then Ideal.ofBits FTy.f32 4286578688#32 else L e

/-- One at the expert `w`. -/
def hot (w : BitVec 32) (e : Fin 32) : EReal := if BitVec.ofNat 32 e.val = w then 1 else 0

/-- How often a row chooses an expert. -/
def count (L : Fin 32 → EReal) (e : Fin 32) : EReal :=
  hot (first L) e + hot (first (rest L)) e + hot (first (rest (rest L))) e + hot (first (rest (rest (rest L)))) e

/-- The sum of the four exponentials. -/
def total (L : Fin 32 → EReal) : EReal :=
  Ideal.exp (top L - top L) + Ideal.exp (top (rest L) - top L) + Ideal.exp (top (rest (rest L)) - top L)
    + Ideal.exp (top (rest (rest (rest L))) - top L)

/-- The place of a choice among its expert's, from the counts of the earlier rows. -/
def place (P : Fin 32 → EReal) (w : BitVec 32) : BitVec 32 :=
  Ideal.fptosi 32 (∑ e : Fin 32, if BitVec.ofNat 32 e.val = w then P e else 0)

/-- The entry `q` of eight. -/
def slot {α : Type} (a0 a1 a2 a3 a4 a5 a6 a7 : α) (q : Fin 8) : α :=
  if q.val = 0 then a0 else if q.val = 1 then a1 else if q.val = 2 then a2 else if q.val = 3 then a3
  else if q.val = 4 then a4 else if q.val = 5 then a5 else if q.val = 6 then a6 else a7

theorem sel_eq {α : Type} (a b : BitVec 32) (x y : α) :
    Scalar.select (IntOp.cmpi .eq a b) x y = if a = b then x else y := by
  change (if BitVec.ofBool (a == b) = 1#1 then x else y) = _
  by_cases h : a = b
  · subst h; rw [beq_self_eq_true, if_pos rfl]; rfl
  · rw [beq_eq_false_iff_ne.2 h, if_neg h]; rfl

end XattnRow

end
-- ==== Proof.XattnRef.lean ====
/-
  Cross attention and the router, the reference's side: its stages cut over variables and read entry by entry.
-/
module

public import proofs.«01_k».proof.Proof.Gen.XattnRefIdeal.Run
public import proofs.«01_k».proof.Proof.XattnRow
public import Idealize.ShloMosaic.Lib.WordCmp
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.XattnRefIdeal.Term

open Cert.XattnRefIdeal Cert.XattnRefIdeal.Gen

/-- The rows scaled by the root of their mean square and by a gain. -/
def norm (X : FVec Ideal S16384x1024 .f32) (G : FVec Ideal S1x1024 .f32) : FVec Ideal S16384x1024 .f32 :=
  mulf (mulf X (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 G)

/-- The queries. -/
def query (H : FVec Ideal S16384x1024 .f32) (Wq : FVec Ideal S1x1024x1024 .f32) : FVec Ideal S16384x1024 .f32 :=
  Host.dotGeneral dot_S16384x1024_S1024x1024_S16384x1024_1_0_0_1_n_n none H (shapeCast _ Wq shapeCasts_S1x1024x1024_S1024x1024)

/-- The scores. -/
def score (Q : FVec Ideal S16384x1024 .f32) (K : FVec Ideal S1024x1024 .bf16) : FVec Ideal S4x4x4096x256 .f32 :=
  mulf (Host.dotGeneral dot_S4x4096x4x256_S4x256x4x256_S4x4x4096x256_3_3_1_1_02_02 none (shapeCast _ Q shapeCasts_S16384x1024_S4x4096x4x256) (shapeCast _ (extf .f32 K bitsLt_bf16_f32) shapeCasts_S1024x1024_S4x256x4x256)) (broadcastInDim S4x4x4096x256 ![] bcast_S_S4x4x4096x256 (constant S_ .f32 0x3D800000#32))

/-- The weights before they are divided by their sum. -/
def weight (S : FVec Ideal S4x4x4096x256 .f32) : FVec Ideal S4x4x4096x256 .f32 :=
  Host.exp (subf S (broadcastInDim S4x4x4096x256 ![0, 1, 2, 3] bcast_S4x4x4096x1_S4x4x4096x256_0_1_2_3 (broadcastInDim S4x4x4096x1 ![0, 1, 2] bcast_S4x4x4096_S4x4x4096x1_0_1_2 (Host.reduce FloatOps.maximumf S (constant S_ .f32 0xFF800000#32) reducesTo_S4x4x4096x256_S4x4x4096_d3 h_S_))))

/-- The heads' outputs, side by side. -/
def heads (E : FVec Ideal S4x4x4096x256 .f32) (U : FVec Ideal S1024x1024 .bf16) : FVec Ideal S16384x1024 .f32 :=
  shapeCast _ (transpose S4x4096x4x256 [0, 3, 1, 2] (Host.dotGeneral dot_S4x256x4x256_S4x4x4096x256_S4x4x256x4096_1_3_3_2_02_01 none (shapeCast _ (extf .f32 U bitsLt_bf16_f32) shapeCasts_S1024x1024_S4x256x4x256) (Host.divf E (broadcastInDim S4x4x4096x256 ![0, 1, 2, 3] bcast_S4x4x4096x1_S4x4x4096x256_0_1_2_3 (broadcastInDim S4x4x4096x1 ![0, 1, 2] bcast_S4x4x4096_S4x4x4096x1_0_1_2 (Host.reduceAdd E (constant S_ .f32 0x00000000#32) reducesTo_S4x4x4096x256_S4x4x4096_d3 h_S_))))) transposes_S4x4x256x4096_S4x4096x4x256_0_3_1_2) shapeCasts_S4x4096x4x256_S16384x1024

/-- The output projection added to the rows. -/
def project (X O : FVec Ideal S16384x1024 .f32) (Wo : FVec Ideal S1x1024x1024 .f32) : FVec Ideal S16384x1024 .f32 :=
  addf X (Host.dotGeneral dot_S16384x1024_S1024x1024_S16384x1024_1_0_0_1_n_n none O (shapeCast _ Wo shapeCasts_S1x1024x1024_S1024x1024))

/-- The logits. -/
def logit (H : FVec Ideal S16384x1024 .f32) (Wr : FVec Ideal S1x1024x32 .f32) (Br : FVec Ideal S1x32 .f32) : FVec Ideal S16384x32 .f32 :=
  addf (Host.dotGeneral dot_S16384x1024_S1024x32_S16384x32_1_0_0_1_n_n none H (shapeCast _ Wr shapeCasts_S1x1024x32_S1024x32)) (broadcastInDim S16384x32 ![0, 1] bcast_S1x32_S16384x32_0_1 Br)

/-- A row's largest logit. -/
def top (L : FVec Ideal S16384x32 .f32) : FVec Ideal S16384x1 .f32 :=
  broadcastInDim S16384x1 ![0] bcast_S16384_S16384x1_0 (Host.reduce FloatOps.maximumf L (constant S_ .f32 0xFF800000#32) reducesTo_S16384x32_S16384_d1 h_S_)

/-- The first expert that has it. -/
def first (L : FVec Ideal S16384x32 .f32) : IVec S16384x1 32 :=
  broadcastInDim S16384x1 ![0] bcast_S16384_S16384x1_0 (Host.reduce IntOp.minsi (select (cmpf .oeq L (broadcastInDim S16384x32 ![0, 1] bcast_S16384x1_S16384x32_0_1 (top L))) (iotaInDim S16384x32 32 1) (broadcastInDim S16384x32 ![] bcast_S_S16384x32 (id (constantI S_ 32 32#32)))) (constantI S_ 32 2147483647#32) reducesTo_S16384x32_S16384_d1 h_S_)

/-- Which entry of a row is the expert `w`. -/
def is (W : IVec S16384x1 32) : IVec S16384x32 1 :=
  cmpi .eq (iotaInDim S16384x32 32 1) (broadcastInDim S16384x32 ![0, 1] bcast_S16384x1_S16384x32_0_1 W)

/-- The logits without that expert's. -/
def rest (L : FVec Ideal S16384x32 .f32) : FVec Ideal S16384x32 .f32 :=
  select (is (first L)) (broadcastInDim S16384x32 ![] bcast_S_S16384x32 (id (constant S_ .f32 0xFF800000#32))) L

/-- The chosen expert marked by a one. -/
def hot (W : IVec S16384x1 32) : FVec Ideal S16384x32 .f32 :=
  select (is W) (broadcastInDim S16384x32 ![] bcast_S_S16384x32 (constant S_ .f32 0x3F800000#32)) (broadcastInDim S16384x32 ![] bcast_S_S16384x32 (constant S_ .f32 0x00000000#32))

/-- How often a row chose an expert. -/
def count (L : FVec Ideal S16384x32 .f32) : FVec Ideal S16384x32 .f32 :=
  addf (addf (addf (hot (first L)) (hot (first (rest L)))) (hot (first (rest (rest L))))) (hot (first (rest (rest (rest L)))))

/-- How many earlier rows chose an expert. -/
def earlier (C : FVec Ideal S16384x32 .f32) : FVec Ideal S16384x32 .f32 :=
  Host.dotGeneral dot_S16384x16384_S16384x32_S16384x32_1_0_0_1_n_n none (select (cmpi .slt (iotaInDim S16384x16384 32 1) (iotaInDim S16384x16384 32 0)) (broadcastInDim S16384x16384 ![] bcast_S_S16384x16384 (constant S_ .f32 0x3F800000#32)) (broadcastInDim S16384x16384 ![] bcast_S_S16384x16384 (constant S_ .f32 0x00000000#32))) C

/-- A choice's place among its expert's tokens. -/
def place (P : FVec Ideal S16384x32 .f32) (W : IVec S16384x1 32) : IVec S16384x1 32 :=
  fptosi 32 (broadcastInDim S16384x1 ![0] bcast_S16384_S16384x1_0 (Host.reduceAdd (id (select (is W) P (broadcastInDim S16384x32 ![] bcast_S_S16384x32 (constant S_ .f32 0x00000000#32)))) (constant S_ .f32 0x00000000#32) reducesTo_S16384x32_S16384_d1 h_S_))

theorem norm_at (X : FVec Ideal S16384x1024 .f32) (G : FVec Ideal S1x1024 .f32) (t : Fin 16384) (j : Fin 1024) :
    norm X G (ix2 t j) = XattnRow.norm (fun k => X (ix2 t k)) (fun k => G (ix2 0 k)) j := by
  pointwise [norm]
  rfl

theorem query_at (X : FVec Ideal S16384x1024 .f32) (W : FVec Ideal S1x1024x1024 .f32) (t : Fin 16384) (j : Fin 1024) :
    query X W (ix2 t j) = ∑ x : Fin 1024, X (ix2 t x) * W (ix3 0 x j) := by
  pointwise [query]

theorem score_at' (Q : FVec Ideal S16384x1024 .f32) (K : FVec Ideal S1024x1024 .bf16) (b h : Fin 4) (s : Fin 4096) (k : Fin 256) :
    score Q K (ix4 b h s k)
      = XattnRow.score (fun x => Q (ix2 ⟨b.val * 4096 + s.val, by omega⟩ x)) (fun k x => K (ix2 ⟨b.val * 256 + k.val, by omega⟩ x)) h k := by
  pointwise [score]
  rfl

theorem score_at (Q : FVec Ideal S16384x1024 .f32) (K : FVec Ideal S1024x1024 .bf16) (t : Fin 16384) (h : Fin 4) (k : Fin 256) :
    score Q K (ix4 ⟨t.val / 4096, by omega⟩ h ⟨t.val % 4096, by omega⟩ k)
      = XattnRow.score (fun x => Q (ix2 t x)) (fun k x => K (ix2 ⟨t.val / 4096 * 256 + k.val, by omega⟩ x)) h k := by
  rw [score_at']
  have e : (⟨t.val / 4096 * 4096 + t.val % 4096, by omega⟩ : Fin 16384) = t := Fin.ext (by dsimp only; omega)
  rw [e]

theorem weight_at (S : FVec Ideal S4x4x4096x256 .f32) (b h : Fin 4) (s : Fin 4096) (k : Fin 256) :
    weight S (ix4 b h s k) = XattnRow.weight (fun x => S (ix4 b h s x)) k := by
  pointwise [weight]
  rfl

theorem heads_at (S : FVec Ideal S4x4x4096x256 .f32) (U : FVec Ideal S1024x1024 .bf16) (t : Fin 16384) (j : Fin 1024) :
    heads (weight S) U (ix2 t j) = XattnRow.mean (fun k => S (ix4 ⟨t.val / 4096, by omega⟩ ⟨j.val / 256, by omega⟩ ⟨t.val % 4096, by omega⟩ k))
      (fun x => U (ix2 ⟨t.val / 4096 * 256 + x.val, by omega⟩ j)) := by
  pointwise [heads]
  simp only [weight_at]
  rfl

theorem project_at (X O : FVec Ideal S16384x1024 .f32) (W : FVec Ideal S1x1024x1024 .f32) (t : Fin 16384) (j : Fin 1024) :
    project X O W (ix2 t j) = X (ix2 t j) + ∑ x : Fin 1024, O (ix2 t x) * W (ix3 0 x j) := by
  pointwise [project]

theorem logit_at (H : FVec Ideal S16384x1024 .f32) (Wr : FVec Ideal S1x1024x32 .f32) (Br : FVec Ideal S1x32 .f32) (t : Fin 16384) (e : Fin 32) :
    logit H Wr Br (ix2 t e) = XattnRow.logit (fun x => H (ix2 t x)) (fun x e => Wr (ix3 0 x e)) (fun e => Br (ix2 0 e)) e := by
  pointwise [logit]
  rfl

theorem top_at (L : FVec Ideal S16384x32 .f32) (t : Fin 16384) : top L (ix2 t 0) = XattnRow.top (fun e => L (ix2 t e)) := by
  pointwise [top]
  rfl

theorem first_at (L : FVec Ideal S16384x32 .f32) (t : Fin 16384) : first L (ix2 t 0) = XattnRow.first (fun e => L (ix2 t e)) := by
  pointwise [first]
  simp only [top_at]
  rfl

theorem rest_at (L : FVec Ideal S16384x32 .f32) (t : Fin 16384) (e : Fin 32) :
    rest L (ix2 t e) = XattnRow.rest (fun e => L (ix2 t e)) e := by
  pointwise [rest, is]
  rw [XattnRow.sel_eq, first_at]
  rfl

theorem hot_at (W : IVec S16384x1 32) (t : Fin 16384) (e : Fin 32) : hot W (ix2 t e) = XattnRow.hot (W (ix2 t 0)) e := by
  pointwise [hot, is]
  rw [XattnRow.sel_eq]
  rfl

theorem rest_row (L : FVec Ideal S16384x32 .f32) (t : Fin 16384) :
    (fun e : Fin 32 => rest L (ix2 t e)) = XattnRow.rest (fun e => L (ix2 t e)) := funext (rest_at L t)

theorem count_at (L : FVec Ideal S16384x32 .f32) (t : Fin 16384) (e : Fin 32) :
    count L (ix2 t e) = XattnRow.count (fun e => L (ix2 t e)) e := by
  pointwise [count]
  simp only [hot_at, first_at, rest_row]
  rfl

theorem earlier_at (C : FVec Ideal S16384x32 .f32) (t : Fin 16384) (e : Fin 32) :
    earlier C (ix2 t e) = ∑ s : Fin 16384, if s.val < t.val then C (ix2 s e) else 0 := by
  pointwise [earlier]
  refine Finset.sum_congr rfl fun s _ => ?_
  rw [WordCmp.cmpi_slt_ofNat (by omega) (by omega)]
  by_cases h : s.val < t.val
  · rw [decide_eq_true h, if_pos h]; rfl
  · rw [decide_eq_false h, if_neg h]; rfl

theorem place_at (P : FVec Ideal S16384x32 .f32) (W : IVec S16384x1 32) (t : Fin 16384) :
    place P W (ix2 t 0) = XattnRow.place (fun e => P (ix2 t e)) (W (ix2 t 0)) := by
  pointwise [place, is, id]
  simp only [XattnRow.sel_eq]
  rfl

end Cert.XattnRefIdeal.Term

end
-- ==== Proof.XattnOut.lean ====
/-
  Cross attention and the router, the reference's results read entry by entry.
-/
module

public import proofs.«01_k».proof.Proof.XattnRef

@[expose] public section

set_option maxRecDepth 16384

noncomputable section

open Idealize.ShloMosaic Idealize.ShloMosaic.TcCoe Idealize.SL.Sem

namespace Cert.XattnRefIdeal.Term

open Cert.XattnRefIdeal Cert.XattnRefIdeal.Gen

/-- The rows after the attention. -/
def attend (X : FVec Ideal S16384x1024 .f32) (K U : FVec Ideal S1024x1024 .bf16) (Gx : FVec Ideal S1x1024 .f32)
    (Wq Wo : FVec Ideal S1x1024x1024 .f32) : FVec Ideal S16384x1024 .f32 :=
  project X (heads (weight (score (query (norm X Gx) Wq) K)) U) Wo

/-- The normed rows in tiles. -/
def tiles (H : FVec Ideal S16384x1024 .f32) : FVec Ideal S131072x128 .bf16 :=
  truncf .bf16 (shapeCast _ (transpose S16384x4x2x128 [0, 2, 1, 3] (shapeCast _ H shapeCasts_S16384x1024_S16384x2x4x128) transposes_S16384x2x4x128_S16384x4x2x128_0_2_1_3) shapeCasts_S16384x4x2x128_S131072x128) bitsLt_bf16_f32

/-- The choices and their places, a row each. -/
def choices (W0 W1 W2 W3 : IVec S16384x1 32) (P : FVec Ideal S16384x32 .f32) : IVec S8x16384 32 :=
  transpose S8x16384 [1, 0] (concatenate S16384x8 1 [⟨S16384x1, W0⟩, ⟨S16384x1, W1⟩, ⟨S16384x1, W2⟩, ⟨S16384x1, W3⟩, ⟨S16384x1, place P W0⟩, ⟨S16384x1, place P W1⟩, ⟨S16384x1, place P W2⟩, ⟨S16384x1, place P W3⟩] concatenates_S16384x1_S16384x1_S16384x1_S16384x1_S16384x1_S16384x1_S16384x1_S16384x1_S16384x8_d1) transposes_S16384x8_S8x16384_1_0

/-- The gates and four rows of zeros. -/
def gates (E0 E1 E2 E3 : FVec Ideal S16384x1 .f32) : FVec Ideal S8x16384 .f32 :=
  transpose S8x16384 [1, 0] (concatenate S16384x8 1 [⟨S16384x4, concatenate S16384x4 1 [⟨S16384x1, Host.divf E0 (addf (addf (addf E0 E1) E2) E3)⟩, ⟨S16384x1, Host.divf E1 (addf (addf (addf E0 E1) E2) E3)⟩, ⟨S16384x1, Host.divf E2 (addf (addf (addf E0 E1) E2) E3)⟩, ⟨S16384x1, Host.divf E3 (addf (addf (addf E0 E1) E2) E3)⟩] concatenates_S16384x1_S16384x1_S16384x1_S16384x1_S16384x4_d1⟩, ⟨S16384x4, broadcastInDim S16384x4 ![] bcast_S_S16384x4 (constant S_ .f32 0x00000000#32)⟩] concatenates_S16384x4_S16384x4_S16384x8_d1) transposes_S16384x8_S8x16384_1_0

/-- An exponential. -/
def power (A B : FVec Ideal S16384x1 .f32) : FVec Ideal S16384x1 .f32 := Host.exp (subf A B)

/-- The counts over all rows, in every lane. -/
def totals (C : FVec Ideal S16384x32 .f32) : FVec Ideal S32x128 .f32 :=
  broadcastInDim S32x128 ![0, 1] bcast_S32x1_S32x128_0_1 (broadcastInDim S32x1 ![0] bcast_S32_S32x1_0 (Host.reduceAdd (id C) (constant S_ .f32 0x00000000#32) reducesTo_S16384x32_S32_d0 h_S_))

theorem attend_at (X : FVec Ideal S16384x1024 .f32) (K U : FVec Ideal S1024x1024 .bf16) (Gx : FVec Ideal S1x1024 .f32)
    (Wq Wo : FVec Ideal S1x1024x1024 .f32) (t : Fin 16384) (j : Fin 1024) :
    attend X K U Gx Wq Wo (ix2 t j) = XattnRow.attend (fun k => X (ix2 t k)) (fun k => Gx (ix2 0 k)) (fun a b => Wq (ix3 0 a b))
      (fun k x => K (ix2 ⟨t.val / 4096 * 256 + k.val, by omega⟩ x)) (fun k x => U (ix2 ⟨t.val / 4096 * 256 + k.val, by omega⟩ x))
      (fun a b => Wo (ix3 0 a b)) j := by
  rw [attend, project_at]
  simp only [heads_at, score_at, query_at, norm_at]
  rfl

theorem tiles_at (H : FVec Ideal S16384x1024 .f32) (t : Fin 16384) (p : Fin 8) (l : Fin 128) :
    tiles H (ix2 ⟨t.val * 8 + p.val, by omega⟩ l) = H (ix2 t ⟨p.val % 2 * 512 + p.val / 2 * 128 + l.val, by omega⟩) := by
  pointwise [tiles]
  exact congrArg (fun x => H (ix2 t x)) (Fin.ext (by dsimp only; omega))

theorem choices_at (W0 W1 W2 W3 : IVec S16384x1 32) (P : FVec Ideal S16384x32 .f32) (q : Fin 8) (t : Fin 16384) :
    choices W0 W1 W2 W3 P (ix2 q t) = XattnRow.slot (W0 (ix2 t 0)) (W1 (ix2 t 0)) (W2 (ix2 t 0)) (W3 (ix2 t 0))
      (place P W0 (ix2 t 0)) (place P W1 (ix2 t 0)) (place P W2 (ix2 t 0)) (place P W3 (ix2 t 0)) q := by
  pointwise [choices]
  rw [XattnRow.slot]
  fin_vals q with hk
  all_goals simp only [hk, Nat.reduceSub, Nat.reduceLT, Nat.reduceEqDiff, ↓reduceDIte, ↓reduceIte, OfNat.ofNat_ne_zero, one_ne_zero]
  all_goals rfl

theorem gates_at (E0 E1 E2 E3 : FVec Ideal S16384x1 .f32) (q : Fin 8) (t : Fin 16384) :
    gates E0 E1 E2 E3 (ix2 q t) = XattnRow.slot
      (Ideal.div (E0 (ix2 t 0)) (E0 (ix2 t 0) + E1 (ix2 t 0) + E2 (ix2 t 0) + E3 (ix2 t 0)))
      (Ideal.div (E1 (ix2 t 0)) (E0 (ix2 t 0) + E1 (ix2 t 0) + E2 (ix2 t 0) + E3 (ix2 t 0)))
      (Ideal.div (E2 (ix2 t 0)) (E0 (ix2 t 0) + E1 (ix2 t 0) + E2 (ix2 t 0) + E3 (ix2 t 0)))
      (Ideal.div (E3 (ix2 t 0)) (E0 (ix2 t 0) + E1 (ix2 t 0) + E2 (ix2 t 0) + E3 (ix2 t 0))) 0 0 0 0 q := by
  pointwise [gates]
  rw [XattnRow.slot]
  fin_vals q with hk
  all_goals simp only [hk, Nat.reduceSub, Nat.reduceLT, Nat.reduceEqDiff, ↓reduceDIte, ↓reduceIte, OfNat.ofNat_ne_zero, one_ne_zero]
  all_goals rfl

theorem power_at (A B : FVec Ideal S16384x1 .f32) (t : Fin 16384) :
    power A B (ix2 t 0) = Ideal.exp (A (ix2 t 0) - B (ix2 t 0)) := by
  pointwise [power]

theorem totals_at (C : FVec Ideal S16384x32 .f32) (e : Fin 32) (l : Fin 128) :
    totals C (ix2 e l) = ∑ t : Fin 16384, C (ix2 t e) := by
  pointwise [totals, id]
end Cert.XattnRefIdeal.Term

end
-- ==== Proof.XattnBlk.lean ====
/-
  Cross attention and the router, one block of the kernel: the payloads read entry by entry.
-/
module

public import proofs.«01_k».proof.Proof.Gen.XattnIdeal.Value
public import proofs.«01_k».proof.Proof.XattnRow
public import Idealize.ShloMosaic.Lib.WordCmp
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.XattnIdeal.Blk

open Cert.XattnIdeal Cert.XattnIdeal.Gen

theorem pay3_at (X : Vec Ideal S1024x1024 .f32) (G : Vec Ideal S1x1024 .f32) (W : Vec Ideal S1024x1024 .bf16) (r j : Fin 1024) :
    k0_pay3 X G W (ix2 r j) = XattnRow.query (fun k => X (ix2 r k)) (fun k => G (ix2 0 k)) (fun a b => W (ix2 a b)) j := by
  pointwise [k0_pay3]
  rfl

theorem pay4_at (X : Vec Ideal S1024x1024 .f32) (G : Vec Ideal S1x1024 .f32) (W : Vec Ideal S1024x1024 .bf16)
    (K : Vec Ideal S256x1024 .bf16) (r : Fin 1024) (k : Fin 256) :
    k0_pay4 X G W K (ix2 r k) = XattnRow.score (XattnRow.query (fun k => X (ix2 r k)) (fun k => G (ix2 0 k)) (fun a b => W (ix2 a b))) (fun k j => K (ix2 k j)) 0 k := by
  pointwise [k0_pay4]
  simp only [pay3_at]
  exact congrArg (· * Ideal.ofBits FTy.f32 1031798784#32) (Finset.sum_congr rfl fun x _ =>
    congrArg₂ (fun a b => XattnRow.query (fun k => X (ix2 r k)) (fun k => G (ix2 0 k)) (fun a b => W (ix2 a b)) a * K (ix2 k b))
      (Fin.ext (by simp)) (Fin.ext (by simp)))

theorem pay5_at (X : Vec Ideal S1024x1024 .f32) (G : Vec Ideal S1x1024 .f32) (W : Vec Ideal S1024x1024 .bf16)
    (K : Vec Ideal S256x1024 .bf16) (r : Fin 1024) (k : Fin 256) :
    k0_pay5 X G W K (ix2 r k) = XattnRow.score (XattnRow.query (fun k => X (ix2 r k)) (fun k => G (ix2 0 k)) (fun a b => W (ix2 a b))) (fun k j => K (ix2 k j)) 1 k := by
  pointwise [k0_pay5]
  simp only [pay3_at]
  exact congrArg (· * Ideal.ofBits FTy.f32 1031798784#32) (Finset.sum_congr rfl fun x _ =>
    congrArg₂ (fun a b => XattnRow.query (fun k => X (ix2 r k)) (fun k => G (ix2 0 k)) (fun a b => W (ix2 a b)) a * K (ix2 k b))
      (Fin.ext (by simp)) (Fin.ext (by simp)))

theorem pay6_at (X : Vec Ideal S1024x1024 .f32) (G : Vec Ideal S1x1024 .f32) (W : Vec Ideal S1024x1024 .bf16)
    (K : Vec Ideal S256x1024 .bf16) (r : Fin 1024) (k : Fin 256) :
    k0_pay6 X G W K (ix2 r k) = XattnRow.score (XattnRow.query (fun k => X (ix2 r k)) (fun k => G (ix2 0 k)) (fun a b => W (ix2 a b))) (fun k j => K (ix2 k j)) 2 k := by
  pointwise [k0_pay6]
  simp only [pay3_at]
  exact congrArg (· * Ideal.ofBits FTy.f32 1031798784#32) (Finset.sum_congr rfl fun x _ =>
    congrArg₂ (fun a b => XattnRow.query (fun k => X (ix2 r k)) (fun k => G (ix2 0 k)) (fun a b => W (ix2 a b)) a * K (ix2 k b))
      (Fin.ext (by simp)) (Fin.ext (by simp)))

theorem pay11_at (U : Vec Ideal S256x1024 .bf16) (S : FVec Ideal S1024x256 .f32) (r : Fin 1024) (k : Fin 256) :
    k0_pay11 U S (ix2 r k) = XattnRow.mean (fun k => S (ix2 r k)) (fun x => U (ix2 x ⟨0 + k.val, by omega⟩)) := by
  pointwise [k0_pay11]
  refine Finset.sum_congr rfl fun x _ => ?_
  rw [mul_comm]
  simp only [zero_add]
  rfl

theorem pay12_at (U : Vec Ideal S256x1024 .bf16) (S : FVec Ideal S1024x256 .f32) (r : Fin 1024) (k : Fin 256) :
    k0_pay12 U S (ix2 r k) = XattnRow.mean (fun k => S (ix2 r k)) (fun x => U (ix2 x ⟨256 + k.val, by omega⟩)) := by
  pointwise [k0_pay12]
  refine Finset.sum_congr rfl fun x _ => ?_
  rw [mul_comm]

  rfl

theorem pay7_at (X : Vec Ideal S1024x1024 .f32) (G : Vec Ideal S1x1024 .f32) (W : Vec Ideal S1024x1024 .bf16)
    (r : Fin 1024) (k : Fin 256) :
    k0_pay7 X G W (ix2 r k) = k0_pay3 X G W (ix2 r ⟨768 + k.val, by omega⟩) := by
  pointwise [k0_pay7]

theorem pay9_at (S : FVec Ideal S1024x256 .f32) (r : Fin 1024) (k : Fin 256) :
    k0_pay9 S (ix2 r k) = Ideal.div (XattnRow.weight (fun k => S (ix2 r k)) k) (∑ y, XattnRow.weight (fun k => S (ix2 r k)) y) := by
  pointwise [k0_pay9]
  rfl

/-- The last head's weights over their sum. -/
theorem pay10_at (X : Vec Ideal S1024x1024 .f32) (G : Vec Ideal S1x1024 .f32) (W : Vec Ideal S1024x1024 .bf16)
    (K : Vec Ideal S256x1024 .bf16) (r : Fin 1024) (k : Fin 256) (s : Fin 256 → EReal)
    (hs : s = XattnRow.score (XattnRow.query (fun k => X (ix2 r k)) (fun k => G (ix2 0 k)) (fun a b => W (ix2 a b))) (fun k j => K (ix2 k j)) 3) :
    k0_pay10 (k0_pay7 X G W) (k0_pay8 K) (constant S1024x256 FTy.f32 0#32) (ix2 r k)
      = Ideal.div (XattnRow.weight s k) (∑ y, XattnRow.weight s y) := by
  subst hs
  pointwise [k0_pay10, k0_pay8]
  simp only [pay7_at, pay3_at]
  rfl

/-- The block's rows after the attention. -/
def attend (X : Vec Ideal S1024x1024 .f32) (K U : Vec Ideal S256x1024 .bf16) (G : Vec Ideal S1x1024 .f32)
    (Wq Wo : Vec Ideal S1024x1024 .bf16) : FVec Ideal S1024x1024 .f32 :=
  k0_pay13 X U (k0_pay9 (k0_pay6 X G Wq K)) (k0_pay10 (k0_pay7 X G Wq) (k0_pay8 K) (constant S1024x256 FTy.f32 0#32))
    (k0_pay11 U (k0_pay4 X G Wq K)) (k0_pay12 U (k0_pay5 X G Wq K)) Wo

theorem attend_at (X : Vec Ideal S1024x1024 .f32) (K U : Vec Ideal S256x1024 .bf16) (G : Vec Ideal S1x1024 .f32)
    (Wq Wo : Vec Ideal S1024x1024 .bf16) (r j : Fin 1024) :
    attend X K U G Wq Wo (ix2 r j) = XattnRow.attend (fun k => X (ix2 r k)) (fun k => G (ix2 0 k)) (fun a b => Wq (ix2 a b))
      (fun k j => K (ix2 k j)) (fun k j => U (ix2 k j)) (fun a b => Wo (ix2 a b)) j := by
  pointwise [attend, k0_pay13]
  refine congrArg (X (ix2 r j) + ·) (Finset.sum_congr rfl fun x _ => congrArg (· * Wo (ix2 x j)) ?_)
  rw [XattnRow.heads]
  by_cases h0 : x.val < 256
  · rw [dif_pos h0, pay11_at, show (⟨x.val / 256, by omega⟩ : Fin 4) = 0 from Fin.ext (by simp; omega)]
    simp only [pay4_at, zero_add]
  rw [dif_neg h0]
  by_cases h1 : x.val - 256 < 256
  · rw [dif_pos h1, pay12_at, show (⟨x.val / 256, by omega⟩ : Fin 4) = 1 from Fin.ext (by simp; omega)]
    simp only [pay5_at]
    exact congrArg (XattnRow.mean _) (funext fun y => congrArg (fun z => U (ix2 y z)) (Fin.ext (by dsimp only; omega)))
  rw [dif_neg h1]
  by_cases h2 : x.val - 256 - 256 < 256
  · rw [dif_pos h2, show (⟨x.val / 256, by omega⟩ : Fin 4) = 2 from Fin.ext (by simp; omega)]
    simp only [pay9_at, pay6_at]
    refine Finset.sum_congr rfl fun y _ => ?_
    rw [mul_comm]
    exact congrArg₂ (· * ·) (congrArg (fun z => U (ix2 y z)) (Fin.ext (by dsimp only; omega))) rfl
  rw [dif_neg h2, show (⟨x.val / 256, by omega⟩ : Fin 4) = 3 from Fin.ext (by simp; omega)]
  refine Finset.sum_congr rfl fun y _ => ?_
  rw [mul_comm, pay10_at X G Wq K r y _ rfl]
  exact congrArg₂ (· * ·) (congrArg (fun z => U (ix2 y z)) (Fin.ext (by dsimp only; omega))) rfl

end Cert.XattnIdeal.Blk

end
-- ==== Proof.XattnRoute.lean ====
/-
  Cross attention and the router, one block of the kernel: the normed rows, the choices and the places.
-/
module

public import proofs.«01_k».proof.Proof.Gen.XattnIdeal.Value
public import proofs.«01_k».proof.Proof.XattnBlk
public import Idealize.ShloMosaic.Lib.WordCmp
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.XattnIdeal.Blk

open Cert.XattnIdeal Cert.XattnIdeal.Gen

/-- The block's normed rows. -/
def hidden (X : Vec Ideal S1024x1024 .f32) (K U : Vec Ideal S256x1024 .bf16) (G : Vec Ideal S1x1024 .f32)
    (Wq Wo : Vec Ideal S1024x1024 .bf16) (Gf : Vec Ideal S1x1024 .f32) : FVec Ideal S1024x1024 .f32 :=
  k0_pay14 X U (k0_pay9 (k0_pay6 X G Wq K)) (k0_pay10 (k0_pay7 X G Wq) (k0_pay8 K) (constant S1024x256 FTy.f32 0#32))
    (k0_pay11 U (k0_pay4 X G Wq K)) (k0_pay12 U (k0_pay5 X G Wq K)) Wo Gf

theorem pay14_at (X : Vec Ideal S1024x1024 .f32) (U : Vec Ideal S256x1024 .bf16) (A2 A3 O0 O1 : FVec Ideal S1024x256 .bf16)
    (W : Vec Ideal S1024x1024 .bf16) (Gf : Vec Ideal S1x1024 .f32) (r j : Fin 1024) :
    k0_pay14 X U A2 A3 O0 O1 W Gf (ix2 r j) = XattnRow.norm (fun k => k0_pay13 X U A2 A3 O0 O1 W (ix2 r k)) (fun k => Gf (ix2 0 k)) j := by
  pointwise [k0_pay14]
  rfl

theorem hidden_at (X : Vec Ideal S1024x1024 .f32) (K U : Vec Ideal S256x1024 .bf16) (G : Vec Ideal S1x1024 .f32)
    (Wq Wo : Vec Ideal S1024x1024 .bf16) (Gf : Vec Ideal S1x1024 .f32) (r j : Fin 1024) :
    hidden X K U G Wq Wo Gf (ix2 r j) = XattnRow.norm (fun k => attend X K U G Wq Wo (ix2 r k)) (fun k => Gf (ix2 0 k)) j :=
  pay14_at _ _ _ _ _ _ _ _ _ _

/-- The block's tiles. -/
theorem tiles_at (X : Vec Ideal S1024x1024 .f32) (U : Vec Ideal S256x1024 .bf16) (A2 A3 O0 O1 : FVec Ideal S1024x256 .bf16)
    (W : Vec Ideal S1024x1024 .bf16) (Gf : Vec Ideal S1x1024 .f32) (r : Fin 1024) (p : Fin 8) (l : Fin 128) :
    k0_pay23 (k0_pay15 X U A2 A3 O0 O1 W Gf) (k0_pay16 X U A2 A3 O0 O1 W Gf) (k0_pay17 X U A2 A3 O0 O1 W Gf) (k0_pay18 X U A2 A3 O0 O1 W Gf)
      (k0_pay19 X U A2 A3 O0 O1 W Gf) (k0_pay20 X U A2 A3 O0 O1 W Gf) (k0_pay21 X U A2 A3 O0 O1 W Gf) (k0_pay22 X U A2 A3 O0 O1 W Gf)
      (ix2 ⟨r.val * 8 + p.val, by omega⟩ l)
      = k0_pay14 X U A2 A3 O0 O1 W Gf (ix2 r ⟨p.val % 2 * 512 + p.val / 2 * 128 + l.val, by omega⟩) := by
  pointwise [k0_pay23, k0_pay15, k0_pay16, k0_pay17, k0_pay18, k0_pay19, k0_pay20, k0_pay21, k0_pay22]
  fin_vals p with hk
  all_goals simp only [hk, Nat.reduceSub, Nat.reduceLT, ↓reduceDIte]
  all_goals exact congrArg (fun z => k0_pay14 X U A2 A3 O0 O1 W Gf (ix2 r z)) (Fin.ext (by dsimp only; omega))

theorem logit_at (H : FVec Ideal S1024x1024 .f32) (Wr : Vec Ideal S32x1024 .bf16) (Br : Vec Ideal S32x1 .f32) (e : Fin 32) (r : Fin 1024) :
    k0_pay24 H Wr Br (ix2 e r) = XattnRow.logit (fun k => H (ix2 r k)) (fun k e => Wr (ix2 e k)) (fun e => Br (ix2 e 0)) e := by
  pointwise [k0_pay24]
  refine congrArg (· + Br (ix2 e 0)) (Finset.sum_congr rfl fun x _ => mul_comm _ _)

/-- A row's logits. -/
def L (H : FVec Ideal S1024x1024 .f32) (Wr : Vec Ideal S32x1024 .bf16) (Br : Vec Ideal S32x1 .f32) (r : Fin 1024) (e : Fin 32) : EReal :=
  k0_pay24 H Wr Br (ix2 e r)

theorem pay25_at (H : FVec Ideal S1024x1024 .f32) (Wr : Vec Ideal S32x1024 .bf16) (Br : Vec Ideal S32x1 .f32) (r : Fin 1024) :
    k0_pay25 H Wr Br (ix2 0 r) = XattnRow.top (L H Wr Br r) := by
  pointwise [k0_pay25]
  rfl

theorem pay26_at (H : FVec Ideal S1024x1024 .f32) (Wr : Vec Ideal S32x1024 .bf16) (Br : Vec Ideal S32x1 .f32) (r : Fin 1024) :
    k0_pay26 H Wr Br (ix2 0 r) = XattnRow.first (L H Wr Br r) := by
  pointwise [k0_pay26]
  simp only [pay25_at]
  rfl

theorem pay27_at (H : FVec Ideal S1024x1024 .f32) (Wr : Vec Ideal S32x1024 .bf16) (Br : Vec Ideal S32x1 .f32) (e : Fin 32) (r : Fin 1024) :
    k0_pay27 H Wr Br (ix2 e r) = XattnRow.rest (L H Wr Br r) e := by
  pointwise [k0_pay27]
  rw [XattnRow.sel_eq, pay26_at]
  rfl

theorem pay28_at (H : FVec Ideal S1024x1024 .f32) (Wr : Vec Ideal S32x1024 .bf16) (Br : Vec Ideal S32x1 .f32) (r : Fin 1024) :
    k0_pay28 H Wr Br (ix2 0 r) = XattnRow.top (XattnRow.rest (L H Wr Br r)) := by
  pointwise [k0_pay28]
  simp only [pay27_at]
  rfl

theorem pay29_at (H : FVec Ideal S1024x1024 .f32) (Wr : Vec Ideal S32x1024 .bf16) (Br : Vec Ideal S32x1 .f32) (r : Fin 1024) :
    k0_pay29 H Wr Br (ix2 0 r) = XattnRow.first (XattnRow.rest (L H Wr Br r)) := by
  pointwise [k0_pay29]
  simp only [pay28_at, pay27_at]
  rfl

theorem pay30_at (H : FVec Ideal S1024x1024 .f32) (Wr : Vec Ideal S32x1024 .bf16) (Br : Vec Ideal S32x1 .f32) (e : Fin 32) (r : Fin 1024) :
    k0_pay30 H Wr Br (ix2 e r) = XattnRow.rest (XattnRow.rest (L H Wr Br r)) e := by
  pointwise [k0_pay30]
  rw [XattnRow.sel_eq, pay29_at, pay27_at]
  rfl

theorem pay31_at (H : FVec Ideal S1024x1024 .f32) (Wr : Vec Ideal S32x1024 .bf16) (Br : Vec Ideal S32x1 .f32) (r : Fin 1024) :
    k0_pay31 H Wr Br (ix2 0 r) = XattnRow.top (XattnRow.rest (XattnRow.rest (L H Wr Br r))) := by
  pointwise [k0_pay31]
  simp only [pay30_at]
  rfl

/-- The experts' numbers. -/
abbrev num : IVec S32x1024 32 := iota Kind.tc S32x1024 32 [0] iota_S32x1024_d0_w32

theorem pay33_at (H : FVec Ideal S1024x1024 .f32) (Wr : Vec Ideal S32x1024 .bf16) (Br : Vec Ideal S32x1 .f32) (r : Fin 1024) :
    k0_pay33 num (k0_pay32 H Wr Br) (ix2 0 r) = XattnRow.first (XattnRow.rest (XattnRow.rest (L H Wr Br r))) := by
  pointwise [k0_pay33, k0_pay32, num]
  simp only [pay30_at, pay31_at]
  rfl

theorem pay34_at (H : FVec Ideal S1024x1024 .f32) (Wr : Vec Ideal S32x1024 .bf16) (Br : Vec Ideal S32x1 .f32) (e : Fin 32) (r : Fin 1024) :
    k0_pay34 num (k0_pay30 H Wr Br) (k0_pay32 H Wr Br) (ix2 e r) = XattnRow.rest (XattnRow.rest (XattnRow.rest (L H Wr Br r))) e := by
  pointwise [k0_pay34]
  rw [XattnRow.sel_eq, pay33_at, pay30_at]
  pointwise [num]
  rfl

theorem pay35_at (H : FVec Ideal S1024x1024 .f32) (Wr : Vec Ideal S32x1024 .bf16) (Br : Vec Ideal S32x1 .f32) (r : Fin 1024) :
    k0_pay35 num (k0_pay30 H Wr Br) (k0_pay32 H Wr Br) (ix2 0 r) = XattnRow.top (XattnRow.rest (XattnRow.rest (XattnRow.rest (L H Wr Br r)))) := by
  pointwise [k0_pay35]
  simp only [pay34_at]
  rfl

theorem pay36_at (H : FVec Ideal S1024x1024 .f32) (Wr : Vec Ideal S32x1024 .bf16) (Br : Vec Ideal S32x1 .f32) (r : Fin 1024) :
    k0_pay36 num (k0_pay30 H Wr Br) (k0_pay32 H Wr Br) (ix2 0 r) = XattnRow.first (XattnRow.rest (XattnRow.rest (XattnRow.rest (L H Wr Br r)))) := by
  pointwise [k0_pay36]
  simp only [pay34_at, pay35_at]
  pointwise [num]
  rfl

theorem pay43_at (W : IVec S1x1024 32) (e : Fin 32) (r : Fin 1024) :
    k0_pay43 (F := Ideal) num W (ix2 e r) = XattnRow.hot (W (ix2 0 r)) e := by
  pointwise [k0_pay43, num]
  rw [XattnRow.sel_eq]
  rfl

theorem pay44_at (W : IVec S1x1024 32) (e : Fin 32) (r : Fin 1024) :
    k0_pay44 (F := Ideal) num W (ix2 e r) = XattnRow.hot (W (ix2 0 r)) e := by
  pointwise [k0_pay44, num]
  rw [XattnRow.sel_eq]
  rfl

theorem pay45_at (W : IVec S32x1024 1) (e : Fin 32) (r : Fin 1024) :
    k0_pay45 (F := Ideal) num W (ix2 e r) = XattnRow.hot (k0_pay33 num W (ix2 0 r)) e := by
  pointwise [k0_pay45, num]
  rw [XattnRow.sel_eq]
  rfl

theorem pay46_at (W : IVec S1x1024 32) (e : Fin 32) (r : Fin 1024) :
    k0_pay46 (F := Ideal) num W (ix2 e r) = XattnRow.hot (W (ix2 0 r)) e := by
  pointwise [k0_pay46, num]
  rw [XattnRow.sel_eq]
  rfl

end Cert.XattnIdeal.Blk

end
-- ==== Proof.XattnLast.lean ====
/-
  Cross attention and the router, one block of the kernel: its last results.
-/
module

public import proofs.«01_k».proof.Proof.Gen.XattnIdeal.Value
public import proofs.«01_k».proof.Proof.XattnRoute
public import Idealize.ShloMosaic.Lib.WordCmp
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.XattnIdeal.Blk

open Cert.XattnIdeal Cert.XattnIdeal.Gen

variable (H : FVec Ideal S1024x1024 .f32) (Wr : Vec Ideal S32x1024 .bf16) (Br : Vec Ideal S32x1 .f32)

/-- What the four choices add to the counts. -/
theorem pay47_at (e : Fin 32) (r : Fin 1024) :
    k0_pay47 (F := Ideal) num (k0_pay36 num (k0_pay30 H Wr Br) (k0_pay32 H Wr Br)) (k0_pay43 num (k0_pay26 H Wr Br)) (k0_pay44 num (k0_pay29 H Wr Br))
      (k0_pay45 num (k0_pay32 H Wr Br)) (ix2 e r) = XattnRow.count (L H Wr Br r) e := by
  pointwise [k0_pay47]
  simp only [pay43_at, pay44_at, pay45_at, pay46_at, pay26_at, pay29_at, pay33_at, pay36_at]
  rw [← add_assoc]
  rfl

/-- The counts before each row. -/
def prior (B : Vec Ideal S32x1 .f32) (T : Vec Ideal S1024x1024 .bf16) : FVec Ideal S32x1024 .f32 :=
  k0_pay48 num (k0_pay36 num (k0_pay30 H Wr Br) (k0_pay32 H Wr Br)) (k0_pay43 num (k0_pay26 H Wr Br)) (k0_pay44 num (k0_pay29 H Wr Br))
      (k0_pay45 num (k0_pay32 H Wr Br)) B T

theorem prior_at (B : Vec Ideal S32x1 .f32) (T : Vec Ideal S1024x1024 .bf16) (e : Fin 32) (r : Fin 1024) :
    prior H Wr Br B T (ix2 e r) = ∑ x : Fin 1024, XattnRow.count (L H Wr Br x) e * T (ix2 x r) + B (ix2 e 0) := by
  pointwise [prior, k0_pay48]
  simp only [pay47_at]

/-- The counts after the block. -/
theorem pay49_at (B : Vec Ideal S32x1 .f32) (e : Fin 32) (l : Fin 128) :
    k0_pay49 num (k0_pay36 num (k0_pay30 H Wr Br) (k0_pay32 H Wr Br)) (k0_pay43 num (k0_pay26 H Wr Br)) (k0_pay44 num (k0_pay29 H Wr Br))
      (k0_pay45 num (k0_pay32 H Wr Br)) B (ix2 e l) = B (ix2 e 0) + ∑ x : Fin 1024, XattnRow.count (L H Wr Br x) e := by
  pointwise [k0_pay49]
  simp only [pay47_at]

/-- The rows' numbers of the eight. -/
abbrev num8 : IVec S8x1024 32 := iota Kind.tc S8x1024 32 [0] iota_S8x1024_d0_w32

theorem mul_hot (P : Fin 32 → EReal) (w : BitVec 32) :
    Ideal.fptosi 32 (∑ e : Fin 32, P e * XattnRow.hot w e) = XattnRow.place P w := by
  refine congrArg (Ideal.fptosi 32) (Finset.sum_congr rfl fun e _ => ?_)
  rw [XattnRow.hot, mul_ite, mul_one, mul_zero]

/-- A ladder of eight choices is the slot. -/
theorem ladder {α : Type} (a0 a1 a2 a3 a4 a5 a6 a7 z : α) (q : Fin 8) :
    (if BitVec.ofNat 32 q.val = 7#32 then a7 else if BitVec.ofNat 32 q.val = 3#32 then a3
      else if BitVec.ofNat 32 q.val = 6#32 then a6 else if BitVec.ofNat 32 q.val = 2#32 then a2
      else if BitVec.ofNat 32 q.val = 5#32 then a5 else if BitVec.ofNat 32 q.val = 1#32 then a1
      else if BitVec.ofNat 32 q.val = 4#32 then a4 else if BitVec.ofNat 32 q.val = 0#32 then a0 else z)
      = XattnRow.slot a0 a1 a2 a3 a4 a5 a6 a7 q := by
  fin_cases q <;> rfl

/-- A ladder of four choices is the slot. -/
theorem ladder4 {α : Type} (a0 a1 a2 a3 z : α) (q : Fin 8) :
    (if BitVec.ofNat 32 q.val = 3#32 then a3 else if BitVec.ofNat 32 q.val = 2#32 then a2
      else if BitVec.ofNat 32 q.val = 1#32 then a1 else if BitVec.ofNat 32 q.val = 0#32 then a0 else z)
      = XattnRow.slot a0 a1 a2 a3 z z z z q := by
  fin_cases q <;> rfl

theorem gates_at (q : Fin 8) (r : Fin 1024) :
    k0_pay2 (k0_pay40 num (k0_pay25 H Wr Br) (k0_pay30 H Wr Br) (k0_pay32 H Wr Br))
      (k0_pay41 num (k0_pay25 H Wr Br) (k0_pay28 H Wr Br) (k0_pay30 H Wr Br) (k0_pay31 H Wr Br) (k0_pay32 H Wr Br)) num8
      (k0_pay55 (k0_pay37 (k0_pay25 H Wr Br)) (k0_pay38 (k0_pay25 H Wr Br) (k0_pay28 H Wr Br)) (k0_pay39 (k0_pay25 H Wr Br) (k0_pay31 H Wr Br))
        (k0_pay41 num (k0_pay25 H Wr Br) (k0_pay28 H Wr Br) (k0_pay30 H Wr Br) (k0_pay31 H Wr Br) (k0_pay32 H Wr Br)) num8 k0_pay50) (ix2 q r)
      = XattnRow.slot
          (Ideal.div (Ideal.exp (XattnRow.top (L H Wr Br r) - XattnRow.top (L H Wr Br r))) (XattnRow.total (L H Wr Br r)))
          (Ideal.div (Ideal.exp (XattnRow.top (XattnRow.rest (L H Wr Br r)) - XattnRow.top (L H Wr Br r))) (XattnRow.total (L H Wr Br r)))
          (Ideal.div (Ideal.exp (XattnRow.top (XattnRow.rest (XattnRow.rest (L H Wr Br r))) - XattnRow.top (L H Wr Br r))) (XattnRow.total (L H Wr Br r)))
          (Ideal.div (Ideal.exp (XattnRow.top (XattnRow.rest (XattnRow.rest (XattnRow.rest (L H Wr Br r)))) - XattnRow.top (L H Wr Br r))) (XattnRow.total (L H Wr Br r)))
          0 0 0 0 q := by
  pointwise [k0_pay2, k0_pay55, k0_pay50, k0_pay37, k0_pay38, k0_pay39, k0_pay40, k0_pay41, num8]
  simp only [XattnRow.sel_eq, pay25_at, pay28_at, pay31_at, pay35_at]
  exact ladder4 _ _ _ _ _ q

end Cert.XattnIdeal.Blk

end
-- ==== Proof.XattnRows.lean ====
/-
  The cross attention and the router: a row of a grid point's block is that row of the reference's arrays, up to the
  logits and the choices; and the counts of the choices, summed over the rows before a row.
-/
module

public import proofs.«01_k».proof.Proof.XattnIn
public import proofs.«01_k».proof.Proof.XattnOut
public import proofs.«01_k».proof.Proof.XattnLast

@[expose] public section

set_option maxRecDepth 16384

noncomputable section

open Idealize.ShloMosaic Idealize.ShloMosaic.TcCoe Idealize.SL.Sem
open Idealize.ShloMosaic.Pipeline (Dat)

namespace XattnRow

theorem attend_congr {x x' g g' : Fin 1024 → EReal} {wq wq' wo wo' : Fin 1024 → Fin 1024 → EReal} {K K' U U' : Fin 256 → Fin 1024 → EReal}
    (hx : x = x') (hg : g = g') (hq : wq = wq') (hK : K = K') (hU : U = U') (ho : wo = wo') (j : Fin 1024) :
    attend x g wq K U wo j = attend x' g' wq' K' U' wo' j := by
  subst hx hg hq hK hU ho; rfl

theorem logit_congr {h h' : Fin 1024 → EReal} {w w' : Fin 1024 → Fin 32 → EReal} {b b' : Fin 32 → EReal}
    (hh : h = h') (hw : w = w') (hb : b = b') (e : Fin 32) : logit h w b e = logit h' w' b' e := by
  subst hh hw hb; rfl

/-- A sum of the entries before `r`. -/
theorem sum_lt (N r : ℕ) (h : r ≤ N) (f : ℕ → EReal) :
    (∑ x : Fin N, if x.val < r then f x.val else 0) = ∑ n ∈ Finset.range r, f n := by
  rw [Fin.sum_univ_eq_sum_range (fun x => if x < r then f x else 0) N, ← Finset.sum_filter]
  refine Finset.sum_congr ?_ fun _ _ => rfl
  ext x
  simp only [Finset.mem_filter, Finset.mem_range]
  omega

end XattnRow

namespace Cert.XattnIdeal.RefValue

open Cert.XattnIdeal Cert.XattnIdeal.Gen

variable (m : (ℓ : Loc nD τ sig) → Buf (Elt Ideal) ℓ) (c : Dev nD)

/-- The reference's rows after the attention, normed, and their logits. -/
abbrev rA : FVec Ideal S16384x1024 .f32 :=
  Cert.XattnRefIdeal.Term.attend (aX m c) (aK m c) (aU m c) (aG m c) (aQ m c) (aO m c)
abbrev rH : FVec Ideal S16384x1024 .f32 := Cert.XattnRefIdeal.Term.norm (rA m c) (aF m c)
abbrev rL : FVec Ideal Cert.XattnRefIdeal.S16384x32 .f32 := Cert.XattnRefIdeal.Term.logit (rH m c) (aR m c) (aB m c)

/-- A grid point's rows after the attention, and normed. -/
abbrev kA (t : Fin cfg0.N) : FVec Ideal S1024x1024 .f32 :=
  Blk.attend (iblk m c 0 t) (iblk m c 1 t) (iblk m c 2 t) (iblk m c 3 t) (iblk m c 4 t) (iblk m c 5 t)
abbrev kH (t : Fin cfg0.N) : FVec Ideal S1024x1024 .f32 :=
  Blk.hidden (iblk m c 0 t) (iblk m c 1 t) (iblk m c 2 t) (iblk m c 3 t) (iblk m c 4 t) (iblk m c 5 t) (iblk m c 6 t)

theorem lt16 (t : Fin cfg0.N) : t.val < 16 := lt_of_lt_of_eq t.isLt N_0

theorem row_lt (t : Fin cfg0.N) (r : Fin 1024) : t.val * 1024 + r.val < 16384 := by
  have := lt16 t; omega

theorem kA_at (t : Fin cfg0.N) (r j : Fin 1024) : kA m c t (ix2 r j) = rA m c (ix2 ⟨t.val * 1024 + r.val, row_lt t r⟩ j) := by
  have ht := lt16 t
  have hr := row_lt t r
  refine (Blk.attend_at _ _ _ _ _ _ _ _).trans (Eq.trans ?_ (Cert.XattnRefIdeal.Term.attend_at _ _ _ _ _ _ _ _).symm)
  refine XattnRow.attend_congr (funext fun k => blk0 m c t r k hr) (funext fun k => congrFun (blk3 m c t) _)
    (funext fun a => funext fun b => blk4 m c t a b) (funext fun k => funext fun x => ?_) (funext fun k => funext fun x => ?_)
    (funext fun a => funext fun b => blk5 m c t a b) j
  · refine (blk1 m c t k x (by omega)).trans (congrArg (fun z => aK m c (ix2 z x)) (Fin.ext ?_))
    dsimp only; omega
  · refine (blk2 m c t k x (by omega)).trans (congrArg (fun z => aU m c (ix2 z x)) (Fin.ext ?_))
    dsimp only; omega

theorem kH_at (t : Fin cfg0.N) (r j : Fin 1024) : kH m c t (ix2 r j) = rH m c (ix2 ⟨t.val * 1024 + r.val, row_lt t r⟩ j) := by
  refine (Blk.hidden_at _ _ _ _ _ _ _ _ _).trans (Eq.trans ?_ (Cert.XattnRefIdeal.Term.norm_at _ _ _ _).symm)
  have e0 : (fun k => kA m c t (ix2 r k)) = fun k => rA m c (ix2 ⟨t.val * 1024 + r.val, row_lt t r⟩ k) := funext fun k => kA_at m c t r k
  have e1 : (fun k : Fin 1024 => (iblk m c 6 t : FVec Ideal S1x1024 .f32) (ix2 0 k)) = fun k => aF m c (ix2 0 k) := funext fun k => congrFun (blk6 m c t) _
  exact congr (congr (congrArg XattnRow.norm e0) e1) rfl

/-- A row's logits are the reference's. -/
theorem L_eq (t : Fin cfg0.N) (r : Fin 1024) :
    Blk.L (kH m c t) (iblk m c 7 t) (iblk m c 8 t) r = fun e => rL m c (ix2 ⟨t.val * 1024 + r.val, row_lt t r⟩ e) := by
  funext e
  refine (Blk.logit_at _ _ _ _ _).trans (Eq.trans ?_ (Cert.XattnRefIdeal.Term.logit_at _ _ _ _ _).symm)
  exact XattnRow.logit_congr (funext fun k => kH_at m c t r k) (funext fun k => funext fun e => blk7 m c t e k)
    (funext fun e => blk8 m c t e) e

/-- How often row `n` chose expert `e`. -/
def cnt (e : Fin 32) (n : ℕ) : EReal :=
  if h : n < 16384 then Cert.XattnRefIdeal.Term.count (rL m c) (ix2 ⟨n, h⟩ e) else 0

theorem cnt_eq (t : Fin cfg0.N) (r : Fin 1024) (e : Fin 32) :
    XattnRow.count (Blk.L (kH m c t) (iblk m c 7 t) (iblk m c 8 t) r) e = cnt m c e (t.val * 1024 + r.val) := by
  rw [L_eq, cnt, dif_pos (row_lt t r)]
  exact (Cert.XattnRefIdeal.Term.count_at _ _ _).symm

/-- The counts of the rows before `n`. -/
def before (e : Fin 32) (n : ℕ) : EReal := ∑ i ∈ Finset.range n, cnt m c e i

theorem earlier_eq (n : ℕ) (hn : n < 16384) (e : Fin 32) :
    Cert.XattnRefIdeal.Term.earlier (Cert.XattnRefIdeal.Term.count (rL m c)) (ix2 ⟨n, hn⟩ e) = before m c e n := by
  refine (Cert.XattnRefIdeal.Term.earlier_at _ _ _).trans (Eq.trans ?_ (XattnRow.sum_lt 16384 n (le_of_lt hn) (cnt m c e)))
  refine Finset.sum_congr rfl fun s _ => ?_
  rw [cnt, dif_pos s.isLt]

theorem totals_eq (e : Fin 32) (l : Fin 128) :
    Cert.XattnRefIdeal.Term.totals (Cert.XattnRefIdeal.Term.count (rL m c)) (ix2 e l) = before m c e 16384 := by
  refine (Cert.XattnRefIdeal.Term.totals_at _ _ _).trans (Eq.trans ?_ (Fin.sum_univ_eq_sum_range (cnt m c e) 16384))
  refine Finset.sum_congr rfl fun s _ => ?_
  rw [cnt, dif_pos s.isLt]

/-- The counts at a row of a block, from the counts before the block. -/
theorem prior_eq (t : Fin cfg0.N) (B : Vec Ideal S32x1 .f32) (r : Fin 1024) (e : Fin 32) (hB : B (ix2 e 0) = before m c e (t.val * 1024)) :
    Blk.prior (kH m c t) (iblk m c 7 t) (iblk m c 8 t) B (iblk m c 9 t) (ix2 e r) = before m c e (t.val * 1024 + r.val) := by
  refine (Blk.prior_at _ _ _ _ _ _ _).trans ?_
  rw [hB, before, before, Finset.sum_range_add, add_comm]
  refine congrArg (∑ i ∈ Finset.range (t.val * 1024), cnt m c e i + ·) ?_
  rw [← XattnRow.sum_lt 1024 r.val (le_of_lt r.isLt) (fun x => cnt m c e (t.val * 1024 + x))]
  refine Finset.sum_congr rfl fun x _ => ?_
  rw [cnt_eq, blk9, mul_ite, mul_one, mul_zero]

/-- The counts after a block. -/
theorem after_eq (t : Fin cfg0.N) (B : EReal) (e : Fin 32) (hB : B = before m c e (t.val * 1024)) :
    B + ∑ x : Fin 1024, XattnRow.count (Blk.L (kH m c t) (iblk m c 7 t) (iblk m c 8 t) x) e = before m c e ((t.val + 1) * 1024) := by
  rw [hB, before, before, add_mul, one_mul, Finset.sum_range_add]
  refine congrArg (∑ i ∈ Finset.range (t.val * 1024), cnt m c e i + ·) ?_
  rw [← Fin.sum_univ_eq_sum_range (fun x => cnt m c e (t.val * 1024 + x)) 1024]
  exact Finset.sum_congr rfl fun x _ => cnt_eq m c t x e

end Cert.XattnIdeal.RefValue

end
-- ==== Proof.XattnChoice.lean ====
/-
  Cross attention and the router, one block of the kernel: its last results.
-/
module

public import proofs.«01_k».proof.Proof.Gen.XattnIdeal.Value
public import proofs.«01_k».proof.Proof.XattnLast
public import Idealize.ShloMosaic.Lib.WordCmp
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.XattnIdeal.Blk

open Cert.XattnIdeal Cert.XattnIdeal.Gen

variable (H : FVec Ideal S1024x1024 .f32) (Wr : Vec Ideal S32x1024 .bf16) (Br : Vec Ideal S32x1 .f32)

theorem choices_at (B : Vec Ideal S32x1 .f32) (T : Vec Ideal S1024x1024 .bf16) (q : Fin 8) (r : Fin 1024) :
    k0_pay1 (k0_pay36 num (k0_pay30 H Wr Br) (k0_pay32 H Wr Br)) num8
      (k0_pay54 (k0_pay29 H Wr Br) (k0_pay33 num (k0_pay32 H Wr Br)) (k0_pay44 num (k0_pay29 H Wr Br)) (k0_pay45 num (k0_pay32 H Wr Br))
        (prior H Wr Br B T) num8
        (k0_pay51 num (k0_pay36 num (k0_pay30 H Wr Br) (k0_pay32 H Wr Br)) (k0_pay43 num (k0_pay26 H Wr Br)) (k0_pay44 num (k0_pay29 H Wr Br))
          (k0_pay45 num (k0_pay32 H Wr Br)) B T) (k0_pay52 (k0_pay26 H Wr Br)) k0_pay53)
      (k0_pay56 (k0_pay46 num (k0_pay36 num (k0_pay30 H Wr Br) (k0_pay32 H Wr Br))) (prior H Wr Br B T)) (ix2 q r)
      = XattnRow.slot (XattnRow.first (L H Wr Br r)) (XattnRow.first (XattnRow.rest (L H Wr Br r)))
          (XattnRow.first (XattnRow.rest (XattnRow.rest (L H Wr Br r)))) (XattnRow.first (XattnRow.rest (XattnRow.rest (XattnRow.rest (L H Wr Br r)))))
          (XattnRow.place (fun e => prior H Wr Br B T (ix2 e r)) (XattnRow.first (L H Wr Br r)))
          (XattnRow.place (fun e => prior H Wr Br B T (ix2 e r)) (XattnRow.first (XattnRow.rest (L H Wr Br r))))
          (XattnRow.place (fun e => prior H Wr Br B T (ix2 e r)) (XattnRow.first (XattnRow.rest (XattnRow.rest (L H Wr Br r)))))
          (XattnRow.place (fun e => prior H Wr Br B T (ix2 e r)) (XattnRow.first (XattnRow.rest (XattnRow.rest (XattnRow.rest (L H Wr Br r)))))) q := by
  pointwise [k0_pay1, k0_pay54, k0_pay52, k0_pay53, k0_pay56, k0_pay51, num8]
  rw [← prior]
  simp only [XattnRow.sel_eq, pay43_at, pay44_at, pay45_at, pay46_at, pay26_at, pay29_at, pay33_at, pay36_at]
  simp only [← mul_hot]
  exact ladder _ _ _ _ _ _ _ _ _ q

end Cert.XattnIdeal.Blk

end
-- ==== Proof.XattnOuts.lean ====
/-
  The cross attention and the router: what a grid point leaves in its five results and in the counts it carries on.
-/
module

public import proofs.«01_k».proof.Proof.XattnRows
public import proofs.«01_k».proof.Proof.XattnChoice
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.XattnIdeal.RefValue

open Cert.XattnIdeal Cert.XattnIdeal.Gen

variable (m : (ℓ : Loc nD τ sig) → Buf (Elt Ideal) ℓ) (c : Dev nD)

/-- The router's two weights, as a grid point has them. -/
abbrev kR (t : Fin cfg0.N) : FVec Ideal S32x1024 .bf16 := iblk m c 7 t
abbrev kB (t : Fin cfg0.N) : FVec Ideal S32x1 .f32 := iblk m c 8 t

/-- The counts after a block, in every lane. -/
def sums (t : Fin cfg0.N) (B : FVec Ideal S32x1 .f32) : FVec Ideal S32x128 .f32 :=
  k0_pay49 Blk.num (k0_pay36 Blk.num (k0_pay30 (kH m c t) (kR m c t) (kB m c t)) (k0_pay32 (kH m c t) (kR m c t) (kB m c t))) (k0_pay43 Blk.num (k0_pay26 (kH m c t) (kR m c t) (kB m c t)))
      (k0_pay44 Blk.num (k0_pay29 (kH m c t) (kR m c t) (kB m c t))) (k0_pay45 Blk.num (k0_pay32 (kH m c t) (kR m c t) (kB m c t))) B

/-- The choices and the gates. -/
def picks (t : Fin cfg0.N) (B : FVec Ideal S32x1 .f32) : IVec S8x1024 32 :=
  k0_pay1 (k0_pay36 Blk.num (k0_pay30 (kH m c t) (kR m c t) (kB m c t)) (k0_pay32 (kH m c t) (kR m c t) (kB m c t))) Blk.num8
    (k0_pay54 (k0_pay29 (kH m c t) (kR m c t) (kB m c t)) (k0_pay33 Blk.num (k0_pay32 (kH m c t) (kR m c t) (kB m c t))) (k0_pay44 Blk.num (k0_pay29 (kH m c t) (kR m c t) (kB m c t))) (k0_pay45 Blk.num (k0_pay32 (kH m c t) (kR m c t) (kB m c t)))
      (Blk.prior (kH m c t) (kR m c t) (kB m c t) B (iblk m c 9 t)) Blk.num8
      (k0_pay51 Blk.num (k0_pay36 Blk.num (k0_pay30 (kH m c t) (kR m c t) (kB m c t)) (k0_pay32 (kH m c t) (kR m c t) (kB m c t))) (k0_pay43 Blk.num (k0_pay26 (kH m c t) (kR m c t) (kB m c t)))
      (k0_pay44 Blk.num (k0_pay29 (kH m c t) (kR m c t) (kB m c t))) (k0_pay45 Blk.num (k0_pay32 (kH m c t) (kR m c t) (kB m c t))) B (iblk m c 9 t)) (k0_pay52 (k0_pay26 (kH m c t) (kR m c t) (kB m c t))) k0_pay53)
    (k0_pay56 (k0_pay46 Blk.num (k0_pay36 Blk.num (k0_pay30 (kH m c t) (kR m c t) (kB m c t)) (k0_pay32 (kH m c t) (kR m c t) (kB m c t)))) (Blk.prior (kH m c t) (kR m c t) (kB m c t) B (iblk m c 9 t)))
def parts (t : Fin cfg0.N) : FVec Ideal S8x1024 .f32 :=
  k0_pay2 (k0_pay40 Blk.num (k0_pay25 (kH m c t) (kR m c t) (kB m c t)) (k0_pay30 (kH m c t) (kR m c t) (kB m c t)) (k0_pay32 (kH m c t) (kR m c t) (kB m c t)))
    (k0_pay41 Blk.num (k0_pay25 (kH m c t) (kR m c t) (kB m c t)) (k0_pay28 (kH m c t) (kR m c t) (kB m c t)) (k0_pay30 (kH m c t) (kR m c t) (kB m c t)) (k0_pay31 (kH m c t) (kR m c t) (kB m c t)) (k0_pay32 (kH m c t) (kR m c t) (kB m c t))) Blk.num8
    (k0_pay55 (k0_pay37 (k0_pay25 (kH m c t) (kR m c t) (kB m c t))) (k0_pay38 (k0_pay25 (kH m c t) (kR m c t) (kB m c t)) (k0_pay28 (kH m c t) (kR m c t) (kB m c t))) (k0_pay39 (k0_pay25 (kH m c t) (kR m c t) (kB m c t)) (k0_pay31 (kH m c t) (kR m c t) (kB m c t)))
      (k0_pay41 Blk.num (k0_pay25 (kH m c t) (kR m c t) (kB m c t)) (k0_pay28 (kH m c t) (kR m c t) (kB m c t)) (k0_pay30 (kH m c t) (kR m c t) (kB m c t)) (k0_pay31 (kH m c t) (kR m c t) (kB m c t)) (k0_pay32 (kH m c t) (kR m c t) (kB m c t))) Blk.num8 k0_pay50)

/-- The tiles. -/
def pieces (t : Fin cfg0.N) : FVec Ideal S8192x128 .bf16 :=
  k0_pay23
    (k0_pay15 (iblk m c 0 t) (iblk m c 2 t) (k0_pay9 (k0_pay6 (iblk m c 0 t) (iblk m c 3 t) (iblk m c 4 t) (iblk m c 1 t)))
      (k0_pay10 (k0_pay7 (iblk m c 0 t) (iblk m c 3 t) (iblk m c 4 t)) (k0_pay8 (iblk m c 1 t)) (constant S1024x256 FTy.f32 0#32))
      (k0_pay11 (iblk m c 2 t) (k0_pay4 (iblk m c 0 t) (iblk m c 3 t) (iblk m c 4 t) (iblk m c 1 t)))
      (k0_pay12 (iblk m c 2 t) (k0_pay5 (iblk m c 0 t) (iblk m c 3 t) (iblk m c 4 t) (iblk m c 1 t))) (iblk m c 5 t) (iblk m c 6 t))
    (k0_pay16 (iblk m c 0 t) (iblk m c 2 t) (k0_pay9 (k0_pay6 (iblk m c 0 t) (iblk m c 3 t) (iblk m c 4 t) (iblk m c 1 t)))
      (k0_pay10 (k0_pay7 (iblk m c 0 t) (iblk m c 3 t) (iblk m c 4 t)) (k0_pay8 (iblk m c 1 t)) (constant S1024x256 FTy.f32 0#32))
      (k0_pay11 (iblk m c 2 t) (k0_pay4 (iblk m c 0 t) (iblk m c 3 t) (iblk m c 4 t) (iblk m c 1 t)))
      (k0_pay12 (iblk m c 2 t) (k0_pay5 (iblk m c 0 t) (iblk m c 3 t) (iblk m c 4 t) (iblk m c 1 t))) (iblk m c 5 t) (iblk m c 6 t))
    (k0_pay17 (iblk m c 0 t) (iblk m c 2 t) (k0_pay9 (k0_pay6 (iblk m c 0 t) (iblk m c 3 t) (iblk m c 4 t) (iblk m c 1 t)))
      (k0_pay10 (k0_pay7 (iblk m c 0 t) (iblk m c 3 t) (iblk m c 4 t)) (k0_pay8 (iblk m c 1 t)) (constant S1024x256 FTy.f32 0#32))
      (k0_pay11 (iblk m c 2 t) (k0_pay4 (iblk m c 0 t) (iblk m c 3 t) (iblk m c 4 t) (iblk m c 1 t)))
      (k0_pay12 (iblk m c 2 t) (k0_pay5 (iblk m c 0 t) (iblk m c 3 t) (iblk m c 4 t) (iblk m c 1 t))) (iblk m c 5 t) (iblk m c 6 t))
    (k0_pay18 (iblk m c 0 t) (iblk m c 2 t) (k0_pay9 (k0_pay6 (iblk m c 0 t) (iblk m c 3 t) (iblk m c 4 t) (iblk m c 1 t)))
      (k0_pay10 (k0_pay7 (iblk m c 0 t) (iblk m c 3 t) (iblk m c 4 t)) (k0_pay8 (iblk m c 1 t)) (constant S1024x256 FTy.f32 0#32))
      (k0_pay11 (iblk m c 2 t) (k0_pay4 (iblk m c 0 t) (iblk m c 3 t) (iblk m c 4 t) (iblk m c 1 t)))
      (k0_pay12 (iblk m c 2 t) (k0_pay5 (iblk m c 0 t) (iblk m c 3 t) (iblk m c 4 t) (iblk m c 1 t))) (iblk m c 5 t) (iblk m c 6 t))
    (k0_pay19 (iblk m c 0 t) (iblk m c 2 t) (k0_pay9 (k0_pay6 (iblk m c 0 t) (iblk m c 3 t) (iblk m c 4 t) (iblk m c 1 t)))
      (k0_pay10 (k0_pay7 (iblk m c 0 t) (iblk m c 3 t) (iblk m c 4 t)) (k0_pay8 (iblk m c 1 t)) (constant S1024x256 FTy.f32 0#32))
      (k0_pay11 (iblk m c 2 t) (k0_pay4 (iblk m c 0 t) (iblk m c 3 t) (iblk m c 4 t) (iblk m c 1 t)))
      (k0_pay12 (iblk m c 2 t) (k0_pay5 (iblk m c 0 t) (iblk m c 3 t) (iblk m c 4 t) (iblk m c 1 t))) (iblk m c 5 t) (iblk m c 6 t))
    (k0_pay20 (iblk m c 0 t) (iblk m c 2 t) (k0_pay9 (k0_pay6 (iblk m c 0 t) (iblk m c 3 t) (iblk m c 4 t) (iblk m c 1 t)))
      (k0_pay10 (k0_pay7 (iblk m c 0 t) (iblk m c 3 t) (iblk m c 4 t)) (k0_pay8 (iblk m c 1 t)) (constant S1024x256 FTy.f32 0#32))
      (k0_pay11 (iblk m c 2 t) (k0_pay4 (iblk m c 0 t) (iblk m c 3 t) (iblk m c 4 t) (iblk m c 1 t)))
      (k0_pay12 (iblk m c 2 t) (k0_pay5 (iblk m c 0 t) (iblk m c 3 t) (iblk m c 4 t) (iblk m c 1 t))) (iblk m c 5 t) (iblk m c 6 t))
    (k0_pay21 (iblk m c 0 t) (iblk m c 2 t) (k0_pay9 (k0_pay6 (iblk m c 0 t) (iblk m c 3 t) (iblk m c 4 t) (iblk m c 1 t)))
      (k0_pay10 (k0_pay7 (iblk m c 0 t) (iblk m c 3 t) (iblk m c 4 t)) (k0_pay8 (iblk m c 1 t)) (constant S1024x256 FTy.f32 0#32))
      (k0_pay11 (iblk m c 2 t) (k0_pay4 (iblk m c 0 t) (iblk m c 3 t) (iblk m c 4 t) (iblk m c 1 t)))
      (k0_pay12 (iblk m c 2 t) (k0_pay5 (iblk m c 0 t) (iblk m c 3 t) (iblk m c 4 t) (iblk m c 1 t))) (iblk m c 5 t) (iblk m c 6 t))
    (k0_pay22 (iblk m c 0 t) (iblk m c 2 t) (k0_pay9 (k0_pay6 (iblk m c 0 t) (iblk m c 3 t) (iblk m c 4 t) (iblk m c 1 t)))
      (k0_pay10 (k0_pay7 (iblk m c 0 t) (iblk m c 3 t) (iblk m c 4 t)) (k0_pay8 (iblk m c 1 t)) (constant S1024x256 FTy.f32 0#32))
      (k0_pay11 (iblk m c 2 t) (k0_pay4 (iblk m c 0 t) (iblk m c 3 t) (iblk m c 4 t) (iblk m c 1 t)))
      (k0_pay12 (iblk m c 2 t) (k0_pay5 (iblk m c 0 t) (iblk m c 3 t) (iblk m c 4 t) (iblk m c 1 t))) (iblk m c 5 t) (iblk m c 6 t))

/-- What a grid point leaves, from the counts `B` it finds. -/
def Leaves (t : Fin cfg0.N) (B : FVec Ideal S32x1 .f32) : Prop :=
  (outsAt0 m c t.val t.isLt).1 = kA m c t ∧ (outsAt0 m c t.val t.isLt).2.1 = pieces m c t
    ∧ (outsAt0 m c t.val t.isLt).2.2.1 = picks m c t B ∧ (outsAt0 m c t.val t.isLt).2.2.2.1 = parts m c t
    ∧ (outsAt0 m c t.val t.isLt).2.2.2.2.1 = sums m c t B ∧ (outsAt0 m c t.val t.isLt).2.2.2.2.2 = sums m c t B

theorem leaves_A (t : Fin cfg0.N) (h : t.val % 16 = 0) :
    ∃ B : FVec Ideal S32x1 .f32, (∀ e : Fin 32, B (ix2 e 0) = 0) ∧ Leaves m c t B := by
  unfold Leaves
  rw [outsAt0_A m c t h]; frame_out
  refine ⟨_, ?_, rfl, rfl, rfl, rfl, rfl, rfl⟩
  intro e
  refine (congrFun (View.readCov_fill _ _ _ _ _ (by decide)) _).trans ?_
  pointwise [k0_pay42]

theorem leaves_B (t : Fin cfg0.N) (h : ¬ t.val % 16 = 0) (hp : t.val - 1 < cfg0.N) :
    ∃ B : FVec Ideal S32x1 .f32, (∀ e : Fin 32, B (ix2 e 0) = ((outsAt0 m c (t.val - 1) hp).2.2.2.2.2 : FVec Ideal S32x128 .f32) (ix2 e 0))
      ∧ Leaves m c t B := by
  unfold Leaves
  rw [outsAt0_B m c t h]; frame_out
  refine ⟨_, ?_, rfl, rfl, rfl, rfl, rfl, rfl⟩
  intro e
  rw [read_unread_whole]
  pointwise

end Cert.XattnIdeal.RefValue

end
-- ==== Proof.XattnValue.lean ====
/-
  The cross attention and the router: what the pipelined kernel leaves in its five result arrays, as the reference's own
  terms of the argument arrays. A grid point works on 1024 rows; the counts of the experts' rows pass from a point to the
  next, so by induction a point finds the counts of all rows before its own, and the last leaves those of all rows.
-/
module

public import proofs.«01_k».proof.Proof.XattnOuts

@[expose] public section

set_option maxRecDepth 16384

noncomputable section

open Idealize.ShloMosaic Idealize.ShloMosaic.TcCoe Idealize.SL.Sem
open Idealize.ShloMosaic.Pipeline (Dat)

namespace Cert.XattnIdeal.RefValue

open Cert.XattnIdeal Cert.XattnIdeal.Gen

variable (m : (ℓ : Loc nD τ sig) → Buf (Elt Ideal) ℓ) (c : Dev nD)

/-- The counts after a point, from those before it. -/
theorem sums_at (t : Fin cfg0.N) (B : FVec Ideal S32x1 .f32) (hB : ∀ e : Fin 32, B (ix2 e 0) = before m c e (t.val * 1024))
    (e : Fin 32) (l : Fin 128) : sums m c t B (ix2 e l) = before m c e ((t.val + 1) * 1024) :=
  (Blk.pay49_at _ _ _ _ _ _).trans (after_eq m c t _ e (hB e))

/-- Every point finds the counts of the rows before its own. -/
theorem leaves_nat (n : ℕ) : ∀ h : n < cfg0.N, ∃ B : FVec Ideal S32x1 .f32,
    (∀ e : Fin 32, B (ix2 e 0) = before m c e (n * 1024)) ∧ Leaves m c ⟨n, h⟩ B := by
  induction n with
  | zero =>
    intro h
    obtain ⟨B, hB, hL⟩ := leaves_A m c ⟨0, h⟩ rfl
    refine ⟨B, fun e => ?_, hL⟩
    rw [hB, before, Nat.zero_mul, Finset.sum_range_zero]
  | succ n ih =>
    intro h
    have hn : n + 1 < 16 := lt_of_lt_of_eq h N_0
    obtain ⟨B', hB', hL'⟩ := ih (Nat.lt_of_succ_lt h)
    obtain ⟨B, hB, hL⟩ := leaves_B m c ⟨n + 1, h⟩ (by dsimp only; omega) (Nat.lt_of_succ_lt h)
    refine ⟨B, fun e => (hB e).trans ?_, hL⟩
    exact (congrFun hL'.2.2.2.2.2 _).trans (sums_at m c ⟨n, Nat.lt_of_succ_lt h⟩ B' hB' e 0)

theorem leaves (t : Fin cfg0.N) : ∃ B : FVec Ideal S32x1 .f32,
    (∀ e : Fin 32, B (ix2 e 0) = before m c e (t.val * 1024)) ∧ Leaves m c t B := leaves_nat m c t.val t.isLt

/-- The reference's results. -/
abbrev r10 : FVec Ideal S16384x1024 .f32 := rA m c
abbrev r11 : FVec Ideal S131072x128 .bf16 := Cert.XattnRefIdeal.Term.tiles (rH m c)
abbrev r12 : IVec S8x16384 32 :=
  Cert.XattnRefIdeal.Term.choices (Cert.XattnRefIdeal.Term.first (rL m c)) (Cert.XattnRefIdeal.Term.first (Cert.XattnRefIdeal.Term.rest (rL m c)))
    (Cert.XattnRefIdeal.Term.first (Cert.XattnRefIdeal.Term.rest (Cert.XattnRefIdeal.Term.rest (rL m c))))
    (Cert.XattnRefIdeal.Term.first (Cert.XattnRefIdeal.Term.rest (Cert.XattnRefIdeal.Term.rest (Cert.XattnRefIdeal.Term.rest (rL m c)))))
    (Cert.XattnRefIdeal.Term.earlier (Cert.XattnRefIdeal.Term.count (rL m c)))
abbrev r13 : FVec Ideal S8x16384 .f32 :=
  Cert.XattnRefIdeal.Term.gates
    (Cert.XattnRefIdeal.Term.power (Cert.XattnRefIdeal.Term.top (rL m c)) (Cert.XattnRefIdeal.Term.top (rL m c)))
    (Cert.XattnRefIdeal.Term.power (Cert.XattnRefIdeal.Term.top (Cert.XattnRefIdeal.Term.rest (rL m c))) (Cert.XattnRefIdeal.Term.top (rL m c)))
    (Cert.XattnRefIdeal.Term.power (Cert.XattnRefIdeal.Term.top (Cert.XattnRefIdeal.Term.rest (Cert.XattnRefIdeal.Term.rest (rL m c)))) (Cert.XattnRefIdeal.Term.top (rL m c)))
    (Cert.XattnRefIdeal.Term.power (Cert.XattnRefIdeal.Term.top (Cert.XattnRefIdeal.Term.rest (Cert.XattnRefIdeal.Term.rest (Cert.XattnRefIdeal.Term.rest (rL m c))))) (Cert.XattnRefIdeal.Term.top (rL m c)))
abbrev r14 : FVec Ideal S32x128 .f32 := Cert.XattnRefIdeal.Term.totals (Cert.XattnRefIdeal.Term.count (rL m c))

theorem pieces_at (t : Fin cfg0.N) (r : Fin 1024) (p : Fin 8) (l : Fin 128) (h : (t.val * 1024 + r.val) * 8 + p.val < 131072) :
    pieces m c t (ix2 ⟨r.val * 8 + p.val, by omega⟩ l) = r11 m c (ix2 ⟨(t.val * 1024 + r.val) * 8 + p.val, h⟩ l) :=
  (Blk.tiles_at _ _ _ _ _ _ _ _ _ _ _).trans ((kH_at m c t r _).trans (Cert.XattnRefIdeal.Term.tiles_at (rH m c) ⟨t.val * 1024 + r.val, row_lt t r⟩ p l).symm)

theorem pieces_row (t : Fin cfg0.N) (a : Fin 8192) (l : Fin 128) (h : t.val * 8192 + a.val < 131072) :
    pieces m c t (ix2 a l) = r11 m c (ix2 ⟨t.val * 8192 + a.val, h⟩ l) := by
  have e1 : (⟨a.val / 8 * 8 + a.val % 8, by omega⟩ : Fin 8192) = a := Fin.ext (by dsimp only; omega)
  have e2 : (⟨(t.val * 1024 + a.val / 8) * 8 + a.val % 8, by omega⟩ : Fin 131072) = ⟨t.val * 8192 + a.val, h⟩ := Fin.ext (by dsimp only; omega)
  exact (congrArg (fun z => pieces m c t (ix2 z l)) e1.symm).trans
    ((pieces_at m c t ⟨a.val / 8, by omega⟩ ⟨a.val % 8, by omega⟩ l (by dsimp only; omega)).trans (congrArg (fun z => r11 m c (ix2 z l)) e2))

theorem picks_at (t : Fin cfg0.N) (B : FVec Ideal S32x1 .f32) (hB : ∀ e : Fin 32, B (ix2 e 0) = before m c e (t.val * 1024))
    (q : Fin 8) (r : Fin 1024) : picks m c t B (ix2 q r) = r12 m c (ix2 q ⟨t.val * 1024 + r.val, row_lt t r⟩) := by
  refine (Blk.choices_at _ _ _ _ _ _ _).trans (Eq.trans ?_ (Cert.XattnRefIdeal.Term.choices_at _ _ _ _ _ _ _).symm)
  have hP : (fun e => Blk.prior (kH m c t) (kR m c t) (kB m c t) B (iblk m c 9 t) (ix2 e r))
      = fun e => Cert.XattnRefIdeal.Term.earlier (Cert.XattnRefIdeal.Term.count (rL m c)) (ix2 ⟨t.val * 1024 + r.val, row_lt t r⟩ e) :=
    funext fun e => (prior_eq m c t B r e (hB e)).trans (earlier_eq m c _ (row_lt t r) e).symm
  have hL : Blk.L (kH m c t) (kR m c t) (kB m c t) r = fun e => rL m c (ix2 ⟨t.val * 1024 + r.val, row_lt t r⟩ e) := L_eq m c t r
  rw [hP, hL]
  simp only [Cert.XattnRefIdeal.Term.place_at, Cert.XattnRefIdeal.Term.first_at, Cert.XattnRefIdeal.Term.rest_row]

theorem parts_at (t : Fin cfg0.N) (q : Fin 8) (r : Fin 1024) :
    parts m c t (ix2 q r) = r13 m c (ix2 q ⟨t.val * 1024 + r.val, row_lt t r⟩) := by
  refine (Blk.gates_at _ _ _ _ _).trans (Eq.trans ?_ (Cert.XattnRefIdeal.Term.gates_at _ _ _ _ _ _).symm)
  have hL : Blk.L (kH m c t) (kR m c t) (kB m c t) r = fun e => rL m c (ix2 ⟨t.val * 1024 + r.val, row_lt t r⟩ e) := L_eq m c t r
  rw [hL]
  simp only [Cert.XattnRefIdeal.Term.power_at, Cert.XattnRefIdeal.Term.top_at, Cert.XattnRefIdeal.Term.rest_row]
  rfl

/-- The rows after the attention. -/
theorem final10 : (dats m 0 c).arrAt 10 (cfgs 0).N = r10 m c := by
  refine (dats m 0 c).arrAt_eq_of_covers 10 _ (by decide +kernel) fun t _ y => ?_
  blk_simp
  rw [after0_10]
  obtain ⟨B, hB, hL⟩ := leaves m c t
  refine (congrFun hL.1 y).trans ?_
  idx_vars y
  refine (kA_at m c t y0 y1).trans ?_
  blk_ext [idx t]

/-- The normed rows in tiles. -/
theorem final11 : (dats m 0 c).arrAt 11 (cfgs 0).N = r11 m c := by
  refine (dats m 0 c).arrAt_eq_of_covers 11 _ (by decide +kernel) fun t _ y => ?_
  blk_simp
  rw [after0_11]
  obtain ⟨B, hB, hL⟩ := leaves m c t
  refine (congrFun hL.2.1 y).trans ?_
  have ht := lt16 t
  idx_vars y
  refine (pieces_row m c t y0 y1 (by omega)).trans ?_
  blk_ext [idx t]

/-- The choices and their places. -/
theorem final12 : (dats m 0 c).arrAt 12 (cfgs 0).N = r12 m c := by
  refine (dats m 0 c).arrAt_eq_of_covers 12 _ (by decide +kernel) fun t _ y => ?_
  blk_simp
  rw [after0_12]
  obtain ⟨B, hB, hL⟩ := leaves m c t
  refine (congrFun hL.2.2.1 y).trans ?_
  idx_vars y
  refine (picks_at m c t B hB y0 y1).trans ?_
  blk_ext [idx t]

/-- The gates. -/
theorem final13 : (dats m 0 c).arrAt 13 (cfgs 0).N = r13 m c := by
  refine (dats m 0 c).arrAt_eq_of_covers 13 _ (by decide +kernel) fun t _ y => ?_
  blk_simp
  rw [after0_13]
  obtain ⟨B, hB, hL⟩ := leaves m c t
  refine (congrFun hL.2.2.2.1 y).trans ?_
  idx_vars y
  refine (parts_at m c t y0 y1).trans ?_
  blk_ext [idx t]

/-- The counts over all rows. -/
theorem final14 : (dats m 0 c).arrAt 14 (cfgs 0).N = r14 m c := by
  refine (dats m 0 c).arrAt_eq_of_covers 14 _ (by decide +kernel) fun t hf y => ?_
  blk_simp
  rw [after0_14]
  obtain ⟨B, hB, hL⟩ := leaves m c t
  have ht := lt16 t
  have hm := (flush0_14 t).mp hf
  have e15 : t.val + 1 = 16 := by omega
  refine (congrFun hL.2.2.2.2.1 y).trans ?_
  idx_vars y
  refine (sums_at m c t B hB y0 y1).trans ?_
  refine (congrArg (fun n => before m c y0 (n * 1024)) e15).trans ?_
  refine (totals_eq m c y0 y1).symm.trans ?_
  have hG : ∀ f : FVec Ideal S32x128 .f32, f (ix2 y0 y1) = f (((cfg0.win 14).blk t).view.emb (ix2 y0 y1)) := fun f => by
    blk_ext [idx t]
  exact hG (r14 m c)

end Cert.XattnIdeal.RefValue

end
-- ==== Proof.XattnTerm.lean ====
/-
  The cross attention and the router: the reference's five results, as the stages of the mathematics.
-/
module

public import proofs.«01_k».proof.Proof.XattnOut
public import proofs.«01_k».proof.Proof.Gen.XattnRefIdeal.Run
public import Idealize.ShloMosaic.Lib.Claim

@[expose] public section

set_option maxRecDepth 16384

noncomputable section

open Idealize.ShloMosaic Idealize.ShloMosaic.TcCoe Idealize.SL.Sem Idealize.ShloMosaic.StableHlo

namespace Cert.XattnRefIdeal.Term

open Cert.XattnRefIdeal Cert.XattnRefIdeal.Gen Cert.XattnRefIdeal.Value

/-- The stages over the launch's arrays. -/
abbrev tA (V : Valuation τ sig (Elt Ideal)) : FVec Ideal S16384x1024 .f32 :=
  attend (V (Proc.devRef .tc main_arg0)) (V (Proc.devRef .tc main_arg1)) (V (Proc.devRef .tc main_arg2)) (V (Proc.devRef .tc main_arg3)) (V (Proc.devRef .tc main_arg4)) (V (Proc.devRef .tc main_arg5))
abbrev tH (V : Valuation τ sig (Elt Ideal)) : FVec Ideal S16384x1024 .f32 := norm (tA V) (V (Proc.devRef .tc main_arg6))
abbrev tL (V : Valuation τ sig (Elt Ideal)) : FVec Ideal S16384x32 .f32 := logit (tH V) (V (Proc.devRef .tc main_arg7)) (V (Proc.devRef .tc main_arg8))

variable (V : Valuation τ sig (Elt Ideal))

theorem e21 : res_main_v21 V = score (query (norm (V (Proc.devRef .tc main_arg0)) (V (Proc.devRef .tc main_arg3))) (V (Proc.devRef .tc main_arg4))) (V (Proc.devRef .tc main_arg1)) := rfl
theorem e26 : res_main_v26 V = weight (res_main_v21 V) := rfl
theorem e36' : res_main_v36 V = project (V (Proc.devRef .tc main_arg0)) (heads (res_main_v26 V) (V (Proc.devRef .tc main_arg2))) (V (Proc.devRef .tc main_arg5)) := rfl
theorem e36 : res_main_v36 V = tA V := by rw [e36', e26, e21]; rfl
theorem e48' : res_main_v48 V = norm (res_main_v36 V) (V (Proc.devRef .tc main_arg6)) := rfl
theorem e48 : res_main_v48 V = tH V := by rw [e48', e36]
theorem e56' : res_main_v56 V = logit (res_main_v48 V) (V (Proc.devRef .tc main_arg7)) (V (Proc.devRef .tc main_arg8)) := rfl
theorem e56 : res_main_v56 V = tL V := by rw [e56', e48]
theorem e59' : res_main_v59 V = top (res_main_v56 V) := rfl
theorem e59 : res_main_v59 V = top (tL V) := by rw [e59', e56]
theorem e64' : res_main_v64 V = first (res_main_v56 V) := rfl
theorem e64 : res_main_v64 V = first (tL V) := by rw [e64', e56]
theorem e67' : res_main_v67 V = rest (res_main_v56 V) := rfl
theorem e67 : res_main_v67 V = rest (tL V) := by rw [e67', e56]
theorem e69' : res_main_v69 V = top (res_main_v67 V) := rfl
theorem e69 : res_main_v69 V = top (rest (tL V)) := by rw [e69', e67]
theorem e74' : res_main_v74 V = first (res_main_v67 V) := rfl
theorem e74 : res_main_v74 V = first (rest (tL V)) := by rw [e74', e67]
theorem e77' : res_main_v77 V = rest (res_main_v67 V) := rfl
theorem e77 : res_main_v77 V = rest (rest (tL V)) := by rw [e77', e67]
theorem e79' : res_main_v79 V = top (res_main_v77 V) := rfl
theorem e79 : res_main_v79 V = top (rest (rest (tL V))) := by rw [e79', e77]
theorem e84' : res_main_v84 V = first (res_main_v77 V) := rfl
theorem e84 : res_main_v84 V = first (rest (rest (tL V))) := by rw [e84', e77]
theorem e87' : res_main_v87 V = rest (res_main_v77 V) := rfl
theorem e87 : res_main_v87 V = rest (rest (rest (tL V))) := by rw [e87', e77]
theorem e89' : res_main_v89 V = top (res_main_v87 V) := rfl
theorem e89 : res_main_v89 V = top (rest (rest (rest (tL V)))) := by rw [e89', e87]
theorem e94' : res_main_v94 V = first (res_main_v87 V) := rfl
theorem e94 : res_main_v94 V = first (rest (rest (rest (tL V)))) := by rw [e94', e87]
theorem e99' : res_main_v99 V = power (res_main_v59 V) (res_main_v59 V) := rfl
theorem e101' : res_main_v101 V = power (res_main_v69 V) (res_main_v59 V) := rfl
theorem e103' : res_main_v103 V = power (res_main_v79 V) (res_main_v59 V) := rfl
theorem e105' : res_main_v105 V = power (res_main_v89 V) (res_main_v59 V) := rfl
theorem e136' : res_main_v136 V = addf (addf (addf (hot (res_main_v64 V)) (hot (res_main_v74 V))) (hot (res_main_v84 V))) (hot (res_main_v94 V)) := rfl
theorem e136 : res_main_v136 V = count (tL V) := by rw [e136', e64, e74, e84, e94]; rfl
theorem e141' : res_main_v141 V = earlier (res_main_v136 V) := rfl
theorem e141 : res_main_v141 V = earlier (count (tL V)) := by rw [e141', e136]

/-- The stages, of equal arrays. -/
theorem tA_of {x0 k0 u0 g0 q0 o0} (h0 : (V (Proc.devRef .tc main_arg0)) = x0) (h1 : (V (Proc.devRef .tc main_arg1)) = k0) (h2 : (V (Proc.devRef .tc main_arg2)) = u0) (h3 : (V (Proc.devRef .tc main_arg3)) = g0)
    (h4 : (V (Proc.devRef .tc main_arg4)) = q0) (h5 : (V (Proc.devRef .tc main_arg5)) = o0) : tA V = attend x0 k0 u0 g0 q0 o0 := by
  subst h0 h1 h2 h3 h4 h5; rfl
theorem tH_of {a0 f0} (hA : tA V = a0) (h6 : (V (Proc.devRef .tc main_arg6)) = f0) : tH V = norm a0 f0 := by
  subst hA h6; rfl
theorem tL_of {a0 r0 b0} (hH : tH V = a0) (h7 : (V (Proc.devRef .tc main_arg7)) = r0) (h8 : (V (Proc.devRef .tc main_arg8)) = b0) : tL V = logit a0 r0 b0 := by
  subst hH h7 h8; rfl

/-- The reference runs to those stages and keeps its arguments. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = tA (launchContents m c)
      ∧ r.2.mem ((c.tc : Thread nD τ).loc main_v52) = tiles (tH (launchContents m c))
      ∧ r.2.mem ((c.tc : Thread nD τ).loc main_v174) = choices (first (tL (launchContents m c))) (first (rest (tL (launchContents m c)))) (first (rest (rest (tL (launchContents m c))))) (first (rest (rest (rest (tL (launchContents m c)))))) (earlier (count (tL (launchContents m c))))
      ∧ r.2.mem ((c.tc : Thread nD τ).loc main_v178) = gates (power (top (tL (launchContents m c))) (top (tL (launchContents m c)))) (power (top (rest (tL (launchContents m c)))) (top (tL (launchContents m c)))) (power (top (rest (rest (tL (launchContents m c))))) (top (tL (launchContents m c)))) (power (top (rest (rest (rest (tL (launchContents m c)))))) (top (tL (launchContents m c))))
      ∧ r.2.mem ((c.tc : Thread nD τ).loc main_v179) = totals (count (tL (launchContents m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => by
    obtain ⟨h0, h1, h2, h3, h4, hr⟩ := h c
    refine ⟨h0.trans (e36 _), h1.trans ?_, h2.trans ?_, h3.trans ?_, h4.trans ?_, hr⟩
    · rw [← e48]; rfl
    · rw [← e64, ← e74, ← e84, ← e94, ← e141]; rfl
    · rw [← e59, ← e69, ← e79, ← e89]; rfl
    · rw [← e136]; rfl) (run m ρ)

end Cert.XattnRefIdeal.Term

end
-- ==== Proof.OutprojValue.lean ====
/-
  The output projection: what the pipelined kernel leaves in its result array, as the reference's own term of the
  argument arrays. The kernel sums a head's 64 columns by a product with blocks of ones, of a row cut in two parts; the
  reference sums the columns. The second part is nothing as long as the row is of numbers.
-/
module

public import proofs.«01_k».proof.Defs
public import proofs.«01_k».proof.Proof.Gen.OutprojIdeal.Frame
public import proofs.«01_k».proof.Proof.Gen.OutprojIdeal.Value
public import proofs.«01_k».proof.Proof.Gen.OutprojRefIdeal.Run
public import proofs.«01_k».proof.Proof.Gen.Pre_scan_finite
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace OutprojRow

/-- The sum of the 64 columns of a column's head. -/
def heads (y : Fin 512 → EReal) (j : Fin 512) : EReal := ∑ n : Fin 64, y ⟨j.val / 64 * 64 + n.val, by omega⟩

/-- One where two columns are of one head, else zero. -/
def one (k j : Fin 512) : EReal := if k.val / 64 = j.val / 64 then 1 else 0

theorem sum_one (y : Fin 512 → EReal) (j : Fin 512) : ∑ k, y k * one k j = heads y j := by
  have e := (Equiv.sum_comp (finProdFinEquiv (m := 8) (n := 64)) (fun k : Fin 512 => y k * one k j)).symm
  refine e.trans ?_
  rw [Fintype.sum_prod_type]
  have hj : j.val / 64 < 8 := by omega
  rw [Finset.sum_eq_single (⟨j.val / 64, hj⟩ : Fin 8)]
  · refine Finset.sum_congr rfl fun n _ => ?_
    have hv : ∀ h : j.val / 64 * 64 + n.val < 512, (finProdFinEquiv ((⟨j.val / 64, hj⟩ : Fin 8), n) : Fin 512) = ⟨j.val / 64 * 64 + n.val, h⟩ := by
      intro h; apply Fin.ext; simp only [finProdFinEquiv_apply_val]; omega
    have h : j.val / 64 * 64 + n.val < 512 := by omega
    rw [hv h]
    unfold one
    rw [if_pos (by show (j.val / 64 * 64 + n.val) / 64 = _; omega), mul_one]
  · intro a _ ha
    refine Finset.sum_eq_zero fun n _ => ?_
    have hq : ((finProdFinEquiv (a, n) : Fin 512)).val / 64 = a.val := by
      simp only [finProdFinEquiv_apply_val]; omega
    unfold one
    rw [if_neg (by rw [hq]; intro q; exact ha (Fin.ext q)), mul_zero]
  · intro q; exact absurd (Finset.mem_univ _) q

/-- Numbers less themselves are nothing. -/
theorem sum_parts (y : Fin 512 → EReal) (hy : ∀ k, ∃ a : ℝ, y k = a) (j : Fin 512) :
    ∑ k, y k * one k j + ∑ k, (y k - y k) * one k j = heads y j := by
  have h0 : ∀ k, (y k - y k) * one k j = 0 := by
    intro k
    obtain ⟨a, ha⟩ := hy k
    rw [ha, ← EReal.coe_sub, sub_self, EReal.coe_zero, zero_mul]
  rw [Finset.sum_congr rfl fun k _ => h0 k, Finset.sum_const_zero, add_zero, sum_one]

theorem bits64 : Ideal.ofBits .f32 0x42800000#32 = ((64 : ℝ) : EReal) := by
  simp [Ideal.ofBits, Ideal.ieee, -EReal.coe_mul]; norm_num

theorem bits64th : Ideal.ofBits .f32 0x3C800000#32 = ((1 / 64 : ℝ) : EReal) := by
  simp [Ideal.ofBits, Ideal.ieee, -EReal.coe_mul]; norm_num

theorem div64 (x : EReal) : Ideal.div x (Ideal.ofBits .f32 0x42800000#32) = x * Ideal.ofBits .f32 0x3C800000#32 := by
  rw [bits64, bits64th]
  unfold Ideal.div
  rw [if_neg (by norm_num), ← EReal.coe_inv]
  norm_num

theorem heads_real (y : Fin 512 → EReal) (hy : ∀ k, ∃ a : ℝ, y k = a) (j : Fin 512) : ∃ a : ℝ, heads y j = a := by
  choose a ha using hy
  refine ⟨∑ n : Fin 64, a ⟨j.val / 64 * 64 + n.val, by omega⟩, ?_⟩
  unfold heads
  push_cast
  exact Finset.sum_congr rfl fun n _ => ha _

/-- A row less its heads' means. -/
def centre (y : Fin 512 → EReal) (j : Fin 512) : EReal := y j - heads y j * Ideal.ofBits .f32 0x3C800000#32

theorem centre_real (y : Fin 512 → EReal) (hy : ∀ k, ∃ a : ℝ, y k = a) (j : Fin 512) : ∃ a : ℝ, centre y j = a := by
  obtain ⟨a, ha⟩ := hy j
  obtain ⟨b, hb⟩ := heads_real y hy j
  refine ⟨a - b * (1 / 64), ?_⟩
  unfold centre
  rw [ha, hb, bits64th]
  push_cast
  rfl

theorem square_real (y : Fin 512 → EReal) (hy : ∀ k, ∃ a : ℝ, y k = a) (j : Fin 512) : ∃ a : ℝ, y j * y j = a := by
  obtain ⟨a, ha⟩ := hy j
  exact ⟨a * a, by rw [ha]; push_cast; rfl⟩

/-- A row normed by heads, scaled and moved. -/
def normed (y a b : Fin 512 → EReal) (j : Fin 512) : EReal :=
  centre y j * Ideal.rsqrt (heads (fun k => centre y k * centre y k) j * Ideal.ofBits .f32 0x3C800000#32 + Ideal.ofBits .f32 0x3A27C5AC#32)
    * a j + b j

theorem heads_same (y : Fin 512 → EReal) (j : Fin 512) (n : Fin 64) (h : j.val / 64 * 64 + n.val < 512) :
    heads y ⟨j.val / 64 * 64 + n.val, h⟩ = heads y j := by
  refine Finset.sum_congr rfl fun x _ => congrArg y (Fin.ext ?_)
  show (j.val / 64 * 64 + n.val) / 64 * 64 + x.val = j.val / 64 * 64 + x.val
  omega

theorem le_max (x : EReal) (h : max x (-x) ≤ Ideal.ofBits .f32 0x7F7FFFFF#32) : ∃ a : ℝ, x = a := by
  have hm : Ideal.ofBits .f32 0x7F7FFFFF#32 = ((16777215 * 2 ^ 104 : ℝ) : EReal) := by
    simp [Ideal.ofBits, Ideal.ieee, -EReal.coe_mul]
  obtain ⟨b, hb⟩ : ∃ b : ℝ, Ideal.ofBits .f32 0x7F7FFFFF#32 = (b : EReal) := ⟨_, hm⟩
  rw [hb] at h
  have h1 : x ≤ (b : EReal) := (le_max_left _ _).trans h
  have h2 : -x ≤ (b : EReal) := (le_max_right _ _).trans h
  induction x with
  | bot => exact absurd h2 (by simp)
  | top => exact absurd h1 (by simp)
  | coe a => exact ⟨a, rfl⟩

theorem result_congr {x x' : EReal} {l l' h h' : Fin 512 → EReal} {w w' v v' : Fin 512 → EReal} (hx : x = x') (hl : l = l') (hh : h = h')
    (hw : w = w') (hv : v = v') : x + (∑ k, l k * w k + ∑ k, h k * v k) = x' + (∑ k, l' k * w' k + ∑ k, h' k * v' k) := by
  subst hx hl hh hw hv; rfl

end OutprojRow

namespace Cert.OutprojRefIdeal.Term

open Cert.OutprojRefIdeal Cert.OutprojRefIdeal.Gen

/-- The reference's scan, normed by heads, with the bonus, gated. -/
def rows (Y N V G : FVec Ideal S16384x512 .f32) (A B : FVec Ideal S1x512 .f32) : FVec Ideal S16384x512 .f32 :=
  mulf (shapeCast _ (addf (addf (mulf (mulf (subf (shapeCast _ Y shapeCasts_S16384x512_S16384x8x64) (broadcastInDim S16384x8x64 ![0, 1, 2] bcast_S16384x8x1_S16384x8x64_0_1_2 (Host.divf (broadcastInDim S16384x8x1 ![0, 1] bcast_S16384x8_S16384x8x1_0_1 (Host.reduceAdd (shapeCast _ Y shapeCasts_S16384x512_S16384x8x64) (constant S_ .f32 0x00000000#32) reducesTo_S16384x8x64_S16384x8_d2 h_S_)) (broadcastInDim S16384x8x1 ![] bcast_S_S16384x8x1 (constant S_ .f32 0x42800000#32))))) (broadcastInDim S16384x8x64 ![0, 1, 2] bcast_S16384x8x1_S16384x8x64_0_1_2 (Host.rsqrt (addf (Host.divf (broadcastInDim S16384x8x1 ![0, 1] bcast_S16384x8_S16384x8x1_0_1 (Host.reduceAdd (mulf (subf (shapeCast _ Y shapeCasts_S16384x512_S16384x8x64) (broadcastInDim S16384x8x64 ![0, 1, 2] bcast_S16384x8x1_S16384x8x64_0_1_2 (Host.divf (broadcastInDim S16384x8x1 ![0, 1] bcast_S16384x8_S16384x8x1_0_1 (Host.reduceAdd (shapeCast _ Y shapeCasts_S16384x512_S16384x8x64) (constant S_ .f32 0x00000000#32) reducesTo_S16384x8x64_S16384x8_d2 h_S_)) (broadcastInDim S16384x8x1 ![] bcast_S_S16384x8x1 (constant S_ .f32 0x42800000#32))))) (subf (shapeCast _ Y shapeCasts_S16384x512_S16384x8x64) (broadcastInDim S16384x8x64 ![0, 1, 2] bcast_S16384x8x1_S16384x8x64_0_1_2 (Host.divf (broadcastInDim S16384x8x1 ![0, 1] bcast_S16384x8_S16384x8x1_0_1 (Host.reduceAdd (shapeCast _ Y shapeCasts_S16384x512_S16384x8x64) (constant S_ .f32 0x00000000#32) reducesTo_S16384x8x64_S16384x8_d2 h_S_)) (broadcastInDim S16384x8x1 ![] bcast_S_S16384x8x1 (constant S_ .f32 0x42800000#32)))))) (constant S_ .f32 0x00000000#32) reducesTo_S16384x8x64_S16384x8_d2 h_S_)) (broadcastInDim S16384x8x1 ![] bcast_S_S16384x8x1 (constant S_ .f32 0x42800000#32))) (broadcastInDim S16384x8x1 ![] bcast_S_S16384x8x1 (constant S_ .f32 0x3A27C5AC#32)))))) (broadcastInDim S16384x8x64 ![0, 1, 2] bcast_S1x8x64_S16384x8x64_0_1_2 (broadcastInDim S1x8x64 ![1, 2] bcast_S8x64_S1x8x64_1_2 (shapeCast _ (shapeCast _ A shapeCasts_S1x512_S512) shapeCasts_S512_S8x64)))) (broadcastInDim S16384x8x64 ![0, 1, 2] bcast_S1x8x64_S16384x8x64_0_1_2 (broadcastInDim S1x8x64 ![1, 2] bcast_S8x64_S1x8x64_1_2 (shapeCast _ (shapeCast _ B shapeCasts_S1x512_S512) shapeCasts_S512_S8x64)))) (shapeCast _ (mulf N V) shapeCasts_S16384x512_S16384x8x64)) shapeCasts_S16384x8x64_S16384x512) G

/-- The reference's result. -/
def result (X : FVec Ideal S4x4096x1024 .f32) (L : FVec Ideal S16384x512 .bf16) (Y N V G : FVec Ideal S16384x512 .f32)
    (A B : FVec Ideal S1x512 .f32) (W : FVec Ideal S1x1024x1024 .f32) : FVec Ideal S16384x1024 .f32 :=
  addf (shapeCast _ X shapeCasts_S4x4096x1024_S16384x1024) (Host.dotGeneral dot_S16384x1024_S1024x1024_S16384x1024_1_0_0_1_n_n none (concatenate S16384x1024 1 [⟨S16384x512, (extf .f32 L bitsLt_bf16_f32)⟩, ⟨S16384x512, (rows Y N V G A B)⟩] concatenates_S16384x512_S16384x512_S16384x1024_d1) (shapeCast _ W shapeCasts_S1x1024x1024_S1024x1024))

theorem rows_at (Y N V G : FVec Ideal S16384x512 .f32) (A B : FVec Ideal S1x512 .f32) (r : Fin 16384) (j : Fin 512) :
    rows Y N V G A B (ix2 r j) = (OutprojRow.normed (fun k => Y (ix2 r k)) (fun k => A (ix2 0 k)) (fun k => B (ix2 0 k)) j
      + N (ix2 r j) * V (ix2 r j)) * G (ix2 r j) := by
  pointwise [rows]
  simp only [OutprojRow.div64]
  have e : OutprojRow.heads (fun k => OutprojRow.centre (fun k => Y (ix2 r k)) k * OutprojRow.centre (fun k => Y (ix2 r k)) k) j
      = ∑ x : Fin 64, (Y (ix2 r ⟨j.val / 64 * 64 + x.val, by omega⟩) - OutprojRow.heads (fun k => Y (ix2 r k)) j * Ideal.ofBits .f32 0x3C800000#32)
        * (Y (ix2 r ⟨j.val / 64 * 64 + x.val, by omega⟩) - OutprojRow.heads (fun k => Y (ix2 r k)) j * Ideal.ofBits .f32 0x3C800000#32) := by
    refine Finset.sum_congr rfl fun x _ => ?_
    unfold OutprojRow.centre
    dsimp only
    rw [OutprojRow.heads_same]
  unfold OutprojRow.normed
  rw [e]
  rfl

theorem result_at (X : FVec Ideal S4x4096x1024 .f32) (L : FVec Ideal S16384x512 .bf16) (Y N V G : FVec Ideal S16384x512 .f32)
    (A B : FVec Ideal S1x512 .f32) (W : FVec Ideal S1x1024x1024 .f32) (r : Fin 16384) (j : Fin 1024) :
    result X L Y N V G A B W (ix2 r j) = X (ix3 ⟨r.val / 4096, by omega⟩ ⟨r.val % 4096, by omega⟩ j)
      + (∑ k : Fin 512, L (ix2 r k) * W (ix3 0 ⟨k.val, by omega⟩ j) + ∑ k : Fin 512, rows Y N V G A B (ix2 r k) * W (ix3 0 ⟨512 + k.val, by omega⟩ j)) := by
  pointwise [result]

/-- The reference runs to its result and keeps its arguments. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v39) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  Cert.OutprojRefIdeal.Value.run m ρ

/-- Equal arrays give equal results. -/
theorem result_congr {X X' : FVec Ideal S4x4096x1024 .f32} {L L' : FVec Ideal S16384x512 .bf16} {Y Y' N N' V V' G G' : FVec Ideal S16384x512 .f32}
    {A A' B B' : FVec Ideal S1x512 .f32} {W W' : FVec Ideal S1x1024x1024 .f32} (h0 : X = X') (h1 : L = L') (h2 : Y = Y') (h3 : N = N') (h4 : V = V')
    (h5 : G = G') (h6 : A = A') (h7 : B = B') (h8 : W = W') : result X L Y N V G A B W = result X' L' Y' N' V' G' A' B' W' := by
  subst h0 h1 h2 h3 h4 h5 h6 h7 h8; rfl

end Cert.OutprojRefIdeal.Term

namespace Cert.OutprojIdeal.RefValue

open Cert.OutprojIdeal Cert.OutprojIdeal.Gen

variable (m : (ℓ : Loc nD τ sig) → Buf (Elt Ideal) ℓ)

/-- The windows' block indices, every grid point at once. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![0, 0] ∧ win0_8.index t = ![0, 0] ∧ win0_9.index t = ![0, 0] ∧ win0_10.index t = ![t.val, 0] :=
  (by decide +kernel : ∀ t : Fin grid0.N, _)

theorem normed_at (y : Vec Ideal S1024x512 .f32) (o : Vec Ideal S512x512 .bf16) (lg lb : Vec Ideal S1x512 .f32) (b v : Vec Ideal S1024x512 .f32)
    (ho : ∀ k j : Fin 512, (o (ix2 k j) : EReal) = OutprojRow.one k j) (r : Fin 1024) (hy : ∀ k : Fin 512, ∃ a : ℝ, (y (ix2 r k) : EReal) = a) (j : Fin 512) :
    (k0_pay2 (F := Ideal) y o lg lb b v : FVec Ideal S1024x512 .f32) (ix2 r j)
      = (OutprojRow.normed (fun k => y (ix2 r k)) (fun k => lg (ix2 0 k)) (fun k => lb (ix2 0 k)) j + b (ix2 r j) * v (ix2 r j) : EReal) := by
  pointwise [k0_pay2]
  have e1 := OutprojRow.sum_parts (fun k => y (ix2 r k)) hy
  have e2 := OutprojRow.sum_parts (fun k => OutprojRow.centre (fun k => y (ix2 r k)) k * OutprojRow.centre (fun k => y (ix2 r k)) k)
    (OutprojRow.square_real _ (OutprojRow.centre_real _ hy)) j
  simp only [OutprojRow.centre] at e2
  simp only [ho]
  simp only [e1]
  rw [e2]
  rfl

theorem out_at (h g : FVec Ideal S1024x512 .f32) (l : FVec Ideal S1024x512 .bf16) (x : FVec Ideal S1024x1024 .f32) (w : FVec Ideal S1024x1024 .bf16) (r : Fin 1024) (j : Fin 1024) :
    k0_pay1 h g l x w (ix2 r j) = x (ix2 r j) + (∑ k : Fin 512, l (ix2 r k) * w (ix2 ⟨k.val, by omega⟩ j)
      + ∑ k : Fin 512, h (ix2 r k) * g (ix2 r k) * w (ix2 ⟨512 + k.val, by omega⟩ j)) := by
  pointwise [k0_pay1]

theorem blk0 (c : Dev nD) (t : Fin cfg0.N) (r : Fin 1024) (k : Fin 1024) (ha : (t.val * 1024 + r.val) / 4096 < 4)
    (hb : (t.val * 1024 + r.val) % 4096 < 4096) :
    (iblk m c 0 t : FVec Ideal S1024x1024 .f32) (ix2 r k) = (m ((c : Thread nD τ).loc main_arg0) : FVec Ideal S4x4096x1024 .f32)
      (ix3 ⟨(t.val * 1024 + r.val) / 4096, ha⟩ ⟨(t.val * 1024 + r.val) % 4096, hb⟩ k) := by
  blk_simp [iblk, idx t]
  entry_read
  pointwise
  blk_ext [idx t]

theorem blk1 (c : Dev nD) (t : Fin cfg0.N) (r : Fin 1024) (k : Fin 512) (hr : t.val * 1024 + r.val < 16384) :
    (iblk m c 1 t : FVec Ideal S1024x512 .bf16) (ix2 r k) = (m ((c : Thread nD τ).loc main_arg1) : FVec Ideal S16384x512 .bf16) (ix2 ⟨t.val * 1024 + r.val, hr⟩ k) := by
  blk_simp [iblk, idx t]
  entry_read
  blk_ext [idx t]

theorem blk2 (c : Dev nD) (t : Fin cfg0.N) (r : Fin 1024) (k : Fin 512) (hr : t.val * 1024 + r.val < 16384) :
    (iblk m c 2 t : FVec Ideal S1024x512 .f32) (ix2 r k) = (m ((c : Thread nD τ).loc main_arg2) : FVec Ideal S16384x512 .f32) (ix2 ⟨t.val * 1024 + r.val, hr⟩ k) := by
  blk_simp [iblk, idx t]
  entry_read
  blk_ext [idx t]

theorem blk3 (c : Dev nD) (t : Fin cfg0.N) (r : Fin 1024) (k : Fin 512) (hr : t.val * 1024 + r.val < 16384) :
    (iblk m c 3 t : FVec Ideal S1024x512 .f32) (ix2 r k) = (m ((c : Thread nD τ).loc main_arg3) : FVec Ideal S16384x512 .f32) (ix2 ⟨t.val * 1024 + r.val, hr⟩ k) := by
  blk_simp [iblk, idx t]
  entry_read
  blk_ext [idx t]

theorem blk4 (c : Dev nD) (t : Fin cfg0.N) (r : Fin 1024) (k : Fin 512) (hr : t.val * 1024 + r.val < 16384) :
    (iblk m c 4 t : FVec Ideal S1024x512 .f32) (ix2 r k) = (m ((c : Thread nD τ).loc main_arg4) : FVec Ideal S16384x512 .f32) (ix2 ⟨t.val * 1024 + r.val, hr⟩ k) := by
  blk_simp [iblk, idx t]
  entry_read
  blk_ext [idx t]

theorem blk5 (c : Dev nD) (t : Fin cfg0.N) (r : Fin 1024) (k : Fin 512) (hr : t.val * 1024 + r.val < 16384) :
    (iblk m c 5 t : FVec Ideal S1024x512 .f32) (ix2 r k) = (m ((c : Thread nD τ).loc main_arg5) : FVec Ideal S16384x512 .f32) (ix2 ⟨t.val * 1024 + r.val, hr⟩ k) := by
  blk_simp [iblk, idx t]
  entry_read
  blk_ext [idx t]

theorem blk6 (c : Dev nD) (t : Fin cfg0.N) : iblk m c 6 t = m ((c : Thread nD τ).loc main_arg6) := by
  blk_ext! [iblk, V, idx t]

theorem blk7 (c : Dev nD) (t : Fin cfg0.N) : iblk m c 7 t = m ((c : Thread nD τ).loc main_arg7) := by
  blk_ext! [iblk, V, idx t]

theorem one_word (k j : Fin 512) : (FloatOps.uitofp (F := Ideal) FTy.bf16 (IntOp.cmpi CmpIPredicate.eq
    (IntOp.addi (BitVec.ofNat 32 (k.val / 64)) 0#32) (BitVec.ofNat 32 (j.val / 64))) : EReal) = OutprojRow.one k j := by
  have hk : k.val / 64 < 8 := by omega
  have hj : j.val / 64 < 8 := by omega
  unfold OutprojRow.one
  generalize k.val / 64 = a at *
  generalize j.val / 64 = b at *
  show ((((IntOp.cmpi CmpIPredicate.eq (IntOp.addi (BitVec.ofNat 32 a) 0#32) (BitVec.ofNat 32 b)).toNat : ℝ) : EReal)) = _
  interval_cases a <;> interval_cases b <;> simp [IntOp.cmpi, IntOp.addi]

/-- The blocks of ones. -/
theorem blk8 (c : Dev nD) (t : Fin cfg0.N) (k j : Fin 512) :
    (iblk m c 8 t : FVec Ideal S512x512 .bf16) (ix2 k j) = (OutprojRow.one k j : EReal) := by
  blk_simp [iblk, idx t]
  entry_read
  pointwise
  refine Eq.trans ?_ (one_word k j)
  blk_ext [idx t]

theorem blk9 (c : Dev nD) (t : Fin cfg0.N) (k j : Fin 1024) :
    (iblk m c 9 t : FVec Ideal S1024x1024 .bf16) (ix2 k j) = (m ((c : Thread nD τ).loc main_arg8) : FVec Ideal S1x1024x1024 .f32) (ix3 0 k j) := by
  blk_simp [iblk, idx t]
  entry_read
  pointwise
  blk_ext [idx t]

/-- The precondition: the scan's outputs are numbers. -/
theorem scan_real (h : Cert.Pre_OutprojIdeal_scan_finite m) (r : Fin 16384) (j : Fin 512) :
    ∃ a : ℝ, @Eq EReal ((m (((0 : Dev nD) : Thread nD τ).loc main_arg2) : FVec Ideal S16384x512 .f32) (ix2 r j)) (a : EReal) := by
  have q := congrFun (h 0) (ix2 r j)
  unfold Cert.Pre_scan_finite.fn at q
  pointwise at q
  refine OutprojRow.le_max _ ?_
  by_contra hn
  have hd : decide (FloatOps.absf (F := Ideal) (φ := .f32) (m ((Dev.tc 0).loc main_arg2) (ix2 r j)) ≤ Ideal.ofBits FTy.f32 2139095039#32) = false :=
    decide_eq_false hn
  exact absurd ((congrArg BitVec.ofBool hd).symm.trans q) (by decide)

/-- The reference's result. -/
abbrev r10 (c : Dev nD) : FVec Ideal S16384x1024 .f32 :=
  Cert.OutprojRefIdeal.Term.result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8))

/-- What a grid point stores is the reference's result at those rows. -/
theorem point (h : Cert.Pre_OutprojIdeal_scan_finite m) (c : Dev nD) (t : Fin cfg0.N) (r j : Fin 1024) (hr : t.val * 1024 + r.val < 16384) :
    k0_pay1 (F := Ideal) (k0_pay2 (F := Ideal) (iblk m c 2 t) (iblk m c 8 t) (iblk m c 6 t) (iblk m c 7 t) (iblk m c 3 t) (iblk m c 4 t)) (iblk m c 5 t) (iblk m c 1 t)
      (iblk m c 0 t) (iblk m c 9 t) (ix2 r j) = r10 m c (ix2 ⟨t.val * 1024 + r.val, hr⟩ j) := by
  obtain rfl : c = 0 := Subsingleton.elim _ _
  refine (out_at _ _ _ _ _ r j).trans (Eq.trans ?_ (Cert.OutprojRefIdeal.Term.result_at _ _ _ _ _ _ _ _ _ _ j).symm)
  refine OutprojRow.result_congr (blk0 m 0 t r j (by omega) (by omega)) (funext fun k => blk1 m 0 t r k hr) (funext fun k => ?_)
    (funext fun k => blk9 m 0 t _ j) (funext fun k => blk9 m 0 t _ j)
  rw [Cert.OutprojRefIdeal.Term.rows_at]
  have hb2 : ∀ k, _ := fun k => blk2 m 0 t r k hr
  refine congrArg₂ (fun a b : EReal => a * b) ?_ (blk5 m 0 t r k hr)
  refine (normed_at _ _ _ _ _ _ (blk8 m 0 t) r (fun k => ?_) k).trans ?_
  · rw [hb2 k]; exact scan_real m h _ k
  · rw [blk6 m 0 t, blk7 m 0 t]
    refine congrArg₂ (fun a b : EReal => a + b) ?_ (congrArg₂ (fun a b : EReal => a * b) (blk3 m 0 t r k hr) (blk4 m 0 t r k hr))
    exact congrArg (fun y => OutprojRow.normed y _ _ k) (funext hb2)

/-- So the array ends at the reference's result. -/
theorem final10 (h : Cert.Pre_OutprojIdeal_scan_finite m) (c : Dev nD) : (dats m 0 c).arrAt 10 (cfgs 0).N = r10 m c := by
  refine (dats m 0 c).arrAt_eq_of_covers 10 _ (by decide +kernel) fun t _ y => ?_
  have ht : t.val < 16 := lt_of_lt_of_eq t.isLt N_0
  blk_simp
  rw [after0_10]; frame_out
  idx_vars y
  have hr : t.val * 1024 + y0.val < 16384 := by omega
  refine (point m h c t y0 y1 hr).trans ?_
  have hG : ∀ f : FVec Ideal S16384x1024 .f32, f (ix2 ⟨t.val * 1024 + y0.val, hr⟩ y1) = f (((cfg0.win 10).blk t).view.emb (ix2 y0 y1)) := by
    intro f
    blk_ext [idx t]
  exact hG (r10 m c)

/-- The kernel runs to it and keeps its arguments. -/
theorem run_result (h : Cert.Pre_OutprojIdeal_scan_finite m) (ρ : Dev nD → PrngReg) :
    θ_run defs (onTc (τ := τ) (main (F := Ideal))) ⟨m, fun _ => 0, ρ⟩ fun r => ∀ c : Dev nD,
      r.2.mem ((c.tc : Thread nD τ).loc main_v16) = r10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r hr c => ⟨(Cert.OutprojIdeal.Value.post10 m r hr c).trans (final10 m h c),
      Cert.OutprojIdeal.Value.kept_main_arg0 m r hr c,
      Cert.OutprojIdeal.Value.kept_main_arg1 m r hr c,
      Cert.OutprojIdeal.Value.kept_main_arg2 m r hr c,
      Cert.OutprojIdeal.Value.kept_main_arg3 m r hr c,
      Cert.OutprojIdeal.Value.kept_main_arg4 m r hr c,
      Cert.OutprojIdeal.Value.kept_main_arg5 m r hr c,
      Cert.OutprojIdeal.Value.kept_main_arg6 m r hr c,
      Cert.OutprojIdeal.Value.kept_main_arg7 m r hr c,
      Cert.OutprojIdeal.Value.kept_main_arg8 m r hr c⟩)
    (run_main m ρ)

end Cert.OutprojIdeal.RefValue

end
-- ==== Proof.lean ====
/- The certificate's claims, assembled. -/
module

public import proofs.«01_k».proof.Defs
public import proofs.«01_k».proof.Proof.Gen.Inproj.Frame
public import proofs.«01_k».proof.Proof.Gen.InprojIdeal.Value
public import proofs.«01_k».proof.Proof.Gen.InprojRefIdeal.Run
public import proofs.«01_k».proof.Proof.InprojValue
public import proofs.«01_k».proof.Proof.MoeFrame
public import proofs.«01_k».proof.Proof.MoeValue
public import proofs.«01_k».proof.Proof.Gen.Memkv.Frame
public import proofs.«01_k».proof.Proof.Gen.MemkvIdeal.Value
public import proofs.«01_k».proof.Proof.Gen.MemkvRefIdeal.Run
public import proofs.«01_k».proof.Proof.Gen.Xattn.Frame
public import proofs.«01_k».proof.Proof.Gen.XattnIdeal.Value
public import proofs.«01_k».proof.Proof.Gen.XattnRefIdeal.Run
public import proofs.«01_k».proof.Proof.Gen.Outproj.Frame
public import proofs.«01_k».proof.Proof.Gen.OutprojIdeal.Value
public import proofs.«01_k».proof.Proof.Gen.OutprojRefIdeal.Run
public import proofs.«01_k».proof.Proof.MemkvValue
public import proofs.«01_k».proof.Proof.XattnValue
public import proofs.«01_k».proof.Proof.XattnTerm
public import proofs.«01_k».proof.Proof.OutprojValue
public import Idealize.ShloMosaic.Lib.Claim
public import Idealize.ShloMosaic.Lib.Quiescent

@[expose] public section

set_option maxRecDepth 16384

noncomputable section

namespace Cert.Proof

open Idealize.ShloMosaic Idealize.SL.Sem Idealize.ShloMosaic.StableHlo

theorem inproj_frame : Cert.quiescent_Inproj := fun m ρ _ => Cert.Inproj.Gen.frame m ρ
theorem inproj_frame_ideal : Cert.quiescent_InprojIdeal := fun m ρ _ => Cert.InprojIdeal.Gen.frame m ρ
theorem inproj_frame_ref : Cert.quiescent_InprojRefIdeal := fun m ρ _ =>
  (θ_run Cert.InprojRefIdeal.defs _ _).mono (fun r h => ⟨fun c => ⟨(h c).2.2.2.1, (h c).2.2.2.2.1, (h c).2.2.2.2.2⟩,
      Idealize.ShloMosaic.sem_eq_zero_of_no_sems (by decide) r.2⟩)
    (Cert.InprojRefIdeal.Value.run (F := Ideal) m ρ)

/-- The kernel's three results and the reference's are the same arrays. -/
theorem inproj_value : Cert.algebraic_InprojIdeal_InprojRefIdeal := by
  pair_intro
  · run_from Cert.InprojIdeal.Gen.run_main m g
  · run_from Cert.InprojRefIdeal.Value.run m' g'
    · exact (Cert.InprojIdeal.RefValue.final3 m c).symm
    · exact (Cert.InprojIdeal.RefValue.final4 m c).symm
    · exact (Cert.InprojIdeal.RefValue.final5 m c).symm

/-- The experts' feed-forward runs: its blocks are in order. -/
theorem moe_frame : Cert.quiescent_MoeIdeal := fun m ρ h =>
  (θ_run Cert.MoeIdeal.defs _ _).mono (fun r h => ⟨fun c => (h.1 c).2, h.2⟩) (MoeP.run m ρ (MoeP.rising_of_pre m h).inOrder)
theorem moe_frame_ref : Cert.quiescent_MoeRefIdeal := fun m ρ _ =>
  (θ_run Cert.MoeRefIdeal.defs _ _).mono (fun r h => ⟨fun c => (h c).2, Idealize.ShloMosaic.sem_eq_zero_of_no_sems (by decide) r.2⟩)
    (Cert.MoeRefIdeal.Value.run (F := Ideal) m ρ)
theorem moe_frame_ref_pre : Cert.quiescent_MoeRefIdeal_pre_blocks_in_order := fun m ρ _ => moe_frame_ref m ρ trivial

/-- The kernel's result and the reference's are the same array. -/
theorem moe_value : Cert.algebraic_MoeIdeal_MoeRefIdeal := fun m g m' g' hm ha =>
  ⟨fun c => MoeP.outV m c,
    (θ_run Cert.MoeIdeal.defs _ _).mono (fun r h c => h.1 c) (MoeP.run m g (MoeP.rising_of_pre m hm).inOrder),
    (θ_run Cert.MoeRefIdeal.defs _ _).mono (fun r h c => ⟨(h c).1.trans (by
        obtain rfl : c = 0 := Subsingleton.elim _ _
        obtain ⟨h0, h1, h2, h3, h4, h5⟩ := ha 0
        exact MoeP.out_eq_ref m (MoeP.rising_of_pre m hm) 0 m' 0 h0 h1 h2 h3 h4 h5), (h c).2⟩)
      (Cert.MoeRefIdeal.Value.run (F := Ideal) m' g')⟩

theorem memkv_frame : Cert.quiescent_Memkv := fun m ρ _ => Cert.Memkv.Gen.frame m ρ
theorem memkv_frame_ideal : Cert.quiescent_MemkvIdeal := fun m ρ _ => Cert.MemkvIdeal.Gen.frame m ρ
theorem memkv_frame_ref : Cert.quiescent_MemkvRefIdeal := fun m ρ _ =>
  (θ_run Cert.MemkvRefIdeal.defs _ _).mono (fun r h => ⟨fun c => (h c).2.2,
      Idealize.ShloMosaic.sem_eq_zero_of_no_sems (by decide) r.2⟩)
    (Cert.MemkvRefIdeal.Value.run (F := Ideal) m ρ)

/-- The memory's keys and values are the reference's. -/
theorem memkv_value : Cert.algebraic_MemkvIdeal_MemkvRefIdeal := by
  pair_intro
  · run_from Cert.MemkvIdeal.Gen.run_main m g
  · run_from Cert.MemkvRefIdeal.Value.run m' g'
    · exact (Cert.MemkvIdeal.RefValue.final4 m c).symm
    · exact (Cert.MemkvIdeal.RefValue.final5 m c).symm

theorem xattn_frame : Cert.quiescent_Xattn := fun m ρ _ => Cert.Xattn.Gen.frame m ρ
theorem xattn_frame_ideal : Cert.quiescent_XattnIdeal := fun m ρ _ => Cert.XattnIdeal.Gen.frame m ρ
theorem xattn_frame_ref : Cert.quiescent_XattnRefIdeal := fun m ρ _ =>
  (θ_run Cert.XattnRefIdeal.defs _ _).mono (fun r h => ⟨fun c => (h c).2.2.2.2.2,
      Idealize.ShloMosaic.sem_eq_zero_of_no_sems (by decide) r.2⟩)
    (Cert.XattnRefIdeal.Value.run (F := Ideal) m ρ)

/-- The cross attention and the router's run: its five results, as the stages of the mathematics. -/
theorem xattn_run (m : (ℓ : Loc Cert.XattnIdeal.nD Cert.XattnIdeal.τ Cert.XattnIdeal.sig) → Buf (Elt Ideal) ℓ)
    (g : Dev Cert.XattnIdeal.nD → PrngReg) :
    θ_run (Cert.XattnIdeal.defs (F := Ideal)) (onTc (τ := Cert.XattnIdeal.τ) (Cert.XattnIdeal.main (F := Ideal))) ⟨m, fun _ => 0, g⟩ (fun r =>
      ∀ c : Dev Cert.XattnIdeal.nD,
      r.2.mem ((c.tc : Thread Cert.XattnIdeal.nD Cert.XattnIdeal.τ).loc Cert.XattnIdeal.main_v11_0) = Cert.XattnIdeal.RefValue.r10 m c
      ∧ r.2.mem ((c.tc : Thread Cert.XattnIdeal.nD Cert.XattnIdeal.τ).loc Cert.XattnIdeal.main_v11_1) = Cert.XattnIdeal.RefValue.r11 m c
      ∧ r.2.mem ((c.tc : Thread Cert.XattnIdeal.nD Cert.XattnIdeal.τ).loc Cert.XattnIdeal.main_v11_2) = Cert.XattnIdeal.RefValue.r12 m c
      ∧ r.2.mem ((c.tc : Thread Cert.XattnIdeal.nD Cert.XattnIdeal.τ).loc Cert.XattnIdeal.main_v11_3) = Cert.XattnIdeal.RefValue.r13 m c
      ∧ r.2.mem ((c.tc : Thread Cert.XattnIdeal.nD Cert.XattnIdeal.τ).loc Cert.XattnIdeal.main_v11_4) = Cert.XattnIdeal.RefValue.r14 m c
      ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
      ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6)
      ∧ r.2.mem ((c.tc : Thread Cert.XattnIdeal.nD Cert.XattnIdeal.τ).loc Cert.XattnIdeal.main_arg7) = m ((c.tc : Thread Cert.XattnIdeal.nD Cert.XattnIdeal.τ).loc Cert.XattnIdeal.main_arg7)
      ∧ r.2.mem ((c.tc : Thread Cert.XattnIdeal.nD Cert.XattnIdeal.τ).loc Cert.XattnIdeal.main_arg8) = m ((c.tc : Thread Cert.XattnIdeal.nD Cert.XattnIdeal.τ).loc Cert.XattnIdeal.main_arg8)) :=
  (θ_run Cert.XattnIdeal.defs _ _).mono (fun r h c =>
      And.intro ((Cert.XattnIdeal.Value.post10 m r h c).trans (Cert.XattnIdeal.RefValue.final10 m c))
      (And.intro ((Cert.XattnIdeal.Value.post11 m r h c).trans (Cert.XattnIdeal.RefValue.final11 m c))
      (And.intro ((Cert.XattnIdeal.Value.post12 m r h c).trans (Cert.XattnIdeal.RefValue.final12 m c))
      (And.intro ((Cert.XattnIdeal.Value.post13 m r h c).trans (Cert.XattnIdeal.RefValue.final13 m c))
      (And.intro ((Cert.XattnIdeal.Value.post14 m r h c).trans (Cert.XattnIdeal.RefValue.final14 m c))
      ⟨Cert.XattnIdeal.Value.kept_main_arg0 m r h c, Cert.XattnIdeal.Value.kept_main_arg1 m r h c,
        Cert.XattnIdeal.Value.kept_main_arg2 m r h c, Cert.XattnIdeal.Value.kept_main_arg3 m r h c,
        Cert.XattnIdeal.Value.kept_main_arg4 m r h c, Cert.XattnIdeal.Value.kept_main_arg5 m r h c,
        Cert.XattnIdeal.Value.kept_main_arg6 m r h c, Cert.XattnIdeal.Value.kept_main_arg7 m r h c,
        Cert.XattnIdeal.Value.kept_main_arg8 m r h c⟩)))))
    (Cert.XattnIdeal.Gen.run_main m g)

/-- The rows after the attention, their tiles, the choices, the gates and the counts are the reference's. -/
theorem xattn_value : Cert.algebraic_XattnIdeal_XattnRefIdeal := fun m g m' g' _ ha =>
  ⟨fun c => Cert.XattnIdeal.RefValue.r10 m c, fun c => Cert.XattnIdeal.RefValue.r11 m c, fun c => Cert.XattnIdeal.RefValue.r12 m c,
    fun c => Cert.XattnIdeal.RefValue.r13 m c, fun c => Cert.XattnIdeal.RefValue.r14 m c, xattn_run m g,
    (θ_run Cert.XattnRefIdeal.defs _ _).mono (fun r h c => by
        obtain rfl : c = 0 := Subsingleton.elim _ _
        obtain ⟨h0, h1, h2, h3, h4, h5, h6, h7, h8⟩ := ha 0
        have hA := Cert.XattnRefIdeal.Term.tA_of (launchContents m' 0) h0 h1 h2 h3 h4 h5
        have hH := Cert.XattnRefIdeal.Term.tH_of (launchContents m' 0) hA h6
        have hL := Cert.XattnRefIdeal.Term.tL_of (launchContents m' 0) hH h7 h8
        obtain ⟨k0, k1, k2, k3, k4, hr⟩ := h 0
        rw [hA] at k0
        rw [hH] at k1
        rw [hL] at k2 k3 k4
        exact ⟨k0, k1, k2, k3, k4, hr⟩)
      (Cert.XattnRefIdeal.Term.run_stages m' g')⟩

theorem outproj_frame : Cert.quiescent_Outproj := fun m ρ _ => Cert.Outproj.Gen.frame m ρ
theorem outproj_frame_ideal : Cert.quiescent_OutprojIdeal := fun m ρ _ => Cert.OutprojIdeal.Gen.frame m ρ
theorem outproj_frame_ideal_pre : Cert.quiescent_OutprojIdeal_pre_scan_finite := fun m ρ _ => Cert.OutprojIdeal.Gen.frame m ρ
theorem outproj_frame_ref : Cert.quiescent_OutprojRefIdeal := fun m ρ _ =>
  (θ_run Cert.OutprojRefIdeal.defs _ _).mono (fun r h => ⟨fun c => (h c).2,
      Idealize.ShloMosaic.sem_eq_zero_of_no_sems (by decide) r.2⟩)
    (Cert.OutprojRefIdeal.Value.run (F := Ideal) m ρ)
theorem outproj_frame_ref_pre : Cert.quiescent_OutprojRefIdeal_pre_scan_finite := fun m ρ _ => outproj_frame_ref m ρ trivial

/-- Of a scan of numbers, the rows after the output projection are the reference's. -/
theorem outproj_value : Cert.algebraic_OutprojIdeal_OutprojRefIdeal_pre_scan_finite := fun m g m' g' hm ha =>
  ⟨fun c => Cert.OutprojIdeal.RefValue.r10 m c, Cert.OutprojIdeal.RefValue.run_result m hm g,
    (θ_run Cert.OutprojRefIdeal.defs _ _).mono (fun r h c => ⟨(h c).1.trans (by
        obtain rfl : c = 0 := Subsingleton.elim _ _
        obtain ⟨h0, h1, h2, h3, h4, h5, h6, h7, h8⟩ := ha 0
        exact Cert.OutprojRefIdeal.Term.result_congr h0 h1 h2 h3 h4 h5 h6 h7 h8), (h c).2⟩)
      (Cert.OutprojRefIdeal.Term.run_result m' g')⟩

theorem claim : Cert.Claim := ⟨Cert.Inproj.Gen.facts, Cert.InprojIdeal.Gen.facts, Cert.InprojRefIdeal.Gen.facts,
  Cert.MoeIdeal.Gen.facts, Cert.MoeRefIdeal.Gen.facts, Cert.Memkv.Gen.facts, Cert.MemkvIdeal.Gen.facts, Cert.MemkvRefIdeal.Gen.facts,
  Cert.Xattn.Gen.facts, Cert.XattnIdeal.Gen.facts, Cert.XattnRefIdeal.Gen.facts,
  Cert.Outproj.Gen.facts, Cert.OutprojIdeal.Gen.facts, Cert.OutprojRefIdeal.Gen.facts, Cert.Pre_blocks_in_order.Gen.facts, Cert.Pre_scan_finite.Gen.facts,
  inproj_frame, inproj_frame_ideal, inproj_frame_ref, moe_frame, moe_frame_ref, moe_frame_ref_pre,
  memkv_frame, memkv_frame_ideal, memkv_frame_ref, xattn_frame, xattn_frame_ideal, xattn_frame_ref,
  outproj_frame, outproj_frame_ideal, outproj_frame_ideal_pre, outproj_frame_ref, outproj_frame_ref_pre,
  trivial, inproj_value, moe_value, trivial, memkv_value, trivial, xattn_value, trivial, outproj_value⟩

end Cert.Proof

end
